-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite [hPre_finite : Cert.Pre_finite.Facts] (m : (ℓ : Loc Cert.MlpIdeal.nD Cert.MlpIdeal.τ Cert.MlpIdeal.sig) → Buf (Elt Ideal) ℓ) : Prop :=
  ∀ c : Dev Cert.MlpIdeal.nD,
    (Cert.Pre_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite [hPre_finite : Cert.Pre_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpIdeal_finite_inp [hPre_finite_inp : Cert.Pre_finite_inp.Facts] (m : (ℓ : Loc Cert.InpIdeal.nD Cert.InpIdeal.τ Cert.InpIdeal.sig) → Buf (Elt Ideal) ℓ) : Prop :=
  ∀ c : Dev Cert.InpIdeal.nD,
    (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4))) = (fun _ => 1#1)

def Pre_InpRefIdeal (m : (ℓ : Loc Cert.InpRefIdeal.nD Cert.InpRefIdeal.τ Cert.InpRefIdeal.sig) → Buf (Elt Ideal) ℓ) : Prop :=
  True

def Pre_InpRefIdeal_finite_inp [hPre_finite_inp : Cert.Pre_finite_inp.Facts] (m : (ℓ : Loc Cert.InpRefIdeal.nD Cert.InpRefIdeal.τ Cert.InpRefIdeal.sig) → Buf (Elt Ideal) ℓ) : Prop :=
  ∀ c : Dev Cert.InpRefIdeal.nD,
    (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_merge [hPre_finite_merge : Cert.Pre_finite_merge.Facts] (m : (ℓ : Loc Cert.MergeIdeal.nD Cert.MergeIdeal.τ Cert.MergeIdeal.sig) → Buf (Elt Ideal) ℓ) : Prop :=
  ∀ c : Dev Cert.MergeIdeal.nD,
    (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_merge [hPre_finite_merge : Cert.Pre_finite_merge.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8))) = (fun _ => 1#1)

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatIdeal_finite_lat [hPre_finite_lat : Cert.Pre_finite_lat.Facts] (m : (ℓ : Loc Cert.LatIdeal.nD Cert.LatIdeal.τ Cert.LatIdeal.sig) → Buf (Elt Ideal) ℓ) : Prop :=
  ∀ c : Dev Cert.LatIdeal.nD,
    (Cert.Pre_finite_lat.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4)) (m ((c.tc : Thread Cert.LatIdeal.nD Cert.LatIdeal.τ).loc Cert.LatIdeal.main_arg5)) (m ((c.tc : Thread Cert.LatIdeal.nD Cert.LatIdeal.τ).loc Cert.LatIdeal.main_arg6)) (m ((c.tc : Thread Cert.LatIdeal.nD Cert.LatIdeal.τ).loc Cert.LatIdeal.main_arg7)) (m ((c.tc : Thread Cert.LatIdeal.nD Cert.LatIdeal.τ).loc Cert.LatIdeal.main_arg8)) (m ((c.tc : Thread Cert.LatIdeal.nD Cert.LatIdeal.τ).loc Cert.LatIdeal.main_arg9)) (m ((c.tc : Thread Cert.LatIdeal.nD Cert.LatIdeal.τ).loc Cert.LatIdeal.main_arg10))) = (fun _ => 1#1)

def Pre_LatRefIdeal (m : (ℓ : Loc Cert.LatRefIdeal.nD Cert.LatRefIdeal.τ Cert.LatRefIdeal.sig) → Buf (Elt Ideal) ℓ) : Prop :=
  True

def Pre_LatRefIdeal_finite_lat [hPre_finite_lat : Cert.Pre_finite_lat.Facts] (m : (ℓ : Loc Cert.LatRefIdeal.nD Cert.LatRefIdeal.τ Cert.LatRefIdeal.sig) → Buf (Elt Ideal) ℓ) : Prop :=
  ∀ c : Dev Cert.LatRefIdeal.nD,
    (Cert.Pre_finite_lat.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4)) (m ((c.tc : Thread Cert.LatRefIdeal.nD Cert.LatRefIdeal.τ).loc Cert.LatRefIdeal.main_arg5)) (m ((c.tc : Thread Cert.LatRefIdeal.nD Cert.LatRefIdeal.τ).loc Cert.LatRefIdeal.main_arg6)) (m ((c.tc : Thread Cert.LatRefIdeal.nD Cert.LatRefIdeal.τ).loc Cert.LatRefIdeal.main_arg7)) (m ((c.tc : Thread Cert.LatRefIdeal.nD Cert.LatRefIdeal.τ).loc Cert.LatRefIdeal.main_arg8)) (m ((c.tc : Thread Cert.LatRefIdeal.nD Cert.LatRefIdeal.τ).loc Cert.LatRefIdeal.main_arg9)) (m ((c.tc : Thread Cert.LatRefIdeal.nD Cert.LatRefIdeal.τ).loc Cert.LatRefIdeal.main_arg10))) = (fun _ => 1#1)

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinIdeal_finite_join [hPre_finite_join : Cert.Pre_finite_join.Facts] (m : (ℓ : Loc Cert.JoinIdeal.nD Cert.JoinIdeal.τ Cert.JoinIdeal.sig) → Buf (Elt Ideal) ℓ) : Prop :=
  ∀ c : Dev Cert.JoinIdeal.nD,
    (Cert.Pre_finite_join.fn (F := Ideal) (m ((c.tc : Thread Cert.JoinIdeal.nD Cert.JoinIdeal.τ).loc Cert.JoinIdeal.main_arg0)) (m ((c.tc : Thread Cert.JoinIdeal.nD Cert.JoinIdeal.τ).loc Cert.JoinIdeal.main_arg1)) (m ((c.tc : Thread Cert.JoinIdeal.nD Cert.JoinIdeal.τ).loc Cert.JoinIdeal.main_arg2)) (m ((c.tc : Thread Cert.JoinIdeal.nD Cert.JoinIdeal.τ).loc Cert.JoinIdeal.main_arg3)) (m ((c.tc : Thread Cert.JoinIdeal.nD Cert.JoinIdeal.τ).loc Cert.JoinIdeal.main_arg4)) (m ((c.tc : Thread Cert.JoinIdeal.nD Cert.JoinIdeal.τ).loc Cert.JoinIdeal.main_arg5)) (m ((c.tc : Thread Cert.JoinIdeal.nD Cert.JoinIdeal.τ).loc Cert.JoinIdeal.main_arg6)) (m ((c.tc : Thread Cert.JoinIdeal.nD Cert.JoinIdeal.τ).loc Cert.JoinIdeal.main_arg7)) (m ((c.tc : Thread Cert.JoinIdeal.nD Cert.JoinIdeal.τ).loc Cert.JoinIdeal.main_arg8)) (m ((c.tc : Thread Cert.JoinIdeal.nD Cert.JoinIdeal.τ).loc Cert.JoinIdeal.main_arg9))) = (fun _ => 1#1)

def Pre_JoinRefIdeal (m : (ℓ : Loc Cert.JoinRefIdeal.nD Cert.JoinRefIdeal.τ Cert.JoinRefIdeal.sig) → Buf (Elt Ideal) ℓ) : Prop :=
  True

def Pre_JoinRefIdeal_finite_join [hPre_finite_join : Cert.Pre_finite_join.Facts] (m : (ℓ : Loc Cert.JoinRefIdeal.nD Cert.JoinRefIdeal.τ Cert.JoinRefIdeal.sig) → Buf (Elt Ideal) ℓ) : Prop :=
  ∀ c : Dev Cert.JoinRefIdeal.nD,
    (Cert.Pre_finite_join.fn (F := Ideal) (m ((c.tc : Thread Cert.JoinRefIdeal.nD Cert.JoinRefIdeal.τ).loc Cert.JoinRefIdeal.main_arg0)) (m ((c.tc : Thread Cert.JoinRefIdeal.nD Cert.JoinRefIdeal.τ).loc Cert.JoinRefIdeal.main_arg1)) (m ((c.tc : Thread Cert.JoinRefIdeal.nD Cert.JoinRefIdeal.τ).loc Cert.JoinRefIdeal.main_arg2)) (m ((c.tc : Thread Cert.JoinRefIdeal.nD Cert.JoinRefIdeal.τ).loc Cert.JoinRefIdeal.main_arg3)) (m ((c.tc : Thread Cert.JoinRefIdeal.nD Cert.JoinRefIdeal.τ).loc Cert.JoinRefIdeal.main_arg4)) (m ((c.tc : Thread Cert.JoinRefIdeal.nD Cert.JoinRefIdeal.τ).loc Cert.JoinRefIdeal.main_arg5)) (m ((c.tc : Thread Cert.JoinRefIdeal.nD Cert.JoinRefIdeal.τ).loc Cert.JoinRefIdeal.main_arg6)) (m ((c.tc : Thread Cert.JoinRefIdeal.nD Cert.JoinRefIdeal.τ).loc Cert.JoinRefIdeal.main_arg7)) (m ((c.tc : Thread Cert.JoinRefIdeal.nD Cert.JoinRefIdeal.τ).loc Cert.JoinRefIdeal.main_arg8)) (m ((c.tc : Thread Cert.JoinRefIdeal.nD Cert.JoinRefIdeal.τ).loc Cert.JoinRefIdeal.main_arg9))) = (fun _ => 1#1)

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaRefIdeal (m : (ℓ : Loc Cert.SwaRefIdeal.nD Cert.SwaRefIdeal.τ Cert.SwaRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpIdeal_pre_finite [hMlpIdeal : Cert.MlpIdeal.Facts] [hPre_finite : Cert.Pre_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_MlpRefIdeal_pre_finite [hMlpRefIdeal : Cert.MlpRefIdeal.Facts] [hPre_finite : Cert.Pre_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpIdeal_pre_finite_inp [hInpIdeal : Cert.InpIdeal.Facts] [hPre_finite_inp : Cert.Pre_finite_inp.Facts] : Prop :=
  ∀ (m : (ℓ : Loc Cert.InpIdeal.nD Cert.InpIdeal.τ Cert.InpIdeal.sig) → Buf (Elt Ideal) ℓ) (g : Dev Cert.InpIdeal.nD → PrngReg), Pre_InpIdeal_finite_inp m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_InpRefIdeal_pre_finite_inp [hInpRefIdeal : Cert.InpRefIdeal.Facts] [hPre_finite_inp : Cert.Pre_finite_inp.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal_finite_inp m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeIdeal_pre_finite_merge [hMergeIdeal : Cert.MergeIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_merge m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_MergeRefIdeal_pre_finite_merge [hMergeRefIdeal : Cert.MergeRefIdeal.Facts] [hPre_finite_merge : Cert.Pre_finite_merge.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_merge m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4)
      ∧ r.2.mem ((c.tc : Thread Cert.Lat.nD Cert.Lat.τ).loc Cert.Lat.main_arg5) = m ((c.tc : Thread Cert.Lat.nD Cert.Lat.τ).loc Cert.Lat.main_arg5)
      ∧ r.2.mem ((c.tc : Thread Cert.Lat.nD Cert.Lat.τ).loc Cert.Lat.main_arg6) = m ((c.tc : Thread Cert.Lat.nD Cert.Lat.τ).loc Cert.Lat.main_arg6)
      ∧ r.2.mem ((c.tc : Thread Cert.Lat.nD Cert.Lat.τ).loc Cert.Lat.main_arg7) = m ((c.tc : Thread Cert.Lat.nD Cert.Lat.τ).loc Cert.Lat.main_arg7)
      ∧ r.2.mem ((c.tc : Thread Cert.Lat.nD Cert.Lat.τ).loc Cert.Lat.main_arg8) = m ((c.tc : Thread Cert.Lat.nD Cert.Lat.τ).loc Cert.Lat.main_arg8)
      ∧ r.2.mem ((c.tc : Thread Cert.Lat.nD Cert.Lat.τ).loc Cert.Lat.main_arg9) = m ((c.tc : Thread Cert.Lat.nD Cert.Lat.τ).loc Cert.Lat.main_arg9)
      ∧ r.2.mem ((c.tc : Thread Cert.Lat.nD Cert.Lat.τ).loc Cert.Lat.main_arg10) = m ((c.tc : Thread Cert.Lat.nD Cert.Lat.τ).loc Cert.Lat.main_arg10))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
      ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
      ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
      ∧ r.2.mem ((c.tc : Thread Cert.LatIdeal.nD Cert.LatIdeal.τ).loc Cert.LatIdeal.main_arg7) = m ((c.tc : Thread Cert.LatIdeal.nD Cert.LatIdeal.τ).loc Cert.LatIdeal.main_arg7)
      ∧ r.2.mem ((c.tc : Thread Cert.LatIdeal.nD Cert.LatIdeal.τ).loc Cert.LatIdeal.main_arg8) = m ((c.tc : Thread Cert.LatIdeal.nD Cert.LatIdeal.τ).loc Cert.LatIdeal.main_arg8)
      ∧ r.2.mem ((c.tc : Thread Cert.LatIdeal.nD Cert.LatIdeal.τ).loc Cert.LatIdeal.main_arg9) = m ((c.tc : Thread Cert.LatIdeal.nD Cert.LatIdeal.τ).loc Cert.LatIdeal.main_arg9)
      ∧ r.2.mem ((c.tc : Thread Cert.LatIdeal.nD Cert.LatIdeal.τ).loc Cert.LatIdeal.main_arg10) = m ((c.tc : Thread Cert.LatIdeal.nD Cert.LatIdeal.τ).loc Cert.LatIdeal.main_arg10))
      ∧ r.2.sem = fun _ => 0)

def quiescent_LatIdeal_pre_finite_lat [hLatIdeal : Cert.LatIdeal.Facts] [hPre_finite_lat : Cert.Pre_finite_lat.Facts] : Prop :=
  ∀ (m : (ℓ : Loc Cert.LatIdeal.nD Cert.LatIdeal.τ Cert.LatIdeal.sig) → Buf (Elt Ideal) ℓ) (g : Dev Cert.LatIdeal.nD → PrngReg), Pre_LatIdeal_finite_lat m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
      ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
      ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
      ∧ r.2.mem ((c.tc : Thread Cert.LatIdeal.nD Cert.LatIdeal.τ).loc Cert.LatIdeal.main_arg7) = m ((c.tc : Thread Cert.LatIdeal.nD Cert.LatIdeal.τ).loc Cert.LatIdeal.main_arg7)
      ∧ r.2.mem ((c.tc : Thread Cert.LatIdeal.nD Cert.LatIdeal.τ).loc Cert.LatIdeal.main_arg8) = m ((c.tc : Thread Cert.LatIdeal.nD Cert.LatIdeal.τ).loc Cert.LatIdeal.main_arg8)
      ∧ r.2.mem ((c.tc : Thread Cert.LatIdeal.nD Cert.LatIdeal.τ).loc Cert.LatIdeal.main_arg9) = m ((c.tc : Thread Cert.LatIdeal.nD Cert.LatIdeal.τ).loc Cert.LatIdeal.main_arg9)
      ∧ r.2.mem ((c.tc : Thread Cert.LatIdeal.nD Cert.LatIdeal.τ).loc Cert.LatIdeal.main_arg10) = m ((c.tc : Thread Cert.LatIdeal.nD Cert.LatIdeal.τ).loc Cert.LatIdeal.main_arg10))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5)
      ∧ r.2.mem ((c.tc : Thread Cert.LatRefIdeal.nD Cert.LatRefIdeal.τ).loc Cert.LatRefIdeal.main_arg6) = m ((c.tc : Thread Cert.LatRefIdeal.nD Cert.LatRefIdeal.τ).loc Cert.LatRefIdeal.main_arg6)
      ∧ r.2.mem ((c.tc : Thread Cert.LatRefIdeal.nD Cert.LatRefIdeal.τ).loc Cert.LatRefIdeal.main_arg7) = m ((c.tc : Thread Cert.LatRefIdeal.nD Cert.LatRefIdeal.τ).loc Cert.LatRefIdeal.main_arg7)
      ∧ r.2.mem ((c.tc : Thread Cert.LatRefIdeal.nD Cert.LatRefIdeal.τ).loc Cert.LatRefIdeal.main_arg8) = m ((c.tc : Thread Cert.LatRefIdeal.nD Cert.LatRefIdeal.τ).loc Cert.LatRefIdeal.main_arg8)
      ∧ r.2.mem ((c.tc : Thread Cert.LatRefIdeal.nD Cert.LatRefIdeal.τ).loc Cert.LatRefIdeal.main_arg9) = m ((c.tc : Thread Cert.LatRefIdeal.nD Cert.LatRefIdeal.τ).loc Cert.LatRefIdeal.main_arg9)
      ∧ r.2.mem ((c.tc : Thread Cert.LatRefIdeal.nD Cert.LatRefIdeal.τ).loc Cert.LatRefIdeal.main_arg10) = m ((c.tc : Thread Cert.LatRefIdeal.nD Cert.LatRefIdeal.τ).loc Cert.LatRefIdeal.main_arg10))
      ∧ r.2.sem = fun _ => 0)

def quiescent_LatRefIdeal_pre_finite_lat [hLatRefIdeal : Cert.LatRefIdeal.Facts] [hPre_finite_lat : Cert.Pre_finite_lat.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal_finite_lat m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5)
      ∧ r.2.mem ((c.tc : Thread Cert.LatRefIdeal.nD Cert.LatRefIdeal.τ).loc Cert.LatRefIdeal.main_arg6) = m ((c.tc : Thread Cert.LatRefIdeal.nD Cert.LatRefIdeal.τ).loc Cert.LatRefIdeal.main_arg6)
      ∧ r.2.mem ((c.tc : Thread Cert.LatRefIdeal.nD Cert.LatRefIdeal.τ).loc Cert.LatRefIdeal.main_arg7) = m ((c.tc : Thread Cert.LatRefIdeal.nD Cert.LatRefIdeal.τ).loc Cert.LatRefIdeal.main_arg7)
      ∧ r.2.mem ((c.tc : Thread Cert.LatRefIdeal.nD Cert.LatRefIdeal.τ).loc Cert.LatRefIdeal.main_arg8) = m ((c.tc : Thread Cert.LatRefIdeal.nD Cert.LatRefIdeal.τ).loc Cert.LatRefIdeal.main_arg8)
      ∧ r.2.mem ((c.tc : Thread Cert.LatRefIdeal.nD Cert.LatRefIdeal.τ).loc Cert.LatRefIdeal.main_arg9) = m ((c.tc : Thread Cert.LatRefIdeal.nD Cert.LatRefIdeal.τ).loc Cert.LatRefIdeal.main_arg9)
      ∧ r.2.mem ((c.tc : Thread Cert.LatRefIdeal.nD Cert.LatRefIdeal.τ).loc Cert.LatRefIdeal.main_arg10) = m ((c.tc : Thread Cert.LatRefIdeal.nD Cert.LatRefIdeal.τ).loc Cert.LatRefIdeal.main_arg10))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4)
      ∧ r.2.mem ((c.tc : Thread Cert.Join.nD Cert.Join.τ).loc Cert.Join.main_arg5) = m ((c.tc : Thread Cert.Join.nD Cert.Join.τ).loc Cert.Join.main_arg5)
      ∧ r.2.mem ((c.tc : Thread Cert.Join.nD Cert.Join.τ).loc Cert.Join.main_arg6) = m ((c.tc : Thread Cert.Join.nD Cert.Join.τ).loc Cert.Join.main_arg6)
      ∧ r.2.mem ((c.tc : Thread Cert.Join.nD Cert.Join.τ).loc Cert.Join.main_arg7) = m ((c.tc : Thread Cert.Join.nD Cert.Join.τ).loc Cert.Join.main_arg7)
      ∧ r.2.mem ((c.tc : Thread Cert.Join.nD Cert.Join.τ).loc Cert.Join.main_arg8) = m ((c.tc : Thread Cert.Join.nD Cert.Join.τ).loc Cert.Join.main_arg8)
      ∧ r.2.mem ((c.tc : Thread Cert.Join.nD Cert.Join.τ).loc Cert.Join.main_arg9) = m ((c.tc : Thread Cert.Join.nD Cert.Join.τ).loc Cert.Join.main_arg9))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
      ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
      ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8)
      ∧ r.2.mem ((c.tc : Thread Cert.JoinIdeal.nD Cert.JoinIdeal.τ).loc Cert.JoinIdeal.main_arg9) = m ((c.tc : Thread Cert.JoinIdeal.nD Cert.JoinIdeal.τ).loc Cert.JoinIdeal.main_arg9))
      ∧ r.2.sem = fun _ => 0)

def quiescent_JoinIdeal_pre_finite_join [hJoinIdeal : Cert.JoinIdeal.Facts] [hPre_finite_join : Cert.Pre_finite_join.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal_finite_join m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
      ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
      ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8)
      ∧ r.2.mem ((c.tc : Thread Cert.JoinIdeal.nD Cert.JoinIdeal.τ).loc Cert.JoinIdeal.main_arg9) = m ((c.tc : Thread Cert.JoinIdeal.nD Cert.JoinIdeal.τ).loc Cert.JoinIdeal.main_arg9))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4)
      ∧ r.2.mem ((c.tc : Thread Cert.JoinRefIdeal.nD Cert.JoinRefIdeal.τ).loc Cert.JoinRefIdeal.main_arg5) = m ((c.tc : Thread Cert.JoinRefIdeal.nD Cert.JoinRefIdeal.τ).loc Cert.JoinRefIdeal.main_arg5)
      ∧ r.2.mem ((c.tc : Thread Cert.JoinRefIdeal.nD Cert.JoinRefIdeal.τ).loc Cert.JoinRefIdeal.main_arg6) = m ((c.tc : Thread Cert.JoinRefIdeal.nD Cert.JoinRefIdeal.τ).loc Cert.JoinRefIdeal.main_arg6)
      ∧ r.2.mem ((c.tc : Thread Cert.JoinRefIdeal.nD Cert.JoinRefIdeal.τ).loc Cert.JoinRefIdeal.main_arg7) = m ((c.tc : Thread Cert.JoinRefIdeal.nD Cert.JoinRefIdeal.τ).loc Cert.JoinRefIdeal.main_arg7)
      ∧ r.2.mem ((c.tc : Thread Cert.JoinRefIdeal.nD Cert.JoinRefIdeal.τ).loc Cert.JoinRefIdeal.main_arg8) = m ((c.tc : Thread Cert.JoinRefIdeal.nD Cert.JoinRefIdeal.τ).loc Cert.JoinRefIdeal.main_arg8)
      ∧ r.2.mem ((c.tc : Thread Cert.JoinRefIdeal.nD Cert.JoinRefIdeal.τ).loc Cert.JoinRefIdeal.main_arg9) = m ((c.tc : Thread Cert.JoinRefIdeal.nD Cert.JoinRefIdeal.τ).loc Cert.JoinRefIdeal.main_arg9))
      ∧ r.2.sem = fun _ => 0)

def quiescent_JoinRefIdeal_pre_finite_join [hJoinRefIdeal : Cert.JoinRefIdeal.Facts] [hPre_finite_join : Cert.Pre_finite_join.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal_finite_join m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4)
      ∧ r.2.mem ((c.tc : Thread Cert.JoinRefIdeal.nD Cert.JoinRefIdeal.τ).loc Cert.JoinRefIdeal.main_arg5) = m ((c.tc : Thread Cert.JoinRefIdeal.nD Cert.JoinRefIdeal.τ).loc Cert.JoinRefIdeal.main_arg5)
      ∧ r.2.mem ((c.tc : Thread Cert.JoinRefIdeal.nD Cert.JoinRefIdeal.τ).loc Cert.JoinRefIdeal.main_arg6) = m ((c.tc : Thread Cert.JoinRefIdeal.nD Cert.JoinRefIdeal.τ).loc Cert.JoinRefIdeal.main_arg6)
      ∧ r.2.mem ((c.tc : Thread Cert.JoinRefIdeal.nD Cert.JoinRefIdeal.τ).loc Cert.JoinRefIdeal.main_arg7) = m ((c.tc : Thread Cert.JoinRefIdeal.nD Cert.JoinRefIdeal.τ).loc Cert.JoinRefIdeal.main_arg7)
      ∧ r.2.mem ((c.tc : Thread Cert.JoinRefIdeal.nD Cert.JoinRefIdeal.τ).loc Cert.JoinRefIdeal.main_arg8) = m ((c.tc : Thread Cert.JoinRefIdeal.nD Cert.JoinRefIdeal.τ).loc Cert.JoinRefIdeal.main_arg8)
      ∧ r.2.mem ((c.tc : Thread Cert.JoinRefIdeal.nD Cert.JoinRefIdeal.τ).loc Cert.JoinRefIdeal.main_arg9) = m ((c.tc : Thread Cert.JoinRefIdeal.nD Cert.JoinRefIdeal.τ).loc Cert.JoinRefIdeal.main_arg9))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4)
      ∧ r.2.mem ((c.tc : Thread Cert.Swa.nD Cert.Swa.τ).loc Cert.Swa.main_arg5) = m ((c.tc : Thread Cert.Swa.nD Cert.Swa.τ).loc Cert.Swa.main_arg5))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4)
      ∧ r.2.mem ((c.tc : Thread Cert.SwaRefIdeal.nD Cert.SwaRefIdeal.τ).loc Cert.SwaRefIdeal.main_arg5) = m ((c.tc : Thread Cert.SwaRefIdeal.nD Cert.SwaRefIdeal.τ).loc Cert.SwaRefIdeal.main_arg5))
      ∧ r.2.sem = fun _ => 0)

def preserves_Mlp_MlpIdeal : Prop :=
  True

def algebraic_MlpIdeal_MlpRefIdeal_pre_finite [hMlpIdeal : Cert.MlpIdeal.Facts] [hMlpRefIdeal : Cert.MlpRefIdeal.Facts] [hPre_finite : Cert.Pre_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v17_0)) (v1 : (c : Dev Cert.MlpIdeal.nD) → Buf (Elt Ideal) ((c.tc : Thread Cert.MlpIdeal.nD Cert.MlpIdeal.τ).loc Cert.MlpIdeal.main_v17_1)) (v2 : (c : Dev Cert.MlpIdeal.nD) → Buf (Elt Ideal) ((c.tc : Thread Cert.MlpIdeal.nD Cert.MlpIdeal.τ).loc Cert.MlpIdeal.main_v17_2)) (v3 : (c : Dev Cert.MlpIdeal.nD) → Buf (Elt Ideal) ((c.tc : Thread Cert.MlpIdeal.nD Cert.MlpIdeal.τ).loc Cert.MlpIdeal.main_v17_3)) (v4 : (c : Dev Cert.MlpIdeal.nD) → Buf (Elt Ideal) ((c.tc : Thread Cert.MlpIdeal.nD Cert.MlpIdeal.τ).loc Cert.MlpIdeal.main_v17_4)) (v5 : (c : Dev Cert.MlpIdeal.nD) → Buf (Elt Ideal) ((c.tc : Thread Cert.MlpIdeal.nD Cert.MlpIdeal.τ).loc Cert.MlpIdeal.main_v17_5)) (v6 : (c : Dev Cert.MlpIdeal.nD) → Buf (Elt Ideal) ((c.tc : Thread Cert.MlpIdeal.nD Cert.MlpIdeal.τ).loc Cert.MlpIdeal.main_v17_6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v17_0) = v0 c
          ∧ r.2.mem ((c.tc : Thread Cert.MlpIdeal.nD Cert.MlpIdeal.τ).loc Cert.MlpIdeal.main_v17_1) = v1 c
          ∧ r.2.mem ((c.tc : Thread Cert.MlpIdeal.nD Cert.MlpIdeal.τ).loc Cert.MlpIdeal.main_v17_2) = v2 c
          ∧ r.2.mem ((c.tc : Thread Cert.MlpIdeal.nD Cert.MlpIdeal.τ).loc Cert.MlpIdeal.main_v17_3) = v3 c
          ∧ r.2.mem ((c.tc : Thread Cert.MlpIdeal.nD Cert.MlpIdeal.τ).loc Cert.MlpIdeal.main_v17_4) = v4 c
          ∧ r.2.mem ((c.tc : Thread Cert.MlpIdeal.nD Cert.MlpIdeal.τ).loc Cert.MlpIdeal.main_v17_5) = v5 c
          ∧ r.2.mem ((c.tc : Thread Cert.MlpIdeal.nD Cert.MlpIdeal.τ).loc Cert.MlpIdeal.main_v17_6) = v6 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v103) = v0 c
          ∧ r.2.mem ((c.tc : Thread Cert.MlpRefIdeal.nD Cert.MlpRefIdeal.τ).loc Cert.MlpRefIdeal.main_v104) = v1 c
          ∧ r.2.mem ((c.tc : Thread Cert.MlpRefIdeal.nD Cert.MlpRefIdeal.τ).loc Cert.MlpRefIdeal.main_v105) = v2 c
          ∧ r.2.mem ((c.tc : Thread Cert.MlpRefIdeal.nD Cert.MlpRefIdeal.τ).loc Cert.MlpRefIdeal.main_v102) = v3 c
          ∧ r.2.mem ((c.tc : Thread Cert.MlpRefIdeal.nD Cert.MlpRefIdeal.τ).loc Cert.MlpRefIdeal.main_v106) = v4 c
          ∧ r.2.mem ((c.tc : Thread Cert.MlpRefIdeal.nD Cert.MlpRefIdeal.τ).loc Cert.MlpRefIdeal.main_v85) = v5 c
          ∧ r.2.mem ((c.tc : Thread Cert.MlpRefIdeal.nD Cert.MlpRefIdeal.τ).loc Cert.MlpRefIdeal.main_v61) = v6 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Mla_MlaIdeal : Prop :=
  IdealRules.named_const.Statement Cert.MlaIdeal.κ "mask" .f32 0xF149F2CA#32 ⊥
  ∧ IdealRules.named_const.Statement Cert.MlaIdeal.κ "ln2" .f32 0x3F317218#32 ((Real.log 2 : ℝ) : EReal)

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)) →
    ∃ (v0 : (c : Dev Cert.MlaIdeal.nD) → Buf (Elt Ideal) ((c.tc : Thread Cert.MlaIdeal.nD Cert.MlaIdeal.τ).loc Cert.MlaIdeal.main_v85)) (v1 : (c : Dev Cert.MlaIdeal.nD) → Buf (Elt Ideal) ((c.tc : Thread Cert.MlaIdeal.nD Cert.MlaIdeal.τ).loc Cert.MlaIdeal.main_v83_1)) (v2 : (c : Dev Cert.MlaIdeal.nD) → Buf (Elt Ideal) ((c.tc : Thread Cert.MlaIdeal.nD Cert.MlaIdeal.τ).loc Cert.MlaIdeal.main_v83_2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v85) = v0 c
          ∧ r.2.mem ((c.tc : Thread Cert.MlaIdeal.nD Cert.MlaIdeal.τ).loc Cert.MlaIdeal.main_v83_1) = v1 c
          ∧ r.2.mem ((c.tc : Thread Cert.MlaIdeal.nD Cert.MlaIdeal.τ).loc Cert.MlaIdeal.main_v83_2) = v2 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v77) = v0 c
          ∧ r.2.mem ((c.tc : Thread Cert.MlaRefIdeal.nD Cert.MlaRefIdeal.τ).loc Cert.MlaRefIdeal.main_v83) = v1 c
          ∧ r.2.mem ((c.tc : Thread Cert.MlaRefIdeal.nD Cert.MlaRefIdeal.τ).loc Cert.MlaRefIdeal.main_v88) = v2 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5))

def preserves_Inp_InpIdeal : Prop :=
  True

def algebraic_InpIdeal_InpRefIdeal_pre_finite_inp [hInpIdeal : Cert.InpIdeal.Facts] [hInpRefIdeal : Cert.InpRefIdeal.Facts] [hPre_finite_inp : Cert.Pre_finite_inp.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal_finite_inp m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)) →
    ∃ (v0 : (c : Dev Cert.InpIdeal.nD) → Buf (Elt Ideal) ((c.tc : Thread Cert.InpIdeal.nD Cert.InpIdeal.τ).loc Cert.InpIdeal.main_v28_0)) (v1 : (c : Dev Cert.InpIdeal.nD) → Buf (Elt Ideal) ((c.tc : Thread Cert.InpIdeal.nD Cert.InpIdeal.τ).loc Cert.InpIdeal.main_v28_1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v28_0) = v0 c
          ∧ r.2.mem ((c.tc : Thread Cert.InpIdeal.nD Cert.InpIdeal.τ).loc Cert.InpIdeal.main_v28_1) = v1 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v36) = v0 c
          ∧ r.2.mem ((c.tc : Thread Cert.InpRefIdeal.nD Cert.InpRefIdeal.τ).loc Cert.InpRefIdeal.main_v19) = v1 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4))

def preserves_Merge_MergeIdeal : Prop :=
  True

def algebraic_MergeIdeal_MergeRefIdeal_pre_finite_merge [hMergeIdeal : Cert.MergeIdeal.Facts] [hMergeRefIdeal : Cert.MergeRefIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_merge m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v41_0)) (v1 : (c : Dev Cert.MergeIdeal.nD) → Buf (Elt Ideal) ((c.tc : Thread Cert.MergeIdeal.nD Cert.MergeIdeal.τ).loc Cert.MergeIdeal.main_v41_1)) (v2 : (c : Dev Cert.MergeIdeal.nD) → Buf (Elt Ideal) ((c.tc : Thread Cert.MergeIdeal.nD Cert.MergeIdeal.τ).loc Cert.MergeIdeal.main_v41_2)) (v3 : (c : Dev Cert.MergeIdeal.nD) → Buf (Elt Ideal) ((c.tc : Thread Cert.MergeIdeal.nD Cert.MergeIdeal.τ).loc Cert.MergeIdeal.main_v41_3)) (v4 : (c : Dev Cert.MergeIdeal.nD) → Buf (Elt Ideal) ((c.tc : Thread Cert.MergeIdeal.nD Cert.MergeIdeal.τ).loc Cert.MergeIdeal.main_v41_4)) (v5 : (c : Dev Cert.MergeIdeal.nD) → Buf (Elt Ideal) ((c.tc : Thread Cert.MergeIdeal.nD Cert.MergeIdeal.τ).loc Cert.MergeIdeal.main_v41_5)) (v6 : (c : Dev Cert.MergeIdeal.nD) → Buf (Elt Ideal) ((c.tc : Thread Cert.MergeIdeal.nD Cert.MergeIdeal.τ).loc Cert.MergeIdeal.main_v41_6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v41_0) = v0 c
          ∧ r.2.mem ((c.tc : Thread Cert.MergeIdeal.nD Cert.MergeIdeal.τ).loc Cert.MergeIdeal.main_v41_1) = v1 c
          ∧ r.2.mem ((c.tc : Thread Cert.MergeIdeal.nD Cert.MergeIdeal.τ).loc Cert.MergeIdeal.main_v41_2) = v2 c
          ∧ r.2.mem ((c.tc : Thread Cert.MergeIdeal.nD Cert.MergeIdeal.τ).loc Cert.MergeIdeal.main_v41_3) = v3 c
          ∧ r.2.mem ((c.tc : Thread Cert.MergeIdeal.nD Cert.MergeIdeal.τ).loc Cert.MergeIdeal.main_v41_4) = v4 c
          ∧ r.2.mem ((c.tc : Thread Cert.MergeIdeal.nD Cert.MergeIdeal.τ).loc Cert.MergeIdeal.main_v41_5) = v5 c
          ∧ r.2.mem ((c.tc : Thread Cert.MergeIdeal.nD Cert.MergeIdeal.τ).loc Cert.MergeIdeal.main_v41_6) = v6 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v90) = v0 c
          ∧ r.2.mem ((c.tc : Thread Cert.MergeRefIdeal.nD Cert.MergeRefIdeal.τ).loc Cert.MergeRefIdeal.main_v91) = v1 c
          ∧ r.2.mem ((c.tc : Thread Cert.MergeRefIdeal.nD Cert.MergeRefIdeal.τ).loc Cert.MergeRefIdeal.main_v92) = v2 c
          ∧ r.2.mem ((c.tc : Thread Cert.MergeRefIdeal.nD Cert.MergeRefIdeal.τ).loc Cert.MergeRefIdeal.main_v41) = v3 c
          ∧ r.2.mem ((c.tc : Thread Cert.MergeRefIdeal.nD Cert.MergeRefIdeal.τ).loc Cert.MergeRefIdeal.main_v95) = v4 c
          ∧ r.2.mem ((c.tc : Thread Cert.MergeRefIdeal.nD Cert.MergeRefIdeal.τ).loc Cert.MergeRefIdeal.main_v98) = v5 c
          ∧ r.2.mem ((c.tc : Thread Cert.MergeRefIdeal.nD Cert.MergeRefIdeal.τ).loc Cert.MergeRefIdeal.main_v59) = v6 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Lat_LatIdeal : Prop :=
  True

def algebraic_LatIdeal_LatRefIdeal_pre_finite_lat [hLatIdeal : Cert.LatIdeal.Facts] [hLatRefIdeal : Cert.LatRefIdeal.Facts] [hPre_finite_lat : Cert.Pre_finite_lat.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal_finite_lat m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)
      ∧ m' ((c.tc : Thread Cert.LatRefIdeal.nD Cert.LatRefIdeal.τ).loc Cert.LatRefIdeal.main_arg4) = m ((c.tc : Thread Cert.LatIdeal.nD Cert.LatIdeal.τ).loc Cert.LatIdeal.main_arg4)
      ∧ m' ((c.tc : Thread Cert.LatRefIdeal.nD Cert.LatRefIdeal.τ).loc Cert.LatRefIdeal.main_arg5) = m ((c.tc : Thread Cert.LatIdeal.nD Cert.LatIdeal.τ).loc Cert.LatIdeal.main_arg5)
      ∧ m' ((c.tc : Thread Cert.LatRefIdeal.nD Cert.LatRefIdeal.τ).loc Cert.LatRefIdeal.main_arg6) = m ((c.tc : Thread Cert.LatIdeal.nD Cert.LatIdeal.τ).loc Cert.LatIdeal.main_arg6)
      ∧ m' ((c.tc : Thread Cert.LatRefIdeal.nD Cert.LatRefIdeal.τ).loc Cert.LatRefIdeal.main_arg7) = m ((c.tc : Thread Cert.LatIdeal.nD Cert.LatIdeal.τ).loc Cert.LatIdeal.main_arg7)
      ∧ m' ((c.tc : Thread Cert.LatRefIdeal.nD Cert.LatRefIdeal.τ).loc Cert.LatRefIdeal.main_arg8) = m ((c.tc : Thread Cert.LatIdeal.nD Cert.LatIdeal.τ).loc Cert.LatIdeal.main_arg8)
      ∧ m' ((c.tc : Thread Cert.LatRefIdeal.nD Cert.LatRefIdeal.τ).loc Cert.LatRefIdeal.main_arg9) = m ((c.tc : Thread Cert.LatIdeal.nD Cert.LatIdeal.τ).loc Cert.LatIdeal.main_arg9)
      ∧ m' ((c.tc : Thread Cert.LatRefIdeal.nD Cert.LatRefIdeal.τ).loc Cert.LatRefIdeal.main_arg10) = m ((c.tc : Thread Cert.LatIdeal.nD Cert.LatIdeal.τ).loc Cert.LatIdeal.main_arg10)) →
    ∃ (v0 : (c : Dev Cert.LatIdeal.nD) → Buf (Elt Ideal) ((c.tc : Thread Cert.LatIdeal.nD Cert.LatIdeal.τ).loc Cert.LatIdeal.main_v93_0)) (v1 : (c : Dev Cert.LatIdeal.nD) → Buf (Elt Ideal) ((c.tc : Thread Cert.LatIdeal.nD Cert.LatIdeal.τ).loc Cert.LatIdeal.main_v93_1)) (v2 : (c : Dev Cert.LatIdeal.nD) → Buf (Elt Ideal) ((c.tc : Thread Cert.LatIdeal.nD Cert.LatIdeal.τ).loc Cert.LatIdeal.main_v93_2)) (v3 : (c : Dev Cert.LatIdeal.nD) → Buf (Elt Ideal) ((c.tc : Thread Cert.LatIdeal.nD Cert.LatIdeal.τ).loc Cert.LatIdeal.main_v93_3)) (v4 : (c : Dev Cert.LatIdeal.nD) → Buf (Elt Ideal) ((c.tc : Thread Cert.LatIdeal.nD Cert.LatIdeal.τ).loc Cert.LatIdeal.main_v93_4)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v93_0) = v0 c
          ∧ r.2.mem ((c.tc : Thread Cert.LatIdeal.nD Cert.LatIdeal.τ).loc Cert.LatIdeal.main_v93_1) = v1 c
          ∧ r.2.mem ((c.tc : Thread Cert.LatIdeal.nD Cert.LatIdeal.τ).loc Cert.LatIdeal.main_v93_2) = v2 c
          ∧ r.2.mem ((c.tc : Thread Cert.LatIdeal.nD Cert.LatIdeal.τ).loc Cert.LatIdeal.main_v93_3) = v3 c
          ∧ r.2.mem ((c.tc : Thread Cert.LatIdeal.nD Cert.LatIdeal.τ).loc Cert.LatIdeal.main_v93_4) = v4 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
          ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
          ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
          ∧ r.2.mem ((c.tc : Thread Cert.LatIdeal.nD Cert.LatIdeal.τ).loc Cert.LatIdeal.main_arg7) = m ((c.tc : Thread Cert.LatIdeal.nD Cert.LatIdeal.τ).loc Cert.LatIdeal.main_arg7)
          ∧ r.2.mem ((c.tc : Thread Cert.LatIdeal.nD Cert.LatIdeal.τ).loc Cert.LatIdeal.main_arg8) = m ((c.tc : Thread Cert.LatIdeal.nD Cert.LatIdeal.τ).loc Cert.LatIdeal.main_arg8)
          ∧ r.2.mem ((c.tc : Thread Cert.LatIdeal.nD Cert.LatIdeal.τ).loc Cert.LatIdeal.main_arg9) = m ((c.tc : Thread Cert.LatIdeal.nD Cert.LatIdeal.τ).loc Cert.LatIdeal.main_arg9)
          ∧ r.2.mem ((c.tc : Thread Cert.LatIdeal.nD Cert.LatIdeal.τ).loc Cert.LatIdeal.main_arg10) = m ((c.tc : Thread Cert.LatIdeal.nD Cert.LatIdeal.τ).loc Cert.LatIdeal.main_arg10))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v226) = v0 c
          ∧ r.2.mem ((c.tc : Thread Cert.LatRefIdeal.nD Cert.LatRefIdeal.τ).loc Cert.LatRefIdeal.main_v180) = v1 c
          ∧ r.2.mem ((c.tc : Thread Cert.LatRefIdeal.nD Cert.LatRefIdeal.τ).loc Cert.LatRefIdeal.main_v157) = v2 c
          ∧ r.2.mem ((c.tc : Thread Cert.LatRefIdeal.nD Cert.LatRefIdeal.τ).loc Cert.LatRefIdeal.main_v227) = v3 c
          ∧ r.2.mem ((c.tc : Thread Cert.LatRefIdeal.nD Cert.LatRefIdeal.τ).loc Cert.LatRefIdeal.main_v230) = v4 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4)
          ∧ r.2.mem ((c.tc : Thread Cert.LatRefIdeal.nD Cert.LatRefIdeal.τ).loc Cert.LatRefIdeal.main_arg5) = m' ((c.tc : Thread Cert.LatRefIdeal.nD Cert.LatRefIdeal.τ).loc Cert.LatRefIdeal.main_arg5)
          ∧ r.2.mem ((c.tc : Thread Cert.LatRefIdeal.nD Cert.LatRefIdeal.τ).loc Cert.LatRefIdeal.main_arg6) = m' ((c.tc : Thread Cert.LatRefIdeal.nD Cert.LatRefIdeal.τ).loc Cert.LatRefIdeal.main_arg6)
          ∧ r.2.mem ((c.tc : Thread Cert.LatRefIdeal.nD Cert.LatRefIdeal.τ).loc Cert.LatRefIdeal.main_arg7) = m' ((c.tc : Thread Cert.LatRefIdeal.nD Cert.LatRefIdeal.τ).loc Cert.LatRefIdeal.main_arg7)
          ∧ r.2.mem ((c.tc : Thread Cert.LatRefIdeal.nD Cert.LatRefIdeal.τ).loc Cert.LatRefIdeal.main_arg8) = m' ((c.tc : Thread Cert.LatRefIdeal.nD Cert.LatRefIdeal.τ).loc Cert.LatRefIdeal.main_arg8)
          ∧ r.2.mem ((c.tc : Thread Cert.LatRefIdeal.nD Cert.LatRefIdeal.τ).loc Cert.LatRefIdeal.main_arg9) = m' ((c.tc : Thread Cert.LatRefIdeal.nD Cert.LatRefIdeal.τ).loc Cert.LatRefIdeal.main_arg9)
          ∧ r.2.mem ((c.tc : Thread Cert.LatRefIdeal.nD Cert.LatRefIdeal.τ).loc Cert.LatRefIdeal.main_arg10) = m' ((c.tc : Thread Cert.LatRefIdeal.nD Cert.LatRefIdeal.τ).loc Cert.LatRefIdeal.main_arg10))

def preserves_Join_JoinIdeal : Prop :=
  True

def algebraic_JoinIdeal_JoinRefIdeal_pre_finite_join [hJoinIdeal : Cert.JoinIdeal.Facts] [hJoinRefIdeal : Cert.JoinRefIdeal.Facts] [hPre_finite_join : Cert.Pre_finite_join.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal_finite_join m →
    (∀ c : Dev Cert.JoinIdeal.nD,
      m' ((c.tc : Thread Cert.JoinRefIdeal.nD Cert.JoinRefIdeal.τ).loc Cert.JoinRefIdeal.main_arg0) = m ((c.tc : Thread Cert.JoinIdeal.nD Cert.JoinIdeal.τ).loc Cert.JoinIdeal.main_arg0)
      ∧ m' ((c.tc : Thread Cert.JoinRefIdeal.nD Cert.JoinRefIdeal.τ).loc Cert.JoinRefIdeal.main_arg1) = m ((c.tc : Thread Cert.JoinIdeal.nD Cert.JoinIdeal.τ).loc Cert.JoinIdeal.main_arg1)
      ∧ m' ((c.tc : Thread Cert.JoinRefIdeal.nD Cert.JoinRefIdeal.τ).loc Cert.JoinRefIdeal.main_arg2) = m ((c.tc : Thread Cert.JoinIdeal.nD Cert.JoinIdeal.τ).loc Cert.JoinIdeal.main_arg2)
      ∧ m' ((c.tc : Thread Cert.JoinRefIdeal.nD Cert.JoinRefIdeal.τ).loc Cert.JoinRefIdeal.main_arg3) = m ((c.tc : Thread Cert.JoinIdeal.nD Cert.JoinIdeal.τ).loc Cert.JoinIdeal.main_arg3)
      ∧ m' ((c.tc : Thread Cert.JoinRefIdeal.nD Cert.JoinRefIdeal.τ).loc Cert.JoinRefIdeal.main_arg4) = m ((c.tc : Thread Cert.JoinIdeal.nD Cert.JoinIdeal.τ).loc Cert.JoinIdeal.main_arg4)
      ∧ m' ((c.tc : Thread Cert.JoinRefIdeal.nD Cert.JoinRefIdeal.τ).loc Cert.JoinRefIdeal.main_arg5) = m ((c.tc : Thread Cert.JoinIdeal.nD Cert.JoinIdeal.τ).loc Cert.JoinIdeal.main_arg5)
      ∧ m' ((c.tc : Thread Cert.JoinRefIdeal.nD Cert.JoinRefIdeal.τ).loc Cert.JoinRefIdeal.main_arg6) = m ((c.tc : Thread Cert.JoinIdeal.nD Cert.JoinIdeal.τ).loc Cert.JoinIdeal.main_arg6)
      ∧ m' ((c.tc : Thread Cert.JoinRefIdeal.nD Cert.JoinRefIdeal.τ).loc Cert.JoinRefIdeal.main_arg7) = m ((c.tc : Thread Cert.JoinIdeal.nD Cert.JoinIdeal.τ).loc Cert.JoinIdeal.main_arg7)
      ∧ m' ((c.tc : Thread Cert.JoinRefIdeal.nD Cert.JoinRefIdeal.τ).loc Cert.JoinRefIdeal.main_arg8) = m ((c.tc : Thread Cert.JoinIdeal.nD Cert.JoinIdeal.τ).loc Cert.JoinIdeal.main_arg8)
      ∧ m' ((c.tc : Thread Cert.JoinRefIdeal.nD Cert.JoinRefIdeal.τ).loc Cert.JoinRefIdeal.main_arg9) = m ((c.tc : Thread Cert.JoinIdeal.nD Cert.JoinIdeal.τ).loc Cert.JoinIdeal.main_arg9)) →
    ∃ (v0 : (c : Dev Cert.JoinIdeal.nD) → Buf (Elt Ideal) ((c.tc : Thread Cert.JoinIdeal.nD Cert.JoinIdeal.τ).loc Cert.JoinIdeal.main_v19_0)) (v1 : (c : Dev Cert.JoinIdeal.nD) → Buf (Elt Ideal) ((c.tc : Thread Cert.JoinIdeal.nD Cert.JoinIdeal.τ).loc Cert.JoinIdeal.main_v19_1)) (v2 : (c : Dev Cert.JoinIdeal.nD) → Buf (Elt Ideal) ((c.tc : Thread Cert.JoinIdeal.nD Cert.JoinIdeal.τ).loc Cert.JoinIdeal.main_v19_2)) (v3 : (c : Dev Cert.JoinIdeal.nD) → Buf (Elt Ideal) ((c.tc : Thread Cert.JoinIdeal.nD Cert.JoinIdeal.τ).loc Cert.JoinIdeal.main_v19_3)) (v4 : (c : Dev Cert.JoinIdeal.nD) → Buf (Elt Ideal) ((c.tc : Thread Cert.JoinIdeal.nD Cert.JoinIdeal.τ).loc Cert.JoinIdeal.main_v19_4)) (v5 : (c : Dev Cert.JoinIdeal.nD) → Buf (Elt Ideal) ((c.tc : Thread Cert.JoinIdeal.nD Cert.JoinIdeal.τ).loc Cert.JoinIdeal.main_v19_5)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v19_0) = v0 c
          ∧ r.2.mem ((c.tc : Thread Cert.JoinIdeal.nD Cert.JoinIdeal.τ).loc Cert.JoinIdeal.main_v19_1) = v1 c
          ∧ r.2.mem ((c.tc : Thread Cert.JoinIdeal.nD Cert.JoinIdeal.τ).loc Cert.JoinIdeal.main_v19_2) = v2 c
          ∧ r.2.mem ((c.tc : Thread Cert.JoinIdeal.nD Cert.JoinIdeal.τ).loc Cert.JoinIdeal.main_v19_3) = v3 c
          ∧ r.2.mem ((c.tc : Thread Cert.JoinIdeal.nD Cert.JoinIdeal.τ).loc Cert.JoinIdeal.main_v19_4) = v4 c
          ∧ r.2.mem ((c.tc : Thread Cert.JoinIdeal.nD Cert.JoinIdeal.τ).loc Cert.JoinIdeal.main_v19_5) = v5 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
          ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
          ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
          ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
          ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8)
          ∧ r.2.mem ((c.tc : Thread Cert.JoinIdeal.nD Cert.JoinIdeal.τ).loc Cert.JoinIdeal.main_arg9) = m ((c.tc : Thread Cert.JoinIdeal.nD Cert.JoinIdeal.τ).loc Cert.JoinIdeal.main_arg9))
      ∧ θ_run (Cert.JoinRefIdeal.defs (F := Ideal)) (onTc (τ := Cert.JoinRefIdeal.τ) (Cert.JoinRefIdeal.main (F := Ideal))) ⟨m', fun _ => 0, g'⟩ (fun r => ∀ c : Dev Cert.JoinRefIdeal.nD,
          r.2.mem ((c.tc : Thread Cert.JoinRefIdeal.nD Cert.JoinRefIdeal.τ).loc Cert.JoinRefIdeal.main_v31) = v0 c
          ∧ r.2.mem ((c.tc : Thread Cert.JoinRefIdeal.nD Cert.JoinRefIdeal.τ).loc Cert.JoinRefIdeal.main_v32) = v1 c
          ∧ r.2.mem ((c.tc : Thread Cert.JoinRefIdeal.nD Cert.JoinRefIdeal.τ).loc Cert.JoinRefIdeal.main_v33) = v2 c
          ∧ r.2.mem ((c.tc : Thread Cert.JoinRefIdeal.nD Cert.JoinRefIdeal.τ).loc Cert.JoinRefIdeal.main_v17) = v3 c
          ∧ r.2.mem ((c.tc : Thread Cert.JoinRefIdeal.nD Cert.JoinRefIdeal.τ).loc Cert.JoinRefIdeal.main_v30) = v4 c
          ∧ r.2.mem ((c.tc : Thread Cert.JoinRefIdeal.nD Cert.JoinRefIdeal.τ).loc Cert.JoinRefIdeal.main_v46) = v5 c
          ∧ r.2.mem ((c.tc : Thread Cert.JoinRefIdeal.nD Cert.JoinRefIdeal.τ).loc Cert.JoinRefIdeal.main_arg0) = m' ((c.tc : Thread Cert.JoinRefIdeal.nD Cert.JoinRefIdeal.τ).loc Cert.JoinRefIdeal.main_arg0)
          ∧ r.2.mem ((c.tc : Thread Cert.JoinRefIdeal.nD Cert.JoinRefIdeal.τ).loc Cert.JoinRefIdeal.main_arg1) = m' ((c.tc : Thread Cert.JoinRefIdeal.nD Cert.JoinRefIdeal.τ).loc Cert.JoinRefIdeal.main_arg1)
          ∧ r.2.mem ((c.tc : Thread Cert.JoinRefIdeal.nD Cert.JoinRefIdeal.τ).loc Cert.JoinRefIdeal.main_arg2) = m' ((c.tc : Thread Cert.JoinRefIdeal.nD Cert.JoinRefIdeal.τ).loc Cert.JoinRefIdeal.main_arg2)
          ∧ r.2.mem ((c.tc : Thread Cert.JoinRefIdeal.nD Cert.JoinRefIdeal.τ).loc Cert.JoinRefIdeal.main_arg3) = m' ((c.tc : Thread Cert.JoinRefIdeal.nD Cert.JoinRefIdeal.τ).loc Cert.JoinRefIdeal.main_arg3)
          ∧ r.2.mem ((c.tc : Thread Cert.JoinRefIdeal.nD Cert.JoinRefIdeal.τ).loc Cert.JoinRefIdeal.main_arg4) = m' ((c.tc : Thread Cert.JoinRefIdeal.nD Cert.JoinRefIdeal.τ).loc Cert.JoinRefIdeal.main_arg4)
          ∧ r.2.mem ((c.tc : Thread Cert.JoinRefIdeal.nD Cert.JoinRefIdeal.τ).loc Cert.JoinRefIdeal.main_arg5) = m' ((c.tc : Thread Cert.JoinRefIdeal.nD Cert.JoinRefIdeal.τ).loc Cert.JoinRefIdeal.main_arg5)
          ∧ r.2.mem ((c.tc : Thread Cert.JoinRefIdeal.nD Cert.JoinRefIdeal.τ).loc Cert.JoinRefIdeal.main_arg6) = m' ((c.tc : Thread Cert.JoinRefIdeal.nD Cert.JoinRefIdeal.τ).loc Cert.JoinRefIdeal.main_arg6)
          ∧ r.2.mem ((c.tc : Thread Cert.JoinRefIdeal.nD Cert.JoinRefIdeal.τ).loc Cert.JoinRefIdeal.main_arg7) = m' ((c.tc : Thread Cert.JoinRefIdeal.nD Cert.JoinRefIdeal.τ).loc Cert.JoinRefIdeal.main_arg7)
          ∧ r.2.mem ((c.tc : Thread Cert.JoinRefIdeal.nD Cert.JoinRefIdeal.τ).loc Cert.JoinRefIdeal.main_arg8) = m' ((c.tc : Thread Cert.JoinRefIdeal.nD Cert.JoinRefIdeal.τ).loc Cert.JoinRefIdeal.main_arg8)
          ∧ r.2.mem ((c.tc : Thread Cert.JoinRefIdeal.nD Cert.JoinRefIdeal.τ).loc Cert.JoinRefIdeal.main_arg9) = m' ((c.tc : Thread Cert.JoinRefIdeal.nD Cert.JoinRefIdeal.τ).loc Cert.JoinRefIdeal.main_arg9))

def preserves_Swa_SwaIdeal : Prop :=
  IdealRules.named_const.Statement Cert.SwaIdeal.κ "mask" .f32 0xF149F2CA#32 ⊥

def Claim : Prop :=
  ∃ (hMlp : Cert.Mlp.Facts) (hMlpIdeal : Cert.MlpIdeal.Facts) (hMlpRefIdeal : Cert.MlpRefIdeal.Facts) (hMla : Cert.Mla.Facts) (hMlaIdeal : Cert.MlaIdeal.Facts) (hMlaRefIdeal : Cert.MlaRefIdeal.Facts) (hInp : Cert.Inp.Facts) (hInpIdeal : Cert.InpIdeal.Facts) (hInpRefIdeal : Cert.InpRefIdeal.Facts) (hMerge : Cert.Merge.Facts) (hMergeIdeal : Cert.MergeIdeal.Facts) (hMergeRefIdeal : Cert.MergeRefIdeal.Facts) (hLat : Cert.Lat.Facts) (hLatIdeal : Cert.LatIdeal.Facts) (hLatRefIdeal : Cert.LatRefIdeal.Facts) (hJoin : Cert.Join.Facts) (hJoinIdeal : Cert.JoinIdeal.Facts) (hJoinRefIdeal : Cert.JoinRefIdeal.Facts) (hSwa : Cert.Swa.Facts) (hSwaIdeal : Cert.SwaIdeal.Facts) (hSwaRefIdeal : Cert.SwaRefIdeal.Facts) (hPre_finite : Cert.Pre_finite.Facts) (hPre_finite_mla : Cert.Pre_finite_mla.Facts) (hPre_finite_inp : Cert.Pre_finite_inp.Facts) (hPre_finite_merge : Cert.Pre_finite_merge.Facts) (hPre_finite_lat : Cert.Pre_finite_lat.Facts) (hPre_finite_join : Cert.Pre_finite_join.Facts),
    quiescent_Mlp (hMlp := hMlp)
    ∧ quiescent_MlpIdeal (hMlpIdeal := hMlpIdeal)
    ∧ quiescent_MlpIdeal_pre_finite (hMlpIdeal := hMlpIdeal) (hPre_finite := hPre_finite)
    ∧ quiescent_MlpRefIdeal (hMlpRefIdeal := hMlpRefIdeal)
    ∧ quiescent_MlpRefIdeal_pre_finite (hMlpRefIdeal := hMlpRefIdeal) (hPre_finite := hPre_finite)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_Inp (hInp := hInp)
    ∧ quiescent_InpIdeal (hInpIdeal := hInpIdeal)
    ∧ quiescent_InpIdeal_pre_finite_inp (hInpIdeal := hInpIdeal) (hPre_finite_inp := hPre_finite_inp)
    ∧ quiescent_InpRefIdeal (hInpRefIdeal := hInpRefIdeal)
    ∧ quiescent_InpRefIdeal_pre_finite_inp (hInpRefIdeal := hInpRefIdeal) (hPre_finite_inp := hPre_finite_inp)
    ∧ quiescent_Merge (hMerge := hMerge)
    ∧ quiescent_MergeIdeal (hMergeIdeal := hMergeIdeal)
    ∧ quiescent_MergeIdeal_pre_finite_merge (hMergeIdeal := hMergeIdeal) (hPre_finite_merge := hPre_finite_merge)
    ∧ quiescent_MergeRefIdeal (hMergeRefIdeal := hMergeRefIdeal)
    ∧ quiescent_MergeRefIdeal_pre_finite_merge (hMergeRefIdeal := hMergeRefIdeal) (hPre_finite_merge := hPre_finite_merge)
    ∧ quiescent_Lat (hLat := hLat)
    ∧ quiescent_LatIdeal (hLatIdeal := hLatIdeal)
    ∧ quiescent_LatIdeal_pre_finite_lat (hLatIdeal := hLatIdeal) (hPre_finite_lat := hPre_finite_lat)
    ∧ quiescent_LatRefIdeal (hLatRefIdeal := hLatRefIdeal)
    ∧ quiescent_LatRefIdeal_pre_finite_lat (hLatRefIdeal := hLatRefIdeal) (hPre_finite_lat := hPre_finite_lat)
    ∧ quiescent_Join (hJoin := hJoin)
    ∧ quiescent_JoinIdeal (hJoinIdeal := hJoinIdeal)
    ∧ quiescent_JoinIdeal_pre_finite_join (hJoinIdeal := hJoinIdeal) (hPre_finite_join := hPre_finite_join)
    ∧ quiescent_JoinRefIdeal (hJoinRefIdeal := hJoinRefIdeal)
    ∧ quiescent_JoinRefIdeal_pre_finite_join (hJoinRefIdeal := hJoinRefIdeal) (hPre_finite_join := hPre_finite_join)
    ∧ quiescent_Swa (hSwa := hSwa)
    ∧ quiescent_SwaIdeal (hSwaIdeal := hSwaIdeal)
    ∧ quiescent_SwaRefIdeal (hSwaRefIdeal := hSwaRefIdeal)
    ∧ preserves_Mlp_MlpIdeal
    ∧ algebraic_MlpIdeal_MlpRefIdeal_pre_finite (hMlpIdeal := hMlpIdeal) (hMlpRefIdeal := hMlpRefIdeal) (hPre_finite := hPre_finite)
    ∧ preserves_Mla_MlaIdeal
    ∧ algebraic_MlaIdeal_MlaRefIdeal_pre_finite_mla (hMlaIdeal := hMlaIdeal) (hMlaRefIdeal := hMlaRefIdeal) (hPre_finite_mla := hPre_finite_mla)
    ∧ preserves_Inp_InpIdeal
    ∧ algebraic_InpIdeal_InpRefIdeal_pre_finite_inp (hInpIdeal := hInpIdeal) (hInpRefIdeal := hInpRefIdeal) (hPre_finite_inp := hPre_finite_inp)
    ∧ preserves_Merge_MergeIdeal
    ∧ algebraic_MergeIdeal_MergeRefIdeal_pre_finite_merge (hMergeIdeal := hMergeIdeal) (hMergeRefIdeal := hMergeRefIdeal) (hPre_finite_merge := hPre_finite_merge)
    ∧ preserves_Lat_LatIdeal
    ∧ algebraic_LatIdeal_LatRefIdeal_pre_finite_lat (hLatIdeal := hLatIdeal) (hLatRefIdeal := hLatRefIdeal) (hPre_finite_lat := hPre_finite_lat)
    ∧ preserves_Join_JoinIdeal
    ∧ algebraic_JoinIdeal_JoinRefIdeal_pre_finite_join (hJoinIdeal := hJoinIdeal) (hJoinRefIdeal := hJoinRefIdeal) (hPre_finite_join := hPre_finite_join)
    ∧ preserves_Swa_SwaIdeal
-- ==== Pre_finite.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1024x4096 .f32) (main_arg3 : FVec F S4096x1024 .f32) (main_arg4 : FVec F S1x1024 .f32) (main_arg5 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Pre_finite_inp.lean ====
abbrev S8192x1024 : Shape := ⟨2, ![8192, 1024]⟩
abbrev S1x1024 : Shape := ⟨2, ![1, 1024]⟩
abbrev S1024x3232 : Shape := ⟨2, ![1024, 3232]⟩
abbrev S8192x3232 : Shape := ⟨2, ![8192, 3232]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3232 : S_.BroadcastsInDim S1024x3232 (![] : Fin 0 → Fin S1024x3232.rank)
  reducesTo_S1024x3232_S_d0_1 : S1024x3232.ReducesTo [0, 1] S_
  bcast_S_S8192x3232 : S_.BroadcastsInDim S8192x3232 (![] : Fin 0 → Fin S8192x3232.rank)
  reducesTo_S8192x3232_S_d0_1 : S8192x3232.ReducesTo [0, 1] S_

variable [Facts]

def fn_part1 {F : FTy → Type} [FloatOps F] (main_arg4 : FVec F S8192x3232 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x3232 .f32 := Host.absf main_arg4
  let main_cst_6 : FVec F S_ .f32 := constant S_ .f32 0x7F800000#32
  let main_v20 : FVec F S8192x3232 .f32 := broadcastInDim S8192x3232 ![] bcast_S_S8192x3232 main_cst_6
  let main_v21 : IVec S8192x3232 1 := cmpf .olt main_v19 main_v20
  let main_c_7 : IVec S_ 1 := constantI S_ 1 1#1
  let main_v22 : IVec S_ 1 := (fun x v => Host.reduce IntOp.andi x v reducesTo_S8192x3232_S_d0_1 h_S_) main_v21 main_c_7
  let main_v23 : IVec S_ 1 := andi main_v18 main_v22
  main_v23

def fn {F : FTy → Type} [FloatOps F] (main_arg0 : FVec F S8192x1024 .f32) (main_arg1 : FVec F S1x1024 .f32) (main_arg2 : FVec F S1024x3232 .f32) (main_arg3 : FVec F S8192x1024 .f32) (main_arg4 : FVec F S8192x3232 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x3232 .f32 := Host.absf main_arg2
  let main_cst_2 : FVec F S_ .f32 := constant S_ .f32 0x7F800000#32
  let main_v10 : FVec F S1024x3232 .f32 := broadcastInDim S1024x3232 ![] bcast_S_S1024x3232 main_cst_2
  let main_v11 : IVec S1024x3232 1 := cmpf .olt main_v9 main_v10
  let main_c_3 : IVec S_ 1 := constantI S_ 1 1#1
  let main_v12 : IVec S_ 1 := (fun x v => Host.reduce IntOp.andi x v reducesTo_S1024x3232_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Pre_finite_join.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1024x1024 .f32) (main_arg8 : FVec F S1x1024 .f32) (main_arg9 : FVec F S1x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  main_v48

def fn_part1 {F : FTy → Type} [FloatOps F] (main_arg4 : FVec F S8192x1024 .f32) (main_arg5 : FVec F S512x1024 .f32) (main_arg6 : FVec F S512x1024 .f32) (main_arg7 : FVec F S1024x1024 .f32) (main_arg8 : FVec F S1x1024 .f32) (main_arg9 : FVec F S1x1024 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x1024 .f32) (main_arg2 : FVec F S8192x512 .f32) (main_arg3 : FVec F S8192x512 .f32) (main_arg4 : FVec F S8192x1024 .f32) (main_arg5 : FVec F S512x1024 .f32) (main_arg6 : FVec F S512x1024 .f32) (main_arg7 : FVec F S1024x1024 .f32) (main_arg8 : FVec F S1x1024 .f32) (main_arg9 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_arg8 main_arg9 main_v13 main_v16
-- ==== Pre_finite_lat.lean ====
abbrev S8192x256 : Shape := ⟨2, ![8192, 256]⟩
abbrev S8192x128 : Shape := ⟨2, ![8192, 128]⟩
abbrev S8192x32 : Shape := ⟨2, ![8192, 32]⟩
abbrev S8192 : Shape := ⟨1, ![8192]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S8192x768 : Shape := ⟨2, ![8192, 768]⟩
abbrev S8192x512 : Shape := ⟨2, ![8192, 512]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S1x256 : S_.BroadcastsInDim S1x256 (![] : Fin 0 → Fin S1x256.rank)
  reducesTo_S1x256_S_d0_1 : S1x256.ReducesTo [0, 1] S_
  bcast_S_S1x128 : S_.BroadcastsInDim S1x128 (![] : Fin 0 → Fin S1x128.rank)
  reducesTo_S1x128_S_d0_1 : S1x128.ReducesTo [0, 1] S_
  bcast_S_S256x768 : S_.BroadcastsInDim S256x768 (![] : Fin 0 → Fin S256x768.rank)
  reducesTo_S256x768_S_d0_1 : S256x768.ReducesTo [0, 1] S_
  bcast_S_S128x1024 : S_.BroadcastsInDim S128x1024 (![] : Fin 0 → Fin S128x1024.rank)
  reducesTo_S128x1024_S_d0_1 : S128x1024.ReducesTo [0, 1] S_
  bcast_S_S8192x768 : S_.BroadcastsInDim S8192x768 (![] : Fin 0 → Fin S8192x768.rank)
  reducesTo_S8192x768_S_d0_1 : S8192x768.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part2 {F : FTy → Type} [FloatOps F] (main_arg9 : FVec F S8192x768 .f32) (main_arg10 : FVec F S8192x512 .f32) (main_v33 : IVec S_ 1) : IVec S_ 1 :=
  let main_v34 : FVec F S8192x768 .f32 := Host.absf main_arg9
  let main_cst_12 : FVec F S_ .f32 := constant S_ .f32 0x7F800000#32
  let main_v35 : FVec F S8192x768 .f32 := broadcastInDim S8192x768 ![] bcast_S_S8192x768 main_cst_12
  let main_v36 : IVec S8192x768 1 := cmpf .olt main_v34 main_v35
  let main_c_13 : IVec S_ 1 := constantI S_ 1 1#1
  let main_v37 : IVec S_ 1 := (fun x v => Host.reduce IntOp.andi x v reducesTo_S8192x768_S_d0_1 h_S_) main_v36 main_c_13
  let main_v38 : IVec S_ 1 := andi main_v33 main_v37
  let main_v39 : FVec F S8192x512 .f32 := Host.absf main_arg10
  let main_cst_14 : FVec F S_ .f32 := constant S_ .f32 0x7F800000#32
  let main_v40 : FVec F S8192x512 .f32 := broadcastInDim S8192x512 ![] bcast_S_S8192x512 main_cst_14
  let main_v41 : IVec S8192x512 1 := cmpf .olt main_v39 main_v40
  let main_c_15 : IVec S_ 1 := constantI S_ 1 1#1
  let main_v42 : IVec S_ 1 := (fun x v => Host.reduce IntOp.andi x v reducesTo_S8192x512_S_d0_1 h_S_) main_v41 main_c_15
  let main_v43 : IVec S_ 1 := andi main_v38 main_v42
  main_v43

def fn_part1 {F : FTy → Type} [FloatOps F] (main_arg6 : FVec F S256x768 .f32) (main_arg7 : FVec F S128x1024 .f32) (main_arg8 : FVec F S8192x768 .f32) (main_arg9 : FVec F S8192x768 .f32) (main_arg10 : FVec F S8192x512 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S256x768 .f32 := Host.absf main_arg6
  let main_cst_6 : FVec F S_ .f32 := constant S_ .f32 0x7F800000#32
  let main_v20 : FVec F S256x768 .f32 := broadcastInDim S256x768 ![] bcast_S_S256x768 main_cst_6
  let main_v21 : IVec S256x768 1 := cmpf .olt main_v19 main_v20
  let main_c_7 : IVec S_ 1 := constantI S_ 1 1#1
  let main_v22 : IVec S_ 1 := (fun x v => Host.reduce IntOp.andi x v reducesTo_S256x768_S_d0_1 h_S_) main_v21 main_c_7
  let main_v23 : IVec S_ 1 := andi main_v18 main_v22
  let main_v24 : FVec F S128x1024 .f32 := Host.absf main_arg7
  let main_cst_8 : FVec F S_ .f32 := constant S_ .f32 0x7F800000#32
  let main_v25 : FVec F S128x1024 .f32 := broadcastInDim S128x1024 ![] bcast_S_S128x1024 main_cst_8
  let main_v26 : IVec S128x1024 1 := cmpf .olt main_v24 main_v25
  let main_c_9 : IVec S_ 1 := constantI S_ 1 1#1
  let main_v27 : IVec S_ 1 := (fun x v => Host.reduce IntOp.andi x v reducesTo_S128x1024_S_d0_1 h_S_) main_v26 main_c_9
  let main_v28 : IVec S_ 1 := andi main_v23 main_v27
  let main_v29 : FVec F S8192x768 .f32 := Host.absf main_arg8
  let main_cst_10 : FVec F S_ .f32 := constant S_ .f32 0x7F800000#32
  let main_v30 : FVec F S8192x768 .f32 := broadcastInDim S8192x768 ![] bcast_S_S8192x768 main_cst_10
  let main_v31 : IVec S8192x768 1 := cmpf .olt main_v29 main_v30
  let main_c_11 : IVec S_ 1 := constantI S_ 1 1#1
  let main_v32 : IVec S_ 1 := (fun x v => Host.reduce IntOp.andi x v reducesTo_S8192x768_S_d0_1 h_S_) main_v31 main_c_11
  let main_v33 : IVec S_ 1 := andi main_v28 main_v32
  fn_part2 (F := F) main_arg9 main_arg10 main_v33

def fn {F : FTy → Type} [FloatOps F] (main_arg0 : FVec F S8192x256 .f32) (main_arg1 : FVec F S8192x128 .f32) (main_arg2 : FVec F S8192x32 .f32) (main_arg3 : IVec S8192 32) (main_arg4 : FVec F S1x256 .f32) (main_arg5 : FVec F S1x128 .f32) (main_arg6 : FVec F S256x768 .f32) (main_arg7 : FVec F S128x1024 .f32) (main_arg8 : FVec F S8192x768 .f32) (main_arg9 : FVec F S8192x768 .f32) (main_arg10 : FVec F S8192x512 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S1x256 .f32 := Host.absf main_arg4
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg6 main_arg7 main_arg8 main_arg9 main_arg10 main_v13 main_v16
-- ==== Pre_finite_merge.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_arg8 : FVec F S8192x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S8192x1024 .f32 := Host.absf main_arg8
  let main_cst_14 : FVec F S_ .f32 := constant S_ .f32 0x7F800000#32
  let main_v40 : FVec F S8192x1024 .f32 := broadcastInDim S8192x1024 ![] bcast_S_S8192x1024 main_cst_14
  let main_v41 : IVec S8192x1024 1 := cmpf .olt main_v39 main_v40
  let main_c_15 : IVec S_ 1 := constantI S_ 1 1#1
  let main_v42 : IVec S_ 1 := (fun x v => Host.reduce IntOp.andi x v reducesTo_S8192x1024_S_d0_1 h_S_) main_v41 main_c_15
  let main_v43 : IVec S_ 1 := andi main_v38 main_v42
  main_v43

def fn_part1 {F : FTy → Type} [FloatOps F] (main_arg4 : FVec F S512x1024 .f32) (main_arg5 : FVec F S512x1024 .f32) (main_arg6 : FVec F S1024x1024 .f32) (main_arg7 : FVec F S1x1024 .f32) (main_arg8 : FVec F S8192x1024 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x1024 .f32) (main_arg2 : FVec F S8192x512 .f32) (main_arg3 : FVec F S8192x512 .f32) (main_arg4 : FVec F S512x1024 .f32) (main_arg5 : FVec F S512x1024 .f32) (main_arg6 : FVec F S1024x1024 .f32) (main_arg7 : FVec F S1x1024 .f32) (main_arg8 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_arg8 main_v13 main_v16
-- ==== Pre_finite_mla.lean ====
abbrev S1x8192x8x64 : Shape := ⟨4, ![1, 8192, 8, 64]⟩
abbrev S1x8192x8x32 : Shape := ⟨4, ![1, 8192, 8, 32]⟩
abbrev S1x8192x32 : Shape := ⟨3, ![1, 8192, 32]⟩
abbrev S_ : Shape := ⟨0, ![]⟩

class Facts : Prop where
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_
  h_S_ : 0 < S_.numel
  bcast_S_S1x8192x8x32 : S_.BroadcastsInDim S1x8192x8x32 (![] : Fin 0 → Fin S1x8192x8x32.rank)
  reducesTo_S1x8192x8x32_S_d0_1_2_3 : S1x8192x8x32.ReducesTo [0, 1, 2, 3] S_
  bcast_S_S1x8192x32 : S_.BroadcastsInDim S1x8192x32 (![] : Fin 0 → Fin S1x8192x32.rank)
  reducesTo_S1x8192x32_S_d0_1_2 : S1x8192x32.ReducesTo [0, 1, 2] S_

variable [Facts]

def fn_part1 {F : FTy → Type} [FloatOps F] (main_arg4 : FVec F S1x8192x8x64 .f32) (main_arg5 : FVec F S1x8192x8x64 .f32) (main_v13 : IVec S_ 1) (main_v16 : IVec S1x8192x32 1) : IVec S_ 1 :=
  let main_c_5 : IVec S_ 1 := constantI S_ 1 1#1
  let main_v17 : IVec S_ 1 := (fun x v => Host.reduce IntOp.andi x v reducesTo_S1x8192x32_S_d0_1_2 h_S_) main_v16 main_c_5
  let main_v18 : IVec S_ 1 := andi main_v13 main_v17
  let main_v19 : FVec F S1x8192x8x64 .f32 := Host.absf main_arg4
  let main_cst_6 : FVec F S_ .f32 := constant S_ .f32 0x7F800000#32
  let main_v20 : FVec F S1x8192x8x64 .f32 := broadcastInDim S1x8192x8x64 ![] bcast_S_S1x8192x8x64 main_cst_6
  let main_v21 : IVec S1x8192x8x64 1 := cmpf .olt main_v19 main_v20
  let main_c_7 : IVec S_ 1 := constantI S_ 1 1#1
  let main_v22 : IVec S_ 1 := (fun x v => Host.reduce IntOp.andi x v reducesTo_S1x8192x8x64_S_d0_1_2_3 h_S_) main_v21 main_c_7
  let main_v23 : IVec S_ 1 := andi main_v18 main_v22
  let main_v24 : FVec F S1x8192x8x64 .f32 := Host.absf main_arg5
  let main_cst_8 : FVec F S_ .f32 := constant S_ .f32 0x7F800000#32
  let main_v25 : FVec F S1x8192x8x64 .f32 := broadcastInDim S1x8192x8x64 ![] bcast_S_S1x8192x8x64 main_cst_8
  let main_v26 : IVec S1x8192x8x64 1 := cmpf .olt main_v24 main_v25
  let main_c_9 : IVec S_ 1 := constantI S_ 1 1#1
  let main_v27 : IVec S_ 1 := (fun x v => Host.reduce IntOp.andi x v reducesTo_S1x8192x8x64_S_d0_1_2_3 h_S_) main_v26 main_c_9
  let main_v28 : IVec S_ 1 := andi main_v23 main_v27
  main_v28

def fn {F : FTy → Type} [FloatOps F] (main_arg0 : FVec F S1x8192x8x64 .f32) (main_arg1 : FVec F S1x8192x8x32 .f32) (main_arg2 : FVec F S1x8192x8x64 .f32) (main_arg3 : FVec F S1x8192x32 .f32) (main_arg4 : FVec F S1x8192x8x64 .f32) (main_arg5 : FVec F S1x8192x8x64 .f32) : IVec S_ 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_c : IVec S_ 1 := constantI S_ 1 1#1
  let main_v3 : IVec S_ 1 := (fun x v => Host.reduce IntOp.andi x v reducesTo_S1x8192x8x64_S_d0_1_2_3 h_S_) main_v2 main_c
  let main_v4 : FVec F S1x8192x8x32 .f32 := Host.absf main_arg1
  let main_cst_0 : FVec F S_ .f32 := constant S_ .f32 0x7F800000#32
  let main_v5 : FVec F S1x8192x8x32 .f32 := broadcastInDim S1x8192x8x32 ![] bcast_S_S1x8192x8x32 main_cst_0
  let main_v6 : IVec S1x8192x8x32 1 := cmpf .olt main_v4 main_v5
  let main_c_1 : IVec S_ 1 := constantI S_ 1 1#1
  let main_v7 : IVec S_ 1 := (fun x v => Host.reduce IntOp.andi x v reducesTo_S1x8192x8x32_S_d0_1_2_3 h_S_) main_v6 main_c_1
  let main_v8 : IVec S_ 1 := andi main_v3 main_v7
  let main_v9 : FVec F S1x8192x8x64 .f32 := Host.absf main_arg2
  let main_cst_2 : FVec F S_ .f32 := constant S_ .f32 0x7F800000#32
  let main_v10 : FVec F S1x8192x8x64 .f32 := broadcastInDim S1x8192x8x64 ![] bcast_S_S1x8192x8x64 main_cst_2
  let main_v11 : IVec S1x8192x8x64 1 := cmpf .olt main_v9 main_v10
  let main_c_3 : IVec S_ 1 := constantI S_ 1 1#1
  let main_v12 : IVec S_ 1 := (fun x v => Host.reduce IntOp.andi x v reducesTo_S1x8192x8x64_S_d0_1_2_3 h_S_) main_v11 main_c_3
  let main_v13 : IVec S_ 1 := andi main_v8 main_v12
  let main_v14 : FVec F S1x8192x32 .f32 := Host.absf main_arg3
  let main_cst_4 : FVec F S_ .f32 := constant S_ .f32 0x7F800000#32
  let main_v15 : FVec F S1x8192x32 .f32 := broadcastInDim S1x8192x32 ![] bcast_S_S1x8192x32 main_cst_4
  let main_v16 : IVec S1x8192x32 1 := cmpf .olt main_v14 main_v15
  fn_part1 (F := F) main_arg4 main_arg5 main_v13 main_v16
-- ==== Mlp.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8x512 : Shape := ⟨3, ![1024, 8, 512]⟩
abbrev S8x1024x512 : Shape := ⟨3, ![8, 1024, 512]⟩
abbrev S8192x4096 : Shape := ⟨2, ![8192, 4096]⟩
abbrev S1x128 : Shape := ⟨2, ![1, 128]⟩
abbrev S256x1024 : Shape := ⟨2, ![256, 1024]⟩
abbrev S256x4096 : Shape := ⟨2, ![256, 4096]⟩
abbrev S1x1024x512 : Shape := ⟨3, ![1, 1024, 512]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S128 : Shape := ⟨1, ![128]⟩
abbrev S1024 : Shape := ⟨1, ![1024]⟩

abbrev nBuf : Space → Nat
  | .hbm => 33
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S1024x4096, .bf16⟩
  | .hbm, ⟨23, _⟩ => ⟨S1024x8x512, .bf16⟩
  | .hbm, ⟨24, _⟩ => ⟨S8x1024x512, .bf16⟩
  | .hbm, ⟨25, _⟩ => ⟨S4096x1024, .bf16⟩
  | .hbm, ⟨26, _⟩ => ⟨S8192x4096, .bf16⟩
  | .hbm, ⟨27, _⟩ => ⟨S8192x4096, .bf16⟩
  | .hbm, ⟨28, _⟩ => ⟨S8192x1024, .bf16⟩
  | .hbm, ⟨29, _⟩ => ⟨S8192x1024, .f32⟩
  | .hbm, ⟨30, _⟩ => ⟨S1x128, .f32⟩
  | .hbm, ⟨31, _⟩ => ⟨S1x1024, .f32⟩
  | .hbm, ⟨32, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S8x1024x512, .bf16⟩
  | .local _ .vmem, ⟨7, _⟩ => ⟨S4096x1024, .bf16⟩
  | .local _ .vmem, ⟨8, _⟩ => ⟨S1x1024, .f32⟩
  | .local _ .vmem, ⟨9, _⟩ => ⟨S1x1024, .f32⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S1x128, .f32⟩
  | .local _ .vmem, ⟨19, _⟩ => ⟨S1x1024, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev main_v17_5 : Ref sig .tc := ⟨.hbm, 31, rfl⟩
abbrev main_v17_6 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlpRefIdeal.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 145
  | .vmem => 0
  | .smem => 0
  | _ => 0

abbrev hbmTy0_0 (i : Nat) : BufTy := match i % 128 with
  | 0 => ⟨S8192x1024, .f32⟩
  | 1 => ⟨S8192x1024, .f32⟩
  | 2 => ⟨S1024x4096, .f32⟩
  | 3 => ⟨S4096x1024, .f32⟩
  | 4 => ⟨S1x1024, .f32⟩
  | 5 => ⟨S1x1024, .f32⟩
  | 6 => ⟨S_, .f32⟩
  | 7 => ⟨S8192x4096, .f32⟩
  | 8 => ⟨S_, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S8192x1024, .f32⟩
  | 29 => ⟨S8192x4096, .f32⟩
  | 30 => ⟨S8192x4096, .f32⟩
  | 31 => ⟨S_, .f32⟩
  | 32 => ⟨S8192x4096, .f32⟩
  | 33 => ⟨S8192x4096, .f32⟩
  | 34 => ⟨S_, .f32⟩
  | 35 => ⟨S8192x4096, .f32⟩
  | 36 => ⟨S8192x4096, .i1⟩
  | 37 => ⟨S_, .f32⟩
  | 38 => ⟨S8192x4096, .f32⟩
  | 39 => ⟨S8192x4096, .f32⟩
  | 40 => ⟨S_, .f32⟩
  | 41 => ⟨S8192x4096, .f32⟩
  | 42 => ⟨S8192x4096, .f32⟩
  | 43 => ⟨S8192x1024, .f32⟩
  | 44 => ⟨S8192x1024, .f32⟩
  | 45 => ⟨S8192x1024, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192, .f32⟩
  | 72 => ⟨S_, .f32⟩
  | 73 => ⟨S8192, .f32⟩
  | 74 => ⟨S8192, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S8192, .f32⟩
  | 83 => ⟨S_, .f32⟩
  | 84 => ⟨S8192, .f32⟩
  | 85 => ⟨S8192, .f32⟩
  | 86 => ⟨S8192x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S8192x1024, .f32⟩
  | 95 => ⟨S_, .f32⟩
  | 96 => ⟨S8192, .f32⟩
  | 97 => ⟨S8192x1, .f32⟩
  | 98 => ⟨S8192x1024, .f32⟩
  | 99 => ⟨S8192x1024, .f32⟩
  | 100 => ⟨S8192x1, .f32⟩
  | 101 => ⟨S_, .f32⟩
  | 102 => ⟨S8192x1, .f32⟩
  | 103 => ⟨S8192x1, .f32⟩
  | 104 => ⟨S_, .f32⟩
  | 105 => ⟨S8192, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x4096, .f32⟩
  | 112 => ⟨S8192x4096, .f32⟩
  | 113 => ⟨S_, .f32⟩
  | 114 => ⟨S8192x4096, .f32⟩
  | 115 => ⟨S8192x4096, .f32⟩
  | 116 => ⟨S8192x1024, .f32⟩
  | 117 => ⟨S8192x1024, .f32⟩
  | 118 => ⟨S_, .f32⟩
  | 119 => ⟨S1024, .f32⟩
  | 120 => ⟨S1x1024, .f32⟩
  | 121 => ⟨S8192x1024, .f32⟩
  | 122 => ⟨S8192x1024, .f32⟩
  | 123 => ⟨S8192x1024, .f32⟩
  | 124 => ⟨S_, .f32⟩
  | 125 => ⟨S8192, .f32⟩
  | 126 => ⟨S8192x1, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x4096, .bf16⟩
  | 14 => ⟨S8192x4096, .bf16⟩
  | 15 => ⟨S8192x1024, .bf16⟩
  | 16 => ⟨S1x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_cst_14 : Ref sig .tc := ⟨.hbm, 72, rfl⟩
abbrev main_v49 : Ref sig .tc := ⟨.hbm, 73, rfl⟩
abbrev main_v50 : Ref sig .tc := ⟨.hbm, 74, rfl⟩
abbrev main_cst_15 : Ref sig .tc := ⟨.hbm, 75, rfl⟩
abbrev main_v51 : Ref sig .tc := ⟨.hbm, 76, rfl⟩
abbrev main_cst_16 : Ref sig .tc := ⟨.hbm, 77, rfl⟩
abbrev main_v52 : Ref sig .tc := ⟨.hbm, 78, rfl⟩
abbrev main_cst_17 : Ref sig .tc := ⟨.hbm, 79, rfl⟩
abbrev main_cst_18 : Ref sig .tc := ⟨.hbm, 80, rfl⟩
abbrev main_v53 : Ref sig .tc := ⟨.hbm, 81, rfl⟩
abbrev main_v54 : Ref sig .tc := ⟨.hbm, 82, rfl⟩
abbrev main_cst_19 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_20 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_21 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_22 : Ref sig .tc := ⟨.hbm, 101, rfl⟩
abbrev main_v70 : Ref sig .tc := ⟨.hbm, 102, rfl⟩
abbrev main_v71 : Ref sig .tc := ⟨.hbm, 103, rfl⟩
abbrev main_cst_23 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_24 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_25 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_26 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_27 : Ref sig .tc := ⟨.hbm, 131, rfl⟩
abbrev main_v95 : Ref sig .tc := ⟨.hbm, 132, rfl⟩
abbrev main_v96 : Ref sig .tc := ⟨.hbm, 133, rfl⟩
abbrev main_cst_28 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩

abbrev nD : Nat := 1
abbrev τ : Topo := Topo.v7x

variable {F : FTy → Type} [FloatOps F]
-- ==== Mla.lean ====
abbrev S1x8192x8x64 : Shape := ⟨4, ![1, 8192, 8, 64]⟩
abbrev S1x8192x8x32 : Shape := ⟨4, ![1, 8192, 8, 32]⟩
abbrev S1x8192x32 : Shape := ⟨3, ![1, 8192, 32]⟩
abbrev S72 : Shape := ⟨1, ![72]⟩
abbrev S8192x8x64 : Shape := ⟨3, ![8192, 8, 64]⟩
abbrev S8192x32 : Shape := ⟨2, ![8192, 32]⟩
abbrev S8192x1x32 : Shape := ⟨3, ![8192, 1, 32]⟩
abbrev S8192x8x32 : Shape := ⟨3, ![8192, 8, 32]⟩
abbrev S8192x8x96 : Shape := ⟨3, ![8192, 8, 96]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x8192x64 : Shape := ⟨3, ![8, 8192, 64]⟩
abbrev S8x96x8192 : Shape := ⟨3, ![8, 96, 8192]⟩
abbrev S8x1x8192 : Shape := ⟨3, ![8, 1, 8192]⟩
abbrev S8x30x8192 : Shape := ⟨3, ![8, 30, 8192]⟩
abbrev S8x128x8192 : Shape := ⟨3, ![8, 128, 8192]⟩
abbrev S1024x8192 : Shape := ⟨2, ![1024, 8192]⟩
abbrev S8x64x8192 : Shape := ⟨3, ![8, 64, 8192]⟩
abbrev S8x62x8192 : Shape := ⟨3, ![8, 62, 8192]⟩
abbrev S8192x8x2 : Shape := ⟨3, ![8192, 8, 2]⟩
abbrev S8192x8x30 : Shape := ⟨3, ![8192, 8, 30]⟩
abbrev S8192x8x128 : Shape := ⟨3, ![8192, 8, 128]⟩
abbrev S8192x1024 : Shape := ⟨2, ![8192, 1024]⟩
abbrev S8192x8x62 : Shape := ⟨3, ![8192, 8, 62]⟩
abbrev S512x1024 : Shape := ⟨2, ![512, 1024]⟩
abbrev S1 : Shape := ⟨1, ![1]⟩
abbrev S512x512 : Shape := ⟨2, ![512, 512]⟩
abbrev S512x8192 : Shape := ⟨2, ![512, 8192]⟩
abbrev S512x128 : Shape := ⟨2, ![512, 128]⟩
abbrev S128x1024 : Shape := ⟨2, ![128, 1024]⟩
abbrev S64x1024 : Shape := ⟨2, ![64, 1024]⟩
abbrev S64x512 : Shape := ⟨2, ![64, 512]⟩
abbrev S96x1024 : Shape := ⟨2, ![96, 1024]⟩
abbrev S96x512 : Shape := ⟨2, ![96, 512]⟩
abbrev S128x512 : Shape := ⟨2, ![128, 512]⟩
abbrev S32x512 : Shape := ⟨2, ![32, 512]⟩

abbrev nBuf : Space → Nat
  | .hbm => 112
  | .vmem => 18
  | .smem => 2
  | _ => 0

abbrev bufTy : (tb : Table) → Fin (tcTables nBuf tb) → BufTy
  | .hbm, ⟨0, _⟩ => ⟨S1x8192x8x64, .f32⟩
  | .hbm, ⟨1, _⟩ => ⟨S1x8192x8x32, .f32⟩
  | .hbm, ⟨2, _⟩ => ⟨S1x8192x8x64, .f32⟩
  | .hbm, ⟨3, _⟩ => ⟨S1x8192x32, .f32⟩
  | .hbm, ⟨4, _⟩ => ⟨S1x8192x8x64, .f32⟩
  | .hbm, ⟨5, _⟩ => ⟨S1x8192x8x64, .f32⟩
  | .hbm, ⟨6, _⟩ => ⟨S8192x8x64, .f32⟩
  | .hbm, ⟨7, _⟩ => ⟨S8192x32, .f32⟩
  | .hbm, ⟨8, _⟩ => ⟨S8192x1x32, .f32⟩
  | .hbm, ⟨9, _⟩ => ⟨S8192x8x32, .f32⟩
  | .hbm, ⟨10, _⟩ => ⟨S8192x8x96, .f32⟩
  | .hbm, ⟨11, _⟩ => ⟨S8192x8x64, .f32⟩
  | .hbm, ⟨12, _⟩ => ⟨S8192x8x32, .f32⟩
  | .hbm, ⟨13, _⟩ => ⟨S8192x8x96, .f32⟩
  | .hbm, ⟨14, _⟩ => ⟨S8x8192x8192, .f32⟩
  | .hbm, ⟨15, _⟩ => ⟨S_, .f32⟩
  | .hbm, ⟨16, _⟩ => ⟨S8x8192x8192, .f32⟩
  | .hbm, ⟨17, _⟩ => ⟨S8x8192x8192, .f32⟩
  | .hbm, ⟨18, _⟩ => ⟨S8192, .i32⟩
  | .hbm, ⟨19, _⟩ => ⟨S1x8192, .i32⟩
  | .hbm, ⟨20, _⟩ => ⟨S8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8192x8x64, .f32⟩
  | .hbm, ⟨39, _⟩ => ⟨S8x8192x64, .f32⟩
  | .hbm, ⟨40, _⟩ => ⟨S8x8192x1, .f32⟩
  | .hbm, ⟨41, _⟩ => ⟨S8x8192x64, .f32⟩
  | .hbm, ⟨42, _⟩ => ⟨S8x8192x64, .f32⟩
  | .hbm, ⟨43, _⟩ => ⟨S_, .f32⟩
  | .hbm, ⟨44, _⟩ => ⟨S_, .f32⟩
  | .hbm, ⟨45, _⟩ => ⟨S8x8192, .f32⟩
  | .hbm, ⟨46, _⟩ => ⟨S8x8192, .f32⟩
  | .hbm, ⟨47, _⟩ => ⟨S8x8192, .f32⟩
  | .hbm, ⟨48, _⟩ => ⟨S8x8192, .f32⟩
  | .hbm, ⟨49, _⟩ => ⟨S8192x8x64, .f32⟩
  | .hbm, ⟨50, _⟩ => ⟨S8x8192x64, .f32⟩
  | .hbm, ⟨51, _⟩ => ⟨S8x8192x64, .f32⟩
  | .hbm, ⟨52, _⟩ => ⟨S_, .f32⟩
  | .hbm, ⟨53, _⟩ => ⟨S8x8192, .f32⟩
  | .hbm, ⟨54, _⟩ => ⟨S8x96x8192, .f32⟩
  | .hbm, ⟨55, _⟩ => ⟨S_, .f32⟩
  | .hbm, ⟨56, _⟩ => ⟨S_, .f32⟩
  | .hbm, ⟨57, _⟩ => ⟨S8x96x8192, .f32⟩
  | .hbm, ⟨58, _⟩ => ⟨S8x96x8192, .f32⟩
  | .hbm, ⟨59, _⟩ => ⟨S8x8192, .bf16⟩
  | .hbm, ⟨60, _⟩ => ⟨S8x8192, .f32⟩
  | .hbm, ⟨61, _⟩ => ⟨S8x1x8192, .f32⟩
  | .hbm, ⟨62, _⟩ => ⟨S8x1x8192, .f32⟩
  | .hbm, ⟨63, _⟩ => ⟨S8x8192, .f32⟩
  | .hbm, ⟨64, _⟩ => ⟨S8x1x8192, .f32⟩
  | .hbm, ⟨65, _⟩ => ⟨S8x1x8192, .f32⟩
  | .hbm, ⟨66, _⟩ => ⟨S_, .f32⟩
  | .hbm, ⟨67, _⟩ => ⟨S8x30x8192, .f32⟩
  | .hbm, ⟨68, _⟩ => ⟨S8x128x8192, .f32⟩
  | .hbm, ⟨69, _⟩ => ⟨S1024x8192, .f32⟩
  | .hbm, ⟨70, _⟩ => ⟨S1024x8192, .bf16⟩
  | .hbm, ⟨71, _⟩ => ⟨S8192x8x64, .f32⟩
  | .hbm, ⟨72, _⟩ => ⟨S8x64x8192, .f32⟩
  | .hbm, ⟨73, _⟩ => ⟨S8x8192, .bf16⟩
  | .hbm, ⟨74, _⟩ => ⟨S8x8192, .f32⟩
  | .hbm, ⟨75, _⟩ => ⟨S8x1x8192, .f32⟩
  | .hbm, ⟨76, _⟩ => ⟨S8x1x8192, .f32⟩
  | .hbm, ⟨77, _⟩ => ⟨S8x8192, .f32⟩
  | .hbm, ⟨78, _⟩ => ⟨S8x1x8192, .f32⟩
  | .hbm, ⟨79, _⟩ => ⟨S8x1x8192, .f32⟩
  | .hbm, ⟨80, _⟩ => ⟨S_, .f32⟩
  | .hbm, ⟨81, _⟩ => ⟨S8x62x8192, .f32⟩
  | .hbm, ⟨82, _⟩ => ⟨S8x128x8192, .f32⟩
  | .hbm, ⟨83, _⟩ => ⟨S1024x8192, .f32⟩
  | .hbm, ⟨84, _⟩ => ⟨S1024x8192, .bf16⟩
  | .hbm, ⟨85, _⟩ => ⟨S_, .f32⟩
  | .hbm, ⟨86, _⟩ => ⟨S8192x8x2, .f32⟩
  | .hbm, ⟨87, _⟩ => ⟨S_, .f32⟩
  | .hbm, ⟨88, _⟩ => ⟨S8192x8x30, .f32⟩
  | .hbm, ⟨89, _⟩ => ⟨S8192x8x128, .f32⟩
  | .hbm, ⟨90, _⟩ => ⟨S8192x1024, .f32⟩
  | .hbm, ⟨91, _⟩ => ⟨S8192x1024, .bf16⟩
  | .hbm, ⟨92, _⟩ => ⟨S_, .f32⟩
  | .hbm, ⟨93, _⟩ => ⟨S8192x8x32, .f32⟩
  | .hbm, ⟨94, _⟩ => ⟨S8192x8x128, .f32⟩
  | .hbm, ⟨95, _⟩ => ⟨S8192x1024, .f32⟩
  | .hbm, ⟨96, _⟩ => ⟨S1024x8192, .f32⟩
  | .hbm, ⟨97, _⟩ => ⟨S1024x8192, .bf16⟩
  | .hbm, ⟨98, _⟩ => ⟨S8192x8x64, .f32⟩
  | .hbm, ⟨99, _⟩ => ⟨S_, .f32⟩
  | .hbm, ⟨100, _⟩ => ⟨S8192x8x2, .f32⟩
  | .hbm, ⟨101, _⟩ => ⟨S_, .f32⟩
  | .hbm, ⟨102, _⟩ => ⟨S8192x8x62, .f32⟩
  | .hbm, ⟨103, _⟩ => ⟨S8192x8x128, .f32⟩
  | .hbm, ⟨104, _⟩ => ⟨S8192x1024, .f32⟩
  | .hbm, ⟨105, _⟩ => ⟨S8192x1024, .bf16⟩
  | .hbm, ⟨106, _⟩ => ⟨S1024x8192, .f32⟩
  | .hbm, ⟨107, _⟩ => ⟨S1024x8192, .bf16⟩
  | .hbm, ⟨108, _⟩ => ⟨S1024x8192, .bf16⟩
  | .hbm, ⟨109, _⟩ => ⟨S_, .f32⟩
  | .hbm, ⟨110, _⟩ => ⟨S1024x8192, .f32⟩
  | .hbm, ⟨111, _⟩ => ⟨S1024x8192, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x8192, .f32⟩
  | .local _ .vmem, ⟨11, _⟩ => ⟨S512x8192, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .smem, ⟨0, _⟩ => ⟨S72, .i32⟩
  | .local _ .smem, ⟨1, _⟩ => ⟨S72, .i32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_11 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_12 : Ref sig .tc := ⟨.hbm, 99, rfl⟩
abbrev main_v78 : Ref sig .tc := ⟨.hbm, 100, rfl⟩
abbrev main_cst_13 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83_0 : Ref sig .tc := ⟨.hbm, 106, rfl⟩
abbrev main_v83_1 : Ref sig .tc := ⟨.hbm, 107, rfl⟩
abbrev main_v83_2 : Ref sig .tc := ⟨.hbm, 108, rfl⟩
abbrev main_cst_14 : Ref sig .tc := ⟨.hbm, 109, rfl⟩
abbrev main_v84 : Ref sig .tc := ⟨.hbm, 110, rfl⟩
abbrev main_v85 : Ref sig .tc := ⟨.hbm, 111, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 72], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v3 : BitVec 32) : BitVec 32 :=
  let c1024_i32 : BitVec 32 := 1024#32
  let v26 : BitVec 32 := Scalar.muli v3 c1024_i32
  let c0_i32_8 : BitVec 32 := 0#32
  let v27 : BitVec 32 := Scalar.addi v26 c0_i32_8
  v27
def k0_cond2 (v1 : BitVec 32) (v3 : BitVec 32) : BitVec 1 :=
  let c2_i32 : BitVec 32 := 2#32
  let v7 : BitVec 32 := Scalar.divsi v1 c2_i32
  let v8 : BitVec 1 := Scalar.cmpi .eq v3 v7
  let c2_i32_1 : BitVec 32 := 2#32
  let v9 : BitVec 32 := Scalar.remsi v1 c2_i32_1
  let c0_i32_2 : BitVec 32 := 0#32
  let v10 : BitVec 1 := Scalar.cmpi .eq v9 c0_i32_2
  let v11 : BitVec 1 := Scalar.andi v8 v10
  let v12 : BitVec 32 := Scalar.extui v11
  let c0_i32_3 : BitVec 32 := 0#32
  let v13 : BitVec 1 := Scalar.cmpi .ne v12 c0_i32_3
  v13

def k0_off2 (v3 : BitVec 32) : Fin 2 → Nat :=
  let c0_34 : Index := 0#32
  let c1024_i32 : BitVec 32 := 1024#32
  let v26 : BitVec 32 := Scalar.muli v3 c1024_i32
  let c0_i32_8 : BitVec 32 := 0#32
  let v27 : BitVec 32 := Scalar.addi v26 c0_i32_8
  let v28 : BitVec 32 := v27
  let v69 : Index := Scalar.indexCast v28
  ![0, v69.toNat]
def k0_off3 (v3 : BitVec 32) : Fin 2 → Nat :=
  let c128_61 : Index := 128#32
  let c1024_i32 : BitVec 32 := 1024#32
  let v26 : BitVec 32 := Scalar.muli v3 c1024_i32
  let c0_i32_8 : BitVec 32 := 0#32
  let v27 : BitVec 32 := Scalar.addi v26 c0_i32_8
  let v28 : BitVec 32 := v27
  let v113 : Index := Scalar.indexCast v28
  ![128, v113.toNat]
def k0_off4 (v3 : BitVec 32) : Fin 2 → Nat :=
  let c256_88 : Index := 256#32
  let c1024_i32 : BitVec 32 := 1024#32
  let v26 : BitVec 32 := Scalar.muli v3 c1024_i32
  let c0_i32_8 : BitVec 32 := 0#32
  let v27 : BitVec 32 := Scalar.addi v26 c0_i32_8
  let v28 : BitVec 32 := v27
  let v157 : Index := Scalar.indexCast v28
  ![256, v157.toNat]
def k0_off5 (v3 : BitVec 32) : Fin 2 → Nat :=
  let c384_111 : Index := 384#32
  let c1024_i32 : BitVec 32 := 1024#32
  let v26 : BitVec 32 := Scalar.muli v3 c1024_i32
  let c0_i32_8 : BitVec 32 := 0#32
  let v27 : BitVec 32 := Scalar.addi v26 c0_i32_8
  let v28 : BitVec 32 := v27
  let v196 : Index := Scalar.indexCast v28
  ![384, v196.toNat]
def k0_mult2 (v3 : BitVec 32) : BitVec 32 :=
  let c1024_i32 : BitVec 32 := 1024#32
  let v26 : BitVec 32 := Scalar.muli v3 c1024_i32
  let c512_i32 : BitVec 32 := 512#32
  let v27 : BitVec 32 := Scalar.addi v26 c512_i32
  v27
def k0_cond3 (v1 : BitVec 32) (v3 : BitVec 32) : BitVec 1 :=
  let c2_i32 : BitVec 32 := 2#32
  let v7 : BitVec 32 := Scalar.divsi v1 c2_i32
  let v14 : BitVec 1 := Scalar.cmpi .eq v3 v7
  let c2_i32_4 : BitVec 32 := 2#32
  let v15 : BitVec 32 := Scalar.remsi v1 c2_i32_4
  let c1_i32 : BitVec 32 := 1#32
  let v16 : BitVec 1 := Scalar.cmpi .eq v15 c1_i32
  let v17 : BitVec 1 := Scalar.andi v14 v16
  let v18 : BitVec 32 := Scalar.extui v17
  let c0_i32_5 : BitVec 32 := 0#32
  let v19 : BitVec 1 := Scalar.cmpi .ne v18 c0_i32_5
  v19

def k0_off6 (v3 : BitVec 32) : Fin 2 → Nat :=
  let c0_32 : Index := 0#32
  let c1024_i32 : BitVec 32 := 1024#32
  let v26 : BitVec 32 := Scalar.muli v3 c1024_i32
  let c512_i32 : BitVec 32 := 512#32
  let v27 : BitVec 32 := Scalar.addi v26 c512_i32
  let v28 : BitVec 32 := v27
  let v69 : Index := Scalar.indexCast v28
  ![0, v69.toNat]
def k0_off7 (v3 : BitVec 32) : Fin 2 → Nat :=
  let c128_59 : Index := 128#32
  let c1024_i32 : BitVec 32 := 1024#32
  let v26 : BitVec 32 := Scalar.muli v3 c1024_i32
  let c512_i32 : BitVec 32 := 512#32
  let v27 : BitVec 32 := Scalar.addi v26 c512_i32
  let v28 : BitVec 32 := v27
  let v113 : Index := Scalar.indexCast v28
  ![128, v113.toNat]
def k0_off8 (v3 : BitVec 32) : Fin 2 → Nat :=
  let c256_86 : Index := 256#32
  let c1024_i32 : BitVec 32 := 1024#32
  let v26 : BitVec 32 := Scalar.muli v3 c1024_i32
  let c512_i32 : BitVec 32 := 512#32
  let v27 : BitVec 32 := Scalar.addi v26 c512_i32
  let v28 : BitVec 32 := v27
  let v157 : Index := Scalar.indexCast v28
  ![256, v157.toNat]
def k0_off9 (v3 : BitVec 32) : Fin 2 → Nat :=
  let c384_109 : Index := 384#32
  let c1024_i32 : BitVec 32 := 1024#32
  let v26 : BitVec 32 := Scalar.muli v3 c1024_i32
  let c512_i32 : BitVec 32 := 512#32
  let v27 : BitVec 32 := Scalar.addi v26 c512_i32
  let v28 : BitVec 32 := v27
  let v196 : Index := Scalar.indexCast v28
  ![384, v196.toNat]
def k0_mult3 (v3 : BitVec 32) : BitVec 32 :=
  let c1024_i32 : BitVec 32 := 1024#32
  let v26 : BitVec 32 := Scalar.muli v3 c1024_i32
  let c0_i32_8 : BitVec 32 := 0#32
  let v27 : BitVec 32 := Scalar.addi v26 c0_i32_8
  v27
def k0_cond4 (v1 : BitVec 32) (v3 : BitVec 32) : BitVec 1 :=
  let c2_i32 : BitVec 32 := 2#32
  let v7 : BitVec 32 := Scalar.divsi v1 c2_i32
  let v20 : BitVec 1 := Scalar.cmpi .sgt v3 v7
  let v21 : BitVec 32 := Scalar.extui v20
  let c0_i32_6 : BitVec 32 := 0#32
  let v22 : BitVec 1 := Scalar.cmpi .ne v21 c0_i32_6
  v22

def k0_off10 (v3 : BitVec 32) : Fin 2 → Nat :=
  let c0_35 : Index := 0#32
  let c1024_i32 : BitVec 32 := 1024#32
  let v26 : BitVec 32 := Scalar.muli v3 c1024_i32
  let c0_i32_8 : BitVec 32 := 0#32
  let v27 : BitVec 32 := Scalar.addi v26 c0_i32_8
  let v28 : BitVec 32 := v27
  let v64 : Index := Scalar.indexCast v28
  ![0, v64.toNat]
def k0_off11 (v3 : BitVec 32) : Fin 2 → Nat :=
  let c128_63 : Index := 128#32
  let c1024_i32 : BitVec 32 := 1024#32
  let v26 : BitVec 32 := Scalar.muli v3 c1024_i32
  let c0_i32_8 : BitVec 32 := 0#32
  let v27 : BitVec 32 := Scalar.addi v26 c0_i32_8
  let v28 : BitVec 32 := v27
  let v103 : Index := Scalar.indexCast v28
  ![128, v103.toNat]
def k0_off12 (v3 : BitVec 32) : Fin 2 → Nat :=
  let c256_91 : Index := 256#32
  let c1024_i32 : BitVec 32 := 1024#32
  let v26 : BitVec 32 := Scalar.muli v3 c1024_i32
  let c0_i32_8 : BitVec 32 := 0#32
  let v27 : BitVec 32 := Scalar.addi v26 c0_i32_8
  let v28 : BitVec 32 := v27
  let v142 : Index := Scalar.indexCast v28
  ![256, v142.toNat]
def k0_off13 (v3 : BitVec 32) : Fin 2 → Nat :=
  let c384_115 : Index := 384#32
  let c1024_i32 : BitVec 32 := 1024#32
  let v26 : BitVec 32 := Scalar.muli v3 c1024_i32
  let c0_i32_8 : BitVec 32 := 0#32
  let v27 : BitVec 32 := Scalar.addi v26 c0_i32_8
  let v28 : BitVec 32 := v27
  let v176 : Index := Scalar.indexCast v28
  ![384, v176.toNat]

def k0_chk1 (v1 : BitVec 32) (v3 : BitVec 32) : Prop :=
  (∀ (k0_h2 : k0_cond2 v1 v3 = 1#1), 512 ∣ (k0_mult1 v3).toNat) ∧
  (∀ (k0_h2 : k0_cond2 v1 v3 = 1#1), ∀ a, (k0_off2 v3) a + S96x1024.size a ≤ S512x8192.size a) ∧
  (∀ (k0_h2 : k0_cond2 v1 v3 = 1#1), ∀ a, (k0_off3 v3) a + S96x1024.size a ≤ S512x8192.size a) ∧
  (∀ (k0_h2 : k0_cond2 v1 v3 = 1#1), ∀ a, (k0_off4 v3) a + S96x1024.size a ≤ S512x8192.size a) ∧
  (∀ (k0_h2 : k0_cond2 v1 v3 = 1#1), ∀ a, (k0_off5 v3) a + S96x1024.size a ≤ S512x8192.size a) ∧
  (∀ (k0_h3 : k0_cond3 v1 v3 = 1#1), 512 ∣ (k0_mult2 v3).toNat) ∧
  (∀ (k0_h3 : k0_cond3 v1 v3 = 1#1), ∀ a, (k0_off6 v3) a + S96x512.size a ≤ S512x8192.size a) ∧
  (∀ (k0_h3 : k0_cond3 v1 v3 = 1#1), ∀ a, (k0_off7 v3) a + S96x512.size a ≤ S512x8192.size a) ∧
  (∀ (k0_h3 : k0_cond3 v1 v3 = 1#1), ∀ a, (k0_off8 v3) a + S96x512.size a ≤ S512x8192.size a) ∧
  (∀ (k0_h3 : k0_cond3 v1 v3 = 1#1), ∀ a, (k0_off9 v3) a + S96x512.size a ≤ S512x8192.size a) ∧
  (∀ (k0_h4 : k0_cond4 v1 v3 = 1#1), 512 ∣ (k0_mult3 v3).toNat) ∧
  (∀ (k0_h4 : k0_cond4 v1 v3 = 1#1), ∀ a, (k0_off10 v3) a + S96x1024.size a ≤ S512x8192.size a) ∧
  (∀ (k0_h4 : k0_cond4 v1 v3 = 1#1), ∀ a, (k0_off11 v3) a + S96x1024.size a ≤ S512x8192.size a) ∧
  (∀ (k0_h4 : k0_cond4 v1 v3 = 1#1), ∀ a, (k0_off12 v3) a + S96x1024.size a ≤ S512x8192.size a) ∧
  (∀ (k0_h4 : k0_cond4 v1 v3 = 1#1), ∀ a, (k0_off13 v3) a + S96x1024.size a ≤ S512x8192.size a)
theorem k0_mult1_dvd : ∀ (v1 : BitVec 32) (v3 : BitVec 32) (k0_hw1 : k0_chk1 v1 v3), ∀ (k0_h2 : k0_cond2 v1 v3 = 1#1), 512 ∣ (k0_mult1 v3).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 v3 = 1#1), ∀ a, (k0_off2 v3) a + S96x1024.size a ≤ S512x8192.size a := fun v1 v3 k0_hw1 k0_h2 => k0_hw1.2.1 k0_h2
theorem k0_off3_inb : ∀ (v1 : BitVec 32) (v3 : BitVec 32) (k0_hw1 : k0_chk1 v1 v3), ∀ (k0_h2 : k0_cond2 v1 v3 = 1#1), ∀ a, (k0_off3 v3) a + S96x1024.size a ≤ S512x8192.size a := fun v1 v3 k0_hw1 k0_h2 => k0_hw1.2.2.1 k0_h2
theorem k0_off4_inb : ∀ (v1 : BitVec 32) (v3 : BitVec 32) (k0_hw1 : k0_chk1 v1 v3), ∀ (k0_h2 : k0_cond2 v1 v3 = 1#1), ∀ a, (k0_off4 v3) a + S96x1024.size a ≤ S512x8192.size a := fun v1 v3 k0_hw1 k0_h2 => k0_hw1.2.2.2.1 k0_h2
theorem k0_off5_inb : ∀ (v1 : BitVec 32) (v3 : BitVec 32) (k0_hw1 : k0_chk1 v1 v3), ∀ (k0_h2 : k0_cond2 v1 v3 = 1#1), ∀ a, (k0_off5 v3) a + S96x1024.size a ≤ S512x8192.size a := fun v1 v3 k0_hw1 k0_h2 => k0_hw1.2.2.2.2.1 k0_h2
theorem k0_mult2_dvd : ∀ (v1 : BitVec 32) (v3 : BitVec 32) (k0_hw1 : k0_chk1 v1 v3), ∀ (k0_h3 : k0_cond3 v1 v3 = 1#1), 512 ∣ (k0_mult2 v3).toNat := fun v1 v3 k0_hw1 k0_h3 => k0_hw1.2.2.2.2.2.1 k0_h3
theorem k0_off6_inb : ∀ (v1 : BitVec 32) (v3 : BitVec 32) (k0_hw1 : k0_chk1 v1 v3), ∀ (k0_h3 : k0_cond3 v1 v3 = 1#1), ∀ a, (k0_off6 v3) a + S96x512.size a ≤ S512x8192.size a := fun v1 v3 k0_hw1 k0_h3 => k0_hw1.2.2.2.2.2.2.1 k0_h3
theorem k0_off7_inb : ∀ (v1 : BitVec 32) (v3 : BitVec 32) (k0_hw1 : k0_chk1 v1 v3), ∀ (k0_h3 : k0_cond3 v1 v3 = 1#1), ∀ a, (k0_off7 v3) a + S96x512.size a ≤ S512x8192.size a := fun v1 v3 k0_hw1 k0_h3 => k0_hw1.2.2.2.2.2.2.2.1 k0_h3
theorem k0_off8_inb : ∀ (v1 : BitVec 32) (v3 : BitVec 32) (k0_hw1 : k0_chk1 v1 v3), ∀ (k0_h3 : k0_cond3 v1 v3 = 1#1), ∀ a, (k0_off8 v3) a + S96x512.size a ≤ S512x8192.size a := fun v1 v3 k0_hw1 k0_h3 => k0_hw1.2.2.2.2.2.2.2.2.1 k0_h3
theorem k0_off9_inb : ∀ (v1 : BitVec 32) (v3 : BitVec 32) (k0_hw1 : k0_chk1 v1 v3), ∀ (k0_h3 : k0_cond3 v1 v3 = 1#1), ∀ a, (k0_off9 v3) a + S96x512.size a ≤ S512x8192.size a := fun v1 v3 k0_hw1 k0_h3 => k0_hw1.2.2.2.2.2.2.2.2.2.1 k0_h3
theorem k0_mult3_dvd : ∀ (v1 : BitVec 32) (v3 : BitVec 32) (k0_hw1 : k0_chk1 v1 v3), ∀ (k0_h4 : k0_cond4 v1 v3 = 1#1), 512 ∣ (k0_mult3 v3).toNat := fun v1 v3 k0_hw1 k0_h4 => k0_hw1.2.2.2.2.2.2.2.2.2.2.1 k0_h4
theorem k0_off10_inb : ∀ (v1 : BitVec 32) (v3 : BitVec 32) (k0_hw1 : k0_chk1 v1 v3), ∀ (k0_h4 : k0_cond4 v1 v3 = 1#1), ∀ a, (k0_off10 v3) a + S96x1024.size a ≤ S512x8192.size a := fun v1 v3 k0_hw1 k0_h4 => k0_hw1.2.2.2.2.2.2.2.2.2.2.2.1 k0_h4
theorem k0_off11_inb : ∀ (v1 : BitVec 32) (v3 : BitVec 32) (k0_hw1 : k0_chk1 v1 v3), ∀ (k0_h4 : k0_cond4 v1 v3 = 1#1), ∀ a, (k0_off11 v3) a + S96x1024.size a ≤ S512x8192.size a := fun v1 v3 k0_hw1 k0_h4 => k0_hw1.2.2.2.2.2.2.2.2.2.2.2.2.1 k0_h4
theorem k0_off12_inb : ∀ (v1 : BitVec 32) (v3 : BitVec 32) (k0_hw1 : k0_chk1 v1 v3), ∀ (k0_h4 : k0_cond4 v1 v3 = 1#1), ∀ a, (k0_off12 v3) a + S96x1024.size a ≤ S512x8192.size a := fun v1 v3 k0_hw1 k0_h4 => k0_hw1.2.2.2.2.2.2.2.2.2.2.2.2.2.1 k0_h4
theorem k0_off13_inb : ∀ (v1 : BitVec 32) (v3 : BitVec 32) (k0_hw1 : k0_chk1 v1 v3), ∀ (k0_h4 : k0_cond4 v1 v3 = 1#1), ∀ a, (k0_off13 v3) a + S96x1024.size a ≤ S512x8192.size a := fun v1 v3 k0_hw1 k0_h4 => k0_hw1.2.2.2.2.2.2.2.2.2.2.2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond5 (v3 : BitVec 32) : BitVec 1 :=
  let c7_i32 : BitVec 32 := 7#32
  let v23 : BitVec 1 := Scalar.cmpi .eq v3 c7_i32
  let v24 : BitVec 32 := Scalar.extui v23
  let c0_i32_7 : BitVec 32 := 0#32
  let v25 : BitVec 1 := Scalar.cmpi .ne v24 c0_i32_7
  v25

def cc0_transform_0 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  ![arg0.toNat, v1.toNat]

def cc0_transform_1 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  ![arg0.toNat, v1.toNat]

def cc0_transform_2 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![arg0.toNat, v1.toNat]

def cc0_transform_4 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![arg0.toNat, v1.toNat]

def cc0_transform_7 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![arg0.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MlaIdeal.lean ====
variable {F : FTy → Type} [FloatOps F] [Named F]
def κ : String → Option EReal := fun
  | "ln2" => some ((Real.log 2 : ℝ) : EReal)
  | "mask" => some ⊥
  | _ => none
-- ==== MlaRefIdeal.lean ====
abbrev S1x8192x8x64 : Shape := ⟨4, ![1, 8192, 8, 64]⟩
abbrev S1x8192x8x32 : Shape := ⟨4, ![1, 8192, 8, 32]⟩
abbrev S1x8192x32 : Shape := ⟨3, ![1, 8192, 32]⟩
abbrev S1x8192x1x32 : Shape := ⟨4, ![1, 8192, 1, 32]⟩
abbrev S1x8x8192x8192 : Shape := ⟨4, ![1, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S8x8192 : Shape := ⟨2, ![8, 8192]⟩
abbrev S1x8x8192x32 : Shape := ⟨4, ![1, 8, 8192, 32]⟩
abbrev S1x8x8192x64 : Shape := ⟨4, ![1, 8, 8192, 64]⟩
abbrev S1x8192x8x96 : Shape := ⟨4, ![1, 8192, 8, 96]⟩
abbrev S8192x8x96 : Shape := ⟨3, ![8192, 8, 96]⟩
abbrev S8x96x8192 : Shape := ⟨3, ![8, 96, 8192]⟩
abbrev S8x128x8192 : Shape := ⟨3, ![8, 128, 8192]⟩
abbrev S1024x8192 : Shape := ⟨2, ![1024, 8192]⟩
abbrev S8192x8x64 : Shape := ⟨3, ![8192, 8, 64]⟩
abbrev S8x64x8192 : Shape := ⟨3, ![8, 64, 8192]⟩

abbrev nBuf : Space → Nat
  | .hbm => 123
  | .vmem => 0
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x8x32, .f32⟩
  | .hbm, ⟨2, _⟩ => ⟨S1x8192x8x64, .f32⟩
  | .hbm, ⟨3, _⟩ => ⟨S1x8192x32, .f32⟩
  | .hbm, ⟨4, _⟩ => ⟨S1x8192x8x64, .f32⟩
  | .hbm, ⟨5, _⟩ => ⟨S1x8192x8x64, .f32⟩
  | .hbm, ⟨6, _⟩ => ⟨S1x8192x1x32, .f32⟩
  | .hbm, ⟨7, _⟩ => ⟨S1x8192x8x32, .f32⟩
  | .hbm, ⟨8, _⟩ => ⟨S1x8x8192x8192, .f32⟩
  | .hbm, ⟨9, _⟩ => ⟨S1x8x8192x8192, .f32⟩
  | .hbm, ⟨10, _⟩ => ⟨S1x8x8192x8192, .f32⟩
  | .hbm, ⟨11, _⟩ => ⟨S_, .f32⟩
  | .hbm, ⟨12, _⟩ => ⟨S1x8x8192x8192, .f32⟩
  | .hbm, ⟨13, _⟩ => ⟨S1x8x8192x8192, .f32⟩
  | .hbm, ⟨14, _⟩ => ⟨S8192, .i32⟩
  | .hbm, ⟨15, _⟩ => ⟨S1x8192, .i32⟩
  | .hbm, ⟨16, _⟩ => ⟨S8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S1x8x8192x8192, .i1⟩
  | .hbm, ⟨24, _⟩ => ⟨S1x8x8192x8192, .f32⟩
  | .hbm, ⟨25, _⟩ => ⟨S1x8x8192x8192, .f32⟩
  | .hbm, ⟨26, _⟩ => ⟨S_, .f32⟩
  | .hbm, ⟨27, _⟩ => ⟨S1x8x8192x8192, .f32⟩
  | .hbm, ⟨28, _⟩ => ⟨S_, .f32⟩
  | .hbm, ⟨29, _⟩ => ⟨S1x8x8192, .f32⟩
  | .hbm, ⟨30, _⟩ => ⟨S1x8x8192x1, .f32⟩
  | .hbm, ⟨31, _⟩ => ⟨S1x8x8192x8192, .f32⟩
  | .hbm, ⟨32, _⟩ => ⟨S1x8x8192x8192, .i1⟩
  | .hbm, ⟨33, _⟩ => ⟨S1x8x8192x8192, .f32⟩
  | .hbm, ⟨34, _⟩ => ⟨S_, .f32⟩
  | .hbm, ⟨35, _⟩ => ⟨S1x8x8192, .f32⟩
  | .hbm, ⟨36, _⟩ => ⟨S_, .f32⟩
  | .hbm, ⟨37, _⟩ => ⟨S1x8x8192, .f32⟩
  | .hbm, ⟨38, _⟩ => ⟨S1x8x8192, .f32⟩
  | .hbm, ⟨39, _⟩ => ⟨S_, .f32⟩
  | .hbm, ⟨40, _⟩ => ⟨S1x8x8192, .f32⟩
  | .hbm, ⟨41, _⟩ => ⟨S1x8x8192, .i1⟩
  | .hbm, ⟨42, _⟩ => ⟨S_, .f32⟩
  | .hbm, ⟨43, _⟩ => ⟨S1x8x8192, .f32⟩
  | .hbm, ⟨44, _⟩ => ⟨S1x8x8192, .i1⟩
  | .hbm, ⟨45, _⟩ => ⟨S_, .f32⟩
  | .hbm, ⟨46, _⟩ => ⟨S1x8x8192, .f32⟩
  | .hbm, ⟨47, _⟩ => ⟨S_, .f32⟩
  | .hbm, ⟨48, _⟩ => ⟨S1x8x8192, .f32⟩
  | .hbm, ⟨49, _⟩ => ⟨S_, .f32⟩
  | .hbm, ⟨50, _⟩ => ⟨S1x8x8192, .f32⟩
  | .hbm, ⟨51, _⟩ => ⟨S1x8x8192, .f32⟩
  | .hbm, ⟨52, _⟩ => ⟨S1x8x8192, .f32⟩
  | .hbm, ⟨53, _⟩ => ⟨S1x8x8192x1, .f32⟩
  | .hbm, ⟨54, _⟩ => ⟨S1x8x8192x8192, .f32⟩
  | .hbm, ⟨55, _⟩ => ⟨S1x8x8192x8192, .f32⟩
  | .hbm, ⟨56, _⟩ => ⟨S1x8x8192x8192, .f32⟩
  | .hbm, ⟨57, _⟩ => ⟨S_, .f32⟩
  | .hbm, ⟨58, _⟩ => ⟨S1x8x8192, .f32⟩
  | .hbm, ⟨59, _⟩ => ⟨S1x8x8192x1, .f32⟩
  | .hbm, ⟨60, _⟩ => ⟨S1x8x8192x8192, .f32⟩
  | .hbm, ⟨61, _⟩ => ⟨S1x8x8192x8192, .f32⟩
  | .hbm, ⟨62, _⟩ => ⟨S1x8x8192x1, .f32⟩
  | .hbm, ⟨63, _⟩ => ⟨S_, .f32⟩
  | .hbm, ⟨64, _⟩ => ⟨S1x8x8192x1, .f32⟩
  | .hbm, ⟨65, _⟩ => ⟨S1x8x8192x1, .f32⟩
  | .hbm, ⟨66, _⟩ => ⟨S1x8x64x8192, .f32⟩
  | .hbm, ⟨67, _⟩ => ⟨S1x8192x8x64, .f32⟩
  | .hbm, ⟨68, _⟩ => ⟨S1x8x64x8192, .f32⟩
  | .hbm, ⟨69, _⟩ => ⟨S1x8x8192x8192, .f32⟩
  | .hbm, ⟨70, _⟩ => ⟨S1x8x64x8192, .f32⟩
  | .hbm, ⟨71, _⟩ => ⟨S1x8192x8x64, .f32⟩
  | .hbm, ⟨72, _⟩ => ⟨S1x8x8192x8192, .f32⟩
  | .hbm, ⟨73, _⟩ => ⟨S1x8x8192x8192, .f32⟩
  | .hbm, ⟨74, _⟩ => ⟨S1x8x8192x8192, .f32⟩
  | .hbm, ⟨75, _⟩ => ⟨S_, .f32⟩
  | .hbm, ⟨76, _⟩ => ⟨S1x8x8192, .f32⟩
  | .hbm, ⟨77, _⟩ => ⟨S1x8x8192x1, .f32⟩
  | .hbm, ⟨78, _⟩ => ⟨S1x8x8192x1, .f32⟩
  | .hbm, ⟨79, _⟩ => ⟨S1x8x8192x8192, .f32⟩
  | .hbm, ⟨80, _⟩ => ⟨S1x8x8192x8192, .f32⟩
  | .hbm, ⟨81, _⟩ => ⟨S_, .f32⟩
  | .hbm, ⟨82, _⟩ => ⟨S8x8192, .f32⟩
  | .hbm, ⟨83, _⟩ => ⟨S1x8x8192, .f32⟩
  | .hbm, ⟨84, _⟩ => ⟨S1x8x8192x8192, .f32⟩
  | .hbm, ⟨85, _⟩ => ⟨S1x8x8192x8192, .f32⟩
  | .hbm, ⟨86, _⟩ => ⟨S1x8x8192x8192, .f32⟩
  | .hbm, ⟨87, _⟩ => ⟨S_, .f32⟩
  | .hbm, ⟨88, _⟩ => ⟨S1x8x8192x8192, .f32⟩
  | .hbm, ⟨89, _⟩ => ⟨S1x8x8192x8192, .f32⟩
  | .hbm, ⟨90, _⟩ => ⟨S_, .f32⟩
  | .hbm, ⟨91, _⟩ => ⟨S1x8x8192x8192, .f32⟩
  | .hbm, ⟨92, _⟩ => ⟨S1x8x8192x8192, .f32⟩
  | .hbm, ⟨93, _⟩ => ⟨S1x8x8192x32, .f32⟩
  | .hbm, ⟨94, _⟩ => ⟨S1x8192x8x32, .f32⟩
  | .hbm, ⟨95, _⟩ => ⟨S1x8x8192x32, .f32⟩
  | .hbm, ⟨96, _⟩ => ⟨S1x8192x8x32, .f32⟩
  | .hbm, ⟨97, _⟩ => ⟨S1x8x8192x64, .f32⟩
  | .hbm, ⟨98, _⟩ => ⟨S1x8192x8x64, .f32⟩
  | .hbm, ⟨99, _⟩ => ⟨S1x8x8192x64, .f32⟩
  | .hbm, ⟨100, _⟩ => ⟨S1x8192x8x64, .f32⟩
  | .hbm, ⟨101, _⟩ => ⟨S1x8192x8x96, .f32⟩
  | .hbm, ⟨102, _⟩ => ⟨S8192x8x96, .f32⟩
  | .hbm, ⟨103, _⟩ => ⟨S8x96x8192, .f32⟩
  | .hbm, ⟨104, _⟩ => ⟨S_, .i32⟩
  | .hbm, ⟨105, _⟩ => ⟨S_, .f32⟩
  | .hbm, ⟨106, _⟩ => ⟨S8x128x8192, .f32⟩
  | .hbm, ⟨107, _⟩ => ⟨S1024x8192, .f32⟩
  | .hbm, ⟨108, _⟩ => ⟨S1x8192x8x96, .f32⟩
  | .hbm, ⟨109, _⟩ => ⟨S8192x8x96, .f32⟩
  | .hbm, ⟨110, _⟩ => ⟨S8x96x8192, .f32⟩
  | .hbm, ⟨111, _⟩ => ⟨S_, .i32⟩
  | .hbm, ⟨112, _⟩ => ⟨S_, .f32⟩
  | .hbm, ⟨113, _⟩ => ⟨S8x128x8192, .f32⟩
  | .hbm, ⟨114, _⟩ => ⟨S1024x8192, .f32⟩
  | .hbm, ⟨115, _⟩ => ⟨S1024x8192, .bf16⟩
  | .hbm, ⟨116, _⟩ => ⟨S8192x8x64, .f32⟩
  | .hbm, ⟨117, _⟩ => ⟨S8x64x8192, .f32⟩
  | .hbm, ⟨118, _⟩ => ⟨S_, .i32⟩
  | .hbm, ⟨119, _⟩ => ⟨S_, .f32⟩
  | .hbm, ⟨120, _⟩ => ⟨S8x128x8192, .f32⟩
  | .hbm, ⟨121, _⟩ => ⟨S1024x8192, .f32⟩
  | .hbm, ⟨122, _⟩ => ⟨S1024x8192, .bf16⟩
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_v14_1 : Ref sig .tc := ⟨.hbm, 23, rfl⟩
abbrev main_call0_v2 : Ref sig .tc := ⟨.hbm, 24, rfl⟩
abbrev main_v14_0 : Ref sig .tc := ⟨.hbm, 25, rfl⟩
abbrev main_call0_cst : Ref sig .tc := ⟨.hbm, 26, rfl⟩
abbrev main_v14_2 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c : Ref sig .tc := ⟨.hbm, 104, rfl⟩
abbrev main_call2_v0 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_14 : Ref sig .tc := ⟨.hbm, 111, rfl⟩
abbrev main_call3_v0 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_15 : Ref sig .tc := ⟨.hbm, 118, rfl⟩
abbrev main_call4_v0 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]
-- ==== Inp.lean ====
abbrev S8192x1024 : Shape := ⟨2, ![8192, 1024]⟩
abbrev S1x1024 : Shape := ⟨2, ![1, 1024]⟩
abbrev S1024x3232 : Shape := ⟨2, ![1024, 3232]⟩
abbrev S8192x3232 : Shape := ⟨2, ![8192, 3232]⟩
abbrev S8192x768 : Shape := ⟨2, ![8192, 768]⟩
abbrev S8192x12x64 : Shape := ⟨3, ![8192, 12, 64]⟩
abbrev S_ : Shape := ⟨0, ![]⟩
abbrev S8192x12x128 : Shape := ⟨3, ![8192, 12, 128]⟩
abbrev S8192x1536 : Shape := ⟨2, ![8192, 1536]⟩
abbrev S8192x384 : Shape := ⟨2, ![8192, 384]⟩
abbrev S8192x32 : Shape := ⟨2, ![8192, 32]⟩
abbrev S8192x128 : Shape := ⟨2, ![8192, 128]⟩
abbrev S8192x512 : Shape := ⟨2, ![8192, 512]⟩
abbrev S8192x2048 : Shape := ⟨2, ![8192, 2048]⟩
abbrev S1024x512 : Shape := ⟨2, ![1024, 512]⟩
abbrev S1024x8x64 : Shape := ⟨3, ![1024, 8, 64]⟩
abbrev S1024x8x128 : Shape := ⟨3, ![1024, 8, 128]⟩
abbrev S1024x1024 : Shape := ⟨2, ![1024, 1024]⟩
abbrev S1024x128 : Shape := ⟨2, ![1024, 128]⟩
abbrev S1024x2x64 : Shape := ⟨3, ![1024, 2, 64]⟩
abbrev S1024x2x128 : Shape := ⟨3, ![1024, 2, 128]⟩
abbrev S1024x256 : Shape := ⟨2, ![1024, 256]⟩
abbrev S1024x32 : Shape := ⟨2, ![1024, 32]⟩
abbrev S1024x2048 : Shape := ⟨2, ![1024, 2048]⟩
abbrev S1024x384 : Shape := ⟨2, ![1024, 384]⟩
abbrev S1024x4096 : Shape := ⟨2, ![1024, 4096]⟩
abbrev S512x2048 : Shape := ⟨2, ![512, 2048]⟩
abbrev S512x1536 : Shape := ⟨2, ![512, 1536]⟩
abbrev S512x512 : Shape := ⟨2, ![512, 512]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024 : Shape := ⟨1, ![1024]⟩

abbrev nBuf : Space → Nat
  | .hbm => 47
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3232, .f32⟩
  | .hbm, ⟨3, _⟩ => ⟨S8192x1024, .f32⟩
  | .hbm, ⟨4, _⟩ => ⟨S8192x3232, .f32⟩
  | .hbm, ⟨5, _⟩ => ⟨S8192x3232, .bf16⟩
  | .hbm, ⟨6, _⟩ => ⟨S8192x768, .bf16⟩
  | .hbm, ⟨7, _⟩ => ⟨S8192x12x64, .bf16⟩
  | .hbm, ⟨8, _⟩ => ⟨S_, .i32⟩
  | .hbm, ⟨9, _⟩ => ⟨S_, .bf16⟩
  | .hbm, ⟨10, _⟩ => ⟨S8192x12x128, .bf16⟩
  | .hbm, ⟨11, _⟩ => ⟨S8192x1536, .bf16⟩
  | .hbm, ⟨12, _⟩ => ⟨S8192x384, .bf16⟩
  | .hbm, ⟨13, _⟩ => ⟨S8192x32, .bf16⟩
  | .hbm, ⟨14, _⟩ => ⟨S_, .i32⟩
  | .hbm, ⟨15, _⟩ => ⟨S_, .bf16⟩
  | .hbm, ⟨16, _⟩ => ⟨S8192x128, .bf16⟩
  | .hbm, ⟨17, _⟩ => ⟨S8192x512, .bf16⟩
  | .hbm, ⟨18, _⟩ => ⟨S8192x2048, .bf16⟩
  | .hbm, ⟨19, _⟩ => ⟨S1024x3232, .bf16⟩
  | .hbm, ⟨20, _⟩ => ⟨S1024x512, .bf16⟩
  | .hbm, ⟨21, _⟩ => ⟨S1024x8x64, .bf16⟩
  | .hbm, ⟨22, _⟩ => ⟨S_, .i32⟩
  | .hbm, ⟨23, _⟩ => ⟨S_, .bf16⟩
  | .hbm, ⟨24, _⟩ => ⟨S1024x8x128, .bf16⟩
  | .hbm, ⟨25, _⟩ => ⟨S1024x1024, .bf16⟩
  | .hbm, ⟨26, _⟩ => ⟨S1024x128, .bf16⟩
  | .hbm, ⟨27, _⟩ => ⟨S1024x2x64, .bf16⟩
  | .hbm, ⟨28, _⟩ => ⟨S_, .i32⟩
  | .hbm, ⟨29, _⟩ => ⟨S_, .bf16⟩
  | .hbm, ⟨30, _⟩ => ⟨S1024x2x128, .bf16⟩
  | .hbm, ⟨31, _⟩ => ⟨S1024x256, .bf16⟩
  | .hbm, ⟨32, _⟩ => ⟨S1024x128, .bf16⟩
  | .hbm, ⟨33, _⟩ => ⟨S1024x2x64, .bf16⟩
  | .hbm, ⟨34, _⟩ => ⟨S_, .i32⟩
  | .hbm, ⟨35, _⟩ => ⟨S_, .bf16⟩
  | .hbm, ⟨36, _⟩ => ⟨S1024x2x128, .bf16⟩
  | .hbm, ⟨37, _⟩ => ⟨S1024x256, .bf16⟩
  | .hbm, ⟨38, _⟩ => ⟨S1024x32, .bf16⟩
  | .hbm, ⟨39, _⟩ => ⟨S_, .i32⟩
  | .hbm, ⟨40, _⟩ => ⟨S_, .bf16⟩
  | .hbm, ⟨41, _⟩ => ⟨S1024x128, .bf16⟩
  | .hbm, ⟨42, _⟩ => ⟨S1024x2048, .bf16⟩
  | .hbm, ⟨43, _⟩ => ⟨S1024x384, .bf16⟩
  | .hbm, ⟨44, _⟩ => ⟨S1024x4096, .bf16⟩
  | .hbm, ⟨45, _⟩ => ⟨S8192x1024, .f32⟩
  | .hbm, ⟨46, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x4096, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_call2_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_call3_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_call4_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_call5_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28_0 : Ref sig .tc := ⟨.hbm, 45, rfl⟩
abbrev main_v28_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InpRefIdeal.lean ====
abbrev S8192x1024 : Shape := ⟨2, ![8192, 1024]⟩
abbrev S1x1024 : Shape := ⟨2, ![1, 1024]⟩
abbrev S1024x3232 : Shape := ⟨2, ![1024, 3232]⟩
abbrev S8192x3232 : Shape := ⟨2, ![8192, 3232]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3232, .f32⟩
  | .hbm, ⟨3, _⟩ => ⟨S8192x1024, .f32⟩
  | .hbm, ⟨4, _⟩ => ⟨S8192x3232, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x3232, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Merge.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S1x1024 : Shape := ⟨2, ![1, 1024]⟩
abbrev S8192x2048 : Shape := ⟨2, ![8192, 2048]⟩
abbrev S8192x8x64 : Shape := ⟨3, ![8192, 8, 64]⟩
abbrev S_ : Shape := ⟨0, ![]⟩
abbrev S8192x8x128 : Shape := ⟨3, ![8192, 8, 128]⟩
abbrev S8x64x1024 : Shape := ⟨3, ![8, 64, 1024]⟩
abbrev S8x128x1024 : Shape := ⟨3, ![8, 128, 1024]⟩
abbrev S1024x8192 : Shape := ⟨2, ![1024, 8192]⟩
abbrev S512x2048 : Shape := ⟨2, ![512, 2048]⟩
abbrev S1024x512 : Shape := ⟨2, ![1024, 512]⟩
abbrev S512 : Shape := ⟨1, ![512]⟩
abbrev S512x1 : Shape := ⟨2, ![512, 1]⟩
abbrev S1024 : Shape := ⟨1, ![1024]⟩
abbrev S128x512 : Shape := ⟨2, ![128, 512]⟩
abbrev S1x512 : Shape := ⟨2, ![1, 512]⟩

abbrev nBuf : Space → Nat
  | .hbm => 69
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S8192x1024, .f32⟩
  | .hbm, ⟨9, _⟩ => ⟨S8192x2048, .f32⟩
  | .hbm, ⟨10, _⟩ => ⟨S8192x2048, .bf16⟩
  | .hbm, ⟨11, _⟩ => ⟨S8192x8x64, .f32⟩
  | .hbm, ⟨12, _⟩ => ⟨S_, .i32⟩
  | .hbm, ⟨13, _⟩ => ⟨S_, .f32⟩
  | .hbm, ⟨14, _⟩ => ⟨S8192x8x128, .f32⟩
  | .hbm, ⟨15, _⟩ => ⟨S8192x1024, .f32⟩
  | .hbm, ⟨16, _⟩ => ⟨S8192x1024, .bf16⟩
  | .hbm, ⟨17, _⟩ => ⟨S8192x8x64, .f32⟩
  | .hbm, ⟨18, _⟩ => ⟨S_, .i32⟩
  | .hbm, ⟨19, _⟩ => ⟨S_, .f32⟩
  | .hbm, ⟨20, _⟩ => ⟨S8192x8x128, .f32⟩
  | .hbm, ⟨21, _⟩ => ⟨S8192x1024, .f32⟩
  | .hbm, ⟨22, _⟩ => ⟨S8192x1024, .bf16⟩
  | .hbm, ⟨23, _⟩ => ⟨S512x1024, .bf16⟩
  | .hbm, ⟨24, _⟩ => ⟨S8x64x1024, .bf16⟩
  | .hbm, ⟨25, _⟩ => ⟨S_, .i32⟩
  | .hbm, ⟨26, _⟩ => ⟨S_, .bf16⟩
  | .hbm, ⟨27, _⟩ => ⟨S8x128x1024, .bf16⟩
  | .hbm, ⟨28, _⟩ => ⟨S1024x1024, .bf16⟩
  | .hbm, ⟨29, _⟩ => ⟨S512x1024, .bf16⟩
  | .hbm, ⟨30, _⟩ => ⟨S8x64x1024, .bf16⟩
  | .hbm, ⟨31, _⟩ => ⟨S_, .i32⟩
  | .hbm, ⟨32, _⟩ => ⟨S_, .bf16⟩
  | .hbm, ⟨33, _⟩ => ⟨S8x128x1024, .bf16⟩
  | .hbm, ⟨34, _⟩ => ⟨S1024x1024, .bf16⟩
  | .hbm, ⟨35, _⟩ => ⟨S1024x1024, .bf16⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S8192x1024, .bf16⟩
  | .hbm, ⟨60, _⟩ => ⟨S1024x8192, .bf16⟩
  | .hbm, ⟨61, _⟩ => ⟨S8192x1024, .bf16⟩
  | .hbm, ⟨62, _⟩ => ⟨S8192x2048, .bf16⟩
  | .hbm, ⟨63, _⟩ => ⟨S8192x1024, .bf16⟩
  | .hbm, ⟨64, _⟩ => ⟨S1024x8192, .bf16⟩
  | .hbm, ⟨65, _⟩ => ⟨S1x1024, .f32⟩
  | .hbm, ⟨66, _⟩ => ⟨S1024x1024, .f32⟩
  | .hbm, ⟨67, _⟩ => ⟨S1024x1024, .f32⟩
  | .hbm, ⟨68, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x512, .bf16⟩
  | .local _ .vmem, ⟨15, _⟩ => ⟨S1024x512, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S512x2048, .bf16⟩
  | .local _ .vmem, ⟨23, _⟩ => ⟨S512x2048, .bf16⟩
  | .local _ .vmem, ⟨24, _⟩ => ⟨S512x1024, .bf16⟩
  | .local _ .vmem, ⟨25, _⟩ => ⟨S512x1024, .bf16⟩
  | .local _ .vmem, ⟨26, _⟩ => ⟨S1024x512, .bf16⟩
  | .local _ .vmem, ⟨27, _⟩ => ⟨S1024x512, .bf16⟩
  | .local _ .vmem, ⟨28, _⟩ => ⟨S1x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_call2_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_call3_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41_0 : Ref sig .tc := ⟨.hbm, 62, rfl⟩
abbrev main_v41_1 : Ref sig .tc := ⟨.hbm, 63, rfl⟩
abbrev main_v41_2 : Ref sig .tc := ⟨.hbm, 64, rfl⟩
abbrev main_v41_3 : Ref sig .tc := ⟨.hbm, 65, rfl⟩
abbrev main_v41_4 : Ref sig .tc := ⟨.hbm, 66, rfl⟩
abbrev main_v41_5 : Ref sig .tc := ⟨.hbm, 67, rfl⟩
abbrev main_v41_6 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30
abbrev cc0_sem19_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MergeRefIdeal.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x512 : Shape := ⟨2, ![1024, 512]⟩
abbrev S8192x8x64 : Shape := ⟨3, ![8192, 8, 64]⟩
abbrev S8x64x8192 : Shape := ⟨3, ![8, 64, 8192]⟩
abbrev S8x8192 : Shape := ⟨2, ![8, 8192]⟩
abbrev S8x1x8192 : Shape := ⟨3, ![8, 1, 8192]⟩
abbrev S8x63x8192 : Shape := ⟨3, ![8, 63, 8192]⟩
abbrev S8x128x8192 : Shape := ⟨3, ![8, 128, 8192]⟩
abbrev S1024x8192 : Shape := ⟨2, ![1024, 8192]⟩
abbrev S8192x8x128 : Shape := ⟨3, ![8192, 8, 128]⟩
abbrev S8192x2048 : Shape := ⟨2, ![8192, 2048]⟩
abbrev S8x64x1024 : Shape := ⟨3, ![8, 64, 1024]⟩
abbrev S8x128x1024 : Shape := ⟨3, ![8, 128, 1024]⟩

abbrev nBuf : Space → Nat
  | .hbm => 130
  | .vmem => 0
  | .smem => 0
  | _ => 0

abbrev hbmTy0_0 (i : Nat) : BufTy := match i % 128 with
  | 0 => ⟨S8192x1024, .f32⟩
  | 1 => ⟨S8192x1024, .f32⟩
  | 2 => ⟨S8192x512, .f32⟩
  | 3 => ⟨S8192x512, .f32⟩
  | 4 => ⟨S512x1024, .f32⟩
  | 5 => ⟨S512x1024, .f32⟩
  | 6 => ⟨S1024x1024, .f32⟩
  | 7 => ⟨S1x1024, .f32⟩
  | 8 => ⟨S8192x1024, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S_, .f32⟩
  | 60 => ⟨S1024, .f32⟩
  | 61 => ⟨S1x1024, .f32⟩
  | 62 => ⟨S8192x1024, .f32⟩
  | 63 => ⟨S8192x1024, .f32⟩
  | 64 => ⟨S8192x1024, .f32⟩
  | 65 => ⟨S_, .f32⟩
  | 66 => ⟨S8192, .f32⟩
  | 67 => ⟨S8192x1, .f32⟩
  | 68 => ⟨S8192x1024, .f32⟩
  | 69 => ⟨S8192x1024, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S1024x1024, .f32⟩
  | 82 => ⟨S1024x1024, .f32⟩
  | 83 => ⟨S8192x1024, .f32⟩
  | 84 => ⟨S8192x1024, .f32⟩
  | 85 => ⟨S8192x1024, .f32⟩
  | 86 => ⟨S1024x512, .f32⟩
  | 87 => ⟨S512x1024, .f32⟩
  | 88 => ⟨S8192x512, .f32⟩
  | 89 => ⟨S8192x1024, .f32⟩
  | 90 => ⟨S8192x1024, .f32⟩
  | 91 => ⟨S8192x1024, .f32⟩
  | 92 => ⟨S1024x512, .f32⟩
  | 93 => ⟨S512x1024, .f32⟩
  | 94 => ⟨S8192x512, .f32⟩
  | 95 => ⟨S8192x1024, .f32⟩
  | 96 => ⟨S8192x8x64, .f32⟩
  | 97 => ⟨S8x64x8192, .f32⟩
  | 98 => ⟨S8192x8x64, .f32⟩
  | 99 => ⟨S8x64x8192, .f32⟩
  | 100 => ⟨S8x64x8192, .f32⟩
  | 101 => ⟨S_, .f32⟩
  | 102 => ⟨S8x8192, .f32⟩
  | 103 => ⟨S8x1x8192, .f32⟩
  | 104 => ⟨S8192x8x64, .f32⟩
  | 105 => ⟨S8x64x8192, .f32⟩
  | 106 => ⟨S8x1x8192, .f32⟩
  | 107 => ⟨S_, .f32⟩
  | 108 => ⟨S8x63x8192, .f32⟩
  | 109 => ⟨S8x128x8192, .f32⟩
  | 110 => ⟨S1024x8192, .f32⟩
  | 111 => ⟨S8192x8x64, .f32⟩
  | 112 => ⟨S_, .i32⟩
  | 113 => ⟨S_, .f32⟩
  | 114 => ⟨S8192x8x128, .f32⟩
  | 115 => ⟨S8192x1024, .f32⟩
  | 116 => ⟨S8192x2048, .f32⟩
  | 117 => ⟨S8192x2048, .bf16⟩
  | 118 => ⟨S8192x1024, .bf16⟩
  | 119 => ⟨S1024x8192, .bf16⟩
  | 120 => ⟨S8x64x1024, .f32⟩
  | 121 => ⟨S_, .i32⟩
  | 122 => ⟨S_, .f32⟩
  | 123 => ⟨S8x128x1024, .f32⟩
  | 124 => ⟨S1024x1024, .f32⟩
  | 125 => ⟨S8x64x1024, .f32⟩
  | 126 => ⟨S_, .i32⟩
  | 127 => ⟨S_, .f32⟩
  | _ => ⟨S8192x1024, .f32⟩

abbrev hbmTy0_1 (i : Nat) : BufTy := match i % 128 with
  | 0 => ⟨S8x128x1024, .f32⟩
  | 1 => ⟨S1024x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_13 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_c : Ref sig .tc := ⟨.hbm, 112, rfl⟩
abbrev main_call0_v0 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_c_15 : Ref sig .tc := ⟨.hbm, 121, rfl⟩
abbrev main_call1_v0 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_16 : Ref sig .tc := ⟨.hbm, 126, rfl⟩
abbrev main_call2_v0 : Ref sig .tc := ⟨.hbm, 127, rfl⟩
abbrev main_v97 : Ref sig .tc := ⟨.hbm, 128, rfl⟩
abbrev main_v98 : Ref sig .tc := ⟨.hbm, 129, rfl⟩

abbrev nD : Nat := 1
abbrev τ : Topo := Topo.v7x

variable {F : FTy → Type} [FloatOps F]
-- ==== Lat.lean ====
abbrev S8192x256 : Shape := ⟨2, ![8192, 256]⟩
abbrev S8192x128 : Shape := ⟨2, ![8192, 128]⟩
abbrev S8192x32 : Shape := ⟨2, ![8192, 32]⟩
abbrev S8192 : Shape := ⟨1, ![8192]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S8192x768 : Shape := ⟨2, ![8192, 768]⟩
abbrev S8192x512 : Shape := ⟨2, ![8192, 512]⟩
abbrev S8192x1 : Shape := ⟨2, ![8192, 1]⟩
abbrev S16 : Shape := ⟨1, ![16]⟩
abbrev S_ : Shape := ⟨0, ![]⟩
abbrev S64 : Shape := ⟨1, ![64]⟩
abbrev S32 : Shape := ⟨1, ![32]⟩
abbrev S128 : Shape := ⟨1, ![128]⟩
abbrev S8192x8x96 : Shape := ⟨3, ![8192, 8, 96]⟩
abbrev S8192x8x128 : Shape := ⟨3, ![8192, 8, 128]⟩
abbrev S8192x1024 : Shape := ⟨2, ![8192, 1024]⟩
abbrev S1024x8192 : Shape := ⟨2, ![1024, 8192]⟩
abbrev S8192x8x64 : Shape := ⟨3, ![8192, 8, 64]⟩
abbrev S256x8x96 : Shape := ⟨3, ![256, 8, 96]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x2048 : Shape := ⟨2, ![128, 2048]⟩
abbrev S128x8192 : Shape := ⟨2, ![128, 8192]⟩
abbrev S1024x256 : Shape := ⟨2, ![1024, 256]⟩
abbrev S2048x128 : Shape := ⟨2, ![2048, 128]⟩
abbrev S1024x1024 : Shape := ⟨2, ![1024, 1024]⟩
abbrev S1024x128 : Shape := ⟨2, ![1024, 128]⟩
abbrev S1024x512 : Shape := ⟨2, ![1024, 512]⟩
abbrev S2048x1024 : Shape := ⟨2, ![2048, 1024]⟩
abbrev S16x1024 : Shape := ⟨2, ![16, 1024]⟩
abbrev S112x1024 : Shape := ⟨2, ![112, 1024]⟩
abbrev S1024 : Shape := ⟨1, ![1024]⟩
abbrev S1024x1 : Shape := ⟨2, ![1024, 1]⟩
abbrev S256 : Shape := ⟨1, ![256]⟩

abbrev nBuf : Space → Nat
  | .hbm => 144
  | .vmem => 32
  | .smem => 0
  | _ => 0

abbrev hbmTy0_0 (i : Nat) : BufTy := match i % 128 with
  | 0 => ⟨S8192x256, .f32⟩
  | 1 => ⟨S8192x128, .f32⟩
  | 2 => ⟨S8192x32, .f32⟩
  | 3 => ⟨S8192, .i32⟩
  | 4 => ⟨S1x256, .f32⟩
  | 5 => ⟨S1x128, .f32⟩
  | 6 => ⟨S256x768, .f32⟩
  | 7 => ⟨S128x1024, .f32⟩
  | 8 => ⟨S8192x768, .f32⟩
  | 9 => ⟨S8192x768, .f32⟩
  | 10 => ⟨S8192x512, .f32⟩
  | 11 => ⟨S8192x1, .i32⟩
  | 12 => ⟨S8192x1, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S64, .f32⟩
  | 29 => ⟨S_, .f32⟩
  | 30 => ⟨S32, .f32⟩
  | 31 => ⟨S128, .f32⟩
  | 32 => ⟨S1x128, .f32⟩
  | 33 => ⟨S8192x128, .f32⟩
  | 34 => ⟨S8192x128, .f32⟩
  | 35 => ⟨S8192x128, .f32⟩
  | 36 => ⟨S8192x128, .i32⟩
  | 37 => ⟨S8192x128, .f32⟩
  | 38 => ⟨S8192x128, .f32⟩
  | 39 => ⟨S_, .i32⟩
  | 40 => ⟨S8192x128, .i32⟩
  | 41 => ⟨S8192x128, .i1⟩
  | 42 => ⟨S_, .i32⟩
  | 43 => ⟨S8192x128, .i32⟩
  | 44 => ⟨S8192x128, .i1⟩
  | 45 => ⟨S8192x128, .i1⟩
  | 46 => ⟨S8192x128, .f32⟩
  | 47 => ⟨S_, .f32⟩
  | 48 => ⟨S_, .f32⟩
  | 49 => ⟨S8192x128, .f32⟩
  | 50 => ⟨S8192x128, .f32⟩
  | 51 => ⟨S_, .i32⟩
  | 52 => ⟨S8192x128, .i32⟩
  | 53 => ⟨S8192x128, .i1⟩
  | 54 => ⟨S_, .i32⟩
  | 55 => ⟨S8192x128, .i32⟩
  | 56 => ⟨S8192x128, .i1⟩
  | 57 => ⟨S8192x128, .i1⟩
  | 58 => ⟨S_, .f32⟩
  | 59 => ⟨S_, .f32⟩
  | 60 => ⟨S8192x128, .f32⟩
  | 61 => ⟨S8192x128, .f32⟩
  | 62 => ⟨S_, .f32⟩
  | 63 => ⟨S8192x768, .f32⟩
  | 64 => ⟨S8192x768, .f32⟩
  | 65 => ⟨S8192x8x96, .f32⟩
  | 66 => ⟨S_, .i32⟩
  | 67 => ⟨S_, .f32⟩
  | 68 => ⟨S8192x8x128, .f32⟩
  | 69 => ⟨S8192x1024, .f32⟩
  | 70 => ⟨S1024x8192, .f32⟩
  | 71 => ⟨S8192x768, .bf16⟩
  | 72 => ⟨S8192x8x96, .bf16⟩
  | 73 => ⟨S_, .i32⟩
  | 74 => ⟨S_, .bf16⟩
  | 75 => ⟨S8192x8x128, .bf16⟩
  | 76 => ⟨S8192x1024, .bf16⟩
  | 77 => ⟨S1024x8192, .bf16⟩
  | 78 => ⟨S8192x512, .bf16⟩
  | 79 => ⟨S8192x8x64, .bf16⟩
  | 80 => ⟨S_, .i32⟩
  | 81 => ⟨S_, .bf16⟩
  | 82 => ⟨S8192x8x128, .bf16⟩
  | 83 => ⟨S8192x1024, .bf16⟩
  | 84 => ⟨S1024x8192, .bf16⟩
  | 85 => ⟨S8192x256, .f32⟩
  | 86 => ⟨S_, .f32⟩
  | 87 => ⟨S8192, .f32⟩
  | 88 => ⟨S8192x1, .f32⟩
  | 89 => ⟨S_, .f32⟩
  | 90 => ⟨S8192x1, .f32⟩
  | 91 => ⟨S8192x1, .f32⟩
  | 92 => ⟨S_, .f32⟩
  | 93 => ⟨S8192x1, .f32⟩
  | 94 => ⟨S8192x1, .f32⟩
  | 95 => ⟨S8192x1, .f32⟩
  | 96 => ⟨S8192x256, .f32⟩
  | 97 => ⟨S8192x256, .f32⟩
  | 98 => ⟨S8192x256, .f32⟩
  | 99 => ⟨S8192x256, .f32⟩
  | 100 => ⟨S8192x256, .bf16⟩
  | 101 => ⟨S8192x128, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192x1, .f32⟩
  | 110 => ⟨S8192x1, .f32⟩
  | 111 => ⟨S8192x1, .f32⟩
  | 112 => ⟨S8192x128, .f32⟩
  | 113 => ⟨S8192x128, .f32⟩
  | 114 => ⟨S8192x128, .f32⟩
  | 115 => ⟨S8192x128, .f32⟩
  | 116 => ⟨S8192x128, .bf16⟩
  | 117 => ⟨S256x768, .bf16⟩
  | 118 => ⟨S256x8x96, .bf16⟩
  | 119 => ⟨S_, .i32⟩
  | 120 => ⟨S_, .bf16⟩
  | 121 => ⟨S256x8x128, .bf16⟩
  | 122 => ⟨S256x1024, .bf16⟩
  | 123 => ⟨S128x1024, .bf16⟩
  | 124 => ⟨S128x8x128, .bf16⟩
  | 125 => ⟨S128x8x64, .bf16⟩
  | 126 => ⟨S_, .i32⟩
  | 127 => ⟨S_, .bf16⟩
  | _ => ⟨S8192x256, .f32⟩

abbrev hbmTy0_1 (i : Nat) : BufTy := match i % 128 with
  | 0 => ⟨S128x8x128, .bf16⟩
  | 1 => ⟨S128x1024, .bf16⟩
  | 2 => ⟨S128x8x64, .bf16⟩
  | 3 => ⟨S_, .i32⟩
  | 4 => ⟨S_, .bf16⟩
  | 5 => ⟨S128x8x128, .bf16⟩
  | 6 => ⟨S128x1024, .bf16⟩
  | 7 => ⟨S128x2048, .bf16⟩
  | 8 => ⟨S128x8192, .f32⟩
  | 9 => ⟨S128x8192, .f32⟩
  | 10 => ⟨S128x8192, .f32⟩
  | 11 => ⟨S8192x512, .bf16⟩
  | 12 => ⟨S1x256, .f32⟩
  | 13 => ⟨S1x128, .f32⟩
  | 14 => ⟨S1024x256, .f32⟩
  | 15 => ⟨S2048x128, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x256, .f32⟩
  | .local _ .vmem, ⟨7, _⟩ => ⟨S1024x256, .f32⟩
  | .local _ .vmem, ⟨8, _⟩ => ⟨S1024x128, .f32⟩
  | .local _ .vmem, ⟨9, _⟩ => ⟨S1024x128, .f32⟩
  | .local _ .vmem, ⟨10, _⟩ => ⟨S1024x256, .bf16⟩
  | .local _ .vmem, ⟨11, _⟩ => ⟨S1024x256, .bf16⟩
  | .local _ .vmem, ⟨12, _⟩ => ⟨S1024x128, .bf16⟩
  | .local _ .vmem, ⟨13, _⟩ => ⟨S1024x128, .bf16⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S1x256, .f32⟩
  | .local _ .vmem, ⟨21, _⟩ => ⟨S1x128, .f32⟩
  | .local _ .vmem, ⟨22, _⟩ => ⟨S256x1024, .bf16⟩
  | .local _ .vmem, ⟨23, _⟩ => ⟨S128x2048, .bf16⟩
  | .local _ .vmem, ⟨24, _⟩ => ⟨S1024x512, .bf16⟩
  | .local _ .vmem, ⟨25, _⟩ => ⟨S1024x512, .bf16⟩
  | .local _ .vmem, ⟨26, _⟩ => ⟨S1x256, .f32⟩
  | .local _ .vmem, ⟨27, _⟩ => ⟨S1x128, .f32⟩
  | .local _ .vmem, ⟨28, _⟩ => ⟨S1024x256, .f32⟩
  | .local _ .vmem, ⟨29, _⟩ => ⟨S2048x128, .f32⟩
  | .local _ .vmem, ⟨30, _⟩ => ⟨S1024x1024, .bf16⟩
  | .local _ .vmem, ⟨31, _⟩ => ⟨S2048x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_call0_v0 : Ref sig .tc := ⟨.hbm, 48, rfl⟩
abbrev main_call0_v1 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_9 : Ref sig .tc := ⟨.hbm, 58, rfl⟩
abbrev main_call1_v0 : Ref sig .tc := ⟨.hbm, 59, rfl⟩
abbrev main_call1_v1 : Ref sig .tc := ⟨.hbm, 60, rfl⟩
abbrev main_v34 : Ref sig .tc := ⟨.hbm, 61, rfl⟩
abbrev main_cst_10 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_11 : Ref sig .tc := ⟨.hbm, 66, rfl⟩
abbrev main_call2_v0 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_12 : Ref sig .tc := ⟨.hbm, 73, rfl⟩
abbrev main_call3_v0 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_13 : Ref sig .tc := ⟨.hbm, 80, rfl⟩
abbrev main_call4_v0 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_14 : Ref sig .tc := ⟨.hbm, 86, rfl⟩
abbrev main_v52 : Ref sig .tc := ⟨.hbm, 87, rfl⟩
abbrev main_v53 : Ref sig .tc := ⟨.hbm, 88, rfl⟩
abbrev main_cst_15 : Ref sig .tc := ⟨.hbm, 89, rfl⟩
abbrev main_v54 : Ref sig .tc := ⟨.hbm, 90, rfl⟩
abbrev main_v55 : Ref sig .tc := ⟨.hbm, 91, rfl⟩
abbrev main_cst_16 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_17 : Ref sig .tc := ⟨.hbm, 102, rfl⟩
abbrev main_v65 : Ref sig .tc := ⟨.hbm, 103, rfl⟩
abbrev main_v66 : Ref sig .tc := ⟨.hbm, 104, rfl⟩
abbrev main_cst_18 : Ref sig .tc := ⟨.hbm, 105, rfl⟩
abbrev main_v67 : Ref sig .tc := ⟨.hbm, 106, rfl⟩
abbrev main_v68 : Ref sig .tc := ⟨.hbm, 107, rfl⟩
abbrev main_cst_19 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_20 : Ref sig .tc := ⟨.hbm, 119, rfl⟩
abbrev main_call5_v0 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_21 : Ref sig .tc := ⟨.hbm, 126, rfl⟩
abbrev main_call6_v0 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_c_22 : Ref sig .tc := ⟨.hbm, 131, rfl⟩
abbrev main_call7_v0 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93_0 : Ref sig .tc := ⟨.hbm, 139, rfl⟩
abbrev main_v93_1 : Ref sig .tc := ⟨.hbm, 140, rfl⟩
abbrev main_v93_2 : Ref sig .tc := ⟨.hbm, 141, rfl⟩
abbrev main_v93_3 : Ref sig .tc := ⟨.hbm, 142, rfl⟩
abbrev main_v93_4 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2048x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== LatRefIdeal.lean ====
abbrev S8192x256 : Shape := ⟨2, ![8192, 256]⟩
abbrev S8192x128 : Shape := ⟨2, ![8192, 128]⟩
abbrev S8192x32 : Shape := ⟨2, ![8192, 32]⟩
abbrev S8192 : Shape := ⟨1, ![8192]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S8192x768 : Shape := ⟨2, ![8192, 768]⟩
abbrev S8192x512 : Shape := ⟨2, ![8192, 512]⟩
abbrev S_ : Shape := ⟨0, ![]⟩
abbrev S8192x1 : Shape := ⟨2, ![8192, 1]⟩
abbrev S8192x8x96 : Shape := ⟨3, ![8192, 8, 96]⟩
abbrev S8192x1024 : Shape := ⟨2, ![8192, 1024]⟩
abbrev S8192x8x128 : Shape := ⟨3, ![8192, 8, 128]⟩
abbrev S8192x8x64 : Shape := ⟨3, ![8192, 8, 64]⟩
abbrev S8192x8x32 : Shape := ⟨3, ![8192, 8, 32]⟩
abbrev S16 : Shape := ⟨1, ![16]⟩
abbrev S1x16 : Shape := ⟨2, ![1, 16]⟩
abbrev S8192x16 : Shape := ⟨2, ![8192, 16]⟩
abbrev S8192x1x16 : Shape := ⟨3, ![8192, 1, 16]⟩
abbrev S8192x8x16 : Shape := ⟨3, ![8192, 8, 16]⟩
abbrev S8192x1x32 : Shape := ⟨3, ![8192, 1, 32]⟩
abbrev S1024x128 : Shape := ⟨2, ![1024, 128]⟩
abbrev S128 : Shape := ⟨1, ![128]⟩
abbrev S768x256 : Shape := ⟨2, ![768, 256]⟩
abbrev S256 : Shape := ⟨1, ![256]⟩
abbrev S8192x64 : Shape := ⟨2, ![8192, 64]⟩
abbrev S8x32x128 : Shape := ⟨3, ![8, 32, 128]⟩
abbrev S8x96x256 : Shape := ⟨3, ![8, 96, 256]⟩
abbrev S8x128x256 : Shape := ⟨3, ![8, 128, 256]⟩
abbrev S8x128x128 : Shape := ⟨3, ![8, 128, 128]⟩
abbrev S8x64x128 : Shape := ⟨3, ![8, 64, 128]⟩
abbrev S1024x256 : Shape := ⟨2, ![1024, 256]⟩
abbrev S2048x128 : Shape := ⟨2, ![2048, 128]⟩

abbrev nBuf : Space → Nat
  | .hbm => 286
  | .vmem => 0
  | .smem => 0
  | _ => 0

abbrev hbmTy0_0 (i : Nat) : BufTy := match i % 128 with
  | 0 => ⟨S8192x256, .f32⟩
  | 1 => ⟨S8192x128, .f32⟩
  | 2 => ⟨S8192x32, .f32⟩
  | 3 => ⟨S8192, .i32⟩
  | 4 => ⟨S1x256, .f32⟩
  | 5 => ⟨S1x128, .f32⟩
  | 6 => ⟨S256x768, .f32⟩
  | 7 => ⟨S128x1024, .f32⟩
  | 8 => ⟨S8192x768, .f32⟩
  | 9 => ⟨S8192x768, .f32⟩
  | 10 => ⟨S8192x512, .f32⟩
  | 11 => ⟨S8192x256, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x256, .f32⟩
  | 27 => ⟨S8192x256, .f32⟩
  | 28 => ⟨S8192x256, .f32⟩
  | 29 => ⟨S8192x256, .f32⟩
  | 30 => ⟨S8192x768, .f32⟩
  | 31 => ⟨S8192x8x96, .f32⟩
  | 32 => ⟨S8192x128, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x128, .f32⟩
  | 48 => ⟨S8192x128, .f32⟩
  | 49 => ⟨S8192x128, .f32⟩
  | 50 => ⟨S8192x128, .f32⟩
  | 51 => ⟨S8192x1024, .f32⟩
  | 52 => ⟨S8192x8x128, .f32⟩
  | 53 => ⟨S8192x8x64, .f32⟩
  | 54 => ⟨S8192x8x32, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S8192, .f32⟩
  | 70 => ⟨S8192x1, .f32⟩
  | 71 => ⟨S1x16, .f32⟩
  | 72 => ⟨S8192x16, .f32⟩
  | 73 => ⟨S8192x16, .f32⟩
  | 74 => ⟨S8192x16, .f32⟩
  | 75 => ⟨S8192x16, .f32⟩
  | 76 => ⟨S8192x1x16, .f32⟩
  | 77 => ⟨S8192x16, .f32⟩
  | 78 => ⟨S8192x1x16, .f32⟩
  | 79 => ⟨S8192x8x16, .f32⟩
  | 80 => ⟨S8192x8x16, .f32⟩
  | 81 => ⟨S8192x8x16, .f32⟩
  | 82 => ⟨S8192x8x16, .f32⟩
  | 83 => ⟨S8192x8x16, .f32⟩
  | 84 => ⟨S8192x8x16, .f32⟩
  | 85 => ⟨S8192x8x16, .f32⟩
  | 86 => ⟨S8192x8x16, .f32⟩
  | 87 => ⟨S8192x8x16, .f32⟩
  | 88 => ⟨S8192x8x16, .f32⟩
  | 89 => ⟨S8192x8x16, .f32⟩
  | 90 => ⟨S8192x8x16, .f32⟩
  | 91 => ⟨S8192x8x32, .f32⟩
  | 92 => ⟨S8192x8x64, .f32⟩
  | 93 => ⟨S8192x8x64, .f32⟩
  | 94 => ⟨S8192x1x32, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S8192, .f32⟩
  | 110 => ⟨S8192x1, .f32⟩
  | 111 => ⟨S1x16, .f32⟩
  | 112 => ⟨S8192x16, .f32⟩
  | 113 => ⟨S8192x16, .f32⟩
  | 114 => ⟨S8192x16, .f32⟩
  | 115 => ⟨S8192x16, .f32⟩
  | 116 => ⟨S8192x1x16, .f32⟩
  | 117 => ⟨S8192x16, .f32⟩
  | 118 => ⟨S8192x1x16, .f32⟩
  | 119 => ⟨S8192x1x16, .f32⟩
  | 120 => ⟨S8192x1x16, .f32⟩
  | 121 => ⟨S8192x1x16, .f32⟩
  | 122 => ⟨S8192x1x16, .f32⟩
  | 123 => ⟨S8192x1x16, .f32⟩
  | 124 => ⟨S8192x1x16, .f32⟩
  | 125 => ⟨S8192x1x16, .f32⟩
  | 126 => ⟨S8192x1x16, .f32⟩
  | 127 => ⟨S8192x1x32, .f32⟩
  | _ => ⟨S8192x256, .f32⟩

abbrev hbmTy0_1 (i : Nat) : BufTy := match i % 128 with
  | 0 => ⟨S8192x8x32, .f32⟩
  | 1 => ⟨S8192x8x96, .f32⟩
  | 2 => ⟨S8192x768, .f32⟩
  | 3 => ⟨S8192x8x96, .f32⟩
  | 4 => ⟨S8192x768, .f32⟩
  | 5 => ⟨S8192x512, .f32⟩
  | 6 => ⟨S8192x8x64, .f32⟩
  | 7 => ⟨S8192x8x96, .f32⟩
  | 8 => ⟨S8192x8x64, .f32⟩
  | 9 => ⟨S8192x8x32, .f32⟩
  | 10 => ⟨S8192x8x96, .f32⟩
  | 11 => ⟨S8192x8x64, .f32⟩
  | 12 => ⟨S8192x8x32, .f32⟩
  | 13 => ⟨S_, .f32⟩
  | 14 => ⟨S8192x32, .f32⟩
  | 15 => ⟨S8192x1x32, .f32⟩
  | 16 => ⟨S8192x1x16, .f32⟩
  | 17 => ⟨S8192x1x16, .f32⟩
  | 18 => ⟨S8192x1x16, .f32⟩
  | 19 => ⟨S8192x1x16, .f32⟩
  | 20 => ⟨S8192x1x16, .f32⟩
  | 21 => ⟨S8192x1x16, .f32⟩
  | 22 => ⟨S8192x1x16, .f32⟩
  | 23 => ⟨S8192x1x16, .f32⟩
  | 24 => ⟨S8192x1x16, .f32⟩
  | 25 => ⟨S_, .f32⟩
  | 26 => ⟨S8192x1x32, .f32⟩
  | 27 => ⟨S_, .f32⟩
  | 28 => ⟨S8192x1x32, .f32⟩
  | 29 => ⟨S8192x1x32, .f32⟩
  | 30 => ⟨S_, .f32⟩
  | 31 => ⟨S8192x32, .f32⟩
  | 32 => ⟨S_, .f32⟩
  | 33 => ⟨S8192x8x128, .f32⟩
  | 34 => ⟨S_, .f32⟩
  | 35 => ⟨S8192x8x128, .f32⟩
  | 36 => ⟨S8192x8x128, .f32⟩
  | 37 => ⟨S8192x8x16, .f32⟩
  | 38 => ⟨S8192x8x16, .f32⟩
  | 39 => ⟨S8192x8x16, .f32⟩
  | 40 => ⟨S8192x8x16, .f32⟩
  | 41 => ⟨S8192x8x16, .f32⟩
  | 42 => ⟨S8192x8x16, .f32⟩
  | 43 => ⟨S8192x8x16, .f32⟩
  | 44 => ⟨S8192x8x16, .f32⟩
  | 45 => ⟨S8192x8x16, .f32⟩
  | 46 => ⟨S8192x8x16, .f32⟩
  | 47 => ⟨S8192x8x16, .f32⟩
  | 48 => ⟨S8192x8x16, .f32⟩
  | 49 => ⟨S8192x8x16, .f32⟩
  | 50 => ⟨S_, .f32⟩
  | 51 => ⟨S8192x8x32, .f32⟩
  | 52 => ⟨S_, .f32⟩
  | 53 => ⟨S8192x8x32, .f32⟩
  | 54 => ⟨S8192x8x32, .f32⟩
  | 55 => ⟨S_, .f32⟩
  | 56 => ⟨S8192x8x96, .f32⟩
  | 57 => ⟨S_, .f32⟩
  | 58 => ⟨S8192x8x96, .f32⟩
  | 59 => ⟨S8192x8x96, .f32⟩
  | 60 => ⟨S8192x1024, .f32⟩
  | 61 => ⟨S1024x128, .f32⟩
  | 62 => ⟨S128x1024, .f32⟩
  | 63 => ⟨S8192x128, .f32⟩
  | 64 => ⟨S8192x128, .f32⟩
  | 65 => ⟨S_, .f32⟩
  | 66 => ⟨S128, .f32⟩
  | 67 => ⟨S1x128, .f32⟩
  | 68 => ⟨S8192x128, .f32⟩
  | 69 => ⟨S8192x128, .f32⟩
  | 70 => ⟨S8192x128, .f32⟩
  | 71 => ⟨S_, .f32⟩
  | 72 => ⟨S8192, .f32⟩
  | 73 => ⟨S8192x1, .f32⟩
  | 74 => ⟨S8192x128, .f32⟩
  | 75 => ⟨S8192x128, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192, .f32⟩
  | 82 => ⟨S8192x128, .f32⟩
  | 83 => ⟨S8192x128, .f32⟩
  | 84 => ⟨S8192x128, .f32⟩
  | 85 => ⟨S8192x128, .f32⟩
  | 86 => ⟨S8192x128, .f32⟩
  | 87 => ⟨S8192x768, .f32⟩
  | 88 => ⟨S768x256, .f32⟩
  | 89 => ⟨S256x768, .f32⟩
  | 90 => ⟨S8192x256, .f32⟩
  | 91 => ⟨S8192x256, .f32⟩
  | 92 => ⟨S_, .f32⟩
  | 93 => ⟨S256, .f32⟩
  | 94 => ⟨S1x256, .f32⟩
  | 95 => ⟨S8192x256, .f32⟩
  | 96 => ⟨S8192x256, .f32⟩
  | 97 => ⟨S8192x256, .f32⟩
  | 98 => ⟨S_, .f32⟩
  | 99 => ⟨S8192, .f32⟩
  | 100 => ⟨S8192x1, .f32⟩
  | 101 => ⟨S8192x256, .f32⟩
  | 102 => ⟨S8192x256, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192, .f32⟩
  | 109 => ⟨S8192x256, .f32⟩
  | 110 => ⟨S8192x256, .f32⟩
  | 111 => ⟨S8192x256, .f32⟩
  | 112 => ⟨S8192x256, .f32⟩
  | 113 => ⟨S8192x256, .f32⟩
  | 114 => ⟨S8192x8x96, .f32⟩
  | 115 => ⟨S8192x8x64, .f32⟩
  | 116 => ⟨S_, .f32⟩
  | 117 => ⟨S8192x64, .f32⟩
  | 118 => ⟨S8192x8x32, .f32⟩
  | 119 => ⟨S8192x128, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192x1, .f32⟩
  | _ => ⟨S8192x256, .f32⟩

abbrev hbmTy0_2 (i : Nat) : BufTy := match i % 128 with
  | 0 => ⟨S8192x1, .f32⟩
  | 1 => ⟨S8192x1, .f32⟩
  | 2 => ⟨S8192x128, .f32⟩
  | 3 => ⟨S8192x128, .f32⟩
  | 4 => ⟨S8192x128, .f32⟩
  | 5 => ⟨S8192x128, .f32⟩
  | 6 => ⟨S8x32x128, .f32⟩
  | 7 => ⟨S_, .f32⟩
  | 8 => ⟨S8192x32, .f32⟩
  | 9 => ⟨S8192x512, .f32⟩
  | 10 => ⟨S768x256, .f32⟩
  | 11 => ⟨S8x96x256, .f32⟩
  | 12 => ⟨S_, .i32⟩
  | 13 => ⟨S_, .f32⟩
  | 14 => ⟨S8x128x256, .f32⟩
  | 15 => ⟨S1024x128, .f32⟩
  | 16 => ⟨S8x128x128, .f32⟩
  | 17 => ⟨S8x64x128, .f32⟩
  | 18 => ⟨S_, .f32⟩
  | 19 => ⟨S8x32x128, .f32⟩
  | 20 => ⟨S8x128x128, .f32⟩
  | 21 => ⟨S8x64x128, .f32⟩
  | 22 => ⟨S_, .i32⟩
  | 23 => ⟨S_, .f32⟩
  | 24 => ⟨S8x128x128, .f32⟩
  | 25 => ⟨S8192x512, .bf16⟩
  | 26 => ⟨S1024x256, .f32⟩
  | 27 => ⟨S1024x128, .f32⟩
  | 28 => ⟨S1024x128, .f32⟩
  | 29 => ⟨S2048x128, .f32⟩
  | _ => ⟨S8192x256, .f32⟩

abbrev hbmTy (i : Nat) : BufTy := match i / 128 with
  | 0 => hbmTy0_0 i
  | 1 => hbmTy0_1 i
  | 2 => hbmTy0_2 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_v79 : Ref sig .tc := ⟨.hbm, 105, rfl⟩
abbrev main_cst_14 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_15 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_16 : Ref sig .tc := ⟨.hbm, 153, rfl⟩
abbrev main_v125 : Ref sig .tc := ⟨.hbm, 154, rfl⟩
abbrev main_cst_17 : Ref sig .tc := ⟨.hbm, 155, rfl⟩
abbrev main_v126 : Ref sig .tc := ⟨.hbm, 156, rfl⟩
abbrev main_v127 : Ref sig .tc := ⟨.hbm, 157, rfl⟩
abbrev main_cst_18 : Ref sig .tc := ⟨.hbm, 158, rfl⟩
abbrev main_v128 : Ref sig .tc := ⟨.hbm, 159, rfl⟩
abbrev main_cst_19 : Ref sig .tc := ⟨.hbm, 160, rfl⟩
abbrev main_v129 : Ref sig .tc := ⟨.hbm, 161, rfl⟩
abbrev main_cst_20 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_cst_21 : Ref sig .tc := ⟨.hbm, 178, rfl⟩
abbrev main_v145 : Ref sig .tc := ⟨.hbm, 179, rfl⟩
abbrev main_cst_22 : Ref sig .tc := ⟨.hbm, 180, rfl⟩
abbrev main_v146 : Ref sig .tc := ⟨.hbm, 181, rfl⟩
abbrev main_v147 : Ref sig .tc := ⟨.hbm, 182, rfl⟩
abbrev main_cst_23 : Ref sig .tc := ⟨.hbm, 183, rfl⟩
abbrev main_v148 : Ref sig .tc := ⟨.hbm, 184, rfl⟩
abbrev main_cst_24 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_cst_25 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_cst_26 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_cst_27 : Ref sig .tc := ⟨.hbm, 205, rfl⟩
abbrev main_v166 : Ref sig .tc := ⟨.hbm, 206, rfl⟩
abbrev main_v167 : Ref sig .tc := ⟨.hbm, 207, rfl⟩
abbrev main_cst_28 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_cst_29 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_cst_30 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_cst_31 : Ref sig .tc := ⟨.hbm, 232, rfl⟩
abbrev main_v189 : Ref sig .tc := ⟨.hbm, 233, rfl⟩
abbrev main_v190 : Ref sig .tc := ⟨.hbm, 234, rfl⟩
abbrev main_cst_32 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_cst_33 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_cst_34 : Ref sig .tc := ⟨.hbm, 248, rfl⟩
abbrev main_v202 : Ref sig .tc := ⟨.hbm, 249, rfl⟩
abbrev main_v203 : Ref sig .tc := ⟨.hbm, 250, rfl⟩
abbrev main_cst_35 : Ref sig .tc := ⟨.hbm, 251, rfl⟩
abbrev main_v204 : Ref sig .tc := ⟨.hbm, 252, rfl⟩
abbrev main_v205 : Ref sig .tc := ⟨.hbm, 253, rfl⟩
abbrev main_cst_36 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_cst_37 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_c : Ref sig .tc := ⟨.hbm, 268, rfl⟩
abbrev main_call0_v0 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_cst_38 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_c_39 : Ref sig .tc := ⟨.hbm, 278, rfl⟩
abbrev main_call1_v0 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩

abbrev nD : Nat := 1
abbrev τ : Topo := Topo.v7x

variable {F : FTy → Type} [FloatOps F]
-- ==== Join.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S1x1024 : Shape := ⟨2, ![1, 1024]⟩
abbrev S8192x2048 : Shape := ⟨2, ![8192, 2048]⟩
abbrev S8192x8x64 : Shape := ⟨3, ![8192, 8, 64]⟩
abbrev S_ : Shape := ⟨0, ![]⟩
abbrev S8192x8x128 : Shape := ⟨3, ![8192, 8, 128]⟩
abbrev S8x64x1024 : Shape := ⟨3, ![8, 64, 1024]⟩
abbrev S8x128x1024 : Shape := ⟨3, ![8, 128, 1024]⟩
abbrev S512x2048 : Shape := ⟨2, ![512, 2048]⟩
abbrev S512 : Shape := ⟨1, ![512]⟩
abbrev S512x1 : Shape := ⟨2, ![512, 1]⟩

abbrev nBuf : Space → Nat
  | .hbm => 43
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S8192x2048, .f32⟩
  | .hbm, ⟨11, _⟩ => ⟨S8192x2048, .bf16⟩
  | .hbm, ⟨12, _⟩ => ⟨S8192x8x64, .f32⟩
  | .hbm, ⟨13, _⟩ => ⟨S_, .i32⟩
  | .hbm, ⟨14, _⟩ => ⟨S_, .f32⟩
  | .hbm, ⟨15, _⟩ => ⟨S8192x8x128, .f32⟩
  | .hbm, ⟨16, _⟩ => ⟨S8192x1024, .f32⟩
  | .hbm, ⟨17, _⟩ => ⟨S8192x1024, .bf16⟩
  | .hbm, ⟨18, _⟩ => ⟨S8192x8x64, .f32⟩
  | .hbm, ⟨19, _⟩ => ⟨S_, .i32⟩
  | .hbm, ⟨20, _⟩ => ⟨S_, .f32⟩
  | .hbm, ⟨21, _⟩ => ⟨S8192x8x128, .f32⟩
  | .hbm, ⟨22, _⟩ => ⟨S8192x1024, .f32⟩
  | .hbm, ⟨23, _⟩ => ⟨S8192x1024, .bf16⟩
  | .hbm, ⟨24, _⟩ => ⟨S512x1024, .bf16⟩
  | .hbm, ⟨25, _⟩ => ⟨S8x64x1024, .bf16⟩
  | .hbm, ⟨26, _⟩ => ⟨S_, .i32⟩
  | .hbm, ⟨27, _⟩ => ⟨S_, .bf16⟩
  | .hbm, ⟨28, _⟩ => ⟨S8x128x1024, .bf16⟩
  | .hbm, ⟨29, _⟩ => ⟨S1024x1024, .bf16⟩
  | .hbm, ⟨30, _⟩ => ⟨S512x1024, .bf16⟩
  | .hbm, ⟨31, _⟩ => ⟨S8x64x1024, .bf16⟩
  | .hbm, ⟨32, _⟩ => ⟨S_, .i32⟩
  | .hbm, ⟨33, _⟩ => ⟨S_, .bf16⟩
  | .hbm, ⟨34, _⟩ => ⟨S8x128x1024, .bf16⟩
  | .hbm, ⟨35, _⟩ => ⟨S1024x1024, .bf16⟩
  | .hbm, ⟨36, _⟩ => ⟨S1024x1024, .bf16⟩
  | .hbm, ⟨37, _⟩ => ⟨S8192x1024, .bf16⟩
  | .hbm, ⟨38, _⟩ => ⟨S8192x1024, .bf16⟩
  | .hbm, ⟨39, _⟩ => ⟨S8192x1024, .bf16⟩
  | .hbm, ⟨40, _⟩ => ⟨S8192x1024, .f32⟩
  | .hbm, ⟨41, _⟩ => ⟨S8192x1024, .f32⟩
  | .hbm, ⟨42, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_call2_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_call3_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v19_2 : Ref sig .tc := ⟨.hbm, 39, rfl⟩
abbrev main_v19_3 : Ref sig .tc := ⟨.hbm, 40, rfl⟩
abbrev main_v19_4 : Ref sig .tc := ⟨.hbm, 41, rfl⟩
abbrev main_v19_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== JoinRefIdeal.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S8192x1024, .bf16⟩
  | .hbm, ⟨50, _⟩ => ⟨S8192x1024, .bf16⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Swa.lean ====
abbrev S1x8192x512 : Shape := ⟨3, ![1, 8192, 512]⟩
abbrev S1x8192x128 : Shape := ⟨3, ![1, 8192, 128]⟩
abbrev S1x8192 : Shape := ⟨2, ![1, 8192]⟩
abbrev S8 : Shape := ⟨1, ![8]⟩
abbrev S1x8192x8x64 : Shape := ⟨4, ![1, 8192, 8, 64]⟩
abbrev S1x8192x2x64 : Shape := ⟨4, ![1, 8192, 2, 64]⟩
abbrev S1x64x128x2x4x64 : Shape := ⟨6, ![1, 64, 128, 2, 4, 64]⟩
abbrev S_ : Shape := ⟨0, ![]⟩
abbrev S1x128x2x64 : Shape := ⟨4, ![1, 128, 2, 64]⟩
abbrev S1x8320x2x64 : Shape := ⟨4, ![1, 8320, 2, 64]⟩
abbrev S1x64x128x2x64 : Shape := ⟨5, ![1, 64, 128, 2, 64]⟩
abbrev S1x64x256x2x64 : Shape := ⟨5, ![1, 64, 256, 2, 64]⟩
abbrev S1x128 : Shape := ⟨2, ![1, 128]⟩
abbrev S1x8320 : Shape := ⟨2, ![1, 8320]⟩
abbrev S1x64x128 : Shape := ⟨3, ![1, 64, 128]⟩
abbrev S1x64x256 : Shape := ⟨3, ![1, 64, 256]⟩
abbrev S1x64x2x256x128x4 : Shape := ⟨6, ![1, 64, 2, 256, 128, 4]⟩
abbrev S1x64x2x4x128x256 : Shape := ⟨6, ![1, 64, 2, 4, 128, 256]⟩
abbrev S1x64x128x1 : Shape := ⟨4, ![1, 64, 128, 1]⟩
abbrev S1x64x1x256 : Shape := ⟨4, ![1, 64, 1, 256]⟩
abbrev S1x64x128x256 : Shape := ⟨4, ![1, 64, 128, 256]⟩
abbrev S2x4 : Shape := ⟨2, ![2, 4]⟩
abbrev S1x1x2x4x1x1 : Shape := ⟨6, ![1, 1, 2, 4, 1, 1]⟩
abbrev S1x64x1x1x128x256 : Shape := ⟨6, ![1, 64, 1, 1, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S8192x512 : Shape := ⟨2, ![8192, 512]⟩
abbrev S64x8x128 : Shape := ⟨3, ![64, 8, 128]⟩
abbrev S8x64x128 : Shape := ⟨3, ![8, 64, 128]⟩
abbrev S8x1x8192 : Shape := ⟨3, ![8, 1, 8192]⟩
abbrev S8192x8x64 : Shape := ⟨3, ![8192, 8, 64]⟩
abbrev S8192x8x128 : Shape := ⟨3, ![8192, 8, 128]⟩
abbrev S8192x1024 : Shape := ⟨2, ![8192, 1024]⟩
abbrev S8192x128 : Shape := ⟨2, ![8192, 128]⟩
abbrev S8192x2x64 : Shape := ⟨3, ![8192, 2, 64]⟩
abbrev S8192x2x128 : Shape := ⟨3, ![8192, 2, 128]⟩
abbrev S8192x256 : Shape := ⟨2, ![8192, 256]⟩
abbrev S8192 : Shape := ⟨1, ![8192]⟩
abbrev S8192x1 : Shape := ⟨2, ![8192, 1]⟩
abbrev S2x4x1 : Shape := ⟨3, ![2, 4, 1]⟩
abbrev S2x4x1x128 : Shape := ⟨4, ![2, 4, 1, 128]⟩
abbrev S2x4x128 : Shape := ⟨3, ![2, 4, 128]⟩
abbrev S2x1x512 : Shape := ⟨3, ![2, 1, 512]⟩
abbrev S8192x1536 : Shape := ⟨2, ![8192, 1536]⟩
abbrev S1024x1024 : Shape := ⟨2, ![1024, 1024]⟩
abbrev S128x1024 : Shape := ⟨2, ![128, 1024]⟩
abbrev S8x1x1024 : Shape := ⟨3, ![8, 1, 1024]⟩
abbrev S8x1x128 : Shape := ⟨3, ![8, 1, 128]⟩
abbrev S1024x256 : Shape := ⟨2, ![1024, 256]⟩
abbrev S1024x1 : Shape := ⟨2, ![1024, 1]⟩
abbrev S1x1024 : Shape := ⟨2, ![1, 1024]⟩
abbrev S1024x1536 : Shape := ⟨2, ![1024, 1536]⟩
abbrev S128x512 : Shape := ⟨2, ![128, 512]⟩
abbrev S128x128 : Shape := ⟨2, ![128, 128]⟩
abbrev S512 : Shape := ⟨1, ![512]⟩
abbrev S1x512 : Shape := ⟨2, ![1, 512]⟩
abbrev S1x1x128 : Shape := ⟨3, ![1, 1, 128]⟩
abbrev S1x1x512 : Shape := ⟨3, ![1, 1, 512]⟩
abbrev S8x128 : Shape := ⟨2, ![8, 128]⟩

abbrev nBuf : Space → Nat
  | .hbm => 181
  | .vmem => 37
  | .smem => 0
  | _ => 0

abbrev hbmTy0_0 (i : Nat) : BufTy := match i % 128 with
  | 0 => ⟨S1x8192x512, .f32⟩
  | 1 => ⟨S1x8192x128, .f32⟩
  | 2 => ⟨S1x8192x128, .f32⟩
  | 3 => ⟨S1x8192, .i32⟩
  | 4 => ⟨S8, .f32⟩
  | 5 => ⟨S1x8192x512, .f32⟩
  | 6 => ⟨S8, .f32⟩
  | 7 => ⟨S1x8192x8x64, .f32⟩
  | 8 => ⟨S1x8192x2x64, .f32⟩
  | 9 => ⟨S1x8192x2x64, .f32⟩
  | 10 => ⟨S1x64x128x2x4x64, .f32⟩
  | 11 => ⟨S_, .f32⟩
  | 12 => ⟨S1x128x2x64, .f32⟩
  | 13 => ⟨S1x8320x2x64, .f32⟩
  | 14 => ⟨S1x8192x2x64, .f32⟩
  | 15 => ⟨S1x64x128x2x64, .f32⟩
  | 16 => ⟨S1x64x128x2x64, .f32⟩
  | 17 => ⟨S1x64x256x2x64, .f32⟩
  | 18 => ⟨S_, .i32⟩
  | 19 => ⟨S1x128, .i32⟩
  | 20 => ⟨S1x8320, .i32⟩
  | 21 => ⟨S1x8192, .i32⟩
  | 22 => ⟨S1x64x128, .i32⟩
  | 23 => ⟨S1x64x128, .i32⟩
  | 24 => ⟨S1x64x256, .i32⟩
  | 25 => ⟨S1x64x128, .i32⟩
  | 26 => ⟨S1x64x2x256x128x4, .f32⟩
  | 27 => ⟨S1x64x2x4x128x256, .f32⟩
  | 28 => ⟨S_, .f32⟩
  | 29 => ⟨S1x64x2x4x128x256, .f32⟩
  | 30 => ⟨S1x64x2x4x128x256, .f32⟩
  | 31 => ⟨S1x64x128x1, .i32⟩
  | 32 => ⟨S1x64x1x256, .i32⟩
  | 33 => ⟨S1x64x128x256, .i32⟩
  | 34 => ⟨S1x64x128x256, .i32⟩
  | 35 => ⟨S1x64x128x256, .i32⟩
  | 36 => ⟨S1x64x128x256, .i32⟩
  | 37 => ⟨S1x64x128x256, .f32⟩
  | 38 => ⟨S8, .f32⟩
  | 39 => ⟨S_, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S2x4, .f32⟩
  | 52 => ⟨S1x1x2x4x1x1, .f32⟩
  | 53 => ⟨S1x64x1x1x128x256, .f32⟩
  | 54 => ⟨S1x64x2x4x128x256, .f32⟩
  | 55 => ⟨S1x64x2x4x128x256, .f32⟩
  | 56 => ⟨S1x64x2x4x128x256, .f32⟩
  | 57 => ⟨S1x64x2x4x128x256, .f32⟩
  | 58 => ⟨S128, .i32⟩
  | 59 => ⟨S128x1, .i32⟩
  | 60 => ⟨S_, .i32⟩
  | 61 => ⟨S128x1, .i32⟩
  | 62 => ⟨S128x1, .i32⟩
  | 63 => ⟨S256, .i32⟩
  | 64 => ⟨S1x256, .i32⟩
  | 65 => ⟨S128x256, .i32⟩
  | 66 => ⟨S128x256, .i32⟩
  | 67 => ⟨S128x256, .i32⟩
  | 68 => ⟨S_, .i32⟩
  | 69 => ⟨S128x256, .i32⟩
  | 70 => ⟨S128x256, .i1⟩
  | 71 => ⟨S_, .i32⟩
  | 72 => ⟨S128x256, .i32⟩
  | 73 => ⟨S128x256, .i1⟩
  | 74 => ⟨S128x256, .i1⟩
  | 75 => ⟨S64, .i32⟩
  | 76 => ⟨S64x1x1, .i32⟩
  | 77 => ⟨S_, .i32⟩
  | 78 => ⟨S64x1x1, .i32⟩
  | 79 => ⟨S64x1x1, .i1⟩
  | 80 => ⟨S1x1x256, .i32⟩
  | 81 => ⟨S_, .i32⟩
  | 82 => ⟨S1x1x256, .i32⟩
  | 83 => ⟨S1x1x256, .i1⟩
  | 84 => ⟨S64x1x256, .i1⟩
  | 85 => ⟨S64x1x256, .i1⟩
  | 86 => ⟨S64x1x256, .i1⟩
  | 87 => ⟨S1x128x256, .i1⟩
  | 88 => ⟨S64x128x256, .i1⟩
  | 89 => ⟨S64x128x256, .i1⟩
  | 90 => ⟨S64x128x256, .i1⟩
  | 91 => ⟨S1x64x1x1x128x256, .i1⟩
  | 92 => ⟨S_, .f32⟩
  | 93 => ⟨S_, .f32⟩
  | 94 => ⟨S1x64x2x4x128x256, .i1⟩
  | 95 => ⟨S1x64x2x4x128x256, .f32⟩
  | 96 => ⟨S1x64x2x4x128x256, .f32⟩
  | 97 => ⟨S1x1x2x4x1x1, .f32⟩
  | 98 => ⟨S_, .f32⟩
  | 99 => ⟨S1x64x2x4x128, .f32⟩
  | 100 => ⟨S1x64x2x4x128x1, .f32⟩
  | 101 => ⟨S1x64x2x4x128x1, .f32⟩
  | 102 => ⟨S1x64x2x4x128x1, .f32⟩
  | 103 => ⟨S1x64x2x4x128x256, .f32⟩
  | 104 => ⟨S1x64x2x4x128x256, .f32⟩
  | 105 => ⟨S1x64x2x4x128x256, .f32⟩
  | 106 => ⟨S_, .f32⟩
  | 107 => ⟨S1x64x2x4x128, .f32⟩
  | 108 => ⟨S1x64x2x4x128x1, .f32⟩
  | 109 => ⟨S1x64x2x4x128x1, .f32⟩
  | 110 => ⟨S1x64x2x4x128x1, .f32⟩
  | 111 => ⟨S1x64x2x4x128x1, .f32⟩
  | 112 => ⟨S1x64x2x4x128x1, .f32⟩
  | 113 => ⟨S1x64x2x4x128x256, .f32⟩
  | 114 => ⟨S1x64x2x4x128x256, .f32⟩
  | 115 => ⟨S_, .f32⟩
  | 116 => ⟨S1x128x2x64, .f32⟩
  | 117 => ⟨S1x8320x2x64, .f32⟩
  | 118 => ⟨S1x8192x2x64, .f32⟩
  | 119 => ⟨S1x64x128x2x64, .f32⟩
  | 120 => ⟨S1x64x128x2x64, .f32⟩
  | 121 => ⟨S1x64x256x2x64, .f32⟩
  | 122 => ⟨S1x64x2x64x4x128, .f32⟩
  | 123 => ⟨S1x64x128x2x4x64, .f32⟩
  | 124 => ⟨S8192x512, .f32⟩
  | 125 => ⟨S1x64x2x4x128x1, .f32⟩
  | 126 => ⟨S1x64x2x4x128x1, .f32⟩
  | 127 => ⟨S64x8x128, .f32⟩
  | _ => ⟨S1x8192x512, .f32⟩

abbrev hbmTy0_1 (i : Nat) : BufTy := match i % 128 with
  | 0 => ⟨S8x64x128, .f32⟩
  | 1 => ⟨S8x1x8192, .f32⟩
  | 2 => ⟨S8192x512, .f32⟩
  | 3 => ⟨S8192x8x64, .f32⟩
  | 4 => ⟨S_, .i32⟩
  | 5 => ⟨S_, .f32⟩
  | 6 => ⟨S8192x8x128, .f32⟩
  | 7 => ⟨S8192x1024, .f32⟩
  | 8 => ⟨S8192x1024, .bf16⟩
  | 9 => ⟨S8192x128, .f32⟩
  | 10 => ⟨S8192x2x64, .f32⟩
  | 11 => ⟨S_, .i32⟩
  | 12 => ⟨S_, .f32⟩
  | 13 => ⟨S8192x2x128, .f32⟩
  | 14 => ⟨S8192x256, .f32⟩
  | 15 => ⟨S8192x256, .bf16⟩
  | 16 => ⟨S8192x128, .f32⟩
  | 17 => ⟨S8192x2x64, .f32⟩
  | 18 => ⟨S_, .i32⟩
  | 19 => ⟨S_, .f32⟩
  | 20 => ⟨S8192x2x128, .f32⟩
  | 21 => ⟨S8192x256, .f32⟩
  | 22 => ⟨S8192x256, .bf16⟩
  | 23 => ⟨S8192x512, .f32⟩
  | 24 => ⟨S8192x8x64, .f32⟩
  | 25 => ⟨S_, .i32⟩
  | 26 => ⟨S_, .f32⟩
  | 27 => ⟨S8192x8x128, .f32⟩
  | 28 => ⟨S8192x1024, .f32⟩
  | 29 => ⟨S8192x1024, .bf16⟩
  | 30 => ⟨S8192x8x64, .f32⟩
  | 31 => ⟨S_, .i32⟩
  | 32 => ⟨S_, .f32⟩
  | 33 => ⟨S8192x8x128, .f32⟩
  | 34 => ⟨S8192x1024, .f32⟩
  | 35 => ⟨S8192x1024, .bf16⟩
  | 36 => ⟨S8192, .i32⟩
  | 37 => ⟨S8192x1, .i32⟩
  | 38 => ⟨S8192, .i32⟩
  | 39 => ⟨S1x8192, .i32⟩
  | 40 => ⟨S2x4x1, .f32⟩
  | 41 => ⟨S2x4x1x128, .f32⟩
  | 42 => ⟨S2x4x128, .f32⟩
  | 43 => ⟨S2x4x1, .f32⟩
  | 44 => ⟨S2x4x1x128, .f32⟩
  | 45 => ⟨S2x4x128, .f32⟩
  | 46 => ⟨S2x1x512, .f32⟩
  | 47 => ⟨S2x1x512, .f32⟩
  | 48 => ⟨S8192x1536, .bf16⟩
  | 49 => ⟨S2x1x512, .f32⟩
  | 50 => ⟨S8x128, .f32⟩
  | 51 => ⟨S_, .f32⟩
  | 52 => ⟨S8, .f32⟩
  | _ => ⟨S1x8192x512, .f32⟩

abbrev hbmTy (i : Nat) : BufTy := match i / 128 with
  | 0 => hbmTy0_0 i
  | 1 => hbmTy0_1 i
  | _ => ⟨S1x8192x512, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .bf16⟩
  | .local _ .vmem, ⟨5, _⟩ => ⟨S1024x1024, .bf16⟩
  | .local _ .vmem, ⟨6, _⟩ => ⟨S128x1024, .bf16⟩
  | .local _ .vmem, ⟨7, _⟩ => ⟨S128x1024, .bf16⟩
  | .local _ .vmem, ⟨8, _⟩ => ⟨S8x1x1024, .f32⟩
  | .local _ .vmem, ⟨9, _⟩ => ⟨S8x1x1024, .f32⟩
  | .local _ .vmem, ⟨10, _⟩ => ⟨S8x1x128, .f32⟩
  | .local _ .vmem, ⟨11, _⟩ => ⟨S8x1x128, .f32⟩
  | .local _ .vmem, ⟨12, _⟩ => ⟨S1024x1024, .bf16⟩
  | .local _ .vmem, ⟨13, _⟩ => ⟨S1024x1024, .bf16⟩
  | .local _ .vmem, ⟨14, _⟩ => ⟨S128x1024, .bf16⟩
  | .local _ .vmem, ⟨15, _⟩ => ⟨S128x1024, .bf16⟩
  | .local _ .vmem, ⟨16, _⟩ => ⟨S128x256, .bf16⟩
  | .local _ .vmem, ⟨17, _⟩ => ⟨S128x256, .bf16⟩
  | .local _ .vmem, ⟨18, _⟩ => ⟨S1024x256, .bf16⟩
  | .local _ .vmem, ⟨19, _⟩ => ⟨S1024x256, .bf16⟩
  | .local _ .vmem, ⟨20, _⟩ => ⟨S128x256, .bf16⟩
  | .local _ .vmem, ⟨21, _⟩ => ⟨S128x256, .bf16⟩
  | .local _ .vmem, ⟨22, _⟩ => ⟨S1024x256, .bf16⟩
  | .local _ .vmem, ⟨23, _⟩ => ⟨S1024x256, .bf16⟩
  | .local _ .vmem, ⟨24, _⟩ => ⟨S128x1, .i32⟩
  | .local _ .vmem, ⟨25, _⟩ => ⟨S128x1, .i32⟩
  | .local _ .vmem, ⟨26, _⟩ => ⟨S1024x1, .i32⟩
  | .local _ .vmem, ⟨27, _⟩ => ⟨S1024x1, .i32⟩
  | .local _ .vmem, ⟨28, _⟩ => ⟨S1x1024, .i32⟩
  | .local _ .vmem, ⟨29, _⟩ => ⟨S1x1024, .i32⟩
  | .local _ .vmem, ⟨30, _⟩ => ⟨S1x128, .i32⟩
  | .local _ .vmem, ⟨31, _⟩ => ⟨S1x128, .i32⟩
  | .local _ .vmem, ⟨32, _⟩ => ⟨S2x1x512, .f32⟩
  | .local _ .vmem, ⟨33, _⟩ => ⟨S2x1x512, .f32⟩
  | .local _ .vmem, ⟨34, _⟩ => ⟨S1024x1536, .bf16⟩
  | .local _ .vmem, ⟨35, _⟩ => ⟨S1024x1536, .bf16⟩
  | .local _ .vmem, ⟨36, _⟩ => ⟨S2x1x512, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_7 : Ref sig .tc := ⟨.hbm, 68, rfl⟩
abbrev main_v53 : Ref sig .tc := ⟨.hbm, 69, rfl⟩
abbrev main_v54 : Ref sig .tc := ⟨.hbm, 70, rfl⟩
abbrev main_c_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_9 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_10 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_11 : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_v73 : Ref sig .tc := ⟨.hbm, 96, rfl⟩
abbrev main_v74 : Ref sig .tc := ⟨.hbm, 97, rfl⟩
abbrev main_cst_12 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_13 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_14 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_c_15 : Ref sig .tc := ⟨.hbm, 132, rfl⟩
abbrev main_call1_v0 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_c_16 : Ref sig .tc := ⟨.hbm, 139, rfl⟩
abbrev main_call2_v0 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_c_17 : Ref sig .tc := ⟨.hbm, 146, rfl⟩
abbrev main_call3_v0 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_c_18 : Ref sig .tc := ⟨.hbm, 153, rfl⟩
abbrev main_call4_v0 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_c_19 : Ref sig .tc := ⟨.hbm, 159, rfl⟩
abbrev main_call5_v0 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140_0 : Ref sig .tc := ⟨.hbm, 176, rfl⟩
abbrev main_v140_1 : Ref sig .tc := ⟨.hbm, 177, rfl⟩
abbrev main_v141 : Ref sig .tc := ⟨.hbm, 178, rfl⟩
abbrev main_cst_20 : Ref sig .tc := ⟨.hbm, 179, rfl⟩
abbrev main_v142 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem18_1 : DmaSem sig := 35
abbrev cc0_sem19_0 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli c8_i32 v0
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli c8_i32 v0
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli c8_i32 v0
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, c0_i32_0.toNat, v2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli c8_i32 v0
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli c8_i32 v0
  let c63_i32 : BitVec 32 := 63#32
  let v2 : BitVec 32 := Scalar.minsi v1 c63_i32
  let c0_i32 : BitVec 32 := 0#32
  let c0_i32_0 : BitVec 32 := 0#32
  ![c0_i32.toNat, v2.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S2x1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1024x1536 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S2x1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== SwaIdeal.lean ====
variable {F : FTy → Type} [FloatOps F] [Named F]
def κ : String → Option EReal := fun
  | "mask" => some ⊥
  | _ => none
-- ==== SwaRefIdeal.lean ====
abbrev S1x8192x512 : Shape := ⟨3, ![1, 8192, 512]⟩
abbrev S1x8192x128 : Shape := ⟨3, ![1, 8192, 128]⟩
abbrev S1x8192 : Shape := ⟨2, ![1, 8192]⟩
abbrev S8 : Shape := ⟨1, ![8]⟩
abbrev S1x8192x8x64 : Shape := ⟨4, ![1, 8192, 8, 64]⟩
abbrev S1x8192x2x64 : Shape := ⟨4, ![1, 8192, 2, 64]⟩
abbrev S1x64x128x2x4x64 : Shape := ⟨6, ![1, 64, 128, 2, 4, 64]⟩
abbrev S_ : Shape := ⟨0, ![]⟩
abbrev S1x128x2x64 : Shape := ⟨4, ![1, 128, 2, 64]⟩
abbrev S1x8320x2x64 : Shape := ⟨4, ![1, 8320, 2, 64]⟩
abbrev S1x64x128x2x64 : Shape := ⟨5, ![1, 64, 128, 2, 64]⟩
abbrev S1x64x256x2x64 : Shape := ⟨5, ![1, 64, 256, 2, 64]⟩
abbrev S1x128 : Shape := ⟨2, ![1, 128]⟩
abbrev S1x8320 : Shape := ⟨2, ![1, 8320]⟩
abbrev S1x64x128 : Shape := ⟨3, ![1, 64, 128]⟩
abbrev S1x64x256 : Shape := ⟨3, ![1, 64, 256]⟩
abbrev S1x64x2x256x128x4 : Shape := ⟨6, ![1, 64, 2, 256, 128, 4]⟩
abbrev S1x64x2x4x128x256 : Shape := ⟨6, ![1, 64, 2, 4, 128, 256]⟩
abbrev S1x64x128x1 : Shape := ⟨4, ![1, 64, 128, 1]⟩
abbrev S1x64x1x256 : Shape := ⟨4, ![1, 64, 1, 256]⟩
abbrev S1x64x128x256 : Shape := ⟨4, ![1, 64, 128, 256]⟩
abbrev S2x4 : Shape := ⟨2, ![2, 4]⟩
abbrev S1x1x2x4x1x1 : Shape := ⟨6, ![1, 1, 2, 4, 1, 1]⟩
abbrev S1x64x1x1x128x256 : Shape := ⟨6, ![1, 64, 1, 1, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S1x64x2x64x256 : Shape := ⟨5, ![1, 64, 2, 64, 256]⟩
abbrev S1x2x4x1 : Shape := ⟨4, ![1, 2, 4, 1]⟩
abbrev S64x2x4x128 : Shape := ⟨4, ![64, 2, 4, 128]⟩
abbrev S1x64x2x128x4x64 : Shape := ⟨6, ![1, 64, 2, 128, 4, 64]⟩
abbrev S1x64x2x256x64 : Shape := ⟨5, ![1, 64, 2, 256, 64]⟩
abbrev S8192x8x64 : Shape := ⟨3, ![8192, 8, 64]⟩
abbrev S8192x8x128 : Shape := ⟨3, ![8192, 8, 128]⟩
abbrev S8192x1024 : Shape := ⟨2, ![8192, 1024]⟩
abbrev S8192x2x64 : Shape := ⟨3, ![8192, 2, 64]⟩
abbrev S8192x2x128 : Shape := ⟨3, ![8192, 2, 128]⟩
abbrev S8192x256 : Shape := ⟨2, ![8192, 256]⟩
abbrev S8192x1536 : Shape := ⟨2, ![8192, 1536]⟩

abbrev nBuf : Space → Nat
  | .hbm => 258
  | .vmem => 0
  | .smem => 0
  | _ => 0

abbrev hbmTy0_0 (i : Nat) : BufTy := match i % 128 with
  | 0 => ⟨S1x8192x512, .f32⟩
  | 1 => ⟨S1x8192x128, .f32⟩
  | 2 => ⟨S1x8192x128, .f32⟩
  | 3 => ⟨S1x8192, .i32⟩
  | 4 => ⟨S8, .f32⟩
  | 5 => ⟨S1x8192x512, .f32⟩
  | 6 => ⟨S1x8192x8x64, .f32⟩
  | 7 => ⟨S1x8192x2x64, .f32⟩
  | 8 => ⟨S1x8192x2x64, .f32⟩
  | 9 => ⟨S1x64x128x2x4x64, .f32⟩
  | 10 => ⟨S_, .f32⟩
  | 11 => ⟨S1x128x2x64, .f32⟩
  | 12 => ⟨S1x8320x2x64, .f32⟩
  | 13 => ⟨S_, .f32⟩
  | 14 => ⟨S1x128x2x64, .f32⟩
  | 15 => ⟨S1x8192x2x64, .f32⟩
  | 16 => ⟨S1x64x128x2x64, .f32⟩
  | 17 => ⟨S1x64x128x2x64, .f32⟩
  | 18 => ⟨S1x64x256x2x64, .f32⟩
  | 19 => ⟨S_, .i32⟩
  | 20 => ⟨S1x128, .i32⟩
  | 21 => ⟨S1x8320, .i32⟩
  | 22 => ⟨S1x8192, .i32⟩
  | 23 => ⟨S1x64x128, .i32⟩
  | 24 => ⟨S1x64x128, .i32⟩
  | 25 => ⟨S1x64x256, .i32⟩
  | 26 => ⟨S1x64x128, .i32⟩
  | 27 => ⟨S1x64x2x256x128x4, .f32⟩
  | 28 => ⟨S1x64x2x4x128x256, .f32⟩
  | 29 => ⟨S_, .f32⟩
  | 30 => ⟨S1x64x2x4x128x256, .f32⟩
  | 31 => ⟨S1x64x2x4x128x256, .f32⟩
  | 32 => ⟨S1x64x128x1, .i32⟩
  | 33 => ⟨S1x64x1x256, .i32⟩
  | 34 => ⟨S1x64x128x256, .i32⟩
  | 35 => ⟨S1x64x128x256, .i32⟩
  | 36 => ⟨S1x64x128x256, .i32⟩
  | 37 => ⟨S1x64x128x256, .i32⟩
  | 38 => ⟨S1x64x128x256, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S2x4, .f32⟩
  | 53 => ⟨S1x1x2x4x1x1, .f32⟩
  | 54 => ⟨S1x64x1x1x128x256, .f32⟩
  | 55 => ⟨S1x64x2x4x128x256, .f32⟩
  | 56 => ⟨S1x64x2x4x128x256, .f32⟩
  | 57 => ⟨S1x64x2x4x128x256, .f32⟩
  | 58 => ⟨S1x64x2x4x128x256, .f32⟩
  | 59 => ⟨S128, .i32⟩
  | 60 => ⟨S128x1, .i32⟩
  | 61 => ⟨S_, .i32⟩
  | 62 => ⟨S128x1, .i32⟩
  | 63 => ⟨S128x1, .i32⟩
  | 64 => ⟨S256, .i32⟩
  | 65 => ⟨S1x256, .i32⟩
  | 66 => ⟨S128x256, .i32⟩
  | 67 => ⟨S128x256, .i32⟩
  | 68 => ⟨S128x256, .i32⟩
  | 69 => ⟨S_, .i32⟩
  | 70 => ⟨S128x256, .i32⟩
  | 71 => ⟨S128x256, .i1⟩
  | 72 => ⟨S_, .i32⟩
  | 73 => ⟨S128x256, .i32⟩
  | 74 => ⟨S128x256, .i1⟩
  | 75 => ⟨S128x256, .i1⟩
  | 76 => ⟨S64, .i32⟩
  | 77 => ⟨S64x1x1, .i32⟩
  | 78 => ⟨S_, .i32⟩
  | 79 => ⟨S64x1x1, .i32⟩
  | 80 => ⟨S64x1x1, .i1⟩
  | 81 => ⟨S1x1x256, .i32⟩
  | 82 => ⟨S_, .i32⟩
  | 83 => ⟨S1x1x256, .i32⟩
  | 84 => ⟨S1x1x256, .i1⟩
  | 85 => ⟨S64x1x256, .i1⟩
  | 86 => ⟨S64x1x256, .i1⟩
  | 87 => ⟨S64x1x256, .i1⟩
  | 88 => ⟨S1x128x256, .i1⟩
  | 89 => ⟨S64x128x256, .i1⟩
  | 90 => ⟨S64x128x256, .i1⟩
  | 91 => ⟨S64x128x256, .i1⟩
  | 92 => ⟨S1x64x1x1x128x256, .i1⟩
  | 93 => ⟨S_, .f32⟩
  | 94 => ⟨S_, .f32⟩
  | 95 => ⟨S1x64x2x4x128x256, .i1⟩
  | 96 => ⟨S1x64x2x4x128x256, .f32⟩
  | 97 => ⟨S1x64x2x4x128x256, .f32⟩
  | 98 => ⟨S_, .f32⟩
  | 99 => ⟨S1x64x2x4x128x256, .f32⟩
  | 100 => ⟨S1x1x2x4x1x1, .f32⟩
  | 101 => ⟨S_, .f32⟩
  | 102 => ⟨S1x64x2x4x128, .f32⟩
  | 103 => ⟨S1x64x2x4x128x1, .f32⟩
  | 104 => ⟨S1x64x2x4x128x256, .f32⟩
  | 105 => ⟨S1x64x2x4x128x256, .i1⟩
  | 106 => ⟨S1x64x2x4x128x256, .f32⟩
  | 107 => ⟨S_, .f32⟩
  | 108 => ⟨S1x64x2x4x128, .f32⟩
  | 109 => ⟨S1x64x2x4x128x1, .f32⟩
  | 110 => ⟨S1x64x2x4x128x1, .f32⟩
  | 111 => ⟨S1x64x2x4x128x1, .f32⟩
  | 112 => ⟨S1x64x2x4x128x1, .f32⟩
  | 113 => ⟨S1x64x2x4x128x1, .i1⟩
  | 114 => ⟨S1x64x2x4x128x1, .f32⟩
  | 115 => ⟨S1x64x2x4x128x1, .i1⟩
  | 116 => ⟨S_, .f32⟩
  | 117 => ⟨S1x64x2x4x128x1, .f32⟩
  | 118 => ⟨S_, .f32⟩
  | 119 => ⟨S1x64x2x4x128x1, .f32⟩
  | 120 => ⟨S_, .f32⟩
  | 121 => ⟨S1x64x2x4x128x1, .f32⟩
  | 122 => ⟨S1x64x2x4x128x1, .f32⟩
  | 123 => ⟨S1x64x2x4x128x1, .f32⟩
  | 124 => ⟨S1x64x2x4x128x1, .f32⟩
  | 125 => ⟨S1x64x2x4x128x1, .i1⟩
  | 126 => ⟨S1x64x2x4x128x1, .f32⟩
  | 127 => ⟨S1x64x2x4x128x1, .i1⟩
  | _ => ⟨S1x8192x512, .f32⟩

abbrev hbmTy0_1 (i : Nat) : BufTy := match i % 128 with
  | 0 => ⟨S_, .f32⟩
  | 1 => ⟨S1x64x2x4x128x1, .f32⟩
  | 2 => ⟨S_, .f32⟩
  | 3 => ⟨S1x64x2x4x128x1, .f32⟩
  | 4 => ⟨S_, .f32⟩
  | 5 => ⟨S1x64x2x4x128x1, .f32⟩
  | 6 => ⟨S1x64x2x4x128x1, .f32⟩
  | 7 => ⟨S1x64x2x4x128x1, .f32⟩
  | 8 => ⟨S1x64x2x4x128x256, .f32⟩
  | 9 => ⟨S1x64x2x4x128x256, .f32⟩
  | 10 => ⟨S1x64x2x4x128x256, .f32⟩
  | 11 => ⟨S_, .f32⟩
  | 12 => ⟨S1x64x2x4x128, .f32⟩
  | 13 => ⟨S1x64x2x4x128x1, .f32⟩
  | 14 => ⟨S1x64x2x4x128x1, .f32⟩
  | 15 => ⟨S1x64x2x4x128x1, .f32⟩
  | 16 => ⟨S1x64x2x4x128x1, .f32⟩
  | 17 => ⟨S1x64x2x4x128x1, .f32⟩
  | 18 => ⟨S1x64x2x4x128x256, .f32⟩
  | 19 => ⟨S1x64x2x4x128x256, .f32⟩
  | 20 => ⟨S1x64x2x4x128x1, .f32⟩
  | 21 => ⟨S_, .f32⟩
  | 22 => ⟨S1x64x2x4x128x1, .f32⟩
  | 23 => ⟨S1x64x2x4x128x1, .f32⟩
  | 24 => ⟨S_, .f32⟩
  | 25 => ⟨S1x128x2x64, .f32⟩
  | 26 => ⟨S1x8320x2x64, .f32⟩
  | 27 => ⟨S_, .f32⟩
  | 28 => ⟨S1x128x2x64, .f32⟩
  | 29 => ⟨S1x8192x2x64, .f32⟩
  | 30 => ⟨S1x64x128x2x64, .f32⟩
  | 31 => ⟨S1x64x128x2x64, .f32⟩
  | 32 => ⟨S1x64x256x2x64, .f32⟩
  | 33 => ⟨S1x64x2x64x4x128, .f32⟩
  | 34 => ⟨S1x64x128x2x4x64, .f32⟩
  | 35 => ⟨S1x8192x512, .f32⟩
  | 36 => ⟨S1x64x128x2x4x64, .f32⟩
  | 37 => ⟨S1x64x2x64x4x128, .f32⟩
  | 38 => ⟨S1x64x2x4x128x256, .f32⟩
  | 39 => ⟨S1x64x2x64x256, .f32⟩
  | 40 => ⟨S1x64x256x2x64, .f32⟩
  | 41 => ⟨S1x64x128x2x64, .f32⟩
  | 42 => ⟨S1x64x128x2x64, .f32⟩
  | 43 => ⟨S1x8192x2x64, .f32⟩
  | 44 => ⟨S1x8192x2x64, .f32⟩
  | 45 => ⟨S_, .f32⟩
  | 46 => ⟨S1x8320x2x64, .f32⟩
  | 47 => ⟨S1x128x2x64, .f32⟩
  | 48 => ⟨S1x8192x2x64, .f32⟩
  | 49 => ⟨S1x8192x2x64, .f32⟩
  | 50 => ⟨S1x64x2x4x128x256, .f32⟩
  | 51 => ⟨S1x64x2x4x128x256, .f32⟩
  | 52 => ⟨S1x64x2x4x128x256, .f32⟩
  | 53 => ⟨S_, .f32⟩
  | 54 => ⟨S1x64x2x4x128, .f32⟩
  | 55 => ⟨S1x64x2x4x128x1, .f32⟩
  | 56 => ⟨S1x64x2x4x128x1, .f32⟩
  | 57 => ⟨S1x64x2x4x128x256, .f32⟩
  | 58 => ⟨S1x64x2x4x128x256, .f32⟩
  | 59 => ⟨S1x64x2x4x128x1, .f32⟩
  | 60 => ⟨S_, .f32⟩
  | 61 => ⟨S1x2x4x1, .f32⟩
  | 62 => ⟨S1x1x2x4x1x1, .f32⟩
  | 63 => ⟨S1x64x2x4x128x1, .f32⟩
  | 64 => ⟨S_, .f32⟩
  | 65 => ⟨S64x2x4x128, .f32⟩
  | 66 => ⟨S1x64x2x4x128, .f32⟩
  | 67 => ⟨S1x64x2x4x128x256, .f32⟩
  | 68 => ⟨S1x64x2x4x128x256, .f32⟩
  | 69 => ⟨S1x64x2x4x128x256, .f32⟩
  | 70 => ⟨S1x64x2x4x128x256, .f32⟩
  | 71 => ⟨S_, .f32⟩
  | 72 => ⟨S1x64x2x4x128, .f32⟩
  | 73 => ⟨S1x64x2x4x128x1, .f32⟩
  | 74 => ⟨S1x64x2x4x128x1, .f32⟩
  | 75 => ⟨S1x64x2x4x128x1, .f32⟩
  | 76 => ⟨S_, .f32⟩
  | 77 => ⟨S1x2x4x1, .f32⟩
  | 78 => ⟨S1x1x2x4x1x1, .f32⟩
  | 79 => ⟨S1x1x2x4x1x1, .f32⟩
  | 80 => ⟨S1x64x2x4x128x1, .f32⟩
  | 81 => ⟨S_, .f32⟩
  | 82 => ⟨S64x2x4x128, .f32⟩
  | 83 => ⟨S1x64x2x4x128, .f32⟩
  | 84 => ⟨S1x64x2x4x128, .f32⟩
  | 85 => ⟨S1x64x2x4x128x256, .f32⟩
  | 86 => ⟨S1x64x2x4x128x256, .f32⟩
  | 87 => ⟨S1x64x2x4x128x256, .f32⟩
  | 88 => ⟨S8, .f32⟩
  | 89 => ⟨S_, .f32⟩
  | 90 => ⟨S1x64x2x4x128x256, .f32⟩
  | 91 => ⟨S1x64x2x4x128x256, .f32⟩
  | 92 => ⟨S_, .f32⟩
  | 93 => ⟨S1x64x2x4x128x256, .f32⟩
  | 94 => ⟨S1x64x2x4x128x256, .f32⟩
  | 95 => ⟨S1x64x2x256x128x4, .f32⟩
  | 96 => ⟨S1x64x2x128x4x64, .f32⟩
  | 97 => ⟨S1x64x128x2x4x64, .f32⟩
  | 98 => ⟨S1x64x2x256x64, .f32⟩
  | 99 => ⟨S1x64x256x2x64, .f32⟩
  | 100 => ⟨S1x64x128x2x64, .f32⟩
  | 101 => ⟨S1x64x128x2x64, .f32⟩
  | 102 => ⟨S1x8192x2x64, .f32⟩
  | 103 => ⟨S1x8192x2x64, .f32⟩
  | 104 => ⟨S_, .f32⟩
  | 105 => ⟨S1x8320x2x64, .f32⟩
  | 106 => ⟨S1x128x2x64, .f32⟩
  | 107 => ⟨S1x8192x2x64, .f32⟩
  | 108 => ⟨S1x8192x2x64, .f32⟩
  | 109 => ⟨S1x8192x8x64, .f32⟩
  | 110 => ⟨S1x8192x128, .f32⟩
  | 111 => ⟨S1x8192x128, .f32⟩
  | 112 => ⟨S1x8192x512, .f32⟩
  | 113 => ⟨S8192x8x64, .f32⟩
  | 114 => ⟨S_, .f32⟩
  | 115 => ⟨S8192x8x64, .f32⟩
  | 116 => ⟨S8192x8x128, .f32⟩
  | 117 => ⟨S8192x1024, .f32⟩
  | 118 => ⟨S8192x2x64, .f32⟩
  | 119 => ⟨S_, .f32⟩
  | 120 => ⟨S8192x2x64, .f32⟩
  | 121 => ⟨S8192x2x128, .f32⟩
  | 122 => ⟨S8192x256, .f32⟩
  | 123 => ⟨S8192x2x64, .f32⟩
  | 124 => ⟨S_, .f32⟩
  | 125 => ⟨S8192x2x64, .f32⟩
  | 126 => ⟨S8192x2x128, .f32⟩
  | 127 => ⟨S8192x256, .f32⟩
  | _ => ⟨S1x8192x512, .f32⟩

abbrev hbmTy0_2 (i : Nat) : BufTy := match i % 128 with
  | 0 => ⟨S8192x1536, .f32⟩
  | 1 => ⟨S8192x1536, .bf16⟩
  | _ => ⟨S1x8192x512, .f32⟩

abbrev hbmTy (i : Nat) : BufTy := match i / 128 with
  | 0 => hbmTy0_0 i
  | 1 => hbmTy0_1 i
  | 2 => hbmTy0_2 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_7 : Ref sig .tc := ⟨.hbm, 69, rfl⟩
abbrev main_v54 : Ref sig .tc := ⟨.hbm, 70, rfl⟩
abbrev main_v55 : Ref sig .tc := ⟨.hbm, 71, rfl⟩
abbrev main_c_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_10 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_11 : Ref sig .tc := ⟨.hbm, 93, rfl⟩
abbrev main_call0_v0 : Ref sig .tc := ⟨.hbm, 94, rfl⟩
abbrev main_v74_1 : Ref sig .tc := ⟨.hbm, 95, rfl⟩
abbrev main_call0_v2 : Ref sig .tc := ⟨.hbm, 96, rfl⟩
abbrev main_v74_0 : Ref sig .tc := ⟨.hbm, 97, rfl⟩
abbrev main_call0_cst : Ref sig .tc := ⟨.hbm, 98, rfl⟩
abbrev main_v74_2 : Ref sig .tc := ⟨.hbm, 99, rfl⟩
abbrev main_v75 : Ref sig .tc := ⟨.hbm, 100, rfl⟩
abbrev main_cst_12 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_13 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_14 : Ref sig .tc := ⟨.hbm, 116, rfl⟩
abbrev main_v89 : Ref sig .tc := ⟨.hbm, 117, rfl⟩
abbrev main_cst_15 : Ref sig .tc := ⟨.hbm, 118, rfl⟩
abbrev main_v90 : Ref sig .tc := ⟨.hbm, 119, rfl⟩
abbrev main_cst_16 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_17 : Ref sig .tc := ⟨.hbm, 128, rfl⟩
abbrev main_v98 : Ref sig .tc := ⟨.hbm, 129, rfl⟩
abbrev main_cst_18 : Ref sig .tc := ⟨.hbm, 130, rfl⟩
abbrev main_v99 : Ref sig .tc := ⟨.hbm, 131, rfl⟩
abbrev main_cst_19 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_20 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_21 : Ref sig .tc := ⟨.hbm, 149, rfl⟩
abbrev main_v115 : Ref sig .tc := ⟨.hbm, 150, rfl⟩
abbrev main_v116 : Ref sig .tc := ⟨.hbm, 151, rfl⟩
abbrev main_cst_22 : Ref sig .tc := ⟨.hbm, 152, rfl⟩
abbrev main_v117 : Ref sig .tc := ⟨.hbm, 153, rfl⟩
abbrev main_v118 : Ref sig .tc := ⟨.hbm, 154, rfl⟩
abbrev main_cst_23 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_24 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_25 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_cst_26 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_cst_27 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_cst_28 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_cst_29 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_cst_30 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_call1_cst : Ref sig .tc := ⟨.hbm, 217, rfl⟩
abbrev main_call1_v0 : Ref sig .tc := ⟨.hbm, 218, rfl⟩
abbrev main_v173 : Ref sig .tc := ⟨.hbm, 219, rfl⟩
abbrev main_cst_31 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_cst_32 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_cst_33 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_cst_34 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_cst_35 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩

abbrev nD : Nat := 1
abbrev τ : Topo := Topo.v7x

variable {F : FTy → Type} [FloatOps F]
-- ==== Proof.Mlp.Frames.lean ====
/- The frames of the multi-layer part's programs. -/
module

public import proofs.«01_k».proof.Defs
public import proofs.«01_k».proof.Proof.Gen.Mlp.Frame
public import proofs.«01_k».proof.Proof.Gen.MlpIdeal.Frame
public import proofs.«01_k».proof.Proof.Gen.MlpRefIdeal
public import proofs.«01_k».proof.Proof.Gen.Pre_finite
public import proofs.«01_k».proof.Proof.Gen.MlpRefIdeal.Run
public import Idealize.ShloMosaic.Lib.Quiescent

@[expose] public section

noncomputable section

namespace Cert.Proof

open Idealize.ShloMosaic Idealize.SL.Sem

theorem mlp_frame : Cert.quiescent_Mlp := fun m g _ => Cert.Mlp.Gen.frame m g

theorem mlp_ideal_frame : Cert.quiescent_MlpIdeal := fun m g _ => Cert.MlpIdeal.Gen.frame m g

theorem mlp_ideal_frame_finite : Cert.quiescent_MlpIdeal_pre_finite := fun m g _ => Cert.MlpIdeal.Gen.frame m g

/-- The reference's program has host operations only, so no counter that could be left standing. -/
theorem mlp_reference_frame : Cert.quiescent_MlpRefIdeal := fun m g _ =>
  (θ_run _ _ _).mono (fun r h => ⟨fun c => (h c).2.2.2.2.2.2.2, sem_eq_zero_of_no_sems rfl r.2⟩) (Cert.MlpRefIdeal.Value.run m g)

theorem mlp_reference_frame_finite : Cert.quiescent_MlpRefIdeal_pre_finite := fun m g _ => mlp_reference_frame m g trivial

end Cert.Proof
-- ==== Proof.Reals.lean ====
/- Arrays of real numbers inside the extended reals: what the operations do on them, the literals the programs hold, and
   the arrays a finiteness test lets through. -/
module

public import Idealize.ShloMosaic.Lib.Pointwise
public import Idealize.ShloMosaic.Lib.ReduceAll

@[expose] public section

noncomputable section

namespace Cert.Reals

open Idealize.ShloMosaic

/-- An array whose elements are the reals `f`. -/
abbrev up {s : Shape} {φ : FTy} (f : s.Idx → ℝ) : FVec Ideal s φ := fun i => ((f i : ℝ) : EReal)

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem coe_zero_add (x : EReal) : ((0 : ℝ) : EReal) + x = x := by simp

theorem div_real {y : ℝ} (h : y ≠ 0) (x : ℝ) : Ideal.div (x : EReal) (y : EReal) = ((x / y : ℝ) : EReal) := by
  rw [Ideal.div_coe h, ← EReal.coe_mul]; congr 1; ring

theorem rsqrt_real {x : ℝ} (h : 0 < x) : Ideal.rsqrt (x : EReal) = (((Real.sqrt x)⁻¹ : ℝ) : EReal) := by
  rw [Ideal.rsqrt_coe, if_neg (not_lt.2 h.le), if_neg h.ne']

/-- The literal under the root of every norm. -/
def eps : ℝ := 8796093 / 2 ^ 43

theorem eps_pos : 0 < eps := by unfold eps; positivity

theorem lit_eps : Ideal.ofBits .f32 0x358637BD#32 = ((eps : ℝ) : EReal) := by
  unfold eps; simp [Ideal.ofBits, Ideal.ieee, -EReal.coe_mul]; norm_num
theorem lit_zero : Ideal.ofBits .f32 0x00000000#32 = ((0 : ℝ) : EReal) := by simp [Ideal.ofBits, Ideal.ieee]
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul, -EReal.coe_neg]; norm_num
theorem lit_1024 : Ideal.ofBits .f32 0x44800000#32 = ((1024 : ℝ) : EReal) := by
  simp [Ideal.ofBits, Ideal.ieee, -EReal.coe_mul]; norm_num
theorem lit_inv_1024 : Ideal.ofBits .f32 0x3A800000#32 = ((1 / 1024 : ℝ) : EReal) := by
  simp [Ideal.ofBits, Ideal.ieee, -EReal.coe_mul]; norm_num
theorem lit_inv_2048 : Ideal.ofBits .f32 0x3A000000#32 = ((1 / 2048 : ℝ) : EReal) := by
  simp [Ideal.ofBits, Ideal.ieee, -EReal.coe_mul]; norm_num
theorem lit_inf : Ideal.ofBits .f32 0x7F800000#32 = ⊤ := by simp [Ideal.ofBits, Ideal.ieee]

/-- An extended real of absolute value below `+∞` is a real. -/
theorem real_of_abs_lt (x : EReal) (h : Ideal.cmp .olt (max x (-x)) (Ideal.ofBits .f32 0x7F800000#32) = 1#1) :
    ((x.toReal : ℝ) : EReal) = x := by
  rw [lit_inf] at h
  have hlt : max x (-x) < ⊤ := by
    by_contra hn
    simp [Ideal.cmp, hn] at h
  obtain ⟨h1, h2⟩ := max_lt_iff.1 hlt
  refine EReal.coe_toReal h1.ne fun hb => ?_
  rw [hb] at h2
  simp at h2

/-- The finiteness test `all (|x| < +∞)`, passed, makes the array one of reals. -/
theorem real_of_finite {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
      (constantI ⟨0, ![]⟩ 1 1#1) h hu j = 1#1) : x = up fun i => (x i : EReal).toReal := by
  haveI : Subsingleton (⟨0, ![]⟩ : Shape).Idx := ⟨fun a b => funext fun k => k.elim0⟩
  funext i
  exact (real_of_abs_lt (x i) (Host.reduce_andi_all _ _ _ _ j e i)).symm

theorem ix2_self {n k : ℕ} (i : (⟨2, ![n, k]⟩ : Shape).Idx) : (ix2 (i 0) (i 1) : (⟨2, ![n, k]⟩ : Shape).Idx) = i := by
  funext a; fin_cases a <;> rfl

theorem ix2_row {k : ℕ} (i : (⟨2, ![1, k]⟩ : Shape).Idx) : (ix2 0 (i 1) : (⟨2, ![1, k]⟩ : Shape).Idx) = i :=
  (congrArg (fun z : Fin 1 => (ix2 z (i 1) : (⟨2, ![1, k]⟩ : Shape).Idx)) (Subsingleton.elim (α := Fin 1) 0 (i 0))).trans (ix2_self i)

/-- The same array, its indices written out. -/
theorem up_at2 {n k : ℕ} {φ : FTy} {x : FVec Ideal ⟨2, ![n, k]⟩ φ} (h : x = up fun i => (x i : EReal).toReal) :
    x = up fun i => (x (ix2 (i 0) (i 1)) : EReal).toReal :=
  h.trans (congrArg up (funext fun i => congrArg (fun z => EReal.toReal (x z)) (ix2_self i).symm))

/-- The same for a single row. -/
theorem up_at_row {k : ℕ} {φ : FTy} {x : FVec Ideal ⟨2, ![1, k]⟩ φ} (h : x = up fun i => (x i : EReal).toReal) :
    x = up fun i => (x (ix2 0 (i 1)) : EReal).toReal :=
  h.trans (congrArg up (funext fun i => congrArg (fun z => EReal.toReal (x z)) (ix2_row i).symm))

end Cert.Reals

end
-- ==== Proof.Mlp.Step.lean ====
/- The feed-forward step with its loss, over the reals: forward values, loss, and the gradients of the
   activations and of the two norm gains, row by row, as the training step's formulas. -/
module

public import proofs.«01_k».proof.Proof.Reals

@[expose] public section

noncomputable section

namespace Cert

/-! ## A root-mean-square norm of one row, and its gradient -/

namespace Rms

variable {n : ℕ}

/-- The mean square of a row plus the guard under the root, the mean taken over `d` elements. -/
def ms (d : ℝ) (x : Fin n → ℝ) : ℝ := (∑ k, x k * x k) / d + Reals.eps

/-- The reciprocal root of the mean square. -/
def rr (d : ℝ) (x : Fin n → ℝ) : ℝ := (Real.sqrt (ms d x))⁻¹

/-- The gradient of the norm with gain `g` at the row `x`, for the cotangent `dy`. -/
def bwd (d : ℝ) (x g dy : Fin n → ℝ) (j : Fin n) : ℝ :=
  rr d x * (dy j * g j) - x j * (rr d x * rr d x * rr d x) * ((∑ k, x k * (dy k * g k)) / d)

theorem ms_pos {d : ℝ} (hd : 0 < d) (x : Fin n → ℝ) : 0 < ms d x :=
  add_pos_of_nonneg_of_pos (div_nonneg (Finset.sum_nonneg fun k _ => mul_self_nonneg _) hd.le) Reals.eps_pos

/-- The reciprocal root over the mean square is its cube. -/
theorem rr_div_ms {d : ℝ} (hd : 0 < d) (x : Fin n → ℝ) : rr d x / ms d x = rr d x * rr d x * rr d x := by
  have h : rr d x * rr d x = (ms d x)⁻¹ := by
    unfold rr; rw [← mul_inv, Real.mul_self_sqrt (ms_pos hd x).le]
  rw [h, div_eq_mul_inv, mul_comm]

/-- The gradient as the derivative of the mean and the reciprocal root gives it: through the product, and twice through
    the square. -/
theorem bwd_eq {d : ℝ} (hd : 0 < d) (x g dy : Fin n → ℝ) (j : Fin n) :
    dy j * g j * rr d x + x j * ((∑ k, x k * (dy k * g k)) * (-(1 / 2) * (rr d x / ms d x)) / d)
      + (∑ k, x k * (dy k * g k)) * (-(1 / 2) * (rr d x / ms d x)) / d * x j = bwd d x g dy j := by
  rw [rr_div_ms hd, bwd]; ring

/-- … and what reaches the row past the norm added first. -/
theorem add_bwd_eq {d : ℝ} (hd : 0 < d) (x g dy : Fin n → ℝ) (j : Fin n) (e : ℝ) :
    e + dy j * g j * rr d x + x j * ((∑ k, x k * (dy k * g k)) * (-(1 / 2) * (rr d x / ms d x)) / d)
      + (∑ k, x k * (dy k * g k)) * (-(1 / 2) * (rr d x / ms d x)) / d * x j = e + bwd d x g dy j := by
  rw [← bwd_eq hd]; ring

end Rms

/-! ## The step -/

/-- The arguments: the residual stream, the target, the two weight matrices and the two gains. -/
structure MlpIn where
  x : Fin 8192 → Fin 1024 → ℝ
  target : Fin 8192 → Fin 1024 → ℝ
  up : Fin 1024 → Fin 4096 → ℝ
  down : Fin 4096 → Fin 1024 → ℝ
  g3 : Fin 1024 → ℝ
  g4 : Fin 1024 → ℝ

namespace MlpIn

variable (p : MlpIn) (i : Fin 8192)

/-- The normed row, before the gain. -/
def r3 : ℝ := Rms.rr 1024 (p.x i)
def h (j : Fin 1024) : ℝ := p.x i j * p.r3 i * p.g3 j
def u (j : Fin 4096) : ℝ := ∑ k, p.h i k * p.up k j
def ru (j : Fin 4096) : ℝ := max (p.u i j) 0
def a (j : Fin 4096) : ℝ := p.ru i j * p.ru i j
def y (j : Fin 1024) : ℝ := ∑ k, p.a i k * p.down k j
def r4 : ℝ := Rms.rr 1024 (p.y i)
def diff (j : Fin 1024) : ℝ := p.x i j + p.y i j * p.r4 i * p.g4 j - p.target i j
/-- The row's part of the loss. -/
def loss : ℝ := (∑ k, p.diff i k * p.diff i k) * (1 / 2048)
def dout (j : Fin 1024) : ℝ := p.diff i j * (1 / 1024)
def dy (j : Fin 1024) : ℝ := Rms.bwd 1024 (p.y i) p.g4 (p.dout i) j
def du (j : Fin 4096) : ℝ := (∑ k, p.dy i k * p.down j k) * (2 * p.ru i j)
def dh (j : Fin 1024) : ℝ := ∑ k, p.du i k * p.up j k
/-- The row's part of the gradient of the second gain. -/
def dg4 (j : Fin 1024) : ℝ := p.dout i j * p.y i j * p.r4 i
/-- The row's part of the gradient of the first gain. -/
def dg3 (j : Fin 1024) : ℝ := p.dh i j * p.x i j * p.r3 i
def dx (j : Fin 1024) : ℝ := p.dout i j + Rms.bwd 1024 (p.x i) p.g3 (p.dh i) j

end MlpIn

end Cert

end
-- ==== Proof.Mlp.Pay.lean ====
/- What each block the kernel computes holds, at input blocks that are a tile's rows of the step's arrays. -/
module

public import proofs.«01_k».proof.Proof.Gen.MlpIdeal.Skeleton
public import proofs.«01_k».proof.Proof.Mlp.Step

@[expose] public section

set_option maxRecDepth 16384

noncomputable section

namespace Cert.MlpIdeal.Pay

open Idealize.ShloMosaic Cert.MlpIdeal Cert.MlpIdeal.Gen Cert.Reals

variable (p : MlpIn) (row : Fin 256 → Fin 8192)

/-- A tile of the rows of `f`. -/
abbrev rows {n : ℕ} (φ : FTy) (f : Fin 8192 → Fin n → ℝ) : FVec Ideal ⟨2, ![256, n]⟩ φ := up fun i => f (row (i 0)) (i 1)

/-- One number per row of the tile. -/
abbrev rows1 (f : Fin 8192 → ℝ) : FVec Ideal ⟨2, ![256, 1]⟩ .f32 := up fun i => f (row (i 0))

/-- Column `l` of shard `s`. -/
def col (s : Fin 8) (l : Fin 512) : Fin 4096 := ⟨512 * s.val + l.val, by omega⟩

/-- Shard `s` of the first matrix's columns. -/
abbrev shard (s : Fin 8) : FVec Ideal ⟨3, ![1, 1024, 512]⟩ .bf16 := up fun i => p.up (i 1) (col s (i 2))

/-- The second matrix. -/
abbrev down : FVec Ideal ⟨2, ![4096, 1024]⟩ .bf16 := up fun i => p.down (i 0) (i 1)

/-- One row, the same for every tile. -/
abbrev vec {n : ℕ} (f : Fin n → ℝ) : FVec Ideal ⟨2, ![1, n]⟩ .f32 := up fun i => f (i 1)

/-! ## The forward step -/

theorem pay2 : k0_pay2 (F := Ideal) (rows row .bf16 p.h) = rows row .bf16 p.h := by
  funext i
  pointwise [k0_pay2]

/-- The products of the tile with one shard. -/
abbrev part (s : Fin 8) : FVec Ideal ⟨2, ![256, 512]⟩ .f32 := up fun i => p.u (row (i 0)) (col s (i 1))

theorem pay3 (s : Fin 8) : k0_pay3 (F := Ideal) (rows row .bf16 p.h) (shard p s) = part p row s := by
  funext i
  pointwise [k0_pay3, pay2, ← EReal.coe_mul, coe_sum]
  rfl

theorem pay4 (s : Fin 8) : k0_pay4 (F := Ideal) (rows row .bf16 p.h) (shard p s) = part p row s := pay3 p row s
theorem pay5 (s : Fin 8) : k0_pay5 (F := Ideal) (rows row .bf16 p.h) (shard p s) = part p row s := pay3 p row s
theorem pay6 (s : Fin 8) : k0_pay6 (F := Ideal) (rows row .bf16 p.h) (shard p s) = part p row s := pay3 p row s
theorem pay7 (s : Fin 8) : k0_pay7 (F := Ideal) (rows row .bf16 p.h) (shard p s) = part p row s := pay3 p row s
theorem pay8 (s : Fin 8) : k0_pay8 (F := Ideal) (rows row .bf16 p.h) (shard p s) = part p row s := pay3 p row s
theorem pay9 (s : Fin 8) : k0_pay9 (F := Ideal) (rows row .bf16 p.h) (shard p s) = part p row s := pay3 p row s

/-- The rectified products. -/
theorem pay10 : k0_pay10 (F := Ideal) (rows row .bf16 p.h) (part p row 0) (part p row 1) (part p row 2) (part p row 3)
    (part p row 4) (part p row 5) (part p row 6) (shard p 7) = rows row .f32 p.ru := by
  funext i
  pointwise [k0_pay10, ← EReal.coe_mul, coe_sum]
  have e : ∀ (s : Fin 8) (l : Fin 512), 512 * s.val + l.val = (i 1).val → col s l = i 1 := fun s l h => Fin.ext h
  have hmax : ∀ z : EReal, z = ((p.u (row (i 0)) (i 1) : ℝ) : EReal) → max z 0 = rows row .f32 p.ru i := by
    rintro _ rfl
    rw [show (0 : EReal) = ((0 : ℝ) : EReal) by norm_cast, coe_max]; rfl
  refine hmax _ ?_
  split_ifs
  all_goals exact congrArg (fun c => ((p.u (row (i 0)) c : ℝ) : EReal)) (e _ _ (by simp; try omega))

theorem rsqrt_ms {z : EReal} {x : Fin 1024 → ℝ} (h : z = ((∑ k, x k * x k : ℝ) : EReal)) :
    Ideal.rsqrt (Ideal.div z (Ideal.ofBits .f32 0x44800000#32) + Ideal.ofBits .f32 0x358637BD#32)
      = ((Rms.rr 1024 x : ℝ) : EReal) := by
  rw [h, lit_1024, lit_eps, div_real (by norm_num), ← EReal.coe_add]
  exact rsqrt_real (Rms.ms_pos (by norm_num) x)

section Forward

variable {v2 : FVec Ideal S256x1024 .bf16} {v5 v8 v11 v14 v17 v20 v23 : FVec Ideal S256x512 .f32}
  {v24 : FVec Ideal S1x1024x512 .bf16}
  (h10 : k0_pay10 v2 v5 v8 v11 v14 v17 v20 v23 v24 = rows row .f32 p.ru)

include h10

theorem pay11 : k0_pay11 v2 v5 v8 v11 v14 v17 v20 v23 v24 = rows row .bf16 p.a := by
  funext i
  pointwise [k0_pay11, h10, ← EReal.coe_mul]
  rfl

theorem pay12 : k0_pay12 v2 v5 v8 v11 v14 v17 v20 v23 v24 (down p) = rows row .f32 p.y := by
  funext i
  pointwise [k0_pay12, pay11 p row h10, ← EReal.coe_mul, coe_sum]
  rfl

theorem pay13 : k0_pay13 v2 v5 v8 v11 v14 v17 v20 v23 v24 (down p) = rows1 row p.r4 := by
  funext i
  pointwise [k0_pay13, pay12 p row h10, ← EReal.coe_mul, coe_sum]
  exact rsqrt_ms rfl

theorem pay14 : k0_pay14 (rows row .f32 p.x) v2 v5 v8 v11 v14 v17 v20 v23 v24 (down p) (vec p.g4) (rows row .f32 p.target)
    = rows row .f32 p.diff := by
  funext i
  pointwise [k0_pay14, pay12 p row h10, pay13 p row h10, ← EReal.coe_mul, ← EReal.coe_add, ← EReal.coe_sub]
  rfl

/-- The rows' parts of the loss, the same in every lane. -/
theorem pay15 : k0_pay15 (rows row .f32 p.x) v2 v5 v8 v11 v14 v17 v20 v23 v24 (down p) (vec p.g4) (rows row .f32 p.target)
    = up fun i => p.loss (row (i 0)) := by
  funext i
  pointwise [k0_pay15, pay14 p row h10, ← EReal.coe_mul, coe_sum, lit_inv_2048, mul_one]
  rfl

end Forward

/-! ## The step back -/

theorem pay18 : k0_pay18 (F := Ideal) (rows row .f32 p.diff) = rows row .f32 p.dout := by
  funext i
  pointwise [k0_pay18, ← EReal.coe_mul, lit_inv_1024]
  rfl

/-- The sum of the tile's parts of the second gain's gradient joins the sum so far. -/
theorem pay20 (acc : FVec Ideal S1x1024 .f32) (j : S1x1024.Idx) :
    k0_pay20 (rows row .f32 p.y) (rows1 row p.r4) (rows row .f32 p.diff) acc j
      = acc j + ((∑ r : Fin 256, p.dg4 (row r) (j 1) : ℝ) : EReal) := by
  pointwise [k0_pay20, pay18 p row, ← EReal.coe_mul, coe_sum]
  rfl

theorem pay21 : k0_pay21 (rows row .f32 p.y) (rows1 row p.r4) (rows row .f32 p.diff) (vec p.g4) = rows row .bf16 p.dy := by
  funext i
  pointwise [k0_pay21, pay18 p row, ← EReal.coe_mul, coe_sum, lit_1024, div_real (show (1024 : ℝ) ≠ 0 by norm_num),
    ← EReal.coe_sub]
  rfl

theorem pay22 : k0_pay22 (rows row .f32 p.ru) (rows row .bf16 p.dy) (down p) = rows row .bf16 p.du := by
  funext i
  pointwise [k0_pay22, ← EReal.coe_mul, coe_sum, lit_two]
  rfl

/-- A sum over the columns, shard by shard. -/
theorem sum_cols (f : Fin 4096 → ℝ) : ∑ k, f k = ∑ s : Fin 8, ∑ l : Fin 512, f (col s l) := by
  rw [← Fintype.sum_prod_type' (f := fun s l => f (col s l))]
  refine (Fintype.sum_equiv (finProdFinEquiv (m := 8) (n := 512)) _ _ fun x => ?_).symm
  exact congrArg f (Fin.ext (by show 512 * x.1.val + x.2.val = x.2.val + 512 * x.1.val; omega))

/-- The gradient of the normed row: what the eight shards give, added up. -/
theorem pay26 : k0_pay26 (rows row .bf16 p.du)
      (k0_pay23 (rows row .f32 p.ru) (rows row .bf16 p.dy) (down p) (shard p 0) (shard p 1) (shard p 2) (shard p 3))
      (k0_pay24 (rows row .f32 p.ru) (rows row .bf16 p.dy) (down p)) (k0_pay25 (shard p 4))
      (constant S256x1024 .f32 0x00000000#32) (shard p 5) (shard p 6) (shard p 7) = rows row .f32 p.dh := by
  funext i
  pointwise [k0_pay26, k0_pay23, k0_pay24, k0_pay25, pay22 p row, ← EReal.coe_mul, coe_sum, ← EReal.coe_add]
  refine congrArg _ ?_
  show _ = ∑ k, p.du (row (i 0)) k * p.up (i 1) k
  have h0 : ∀ l : Fin 512, (⟨l.val, by omega⟩ : Fin 4096) = col 0 l := fun l => Fin.ext (Nat.zero_add _).symm
  rw [sum_cols, Fin.sum_univ_eight]
  simp only [h0]
  rfl

theorem pay27 : k0_pay27 (rows row .f32 p.x) = rows1 row p.r3 := by
  funext i
  pointwise [k0_pay27, ← EReal.coe_mul, coe_sum]
  exact rsqrt_ms rfl

theorem pay16 (j : S1x128.Idx) : k0_pay16 (F := Ideal) j = 0 := by
  pointwise [k0_pay16, lit_zero, EReal.coe_zero]

theorem pay19 (j : S1x1024.Idx) : k0_pay19 (F := Ideal) j = 0 := by
  pointwise [k0_pay19, lit_zero, EReal.coe_zero]

theorem pay28 (j : S1x1024.Idx) : k0_pay28 (F := Ideal) j = 0 := pay19 j

/-- The sum of the tile's parts of the loss joins the sum so far. -/
theorem pay17 (acc : FVec Ideal S1x128 .f32) (j : S1x128.Idx) :
    k0_pay17 (up fun i => p.loss (row (i 0))) acc j = acc j + ((∑ r : Fin 256, p.loss (row r) : ℝ) : EReal) := by
  pointwise [k0_pay17, coe_sum]

/-- The sum of the tile's parts of the first gain's gradient joins the sum so far. -/
theorem pay29 {v109 : FVec Ideal S256x4096 .bf16} {v129 : FVec Ideal S256x1024 .f32} {v130 : FVec Ideal S256x512 .bf16}
    {v132 : FVec Ideal S1024x512 .bf16} {z : FVec Ideal S256x1024 .f32} {v136 v141 v146 : FVec Ideal S1x1024x512 .bf16}
    (h : k0_pay26 v109 v129 v130 v132 z v136 v141 v146 = rows row .f32 p.dh) (acc : FVec Ideal S1x1024 .f32) (j : S1x1024.Idx) :
    k0_pay29 (rows row .f32 p.x) v109 v129 v130 v132 z v136 v141 v146 acc j
      = acc j + ((∑ r : Fin 256, p.dg3 (row r) (j 1) : ℝ) : EReal) := by
  pointwise [k0_pay29, pay27 p row, h, ← EReal.coe_mul, coe_sum]
  rfl

theorem pay1 : k0_pay1 (rows row .f32 p.x) (rows row .f32 p.dout) (rows row .f32 p.dh) (rows1 row p.r3) (vec p.g3)
    = rows row .f32 p.dx := by
  funext i
  pointwise [k0_pay1, ← EReal.coe_mul, coe_sum, lit_1024, div_real (show (1024 : ℝ) ≠ 0 by norm_num),
    ← EReal.coe_sub, ← EReal.coe_add]
  rfl

end Cert.MlpIdeal.Pay

end
-- ==== Proof.Mlp.Args.lean ====
/- The arguments of both programs: the step's arrays. -/
module

public import Idealize.ShloMosaic.Lib.Claim
public import proofs.«01_k».proof.Proof.Mlp.Step

@[expose] public section

noncomputable section

namespace Cert.MlpIn

open Idealize.ShloMosaic

variable (p : MlpIn)

/-- The arguments as the programs hold them. -/
abbrev X : FVec Ideal ⟨2, ![8192, 1024]⟩ .f32 := Reals.up fun i => p.x (i 0) (i 1)
abbrev Target : FVec Ideal ⟨2, ![8192, 1024]⟩ .f32 := Reals.up fun i => p.target (i 0) (i 1)
abbrev Up : FVec Ideal ⟨2, ![1024, 4096]⟩ .f32 := Reals.up fun i => p.up (i 0) (i 1)
abbrev Down : FVec Ideal ⟨2, ![4096, 1024]⟩ .f32 := Reals.up fun i => p.down (i 0) (i 1)
abbrev G3 : FVec Ideal ⟨2, ![1, 1024]⟩ .f32 := Reals.up fun i => p.g3 (i 1)
abbrev G4 : FVec Ideal ⟨2, ![1, 1024]⟩ .f32 := Reals.up fun i => p.g4 (i 1)

end Cert.MlpIn
-- ==== Proof.Mlp.Kernel.lean ====
/- The arrays the kernel leaves. -/
module

public import proofs.«01_k».proof.Proof.Gen.MlpIdeal.Value
public import proofs.«01_k».proof.Proof.Mlp.Pay
public import proofs.«01_k».proof.Proof.Mlp.Args
public import Idealize.ShloMosaic.Lib.Pipeline.ValueKit
public import Idealize.ShloMosaic.Lib.Claim

@[expose] public section

set_option maxRecDepth 16384

noncomputable section

namespace Cert.MlpIdeal.Arrays

open Idealize.ShloMosaic Idealize.ShloMosaic.TcCoe Cert.MlpIdeal Cert.MlpIdeal.Gen Cert.MlpIdeal.Pay Cert.Reals

variable (p : MlpIn) (m : (ℓ : Loc nD τ sig) → Buf (Elt Ideal) ℓ) (c : Dev nD)

/-- The arguments hold the step's arrays. -/
structure At : Prop where
  x : m ((c : Thread nD τ).loc main_arg0) = p.X
  target : m ((c : Thread nD τ).loc main_arg1) = p.Target
  up : m ((c : Thread nD τ).loc main_arg2) = p.Up
  down : m ((c : Thread nD τ).loc main_arg3) = p.Down
  g3 : m ((c : Thread nD τ).loc main_arg4) = p.G3
  g4 : m ((c : Thread nD τ).loc main_arg5) = p.G4

/-- Row `r` of tile `t`. -/
def row (t : Fin cfg0.N) (r : Fin 256) : Fin 8192 := ⟨256 * t.val + r.val, by have := t.isLt; have : cfg0.N = 32 := rfl; omega⟩

theorem idx : ∀ t : Fin cfg0.N,
    win0_0.index t = ![t.val, 0] ∧ win0_1.index t = ![t.val, 0] ∧ win0_2.index t = ![t.val, 0] ∧ win0_3.index t = ![0, 0, 0]
    ∧ win0_4.index t = ![0, 0] ∧ win0_5.index t = ![0, 0] ∧ win0_6.index t = ![0, 0] ∧ win0_7.index t = ![t.val, 0]
    ∧ win0_8.index t = ![t.val, 0] ∧ win0_9.index t = ![t.val, 0] ∧ win0_10.index t = ![t.val, 0] ∧ win0_11.index t = ![0, 0]
    ∧ win0_12.index t = ![0, 0] ∧ win0_13.index t = ![0, 0] :=
  (by decide +kernel : ∀ t : Fin grid0.N, _)

variable {p m c} (hp : At p m c)
include hp

/-- The normed rows the host prepares. -/
theorem hostH : V m c main_v12 = (up fun i => p.h (i 0) (i 1) : FVec Ideal S8192x1024 .bf16) := by
  funext i
  entry_read
  rw [hp.x, hp.g3]
  pointwise [← EReal.coe_mul, coe_sum]
  rw [rsqrt_ms rfl, ← EReal.coe_mul, ← EReal.coe_mul]
  rfl

/-- The shards the host prepares. -/
theorem hostUp : V m c main_v15 = (up fun i => p.up (i 1) (col (i 0) (i 2)) : FVec Ideal S8x1024x512 .bf16) := by
  funext i
  entry_read
  rw [hp.up]
  pointwise []
  exact congrArg (fun k => ((p.up (i 1) k : ℝ) : EReal)) (Fin.ext (by show (i 0).val * 512 + (i 2).val = 512 * (i 0).val + (i 2).val; omega))

theorem hostDown : V m c main_v16 = Pay.down p := by
  funext i
  entry_read
  rw [hp.down]
  rfl

theorem block0 (t : Fin cfg0.N) : iblk m c 0 t = rows (row t) .f32 p.x := by
  have h : V m c main_arg0 = p.X := (V_main_arg0 m c).trans hp.x
  funext j
  blk_simp [iblk]
  rw [h]
  refine (?_ : _ = p.X (ix2 (row t (j 0)) (j 1)))
  blk_ext [idx t, row]

theorem block1 (t : Fin cfg0.N) : iblk m c 1 t = rows (row t) .bf16 p.h := by
  funext j
  blk_simp [iblk]
  rw [hostH hp]
  refine (?_ : _ = (up fun i => p.h (i 0) (i 1) : FVec Ideal S8192x1024 .bf16) (ix2 (row t (j 0)) (j 1)))
  blk_ext [idx t, row]

theorem block2 (t : Fin cfg0.N) : iblk m c 2 t = rows (row t) .f32 p.target := by
  have h : V m c main_arg1 = p.Target := (V_main_arg1 m c).trans hp.target
  funext j
  blk_simp [iblk]
  rw [h]
  refine (?_ : _ = p.Target (ix2 (row t (j 0)) (j 1)))
  blk_ext [idx t, row]

theorem block3 (t : Fin cfg0.N) : iblk m c 3 t = (up fun i => p.up (i 1) (col (i 0) (i 2)) : FVec Ideal S8x1024x512 .bf16) := by
  rw [← hostUp hp]
  blk_ext! [iblk, idx t]

theorem block4 (t : Fin cfg0.N) : iblk m c 4 t = Pay.down p := by
  rw [← hostDown hp]
  blk_ext! [iblk, idx t]

theorem block5 (t : Fin cfg0.N) : iblk m c 5 t = vec p.g3 := by
  have h : V m c main_arg4 = p.G3 := (V_main_arg4 m c).trans hp.g3
  refine Eq.trans ?_ h
  blk_ext! [iblk, idx t]

theorem block6 (t : Fin cfg0.N) : iblk m c 6 t = vec p.g4 := by
  have h : V m c main_arg5 = p.G4 := (V_main_arg5 m c).trans hp.g4
  refine Eq.trans ?_ h
  blk_ext! [iblk, idx t]

/-! ## The rows the tiles write -/

theorem block3_shard (t : Fin cfg0.N) (s : ℕ) (k : Fin 8) (e : k.val = s) (h) :
    View.ld (iblk m c 3 t) (Rect.unit ![s, 0, 0] ![1, 1024, 512] h) = shard p k := by
  subst e
  rw [block3 hp]
  funext i
  pointwise [View.ld]
  rfl

/-! ## What the tiles write -/

theorem after7 (t : Fin cfg0.N) : (outsAt0 m c t.val t.isLt).1 = rows (row t) .bf16 p.a := by
  by_cases h : t.val % 32 = 0
  · rw [outsAt0_A m c t h h h]
    frame_out
    simp only [block1 hp t, block4 hp t, block3_shard hp t 0 0 rfl, block3_shard hp t 1 1 rfl, block3_shard hp t 2 2 rfl, block3_shard hp t 3 3 rfl, block3_shard hp t 4 4 rfl, block3_shard hp t 5 5 rfl, block3_shard hp t 6 6 rfl, block3_shard hp t 7 7 rfl, pay2 p (row t), pay3 p (row t), pay4 p (row t), pay5 p (row t), pay6 p (row t), pay7 p (row t), pay8 p (row t), pay9 p (row t), pay10 p (row t), pay11 p (row t) (pay10 p (row t))]
  · rw [outsAt0_B m c t h h h]
    frame_out
    simp only [block1 hp t, block4 hp t, block3_shard hp t 0 0 rfl, block3_shard hp t 1 1 rfl, block3_shard hp t 2 2 rfl, block3_shard hp t 3 3 rfl, block3_shard hp t 4 4 rfl, block3_shard hp t 5 5 rfl, block3_shard hp t 6 6 rfl, block3_shard hp t 7 7 rfl, pay2 p (row t), pay3 p (row t), pay4 p (row t), pay5 p (row t), pay6 p (row t), pay7 p (row t), pay8 p (row t), pay9 p (row t), pay10 p (row t), pay11 p (row t) (pay10 p (row t))]

theorem arr7 : (dats m 0 c).arrAt 7 cfg0.N = (up fun i => p.a (i 0) (i 1) : FVec Ideal S8192x4096 .bf16) := by
  refine (dats m 0 c).arrAt_eq_of_covers 7 _ (by decide +kernel) fun t hf y => ?_
  blk_simp
  rw [after0_7, after7 hp t]
  refine (?_ : (up fun i => p.a (i 0) (i 1) : FVec Ideal S8192x4096 .bf16) (ix2 (row t (y 0)) (y 1)) = _)
  blk_ext [idx t, row]

theorem after8 (t : Fin cfg0.N) : (outsAt0 m c t.val t.isLt).2.1 = rows (row t) .bf16 p.du := by
  by_cases h : t.val % 32 = 0
  · rw [outsAt0_A m c t h h h]
    frame_out
    simp only [block0 hp t, block1 hp t, block2 hp t, block4 hp t, block6 hp t, block3_shard hp t 0 0 rfl, block3_shard hp t 1 1 rfl, block3_shard hp t 2 2 rfl, block3_shard hp t 3 3 rfl, block3_shard hp t 4 4 rfl, block3_shard hp t 5 5 rfl, block3_shard hp t 6 6 rfl, block3_shard hp t 7 7 rfl, pay2 p (row t), pay3 p (row t), pay4 p (row t), pay5 p (row t), pay6 p (row t), pay7 p (row t), pay8 p (row t), pay9 p (row t), pay10 p (row t), pay12 p (row t) (pay10 p (row t)), pay13 p (row t) (pay10 p (row t)), pay14 p (row t) (pay10 p (row t)), pay21 p (row t), pay22 p (row t)]
  · rw [outsAt0_B m c t h h h]
    frame_out
    simp only [block0 hp t, block1 hp t, block2 hp t, block4 hp t, block6 hp t, block3_shard hp t 0 0 rfl, block3_shard hp t 1 1 rfl, block3_shard hp t 2 2 rfl, block3_shard hp t 3 3 rfl, block3_shard hp t 4 4 rfl, block3_shard hp t 5 5 rfl, block3_shard hp t 6 6 rfl, block3_shard hp t 7 7 rfl, pay2 p (row t), pay3 p (row t), pay4 p (row t), pay5 p (row t), pay6 p (row t), pay7 p (row t), pay8 p (row t), pay9 p (row t), pay10 p (row t), pay12 p (row t) (pay10 p (row t)), pay13 p (row t) (pay10 p (row t)), pay14 p (row t) (pay10 p (row t)), pay21 p (row t), pay22 p (row t)]

theorem arr8 : (dats m 0 c).arrAt 8 cfg0.N = (up fun i => p.du (i 0) (i 1) : FVec Ideal S8192x4096 .bf16) := by
  refine (dats m 0 c).arrAt_eq_of_covers 8 _ (by decide +kernel) fun t hf y => ?_
  blk_simp
  rw [after0_8, after8 hp t]
  refine (?_ : (up fun i => p.du (i 0) (i 1) : FVec Ideal S8192x4096 .bf16) (ix2 (row t (y 0)) (y 1)) = _)
  blk_ext [idx t, row]

theorem after9 (t : Fin cfg0.N) : (outsAt0 m c t.val t.isLt).2.2.1 = rows (row t) .bf16 p.dy := by
  by_cases h : t.val % 32 = 0
  · rw [outsAt0_A m c t h h h]
    frame_out
    simp only [block0 hp t, block1 hp t, block2 hp t, block4 hp t, block6 hp t, block3_shard hp t 0 0 rfl, block3_shard hp t 1 1 rfl, block3_shard hp t 2 2 rfl, block3_shard hp t 3 3 rfl, block3_shard hp t 4 4 rfl, block3_shard hp t 5 5 rfl, block3_shard hp t 6 6 rfl, block3_shard hp t 7 7 rfl, pay2 p (row t), pay3 p (row t), pay4 p (row t), pay5 p (row t), pay6 p (row t), pay7 p (row t), pay8 p (row t), pay9 p (row t), pay10 p (row t), pay12 p (row t) (pay10 p (row t)), pay13 p (row t) (pay10 p (row t)), pay14 p (row t) (pay10 p (row t)), pay21 p (row t)]
  · rw [outsAt0_B m c t h h h]
    frame_out
    simp only [block0 hp t, block1 hp t, block2 hp t, block4 hp t, block6 hp t, block3_shard hp t 0 0 rfl, block3_shard hp t 1 1 rfl, block3_shard hp t 2 2 rfl, block3_shard hp t 3 3 rfl, block3_shard hp t 4 4 rfl, block3_shard hp t 5 5 rfl, block3_shard hp t 6 6 rfl, block3_shard hp t 7 7 rfl, pay2 p (row t), pay3 p (row t), pay4 p (row t), pay5 p (row t), pay6 p (row t), pay7 p (row t), pay8 p (row t), pay9 p (row t), pay10 p (row t), pay12 p (row t) (pay10 p (row t)), pay13 p (row t) (pay10 p (row t)), pay14 p (row t) (pay10 p (row t)), pay21 p (row t)]

theorem arr9 : (dats m 0 c).arrAt 9 cfg0.N = (up fun i => p.dy (i 0) (i 1) : FVec Ideal S8192x1024 .bf16) := by
  refine (dats m 0 c).arrAt_eq_of_covers 9 _ (by decide +kernel) fun t hf y => ?_
  blk_simp
  rw [after0_9, after9 hp t]
  refine (?_ : (up fun i => p.dy (i 0) (i 1) : FVec Ideal S8192x1024 .bf16) (ix2 (row t (y 0)) (y 1)) = _)
  blk_ext [idx t, row]

theorem after10 (t : Fin cfg0.N) : (outsAt0 m c t.val t.isLt).2.2.2.1 = rows (row t) .f32 p.dx := by
  by_cases h : t.val % 32 = 0
  · rw [outsAt0_A m c t h h h]
    frame_out
    simp only [block0 hp t, block1 hp t, block2 hp t, block4 hp t, block5 hp t, block6 hp t, block3_shard hp t 0 0 rfl, block3_shard hp t 1 1 rfl, block3_shard hp t 2 2 rfl, block3_shard hp t 3 3 rfl, block3_shard hp t 4 4 rfl, block3_shard hp t 5 5 rfl, block3_shard hp t 6 6 rfl, block3_shard hp t 7 7 rfl, pay2 p (row t), pay3 p (row t), pay4 p (row t), pay5 p (row t), pay6 p (row t), pay7 p (row t), pay8 p (row t), pay9 p (row t), pay10 p (row t), pay12 p (row t) (pay10 p (row t)), pay13 p (row t) (pay10 p (row t)), pay14 p (row t) (pay10 p (row t)), pay18 p (row t), pay21 p (row t), pay22 p (row t), pay26 p (row t), pay27 p (row t), pay1 p (row t)]
  · rw [outsAt0_B m c t h h h]
    frame_out
    simp only [block0 hp t, block1 hp t, block2 hp t, block4 hp t, block5 hp t, block6 hp t, block3_shard hp t 0 0 rfl, block3_shard hp t 1 1 rfl, block3_shard hp t 2 2 rfl, block3_shard hp t 3 3 rfl, block3_shard hp t 4 4 rfl, block3_shard hp t 5 5 rfl, block3_shard hp t 6 6 rfl, block3_shard hp t 7 7 rfl, pay2 p (row t), pay3 p (row t), pay4 p (row t), pay5 p (row t), pay6 p (row t), pay7 p (row t), pay8 p (row t), pay9 p (row t), pay10 p (row t), pay12 p (row t) (pay10 p (row t)), pay13 p (row t) (pay10 p (row t)), pay14 p (row t) (pay10 p (row t)), pay18 p (row t), pay21 p (row t), pay22 p (row t), pay26 p (row t), pay27 p (row t), pay1 p (row t)]

theorem arr10 : (dats m 0 c).arrAt 10 cfg0.N = (up fun i => p.dx (i 0) (i 1) : FVec Ideal S8192x1024 .f32) := by
  refine (dats m 0 c).arrAt_eq_of_covers 10 _ (by decide +kernel) fun t hf y => ?_
  blk_simp
  rw [after0_10, after10 hp t]
  refine (?_ : (up fun i => p.dx (i 0) (i 1) : FVec Ideal S8192x1024 .f32) (ix2 (row t (y 0)) (y 1)) = _)
  blk_ext [idx t, row]

/-! ## What adds up over the tiles -/

omit hp in
/-- A sum over the rows, tile by tile. -/
theorem sum_rows (f : Fin 8192 → ℝ) (t : Fin cfg0.N) (h : ∀ s : Fin 32, 32 * (t.val / 32) + s.val < cfg0.N) :
    ∑ s : Fin 32, ((∑ r : Fin 256, f (row ⟨32 * (t.val / 32) + s.val, h s⟩ r) : ℝ) : EReal) = ((∑ r, f r : ℝ) : EReal) := by
  rw [coe_sum]
  refine congrArg _ (Fin.sum_mul_add_congr fun s k hl => congrArg f (Fin.ext ?_))
  have := t.isLt
  have : cfg0.N = 32 := rfl
  show 256 * (32 * (t.val / 32) + s.val) + k.val = s.val * 256 + k.val
  omega

theorem arr11 : (dats m 0 c).arrAt 11 cfg0.N = (up fun _ => ∑ r, p.loss r : FVec Ideal S1x128 .f32) := by
  refine (dats m 0 c).arrAt_eq_of_covers 11 _ (by decide +kernel) fun t hf y => ?_
  blk_simp
  rw [after0_11, Pipeline.eq_sum_fin_of_reset_step_apply_of_flush (fun n h => (outsAt0 m c n h).2.2.2.2.1) 32 (fun _ => 0)
    (fun t j => ((∑ r : Fin 256, p.loss (row t r) : ℝ) : EReal))
    (fun t h j => by
      rw [outsAt0_A m c t h h h]; frame_out; simp only [block0 hp t, block1 hp t, block2 hp t, block4 hp t, block6 hp t, block3_shard hp t 0 0 rfl, block3_shard hp t 1 1 rfl, block3_shard hp t 2 2 rfl, block3_shard hp t 3 3 rfl, block3_shard hp t 4 4 rfl, block3_shard hp t 5 5 rfl, block3_shard hp t 6 6 rfl, block3_shard hp t 7 7 rfl, pay2 p (row t), pay3 p (row t), pay4 p (row t), pay5 p (row t), pay6 p (row t), pay7 p (row t), pay8 p (row t), pay9 p (row t), pay10 p (row t), pay15 p (row t) (pay10 p (row t))]
      exact (pay17 p (row t) _ j).trans (congrArg (· + _) (pay16 j)))
    (fun t h j => by rw [outsAt0_B m c t h h h]; frame_out; simp only [block0 hp t, block1 hp t, block2 hp t, block4 hp t, block6 hp t, block3_shard hp t 0 0 rfl, block3_shard hp t 1 1 rfl, block3_shard hp t 2 2 rfl, block3_shard hp t 3 3 rfl, block3_shard hp t 4 4 rfl, block3_shard hp t 5 5 rfl, block3_shard hp t 6 6 rfl, block3_shard hp t 7 7 rfl, pay2 p (row t), pay3 p (row t), pay4 p (row t), pay5 p (row t), pay6 p (row t), pay7 p (row t), pay8 p (row t), pay9 p (row t), pay10 p (row t), pay15 p (row t) (pay10 p (row t))]; exact pay17 p (row t) _ j)
    t ((flush0_11 t).mp hf) _, zero_add]
  refine (sum_rows (fun r => p.loss r) t _).trans (?_ : (up fun _ => ∑ r, p.loss r : FVec Ideal S1x128 .f32) (ix2 (y 0) (y 1)) = _)
  blk_ext [idx t]

theorem arr12 : (dats m 0 c).arrAt 12 cfg0.N = (up fun i => ∑ r, p.dg3 r (i 1) : FVec Ideal S1x1024 .f32) := by
  refine (dats m 0 c).arrAt_eq_of_covers 12 _ (by decide +kernel) fun t hf y => ?_
  blk_simp
  rw [after0_12, Pipeline.eq_sum_fin_of_reset_step_apply_of_flush (fun n h => (outsAt0 m c n h).2.2.2.2.2.1) 32 (fun _ => 0)
    (fun t j => ((∑ r : Fin 256, p.dg3 (row t r) (j 1) : ℝ) : EReal))
    (fun t h j => by
      rw [outsAt0_A m c t h h h]; frame_out; simp only [block0 hp t, block1 hp t, block2 hp t, block4 hp t, block6 hp t, block3_shard hp t 0 0 rfl, block3_shard hp t 1 1 rfl, block3_shard hp t 2 2 rfl, block3_shard hp t 3 3 rfl, block3_shard hp t 4 4 rfl, block3_shard hp t 5 5 rfl, block3_shard hp t 6 6 rfl, block3_shard hp t 7 7 rfl, pay2 p (row t), pay3 p (row t), pay4 p (row t), pay5 p (row t), pay6 p (row t), pay7 p (row t), pay8 p (row t), pay9 p (row t), pay10 p (row t), pay12 p (row t) (pay10 p (row t)), pay13 p (row t) (pay10 p (row t)), pay14 p (row t) (pay10 p (row t)), pay21 p (row t), pay22 p (row t)]
      exact (pay29 p (row t) (pay26 p (row t)) _ j).trans (congrArg (· + _) (pay28 j)))
    (fun t h j => by rw [outsAt0_B m c t h h h]; frame_out; simp only [block0 hp t, block1 hp t, block2 hp t, block4 hp t, block6 hp t, block3_shard hp t 0 0 rfl, block3_shard hp t 1 1 rfl, block3_shard hp t 2 2 rfl, block3_shard hp t 3 3 rfl, block3_shard hp t 4 4 rfl, block3_shard hp t 5 5 rfl, block3_shard hp t 6 6 rfl, block3_shard hp t 7 7 rfl, pay2 p (row t), pay3 p (row t), pay4 p (row t), pay5 p (row t), pay6 p (row t), pay7 p (row t), pay8 p (row t), pay9 p (row t), pay10 p (row t), pay12 p (row t) (pay10 p (row t)), pay13 p (row t) (pay10 p (row t)), pay14 p (row t) (pay10 p (row t)), pay21 p (row t), pay22 p (row t)]; exact pay29 p (row t) (pay26 p (row t)) _ j)
    t ((flush0_12 t).mp hf) _, zero_add]
  refine (sum_rows (fun r => p.dg3 r (y 1)) t _).trans (?_ : (up fun i => ∑ r, p.dg3 r (i 1) : FVec Ideal S1x1024 .f32) (ix2 (y 0) (y 1)) = _)
  blk_ext [idx t]

theorem arr13 : (dats m 0 c).arrAt 13 cfg0.N = (up fun i => ∑ r, p.dg4 r (i 1) : FVec Ideal S1x1024 .f32) := by
  refine (dats m 0 c).arrAt_eq_of_covers 13 _ (by decide +kernel) fun t hf y => ?_
  blk_simp
  rw [after0_13, Pipeline.eq_sum_fin_of_reset_step_apply_of_flush (fun n h => (outsAt0 m c n h).2.2.2.2.2.2) 32 (fun _ => 0)
    (fun t j => ((∑ r : Fin 256, p.dg4 (row t r) (j 1) : ℝ) : EReal))
    (fun t h j => by
      rw [outsAt0_A m c t h h h]; frame_out; simp only [block0 hp t, block1 hp t, block2 hp t, block4 hp t, block6 hp t, block3_shard hp t 0 0 rfl, block3_shard hp t 1 1 rfl, block3_shard hp t 2 2 rfl, block3_shard hp t 3 3 rfl, block3_shard hp t 4 4 rfl, block3_shard hp t 5 5 rfl, block3_shard hp t 6 6 rfl, block3_shard hp t 7 7 rfl, pay2 p (row t), pay3 p (row t), pay4 p (row t), pay5 p (row t), pay6 p (row t), pay7 p (row t), pay8 p (row t), pay9 p (row t), pay10 p (row t), pay12 p (row t) (pay10 p (row t)), pay13 p (row t) (pay10 p (row t)), pay14 p (row t) (pay10 p (row t))]
      exact (pay20 p (row t) _ j).trans (congrArg (· + _) (pay19 j)))
    (fun t h j => by rw [outsAt0_B m c t h h h]; frame_out; simp only [block0 hp t, block1 hp t, block2 hp t, block4 hp t, block6 hp t, block3_shard hp t 0 0 rfl, block3_shard hp t 1 1 rfl, block3_shard hp t 2 2 rfl, block3_shard hp t 3 3 rfl, block3_shard hp t 4 4 rfl, block3_shard hp t 5 5 rfl, block3_shard hp t 6 6 rfl, block3_shard hp t 7 7 rfl, pay2 p (row t), pay3 p (row t), pay4 p (row t), pay5 p (row t), pay6 p (row t), pay7 p (row t), pay8 p (row t), pay9 p (row t), pay10 p (row t), pay12 p (row t) (pay10 p (row t)), pay13 p (row t) (pay10 p (row t)), pay14 p (row t) (pay10 p (row t))]; exact pay20 p (row t) _ j)
    t ((flush0_13 t).mp hf) _, zero_add]
  refine (sum_rows (fun r => p.dg4 r (y 1)) t _).trans (?_ : (up fun i => ∑ r, p.dg4 r (i 1) : FVec Ideal S1x1024 .f32) (ix2 (y 0) (y 1)) = _)
  blk_ext [idx t]

end Cert.MlpIdeal.Arrays
-- ==== Proof.Mlp.Finite.lean ====
/- What the precondition gives: the arguments are arrays of reals. -/
module

public import proofs.«01_k».proof.Defs
public import proofs.«01_k».proof.Proof.Gen.Pre_finite
public import proofs.«01_k».proof.Proof.Mlp.Kernel

@[expose] public section

noncomputable section

namespace Cert.MlpIdeal.Arrays

open Idealize.ShloMosaic Idealize.ShloMosaic.TcCoe Cert.MlpIdeal Cert.Reals

/-- The reals the arguments hold on device `c`. -/
def given (m : (ℓ : Loc nD τ sig) → Buf (Elt Ideal) ℓ) (c : Dev nD) : MlpIn where
  x i j := EReal.toReal (m ((c : Thread nD τ).loc main_arg0) (ix2 i j))
  target i j := EReal.toReal (m ((c : Thread nD τ).loc main_arg1) (ix2 i j))
  up i j := EReal.toReal (m ((c : Thread nD τ).loc main_arg2) (ix2 i j))
  down i j := EReal.toReal (m ((c : Thread nD τ).loc main_arg3) (ix2 i j))
  g3 j := EReal.toReal (m ((c : Thread nD τ).loc main_arg4) (ix2 0 j))
  g4 j := EReal.toReal (m ((c : Thread nD τ).loc main_arg5) (ix2 0 j))

theorem at_given (m : (ℓ : Loc nD τ sig) → Buf (Elt Ideal) ℓ) (h : Pre_MlpIdeal_finite m) (c : Dev nD) : At (given m c) m c := by
  have e := congrFun (h c) (fun k => k.elim0)
  have ⟨e, e5⟩ := IntOp.andi_eq_one.mp e
  have ⟨e, e4⟩ := IntOp.andi_eq_one.mp e
  have ⟨e, e3⟩ := IntOp.andi_eq_one.mp e
  have ⟨e, e2⟩ := IntOp.andi_eq_one.mp e
  have ⟨e0, e1⟩ := IntOp.andi_eq_one.mp e
  exact ⟨up_at2 (real_of_finite _ _ _ _ _ e0), up_at2 (real_of_finite _ _ _ _ _ e1), up_at2 (real_of_finite _ _ _ _ _ e2),
    up_at2 (real_of_finite _ _ _ _ _ e3), up_at_row (real_of_finite _ _ _ _ _ e4), up_at_row (real_of_finite _ _ _ _ _ e5)⟩

end Cert.MlpIdeal.Arrays
-- ==== Proof.Mlp.Ref.lean ====
/- What the reference's arrays hold: at arguments that are reals, each is the step's formula at its index. -/
module

public import proofs.«01_k».proof.Proof.Gen.MlpRefIdeal.Read
public import proofs.«01_k».proof.Proof.Mlp.Args

@[expose] public section

set_option maxRecDepth 16384

noncomputable section

namespace Cert.MlpRefIdeal.Holds

open Idealize.ShloMosaic Cert.MlpRefIdeal Cert.MlpRefIdeal.Read Cert.Reals

variable (p : MlpIn)

theorem v8 (i : S8192x1.Idx) : val_main_v8 (F := Ideal) p.X i = ((Rms.ms 1024 (p.x (i 0)) : ℝ) : EReal) := by
  simp only [val_main_v8_apply, val_main_v7_apply, val_main_v6_apply, val_main_v5_apply, val_main_v4_apply,
    val_main_v3_apply, val_main_v2_apply, val_main_cst_1_apply, val_main_cst_2_apply, val_main_cst_3_apply,
    Ideal.ofBits_def, Ideal.addf_def, Ideal.mulf_def, Ideal.hostDivf_def, lit_eps, lit_zero, lit_1024,
    ← EReal.coe_mul, coe_sum, ← EReal.coe_add, div_real (show (1024 : ℝ) ≠ 0 by norm_num), zero_add]
  rfl

theorem v9 (i : S8192x1.Idx) : val_main_v9 (F := Ideal) p.X i = ((p.r3 (i 0) : ℝ) : EReal) := by
  simp only [val_main_v9_apply, v8, Ideal.hostUnary_rsqrt_def, rsqrt_real (Rms.ms_pos (show (0 : ℝ) < 1024 by norm_num) _)]
  rfl

theorem v14 (i : S8192x1024.Idx) : val_main_v14 (F := Ideal) p.X i = ((p.x (i 0) (i 1) * p.r3 (i 0) : ℝ) : EReal) := by
  simp only [val_main_v14_apply, val_main_v13_apply, v9, Ideal.mulf_def, ← EReal.coe_mul]
  rfl

theorem v16 (i : S8192x1024.Idx) : val_main_v16 (F := Ideal) p.X p.G3 i = ((p.h (i 0) (i 1) : ℝ) : EReal) := by
  simp only [val_main_v16_apply, val_main_v15_apply, v14, Ideal.mulf_def, ← EReal.coe_mul]
  rfl

theorem v18 (i : S8192x4096.Idx) : val_main_v18 (F := Ideal) p.X p.Up p.G3 i = ((p.u (i 0) (i 1) : ℝ) : EReal) := by
  simp only [val_main_v18_apply, val_main_v17_apply, val_main_v0_apply, val_main_cst_apply, v16, Ideal.ofBits_def,
    Ideal.addf_def, lit_zero, ← EReal.coe_mul, coe_sum, ← EReal.coe_add, add_zero]
  rfl

theorem v19 (i : S8192x4096.Idx) : val_main_v19 (F := Ideal) p.X p.Up p.G3 i = ((p.ru (i 0) (i 1) : ℝ) : EReal) := by
  simp only [val_main_v19_apply, val_main_call0_v0_apply, val_main_call0_cst_apply, v18, Ideal.ofBits_def,
    Ideal.maximumf_def, lit_zero, coe_max]
  rfl

theorem v23 (i : S8192x4096.Idx) : val_main_v23 (F := Ideal) p.X p.Up p.G3 i = ((p.a (i 0) (i 1) : ℝ) : EReal) := by
  simp only [val_main_v23_apply, v19, Ideal.mulf_def, ← EReal.coe_mul]
  rfl

theorem v27 (i : S8192x1024.Idx) : val_main_v27 (F := Ideal) p.X p.Up p.Down p.G3 i = ((p.y (i 0) (i 1) : ℝ) : EReal) := by
  simp only [val_main_v27_apply, val_main_v26_apply, val_main_v1_apply, val_main_cst_0_apply, v23, Ideal.ofBits_def,
    Ideal.addf_def, lit_zero, ← EReal.coe_mul, coe_sum, ← EReal.coe_add, add_zero]
  rfl

theorem v34 (i : S8192x1.Idx) :
    val_main_v34 (F := Ideal) p.X p.Up p.Down p.G3 i = ((Rms.ms 1024 (p.y (i 0)) : ℝ) : EReal) := by
  simp only [val_main_v34_apply, val_main_v33_apply, val_main_v32_apply, val_main_v31_apply, val_main_v30_apply,
    val_main_v29_apply, val_main_v28_apply, val_main_cst_8_apply, val_main_cst_9_apply, val_main_cst_10_apply, v27,
    Ideal.ofBits_def, Ideal.addf_def, Ideal.mulf_def, Ideal.hostDivf_def, lit_eps, lit_zero, lit_1024,
    ← EReal.coe_mul, coe_sum, ← EReal.coe_add, div_real (show (1024 : ℝ) ≠ 0 by norm_num), zero_add]
  rfl

theorem v35 (i : S8192x1.Idx) : val_main_v35 (F := Ideal) p.X p.Up p.Down p.G3 i = ((p.r4 (i 0) : ℝ) : EReal) := by
  simp only [val_main_v35_apply, v34, Ideal.hostUnary_rsqrt_def, rsqrt_real (Rms.ms_pos (show (0 : ℝ) < 1024 by norm_num) _)]
  rfl

theorem v40 (i : S8192x1024.Idx) :
    val_main_v40 (F := Ideal) p.X p.Up p.Down p.G3 i = ((p.y (i 0) (i 1) * p.r4 (i 0) : ℝ) : EReal) := by
  simp only [val_main_v40_apply, val_main_v39_apply, v27, v35, Ideal.mulf_def, ← EReal.coe_mul]
  rfl

theorem v44 (i : S8192x1024.Idx) :
    val_main_v44 (F := Ideal) p.X p.Target p.Up p.Down p.G3 p.G4 i = ((p.diff (i 0) (i 1) : ℝ) : EReal) := by
  simp only [val_main_v44_apply, val_main_v43_apply, val_main_v42_apply, val_main_v41_apply, v40, Ideal.mulf_def,
    Ideal.addf_def, Ideal.subf_def, ← EReal.coe_mul, ← EReal.coe_add, ← EReal.coe_sub]
  rfl

theorem v52 (i : S_.Idx) :
    val_main_v52 (F := Ideal) p.X p.Target p.Up p.Down p.G3 p.G4 i = ((∑ r, p.loss r : ℝ) : EReal) := by
  simp only [val_main_v52_apply, val_main_v51_apply, val_main_v50_apply, val_main_v49_apply, val_main_v48_apply,
    val_main_v45_apply, val_main_cst_16_apply, val_main_cst_15_apply, val_main_cst_14_apply, val_main_cst_13_apply, v44,
    Ideal.ofBits_def, Ideal.mulf_def, Ideal.hostDivf_def, lit_half, lit_zero, lit_1024,
    ← EReal.coe_mul, coe_sum, ← EReal.coe_add, div_real (show (1024 : ℝ) ≠ 0 by norm_num), zero_add]
  rw [Idealize.ShloMosaic.sum_idx1]
  congr 1
  rw [Finset.mul_sum]
  refine Finset.sum_congr rfl fun r _ => ?_
  show 1 / 2 * ((∑ k, p.diff r k * p.diff r k) / 1024) = p.loss r
  unfold MlpIn.loss; ring

theorem v58 (i : S8192x1024.Idx) :
    val_main_v58 (F := Ideal) p.X p.Target p.Up p.Down p.G3 p.G4 i = ((p.dout (i 0) (i 1) : ℝ) : EReal) := by
  simp only [val_main_v58_apply, val_main_v57_apply, val_main_v56_apply, val_main_v55_apply, val_main_v54_apply,
    val_main_v53_apply, val_main_v47_apply, val_main_v46_apply, val_main_cst_12_apply, val_main_cst_17_apply,
    val_main_cst_18_apply, val_main_cst_19_apply, v44, Ideal.ofBits_def, Ideal.mulf_def, Ideal.hostDivf_def, lit_half,
    lit_one, lit_two, lit_1024, ← EReal.coe_mul, div_real (show (1024 : ℝ) ≠ 0 by norm_num)]
  congr 1; unfold MlpIn.dout; ring

theorem v61 (i : S1x1024.Idx) :
    val_main_v61 (F := Ideal) p.X p.Target p.Up p.Down p.G3 p.G4 i = ((∑ r, p.dg4 r (i 1) : ℝ) : EReal) := by
  simp only [val_main_v61_apply, val_main_v60_apply, val_main_v59_apply, val_main_cst_20_apply, v40, v58,
    Ideal.ofBits_def, Ideal.mulf_def, lit_zero, ← EReal.coe_mul, coe_sum, ← EReal.coe_add, zero_add]
  congr 1
  refine Finset.sum_congr rfl fun r _ => ?_
  rw [show idx_main_v60 (idx_main_v61 i) r 1 = i 1 from Fin.ext (by
    show (i 0).val * 1024 + (i 1).val = (i 1).val; have h : (i 0).val < 1 := (i 0).isLt; omega)]
  show p.y r (i 1) * p.r4 r * p.dout r (i 1) = p.dg4 r (i 1)
  unfold MlpIn.dg4; ring

theorem v63 (i : S8192x1024.Idx) :
    val_main_v63 (F := Ideal) p.X p.Target p.Up p.Down p.G3 p.G4 i = ((p.dout (i 0) (i 1) * p.g4 (i 1) : ℝ) : EReal) := by
  simp only [val_main_v63_apply, val_main_v62_apply, v58, Ideal.mulf_def, ← EReal.coe_mul]
  rfl

/-- The mean square's cotangent, the row's part through the root. -/
theorem v72 (i : S8192.Idx) : val_main_v72 (F := Ideal) p.X p.Target p.Up p.Down p.G3 p.G4 i
    = (((∑ k, p.y (i 0) k * (p.dout (i 0) k * p.g4 k)) * (-(1 / 2) * (p.r4 (i 0) / Rms.ms 1024 (p.y (i 0)))) / 1024 : ℝ) : EReal) := by
  simp only [val_main_v72_apply, val_main_v71_apply, val_main_v70_apply, val_main_v69_apply, val_main_v66_apply,
    val_main_v65_apply, val_main_v64_apply, val_main_v38_apply, val_main_v37_apply, val_main_v36_apply,
    val_main_cst_11_apply, val_main_cst_21_apply, val_main_cst_22_apply, val_main_cst_23_apply, v27, v34, v35, v63,
    Ideal.ofBits_def, Ideal.mulf_def, Ideal.hostDivf_def, lit_neg_half, lit_zero, lit_1024, ← EReal.coe_mul, coe_sum,
    ← EReal.coe_add, div_real (show (1024 : ℝ) ≠ 0 by norm_num), zero_add,
    div_real (Rms.ms_pos (show (0 : ℝ) < 1024 by norm_num) _).ne']
  rw [Fin.sum_univ_one]
  simp only [show ∀ k, idx_main_v65 (idx_main_v66 (idx_main_v72 i 0)) k 0 = i 0 from fun k => Fin.ext (by
    show (i 0).val * 1 + 0 = (i 0).val; omega)]
  rfl

theorem v77 (i : S8192x1024.Idx) :
    val_main_v77 (F := Ideal) p.X p.Target p.Up p.Down p.G3 p.G4 i = ((p.dy (i 0) (i 1) : ℝ) : EReal) := by
  simp only [val_main_v77_apply, val_main_v76_apply, val_main_v75_apply, val_main_v74_apply, val_main_v73_apply,
    val_main_v68_apply, val_main_v67_apply, v27, v35, v63, v72, Ideal.mulf_def, Ideal.addf_def, ← EReal.coe_mul,
    ← EReal.coe_add]
  exact congrArg _ (Rms.bwd_eq (show (0 : ℝ) < 1024 by norm_num) _ _ _ _)

/-- The derivative of the rectifier, as the selection it is. -/
theorem select_pos (u x : ℝ) :
    Scalar.select (FloatOps.cmpf (F := Ideal) (φ := .f32) .ogt (u : EReal) ((0 : ℝ) : EReal)) (x : EReal) ((0 : ℝ) : EReal)
      = ((if 0 < u then x else 0 : ℝ) : EReal) := by
  show (if Ideal.cmp .ogt (u : EReal) ((0 : ℝ) : EReal) = 1#1 then _ else _) = _
  by_cases h : 0 < u <;> simp [Ideal.cmp, h]

theorem v81 (i : S8192x4096.Idx) :
    val_main_v81 (F := Ideal) p.X p.Target p.Up p.Down p.G3 p.G4 i = ((p.du (i 0) (i 1) : ℝ) : EReal) := by
  simp only [val_main_v81_apply, val_main_v80_apply, val_main_v79_apply, val_main_v78_apply, val_main_v25_apply,
    val_main_v24_apply, val_main_v21_apply, val_main_v20_apply, val_main_cst_24_apply, val_main_cst_5_apply,
    val_main_cst_7_apply, v18, v19, v77, Ideal.ofBits_def, Ideal.mulf_def, lit_zero, lit_two, ← EReal.coe_mul, coe_sum]
  refine (select_pos (p.u (i 0) (i 1)) _).trans (congrArg _ ?_)
  split_ifs with h
  · rfl
  · have h0 : p.ru (i 0) (i 1) = 0 := max_eq_right (not_lt.1 h)
    show (0 : ℝ) = _ * (2 * p.ru (i 0) (i 1))
    rw [h0]; ring

theorem v82 (i : S8192x1024.Idx) :
    val_main_v82 (F := Ideal) p.X p.Target p.Up p.Down p.G3 p.G4 i = ((p.dh (i 0) (i 1) : ℝ) : EReal) := by
  simp only [val_main_v82_apply, v81, ← EReal.coe_mul, coe_sum]
  rfl

theorem v85 (i : S1x1024.Idx) :
    val_main_v85 (F := Ideal) p.X p.Target p.Up p.Down p.G3 p.G4 i = ((∑ r, p.dg3 r (i 1) : ℝ) : EReal) := by
  simp only [val_main_v85_apply, val_main_v84_apply, val_main_v83_apply, val_main_cst_25_apply, v14, v82,
    Ideal.ofBits_def, Ideal.mulf_def, lit_zero, ← EReal.coe_mul, coe_sum, ← EReal.coe_add, zero_add]
  congr 1
  refine Finset.sum_congr rfl fun r _ => ?_
  rw [show idx_main_v84 (idx_main_v85 i) r 1 = i 1 from Fin.ext (by
    show (i 0).val * 1024 + (i 1).val = (i 1).val; have h : (i 0).val < 1 := (i 0).isLt; omega)]
  show p.x r (i 1) * p.r3 r * p.dh r (i 1) = p.dg3 r (i 1)
  unfold MlpIn.dg3; ring

theorem v87 (i : S8192x1024.Idx) :
    val_main_v87 (F := Ideal) p.X p.Target p.Up p.Down p.G3 p.G4 i = ((p.dh (i 0) (i 1) * p.g3 (i 1) : ℝ) : EReal) := by
  simp only [val_main_v87_apply, val_main_v86_apply, v82, Ideal.mulf_def, ← EReal.coe_mul]
  rfl

theorem v97 (i : S8192.Idx) : val_main_v97 (F := Ideal) p.X p.Target p.Up p.Down p.G3 p.G4 i
    = (((∑ k, p.x (i 0) k * (p.dh (i 0) k * p.g3 k)) * (-(1 / 2) * (p.r3 (i 0) / Rms.ms 1024 (p.x (i 0)))) / 1024 : ℝ) : EReal) := by
  simp only [val_main_v97_apply, val_main_v96_apply, val_main_v95_apply, val_main_v94_apply, val_main_v90_apply,
    val_main_v89_apply, val_main_v88_apply, val_main_v12_apply, val_main_v11_apply, val_main_v10_apply,
    val_main_cst_4_apply, val_main_cst_26_apply, val_main_cst_27_apply, val_main_cst_28_apply, v8, v9, v87,
    Ideal.ofBits_def, Ideal.mulf_def, Ideal.hostDivf_def, lit_neg_half, lit_zero, lit_1024, ← EReal.coe_mul, coe_sum,
    ← EReal.coe_add, div_real (show (1024 : ℝ) ≠ 0 by norm_num), zero_add,
    div_real (Rms.ms_pos (show (0 : ℝ) < 1024 by norm_num) _).ne']
  rw [Fin.sum_univ_one]
  simp only [show ∀ k, idx_main_v89 (idx_main_v90 (idx_main_v97 i 0)) k 0 = i 0 from fun k => Fin.ext (by
    show (i 0).val * 1 + 0 = (i 0).val; omega)]
  rfl

theorem v102 (i : S8192x1024.Idx) :
    val_main_v102 (F := Ideal) p.X p.Target p.Up p.Down p.G3 p.G4 i = ((p.dx (i 0) (i 1) : ℝ) : EReal) := by
  simp only [val_main_v102_apply, val_main_v101_apply, val_main_v100_apply, val_main_v99_apply, val_main_v98_apply,
    val_main_v93_apply, val_main_v92_apply, val_main_v91_apply, v9, v58, v87, v97, Ideal.mulf_def, Ideal.addf_def,
    ← EReal.coe_mul, ← EReal.coe_add]
  exact congrArg _ (Rms.add_bwd_eq (show (0 : ℝ) < 1024 by norm_num) _ _ _ _ _)

/-! ## The results -/

theorem out103 : val_main_v103 (F := Ideal) p.X p.Up p.G3 = (up fun i => p.a (i 0) (i 1) : FVec Ideal S8192x4096 .bf16) := funext fun i => v23 p i

theorem out104 : val_main_v104 (F := Ideal) p.X p.Target p.Up p.Down p.G3 p.G4 = (up fun i => p.du (i 0) (i 1) : FVec Ideal S8192x4096 .bf16) :=
  funext fun i => v81 p i

theorem out105 : val_main_v105 (F := Ideal) p.X p.Target p.Up p.Down p.G3 p.G4 = (up fun i => p.dy (i 0) (i 1) : FVec Ideal S8192x1024 .bf16) :=
  funext fun i => v77 p i

theorem out102 : val_main_v102 (F := Ideal) p.X p.Target p.Up p.Down p.G3 p.G4 = (up fun i => p.dx (i 0) (i 1) : FVec Ideal S8192x1024 .f32) :=
  funext fun i => v102 p i

theorem out106 : val_main_v106 (F := Ideal) p.X p.Target p.Up p.Down p.G3 p.G4 = (up fun _ => ∑ r, p.loss r : FVec Ideal S1x128 .f32) :=
  funext fun i => (val_main_v106_apply ..).trans (v52 p _)

theorem out85 : val_main_v85 (F := Ideal) p.X p.Target p.Up p.Down p.G3 p.G4 = (up fun i => ∑ r, p.dg3 r (i 1) : FVec Ideal S1x1024 .f32) :=
  funext fun i => v85 p i

theorem out61 : val_main_v61 (F := Ideal) p.X p.Target p.Up p.Down p.G3 p.G4 = (up fun i => ∑ r, p.dg4 r (i 1) : FVec Ideal S1x1024 .f32) :=
  funext fun i => v61 p i

end Cert.MlpRefIdeal.Holds

end
-- ==== Proof.Mlp.Equal.lean ====
/- The kernel's results are the reference's. -/
module

public import proofs.«01_k».proof.Proof.Mlp.Finite
public import proofs.«01_k».proof.Proof.Mlp.Ref

@[expose] public section

set_option maxRecDepth 16384

noncomputable section

namespace Cert.Proof

open Idealize.ShloMosaic Idealize.SL.Sem

theorem mlp_equal [Cert.Pre_finite.Facts] : Cert.algebraic_MlpIdeal_MlpRefIdeal_pre_finite := by
  intro m g m' g' hpre heq
  have hp := Cert.MlpIdeal.Arrays.at_given m hpre
  refine ⟨_, _, _, _, _, _, _, (θ_run _ _ _).mono (fun _ h c => h c) (Cert.MlpIdeal.Value.run_blocks m g),
    (θ_run _ _ _).mono (fun _ h c => ?_) (Cert.MlpRefIdeal.Value.run m' g')⟩
  obtain ⟨r0, r1, r2, r3, r4, r5, r6, k⟩ := h c
  obtain ⟨e0, e1, e2, e3, e4, e5⟩ := heq c
  have a0 := e0.trans (hp c).x
  have a1 := e1.trans (hp c).target
  have a2 := e2.trans (hp c).up
  have a3 := e3.trans (hp c).down
  have a4 := e4.trans (hp c).g3
  have a5 := e5.trans (hp c).g4
  have same {β : Type} (f : FVec Ideal Cert.MlpRefIdeal.S8192x1024 .f32 → FVec Ideal Cert.MlpRefIdeal.S8192x1024 .f32
      → FVec Ideal Cert.MlpRefIdeal.S1024x4096 .f32 → FVec Ideal Cert.MlpRefIdeal.S4096x1024 .f32
      → FVec Ideal Cert.MlpRefIdeal.S1x1024 .f32 → FVec Ideal Cert.MlpRefIdeal.S1x1024 .f32 → β) :=
    (congr (congr (congr (congr (congr (congrArg f a0) a1) a2) a3) a4) a5)
  refine ⟨r0.trans ((Cert.MlpRefIdeal.Read.val_main_v103_eq _).trans ((congr (congr (congrArg Cert.MlpRefIdeal.Read.val_main_v103 a0) a2) a4).trans
      ((Cert.MlpRefIdeal.Holds.out103 _).trans (Cert.MlpIdeal.Arrays.arr7 (hp c)).symm))),
    r1.trans ((Cert.MlpRefIdeal.Read.val_main_v104_eq _).trans ((same (Cert.MlpRefIdeal.Read.val_main_v104 (F := Ideal))).trans ((Cert.MlpRefIdeal.Holds.out104 _).trans (Cert.MlpIdeal.Arrays.arr8 (hp c)).symm))),
    r2.trans ((Cert.MlpRefIdeal.Read.val_main_v105_eq _).trans ((same (Cert.MlpRefIdeal.Read.val_main_v105 (F := Ideal))).trans ((Cert.MlpRefIdeal.Holds.out105 _).trans (Cert.MlpIdeal.Arrays.arr9 (hp c)).symm))),
    r3.trans ((Cert.MlpRefIdeal.Read.val_main_v102_eq _).trans ((same (Cert.MlpRefIdeal.Read.val_main_v102 (F := Ideal))).trans ((Cert.MlpRefIdeal.Holds.out102 _).trans (Cert.MlpIdeal.Arrays.arr10 (hp c)).symm))),
    r4.trans ((Cert.MlpRefIdeal.Read.val_main_v106_eq _).trans ((same (Cert.MlpRefIdeal.Read.val_main_v106 (F := Ideal))).trans ((Cert.MlpRefIdeal.Holds.out106 _).trans (Cert.MlpIdeal.Arrays.arr11 (hp c)).symm))),
    r5.trans ((Cert.MlpRefIdeal.Read.val_main_v85_eq _).trans ((same (Cert.MlpRefIdeal.Read.val_main_v85 (F := Ideal))).trans ((Cert.MlpRefIdeal.Holds.out85 _).trans (Cert.MlpIdeal.Arrays.arr12 (hp c)).symm))),
    r6.trans ((Cert.MlpRefIdeal.Read.val_main_v61_eq _).trans ((same (Cert.MlpRefIdeal.Read.val_main_v61 (F := Ideal))).trans ((Cert.MlpRefIdeal.Holds.out61 _).trans (Cert.MlpIdeal.Arrays.arr13 (hp c)).symm))), k⟩

end Cert.Proof
-- ==== Proof.Mla.Prog.lean ====
module

public import proofs.«01_k».proof.Proof.Gen.MlaIdeal.Skeleton

/-! The body of the attention's backward call as five programs one after another, each under its own condition. -/

@[expose] public section

set_option maxRecDepth 65536

noncomputable section

namespace Cert.MlaK

open Idealize.ShloMosaic Idealize.ShloMosaic.TcCoe Idealize.SL.Sem Cert.MlaIdeal Cert.MlaIdeal.Gen

variable {F : FTy → Type} [FloatOps F] [Named F]
variable (i : grid0.Coords) (arg2 : Memref sig .tc .smem S72 .i32) (harg2 : arg2.IsWhole) (arg3 : Memref sig .tc .smem S72 .i32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x8192 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .f32) (harg12 : arg12.IsWhole) (arg13 : Memref sig .tc .vmem S512x512 .f32) (harg13 : arg13.IsWhole)

set_option cleanup.letToHave false in set_option maxHeartbeats 40000000 in
/-- Of the body: the query gradient set to zero at the walk's first pair. -/
def zeroRun (k : PUnit → Prog (TpuEff nD τ sig (Elt F) Λ₀ .tc) PUnit) :
    Prog (TpuEff nD τ sig (Elt F) Λ₀ .tc) PUnit :=
  if k0_h1 : k0_cond1 i = 1#1 then do
    let v27 : Vec F S512x8192 .f32 ← Prog.lift (.load arg9 (Rect.unit (s := S512x8192) ![0, 0] S512x8192.size inb_S512x8192_S512x8192_0_0).toLoadRect (View.loadsAt_vmem h_S512x8192))
    Prog.lift (.store arg9 (Rect.unit (s := S512x8192) ![0, 0] S512x8192.size inb_S512x8192_S512x8192_0_0) (k0_pay1 (F := F)) Finset.univ (View.stores_vmem_bits_univ h_S512x8192 rfl) (.inl rfl))
    k ⟨⟩
  else do
    k ⟨⟩

set_option cleanup.letToHave false in set_option maxHeartbeats 40000000 in
/-- Of the body: the pair on the diagonal, the key tile in the first half of the query tile. -/
def headRun (v1 v3 : BitVec 32) (k0_hw1 : k0_chk1 v1 v3) (k : PUnit → Prog (TpuEff nD τ sig (Elt F) Λ₀ .tc) PUnit) :
    Prog (TpuEff nD τ sig (Elt F) Λ₀ .tc) PUnit :=
  if k0_h2 : k0_cond2 v1 v3 = 1#1 then do
    let ⟨v28, v43, v52, v58, v60⟩ : Σ' (v28 : BitVec 32) (v43 : FVec F S512x1024 .f32) (v52 : FVec F S512x1024 .bf16) (v58 : FVec F S96x512 .f32), FVec F S128x512 .f32 ← k0_part1 i arg2 harg2 arg3 harg3 arg4 harg4 arg5 harg5 arg6 harg6 arg7 harg7 arg8 harg8 arg9 harg9 arg10 harg10 arg11 harg11 arg12 harg12 arg13 harg13 v3
    let ⟨v87, v94, v96⟩ : Σ' (v87 : FVec F S512x1024 .f32) (v94 : FVec F S512x1024 .bf16), FVec F S512x1024 .bf16 ← k0_part2 i arg2 harg2 arg3 harg3 arg4 harg4 arg5 harg5 arg6 harg6 arg7 harg7 arg8 harg8 arg9 harg9 arg10 harg10 arg11 harg11 arg12 harg12 arg13 harg13 v1 v3 k0_hw1 k0_h2 v28 v43 v52 v58 v60
    let ⟨v126, v128⟩ : Σ' (v126 : FVec F S512x1024 .f32), FVec F S512x128 .bf16 ← k0_part3 i arg2 harg2 arg3 harg3 arg4 harg4 arg5 harg5 arg6 harg6 arg7 harg7 arg8 harg8 arg9 harg9 arg10 harg10 arg11 harg11 arg12 harg12 arg13 harg13 v1 v3 k0_hw1 k0_h2 v28 v94 v96
    let v131 : FVec F S512x1024 .f32 ← k0_part4 i arg2 harg2 arg3 harg3 arg4 harg4 arg5 harg5 arg6 harg6 arg7 harg7 arg8 harg8 arg9 harg9 arg10 harg10 arg11 harg11 arg12 harg12 arg13 harg13 v1 v3 k0_hw1 k0_h2 v28 v87 v126 v128
    let ⟨v198, v201⟩ : Σ' (v198 : FVec F S96x1024 .f32), FVec F S96x1024 .f32 ← k0_part5 i arg2 harg2 arg3 harg3 arg4 harg4 arg5 harg5 arg6 harg6 arg7 harg7 arg8 harg8 arg9 harg9 arg10 harg10 arg11 harg11 arg12 harg12 arg13 harg13 v1 v3 k0_hw1 k0_h2 v28 v131
    let v204 : Vec F S96x1024 .f32 ← Prog.lift (.load arg9 (Rect.unit (s := S512x8192) (k0_off5 v3) S96x1024.size (k0_off5_inb v1 v3 k0_hw1 k0_h2)).toLoadRect (View.loadsAt_vmem h_S96x1024))
    Prog.lift (.store arg9 (Rect.unit (s := S512x8192) (k0_off5 v3) S96x1024.size (k0_off5_inb v1 v3 k0_hw1 k0_h2)) (k0_pay2 v198 v201) Finset.univ (View.stores_vmem_bits_univ h_S96x1024 rfl) (.inl rfl))
    k ⟨⟩
  else do
    k ⟨⟩

set_option cleanup.letToHave false in set_option maxHeartbeats 40000000 in
/-- Of the body: the pair on the diagonal, the key tile in the second half. -/
def tailRun (v1 v3 : BitVec 32) (k0_hw1 : k0_chk1 v1 v3) (k : PUnit → Prog (TpuEff nD τ sig (Elt F) Λ₀ .tc) PUnit) :
    Prog (TpuEff nD τ sig (Elt F) Λ₀ .tc) PUnit :=
  if k0_h3 : k0_cond3 v1 v3 = 1#1 then do
    let ⟨v28, v43, v52, v58, v60⟩ : Σ' (v28 : BitVec 32) (v43 : FVec F S512x512 .f32) (v52 : FVec F S512x512 .bf16) (v58 : FVec F S96x512 .f32), FVec F S128x512 .f32 ← k0_part6 i arg2 harg2 arg3 harg3 arg4 harg4 arg5 harg5 arg6 harg6 arg7 harg7 arg8 harg8 arg9 harg9 arg10 harg10 arg11 harg11 arg12 harg12 arg13 harg13 v3
    let ⟨v87, v94, v96⟩ : Σ' (v87 : FVec F S512x512 .f32) (v94 : FVec F S512x512 .bf16), FVec F S512x512 .bf16 ← k0_part7 i arg2 harg2 arg3 harg3 arg4 harg4 arg5 harg5 arg6 harg6 arg7 harg7 arg8 harg8 arg9 harg9 arg10 harg10 arg11 harg11 arg12 harg12 arg13 harg13 v1 v3 k0_hw1 k0_h3 v28 v43 v52 v58 v60
    let ⟨v126, v128⟩ : Σ' (v126 : FVec F S512x512 .f32), FVec F S512x128 .bf16 ← k0_part8 i arg2 harg2 arg3 harg3 arg4 harg4 arg5 harg5 arg6 harg6 arg7 harg7 arg8 harg8 arg9 harg9 arg10 harg10 arg11 harg11 arg12 harg12 arg13 harg13 v1 v3 k0_hw1 k0_h3 v28 v94 v96
    let v131 : FVec F S512x512 .f32 ← k0_part9 i arg2 harg2 arg3 harg3 arg4 harg4 arg5 harg5 arg6 harg6 arg7 harg7 arg8 harg8 arg9 harg9 arg10 harg10 arg11 harg11 arg12 harg12 arg13 harg13 v1 v3 k0_hw1 k0_h3 v28 v87 v126 v128
    let ⟨v198, v201⟩ : Σ' (v198 : FVec F S96x512 .f32), FVec F S96x512 .f32 ← k0_part10 i arg2 harg2 arg3 harg3 arg4 harg4 arg5 harg5 arg6 harg6 arg7 harg7 arg8 harg8 arg9 harg9 arg10 harg10 arg11 harg11 arg12 harg12 arg13 harg13 v1 v3 k0_hw1 k0_h3 v28 v131
    let v204 : Vec F S96x512 .f32 ← Prog.lift (.load arg9 (Rect.unit (s := S512x8192) (k0_off9 v3) S96x512.size (k0_off9_inb v1 v3 k0_hw1 k0_h3)).toLoadRect (View.loadsAt_vmem h_S96x512))
    Prog.lift (.store arg9 (Rect.unit (s := S512x8192) (k0_off9 v3) S96x512.size (k0_off9_inb v1 v3 k0_hw1 k0_h3)) (k0_pay3 v198 v201) Finset.univ (View.stores_vmem_bits_univ h_S96x512 rfl) (.inl rfl))
    k ⟨⟩
  else do
    k ⟨⟩

set_option cleanup.letToHave false in set_option maxHeartbeats 40000000 in
/-- Of the body: a pair below the diagonal. -/
def fullRun (v1 v3 : BitVec 32) (k0_hw1 : k0_chk1 v1 v3) (k : PUnit → Prog (TpuEff nD τ sig (Elt F) Λ₀ .tc) PUnit) :
    Prog (TpuEff nD τ sig (Elt F) Λ₀ .tc) PUnit :=
  if k0_h4 : k0_cond4 v1 v3 = 1#1 then do
    let ⟨v28, v43, v47, v53, v58⟩ : Σ' (v28 : BitVec 32) (v43 : FVec F S512x1024 .f32) (v47 : FVec F S512x1024 .bf16) (v53 : FVec F S96x512 .f32), FVec F S64x512 .f32 ← k0_part11 i arg2 harg2 arg3 harg3 arg4 harg4 arg5 harg5 arg6 harg6 arg7 harg7 arg8 harg8 arg9 harg9 arg10 harg10 arg11 harg11 arg12 harg12 arg13 harg13 v3
    let ⟨v82, v86, v89, v91⟩ : Σ' (v82 : FVec F S512x1024 .f32) (v86 : FVec F S512x1024 .bf16) (v89 : FVec F S64x512 .f32), FVec F S96x1024 .bf16 ← k0_part12 i arg2 harg2 arg3 harg3 arg4 harg4 arg5 harg5 arg6 harg6 arg7 harg7 arg8 harg8 arg9 harg9 arg10 harg10 arg11 harg11 arg12 harg12 arg13 harg13 v1 v3 k0_hw1 k0_h4 v28 v43 v47 v53 v58
    let ⟨v121, v123, v124⟩ : Σ' (v121 : FVec F S512x1024 .f32) (v123 : FVec F S512x1024 .bf16), FVec F S512x1024 .f32 ← k0_part13 i arg2 harg2 arg3 harg3 arg4 harg4 arg5 harg5 arg6 harg6 arg7 harg7 arg8 harg8 arg9 harg9 arg10 harg10 arg11 harg11 arg12 harg12 arg13 harg13 v1 v3 k0_hw1 k0_h4 v28 v82 v86 v89 v91
    let ⟨v155, v156, v157⟩ : Σ' (v155 : FVec F S512x1024 .f32) (v156 : FVec F S512x1024 .f32), FVec F S512x1024 .bf16 ← k0_part14 i arg2 harg2 arg3 harg3 arg4 harg4 arg5 harg5 arg6 harg6 arg7 harg7 arg8 harg8 arg9 harg9 arg10 harg10 arg11 harg11 arg12 harg12 arg13 harg13 v1 v3 k0_hw1 k0_h4 v28 v121 v123 v124
    let v160 : Vec F S64x1024 .bf16 ← Prog.lift (.load arg5 (Rect.unit (s := S512x1024) ![384, 0] S64x1024.size inb_S512x1024_S64x1024_384_0).toLoadRect (View.loadsAt_vmem h_S64x1024))
    let v163 : Vec F S96x1024 .bf16 ← Prog.lift (.load arg4 (Rect.unit (s := S512x1024) ![384, 0] S96x1024.size inb_S512x1024_S96x1024_384_0).toLoadRect (View.loadsAt_vmem h_S96x1024))
    let v166 : Vec F S64x512 .f32 ← Prog.lift (.load arg13 (Rect.unit (s := S512x512) ![384, 0] S64x512.size inb_S512x512_S64x512_384_0).toLoadRect (View.loadsAt_vmem h_S64x512))
    let v168 : Vec F S64x512 .f32 ← Prog.lift (.load arg13 (Rect.unit (s := S512x512) ![384, 0] S64x512.size inb_S512x512_S64x512_384_0).toLoadRect (View.loadsAt_vmem h_S64x512))
    Prog.lift (.store arg13 (Rect.unit (s := S512x512) ![384, 0] S64x512.size inb_S512x512_S64x512_384_0) (k0_pay5 v157 v160 v166) Finset.univ (View.stores_vmem_bits_univ h_S64x512 rfl) (.inl rfl))
    let v171 : Vec F S96x512 .f32 ← Prog.lift (.load arg12 (Rect.unit (s := S512x512) ![384, 0] S96x512.size inb_S512x512_S96x512_384_0).toLoadRect (View.loadsAt_vmem h_S96x512))
    let v173 : Vec F S96x512 .f32 ← Prog.lift (.load arg12 (Rect.unit (s := S512x512) ![384, 0] S96x512.size inb_S512x512_S96x512_384_0).toLoadRect (View.loadsAt_vmem h_S96x512))
    Prog.lift (.store arg12 (Rect.unit (s := S512x512) ![384, 0] S96x512.size inb_S512x512_S96x512_384_0) (k0_pay6 v155 v156 v163 v171) Finset.univ (View.stores_vmem_bits_univ h_S96x512 rfl) (.inl rfl))
    let v177 : Vec F S96x1024 .f32 ← Prog.lift (.load arg9 (Rect.unit (s := S512x8192) (k0_off13 v3) S96x1024.size (k0_off13_inb v1 v3 k0_hw1 k0_h4)).toLoadRect (View.loadsAt_vmem h_S96x1024))
    let v179 : Vec F S96x512 .bf16 ← Prog.lift (.load arg7 (Rect.unit (s := S512x512) ![384, 0] S96x512.size inb_S512x512_S96x512_384_0).toLoadRect (View.loadsAt_vmem h_S96x512))
    let v184 : Vec F S96x1024 .f32 ← Prog.lift (.load arg9 (Rect.unit (s := S512x8192) (k0_off13 v3) S96x1024.size (k0_off13_inb v1 v3 k0_hw1 k0_h4)).toLoadRect (View.loadsAt_vmem h_S96x1024))
    Prog.lift (.store arg9 (Rect.unit (s := S512x8192) (k0_off13 v3) S96x1024.size (k0_off13_inb v1 v3 k0_hw1 k0_h4)) (k0_pay7 v155 v156 v177 v179) Finset.univ (View.stores_vmem_bits_univ h_S96x1024 rfl) (.inl rfl))
    k ⟨⟩
  else do
    k ⟨⟩

set_option cleanup.letToHave false in set_option maxHeartbeats 40000000 in
/-- Of the body: the key tile's last pair, writing its two gradients. -/
def closeRun (v3 : BitVec 32) (k : PUnit → Prog (TpuEff nD τ sig (Elt F) Λ₀ .tc) PUnit) :
    Prog (TpuEff nD τ sig (Elt F) Λ₀ .tc) PUnit :=
  if k0_h5 : k0_cond5 v3 = 1#1 then do
    let v26 : Vec F S512x512 .f32 ← Prog.lift (.load arg12 (Rect.unit (s := S512x512) ![0, 0] S512x512.size inb_S512x512_S512x512_0_0).toLoadRect (View.loadsAt_vmem h_S512x512))
    let v30 : Vec F S512x512 .bf16 ← Prog.lift (.load arg10 (Rect.unit (s := S512x512) ![0, 0] S512x512.size inb_S512x512_S512x512_0_0).toLoadRect (View.loadsAt_vmem h_S512x512))
    Prog.lift (.store arg10 (Rect.unit (s := S512x512) ![0, 0] S512x512.size inb_S512x512_S512x512_0_0) (k0_pay8 v26) Finset.univ (View.stores_vmem h_S512x512 (harg10.storeExact_slice rfl _ packedbf16_S512x512_S512x512_0_0) (fun _ => rfl)) (.inl rfl))
    let v31 : Vec F S512x512 .f32 ← Prog.lift (.load arg13 (Rect.unit (s := S512x512) ![0, 0] S512x512.size inb_S512x512_S512x512_0_0).toLoadRect (View.loadsAt_vmem h_S512x512))
    let v33 : Vec F S512x512 .bf16 ← Prog.lift (.load arg11 (Rect.unit (s := S512x512) ![0, 0] S512x512.size inb_S512x512_S512x512_0_0).toLoadRect (View.loadsAt_vmem h_S512x512))
    Prog.lift (.store arg11 (Rect.unit (s := S512x512) ![0, 0] S512x512.size inb_S512x512_S512x512_0_0) (k0_pay9 v31) Finset.univ (View.stores_vmem h_S512x512 (harg11.storeExact_slice rfl _ packedbf16_S512x512_S512x512_0_0) (fun _ => rfl)) (.inl rfl))
    k ⟨⟩
  else do
    k ⟨⟩

/-- The five programs in turn, after the two words of the tables. -/
theorem body_eq : cc0_mla_bwd (F := F) i arg2 harg2 arg3 harg3 arg4 harg4 arg5 harg5 arg6 harg6 arg7 harg7 arg8 harg8 arg9 harg9 arg10 harg10 arg11 harg11 arg12 harg12 arg13 harg13 = (do
  let v1 : Elt F .i32 ← smemLoad arg2 (Rect.unit (s := S72) (k0_off1 i) S1.size (k0_off1_inb i)) numel1_S1 rfl
  let v3 : Elt F .i32 ← smemLoad arg3 (Rect.unit (s := S72) (k0_off1 i) S1.size (k0_off1_inb i)) numel1_S1 rfl
  have k0_hw1 : k0_chk1 v1 v3 := (← Prog.lift (TpuEff.assume (k0_chk1 v1 v3) (k0_chk1.dec v1 v3))).down
  zeroRun i arg9 fun _ =>
  headRun i arg2 harg2 arg3 harg3 arg4 harg4 arg5 harg5 arg6 harg6 arg7 harg7 arg8 harg8 arg9 harg9 arg10 harg10 arg11 harg11 arg12 harg12 arg13 harg13 v1 v3 k0_hw1 fun _ =>
  tailRun i arg2 harg2 arg3 harg3 arg4 harg4 arg5 harg5 arg6 harg6 arg7 harg7 arg8 harg8 arg9 harg9 arg10 harg10 arg11 harg11 arg12 harg12 arg13 harg13 v1 v3 k0_hw1 fun _ =>
  fullRun i arg2 harg2 arg3 harg3 arg4 harg4 arg5 harg5 arg6 harg6 arg7 harg7 arg8 harg8 arg9 harg9 arg10 harg10 arg11 harg11 arg12 harg12 arg13 harg13 v1 v3 k0_hw1 fun _ =>
  closeRun arg10 harg10 arg11 harg11 arg12 arg13 v3 fun _ =>
  pure ⟨⟩) :=
  rfl

end Cert.MlaK
-- ==== Proof.Mla.Step.lean ====
module

public import proofs.«01_k».proof.Proof.Gen.MlaIdeal.Skeleton
public import Idealize.ShloMosaic.Lib.VecWindow

/-! What one pair of the walk makes of the five buffers the body writes, as functions of the blocks it reads. -/

@[expose] public section

set_option maxRecDepth 16384

noncomputable section

namespace Cert.MlaK

open Idealize.ShloMosaic Idealize.ShloMosaic.VecWindow Cert.MlaIdeal Cert.MlaIdeal.Gen

variable {F : FTy → Type} [FloatOps F] [Named F]

variable (F) in
/-- The five blocks the body reads. -/
structure Ins where
  /-- queries, transposed -/
  qt : Vec F S512x1024 .bf16
  /-- cotangents, transposed -/
  dt : Vec F S512x1024 .bf16
  /-- keys -/
  kb : Vec F S512x512 .bf16
  /-- keys, transposed -/
  kt : Vec F S512x512 .bf16
  /-- values -/
  vb : Vec F S512x512 .bf16

variable (F) in
/-- The five buffers the body writes. -/
structure St where
  /-- the query gradient of all tokens -/
  dq : Vec F S512x8192 .f32
  /-- the key gradient being summed -/
  dk : Vec F S512x512 .f32
  /-- the value gradient being summed -/
  dv : Vec F S512x512 .f32
  /-- the key gradient given back -/
  ok : Vec F S512x512 .bf16
  /-- the value gradient given back -/
  ov : Vec F S512x512 .bf16

/-- The rows of head `h`, from column `a`. -/
abbrev at_ (h : Fin 4) (a : Nat) : Fin 2 → Nat := ![128 * h.val, a]
/-- The columns of head `h`. -/
abbrev col (h : Fin 4) : Fin 2 → Nat := ![0, 128 * h.val]

theorem in_qt (h : Fin 4) : ∀ a, at_ h 0 a + S128x1024.size a ≤ S512x1024.size a := by revert h; decide
theorem in_qt96 (h : Fin 4) : ∀ a, at_ h 0 a + S96x1024.size a ≤ S512x1024.size a := by revert h; decide
theorem in_qt64 (h : Fin 4) : ∀ a, at_ h 0 a + S64x1024.size a ≤ S512x1024.size a := by revert h; decide
theorem in_ql (h : Fin 4) : ∀ a, at_ h 512 a + S128x512.size a ≤ S512x1024.size a := by revert h; decide
theorem in_ql96 (h : Fin 4) : ∀ a, at_ h 512 a + S96x512.size a ≤ S512x1024.size a := by revert h; decide
theorem in_ql64 (h : Fin 4) : ∀ a, at_ h 512 a + S64x512.size a ≤ S512x1024.size a := by revert h; decide
theorem in_kb (h : Fin 4) : ∀ a, col h a + S512x128.size a ≤ S512x512.size a := by revert h; decide
theorem in_128 (h : Fin 4) : ∀ a, at_ h 0 a + S128x512.size a ≤ S512x512.size a := by revert h; decide
theorem in_96 (h : Fin 4) : ∀ a, at_ h 0 a + S96x512.size a ≤ S512x512.size a := by revert h; decide
theorem in_64 (h : Fin 4) : ∀ a, at_ h 0 a + S64x512.size a ≤ S512x512.size a := by revert h; decide

/-- Four windows put, one per head. -/
def put4 {s : Shape} {α : Type} (x : s.Idx → α) (size : Fin s.rank → Nat) (o : Fin 4 → Fin s.rank → Nat)
    (w : Fin 4 → ((a : Fin s.rank) → Fin (size a)) → α) : s.Idx → α :=
  put (put (put (put x (o 0) size (w 0)) (o 1) size (w 1)) (o 2) size (w 2)) (o 3) size (w 3)

variable (x : Ins F)

/-- Head `h` of the keys. -/
def kw (h : Fin 4) : Vec F S512x128 .bf16 := window x.kb (col h) S512x128.size (in_kb h)
/-- Head `h` of the values. -/
def vw (h : Fin 4) : Vec F S512x128 .bf16 := window x.vb (col h) S512x128.size (in_kb h)
/-- Head `h` of the keys, transposed. -/
def tw (h : Fin 4) : Vec F S96x512 .bf16 := window x.kt (at_ h 0) S96x512.size (in_96 h)
/-- Head `h` of the queries. -/
def qw (h : Fin 4) : Vec F S128x1024 .bf16 := window x.qt (at_ h 0) S128x1024.size (in_qt h)
/-- Head `h` of the queries, without the planted rows. -/
def qw96 (h : Fin 4) : Vec F S96x1024 .bf16 := window x.qt (at_ h 0) S96x1024.size (in_qt96 h)
/-- Head `h` of the cotangents. -/
def dw (h : Fin 4) : Vec F S128x1024 .bf16 := window x.dt (at_ h 0) S128x1024.size (in_qt h)
/-- Head `h` of the cotangents, without the planted rows. -/
def dw64 (h : Fin 4) : Vec F S64x1024 .bf16 := window x.dt (at_ h 0) S64x1024.size (in_qt64 h)
/-- The same of the second half of the query tile. -/
def ql (h : Fin 4) : Vec F S128x512 .bf16 := window x.qt (at_ h 512) S128x512.size (in_ql h)
/-- The same of the second half of the query tile. -/
def ql96 (h : Fin 4) : Vec F S96x512 .bf16 := window x.qt (at_ h 512) S96x512.size (in_ql96 h)
/-- The same of the second half of the query tile. -/
def dl (h : Fin 4) : Vec F S128x512 .bf16 := window x.dt (at_ h 512) S128x512.size (in_ql h)
/-- The same of the second half of the query tile. -/
def dl64 (h : Fin 4) : Vec F S64x512 .bf16 := window x.dt (at_ h 512) S64x512.size (in_ql64 h)

/-- What a pair adds to the query gradient of head `h`. -/
def headQ (h : Fin 4) (w : Vec F S96x1024 .f32) : Vec F S96x1024 .f32 := k0_pay17 (k0_pay12 (kw x h) (qw x h) (vw x h) (dw x h)) w (tw x h)

/-- What a pair adds to the query gradient of head `h`. -/
def tailQ (h : Fin 4) (w : Vec F S96x512 .f32) : Vec F S96x512 .f32 := k0_pay46 (k0_pay41 (kw x h) (ql x h) (vw x h) (dl x h)) w (tw x h)

/-- What a pair adds to the query gradient of head `h`. -/
def fullQ (h : Fin 4) (w : Vec F S96x1024 .f32) : Vec F S96x1024 .f32 := k0_pay74 (k0_pay70 (kw x h) (qw x h) (vw x h) (dw x h)) w (tw x h)

/-- What the first diagonal pair sums into the value gradient of head `h`. -/
def headV (h : Fin 4) : Vec F S128x512 .f32 := k0_pay15 (k0_pay14 (kw x h) (qw x h) (dw64 x h))
/-- What the first diagonal pair sums into the key gradient of head `h`. -/
def headK (h : Fin 4) : Vec F S128x512 .f32 := k0_pay16 (k0_pay13 (kw x h) (qw x h) (vw x h) (dw x h) (qw96 x h))
/-- What the second diagonal pair sums into the value gradient of head `h`. -/
def tailV (h : Fin 4) : Vec F S128x512 .f32 := k0_pay44 (k0_pay43 (kw x h) (ql x h) (dl64 x h))
/-- What the second diagonal pair sums into the key gradient of head `h`. -/
def tailK (h : Fin 4) : Vec F S128x512 .f32 := k0_pay45 (k0_pay42 (kw x h) (ql x h) (vw x h) (dl x h) (ql96 x h))
/-- What a pair below the diagonal makes of the value gradient of head `h`. -/
def fullV (h : Fin 4) (w : Vec F S64x512 .f32) : Vec F S64x512 .f32 := k0_pay72 (kw x h) (qw x h) (dw64 x h) w
/-- What a pair below the diagonal makes of the key gradient of head `h`. -/
def fullK (h : Fin 4) (w : Vec F S96x512 .f32) : Vec F S96x512 .f32 := k0_pay73 (k0_pay71 (kw x h) (qw x h) (vw x h) (dw x h) (qw96 x h)) w

/-- The query gradient set to zero. -/
def zeroStep (s : St F) : St F := { s with dq := k0_pay1 (F := F) }

theorem in_dq (q : Nat) (hq : q < 8) (h : Fin 4) : ∀ a, at_ h (1024 * q) a + S96x1024.size a ≤ S512x8192.size a := by
  intro a
  fin_cases a
  · exact (by decide : ∀ h : Fin 4, 128 * h.val + 96 ≤ 512) h
  · show 1024 * q + 1024 ≤ 8192; omega
theorem in_dl (q : Nat) (hq : q < 8) (h : Fin 4) : ∀ a, at_ h (1024 * q + 512) a + S96x512.size a ≤ S512x8192.size a := by
  intro a
  fin_cases a
  · exact (by decide : ∀ h : Fin 4, 128 * h.val + 96 ≤ 512) h
  · show 1024 * q + 512 + 512 ≤ 8192; omega

/-- The pair on the diagonal, the key tile in the first half of query tile `q`. -/
def headStep (q : Nat) (hq : q < 8) (s : St F) : St F where
  dv := put4 s.dv S128x512.size (at_ · 0) (headV x)
  dk := put4 s.dk S128x512.size (at_ · 0) (headK x)
  dq := put4 s.dq S96x1024.size (at_ · (1024 * q)) fun h =>
    headQ x h (window s.dq (at_ h (1024 * q)) S96x1024.size (in_dq q hq h))
  ok := s.ok
  ov := s.ov

/-- The pair on the diagonal, the key tile in the second half of query tile `q`. -/
def tailStep (q : Nat) (hq : q < 8) (s : St F) : St F where
  dv := put4 s.dv S128x512.size (at_ · 0) (tailV x)
  dk := put4 s.dk S128x512.size (at_ · 0) (tailK x)
  dq := put4 s.dq S96x512.size (at_ · (1024 * q + 512)) fun h =>
    tailQ x h (window s.dq (at_ h (1024 * q + 512)) S96x512.size (in_dl q hq h))
  ok := s.ok
  ov := s.ov

/-- A pair below the diagonal. -/
def fullStep (q : Nat) (hq : q < 8) (s : St F) : St F where
  dv := put4 s.dv S64x512.size (at_ · 0) fun h => fullV x h (window s.dv (at_ h 0) S64x512.size (in_64 h))
  dk := put4 s.dk S96x512.size (at_ · 0) fun h => fullK x h (window s.dk (at_ h 0) S96x512.size (in_96 h))
  dq := put4 s.dq S96x1024.size (at_ · (1024 * q)) fun h =>
    fullQ x h (window s.dq (at_ h (1024 * q)) S96x1024.size (in_dq q hq h))
  ok := s.ok
  ov := s.ov

/-- The key tile's two gradients given back. -/
def closeStep (s : St F) : St F := { s with ok := k0_pay8 s.dk, ov := k0_pay9 s.dv }

end Cert.MlaK
-- ==== Proof.Mla.Puts.lean ====
module

public import proofs.«01_k».proof.Proof.Mla.Step

/-! Four stores to one buffer, one per head, as four windows put. -/

@[expose] public section

set_option maxRecDepth 16384

noncomputable section

namespace Cert.MlaK

open Idealize.ShloMosaic Idealize.ShloMosaic.VecWindow Cert.MlaIdeal

variable {κ : Kind} {sp : Space} {s : Shape} {e : EltTy} {Val : EltTy → Type}

/-- Four stores of given payloads. -/
theorem read_put4 (v : View sig κ sp s e) (f : v.ty.Contents Val) {x : s.Idx → Val e} (hx : v.read Val f = x) {size : Fin s.rank → Nat}
    {o0 o1 o2 o3 : Fin s.rank → Nat} {b0 : ∀ a, o0 a + size a ≤ s.size a} {b1 : ∀ a, o1 a + size a ≤ s.size a}
    {b2 : ∀ a, o2 a + size a ≤ s.size a} {b3 : ∀ a, o3 a + size a ≤ s.size a}
    {w0 w1 w2 w3 : ((a : Fin s.rank) → Fin (size a)) → Val e}
    (o : Fin 4 → Fin s.rank → Nat) (w : Fin 4 → ((a : Fin s.rank) → Fin (size a)) → Val e)
    (e0 : o0 = o 0) (e1 : o1 = o 1) (e2 : o2 = o 2) (e3 : o3 = o 3)
    (h0 : w0 = w 0) (h1 : w1 = w 1) (h2 : w2 = w 2) (h3 : w3 = w 3) :
    v.read Val (v.writes Val f [⟨Rect.unit o3 size b3, w3⟩, ⟨Rect.unit o2 size b2, w2⟩, ⟨Rect.unit o1 size b1, w1⟩, ⟨Rect.unit o0 size b0, w0⟩])
      = put4 x size o w := by
  subst e0; subst e1; subst e2; subst e3; subst h0; subst h1; subst h2; subst h3
  rw [View.read_writes_cons_put v f b3 _ _ rfl, View.read_writes_cons_put v f b2 _ _ rfl, View.read_writes_cons_put v f b1 _ _ rfl,
    View.read_writes_cons_put v f b0 _ _ rfl, View.writes_nil, hx]
  rfl

/-- Four stores, each of what a function makes of the window it overwrites; the windows lie apart. -/
theorem read_add4 (v : View sig κ sp s e) (f : v.ty.Contents Val) {x : s.Idx → Val e} (hx : v.read Val f = x) {size : Fin s.rank → Nat}
    {o0 o1 o2 o3 : Fin s.rank → Nat} {b0 : ∀ a, o0 a + size a ≤ s.size a} {b1 : ∀ a, o1 a + size a ≤ s.size a}
    {b2 : ∀ a, o2 a + size a ≤ s.size a} {b3 : ∀ a, o3 a + size a ≤ s.size a}
    (g : Fin 4 → (((a : Fin s.rank) → Fin (size a)) → Val e) → ((a : Fin s.rank) → Fin (size a)) → Val e)
    (o : Fin 4 → Fin s.rank → Nat) (b : ∀ h a, o h a + size a ≤ s.size a)
    (e0 : o0 = o 0) (e1 : o1 = o 1) (e2 : o2 = o 2) (e3 : o3 = o 3)
    (ax : Fin s.rank) (apart : ∀ h h' : Fin 4, h < h' → o h ax + size ax ≤ o h' ax)
    {w0 w1 w2 w3 : ((a : Fin s.rank) → Fin (size a)) → Val e} {L0 L1 L2 : List (View.Piece Val s e)}
    (l2 : L2 = ⟨Rect.unit o2 size b2, w2⟩ :: L1) (l1 : L1 = ⟨Rect.unit o1 size b1, w1⟩ :: L0) (l0 : L0 = [⟨Rect.unit o0 size b0, w0⟩])
    (h0 : w0 = g 0 (v.readAt Val (Rect.unit o0 size b0).toLoadRect f))
    (h1 : w1 = g 1 (v.readAt Val (Rect.unit o1 size b1).toLoadRect (v.writes Val f L0)))
    (h2 : w2 = g 2 (v.readAt Val (Rect.unit o2 size b2).toLoadRect (v.writes Val f L1)))
    (h3 : w3 = g 3 (v.readAt Val (Rect.unit o3 size b3).toLoadRect (v.writes Val f L2))) :
    v.read Val (v.writes Val f (⟨Rect.unit o3 size b3, w3⟩ :: L2))
      = put4 x size o fun h => g h (window x (o h) size (b h)) := by
  subst h3; subst h2; subst h1; subst h0; subst l2; subst l1; subst l0; subst e0; subst e1; subst e2; subst e3
  have r (h : Fin 4) (f' : v.ty.Contents Val) (bb : ∀ a, o h a + size a ≤ s.size a) :
      v.readAt Val (Rect.unit (o h) size bb).toLoadRect f' = window (v.read Val f') (o h) size (b h) := rfl
  have k (h h' : Fin 4) (hh : h < h') (y : s.Idx → Val e) (w : ((a : Fin s.rank) → Fin (size a)) → Val e) :
      window (put y (o h) size w) (o h') size (b h') = window y (o h') size (b h') :=
    window_put_of_disjoint _ _ _ _ _ _ _ ax (.inr (apart h h' hh))
  rw [View.read_writes_cons_put v f b3 _ _ rfl, r 3, View.read_writes_cons_put v f b2 _ _ rfl, r 2,
    View.read_writes_cons_put v f b1 _ _ rfl, r 1, View.read_writes_cons_put v f b0 _ _ rfl, r 0, View.writes_nil, hx,
    k 2 3 (by decide), k 1 3 (by decide), k 0 3 (by decide), k 1 2 (by decide), k 0 2 (by decide), k 0 1 (by decide)]
  rfl

end Cert.MlaK
-- ==== Proof.Mla.Held.lean ====
module

public import proofs.«01_k».proof.Proof.Mla.Prog
public import proofs.«01_k».proof.Proof.Mla.Puts
public import proofs.«01_k».proof.Proof.Gen.MlaIdeal.Launch
public import Idealize.ShloMosaic.Lib.Pipeline.TableIdle

/-! The ten buffers of the body, and the programs that set the query gradient to zero and give the gradients back. -/

@[expose] public section

set_option maxRecDepth 16384

noncomputable section

namespace Cert.MlaK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MlaIdeal Cert.MlaIdeal.Gen

variable {F : FTy → Type} [FloatOps F] [Named F]

local notation "𝕄" => MT nD τ sig Unit (Elt F) ℕ (UR sig nD τ) ℕ

variable (c : Dev nD)
  (arg4 : Memref sig .tc .vmem S512x1024 .bf16) (arg5 : Memref sig .tc .vmem S512x1024 .bf16)
  (arg6 : Memref sig .tc .vmem S512x512 .bf16) (arg7 : Memref sig .tc .vmem S512x512 .bf16)
  (arg8 : Memref sig .tc .vmem S512x512 .bf16) (arg9 : Memref sig .tc .vmem S512x8192 .f32)
  (arg10 : Memref sig .tc .vmem S512x512 .bf16) (arg11 : Memref sig .tc .vmem S512x512 .bf16)
  (arg12 : Memref sig .tc .vmem S512x512 .f32) (arg13 : Memref sig .tc .vmem S512x512 .f32)

/-- The ten buffers at their contents. -/
def held (x : Ins F) (s : St F) : sProp 𝕄 :=
  iprop(owns (c : Thread nD τ) arg4 fullShare x.qt ∗ owns (c : Thread nD τ) arg5 fullShare x.dt ∗ owns (c : Thread nD τ) arg6 fullShare x.kb ∗ owns (c : Thread nD τ) arg7 fullShare x.kt ∗ owns (c : Thread nD τ) arg8 fullShare x.vb ∗ owns (c : Thread nD τ) arg9 fullShare s.dq ∗ owns (c : Thread nD τ) arg10 fullShare s.ok ∗ owns (c : Thread nD τ) arg11 fullShare s.ov ∗ owns (c : Thread nD τ) arg12 fullShare s.dk ∗ owns (c : Thread nD τ) arg13 fullShare s.dv)

variable (i : grid0.Coords) (k : PUnit → Prog (TpuEff nD τ sig (Elt F) Λ₀ .tc) PUnit) (x : Ins F) (s : St F) (E : Set ℕ) (K : PUnit → sProp 𝕄)

/-- What a program followed by `k` is shown to do: from the ten buffers at `s` it runs to `k` with them at `s'`. -/
def Takes (x : Ins F) (s s' : St F) (k p : Prog (TpuEff nD τ sig (Elt F) Λ₀ .tc) PUnit) : Prop :=
  ∀ (E : Set ℕ) (K : PUnit → sProp 𝕄),
    iprop(held c arg4 arg5 arg6 arg7 arg8 arg9 arg10 arg11 arg12 arg13 x s
      ∗ (held c arg4 arg5 arg6 arg7 arg8 arg9 arg10 arg11 arg12 arg13 x s'
        -∗ wp frame (wpE (defs₀ (F := F)) Variants.none c none) E k K))
    ⊢ wp frame (wpE (defs₀ (F := F)) Variants.none c none) E p K

theorem takes_rfl (p : Prog (TpuEff nD τ sig (Elt F) Λ₀ .tc) PUnit) :
    Takes c arg4 arg5 arg6 arg7 arg8 arg9 arg10 arg11 arg12 arg13 x s s p p := by
  intro E K
  iintro ⟨H, Hk⟩
  iapply Hk
  iexact H

set_option maxHeartbeats 4000000 in
set_option backward.isDefEq.respectTransparency.types false in
theorem zero_run (harg9 : arg9.IsWhole) (h : k0_cond1 i = 1#1) :
    Takes c arg4 arg5 arg6 arg7 arg8 arg9 arg10 arg11 arg12 arg13 x s (zeroStep s) (k ⟨⟩) (zeroRun i arg9 k) := by
  intro E K
  unfold zeroRun held owns
  iintro ⟨⟨H4, H5, H6, H7, H8, ⟨%f9, %hf9, H9⟩, H10, H11, H12, H13⟩, Hk⟩
  obtain rfl := harg9.eq_unread hf9
  sl_exec (disch := first | sl_exact h)
  iapply Hk
  isplitl [H4]; · iexact H4
  isplitl [H5]; · iexact H5
  isplitl [H6]; · iexact H6
  isplitl [H7]; · iexact H7
  isplitl [H8]; · iexact H8
  isplitl [H9]
  · iexists _; isplitr; swap; · iexact H9
    ipureintro
    exact View.read_writes_full _ _ _ _ _
  isplitl [H10]; · iexact H10
  isplitl [H11]; · iexact H11
  isplitl [H12]; · iexact H12
  iexact H13

set_option maxHeartbeats 4000000 in
set_option backward.isDefEq.respectTransparency.types false in
theorem close_run (harg10 : arg10.IsWhole) (harg11 : arg11.IsWhole) (harg12 : arg12.IsWhole) (harg13 : arg13.IsWhole)
    (v3 : BitVec 32) (h : k0_cond5 v3 = 1#1) :
    Takes c arg4 arg5 arg6 arg7 arg8 arg9 arg10 arg11 arg12 arg13 x s (closeStep s) (k ⟨⟩)
      (closeRun arg10 harg10 arg11 harg11 arg12 arg13 v3 k) := by
  intro E K
  unfold closeRun held owns
  iintro ⟨⟨H4, H5, H6, H7, H8, H9, ⟨%f10, %hf10, H10⟩, ⟨%f11, %hf11, H11⟩, ⟨%f12, %hf12, H12⟩, ⟨%f13, %hf13, H13⟩⟩, Hk⟩
  obtain rfl := harg10.eq_unread hf10
  obtain rfl := harg11.eq_unread hf11
  obtain rfl := harg12.eq_unread hf12
  obtain rfl := harg13.eq_unread hf13
  sl_exec (disch := first | sl_exact h)
  iapply Hk
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; · iexact H10
    ipureintro
    exact (View.read_writes_full _ _ _ _ _).trans (congrArg k0_pay8 ((View.readAt_full _ _ _).trans hf12))
  isplitl [H11]
  · iexists _; isplitr; swap; · iexact H11
    ipureintro
    exact (View.read_writes_full _ _ _ _ _).trans (congrArg k0_pay9 ((View.readAt_full _ _ _).trans hf13))
  isplitl [H12]
  · iexists _; isplitr; swap; · iexact H12
    ipureintro
    exact hf12
  iexists _; isplitr; swap; · iexact H13
  ipureintro
  exact hf13

end Cert.MlaK
-- ==== Proof.Mla.Runs.lean ====
module

public import proofs.«01_k».proof.Proof.Mla.Held

/-! What the body's three main programs leave in the buffers: each is one of the steps. -/

@[expose] public section

set_option maxRecDepth 16384

noncomputable section

namespace Cert.MlaK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Cert.MlaIdeal Cert.MlaIdeal.Gen

variable {F : FTy → Type} [FloatOps F] [Named F]

variable (c : Dev nD)
  (arg2 : Memref sig .tc .smem S72 .i32) (harg2 : arg2.IsWhole) (arg3 : Memref sig .tc .smem S72 .i32) (harg3 : arg3.IsWhole)
  (arg4 : Memref sig .tc .vmem S512x1024 .bf16) (harg4 : arg4.IsWhole) (arg5 : Memref sig .tc .vmem S512x1024 .bf16) (harg5 : arg5.IsWhole)
  (arg6 : Memref sig .tc .vmem S512x512 .bf16) (harg6 : arg6.IsWhole) (arg7 : Memref sig .tc .vmem S512x512 .bf16) (harg7 : arg7.IsWhole)
  (arg8 : Memref sig .tc .vmem S512x512 .bf16) (harg8 : arg8.IsWhole) (arg9 : Memref sig .tc .vmem S512x8192 .f32) (harg9 : arg9.IsWhole)
  (arg10 : Memref sig .tc .vmem S512x512 .bf16) (harg10 : arg10.IsWhole) (arg11 : Memref sig .tc .vmem S512x512 .bf16) (harg11 : arg11.IsWhole)
  (arg12 : Memref sig .tc .vmem S512x512 .f32) (harg12 : arg12.IsWhole) (arg13 : Memref sig .tc .vmem S512x512 .f32) (harg13 : arg13.IsWhole)
  (i : grid0.Coords) (k : PUnit → Prog (TpuEff nD τ sig (Elt F) Λ₀ .tc) PUnit) (x : Ins F) (s : St F)
  (v1 v3 : BitVec 32) (hw : k0_chk1 v1 v3) (q : Nat) (hq : q < 8)

theorem apart96 : ∀ h h' : Fin 4, h < h' → ∀ a, at_ h a 0 + 96 ≤ at_ h' a 0 := by
  intro h h' hh a
  exact (by decide : ∀ h h' : Fin 4, h < h' → 128 * h.val + 96 ≤ 128 * h'.val) h h' hh

set_option maxHeartbeats 4000000 in
set_option backward.isDefEq.respectTransparency.types false in
theorem full_run (h : k0_cond4 v1 v3 = 1#1) (e0 : k0_off10 v3 = at_ 0 (1024 * q)) (e1 : k0_off11 v3 = at_ 1 (1024 * q))
    (e2 : k0_off12 v3 = at_ 2 (1024 * q)) (e3 : k0_off13 v3 = at_ 3 (1024 * q)) :
    Takes c arg4 arg5 arg6 arg7 arg8 arg9 arg10 arg11 arg12 arg13 x s (fullStep x q hq s) (k ⟨⟩)
      (fullRun i arg2 harg2 arg3 harg3 arg4 harg4 arg5 harg5 arg6 harg6 arg7 harg7 arg8 harg8 arg9 harg9 arg10 harg10 arg11 harg11 arg12 harg12 arg13 harg13 v1 v3 hw k) := by
  obtain ⟨qt, dt, kb, kt, vb⟩ := x
  obtain ⟨dq, dk, dv, ok, ov⟩ := s
  intro E K
  unfold fullRun held owns
  simp only [k0_part11_eq_skeleton, k0_part12_eq_skeleton, k0_part13_eq_skeleton, k0_part14_eq_skeleton]
  iintro ⟨⟨⟨%f4, %hf4, H4⟩, ⟨%f5, %hf5, H5⟩, ⟨%f6, %hf6, H6⟩, ⟨%f7, %hf7, H7⟩, ⟨%f8, %hf8, H8⟩, ⟨%f9, %hf9, H9⟩, H10, H11, ⟨%f12, %hf12, H12⟩, ⟨%f13, %hf13, H13⟩⟩, Hk⟩
  subst hf4 hf5 hf6 hf7 hf8 hf9 hf12 hf13
  sl_exec (disch := first | sl_exact h)
  iapply Hk
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]; · iexists _; isplitr; swap; · iexact H7
                  ipureintro; rfl
  isplitl [H8]; · iexists _; isplitr; swap; · iexact H8
                  ipureintro; rfl
  isplitl [H9]
  · iexists _; isplitr; swap; · iexact H9
    ipureintro
    refine read_add4 (b0 := k0_off10_inb v1 v3 hw h) (b1 := k0_off11_inb v1 v3 hw h) (b2 := k0_off12_inb v1 v3 hw h)
      (w0 := ?w0) (w1 := ?w1) (w2 := ?w2) (L0 := ?L0) (L1 := ?L1) arg9.view f9 rfl (fullQ (Ins.mk (View.read (Elt F) arg4.view f4) (View.read (Elt F) arg5.view f5) (View.read (Elt F) arg6.view f6) (View.read (Elt F) arg7.view f7) (View.read (Elt F) arg8.view f8)))
      (at_ · (1024 * q)) (in_dq q hq) e0 e1 e2 e3 0 (fun h h' hh => apart96 h h' hh _) ?l2 ?l1 ?l0 ?h0 ?h1 ?h2 ?h3
    case l2 => rfl
    case l1 => rfl
    case l0 => rfl
    case h0 => rfl
    case h1 => rfl
    case h2 => rfl
    case h3 => rfl
  isplitl [H10]; · iexact H10
  isplitl [H11]; · iexact H11
  isplitl [H12]
  · iexists _; isplitr; swap; · iexact H12
    ipureintro
    refine read_put4 arg12.view f12 rfl (at_ · 0)
      (fun h => fullK (Ins.mk (View.read (Elt F) arg4.view f4) (View.read (Elt F) arg5.view f5) (View.read (Elt F) arg6.view f6) (View.read (Elt F) arg7.view f7) (View.read (Elt F) arg8.view f8)) h (window (View.read (Elt F) arg12.view f12) (at_ h 0) S96x512.size (in_96 h)))
      rfl rfl rfl rfl ?h0 ?h1 ?h2 ?h3
    case h0 => rfl
    case h1 => rfl
    case h2 => rfl
    case h3 => rfl
  · iexists _; isplitr; swap; · iexact H13
    ipureintro
    refine read_put4 arg13.view f13 rfl (at_ · 0)
      (fun h => fullV (Ins.mk (View.read (Elt F) arg4.view f4) (View.read (Elt F) arg5.view f5) (View.read (Elt F) arg6.view f6) (View.read (Elt F) arg7.view f7) (View.read (Elt F) arg8.view f8)) h (window (View.read (Elt F) arg13.view f13) (at_ h 0) S64x512.size (in_64 h)))
      rfl rfl rfl rfl ?h0 ?h1 ?h2 ?h3
    case h0 => rfl
    case h1 => rfl
    case h2 => rfl
    case h3 => rfl

set_option maxHeartbeats 4000000 in
set_option backward.isDefEq.respectTransparency.types false in
theorem head_run (h : k0_cond2 v1 v3 = 1#1) (e0 : k0_off2 v3 = at_ 0 (1024 * q)) (e1 : k0_off3 v3 = at_ 1 (1024 * q))
    (e2 : k0_off4 v3 = at_ 2 (1024 * q)) (e3 : k0_off5 v3 = at_ 3 (1024 * q)) :
    Takes c arg4 arg5 arg6 arg7 arg8 arg9 arg10 arg11 arg12 arg13 x s (headStep x q hq s) (k ⟨⟩)
      (headRun i arg2 harg2 arg3 harg3 arg4 harg4 arg5 harg5 arg6 harg6 arg7 harg7 arg8 harg8 arg9 harg9 arg10 harg10 arg11 harg11 arg12 harg12 arg13 harg13 v1 v3 hw k) := by
  obtain ⟨qt, dt, kb, kt, vb⟩ := x
  obtain ⟨dq, dk, dv, ok, ov⟩ := s
  intro E K
  unfold headRun held owns
  simp only [k0_part1_eq_skeleton, k0_part2_eq_skeleton, k0_part3_eq_skeleton, k0_part4_eq_skeleton, k0_part5_eq_skeleton]
  iintro ⟨⟨⟨%f4, %hf4, H4⟩, ⟨%f5, %hf5, H5⟩, ⟨%f6, %hf6, H6⟩, ⟨%f7, %hf7, H7⟩, ⟨%f8, %hf8, H8⟩, ⟨%f9, %hf9, H9⟩, H10, H11, ⟨%f12, %hf12, H12⟩, ⟨%f13, %hf13, H13⟩⟩, Hk⟩
  subst hf4 hf5 hf6 hf7 hf8 hf9 hf12 hf13
  sl_exec (disch := first | sl_exact h)
  iapply Hk
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]; · iexists _; isplitr; swap; · iexact H7
                  ipureintro; rfl
  isplitl [H8]; · iexists _; isplitr; swap; · iexact H8
                  ipureintro; rfl
  isplitl [H9]
  · iexists _; isplitr; swap; · iexact H9
    ipureintro
    refine read_add4 (b0 := k0_off2_inb v1 v3 hw h) (b1 := k0_off3_inb v1 v3 hw h) (b2 := k0_off4_inb v1 v3 hw h)
      (w0 := ?w0) (w1 := ?w1) (w2 := ?w2) (L0 := ?L0) (L1 := ?L1) arg9.view f9 rfl (headQ (Ins.mk (View.read (Elt F) arg4.view f4) (View.read (Elt F) arg5.view f5) (View.read (Elt F) arg6.view f6) (View.read (Elt F) arg7.view f7) (View.read (Elt F) arg8.view f8)))
      (at_ · (1024 * q)) (in_dq q hq) e0 e1 e2 e3 0 (fun h h' hh => apart96 h h' hh _) ?l2 ?l1 ?l0 ?h0 ?h1 ?h2 ?h3
    case l2 => rfl
    case l1 => rfl
    case l0 => rfl
    case h0 => rfl
    case h1 => rfl
    case h2 => rfl
    case h3 => rfl
  isplitl [H10]; · iexact H10
  isplitl [H11]; · iexact H11
  isplitl [H12]
  · iexists _; isplitr; swap; · iexact H12
    ipureintro
    refine read_put4 arg12.view f12 rfl (at_ · 0)
      (headK (Ins.mk (View.read (Elt F) arg4.view f4) (View.read (Elt F) arg5.view f5) (View.read (Elt F) arg6.view f6) (View.read (Elt F) arg7.view f7) (View.read (Elt F) arg8.view f8)))
      rfl rfl rfl rfl ?h0 ?h1 ?h2 ?h3
    case h0 => rfl
    case h1 => rfl
    case h2 => rfl
    case h3 => rfl
  · iexists _; isplitr; swap; · iexact H13
    ipureintro
    refine read_put4 arg13.view f13 rfl (at_ · 0)
      (headV (Ins.mk (View.read (Elt F) arg4.view f4) (View.read (Elt F) arg5.view f5) (View.read (Elt F) arg6.view f6) (View.read (Elt F) arg7.view f7) (View.read (Elt F) arg8.view f8)))
      rfl rfl rfl rfl ?h0 ?h1 ?h2 ?h3
    case h0 => rfl
    case h1 => rfl
    case h2 => rfl
    case h3 => rfl

set_option maxHeartbeats 4000000 in
set_option backward.isDefEq.respectTransparency.types false in
theorem tail_run (h : k0_cond3 v1 v3 = 1#1) (e0 : k0_off6 v3 = at_ 0 (1024 * q + 512)) (e1 : k0_off7 v3 = at_ 1 (1024 * q + 512))
    (e2 : k0_off8 v3 = at_ 2 (1024 * q + 512)) (e3 : k0_off9 v3 = at_ 3 (1024 * q + 512)) :
    Takes c arg4 arg5 arg6 arg7 arg8 arg9 arg10 arg11 arg12 arg13 x s (tailStep x q hq s) (k ⟨⟩)
      (tailRun i arg2 harg2 arg3 harg3 arg4 harg4 arg5 harg5 arg6 harg6 arg7 harg7 arg8 harg8 arg9 harg9 arg10 harg10 arg11 harg11 arg12 harg12 arg13 harg13 v1 v3 hw k) := by
  obtain ⟨qt, dt, kb, kt, vb⟩ := x
  obtain ⟨dq, dk, dv, ok, ov⟩ := s
  intro E K
  unfold tailRun held owns
  simp only [k0_part6_eq_skeleton, k0_part7_eq_skeleton, k0_part8_eq_skeleton, k0_part9_eq_skeleton, k0_part10_eq_skeleton]
  iintro ⟨⟨⟨%f4, %hf4, H4⟩, ⟨%f5, %hf5, H5⟩, ⟨%f6, %hf6, H6⟩, ⟨%f7, %hf7, H7⟩, ⟨%f8, %hf8, H8⟩, ⟨%f9, %hf9, H9⟩, H10, H11, ⟨%f12, %hf12, H12⟩, ⟨%f13, %hf13, H13⟩⟩, Hk⟩
  subst hf4 hf5 hf6 hf7 hf8 hf9 hf12 hf13
  sl_exec (disch := first | sl_exact h)
  iapply Hk
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]; · iexists _; isplitr; swap; · iexact H7
                  ipureintro; rfl
  isplitl [H8]; · iexists _; isplitr; swap; · iexact H8
                  ipureintro; rfl
  isplitl [H9]
  · iexists _; isplitr; swap; · iexact H9
    ipureintro
    refine read_add4 (b0 := k0_off6_inb v1 v3 hw h) (b1 := k0_off7_inb v1 v3 hw h) (b2 := k0_off8_inb v1 v3 hw h)
      (w0 := ?w0) (w1 := ?w1) (w2 := ?w2) (L0 := ?L0) (L1 := ?L1) arg9.view f9 rfl (tailQ (Ins.mk (View.read (Elt F) arg4.view f4) (View.read (Elt F) arg5.view f5) (View.read (Elt F) arg6.view f6) (View.read (Elt F) arg7.view f7) (View.read (Elt F) arg8.view f8)))
      (at_ · (1024 * q + 512)) (in_dl q hq) e0 e1 e2 e3 0 (fun h h' hh => apart96 h h' hh _) ?l2 ?l1 ?l0 ?h0 ?h1 ?h2 ?h3
    case l2 => rfl
    case l1 => rfl
    case l0 => rfl
    case h0 => rfl
    case h1 => rfl
    case h2 => rfl
    case h3 => rfl
  isplitl [H10]; · iexact H10
  isplitl [H11]; · iexact H11
  isplitl [H12]
  · iexists _; isplitr; swap; · iexact H12
    ipureintro
    refine read_put4 arg12.view f12 rfl (at_ · 0)
      (tailK (Ins.mk (View.read (Elt F) arg4.view f4) (View.read (Elt F) arg5.view f5) (View.read (Elt F) arg6.view f6) (View.read (Elt F) arg7.view f7) (View.read (Elt F) arg8.view f8)))
      rfl rfl rfl rfl ?h0 ?h1 ?h2 ?h3
    case h0 => rfl
    case h1 => rfl
    case h2 => rfl
    case h3 => rfl
  · iexists _; isplitr; swap; · iexact H13
    ipureintro
    refine read_put4 arg13.view f13 rfl (at_ · 0)
      (tailV (Ins.mk (View.read (Elt F) arg4.view f4) (View.read (Elt F) arg5.view f5) (View.read (Elt F) arg6.view f6) (View.read (Elt F) arg7.view f7) (View.read (Elt F) arg8.view f8)))
      rfl rfl rfl rfl ?h0 ?h1 ?h2 ?h3
    case h0 => rfl
    case h1 => rfl
    case h2 => rfl
    case h3 => rfl

end Cert.MlaK
-- ==== Proof.Mla.Tables.lean ====
module

public import proofs.«01_k».proof.Proof.Gen.MlaIdeal.Skeleton

/-! The two prefetched tables of the attention's backward call: at the pair `n` of the walk the first holds the key
tile, the second the query tile. -/

@[expose] public section

set_option maxRecDepth 16384

noncomputable section

namespace Cert.MlaK

open Idealize.ShloMosaic Idealize.SL.Sem Cert.MlaIdeal Cert.MlaIdeal.Gen

variable {F : FTy → Type} [FloatOps F] [Named F]

/-- What the two tables hold. -/
def tab : pre0.Contents (Elt F)
  | 0 => fun i => lit0 (S72.rowMajor i)
  | 1 => fun i => lit1 (S72.rowMajor i)
  | ⟨_ + 2, h⟩ => absurd h (Nat.not_lt.2 (Nat.le_add_left _ _))

/-- The key tile of pair `n`. -/
def jt (n : Fin 72) : Nat := (lit0 n).toNat
/-- The query tile of pair `n`. -/
def it (n : Fin 72) : Nat := (lit1 n).toNat

/-- The element a load at the walk's pair names. -/
theorem place (i : grid0.Coords) : S72.rowMajor ((Rect.unit (s := S72) (k0_off1 i) S1.size (k0_off1_inb i)).emb
    (Shape.Idx.first (numel1_S1.symm ▸ Nat.one_pos))) = i 1 :=
  Fin.ext ((by decide +kernel : ∀ i : grid0.Coords, (S72.rowMajor ((Rect.unit (s := S72) (k0_off1 i) S1.size (k0_off1_inb i)).emb
    (Shape.Idx.first (numel1_S1.symm ▸ Nat.one_pos)))).val = (i 1).val) i)

theorem placeD (i : grid0.Coords) (h : ∀ a, k0_off1 i a + 1 ≤ S72.size a) :
    S72.rowMajor (fun a => ⟨k0_off1 i a, h a⟩ : S72.Idx) = i 1 :=
  Fin.ext ((by decide +kernel : ∀ (i : grid0.Coords) (h : ∀ a, k0_off1 i a + 1 ≤ S72.size a),
    (S72.rowMajor (fun a => ⟨k0_off1 i a, h a⟩ : S72.Idx)).val = (i 1).val) i h)

theorem inbD (i : grid0.Coords) : ∀ a, k0_off1 i a + 1 ≤ S72.size a := by
  revert i; decide +kernel

theorem at0 (i : grid0.Coords) : (tab (F := F)).at 0 (Rect.unit (s := S72) (k0_off1 i) S1.size (k0_off1_inb i)) numel1_S1 = lit0 (i 1) :=
  congrArg lit0 (place i)
theorem at1 (i : grid0.Coords) : (tab (F := F)).at 1 (Rect.unit (s := S72) (k0_off1 i) S1.size (k0_off1_inb i)) numel1_S1 = lit1 (i 1) :=
  congrArg lit1 (place i)
theorem atD0 (i : grid0.Coords) : (tab (F := F)).atD 0 (k0_off1 i) = lit0 (i 1) :=
  (dif_pos (inbD i)).trans (congrArg lit0 (placeD i (inbD i)))
theorem atD1 (i : grid0.Coords) : (tab (F := F)).atD 1 (k0_off1 i) = lit1 (i 1) :=
  (dif_pos (inbD i)).trans (congrArg lit1 (placeD i (inbD i)))

theorem val0 (i : grid0.Coords) : (BitVec.ofNat 32 (i 0).val).toNat = (i 0).val := by revert i; decide +kernel

theorem t0 (i : grid0.Coords) : cc0_transform_0 k0_off1_inb numel1_S1 (tab (F := F)) i = ![(i 0).val, it (i 1)] :=
  congr (congrArg (fun a b => ![a, b]) (val0 i)) (congrArg BitVec.toNat (at1 i))
theorem t1 (i : grid0.Coords) : cc0_transform_1 k0_off1_inb numel1_S1 (tab (F := F)) i = ![(i 0).val, it (i 1)] :=
  congr (congrArg (fun a b => ![a, b]) (val0 i)) (congrArg BitVec.toNat (at1 i))
theorem t2 (i : grid0.Coords) : cc0_transform_2 k0_off1_inb numel1_S1 (tab (F := F)) i = ![jt (i 1), (i 0).val] :=
  congr (congrArg (fun a b => ![a, b]) (congrArg BitVec.toNat (at0 i))) (val0 i)
theorem t3 (i : grid0.Coords) : cc0_transform_3 k0_off1_inb numel1_S1 (tab (F := F)) i = ![(i 0).val, jt (i 1)] :=
  congr (congrArg (fun a b => ![a, b]) (val0 i)) (congrArg BitVec.toNat (at0 i))
theorem t4 (i : grid0.Coords) : cc0_transform_4 k0_off1_inb numel1_S1 (tab (F := F)) i = ![jt (i 1), (i 0).val] :=
  congr (congrArg (fun a b => ![a, b]) (congrArg BitVec.toNat (at0 i))) (val0 i)
theorem t6 (i : grid0.Coords) : cc0_transform_6 k0_off1_inb numel1_S1 (tab (F := F)) i = ![(i 0).val, jt (i 1)] :=
  congr (congrArg (fun a b => ![a, b]) (val0 i)) (congrArg BitVec.toNat (at0 i))
theorem t7 (i : grid0.Coords) : cc0_transform_7 k0_off1_inb numel1_S1 (tab (F := F)) i = ![(i 0).val, jt (i 1)] :=
  congr (congrArg (fun a b => ![a, b]) (val0 i)) (congrArg BitVec.toNat (at0 i))

theorem in_q : ∀ (i : grid0.Coords) a, ((![(i 0).val, it (i 1)] : Fin 2 → Nat) a + 1) * S512x1024.size a ≤ S1024x8192.size a := by
  decide +kernel
theorem in_k : ∀ (i : grid0.Coords) a, ((![jt (i 1), (i 0).val] : Fin 2 → Nat) a + 1) * S512x512.size a ≤ S8192x1024.size a := by
  decide +kernel
theorem in_kt : ∀ (i : grid0.Coords) a, ((![(i 0).val, jt (i 1)] : Fin 2 → Nat) a + 1) * S512x512.size a ≤ S1024x8192.size a := by
  decide +kernel

/-- The blocks the tables name are inside their arrays. -/
theorem ok : ok0 (tab (F := F)) := by
  refine ⟨fun i => ⟨?_, ?_⟩, fun i => ⟨?_, ?_⟩, fun i => ⟨?_, ?_⟩, fun i => ⟨?_, ?_⟩, fun i => ⟨?_, ?_⟩, fun i => ⟨?_, ?_⟩, fun i => ⟨?_, ?_⟩⟩
  · rw [t0]; exact in_q i
  · exact .inr (Affine.block_words_dvd (of_decide_eq_true rfl) (by decide))
  · rw [t1]; exact in_q i
  · exact .inr (Affine.block_words_dvd (of_decide_eq_true rfl) (by decide))
  · rw [t2]; exact in_k i
  · exact .inr (Affine.block_words_dvd (of_decide_eq_true rfl) (by decide))
  · rw [t3]; exact in_kt i
  · exact .inr (Affine.block_words_dvd (of_decide_eq_true rfl) (by decide))
  · rw [t4]; exact in_k i
  · exact .inr (Affine.block_words_dvd (of_decide_eq_true rfl) (by decide))
  · rw [t6]; exact in_kt i
  · exact .inr (Affine.block_words_dvd (of_decide_eq_true rfl) (by decide))
  · rw [t7]; exact in_kt i
  · exact .inr (Affine.block_words_dvd (of_decide_eq_true rfl) (by decide))

/-- The tables, as contents the call admits. -/
def adm (p : Fin 1) : (pcfgs (F := F) p).Adm := ⟨tab, ok⟩

end Cert.MlaK
-- ==== Proof.Mla.Body.lean ====
module

public import proofs.«01_k».proof.Proof.Mla.Runs
public import proofs.«01_k».proof.Proof.Mla.Tables

/-! One pair of the walk: which of the five programs run, and what the body makes of its ten buffers. -/

@[expose] public section

set_option maxRecDepth 16384

noncomputable section

namespace Cert.MlaK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MlaIdeal Cert.MlaIdeal.Gen

variable {F : FTy → Type} [FloatOps F] [Named F]

local notation "𝕄" => MT nD τ sig Unit (Elt F) ℕ (UR sig nD τ) ℕ

/-- The pair is the first half of the diagonal's query tile. -/
def isHead (n : Fin 72) : Prop := it n * 2 = jt n
/-- The pair is the second half of the diagonal's query tile. -/
def isTail (n : Fin 72) : Prop := it n * 2 + 1 = jt n
/-- The pair is below the diagonal. -/
def isFull (n : Fin 72) : Prop := jt n < it n * 2
instance (n : Fin 72) : Decidable (isHead n) := inferInstanceAs (Decidable (_ = _))
instance (n : Fin 72) : Decidable (isTail n) := inferInstanceAs (Decidable (_ = _))
instance (n : Fin 72) : Decidable (isFull n) := inferInstanceAs (Decidable (_ < _))

theorem it_lt : ∀ n : Fin 72, it n < 8 := by decide +kernel
theorem jt_lt : ∀ n : Fin 72, jt n < 16 := by decide +kernel
theorem chk : ∀ n : Fin 72, k0_chk1 (lit0 n) (lit1 n) := by decide +kernel
theorem first_iff : ∀ i : grid0.Coords, k0_cond1 i = 1#1 ↔ (i 1).val = 0 := by decide +kernel
theorem head_iff : ∀ n : Fin 72, k0_cond2 (lit0 n) (lit1 n) = 1#1 ↔ isHead n := by decide +kernel
theorem tail_iff : ∀ n : Fin 72, k0_cond3 (lit0 n) (lit1 n) = 1#1 ↔ isTail n := by decide +kernel
theorem full_iff : ∀ n : Fin 72, k0_cond4 (lit0 n) (lit1 n) = 1#1 ↔ isFull n := by decide +kernel
theorem last_iff : ∀ n : Fin 72, k0_cond5 (lit1 n) = 1#1 ↔ it n = 7 := by decide +kernel
theorem off2 : ∀ n : Fin 72, k0_off2 (lit1 n) = at_ 0 (1024 * it n) := by decide +kernel
theorem off3 : ∀ n : Fin 72, k0_off3 (lit1 n) = at_ 1 (1024 * it n) := by decide +kernel
theorem off4 : ∀ n : Fin 72, k0_off4 (lit1 n) = at_ 2 (1024 * it n) := by decide +kernel
theorem off5 : ∀ n : Fin 72, k0_off5 (lit1 n) = at_ 3 (1024 * it n) := by decide +kernel
theorem off6 : ∀ n : Fin 72, k0_off6 (lit1 n) = at_ 0 (1024 * it n + 512) := by decide +kernel
theorem off7 : ∀ n : Fin 72, k0_off7 (lit1 n) = at_ 1 (1024 * it n + 512) := by decide +kernel
theorem off8 : ∀ n : Fin 72, k0_off8 (lit1 n) = at_ 2 (1024 * it n + 512) := by decide +kernel
theorem off9 : ∀ n : Fin 72, k0_off9 (lit1 n) = at_ 3 (1024 * it n + 512) := by decide +kernel
theorem off10 : ∀ n : Fin 72, k0_off10 (lit1 n) = at_ 0 (1024 * it n) := by decide +kernel
theorem off11 : ∀ n : Fin 72, k0_off11 (lit1 n) = at_ 1 (1024 * it n) := by decide +kernel
theorem off12 : ∀ n : Fin 72, k0_off12 (lit1 n) = at_ 2 (1024 * it n) := by decide +kernel
theorem off13 : ∀ n : Fin 72, k0_off13 (lit1 n) = at_ 3 (1024 * it n) := by decide +kernel

/-- The query gradient set to zero before a group's first pair. -/
def stZero (n : Fin 72) (s : St F) : St F := if n.val = 0 then zeroStep s else s
/-- What a pair of the first kind makes of the buffers. -/
def stHead (n : Fin 72) (x : Ins F) (s : St F) : St F := if isHead n then headStep x (it n) (it_lt n) s else s
/-- What a pair of the second kind makes of the buffers. -/
def stTail (n : Fin 72) (x : Ins F) (s : St F) : St F := if isTail n then tailStep x (it n) (it_lt n) s else s
/-- What a pair of the third kind makes of the buffers. -/
def stFull (n : Fin 72) (x : Ins F) (s : St F) : St F := if isFull n then fullStep x (it n) (it_lt n) s else s
/-- The key tile's gradients given back after its last pair. -/
def stClose (n : Fin 72) (s : St F) : St F := if it n = 7 then closeStep s else s
/-- What the body at pair `n` makes of the buffers. -/
def stStep (n : Fin 72) (x : Ins F) (s : St F) : St F := stClose n (stFull n x (stTail n x (stHead n x (stZero n s))))

theorem kinds : ∀ n : Fin 72, (isHead n ∧ ¬ isTail n ∧ ¬ isFull n) ∨ (¬ isHead n ∧ isTail n ∧ ¬ isFull n)
    ∨ (¬ isHead n ∧ ¬ isTail n ∧ isFull n) := by decide +kernel

variable (c : Dev nD) (i : grid0.Coords)
  (arg4 : Memref sig .tc .vmem S512x1024 .bf16) (harg4 : arg4.IsWhole) (arg5 : Memref sig .tc .vmem S512x1024 .bf16) (harg5 : arg5.IsWhole)
  (arg6 : Memref sig .tc .vmem S512x512 .bf16) (harg6 : arg6.IsWhole) (arg7 : Memref sig .tc .vmem S512x512 .bf16) (harg7 : arg7.IsWhole)
  (arg8 : Memref sig .tc .vmem S512x512 .bf16) (harg8 : arg8.IsWhole) (arg9 : Memref sig .tc .vmem S512x8192 .f32) (harg9 : arg9.IsWhole)
  (arg10 : Memref sig .tc .vmem S512x512 .bf16) (harg10 : arg10.IsWhole) (arg11 : Memref sig .tc .vmem S512x512 .bf16) (harg11 : arg11.IsWhole)
  (arg12 : Memref sig .tc .vmem S512x512 .f32) (harg12 : arg12.IsWhole) (arg13 : Memref sig .tc .vmem S512x512 .f32) (harg13 : arg13.IsWhole)
  (arg2 : Memref sig .tc .smem S72 .i32) (harg2 : arg2.IsWhole) (arg3 : Memref sig .tc .smem S72 .i32) (harg3 : arg3.IsWhole)
  (x : Ins F) (s : St F)

variable (F) in
/-- The five programs in turn. -/
def restRun (v1 v3 : BitVec 32) (hw : k0_chk1 v1 v3) : Prog (TpuEff nD τ sig (Elt F) Λ₀ .tc) PUnit :=
  zeroRun i arg9 fun (_ : PUnit.{1}) =>
  headRun i arg2 harg2 arg3 harg3 arg4 harg4 arg5 harg5 arg6 harg6 arg7 harg7 arg8 harg8 arg9 harg9 arg10 harg10 arg11 harg11 arg12 harg12 arg13 harg13 v1 v3 hw fun (_ : PUnit.{1}) =>
  tailRun i arg2 harg2 arg3 harg3 arg4 harg4 arg5 harg5 arg6 harg6 arg7 harg7 arg8 harg8 arg9 harg9 arg10 harg10 arg11 harg11 arg12 harg12 arg13 harg13 v1 v3 hw fun (_ : PUnit.{1}) =>
  fullRun i arg2 harg2 arg3 harg3 arg4 harg4 arg5 harg5 arg6 harg6 arg7 harg7 arg8 harg8 arg9 harg9 arg10 harg10 arg11 harg11 arg12 harg12 arg13 harg13 v1 v3 hw fun (_ : PUnit.{1}) =>
  closeRun arg10 harg10 arg11 harg11 arg12 arg13 v3 fun (_ : PUnit.{1}) =>
  pure ⟨⟩

theorem body_rest : cc0_mla_bwd (F := F) i arg2 harg2 arg3 harg3 arg4 harg4 arg5 harg5 arg6 harg6 arg7 harg7 arg8 harg8 arg9 harg9 arg10 harg10 arg11 harg11 arg12 harg12 arg13 harg13 = (do
    let v1 : Elt F .i32 ← smemLoad arg2 (Rect.unit (s := S72) (k0_off1 i) S1.size (k0_off1_inb i)) numel1_S1 rfl
    let v3 : Elt F .i32 ← smemLoad arg3 (Rect.unit (s := S72) (k0_off1 i) S1.size (k0_off1_inb i)) numel1_S1 rfl
    have k0_hw1 : k0_chk1 v1 v3 := (← Prog.lift (TpuEff.assume (k0_chk1 v1 v3) (k0_chk1.dec v1 v3))).down
    restRun F i arg4 harg4 arg5 harg5 arg6 harg6 arg7 harg7 arg8 harg8 arg9 harg9 arg10 harg10 arg11 harg11 arg12 harg12 arg13 harg13 arg2 harg2 arg3 harg3 v1 v3 k0_hw1) :=
  body_eq _ _ _ _ _ _ _ _ _ _ _ _ _ _ _ _ _ _ _ _ _ _ _ _ _

/-- A word of scalar memory loaded at the head of a program. -/
theorem wp_word {s : Shape} {e : EltTy} {m : Memref sig .tc .smem s e} {r : Rect s} {h1 : r.shape.numel = 1} {hp : e.packing = 1}
    {k : Elt F e → Prog (TpuEff nD τ sig (Elt F) Λ₀ .tc) PUnit} {q : PosShare TreeShare} {f : Buf (Elt F) ((m.access r).loc (c.tc : Thread nD τ))}
    {E : Set ℕ} {K : PUnit → sProp 𝕄} :
    ((m.access r).loc (c.tc : Thread nD τ) ↦{q} f)
      ⊢ iprop((((m.access r).loc (c.tc : Thread nD τ) ↦{q} f) -∗ wp frame (wpE (defs₀ (F := F)) Variants.none c none) E (k ((m.access r).read (Elt F) f (Shape.Idx.first (h1.symm ▸ Nat.one_pos)))) K)
        -∗ wp frame (wpE (defs₀ (F := F)) Variants.none c none) E (smemLoad m r h1 hp >>= k) K) :=
  wp_smemLoadElt Variants.none (c.tc : Thread nD τ) none E (hw := View.loads_smem_one hp h1) (S := Finset.univ) (Finset.subset_univ _)

/-- The load of table 0's word. -/
theorem word0 {k : Elt F .i32 → Prog (TpuEff nD τ sig (Elt F) Λ₀ .tc) PUnit} {E : Set ℕ} {K : PUnit → sProp 𝕄} :
    ((c.tc : Thread nD τ).loc (pre0.ref 0) ↦{fullShare.right} (tab (F := F) 0))
      ⊢ iprop((((c.tc : Thread nD τ).loc (pre0.ref 0) ↦{fullShare.right} (tab (F := F) 0)) -∗ wp frame (wpE (defs₀ (F := F)) Variants.none c none) E (k (lit0 (i 1))) K)
        -∗ wp frame (wpE (defs₀ (F := F)) Variants.none c none) E (smemLoad (Memref.whole main_c) (Rect.unit (s := S72) (k0_off1 i) S1.size (k0_off1_inb i)) numel1_S1 rfl >>= k) K) := by
  have h := wp_word c (m := Memref.whole main_c) (r := Rect.unit (s := S72) (k0_off1 i) S1.size (k0_off1_inb i)) (h1 := numel1_S1) (hp := rfl) (q := fullShare.right) (f := tab (F := F) 0) (k := k) (E := E) (K := K)
  have e : ((Memref.whole main_c).access (Rect.unit (s := S72) (k0_off1 i) S1.size (k0_off1_inb i))).read (Elt F) (tab (F := F) 0) (Shape.Idx.first (numel1_S1.symm ▸ Nat.one_pos)) = lit0 (i 1) := at0 i
  rw [e] at h
  exact h

/-- The load of table 1's word. -/
theorem word1 {k : Elt F .i32 → Prog (TpuEff nD τ sig (Elt F) Λ₀ .tc) PUnit} {E : Set ℕ} {K : PUnit → sProp 𝕄} :
    ((c.tc : Thread nD τ).loc (pre0.ref 1) ↦{fullShare.right} (tab (F := F) 1))
      ⊢ iprop((((c.tc : Thread nD τ).loc (pre0.ref 1) ↦{fullShare.right} (tab (F := F) 1)) -∗ wp frame (wpE (defs₀ (F := F)) Variants.none c none) E (k (lit1 (i 1))) K)
        -∗ wp frame (wpE (defs₀ (F := F)) Variants.none c none) E (smemLoad (Memref.whole main_c_0) (Rect.unit (s := S72) (k0_off1 i) S1.size (k0_off1_inb i)) numel1_S1 rfl >>= k) K) := by
  have h := wp_word c (m := Memref.whole main_c_0) (r := Rect.unit (s := S72) (k0_off1 i) S1.size (k0_off1_inb i)) (h1 := numel1_S1) (hp := rfl) (q := fullShare.right) (f := tab (F := F) 1) (k := k) (E := E) (K := K)
  have e : ((Memref.whole main_c_0).access (Rect.unit (s := S72) (k0_off1 i) S1.size (k0_off1_inb i))).read (Elt F) (tab (F := F) 1) (Shape.Idx.first (numel1_S1.symm ▸ Nat.one_pos)) = lit1 (i 1) := at1 i
  rw [e] at h
  exact h

theorem takes_trans {k p r : Prog (TpuEff nD τ sig (Elt F) Λ₀ .tc) PUnit} {s s' s'' : St F}
    (h : Takes c arg4 arg5 arg6 arg7 arg8 arg9 arg10 arg11 arg12 arg13 x s s' p r)
    (h' : Takes c arg4 arg5 arg6 arg7 arg8 arg9 arg10 arg11 arg12 arg13 x s' s'' k p) :
    Takes c arg4 arg5 arg6 arg7 arg8 arg9 arg10 arg11 arg12 arg13 x s s'' k r := fun E K => by
  refine .trans ?_ (h E K)
  iintro ⟨H, Hk⟩
  isplitl [H]; · iexact H
  iintro H
  iapply (h' E K)
  isplitl [H]; · iexact H
  iexact Hk

theorem rest_takes (n : Fin 72) (hn : i 1 = n) (hw : k0_chk1 (lit0 n) (lit1 n)) :
    Takes c arg4 arg5 arg6 arg7 arg8 arg9 arg10 arg11 arg12 arg13 x s (stStep n x s) (pure ⟨⟩)
      (restRun F i arg4 harg4 arg5 harg5 arg6 harg6 arg7 harg7 arg8 harg8 arg9 harg9 arg10 harg10 arg11 harg11 arg12 harg12 arg13 harg13 arg2 harg2 arg3 harg3 (lit0 n) (lit1 n) hw) := by
  subst hn
  unfold restRun stStep
  have hz (k) : Takes c arg4 arg5 arg6 arg7 arg8 arg9 arg10 arg11 arg12 arg13 x s (stZero (i 1) s) (k ⟨⟩) (zeroRun (F := F) i arg9 k) := by
    unfold stZero
    by_cases h : (i 1).val = 0
    · rw [if_pos h]; exact zero_run _ _ _ _ _ _ _ _ _ _ _ _ _ _ _ harg9 ((first_iff i).2 h)
    · rw [if_neg h]; unfold zeroRun; rw [dif_neg (mt (first_iff i).1 h)]; exact takes_rfl _ _ _ _ _ _ _ _ _ _ _ _ _ _
  have hc (s : St F) (k) : Takes c arg4 arg5 arg6 arg7 arg8 arg9 arg10 arg11 arg12 arg13 x s (stClose (i 1) s) (k ⟨⟩)
      (closeRun (F := F) arg10 harg10 arg11 harg11 arg12 arg13 (lit1 (i 1)) k) := by
    unfold stClose
    by_cases h : it (i 1) = 7
    · rw [if_pos h]; exact close_run _ _ _ _ _ _ _ _ _ _ _ _ _ _ harg10 harg11 harg12 harg13 _ ((last_iff _).2 h)
    · rw [if_neg h]; unfold closeRun; rw [dif_neg (mt (last_iff _).1 h)]; exact takes_rfl _ _ _ _ _ _ _ _ _ _ _ _ _ _
  have hh (s : St F) (k) : Takes c arg4 arg5 arg6 arg7 arg8 arg9 arg10 arg11 arg12 arg13 x s (stHead (i 1) x s) (k ⟨⟩)
      (headRun (F := F) i arg2 harg2 arg3 harg3 arg4 harg4 arg5 harg5 arg6 harg6 arg7 harg7 arg8 harg8 arg9 harg9 arg10 harg10 arg11 harg11 arg12 harg12 arg13 harg13 (lit0 (i 1)) (lit1 (i 1)) hw k) := by
    unfold stHead
    by_cases h : isHead (i 1)
    · rw [if_pos h]; exact head_run _ _ _ _ _ _ _ _ _ _ _ _ _ _ _ _ _ _ _ _ _ _ _ _ _ _ _ _ _ _ _ hw _ (it_lt _) ((head_iff _).2 h) (off2 _) (off3 _) (off4 _) (off5 _)
    · rw [if_neg h]; unfold headRun; rw [dif_neg (mt (head_iff _).1 h)]; exact takes_rfl _ _ _ _ _ _ _ _ _ _ _ _ _ _
  have ht (s : St F) (k) : Takes c arg4 arg5 arg6 arg7 arg8 arg9 arg10 arg11 arg12 arg13 x s (stTail (i 1) x s) (k ⟨⟩)
      (tailRun (F := F) i arg2 harg2 arg3 harg3 arg4 harg4 arg5 harg5 arg6 harg6 arg7 harg7 arg8 harg8 arg9 harg9 arg10 harg10 arg11 harg11 arg12 harg12 arg13 harg13 (lit0 (i 1)) (lit1 (i 1)) hw k) := by
    unfold stTail
    by_cases h : isTail (i 1)
    · rw [if_pos h]; exact tail_run _ _ _ _ _ _ _ _ _ _ _ _ _ _ _ _ _ _ _ _ _ _ _ _ _ _ _ _ _ _ _ hw _ (it_lt _) ((tail_iff _).2 h) (off6 _) (off7 _) (off8 _) (off9 _)
    · rw [if_neg h]; unfold tailRun; rw [dif_neg (mt (tail_iff _).1 h)]; exact takes_rfl _ _ _ _ _ _ _ _ _ _ _ _ _ _
  have hf (s : St F) (k) : Takes c arg4 arg5 arg6 arg7 arg8 arg9 arg10 arg11 arg12 arg13 x s (stFull (i 1) x s) (k ⟨⟩)
      (fullRun (F := F) i arg2 harg2 arg3 harg3 arg4 harg4 arg5 harg5 arg6 harg6 arg7 harg7 arg8 harg8 arg9 harg9 arg10 harg10 arg11 harg11 arg12 harg12 arg13 harg13 (lit0 (i 1)) (lit1 (i 1)) hw k) := by
    unfold stFull
    by_cases h : isFull (i 1)
    · rw [if_pos h]; exact full_run _ _ _ _ _ _ _ _ _ _ _ _ _ _ _ _ _ _ _ _ _ _ _ _ _ _ _ _ _ _ _ hw _ (it_lt _) ((full_iff _).2 h) (off10 _) (off11 _) (off12 _) (off13 _)
    · rw [if_neg h]; unfold fullRun; rw [dif_neg (mt (full_iff _).1 h)]; exact takes_rfl _ _ _ _ _ _ _ _ _ _ _ _ _ _
  exact takes_trans _ _ _ _ _ _ _ _ _ _ _ _ (hz _) <| takes_trans _ _ _ _ _ _ _ _ _ _ _ _ (hh _ _) <| takes_trans _ _ _ _ _ _ _ _ _ _ _ _ (ht _ _) <| takes_trans _ _ _ _ _ _ _ _ _ _ _ _ (hf _ _) (hc _ _)

/-- The body, from the two tables and the ten buffers. -/
theorem body_runs (E : Set ℕ) (K : PUnit → sProp 𝕄) :
    iprop(((c.tc : Thread nD τ).loc (pre0.ref 0) ↦{fullShare.right} (tab (F := F) 0)) ∗ ((c.tc : Thread nD τ).loc (pre0.ref 1) ↦{fullShare.right} (tab (F := F) 1))
      ∗ held c arg4 arg5 arg6 arg7 arg8 arg9 arg10 arg11 arg12 arg13 x s
      ∗ (((c.tc : Thread nD τ).loc (pre0.ref 0) ↦{fullShare.right} (tab (F := F) 0)) ∗ ((c.tc : Thread nD τ).loc (pre0.ref 1) ↦{fullShare.right} (tab (F := F) 1))
        ∗ held c arg4 arg5 arg6 arg7 arg8 arg9 arg10 arg11 arg12 arg13 x (stStep (i 1) x s) -∗ K ⟨⟩))
    ⊢ wp frame (wpE (defs₀ (F := F)) Variants.none c none) E
        (cc0_mla_bwd (F := F) i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13) K := by
  rw [body_rest]
  iintro ⟨T0, T1, H, Hk⟩
  iapply (word0 c i) $$ T0
  iintro T0
  iapply (word1 c i) $$ T1
  iintro T1
  iapply (wp_assume Variants.none (c : Thread nD τ) none E (chk _))
  iapply (rest_takes _ _ _ _ _ _ _ _ _ _ _ _ _ _ _ _ _ _ _ _ _ _ _ _ _ _ _ _ (i 1) rfl (chk _) E K)
  isplitl [H]; · iexact H
  iintro H
  simp only [wp_pure]
  iapply fupd_intro
  iapply Hk
  isplitl [T0]; · iexact T0
  isplitl [T1]; · iexact T1
  iexact H

end Cert.MlaK
-- ==== Proof.Mla.State.lean ====
module

public import proofs.«01_k».proof.Proof.Mla.Body

/-! The walk's buffers after each pair, as a recursion over the pairs, and the pipeline's proof data. -/

@[expose] public section

set_option maxRecDepth 16384

noncomputable section

namespace Cert.MlaK

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.MlaIdeal Cert.MlaIdeal.Gen

variable {F : FTy → Type} [FloatOps F] [Named F]

local notation "𝕄" => MT nD τ sig Unit (Elt F) ℕ (UR sig nD τ) ℕ

variable (m : (ℓ : Loc nD τ sig) → Buf (Elt F) ℓ)

variable (F) in
/-- The lines before the call. -/
abbrev before : List (List (HloOp τ sig (Elt F))) := [hostOps0, hostOps0_1, hostOps0_2]
variable (F) in
/-- The lines after it. -/
abbrev later : List (List (HloOp τ sig (Elt F))) := [hostOps1]

/-- What the call finds in a buffer. -/
def V (c : Dev nD) (b : Ref sig .tc) : Buf (Elt F) ((c : Thread nD τ).loc b) :=
  StableHlo.after (before F).flatten (fun b => m (c, b)) (Proc.devRef .tc b)

variable (F) in
/-- The pipeline at its tables. -/
abbrev cf : Pipeline.Cfg sig Λ₀ := pin (pcfgs (F := F)) adm 0

theorem N_cf : (cf F).N = 144 := N_0

/-- The block of array `w` staged at point `t`. -/
def iblk (c : Dev nD) (w : Fin (cf F).W) (t : Fin (cf F).N) : (((cf F).win w).xblock ((cf F).grid.coords t)).Idx → Elt F ((cf F).win w).elt :=
  (((cf F).win w).blk t).view.read (Elt F) (V m c (arrRef spec0 w))

/-- The five blocks read at point `t`. -/
def ins (c : Dev nD) (t : Fin (cf F).N) : Ins F where
  qt := iblk m c 0 t
  dt := iblk m c 1 t
  kb := iblk m c 2 t
  kt := iblk m c 3 t
  vb := iblk m c 4 t

/-- The pair at point `t`. -/
def pairOf (t : Fin (cf F).N) : Fin 72 := grid0.coords t 1

/-- Some contents to start from. -/
def start (x : Ins F) : St F where
  dq := k0_pay1 (F := F)
  dk := fun _ => k0_pay1 (F := F) (fun a => ⟨0, by fin_cases a <;> decide⟩)
  dv := fun _ => k0_pay1 (F := F) (fun a => ⟨0, by fin_cases a <;> decide⟩)
  ok := x.kt
  ov := x.kt

/-- The buffers after the body at point `n`. -/
def stAt (c : Dev nD) : (n : ℕ) → n < (cf F).N → St F
  | 0, h => stStep (pairOf ⟨0, h⟩) (ins m c ⟨0, h⟩) (start (ins m c ⟨0, h⟩))
  | n + 1, h => stStep (pairOf ⟨n + 1, h⟩) (ins m c ⟨n + 1, h⟩) (stAt c n (Nat.lt_of_succ_lt h))

/-- Two states with the same three sums. -/
def Same (s s' : St F) : Prop := s.dq = s'.dq ∧ s.dk = s'.dk ∧ s.dv = s'.dv

/-- A pair's sums are made from the three sums alone, and what its key tile's last pair gives back too. -/
theorem step_same (n : Fin 72) (x : Ins F) {s s' : St F} (h : Same s s') : Same (stStep n x s) (stStep n x s')
    ∧ (it n = 7 → (stStep n x s).ok = (stStep n x s').ok ∧ (stStep n x s).ov = (stStep n x s').ov) := by
  obtain ⟨dq, dk, dv, ok, ov⟩ := s
  obtain ⟨dq', dk', dv', ok', ov'⟩ := s'
  obtain ⟨e1, e2, e3⟩ := h
  dsimp only at e1 e2 e3
  subst e1 e2 e3
  unfold stStep stClose stFull stTail stHead stZero
  split_ifs <;> exact ⟨⟨rfl, rfl, rfl⟩, fun h => by first | exact ⟨rfl, rfl⟩ | contradiction⟩

/-- A pair that is not its key tile's last leaves the two gradients given back as they were. -/
theorem step_kept (n : Fin 72) (x : Ins F) (s : St F) (h : it n ≠ 7) : (stStep n x s).ok = s.ok ∧ (stStep n x s).ov = s.ov := by
  unfold stStep stClose stFull stTail stHead stZero
  split_ifs <;> first | exact ⟨rfl, rfl⟩ | contradiction

theorem put4_cover (x x' : Vec F S512x512 .f32) (w : Fin 4 → Vec F S128x512 .f32) :
    put4 x S128x512.size (at_ · 0) w = put4 x' S128x512.size (at_ · 0) w := by
  funext j
  have hj : (j 0).val < 512 := (j 0).isLt
  have hk : (j 1).val < 512 := (j 1).isLt
  have hin : (∀ a, at_ 3 0 a ≤ (j a).val ∧ (j a).val < at_ 3 0 a + S128x512.size a) ∨ (∀ a, at_ 2 0 a ≤ (j a).val ∧ (j a).val < at_ 2 0 a + S128x512.size a)
      ∨ (∀ a, at_ 1 0 a ≤ (j a).val ∧ (j a).val < at_ 1 0 a + S128x512.size a) ∨ (∀ a, at_ 0 0 a ≤ (j a).val ∧ (j a).val < at_ 0 0 a + S128x512.size a) := by
    have key (h : Fin 4) (h1 : 128 * h.val ≤ (j 0).val) (h2 : (j 0).val < 128 * h.val + 128) :
        ∀ a, at_ h 0 a ≤ (j a).val ∧ (j a).val < at_ h 0 a + S128x512.size a := by
      intro a
      fin_cases a
      · exact ⟨h1, h2⟩
      · exact ⟨Nat.zero_le _, by show (j 1).val < 0 + 512; omega⟩
    by_cases h3 : 384 ≤ (j 0).val
    · exact .inl (key 3 h3 (by show (j 0).val < 512; omega))
    by_cases h2 : 256 ≤ (j 0).val
    · exact .inr (.inl (key 2 h2 (by show (j 0).val < 384; omega)))
    by_cases h1 : 128 ≤ (j 0).val
    · exact .inr (.inr (.inl (key 1 h1 (by show (j 0).val < 256; omega))))
    · exact .inr (.inr (.inr (key 0 (Nat.zero_le _) (by show (j 0).val < 128; omega))))
  unfold put4 put
  rcases hin with h | h | h | h <;> split_ifs <;> first | rfl | contradiction

/-- A group's first pair makes its sums from nothing. -/
theorem step_first (n : Fin 72) (hn : n.val = 0) (x : Ins F) (s s' : St F) : Same (stStep n x s) (stStep n x s') := by
  obtain rfl : n = 0 := Fin.ext hn
  have h0 : isHead 0 := by decide +kernel
  have h1 : ¬ isTail 0 := by decide +kernel
  have h2 : ¬ isFull 0 := by decide +kernel
  have h3 : ¬ it 0 = 7 := by decide +kernel
  unfold stStep stClose stFull stTail stHead stZero
  rw [if_neg h3, if_neg h3, if_neg h2, if_neg h2, if_neg h1, if_neg h1, if_pos h0, if_pos h0, if_pos hn, if_pos hn]
  exact ⟨rfl, put4_cover _ _ _, put4_cover _ _ _⟩

variable (c : Dev nD)

/-- The body at point `t` from any state with the sums of the point before makes the sums of point `t`. -/
theorem step_at (t : Fin (cf F).N) (s : St F)
    (hs : (pairOf t).val ≠ 0 → ∃ (h : t.val - 1 < (cf F).N), Same s (stAt m c (t.val - 1) h)) :
    Same (stStep (pairOf t) (ins m c t) s) (stAt m c t.val t.isLt)
    ∧ (it (pairOf t) = 7 → (stStep (pairOf t) (ins m c t) s).ok = (stAt m c t.val t.isLt).ok
      ∧ (stStep (pairOf t) (ins m c t) s).ov = (stAt m c t.val t.isLt).ov) := by
  have h7 : (pairOf t).val = 0 → it (pairOf t) ≠ 7 := by
    intro h; rw [show pairOf t = 0 from Fin.ext h]; decide +kernel
  obtain ⟨n, hn⟩ := t
  by_cases h : (pairOf ⟨n, hn⟩).val = 0
  · refine ⟨?_, fun e => absurd e (h7 h)⟩
    cases n with
    | zero => exact step_first _ h _ _ _
    | succ n => exact step_first _ h _ _ _
  · cases n with
    | zero => exact absurd (show (pairOf (F := F) ⟨0, hn⟩).val = 0 from (by decide +kernel : (grid0.coords ⟨0, by decide⟩ 1).val = 0)) h
    | succ n =>
      obtain ⟨h', e⟩ := hs h
      exact step_same _ _ e

end Cert.MlaK
-- ==== Proof.Mla.Frame.lean ====
module

public import proofs.«01_k».proof.Proof.Mla.State

/-! The pipeline's proof data and the body's obligation at every point. -/

@[expose] public section

set_option maxRecDepth 16384

noncomputable section

namespace Cert.MlaK

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.MlaIdeal Cert.MlaIdeal.Gen

variable {F : FTy → Type} [FloatOps F] [Named F]

local notation "𝕄" => MT nD τ sig Unit (Elt F) ℕ (UR sig nD τ) ℕ

variable (m : (ℓ : Loc nD τ sig) → Buf (Elt F) ℓ)

/-- What is held between points: the two scratch buffers, at the sums of the point before where there is one, the two
tables and the generator's register. -/
def between (c : Dev nD) (n : ℕ) : sProp 𝕄 :=
  iprop(∃ (dk : Vec F S512x512 .f32) (dv : Vec F S512x512 .f32),
    ⌜∀ (k : ℕ) (h : k < (cf F).N), n = k + 1 → dk = (stAt m c k h).dk ∧ dv = (stAt m c k h).dv⌝
    ∗ owns (c : Thread nD τ) (Memref.whole cc0_scratch0) fullShare dk ∗ owns (c : Thread nD τ) (Memref.whole cc0_scratch1) fullShare dv
    ∗ (∃ r, prngReg c r)
    ∗ ((c.tc : Thread nD τ).loc (pre0.ref 0) ↦{fullShare.right} (tab (F := F) 0)) ∗ ((c.tc : Thread nD τ).loc (pre0.ref 1) ↦{fullShare.right} (tab (F := F) 1)))

/-- The pipeline's proof data. -/
def dats (p : Fin 1) (c : Dev nD) : Dat τ (Elt F) Unit ℕ (UR sig nD τ) ℕ (pin (pcfgs (F := F)) adm p) c where
  A w := V m c (arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stAt m c t.val t.isLt).dq
    | ⟨6, _⟩ => (stAt m c t.val t.isLt).ok
    | ⟨7, _⟩ => (stAt m c t.val t.isLt).ov
  Φ t := between m c t.val
  q _ := fullShare
  owed _ := 0

theorem A_eq (c : Dev nD) (w : Fin (cf F).W) : (dats m 0 c).A w = V m c (arrRef spec0 w) := rfl
theorem after_0 (c : Dev nD) (t : Fin (cf F).N) : (dats m 0 c).after 0 t = iblk m c 0 t := rfl
theorem after_1 (c : Dev nD) (t : Fin (cf F).N) : (dats m 0 c).after 1 t = iblk m c 1 t := rfl
theorem after_2 (c : Dev nD) (t : Fin (cf F).N) : (dats m 0 c).after 2 t = iblk m c 2 t := rfl
theorem after_3 (c : Dev nD) (t : Fin (cf F).N) : (dats m 0 c).after 3 t = iblk m c 3 t := rfl
theorem after_4 (c : Dev nD) (t : Fin (cf F).N) : (dats m 0 c).after 4 t = iblk m c 4 t := rfl
theorem after_5 (c : Dev nD) (t : Fin (cf F).N) : (dats m 0 c).after 5 t = (stAt m c t.val t.isLt).dq := rfl
theorem after_6 (c : Dev nD) (t : Fin (cf F).N) : (dats m 0 c).after 6 t = (stAt m c t.val t.isLt).ok := rfl
theorem after_7 (c : Dev nD) (t : Fin (cf F).N) : (dats m 0 c).after 7 t = (stAt m c t.val t.isLt).ov := rfl

theorem before_0 (c : Dev nD) (t : Fin (cf F).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cf F).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cf F).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cf F).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cf F).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem live_5 : ∀ i : grid0.Coords, (k0_cond2 (lit0 (i 1)) (lit1 (i 1)) == 1#1) = true ∨ (k0_cond3 (lit0 (i 1)) (lit1 (i 1)) == 1#1) = true
    ∨ (k0_cond4 (lit0 (i 1)) (lit1 (i 1)) == 1#1) = true := by decide +kernel

theorem idle_5 (i : (cf F).grid.Coords) : (cf F).idle 5 i = false := by
  show (!(k0_cond1 i == 1#1) && !(k0_cond2 ((tab (F := F)).atD 0 (k0_off1 i)) ((tab (F := F)).atD 1 (k0_off1 i)) == 1#1)
    && !(k0_cond3 ((tab (F := F)).atD 0 (k0_off1 i)) ((tab (F := F)).atD 1 (k0_off1 i)) == 1#1)
    && !(k0_cond4 ((tab (F := F)).atD 0 (k0_off1 i)) ((tab (F := F)).atD 1 (k0_off1 i)) == 1#1)) = false
  rw [atD0, atD1]
  rcases live_5 i with h | h | h <;> rw [h] <;> simp

theorem last_b : ∀ i : grid0.Coords, (k0_cond5 (lit1 (i 1)) == 1#1) = decide (it (i 1) = 7) := by decide +kernel

theorem idle_6 (i : (cf F).grid.Coords) : (cf F).idle 6 i = !decide (it (i 1) = 7) := by
  show (!(k0_cond5 ((tab (F := F)).atD 1 (k0_off1 i)) == 1#1)) = _
  rw [atD1, last_b]
theorem idle_7 (i : (cf F).grid.Coords) : (cf F).idle 7 i = !decide (it (i 1) = 7) := by
  show (!(k0_cond5 ((tab (F := F)).atD 1 (k0_off1 i)) == 1#1)) = _
  rw [atD1, last_b]

end Cert.MlaK
-- ==== Proof.Mla.Sound.lean ====
module

public import proofs.«01_k».proof.Proof.Mla.Frame

/-! The body's obligation at every point of the walk. -/

@[expose] public section

set_option maxRecDepth 16384

noncomputable section

namespace Cert.MlaK

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.MlaIdeal Cert.MlaIdeal.Gen

variable {F : FTy → Type} [FloatOps F] [Named F]

local notation "𝕄" => MT nD τ sig Unit (Elt F) ℕ (UR sig nD τ) ℕ

variable (m : (ℓ : Loc nD τ sig) → Buf (Elt F) ℓ)

/-- The key gradients' block moves after the point. -/
def moves (t : Fin grid0.N) : Bool :=
  (t.val + 1 = grid0.N || decide (∃ h : t.val + 1 < grid0.N, ∃ a : Fin 2,
    (![(grid0.coords ⟨t.val + 1, h⟩ 0).val, jt (grid0.coords ⟨t.val + 1, h⟩ 1)] : Fin 2 → ℕ) a ≠ (![(grid0.coords t 0).val, jt (grid0.coords t 1)] : Fin 2 → ℕ) a))
/-- The query gradient's block moves after the point. -/
def movesQ (t : Fin grid0.N) : Bool :=
  (t.val + 1 = grid0.N || decide (∃ h : t.val + 1 < grid0.N, ∃ a : Fin 2,
    (![(grid0.coords ⟨t.val + 1, h⟩ 0).val, 0] : Fin 2 → ℕ) a ≠ (![(grid0.coords t 0).val, 0] : Fin 2 → ℕ) a))

theorem moves_iff : ∀ t : Fin grid0.N, moves t = decide (it (grid0.coords t 1) = 7) := by decide +kernel
theorem movesQ_iff : ∀ t : Fin grid0.N, movesQ t = decide (t.val % 72 = 71) := by decide +kernel
theorem pair_val : ∀ t : Fin grid0.N, (grid0.coords t 1).val = t.val % 72 := by decide +kernel

theorem index_5 (t : Fin (cf F).N) : ((cf F).win 5).index t = ![(grid0.coords t 0).val, 0] :=
  congrArg (fun a => ![a, 0]) (val0 (grid0.coords t))
theorem index_6 (t : Fin (cf F).N) : ((cf F).win 6).index t = ![(grid0.coords t 0).val, jt (grid0.coords t 1)] := t6 (F := F) (grid0.coords t)
theorem index_7 (t : Fin (cf F).N) : ((cf F).win 7).index t = ![(grid0.coords t 0).val, jt (grid0.coords t 1)] := t7 (F := F) (grid0.coords t)

theorem flush_of (w : Window sig grid0) (ix : Fin grid0.N → Fin w.shape.rank → ℕ) (hi : ∀ t, w.index t = ix t) (ho : w.isOut = true) (t : Fin grid0.N) :
    w.flush t = (t.val + 1 = grid0.N || decide (∃ h : t.val + 1 < grid0.N, ∃ a, ix ⟨t.val + 1, h⟩ a ≠ ix t a)) := by
  rw [Window.flush_eq_flushF]; unfold Window.flushF; rw [ho, Bool.true_and]; simp only [hi]

theorem flush_5 (t : Fin (cf F).N) : ((cf F).win 5).flush t = movesQ t :=
  flush_of _ _ index_5 rfl t
theorem flush_6 (t : Fin (cf F).N) : ((cf F).win 6).flush t = moves t :=
  flush_of _ _ index_6 rfl t
theorem flush_7 (t : Fin (cf F).N) : ((cf F).win 7).flush t = moves t :=
  flush_of _ _ index_7 rfl t

theorem before_5 (c : Dev nD) (t : Fin (cf F).N) (h : (pairOf t).val ≠ 0) (d) :
    (dats m 0 c).before 5 t d = (stAt m c (t.val - 1) (Nat.lt_of_le_of_lt (Nat.sub_le _ _) t.isLt)).dq := by
  have hp := pair_val t
  have h' : t.val % 72 ≠ 0 := fun e => h (hp.trans e)
  rw [Dat.before_out_kept (dats m 0 c) 5 rfl t (fun e => h' (by rw [e]))
    ((flush_5 _).trans ((movesQ_iff _).trans (decide_eq_false (by show ¬ (t.val - 1) % 72 = 71; omega)))) idle_5 (fun _ _ => rfl)]
  rfl

/-- The current staging buffers at point `t`. -/
abbrev ms (t : Fin (cf F).N) (w : Fin (cf F).W) := ((cf F).win w).stage ((cf F).slots t w)

/-- What is left in window `w`'s buffer. -/
abbrev leftAt (c : Dev nD) (t : Fin (cf F).N) (w : Fin (cf F).W) : sProp 𝕄 :=
  match (cf F).idle w ((cf F).grid.coords t) with
  | true =>
    match ((cf F).win w).flush t with
    | false => iprop(∃ d, owns (c : Thread nD τ) (ms t w) fullShare ((dats m 0 c).before w t d))
    | true => owns (c : Thread nD τ) (ms t w) fullShare ((dats m 0 c).after w t)
  | false => owns (c : Thread nD τ) (ms t w) fullShare ((dats m 0 c).after w t)

theorem left_live (c : Dev nD) (t : Fin (cf F).N) (w : Fin (cf F).W) (h : (cf F).idle w ((cf F).grid.coords t) = false)
    (y : ((cf F).win w).block.Idx → Elt F ((cf F).win w).elt) (hy : y = (dats m 0 c).after w t) :
    owns (c : Thread nD τ) (ms t w) fullShare y ⊢ leftAt m c t w := by
  subst hy; unfold leftAt; rw [h]

theorem left_idle (c : Dev nD) (t : Fin (cf F).N) (w : Fin (cf F).W) (h : (cf F).idle w ((cf F).grid.coords t) = true)
    (hf : ((cf F).win w).flush t = false) (d) (y : ((cf F).win w).block.Idx → Elt F ((cf F).win w).elt) (hy : y = (dats m 0 c).before w t d) :
    owns (c : Thread nD τ) (ms t w) fullShare y ⊢ leftAt m c t w := by
  subst hy; unfold leftAt; rw [h, hf]
  iintro H
  iexists d
  iexact H

/-- What the body is called with, -/
def bodyPre (c : Dev nD) (t : Fin (cf F).N) : sProp 𝕄 :=
  iprop(between m c t.val ∗ (dats m 0 c).owesAt () t.castSucc
    ∗ (∃ d, owns (c : Thread nD τ) (ms t 0) fullShare ((dats m 0 c).before 0 t d))
    ∗ (∃ d, owns (c : Thread nD τ) (ms t 1) fullShare ((dats m 0 c).before 1 t d))
    ∗ (∃ d, owns (c : Thread nD τ) (ms t 2) fullShare ((dats m 0 c).before 2 t d))
    ∗ (∃ d, owns (c : Thread nD τ) (ms t 3) fullShare ((dats m 0 c).before 3 t d))
    ∗ (∃ d, owns (c : Thread nD τ) (ms t 4) fullShare ((dats m 0 c).before 4 t d))
    ∗ (∃ d, owns (c : Thread nD τ) (ms t 5) fullShare ((dats m 0 c).before 5 t d))
    ∗ (∃ d, owns (c : Thread nD τ) (ms t 6) fullShare ((dats m 0 c).before 6 t d))
    ∗ (∃ d, owns (c : Thread nD τ) (ms t 7) fullShare ((dats m 0 c).before 7 t d)))

/-- and what it leaves. -/
def bodyPost (c : Dev nD) (t : Fin (cf F).N) : sProp 𝕄 :=
  iprop(between m c (t.val + 1) ∗ (dats m 0 c).owesAt () t.castSucc
    ∗ owns (c : Thread nD τ) (ms t 0) fullShare (iblk m c 0 t)
    ∗ owns (c : Thread nD τ) (ms t 1) fullShare (iblk m c 1 t)
    ∗ owns (c : Thread nD τ) (ms t 2) fullShare (iblk m c 2 t)
    ∗ owns (c : Thread nD τ) (ms t 3) fullShare (iblk m c 3 t)
    ∗ owns (c : Thread nD τ) (ms t 4) fullShare (iblk m c 4 t)
    ∗ leftAt m c t 5 ∗ leftAt m c t 6 ∗ leftAt m c t 7)

/-- The body at point `t` as the pipeline calls it. -/
def bodyAt (t : Fin (cf F).N) : Prog (TpuEff nD τ sig (Elt F) Λ₀ .tc) PUnit :=
  cc0_mla_bwd (grid0.coords t) (Memref.whole main_c) (Memref.isWhole_whole _) (Memref.whole main_c_0) (Memref.isWhole_whole _) (ms t 0) (hstage0_0 (((cf F).slots t 0).cast nbuf0_0)) (ms t 1) (hstage0_1 (((cf F).slots t 1).cast nbuf0_1)) (ms t 2) (hstage0_2 (((cf F).slots t 2).cast nbuf0_2)) (ms t 3) (hstage0_3 (((cf F).slots t 3).cast nbuf0_3)) (ms t 4) (hstage0_4 (((cf F).slots t 4).cast nbuf0_4)) (ms t 5) (hstage0_5 (((cf F).slots t 5).cast nbuf0_5)) (ms t 6) (hstage0_6 (((cf F).slots t 6).cast nbuf0_6)) (ms t 7) (hstage0_7 (((cf F).slots t 7).cast nbuf0_7)) (Memref.whole cc0_scratch0) (Memref.isWhole_whole _) (Memref.whole cc0_scratch1) (Memref.isWhole_whole _)

theorem row (t : Fin (cf F).N) :
    defs₀ (F := F) .tc (cf F).body ((cf F).bodyArgs t ((cf F).slots t)) = bodyAt t := by
  unfold defs₀; rw [Defs.onTc_tc]; rfl

set_option maxHeartbeats 4000000 in
theorem sound_body (c : Dev nD) (t : Fin (cf F).N) :
    bodyPre m c t ⊢ wp frame (wpE (defs₀ (F := F)) Variants.none c none) Set.univ (bodyAt t) (fun _ => bodyPost m c t) := by
  unfold bodyPre bodyPost bodyAt
  simp only [before_0, before_1, before_2, before_3, before_4]
  unfold between
  iintro ⟨⟨%dk, %dv, %hs, S0, S1, Hp, T0, T1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs (x := ins m c t) (s := ⟨(dats m 0 c).before 5 t d5, dk, dv, (dats m 0 c).before 6 t d6, (dats m 0 c).before 7 t d7⟩))
  isplitl [T0]; · iexact T0
  isplitl [T1]; · iexact T1
  isplitl [S0 S1 H0 H1 H2 H3 H4 H5 H6 H7]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    iexact S1
  unfold held
  iintro ⟨T0, T1, H0, H1, H2, H3, H4, H5, H6, H7, S0, S1⟩
  obtain ⟨⟨eq, ek, ev⟩, e7⟩ := step_at m c t ⟨(dats m 0 c).before 5 t d5, dk, dv, (dats m 0 c).before 6 t d6, (dats m 0 c).before 7 t d7⟩
    (fun h => ⟨Nat.lt_of_le_of_lt (Nat.sub_le _ _) t.isLt, before_5 m c t h d5, hs _ _ (by
      have := pair_val t; have h2 : (grid0.coords t 1).val ≠ 0 := h; omega)⟩)
  isplitl [S0 S1 Hp T0 T1]
  · iexists _; iexists _
    isplitr; swap
    · isplitl [S0]; · iexact S0
      isplitl [S1]; · iexact S1
      isplitl [Hp]; · iexact Hp
      isplitl [T0]; · iexact T0
      iexact T1
    · ipureintro
      intro k h e
      obtain rfl : t.val = k := Nat.succ.inj e
      exact ⟨ek, ev⟩
  isplitl [Ho]; · iexact Ho
  isplitl [H0]; · iexact H0
  isplitl [H1]; · iexact H1
  isplitl [H2]; · iexact H2
  isplitl [H3]; · iexact H3
  isplitl [H4]; · iexact H4
  isplitl [H5]
  · iapply (left_live m c t 5 (idle_5 _) _ eq); iexact H5
  by_cases h : it (pairOf t) = 7
  · have h' : (!decide (it (grid0.coords t 1) = 7)) = false := congrArg (!·) (decide_eq_true h)
    isplitl [H6]
    · iapply (left_live m c t 6 ((idle_6 _).trans h') _ (e7 h).1); iexact H6
    iapply (left_live m c t 7 ((idle_7 _).trans h') _ (e7 h).2); iexact H7
  · have h' : (!decide (it (grid0.coords t 1) = 7)) = true := congrArg (!·) (decide_eq_false h)
    have hm : moves t = false := (moves_iff t).trans (decide_eq_false h)
    obtain ⟨k6, k7⟩ := step_kept (pairOf t) (ins m c t) ⟨(dats m 0 c).before 5 t d5, dk, dv, (dats m 0 c).before 6 t d6, (dats m 0 c).before 7 t d7⟩ h
    isplitl [H6]
    · iapply (left_idle m c t 6 ((idle_6 _).trans h') ((flush_6 t).trans hm) d6 _ k6); iexact H6
    iapply (left_idle m c t 7 ((idle_7 _).trans h') ((flush_7 t).trans hm) d7 _ k7); iexact H7

end Cert.MlaK
-- ==== Proof.Mla.Obligation.lean ====
module

public import proofs.«01_k».proof.Proof.Mla.Sound

/-! The body's triple as the pipeline states it. -/

@[expose] public section

set_option maxRecDepth 16384

noncomputable section

namespace Cert.MlaK

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.MlaIdeal Cert.MlaIdeal.Gen

variable {F : FTy → Type} [FloatOps F] [Named F]

local notation "𝕄" => MT nD τ sig Unit (Elt F) ℕ (UR sig nD τ) ℕ

variable (m : (ℓ : Loc nD τ sig) → Buf (Elt F) ℓ)

theorem between_eq (c : Dev nD) (n : Fin ((cf F).N + 1)) : (dats m 0 c).Φ n = between m c n.val := rfl
theorem between_cast (c : Dev nD) (t : Fin (cf F).N) : (dats m 0 c).Φ t.castSucc = between m c t.val := by
  rw [between_eq]
  exact congrArg (between m c) (Fin.val_castSucc t)
theorem between_succ (c : Dev nD) (t : Fin (cf F).N) : (dats m 0 c).Φ t.succ = between m c (t.val + 1) := by
  rw [between_eq]
  exact congrArg (between m c) (Fin.val_succ t)

theorem left_eq (c : Dev nD) (t : Fin (cf F).N) (w : Fin (cf F).W) (h : (cf F).idle w ((cf F).grid.coords t) = false) :
    leftAt m c t w = owns (c : Thread nD τ) (ms t w) fullShare ((dats m 0 c).after w t) := by
  unfold leftAt; rw [h]

theorem post_eq (c : Dev nD) (t : Fin (cf F).N) : iprop((dats m 0 c).Φ t.succ ∗ (dats m 0 c).owesAt () t.succ
    ∗ leftAt m c t 0 ∗ leftAt m c t 1 ∗ leftAt m c t 2 ∗ leftAt m c t 3 ∗ leftAt m c t 4 ∗ leftAt m c t 5 ∗ leftAt m c t 6 ∗ leftAt m c t 7) = bodyPost m c t := by
  rw [between_succ, left_eq m c t 0 rfl, left_eq m c t 1 rfl, left_eq m c t 2 rfl, left_eq m c t 3 rfl, left_eq m c t 4 rfl, after_0, after_1, after_2, after_3, after_4]
  rfl

theorem body_obligation (c : Dev nD) : BodyObligation (dats (F := F) m 0 c) (defs₀ (F := F)) Variants.none () Set.univ := fun t => by
  rw [bigSep_W0, bigSep_W0, row]
  refine triple_restated (sound_body m c t) rfl ?_ fun _ => (Entails.of_eq (post_eq m c t).symm).trans ?_
  · unfold bodyPre
    exact sep_mono (Entails.of_eq (between_cast m c t)) .rfl
  · exact .rfl

end Cert.MlaK
-- ==== Proof.Mla.Launch.lean ====
module

public import proofs.«01_k».proof.Proof.Mla.Obligation
public import Idealize.ShloMosaic.Lib.Claim
public import Idealize.ShloMosaic.Lib.Pipeline.FrameSuffix

/-! The run of the whole program. -/

@[expose] public section

set_option maxRecDepth 16384

noncomputable section

namespace Cert.MlaK

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.MlaIdeal Cert.MlaIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
set_option maxHeartbeats 4000000 in
theorem fresh_2 : (hostOps0_2 : List (HloOp τ sig (Elt F))).Forall fun op => op.fresh = ∅ := by
  simp only [List.Forall]; repeat' constructor

/-- The program up to the call, continued by the lines after it. -/
theorem main_around : HMainPK (Ix := Unit) (Name := ℕ) (U := UR sig nD τ) (Lvl := ℕ) pcfgs 0 defs₀ Variants.none m (main (F := F))
    (fun c b => StableHlo.after (before F).flatten (fun b => m (c, b)) (Proc.devRef .tc b)) (fun _ => chain ((later F).map StableHlo.seq)) :=
  hmainP_around pcfgs 0 defs₀ Variants.none m main (before F) (later F) ⟨hostOps0_sub, hostOps0_1_sub, hostOps0_2_sub⟩ ⟨fresh_0, fresh_1, fresh_2⟩ main_chain

/-- The lines after the call. -/
theorem later_cases {P : HloOp τ sig (Elt F) → Prop} (h : (hostOps1 : List (HloOp τ sig (Elt F))).Forall P) : ∀ ops ∈ later F, ∀ op ∈ ops, P op := by
  intro ops hops op hop
  obtain rfl := List.mem_singleton.mp hops
  exact List.forall_iff_forall_mem.mp h op hop

theorem later_sub : ∀ ops ∈ later F, ∀ op ∈ ops, op.bufs ⊆ tailRefs sig pre0 spec0 :=
  later_cases (by
    refine ⟨sub_tailRefs pre0 spec0 _ (StableHlo.nullary_bufs_sub ..) ?_, sub_tailRefs pre0 spec0 _ (StableHlo.unary_bufs_sub ..) ?_,
      sub_tailRefs pre0 spec0 _ (StableHlo.binary_bufs_sub ..) ?_⟩
    all_goals intro j; fin_cases j <;> simp only [StableHlo.nullary_bufs, StableHlo.unary_bufs, StableHlo.binary_bufs, Finset.mem_insert, Finset.mem_singleton, not_or]
    all_goals and_intros <;> exact StableHlo.devRef_ne_of_ne (by decide))

theorem later_fresh : ∀ ops ∈ later F, ∀ op ∈ ops, op.fresh = ∅ :=
  later_cases (by simp only [List.Forall]; repeat' constructor)

theorem later_keep : ∀ ops ∈ later F, ∀ op ∈ ops, ∀ w, Proc.devRef .tc (arrRef spec0 w) ∉ op.writes :=
  later_cases (by
    refine ⟨?_, ?_, ?_⟩
    all_goals intro w; fin_cases w <;> simp only [StableHlo.nullary_writes, StableHlo.unary_writes, StableHlo.binary_writes, Finset.mem_singleton]
    all_goals exact StableHlo.devRef_ne_of_ne (by decide))

/-- The lines before the call one stretch after another. -/
theorem before_eq (σ : Valuation τ sig (Elt F)) : StableHlo.after (before F).flatten σ = StableHlo.after hostOps0_2 (StableHlo.after hostOps0_1 (StableHlo.after hostOps0 σ)) := by
  rw [show (before F).flatten = hostOps0 ++ (hostOps0_1 ++ (hostOps0_2 ++ [])) from rfl, List.append_nil, StableHlo.after_append, StableHlo.after_append]

theorem table_0 (c : Dev nD) : StableHlo.after (before F).flatten (fun b => m (c, b)) (Proc.devRef .tc main_c) = tab (F := F) 0 := by
  rw [before_eq]
  entry_read
  rfl
theorem table_1 (c : Dev nD) : StableHlo.after (before F).flatten (fun b => m (c, b)) (Proc.devRef .tc main_c_0) = tab (F := F) 1 := by
  rw [before_eq]
  entry_read
  rfl

theorem tables_eq (c : Dev nD) : (ΦT pre0 (adm (F := F) 0).1 c : sProp 𝕄)
    = iprop(((c.tc : Thread nD τ).loc (pre0.ref 0) ↦{fullShare.right} (tab (F := F) 0)) ∗ ((c.tc : Thread nD τ).loc (pre0.ref 1) ↦{fullShare.right} (tab (F := F) 1))) :=
  bigSep_univ_eq_bigSepL [(0 : Fin 2), (1 : Fin 2)] (by decide) (by decide) _

theorem enter (c : Dev nD) : iprop(ΦA spec0 c ∗ ΦT pre0 (adm (F := F) 0).1 c) ⊢ (dats m 0 c).Φ 0 := by
  rw [between_eq]
  rw [tables_eq]
  unfold ΦA between
  rw [scopedRest0_eq]
  simp only [owns_whole]
  iintro ⟨⟨⟨⟨%f, Hf⟩, ⟨%g, Hg⟩⟩, Hp⟩, T0, T1⟩
  iexists f; iexists g
  isplitr
  · ipureintro
    intro k _ e
    exact absurd e (Nat.succ_ne_zero k).symm
  isplitl [Hf]; · iexact Hf
  isplitl [Hg]; · iexact Hg
  isplitl [Hp]; · iexact Hp
  isplitl [T0]; · iexact T0
  iexact T1

theorem leave (c : Dev nD) : (dats (F := F) m 0 c).Φ (Fin.last (cf F).N) ⊢ ΦA spec0 c := by
  rw [between_eq]
  unfold ΦA between
  rw [scopedRest0_eq]
  simp only [owns_whole]
  iintro ⟨%f, %g, -, Hf, Hg, Hp, -, -⟩
  isplitl [Hf Hg]
  · isplitl [Hf]
    · iexists f; iexact Hf
    · iexists g; iexact Hg
  iexact Hp

theorem table_k (c : Dev nD) : ∀ k : Fin 2, StableHlo.after (before F).flatten (fun b => m (c, b)) (Proc.devRef .tc (pre0.ref k)) = (adm (F := F) 0).1 k
  | 0 => table_0 m c
  | 1 => table_1 m c

/-- What the lines after the call leave in a buffer. -/
abbrev final (c : Dev nD) (b : Ref sig .tc) : Buf (Elt F) ((c : Thread nD τ).loc b) :=
  afterTail pcfgs adm (dats m) 0 (fun c => StableHlo.after (before F).flatten fun b => m (c, b)) (later F) c b

set_option backward.isDefEq.respectTransparency.types false in
/-- Every run ends with the arrays and the other buffers at their values, and no semaphore held. -/
theorem runs : θ_run defs (onTc (τ := τ) (main (F := F))) (s₀ m ρ) (fun r => FramePost (pin pcfgs adm) (dats m) 0 (final m) r ∧ r.2.sem = fun _ => 0) :=
  θ_run_frameP_around_track (Q' := _) pcfgs adm (dats m) (0 : Fin 1) launch0 defs₀ Variants.none m ρ main
    (fun c => (body_obligation m c).loose) (fun c => (dats m 0 c).share_full fun _ => rfl) (fun _ _ => rfl)
    (fun c => StableHlo.after (before F).flatten fun b => m (c, b)) (later F) later_sub later_fresh later_keep (main_around m)
    (A_eq m) (table_k m) (enter m) (leave m)

/-- The arguments. -/
def args : List (Ref sig .tc) := [main_arg0, main_arg1, main_arg2, main_arg3, main_arg4, main_arg5]

set_option maxHeartbeats 4000000 in
theorem args_kept : ∀ op ∈ (before F).flatten ++ (later F).flatten, ∀ b ∈ args, Proc.devRef .tc b ∉ op.writes :=
  List.forall_iff_forall_mem.mp (by
    simp only [before, later, hostOps0, hostOps0_1, hostOps0_2, hostOps1, List.flatten_cons, List.flatten_nil, List.append_nil, List.cons_append, List.nil_append, List.Forall,
      StableHlo.TRef.nullary, StableHlo.nullary_writes, StableHlo.unary_writes, StableHlo.binary_writes, StableHlo.ternary_writes, StableHlo.nary_writes, StableHlo.reshape_writes, Finset.mem_singleton]
    repeat' apply And.intro
    all_goals exact fun b hb => StableHlo.devRef_ne_of_ne ((by decide : ∀ b ∈ args, b ≠ _) b hb))

theorem args_end (c : Dev nD) (b : Ref sig .tc) (hb : b ∈ args) : final m c b = m ((c : Thread nD τ).loc b) := by
  unfold final afterTail
  rw [StableHlo.after_of_forall_not_mem _ _ fun op h => args_kept op (List.mem_append_right _ h) b hb,
    withArrays_of_ne _ c _ _ b ((by decide : ∀ b ∈ args, ∀ w, arrRef spec0 w ≠ b) b hb)]
  exact StableHlo.after_of_forall_not_mem _ _ fun op h => args_kept op (List.mem_append_left _ h) b hb

/-- The arguments end as they were and no semaphore is held. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    have k : ∀ b ∈ args, r.2.mem ((c.tc : Thread nD τ).loc b) = m ((c.tc : Thread nD τ).loc b) := fun b hb =>
      ((h.1 c).2 b ((by decide : ∀ b ∈ args, b ∈ restRefs sig spec0) b hb)).trans (args_end m c b hb)
    ⟨k _ (by decide), k _ (by decide), k _ (by decide), k _ (by decide), k _ (by decide), k _ (by decide)⟩, h.2⟩) (runs m ρ)

end Cert.MlaK
-- ==== Proof.Mla.Frames.lean ====
/- The frames of the latent attention's programs. -/
module

public import proofs.«01_k».proof.Defs
public import proofs.«01_k».proof.Proof.Mla.Launch
public import proofs.«01_k».proof.Proof.Gen.Mla
public import proofs.«01_k».proof.Proof.Gen.MlaIdeal
public import proofs.«01_k».proof.Proof.Gen.MlaRefIdeal
public import proofs.«01_k».proof.Proof.Gen.Pre_finite_mla
public import proofs.«01_k».proof.Proof.Gen.MlaRefIdeal.Run
public import Idealize.ShloMosaic.Lib.Quiescent

@[expose] public section

set_option maxRecDepth 16384

noncomputable section

namespace Cert.Proof

open Idealize.ShloMosaic Idealize.SL.Sem

/-- The named constants at what their words denote. -/
abbrev wordNamed {F : FTy → Type} [FloatOps F] : Named F := ⟨fun _ _ φ bits => Scalar.ofBits φ bits⟩

/-- A run's statement, the arguments kept and no semaphore held, with no word about where it starts. -/
theorem mla_frame : Cert.quiescent_Mla := by
  have h : _ := fun m g (_ : True) => @Cert.MlaK.quiet Bits _ wordNamed m g
  exact Eq.mp (by sl_kernel_rfl) h

theorem mla_ideal_frame : Cert.quiescent_MlaIdeal := fun m g _ => Cert.MlaK.quiet m g

theorem mla_ideal_frame_finite : Cert.quiescent_MlaIdeal_pre_finite_mla := fun m g _ => Cert.MlaK.quiet m g

theorem mla_reference_frame : Cert.quiescent_MlaRefIdeal :=
  fun m g _ => (θ_run _ _ _).mono (fun r h => ⟨fun c => (h c).2.2.2, sem_eq_zero_of_no_sems rfl r.2⟩) (Cert.MlaRefIdeal.Value.run m g)

theorem mla_reference_frame_finite : Cert.quiescent_MlaRefIdeal_pre_finite_mla :=
  fun m g _ => (θ_run _ _ _).mono (fun r h => ⟨fun c => (h c).2.2.2, sem_eq_zero_of_no_sems rfl r.2⟩) (Cert.MlaRefIdeal.Value.run m g)

theorem mla_preserves : Cert.preserves_Mla_MlaIdeal :=
  ⟨IdealRules.named_const.statement Cert.MlaIdeal.κ "mask" .f32 0xF149F2CA#32 (⊥) rfl,
    IdealRules.named_const.statement Cert.MlaIdeal.κ "ln2" .f32 0x3F317218#32 (((Real.log 2 : ℝ) : EReal)) rfl⟩

end Cert.Proof
-- ==== Proof.Mla.Pay.lean ====
module

public import proofs.«01_k».proof.Proof.Reals
public import proofs.«01_k».proof.Proof.Mla.Step
public import Idealize.ShloMosaic.Lib.Pointwise
public import Idealize.ShloMosaic.Lib.WordCmp

/-! What a pair computes from blocks of real numbers. -/

@[expose] public section

set_option maxRecDepth 16384

noncomputable section

namespace Cert.MlaK

open Idealize.ShloMosaic Idealize.ShloMosaic.VecWindow Cert.MlaIdeal Cert.MlaIdeal.Gen Cert.Reals

/-- A block of the real numbers `f`, by row and column. -/
abbrev up2 {n k : ℕ} (φ : FTy) (f : ℕ → ℕ → ℝ) : FVec Ideal ⟨2, ![n, k]⟩ φ := fun i => ((f (i 0).val (i 1).val : ℝ) : EReal)

theorem ln2_eq : (Named.named (F := Ideal) κ "ln2" 0x3F317218#32 : Ideal .f32) = ((Real.log 2 : ℝ) : EReal) := rfl
theorem mask_eq : (Named.named (F := Ideal) κ "mask" 0xF149F2CA#32 : Ideal .f32) = (⊥ : EReal) := rfl

/-- The scores of a block: products over the 128 rows of a head. -/
def prods (k q : ℕ → ℕ → ℝ) (u t : ℕ) : ℝ := ∑ r : Fin 128, k u r.val * q r.val t

/-- The masked weights. -/
def wtD (k q : ℕ → ℕ → ℝ) (u t : ℕ) : ℝ := if u ≤ t then Real.rpow 2 (prods k q u t) else 0
/-- The weights below the diagonal. -/
def wtF (k q : ℕ → ℕ → ℝ) (u t : ℕ) : ℝ := Real.rpow 2 (prods k q u t)

theorem masked {a b : ℕ} (ha : a < 2 ^ 31) (hb : b < 2 ^ 31) (x : ℝ) :
    Ideal.exp2 (Scalar.select (IntOp.cmpi .sle (BitVec.ofNat 32 a) (BitVec.ofNat 32 b)) (x : EReal) ⊥) = ((if a ≤ b then Real.rpow 2 x else 0 : ℝ) : EReal) := by
  by_cases h : a ≤ b
  · rw [(WordCmp.cmpi_sle_ofNat_eq_one_iff (w := 32) ha hb).2 h, if_pos h]; rfl
  · rw [(WordCmp.cmpi_sle_ofNat_eq_zero_iff (w := 32) ha hb).2 h, if_neg h]; rfl

/-- The score gradient of a diagonal block. -/
def gradD (k q v d : ℕ → ℕ → ℝ) (u t : ℕ) : ℝ := wtD k q u t * prods v d u t
/-- The score gradient of a block below the diagonal. -/
def gradF (k q v d : ℕ → ℕ → ℝ) (u t : ℕ) : ℝ := wtF k q u t * prods v d u t

/-- A product over `n` columns, row `r` of `a` with row `u` of `b`. -/
def rowsum (n : ℕ) (a b : ℕ → ℕ → ℝ) (r u : ℕ) : ℝ := ∑ t : Fin n, a r t.val * b u t.val
/-- A product over the 512 keys. -/
def colsum (a b : ℕ → ℕ → ℝ) (r t : ℕ) : ℝ := ∑ u : Fin 512, a r u.val * b u.val t
/-- The first `n` rows, then zeros. -/
def cut (n : ℕ) (f : ℕ → ℕ → ℝ) (r t : ℕ) : ℝ := if r < n then f r t else 0

theorem pay_11 (k q : ℕ → ℕ → ℝ) : k0_pay11 (F := Ideal) (up2 .bf16 k) (up2 .bf16 q) = up2 .f32 (wtD k q) := by
  funext i
  pointwise [k0_pay11, lit_zero, ← EReal.coe_mul, coe_sum, mask_eq, ← EReal.coe_add, zero_add]
  exact masked (by have := (i 0).isLt; simp at this; omega) (by have := (i 1).isLt; simp at this; omega) _

theorem pay_40 (k q : ℕ → ℕ → ℝ) : k0_pay40 (F := Ideal) (up2 .bf16 k) (up2 .bf16 q) = up2 .f32 (wtD k q) := by
  funext i
  pointwise [k0_pay40, lit_zero, ← EReal.coe_mul, coe_sum, mask_eq, ← EReal.coe_add, zero_add]
  exact masked (by have := (i 0).isLt; simp at this; omega) (by have := (i 1).isLt; simp at this; omega) _

theorem pay_69 (k q : ℕ → ℕ → ℝ) : k0_pay69 (F := Ideal) (up2 .bf16 k) (up2 .bf16 q) = up2 .f32 (wtF k q) := by
  funext i
  pointwise [k0_pay69, lit_zero, ← EReal.coe_mul, coe_sum, ← EReal.coe_add, zero_add]
  rfl

variable (k q v d a b w : ℕ → ℕ → ℝ)

theorem pay_12 : k0_pay12 (F := Ideal) (up2 .bf16 k) (up2 .bf16 q) (up2 .bf16 v) (up2 .bf16 d) = up2 .bf16 (gradD k q v d) := by
  funext i
  pointwise [k0_pay12, pay_11, lit_zero, ← EReal.coe_mul, coe_sum, ← EReal.coe_add, zero_add]
  rfl

theorem pay_41 : k0_pay41 (F := Ideal) (up2 .bf16 k) (up2 .bf16 q) (up2 .bf16 v) (up2 .bf16 d) = up2 .bf16 (gradD k q v d) := by
  funext i
  pointwise [k0_pay41, pay_40, lit_zero, ← EReal.coe_mul, coe_sum, ← EReal.coe_add, zero_add]
  rfl

theorem pay_70 : k0_pay70 (F := Ideal) (up2 .bf16 k) (up2 .bf16 q) (up2 .bf16 v) (up2 .bf16 d) = up2 .bf16 (gradF k q v d) := by
  funext i
  pointwise [k0_pay70, pay_69, lit_zero, ← EReal.coe_mul, coe_sum, ← EReal.coe_add, zero_add]
  rfl

theorem pay_13 : k0_pay13 (F := Ideal) (up2 .bf16 k) (up2 .bf16 q) (up2 .bf16 v) (up2 .bf16 d) (up2 .bf16 a) = up2 .f32 (rowsum 1024 a (gradD k q v d)) := by
  funext i
  pointwise [k0_pay13, pay_12, lit_zero, ← EReal.coe_mul, coe_sum, ← EReal.coe_add, zero_add]
  rfl

theorem pay_42 : k0_pay42 (F := Ideal) (up2 .bf16 k) (up2 .bf16 q) (up2 .bf16 v) (up2 .bf16 d) (up2 .bf16 a) = up2 .f32 (rowsum 512 a (gradD k q v d)) := by
  funext i
  pointwise [k0_pay42, pay_41, lit_zero, ← EReal.coe_mul, coe_sum, ← EReal.coe_add, zero_add]
  rfl

theorem pay_71 : k0_pay71 (F := Ideal) (up2 .bf16 k) (up2 .bf16 q) (up2 .bf16 v) (up2 .bf16 d) (up2 .bf16 a) = up2 .f32 (rowsum 1024 a (gradF k q v d)) := by
  funext i
  pointwise [k0_pay71, pay_70, lit_zero, ← EReal.coe_mul, coe_sum, ← EReal.coe_add, zero_add]
  rfl

theorem cut_eq (n : ℕ) (f : ℕ → ℕ → ℝ) (r t : ℕ) : (if h : r < n then ((f r t : ℝ) : EReal) else ((0 : ℝ) : EReal)) = ((cut n f r t : ℝ) : EReal) := by
  unfold cut
  split <;> rfl

theorem pay_14 : k0_pay14 (F := Ideal) (up2 .bf16 k) (up2 .bf16 q) (up2 .bf16 a) = up2 .f32 (cut 64 (rowsum 1024 a (wtD k q))) := by
  funext i
  pointwise [k0_pay14, pay_11, lit_zero, ← EReal.coe_mul, coe_sum, ← EReal.coe_add, zero_add]
  exact cut_eq 64 (rowsum _ a (wtD k q)) _ _

theorem pay_43 : k0_pay43 (F := Ideal) (up2 .bf16 k) (up2 .bf16 q) (up2 .bf16 a) = up2 .f32 (cut 64 (rowsum 512 a (wtD k q))) := by
  funext i
  pointwise [k0_pay43, pay_40, lit_zero, ← EReal.coe_mul, coe_sum, ← EReal.coe_add, zero_add]
  exact cut_eq 64 (rowsum _ a (wtD k q)) _ _

theorem pay_72 : k0_pay72 (F := Ideal) (up2 .bf16 k) (up2 .bf16 q) (up2 .bf16 a) (up2 .f32 w) = up2 .f32 (fun r u => w r u + rowsum 1024 a (wtF k q) r u) := by
  funext i
  pointwise [k0_pay72, pay_69, lit_zero, ← EReal.coe_mul, coe_sum, ← EReal.coe_add, zero_add]
  rfl

theorem pay_73 : k0_pay73 (F := Ideal) (up2 .f32 a) (up2 .f32 w) = up2 .f32 (fun r u => w r u + a r u) := by
  funext i
  pointwise [k0_pay73, ← EReal.coe_add]

theorem pay_15 : k0_pay15 (F := Ideal) (up2 .f32 a) = up2 .f32 a := by
  funext i
  pointwise [k0_pay15]

theorem pay_44 : k0_pay44 (F := Ideal) (up2 .f32 a) = up2 .f32 a := by
  funext i
  pointwise [k0_pay44]

theorem pay_16 : k0_pay16 (F := Ideal) (up2 .f32 a) = up2 .f32 (cut 96 a) := by
  funext i
  pointwise [k0_pay16, lit_zero]
  exact cut_eq 96 a (i 0).val (i 1).val

theorem pay_45 : k0_pay45 (F := Ideal) (up2 .f32 a) = up2 .f32 (cut 96 a) := by
  funext i
  pointwise [k0_pay45, lit_zero]
  exact cut_eq 96 a (i 0).val (i 1).val

theorem pay_17 : k0_pay17 (F := Ideal) (up2 .bf16 b) (up2 .f32 w) (up2 .bf16 a) = up2 .f32 (fun r t => w r t + colsum a b r t) := by
  funext i
  pointwise [k0_pay17, lit_zero, ← EReal.coe_mul, coe_sum, ← EReal.coe_add, zero_add]
  rfl

theorem pay_46 : k0_pay46 (F := Ideal) (up2 .bf16 b) (up2 .f32 w) (up2 .bf16 a) = up2 .f32 (fun r t => w r t + colsum a b r t) := by
  funext i
  pointwise [k0_pay46, lit_zero, ← EReal.coe_mul, coe_sum, ← EReal.coe_add, zero_add]
  rfl

theorem pay_74 : k0_pay74 (F := Ideal) (up2 .bf16 b) (up2 .f32 w) (up2 .bf16 a) = up2 .f32 (fun r t => w r t + colsum a b r t) := by
  funext i
  pointwise [k0_pay74, lit_zero, ← EReal.coe_mul, coe_sum, ← EReal.coe_add, zero_add]
  rfl

theorem pay_8 : k0_pay8 (F := Ideal) (up2 .f32 w) = up2 .bf16 (fun r u => w r u * Real.log 2) := by
  funext i
  pointwise [k0_pay8, ln2_eq, ← EReal.coe_mul]

theorem pay_9 : k0_pay9 (F := Ideal) (up2 .f32 w) = up2 .bf16 w := by
  funext i
  pointwise [k0_pay9]

theorem pay_1 : k0_pay1 (F := Ideal) = up2 .f32 (fun _ _ => 0) := by
  funext i
  pointwise [k0_pay1, lit_zero]

end Cert.MlaK
-- ==== Proof.Mla.Sums.lean ====
module

public import proofs.«01_k».proof.Proof.Mla.Pay

/-! The sums the walk over the pairs makes, in real numbers: how far each has got, and what a pair adds. -/

@[expose] public section

set_option maxRecDepth 16384

noncomputable section

namespace Cert.MlaK

open Idealize.ShloMosaic

/-- The five arrays the walk reads: the queries, cotangents and keys by row and token, the keys and values by token and
row. A head has 128 rows. -/
structure Arr where
  /-- queries -/
  Q : ℕ → ℕ → ℝ
  /-- cotangents -/
  D : ℕ → ℕ → ℝ
  /-- keys, by row -/
  T : ℕ → ℕ → ℝ
  /-- keys, by token -/
  K : ℕ → ℕ → ℝ
  /-- values, by token -/
  V : ℕ → ℕ → ℝ

variable (A : Arr)

namespace Arr

/-- Score of key `U` with query `T` at head `H`. -/
def pr (H U T : ℕ) : ℝ := ∑ r : Fin 128, A.K U (128 * H + r.val) * A.Q (128 * H + r.val) T
/-- Value `U` with cotangent `T` at head `H`. -/
def vd (H U T : ℕ) : ℝ := ∑ r : Fin 128, A.V U (128 * H + r.val) * A.D (128 * H + r.val) T
/-- The weight of key `U` for query `T`. -/
def pm (H U T : ℕ) : ℝ := if U ≤ T then Real.rpow 2 (A.pr H U T) else 0
/-- The score's gradient. -/
def gm (H U T : ℕ) : ℝ := A.pm H U T * A.vd H U T

/-- The key gradient over the first `n` queries. -/
def DK (n R U : ℕ) : ℝ := if R % 128 < 96 then ∑ T ∈ Finset.range n, A.Q R T * A.gm (R / 128) U T else 0
/-- The value gradient over the first `n` queries. -/
def DV (n R U : ℕ) : ℝ := if R % 128 < 64 then ∑ T ∈ Finset.range n, A.D R T * A.pm (R / 128) U T else 0
/-- The query gradient over the first `n` keys. -/
def DQ (n R T : ℕ) : ℝ := if R % 128 < 96 then ∑ U ∈ Finset.range n, A.T R U * A.gm (R / 128) U T else 0

theorem pm_zero {H U T : ℕ} (h : T < U) : A.pm H U T = 0 := if_neg (by omega)
theorem gm_zero {H U T : ℕ} (h : T < U) : A.gm H U T = 0 := by rw [gm, A.pm_zero h, zero_mul]

theorem rows_mod (H r : ℕ) (h : r < 128) : (128 * H + r) % 128 = r := by omega
theorem rows_div (H r : ℕ) (h : r < 128) : (128 * H + r) / 128 = H := by omega

/-- Queries before the key add nothing. -/
theorem DK_start (n k R U : ℕ) (h : n ≤ U) (hk : R % 128 < 96) :
    A.DK (n + k) R U = ∑ t ∈ Finset.range k, A.Q R (n + t) * A.gm (R / 128) U (n + t) := by
  rw [DK, if_pos hk, Finset.sum_range_add, Finset.sum_eq_zero, zero_add]
  intro T hT
  rw [A.gm_zero (by have := Finset.mem_range.1 hT; omega), mul_zero]
theorem DV_start (n k R U : ℕ) (h : n ≤ U) (hk : R % 128 < 64) :
    A.DV (n + k) R U = ∑ t ∈ Finset.range k, A.D R (n + t) * A.pm (R / 128) U (n + t) := by
  rw [DV, if_pos hk, Finset.sum_range_add, Finset.sum_eq_zero, zero_add]
  intro T hT
  rw [A.pm_zero (by have := Finset.mem_range.1 hT; omega), mul_zero]
theorem DK_add (n k R U : ℕ) (hk : R % 128 < 96) :
    A.DK (n + k) R U = A.DK n R U + ∑ t ∈ Finset.range k, A.Q R (n + t) * A.gm (R / 128) U (n + t) := by
  rw [DK, DK, if_pos hk, if_pos hk, Finset.sum_range_add]
theorem DV_add (n k R U : ℕ) (hk : R % 128 < 64) :
    A.DV (n + k) R U = A.DV n R U + ∑ t ∈ Finset.range k, A.D R (n + t) * A.pm (R / 128) U (n + t) := by
  rw [DV, DV, if_pos hk, if_pos hk, Finset.sum_range_add]
theorem DQ_add (n k R T : ℕ) (hk : R % 128 < 96) :
    A.DQ (n + k) R T = A.DQ n R T + ∑ u ∈ Finset.range k, A.T R (n + u) * A.gm (R / 128) (n + u) T := by
  rw [DQ, DQ, if_pos hk, if_pos hk, Finset.sum_range_add]
/-- Keys after the query add nothing. -/
theorem DQ_end (n k R T : ℕ) (h : T < n) : A.DQ (n + k) R T = A.DQ n R T := by
  unfold DQ
  split
  · rw [Finset.sum_range_add, Finset.sum_eq_zero (s := Finset.range k), add_zero]
    intro U hU
    rw [A.gm_zero (by omega), mul_zero]
  · rfl
theorem DK_out (n R U : ℕ) (h : ¬ R % 128 < 96) : A.DK n R U = 0 := if_neg h
theorem DV_out (n R U : ℕ) (h : ¬ R % 128 < 64) : A.DV n R U = 0 := if_neg h
theorem DQ_out (n R T : ℕ) (h : ¬ R % 128 < 96) : A.DQ n R T = 0 := if_neg h
theorem DQ_zero (R T : ℕ) : A.DQ 0 R T = 0 := by
  unfold DQ
  split <;> simp

/-- The query gradient before pair `(j, i)`. -/
def DQat (j i R T : ℕ) : ℝ := A.DQ (512 * (j + if T / 1024 < i then 1 else 0)) R T

theorem DQat_next (j R T : ℕ) (hT : T < 8192) : A.DQat j 8 R T = A.DQat (j + 1) ((j + 1) / 2) R T := by
  unfold DQat
  rw [if_pos (by omega)]
  split
  · rw [show 512 * (j + 1 + 1) = 512 * (j + 1) + 512 from rfl, A.DQ_end _ _ _ _ (by omega)]
  · rfl

/-! ## Blocks -/

/-- Keys of tile `j`, head `H`. -/
def bk (j H u r : ℕ) : ℝ := A.K (512 * j + u) (128 * H + r)
/-- Values of tile `j`, head `H`. -/
def bv (j H u r : ℕ) : ℝ := A.V (512 * j + u) (128 * H + r)
/-- Keys of tile `j`, head `H`, by row. -/
def bt (j H r u : ℕ) : ℝ := A.T (128 * H + r) (512 * j + u)
/-- Queries from token `s`, head `H`. -/
def bq (s H r t : ℕ) : ℝ := A.Q (128 * H + r) (s + t)
/-- Cotangents from token `s`, head `H`. -/
def bd (s H r t : ℕ) : ℝ := A.D (128 * H + r) (s + t)

theorem wtD_eq (j H u t : ℕ) : wtD (A.bk j H) (A.bq (512 * j) H) u t = A.pm H (512 * j + u) (512 * j + t) := by
  unfold wtD pm
  by_cases h : u ≤ t
  · rw [if_pos h, if_pos (by omega)]; rfl
  · rw [if_neg h, if_neg (by omega)]
theorem wtF_eq (j s H u t : ℕ) (h : 512 * j + 512 ≤ s) (hu : u < 512) : wtF (A.bk j H) (A.bq s H) u t = A.pm H (512 * j + u) (s + t) := by
  unfold wtF pm
  rw [if_pos (by omega)]; rfl
theorem gradD_eq (j H u t : ℕ) :
    gradD (A.bk j H) (A.bq (512 * j) H) (A.bv j H) (A.bd (512 * j) H) u t = A.gm H (512 * j + u) (512 * j + t) := by
  unfold gradD gm
  rw [wtD_eq]; rfl
theorem gradF_eq (j s H u t : ℕ) (h : 512 * j + 512 ≤ s) (hu : u < 512) :
    gradF (A.bk j H) (A.bq s H) (A.bv j H) (A.bd s H) u t = A.gm H (512 * j + u) (s + t) := by
  unfold gradF gm
  rw [wtF_eq A j s H u t h hu]; rfl

/-- What a diagonal pair of `n` queries sums into the key gradient. -/
theorem DK_diag (n j H r u : ℕ) (hr : r < 128) : A.DK (512 * j + n) (128 * H + r) (512 * j + u)
    = cut 96 (rowsum n (A.bq (512 * j) H) (gradD (A.bk j H) (A.bq (512 * j) H) (A.bv j H) (A.bd (512 * j) H))) r u := by
  unfold cut
  split
  · rw [A.DK_start _ _ _ _ (by omega) (by omega), rows_div _ _ hr, rowsum, Finset.sum_range]
    exact Finset.sum_congr rfl fun t _ => by rw [gradD_eq]; rfl
  · exact A.DK_out _ _ _ (by omega)
/-- What a diagonal pair of `n` queries sums into the value gradient. -/
theorem DV_diag (n j H r u : ℕ) (hr : r < 128) : A.DV (512 * j + n) (128 * H + r) (512 * j + u)
    = cut 64 (rowsum n (A.bd (512 * j) H) (wtD (A.bk j H) (A.bq (512 * j) H))) r u := by
  unfold cut
  split
  · rw [A.DV_start _ _ _ _ (by omega) (by omega), rows_div _ _ hr, rowsum, Finset.sum_range]
    exact Finset.sum_congr rfl fun t _ => by rw [wtD_eq]; rfl
  · exact A.DV_out _ _ _ (by omega)
/-- What a diagonal pair adds to the query gradient. -/
theorem DQ_diag (j H r t : ℕ) (hr : r < 96) : A.DQ (512 * j + 512) (128 * H + r) (512 * j + t)
    = A.DQ (512 * j) (128 * H + r) (512 * j + t) + colsum (A.bt j H) (gradD (A.bk j H) (A.bq (512 * j) H) (A.bv j H) (A.bd (512 * j) H)) r t := by
  rw [A.DQ_add _ _ _ _ (by omega), rows_div _ _ (by omega), colsum, Finset.sum_range]
  congr 1
  exact Finset.sum_congr rfl fun u _ => by rw [gradD_eq]; rfl
/-- What a pair below the diagonal adds to the key gradient. -/
theorem DK_full (j s H r u : ℕ) (h : 512 * j + 512 ≤ s) (hu : u < 512) (hr : r < 96) : A.DK (s + 1024) (128 * H + r) (512 * j + u)
    = A.DK s (128 * H + r) (512 * j + u) + rowsum 1024 (A.bq s H) (gradF (A.bk j H) (A.bq s H) (A.bv j H) (A.bd s H)) r u := by
  rw [A.DK_add _ _ _ _ (by omega), rows_div _ _ (by omega), rowsum, Finset.sum_range]
  congr 1
  exact Finset.sum_congr rfl fun t _ => by rw [gradF_eq A j s H u _ h hu]; rfl
/-- What a pair below the diagonal adds to the value gradient. -/
theorem DV_full (j s H r u : ℕ) (h : 512 * j + 512 ≤ s) (hu : u < 512) (hr : r < 64) : A.DV (s + 1024) (128 * H + r) (512 * j + u)
    = A.DV s (128 * H + r) (512 * j + u) + rowsum 1024 (A.bd s H) (wtF (A.bk j H) (A.bq s H)) r u := by
  rw [A.DV_add _ _ _ _ (by omega), rows_div _ _ (by omega), rowsum, Finset.sum_range]
  congr 1
  exact Finset.sum_congr rfl fun t _ => by rw [wtF_eq A j s H u _ h hu]; rfl
/-- What a pair below the diagonal adds to the query gradient. -/
theorem DQ_full (j s H r t : ℕ) (h : 512 * j + 512 ≤ s) (hr : r < 96) : A.DQ (512 * j + 512) (128 * H + r) (s + t)
    = A.DQ (512 * j) (128 * H + r) (s + t) + colsum (A.bt j H) (gradF (A.bk j H) (A.bq s H) (A.bv j H) (A.bd s H)) r t := by
  rw [A.DQ_add _ _ _ _ (by omega), rows_div _ _ (by omega), colsum, Finset.sum_range]
  congr 1
  exact Finset.sum_congr rfl fun u _ => by rw [gradF_eq A j s H _ t h u.isLt]; rfl

end Arr

end Cert.MlaK
-- ==== Proof.Mla.Math.lean ====
module

public import proofs.«01_k».proof.Proof.Mla.Sums

/-! The attention's backward pass in real numbers, as the step's mathematics has it, and that the walk's sums are it. -/

@[expose] public section

set_option maxRecDepth 16384

noncomputable section

namespace Cert.MlaK

open Idealize.ShloMosaic

/-- Six arrays of real numbers: by token, head and column (the shared key part by token and column). -/
structure Given where
  /-- queries, the part without positions -/
  qn : ℕ → ℕ → ℕ → ℝ
  /-- queries, the part with positions -/
  qr : ℕ → ℕ → ℕ → ℝ
  /-- keys, the part without positions -/
  kn : ℕ → ℕ → ℕ → ℝ
  /-- keys, the part with positions -/
  kr : ℕ → ℕ → ℝ
  /-- values -/
  v : ℕ → ℕ → ℕ → ℝ
  /-- cotangent -/
  ct : ℕ → ℕ → ℕ → ℝ

/-- The scale of the scores. -/
def sc : ℝ := 13698540 / 134217728

namespace Given

variable (G : Given)

/-- Query `T` of head `h`. -/
def q (T h e : ℕ) : ℝ := if e < 64 then G.qn T h e else G.qr T h (e - 64)
/-- Key `U` of head `h`. -/
def k (U h e : ℕ) : ℝ := if e < 64 then G.kn U h e else G.kr U (e - 64)
/-- The score. -/
def s (h T U : ℕ) : ℝ := (∑ e : Fin 96, G.q T h e.val * G.k U h e.val) * sc
/-- The score, masked. -/
def sE (h T U : ℕ) : EReal := if U ≤ T then ((G.s h T U : ℝ) : EReal) else ⊥
/-- The largest score. -/
def mx (h T : ℕ) : ℝ := (Finset.univ.fold max ⊥ fun U : Fin 8192 => G.sE h T U.val).toReal
/-- The weight before it is divided by the row's sum. -/
def e (h T U : ℕ) : ℝ := if U ≤ T then Real.exp (G.s h T U - G.mx h T) else 0
/-- The row's sum. -/
def den (h T : ℕ) : ℝ := ∑ U : Fin 8192, G.e h T U.val
/-- The output. -/
def o (h T x : ℕ) : ℝ := (∑ U : Fin 8192, G.e h T U.val * G.v U.val h x) / G.den h T
/-- The cotangent against the output. -/
def delta (h T : ℕ) : ℝ := ∑ x : Fin 64, G.ct T h x.val * G.o h T x.val
/-- The logarithm of the row's sum, in base two. -/
def lse (h T : ℕ) : ℝ := (G.mx h T + Real.log (G.den h T)) / Real.log 2
/-- The weight. -/
def P (h T U : ℕ) : ℝ := G.e h T U / G.den h T
/-- The cotangent against the value. -/
def g (h T U : ℕ) : ℝ := ∑ x : Fin 64, G.ct T h x.val * G.v U h x.val
/-- The score's gradient. -/
def W (h T U : ℕ) : ℝ := G.P h T U * (G.g h T U - G.delta h T)

/-- The query gradient, by row and token. -/
def outQ (R T : ℕ) : ℝ := if R % 128 < 96 then (∑ U : Fin 8192, G.W (R / 128) T U.val * G.k U.val (R / 128) (R % 128)) * sc else 0
/-- The key gradient, by row and token. -/
def outK (R U : ℕ) : ℝ := if R % 128 < 96 then (∑ T : Fin 8192, G.W (R / 128) T.val U * G.q T.val (R / 128) (R % 128)) * sc else 0
/-- The value gradient, by row and token. -/
def outV (R U : ℕ) : ℝ := if R % 128 < 64 then ∑ T : Fin 8192, G.P (R / 128) T.val U * G.ct T.val (R / 128) (R % 128) else 0

theorem fold_real {n : ℕ} (f : Fin n → EReal) (u : Fin n) (hu : f u ≠ ⊥) (ht : ∀ u, f u ≠ ⊤) :
    Finset.univ.fold max ⊥ f = (((Finset.univ.fold max ⊥ f).toReal : ℝ) : EReal) := by
  refine (EReal.coe_toReal ?_ ?_).symm
  · exact ne_of_lt ((Finset.fold_max_lt _).2 ⟨bot_lt_top, fun x _ => lt_top_iff_ne_top.2 (ht x)⟩)
  · exact ne_of_gt ((Finset.lt_fold_max (c := ⊥)).2 (.inr ⟨u, Finset.mem_univ _, bot_lt_iff_ne_bot.2 hu⟩))

theorem mx_eq (h T : ℕ) (hT : T < 8192) : (Finset.univ.fold max ⊥ fun U : Fin 8192 => G.sE h T U.val) = ((G.mx h T : ℝ) : EReal) :=
  fold_real _ ⟨T, hT⟩ (by unfold sE; rw [if_pos le_rfl]; exact EReal.coe_ne_bot _) fun u => by
    unfold sE; split
    · exact EReal.coe_ne_top _
    · exact bot_ne_top

theorem e_nonneg (h T U : ℕ) : 0 ≤ G.e h T U := by
  unfold e; split
  · exact (Real.exp_pos _).le
  · exact le_rfl
theorem den_pos (h T : ℕ) (hT : T < 8192) : 0 < G.den h T :=
  Finset.sum_pos' (fun U _ => G.e_nonneg h T U.val) ⟨⟨T, hT⟩, Finset.mem_univ _, by
    unfold e; rw [if_pos le_rfl]; exact Real.exp_pos _⟩
theorem den_ne (h T : ℕ) (hT : T < 8192) : G.den h T ≠ 0 := (G.den_pos h T hT).ne'

/-- The masked score less the largest, as a power: the weight. -/
theorem exp_sE (h T U : ℕ) : Ideal.exp (G.sE h T U - ((G.mx h T : ℝ) : EReal)) = ((G.e h T U : ℝ) : EReal) := by
  unfold sE e
  split
  · rw [← EReal.coe_sub]; rfl
  · rw [EReal.bot_sub]; exact Ideal.exp_bot

/-- The cotangent against the output, as a weighted sum. -/
theorem delta_eq (h T : ℕ) : G.delta h T = (∑ U : Fin 8192, G.e h T U.val * G.g h T U.val) / G.den h T := by
  unfold delta o g
  simp only [← mul_div_assoc, ← Finset.sum_div, Finset.mul_sum]
  rw [Finset.sum_comm]
  congr 1
  exact Finset.sum_congr rfl fun U _ => Finset.sum_congr rfl fun x _ => by ring

/-- The arrays the walk reads. -/
def arr : Arr where
  Q R T := if R % 128 < 96 then G.q T (R / 128) (R % 128) * (sc / Real.log 2) else if R % 128 < 97 then -G.lse (R / 128) T else 0
  D R T := if R % 128 < 64 then G.ct T (R / 128) (R % 128) else if R % 128 < 65 then -G.delta (R / 128) T else 0
  T R U := if R % 128 < 96 then G.k U (R / 128) (R % 128) else 0
  K U R := if R % 128 < 96 then G.k U (R / 128) (R % 128) else if R % 128 < 98 then 1 else 0
  V U R := if R % 128 < 64 then G.v U (R / 128) (R % 128) else if R % 128 < 66 then 1 else 0

theorem log2_pos : 0 < Real.log 2 := Real.log_pos (by norm_num)

theorem sum_split (a b : ℕ) (f : ℕ → ℝ) (n : ℕ) (hn : n = a + b) : ∑ r : Fin n, f r.val = ∑ r : Fin a, f r.val + ∑ r : Fin b, f (a + r.val) := by
  subst hn
  rw [Fin.sum_univ_add]; rfl

/-- The product of the planted rows: the score less the logarithm of the row's sum. -/
theorem pr_eq (H U T : ℕ) : G.arr.pr H U T = (∑ e : Fin 96, G.q T H e.val * G.k U H e.val) * (sc / Real.log 2) - G.lse H T := by
  unfold Arr.pr
  rw [sum_split 96 32 (fun r => G.arr.K U (128 * H + r) * G.arr.Q (128 * H + r) T) 128 rfl, sub_eq_add_neg]
  congr 1
  · rw [Finset.sum_mul]
    refine Finset.sum_congr rfl fun r _ => ?_
    have := r.isLt
    show (if _ then _ else _) * (if _ then _ else _) = _
    rw [Arr.rows_mod _ _ (by omega), Arr.rows_div _ _ (by omega), if_pos (by omega), if_pos (by omega)]
    ring
  · rw [Fin.sum_univ_succ, Finset.sum_eq_zero, add_zero]
    · show (if _ then _ else if _ then _ else _) * (if _ then _ else if _ then _ else _) = _
      rw [Arr.rows_mod _ _ (by simp), Arr.rows_div _ _ (by simp)]
      simp
    · intro r _
      have := r.isLt
      show _ * (if _ then _ else if _ then _ else _) = _
      rw [Arr.rows_mod _ _ (by simp; omega), if_neg (by simp), if_neg (by simp; omega), mul_zero]

theorem vd_eq (H U T : ℕ) : G.arr.vd H U T = G.g H T U - G.delta H T := by
  unfold Arr.vd
  rw [sum_split 64 64 (fun r => G.arr.V U (128 * H + r) * G.arr.D (128 * H + r) T) 128 rfl, sub_eq_add_neg]
  congr 1
  · refine Finset.sum_congr rfl fun r _ => ?_
    have := r.isLt
    show (if _ then _ else _) * (if _ then _ else _) = _
    rw [Arr.rows_mod _ _ (by omega), Arr.rows_div _ _ (by omega), if_pos (by omega), if_pos (by omega), mul_comm]
  · rw [Fin.sum_univ_succ, Finset.sum_eq_zero, add_zero]
    · show (if _ then _ else if _ then _ else _) * (if _ then _ else if _ then _ else _) = _
      rw [Arr.rows_mod _ _ (by simp), Arr.rows_div _ _ (by simp)]
      simp
    · intro r _
      have := r.isLt
      show _ * (if _ then _ else if _ then _ else _) = _
      rw [Arr.rows_mod _ _ (by simp; omega), if_neg (by simp), if_neg (by simp; omega), mul_zero]

theorem pm_eq (H U T : ℕ) (hT : T < 8192) : G.arr.pm H U T = G.P H T U := by
  unfold Arr.pm P e
  split
  · have l := log2_pos.ne'
    have d := G.den_pos H T hT
    refine Eq.trans (b := (2 : ℝ) ^ (G.arr.pr H U T)) rfl ?_
    rw [Real.rpow_def_of_pos (by norm_num), G.pr_eq, lse, show Real.log 2 * ((∑ e : Fin 96, G.q T H e.val * G.k U H e.val) * (sc / Real.log 2)
      - (G.mx H T + Real.log (G.den H T)) / Real.log 2) = G.s H T U - G.mx H T - Real.log (G.den H T) by unfold s; field_simp; ring,
      Real.exp_sub, Real.exp_log d]
  · rw [zero_div]

theorem gm_eq (H U T : ℕ) (hT : T < 8192) : G.arr.gm H U T = G.W H T U := by
  unfold Arr.gm W
  rw [G.pm_eq H U T hT, G.vd_eq]

theorem DQ_eq (R T : ℕ) (hT : T < 8192) : G.arr.DQ 8192 R T * sc = G.outQ R T := by
  unfold Arr.DQ outQ
  split
  · rename_i h
    rw [Finset.sum_range]
    congr 1
    refine Finset.sum_congr rfl fun U _ => ?_
    rw [G.gm_eq _ _ _ hT, mul_comm]
    show _ * (if _ then _ else _) = _
    rw [if_pos h]
  · exact zero_mul _

theorem DK_eq (R U : ℕ) : G.arr.DK 8192 R U * Real.log 2 = G.outK R U := by
  unfold Arr.DK outK
  split
  · rename_i h
    have l := log2_pos.ne'
    rw [Finset.sum_range, Finset.sum_mul, Finset.sum_mul]
    refine Finset.sum_congr rfl fun T _ => ?_
    rw [G.gm_eq _ _ _ T.isLt]
    show (if _ then _ else _) * _ * _ = _
    rw [if_pos h]
    field_simp
  · exact zero_mul _

theorem DV_eq (R U : ℕ) : G.arr.DV 8192 R U = G.outV R U := by
  unfold Arr.DV outV
  split
  · rename_i h
    rw [Finset.sum_range]
    refine Finset.sum_congr rfl fun T _ => ?_
    rw [G.pm_eq _ _ _ T.isLt, mul_comm]
    show _ * (if _ then _ else _) = _
    rw [if_pos h]
  · rfl

end Given

end Cert.MlaK
-- ==== Proof.Mla.Host.lean ====
module

public import proofs.«01_k».proof.Proof.Mla.Math
public import proofs.«01_k».proof.Proof.Mla.Launch
public import Idealize.ShloMosaic.Lib.Claim

/-! The lines before the call: the scores, the weights' sums, the saved values, and the five arrays the call finds. -/

@[expose] public section

set_option maxRecDepth 16384

noncomputable section

namespace Cert.MlaK

open Idealize.ShloMosaic Idealize.ShloMosaic.TcCoe Idealize.SL.Sem Cert.MlaIdeal Cert.MlaIdeal.Gen Cert.Reals

namespace Given

variable (G : Given)

/-- The step's arrays. -/
abbrev Qn : FVec Ideal S1x8192x8x64 .f32 := fun i => ((G.qn (i 1).val (i 2).val (i 3).val : ℝ) : EReal)
/-- The step's arrays. -/
abbrev Qr : FVec Ideal S1x8192x8x32 .f32 := fun i => ((G.qr (i 1).val (i 2).val (i 3).val : ℝ) : EReal)
/-- The step's arrays. -/
abbrev Kn : FVec Ideal S1x8192x8x64 .f32 := fun i => ((G.kn (i 1).val (i 2).val (i 3).val : ℝ) : EReal)
/-- The step's arrays. -/
abbrev Kr : FVec Ideal S1x8192x32 .f32 := fun i => ((G.kr (i 1).val (i 2).val : ℝ) : EReal)
/-- The step's arrays. -/
abbrev Vv : FVec Ideal S1x8192x8x64 .f32 := fun i => ((G.v (i 1).val (i 2).val (i 3).val : ℝ) : EReal)
/-- The step's arrays. -/
abbrev Ct : FVec Ideal S1x8192x8x64 .f32 := fun i => ((G.ct (i 1).val (i 2).val (i 3).val : ℝ) : EReal)

end Given

/-- A block of real numbers with three axes. -/
abbrev up3 {n k l : ℕ} (f : ℕ → ℕ → ℕ → ℝ) : FVec Ideal ⟨3, ![n, k, l]⟩ .f32 := fun i => ((f (i 0).val (i 1).val (i 2).val : ℝ) : EReal)

/-- The arguments hold the arrays `G`. -/
structure Given.Holds (G : Given) (σ : Valuation τ sig (Elt Ideal)) : Prop where
  qn : σ (Proc.devRef .tc main_arg0) = G.Qn
  qr : σ (Proc.devRef .tc main_arg1) = G.Qr
  kn : σ (Proc.devRef .tc main_arg2) = G.Kn
  kr : σ (Proc.devRef .tc main_arg3) = G.Kr
  v : σ (Proc.devRef .tc main_arg4) = G.Vv
  ct : σ (Proc.devRef .tc main_arg5) = G.Ct

theorem lit_sc : Ideal.ofBits .f32 0x3DD105EC#32 = ((sc : ℝ) : EReal) := by
  unfold sc; simp [Ideal.ofBits, Ideal.ieee, -EReal.coe_mul]; norm_num

theorem lit_bot : Ideal.ofBits .f32 0xFF800000#32 = ⊥ := by simp [Ideal.ofBits, Ideal.ieee]

variable {G : Given} {σ : Valuation τ sig (Elt Ideal)}

theorem pick (n : ℕ) (a b : ℝ) (e : ℕ) : (if h : e < n then ((a : ℝ) : EReal) else ((b : ℝ) : EReal)) = ((if e < n then a else b : ℝ) : EReal) := by
  split <;> rfl

theorem host_k (h : Given.Holds G σ) : StableHlo.after hostOps0 σ (Proc.devRef .tc main_v4) = (up3 fun U h e => G.k U h e : FVec Ideal S8192x8x96 .f32) := by
  funext i
  entry_read
  rw [h.kn, h.kr]
  pointwise
  exact pick 64 (G.kn (i 0).val (i 1).val (i 2).val) (G.kr (i 0).val ((i 2).val - 64)) (i 2).val

theorem host_q (h : Given.Holds G σ) : StableHlo.after hostOps0 σ (Proc.devRef .tc main_v7) = (up3 fun T h e => G.q T h e : FVec Ideal S8192x8x96 .f32) := by
  funext i
  entry_read
  rw [h.qn, h.qr]
  pointwise
  exact pick 64 (G.qn (i 0).val (i 1).val (i 2).val) (G.qr (i 0).val (i 1).val ((i 2).val - 64)) (i 2).val

theorem host_17 : StableHlo.after hostOps0 σ (Proc.devRef .tc main_v17) = fun i => IntOp.cmpi .sle (BitVec.ofNat 32 (i 1).val) (BitVec.ofNat 32 (i 0).val) := by
  funext i
  entry_read
  pointwise

theorem host_c1 : StableHlo.after hostOps0 σ (Proc.devRef .tc main_cst_1) = fun _ => (⊥ : EReal) := by
  funext i
  entry_read
  pointwise
  exact lit_bot

/-- The product of two blocks of real numbers with a common middle axis. -/
theorem dots (q k : ℕ → ℕ → ℕ → ℝ) (q' k' : FVec Ideal S8192x8x96 .f32) (hq : q' = up3 q) (hk : k' = up3 k) (i : S8x8192x8192.Idx) :
    Host.dotGeneral dot_S8192x8x96_S8192x8x96_S8x8192x8192_2_2_0_0_1_1 none q' k' i = ((∑ e : Fin 96, q (i 1).val (i 0).val e.val * k (i 2).val (i 0).val e.val : ℝ) : EReal) := by
  subst hq hk
  pointwise [← EReal.coe_mul, coe_sum]

theorem host_s (h : Given.Holds G σ) : StableHlo.after hostOps0 σ (Proc.devRef .tc main_v10) = (up3 fun h T U => G.s h T U : FVec Ideal S8x8192x8192 .f32) := by
  funext i
  have hk := host_k h
  have hq := host_q h
  revert hk hq
  entry_read
  intro hk hq
  refine (congrArg₂ (· * ·) (dots _ _ _ _ hq hk i) ?_).trans (EReal.coe_mul _ sc).symm
  exact lit_sc

theorem keep_v : StableHlo.after hostOps0 σ (Proc.devRef .tc main_arg4) = σ (Proc.devRef .tc main_arg4) := by entry_read; rfl
theorem keep_ct : StableHlo.after hostOps0 σ (Proc.devRef .tc main_arg5) = σ (Proc.devRef .tc main_arg5) := by entry_read; rfl
theorem keep_k : StableHlo.after hostOps0_1 σ (Proc.devRef .tc main_v4) = σ (Proc.devRef .tc main_v4) := by entry_read; rfl
theorem keep_q : StableHlo.after hostOps0_1 σ (Proc.devRef .tc main_v7) = σ (Proc.devRef .tc main_v7) := by entry_read; rfl
theorem keep_v' : StableHlo.after hostOps0_1 σ (Proc.devRef .tc main_arg4) = σ (Proc.devRef .tc main_arg4) := by entry_read; rfl
theorem keep_ct' : StableHlo.after hostOps0_1 σ (Proc.devRef .tc main_arg5) = σ (Proc.devRef .tc main_arg5) := by entry_read; rfl

theorem hidden {a b : ℕ} (ha : a < 2 ^ 31) (hb : b < 2 ^ 31) (x : EReal) :
    Scalar.select (IntOp.cmpi .sle (BitVec.ofNat 32 a) (BitVec.ofNat 32 b)) x ⊥ = if a ≤ b then x else ⊥ := by
  by_cases h : a ≤ b
  · rw [(WordCmp.cmpi_sle_ofNat_eq_one_iff (w := 32) ha hb).2 h, if_pos h]; rfl
  · rw [(WordCmp.cmpi_sle_ofNat_eq_zero_iff (w := 32) ha hb).2 h, if_neg h]; rfl

theorem host_18 (h17 : σ (Proc.devRef .tc main_v17) = fun i => IntOp.cmpi .sle (BitVec.ofNat 32 (i 1).val) (BitVec.ofNat 32 (i 0).val))
    (hc : σ (Proc.devRef .tc main_cst_1) = fun _ => (⊥ : EReal)) (hs : σ (Proc.devRef .tc main_v10) = (up3 fun h T U => G.s h T U : FVec Ideal S8x8192x8192 .f32)) :
    StableHlo.after hostOps0_1 σ (Proc.devRef .tc main_v18) = fun i => G.sE (i 0).val (i 1).val (i 2).val := by
  funext i
  entry_read
  rw [h17, hc, hs]
  have h1 : (i 1).val < 8192 := (i 1).isLt
  have h2 : (i 2).val < 8192 := (i 2).isLt
  exact hidden (a := (i 2).val) (b := (i 1).val) (by omega) (by omega) ((G.s (i 0).val (i 1).val (i 2).val : ℝ) : EReal)

/-- The masked scores as an array. -/
abbrev Given.SE (G : Given) : FVec Ideal S8x8192x8192 .f32 := fun i => G.sE (i 0).val (i 1).val (i 2).val
/-- The first lines after the masked scores: up to the rows' sums. -/
def linesA : List (HloOp τ sig (Elt Ideal)) := hostOps0_2.take 8
/-- Up to the saved values. -/
def linesB : List (HloOp τ sig (Elt Ideal)) := (hostOps0_2.drop 8).take 16
/-- The packing. -/
def linesC : List (HloOp τ sig (Elt Ideal)) := hostOps0_2.drop 24

theorem lines_split (σ : Valuation τ sig (Elt Ideal)) : StableHlo.after hostOps0_2 σ = StableHlo.after linesC (StableHlo.after linesB (StableHlo.after linesA σ)) := rfl

theorem host_19 (h : σ (Proc.devRef .tc main_v18) = G.SE) :
    StableHlo.after linesA σ (Proc.devRef .tc main_v19) = (up2 .f32 fun h T => G.mx h T : FVec Ideal S8x8192 .f32) := by
  funext i
  unfold linesA
  simp only [List.take_succ_cons, List.take_zero]
  entry_read
  rw [h]
  pointwise
  rw [lit_bot]
  exact G.mx_eq (i 0).val (i 1).val (i 1).isLt

theorem host_23 (h : σ (Proc.devRef .tc main_v18) = G.SE) :
    StableHlo.after linesA σ (Proc.devRef .tc main_v23) = (up3 fun h T U => G.e h T U : FVec Ideal S8x8192x8192 .f32) := by
  have h19 := host_19 h
  revert h19
  unfold linesA
  simp only [List.take_succ_cons, List.take_zero]
  entry_read
  intro h19
  rw [h19, h]
  funext i
  pointwise
  exact G.exp_sE (i 0).val (i 1).val (i 2).val

theorem host_24 (h : σ (Proc.devRef .tc main_v18) = G.SE) :
    StableHlo.after linesA σ (Proc.devRef .tc main_v24) = (up2 .f32 fun h T => G.den h T : FVec Ideal S8x8192 .f32) := by
  have h23 := host_23 h
  revert h23
  unfold linesA
  simp only [List.take_succ_cons, List.take_zero]
  entry_read
  intro h23
  rw [h23]
  funext i
  pointwise [lit_zero, coe_sum, coe_zero_add]
  rfl

theorem host_29 (he : σ (Proc.devRef .tc main_v23) = (up3 fun h T U => G.e h T U : FVec Ideal S8x8192x8192 .f32))
    (hd : σ (Proc.devRef .tc main_v24) = (up2 .f32 fun h T => G.den h T : FVec Ideal S8x8192 .f32)) (hv : σ (Proc.devRef .tc main_arg4) = G.Vv) :
    StableHlo.after linesB σ (Proc.devRef .tc main_v29) = (up3 fun h T x => G.o h T x : FVec Ideal S8x8192x64 .f32) := by
  unfold linesB
  simp only [List.drop_succ_cons, List.drop_zero, List.take_succ_cons, List.take_zero]
  entry_read
  rw [he, hd, hv]
  funext i
  pointwise [← EReal.coe_mul, coe_sum]
  exact div_real (G.den_ne (i 0).val (i 1).val (i 1).isLt) _

theorem log_real {d : ℝ} (hd : 0 < d) : Ideal.log (d : EReal) = ((Real.log d : ℝ) : EReal) := if_neg (not_le.2 hd)

theorem lse_real {d : ℝ} (hd : 0 < d) (m : ℝ) : Ideal.div ((m : EReal) + Ideal.log (d : EReal)) (Ideal.log ((2 : ℝ) : EReal)) = (((m + Real.log d) / Real.log 2 : ℝ) : EReal) := by
  rw [log_real hd, log_real (by norm_num : (0 : ℝ) < 2), ← EReal.coe_add]
  exact div_real Given.log2_pos.ne' _

theorem host_34 (hm : σ (Proc.devRef .tc main_v19) = (up2 .f32 fun h T => G.mx h T : FVec Ideal S8x8192 .f32))
    (hd : σ (Proc.devRef .tc main_v24) = (up2 .f32 fun h T => G.den h T : FVec Ideal S8x8192 .f32)) :
    StableHlo.after linesB σ (Proc.devRef .tc main_v34) = (up2 .f32 fun h T => G.lse h T : FVec Ideal S8x8192 .f32) := by
  unfold linesB
  simp only [List.drop_succ_cons, List.drop_zero, List.take_succ_cons, List.take_zero]
  entry_read
  rw [hm, hd]
  funext i
  pointwise [lit_two]
  exact lse_real (G.den_pos (i 0).val (i 1).val (i 1).isLt) _

theorem host_38 (he : σ (Proc.devRef .tc main_v23) = (up3 fun h T U => G.e h T U : FVec Ideal S8x8192x8192 .f32))
    (hd : σ (Proc.devRef .tc main_v24) = (up2 .f32 fun h T => G.den h T : FVec Ideal S8x8192 .f32)) (hv : σ (Proc.devRef .tc main_arg4) = G.Vv)
    (hc : σ (Proc.devRef .tc main_arg5) = G.Ct) :
    StableHlo.after linesB σ (Proc.devRef .tc main_v38) = (up2 .f32 fun h T => G.delta h T : FVec Ideal S8x8192 .f32) := by
  have ho := host_29 he hd hv
  revert ho
  unfold linesB
  simp only [List.drop_succ_cons, List.drop_zero, List.take_succ_cons, List.take_zero]
  entry_read
  intro ho
  rw [ho, hc]
  funext i
  pointwise [lit_zero, ← EReal.coe_mul, coe_sum, coe_zero_add]
  rfl

theorem host_30 : StableHlo.after linesB σ (Proc.devRef .tc main_v30) = fun _ => ((Real.log 2 : ℝ) : EReal) := by
  unfold linesB
  simp only [List.drop_succ_cons, List.drop_zero, List.take_succ_cons, List.take_zero]
  entry_read
  funext i
  pointwise [lit_two]
  exact log_real (by norm_num)

end Cert.MlaK
-- ==== Proof.Mla.Finite.lean ====
module

public import proofs.«01_k».proof.Defs
public import proofs.«01_k».proof.Proof.Gen.Pre_finite_mla
public import proofs.«01_k».proof.Proof.Mla.Host

/-! What the precondition gives: the arguments are arrays of real numbers. -/

@[expose] public section

noncomputable section

namespace Cert.MlaK

open Idealize.ShloMosaic Idealize.ShloMosaic.TcCoe Cert.MlaIdeal Cert.Reals

/-- The real at an index of an array of four axes, the first of one element. -/
def real4 {n k l : ℕ} (hn : 0 < n) (hk : 0 < k) (hl : 0 < l) (x : FVec Ideal ⟨4, ![1, n, k, l]⟩ .f32) (a b c : ℕ) : ℝ :=
  EReal.toReal (x (ix4 0 ⟨a % n, Nat.mod_lt _ hn⟩ ⟨b % k, Nat.mod_lt _ hk⟩ ⟨c % l, Nat.mod_lt _ hl⟩))

theorem real4_eq {n k l : ℕ} (hn : 0 < n) (hk : 0 < k) (hl : 0 < l) {x : FVec Ideal ⟨4, ![1, n, k, l]⟩ .f32} (h : x = up fun i => (x i : EReal).toReal) :
    x = fun i => ((real4 hn hk hl x (i 1).val (i 2).val (i 3).val : ℝ) : EReal) := by
  refine h.trans (funext fun i => ?_)
  show ((EReal.toReal (x i) : ℝ) : EReal) = _
  unfold real4
  refine congrArg (fun z => ((EReal.toReal (x z) : ℝ) : EReal)) (funext fun a => ?_)
  match a with
  | ⟨0, _⟩ => exact Subsingleton.elim (α := Fin 1) _ _
  | ⟨1, _⟩ => exact Fin.ext (Nat.mod_eq_of_lt (i 1).isLt).symm
  | ⟨2, _⟩ => exact Fin.ext (Nat.mod_eq_of_lt (i 2).isLt).symm
  | ⟨3, _⟩ => exact Fin.ext (Nat.mod_eq_of_lt (i 3).isLt).symm

/-- The real at an index of an array of three axes, the first of one element. -/
def real3 {n k : ℕ} (hn : 0 < n) (hk : 0 < k) (x : FVec Ideal ⟨3, ![1, n, k]⟩ .f32) (a b : ℕ) : ℝ :=
  EReal.toReal (x (ix3 0 ⟨a % n, Nat.mod_lt _ hn⟩ ⟨b % k, Nat.mod_lt _ hk⟩))

theorem real3_eq {n k : ℕ} (hn : 0 < n) (hk : 0 < k) {x : FVec Ideal ⟨3, ![1, n, k]⟩ .f32} (h : x = up fun i => (x i : EReal).toReal) :
    x = fun i => ((real3 hn hk x (i 1).val (i 2).val : ℝ) : EReal) := by
  refine h.trans (funext fun i => ?_)
  show ((EReal.toReal (x i) : ℝ) : EReal) = _
  unfold real3
  refine congrArg (fun z => ((EReal.toReal (x z) : ℝ) : EReal)) (funext fun a => ?_)
  match a with
  | ⟨0, _⟩ => exact Subsingleton.elim (α := Fin 1) _ _
  | ⟨1, _⟩ => exact Fin.ext (Nat.mod_eq_of_lt (i 1).isLt).symm
  | ⟨2, _⟩ => exact Fin.ext (Nat.mod_eq_of_lt (i 2).isLt).symm

/-- The reals the arguments hold on device `c`. -/
def given (m : (ℓ : Loc nD τ sig) → Buf (Elt Ideal) ℓ) (c : Dev nD) : Given where
  qn := real4 (n := 8192) (k := 8) (l := 64) (by decide) (by decide) (by decide) (m ((c : Thread nD τ).loc main_arg0))
  qr := real4 (n := 8192) (k := 8) (l := 32) (by decide) (by decide) (by decide) (m ((c : Thread nD τ).loc main_arg1))
  kn := real4 (n := 8192) (k := 8) (l := 64) (by decide) (by decide) (by decide) (m ((c : Thread nD τ).loc main_arg2))
  kr := real3 (n := 8192) (k := 32) (by decide) (by decide) (m ((c : Thread nD τ).loc main_arg3))
  v := real4 (n := 8192) (k := 8) (l := 64) (by decide) (by decide) (by decide) (m ((c : Thread nD τ).loc main_arg4))
  ct := real4 (n := 8192) (k := 8) (l := 64) (by decide) (by decide) (by decide) (m ((c : Thread nD τ).loc main_arg5))

theorem at_given (m : (ℓ : Loc nD τ sig) → Buf (Elt Ideal) ℓ) (h : Pre_MlaIdeal_finite_mla m) (c : Dev nD) : Given.Holds (given m c) fun b => m (c, b) := by
  have e := congrFun (h c) (fun k => k.elim0)
  have ⟨e, e5⟩ := IntOp.andi_eq_one.mp e
  have ⟨e, e4⟩ := IntOp.andi_eq_one.mp e
  have ⟨e, e3⟩ := IntOp.andi_eq_one.mp e
  have ⟨e, e2⟩ := IntOp.andi_eq_one.mp e
  have ⟨e0, e1⟩ := IntOp.andi_eq_one.mp e
  exact ⟨real4_eq (by decide) (by decide) (by decide) (real_of_finite _ _ _ _ _ e0), real4_eq (by decide) (by decide) (by decide) (real_of_finite _ _ _ _ _ e1), real4_eq (by decide) (by decide) (by decide) (real_of_finite _ _ _ _ _ e2), real3_eq (by decide) (by decide) (real_of_finite _ _ _ _ _ e3), real4_eq (by decide) (by decide) (by decide) (real_of_finite _ _ _ _ _ e4), real4_eq (by decide) (by decide) (by decide) (real_of_finite _ _ _ _ _ e5)⟩

end Cert.MlaK
-- ==== Proof.Mla.Put.lean ====
module

public import proofs.«01_k».proof.Proof.Mla.Sums

/-! Windows of blocks of real numbers, and blocks with four windows put. -/

@[expose] public section

set_option maxRecDepth 16384

noncomputable section

namespace Cert.MlaK

open Idealize.ShloMosaic Idealize.ShloMosaic.VecWindow Cert.MlaIdeal Cert.MlaIdeal.Gen

theorem window_up {n k a b : ℕ} (φ : FTy) (f : ℕ → ℕ → ℝ) (o : Fin 2 → ℕ) (inb : ∀ x, o x + (![a, b] : Fin 2 → ℕ) x ≤ (⟨2, ![n, k]⟩ : Shape).size x)
    (g : ℕ → ℕ → ℝ) (h : ∀ r < a, ∀ c < b, f (o 0 + r) (o 1 + c) = g r c) :
    window (s := ⟨2, ![n, k]⟩) (up2 φ f) o ![a, b] inb = (up2 φ g : FVec Ideal ⟨2, ![a, b]⟩ φ) := by
  funext y
  have h0 : (y 0).val < a := (y 0).isLt
  have h1 : (y 1).val < b := (y 1).isLt
  show ((f (o 0 + 1 * (y 0).val) (o 1 + 1 * (y 1).val) : ℝ) : EReal) = ((g (y 0).val (y 1).val : ℝ) : EReal)
  rw [one_mul, one_mul, h _ h0 _ h1]

theorem put4_up {k a b : ℕ} (f : ℕ → ℕ → ℝ) (o : ℕ) (g : Fin 4 → ℕ → ℕ → ℝ) (F : ℕ → ℕ → ℝ) (ha : a ≤ 128)
    (hin : ∀ h : Fin 4, ∀ r < a, ∀ c < b, F (128 * h.val + r) (o + c) = g h r c)
    (hout : ∀ ρ < 512, ∀ t < k, (a ≤ ρ % 128 ∨ t < o ∨ o + b ≤ t) → F ρ t = f ρ t) :
    put4 (s := ⟨2, ![512, k]⟩) (up2 .f32 f) ![a, b] (at_ · o) (fun h => (up2 .f32 (g h) : FVec Ideal ⟨2, ![a, b]⟩ .f32)) = (up2 .f32 F : FVec Ideal ⟨2, ![512, k]⟩ .f32) := by
  funext y
  have h0 : (y 0).val < 512 := (y 0).isLt
  have h1 : (y 1).val < k := (y 1).isLt
  have key (h : Fin 4) (hh : ∀ x, at_ h o x ≤ (y x).val ∧ (y x).val < at_ h o x + (![a, b] : Fin 2 → ℕ) x) :
      (up2 .f32 (g h) : FVec Ideal ⟨2, ![a, b]⟩ .f32) (Rect.unitLocal (s := ⟨2, ![512, k]⟩) (off := at_ h o) (size := ![a, b]) y hh)
        = ((F (y 0).val (y 1).val : ℝ) : EReal) := by
    have e0 : 128 * h.val ≤ (y 0).val ∧ (y 0).val < 128 * h.val + a := hh 0
    have e1 : o ≤ (y 1).val ∧ (y 1).val < o + b := hh 1
    show ((g h ((y 0).val - 128 * h.val) ((y 1).val - o) : ℝ) : EReal) = _
    rw [← hin h _ (by omega) _ (by omega)]
    congr 2 <;> omega
  unfold put4 put
  split_ifs with h3 h2 h1' h0'
  · exact key 3 h3
  · exact key 2 h2
  · exact key 1 h1'
  · exact key 0 h0'
  · show ((f (y 0).val (y 1).val : ℝ) : EReal) = ((F (y 0).val (y 1).val : ℝ) : EReal)
    rw [hout _ h0 _ h1]
    by_contra hn
    have hr : (y 0).val % 128 < a ∧ o ≤ (y 1).val ∧ (y 1).val < o + b := by omega
    have out (h : Fin 4) (e : (y 0).val / 128 = h.val) : ∀ x, at_ h o x ≤ (y x).val ∧ (y x).val < at_ h o x + (![a, b] : Fin 2 → ℕ) x := by
      intro x
      fin_cases x
      · show 128 * h.val ≤ (y 0).val ∧ (y 0).val < 128 * h.val + a
        omega
      · exact hr.2
    have hq : (y 0).val / 128 = 0 ∨ (y 0).val / 128 = 1 ∨ (y 0).val / 128 = 2 ∨ (y 0).val / 128 = 3 := by omega
    rcases hq with e | e | e | e
    · exact h0' (out 0 e)
    · exact h1' (out 1 e)
    · exact h2 (out 2 e)
    · exact h3 (out 3 e)

end Cert.MlaK
-- ==== Proof.Mla.Walk.lean ====
module

public import proofs.«01_k».proof.Proof.Mla.Put
public import proofs.«01_k».proof.Proof.Mla.Body

/-! What each pair makes of the sums when the blocks hold real numbers. -/

@[expose] public section

set_option maxRecDepth 16384

noncomputable section

namespace Cert.MlaK

open Idealize.ShloMosaic Idealize.ShloMosaic.VecWindow Cert.MlaIdeal Cert.MlaIdeal.Gen

variable (A : Arr)

/-- The blocks of group `g` at pair `(j, i)`. -/
def insOf (g j i : ℕ) : Ins Ideal where
  qt := up2 .bf16 fun ρ t => A.Q (512 * g + ρ) (1024 * i + t)
  dt := up2 .bf16 fun ρ t => A.D (512 * g + ρ) (1024 * i + t)
  kb := up2 .bf16 fun u ρ => A.K (512 * j + u) (512 * g + ρ)
  kt := up2 .bf16 fun ρ u => A.T (512 * g + ρ) (512 * j + u)
  vb := up2 .bf16 fun u ρ => A.V (512 * j + u) (512 * g + ρ)

variable (g j i : ℕ) (h : Fin 4)

theorem row_eq (r : ℕ) : 512 * g + (128 * h.val + r) = 128 * (4 * g + h.val) + r := by omega

theorem kw_eq : kw (insOf A g j i) h = up2 .bf16 (A.bk j (4 * g + h.val)) :=
  window_up .bf16 (fun u ρ => A.K (512 * j + u) (512 * g + ρ)) (col h) (in_kb h) (A.bk j (4 * g + h.val)) fun u _ r _ => by
    show A.K (512 * j + (0 + u)) (512 * g + (128 * h.val + r)) = _
    rw [row_eq, zero_add]; rfl
theorem vw_eq : vw (insOf A g j i) h = up2 .bf16 (A.bv j (4 * g + h.val)) :=
  window_up .bf16 (fun u ρ => A.V (512 * j + u) (512 * g + ρ)) (col h) (in_kb h) (A.bv j (4 * g + h.val)) fun u _ r _ => by
    show A.V (512 * j + (0 + u)) (512 * g + (128 * h.val + r)) = _
    rw [row_eq, zero_add]; rfl
theorem tw_eq : tw (insOf A g j i) h = up2 .bf16 (A.bt j (4 * g + h.val)) :=
  window_up .bf16 (fun ρ u => A.T (512 * g + ρ) (512 * j + u)) (at_ h 0) (in_96 h) (A.bt j (4 * g + h.val)) fun r _ u _ => by
    show A.T (512 * g + (128 * h.val + r)) (512 * j + (0 + u)) = _
    rw [row_eq, zero_add]; rfl
theorem qw_eq : qw (insOf A g j i) h = up2 .bf16 (A.bq (1024 * i) (4 * g + h.val)) :=
  window_up .bf16 (fun ρ t => A.Q (512 * g + ρ) (1024 * i + t)) (at_ h 0) (in_qt h) (A.bq (1024 * i) (4 * g + h.val)) fun r _ t _ => by
    show A.Q (512 * g + (128 * h.val + r)) (1024 * i + (0 + t)) = _
    rw [row_eq, zero_add]; rfl
theorem qw96_eq : qw96 (insOf A g j i) h = up2 .bf16 (A.bq (1024 * i) (4 * g + h.val)) :=
  window_up .bf16 (fun ρ t => A.Q (512 * g + ρ) (1024 * i + t)) (at_ h 0) (in_qt96 h) (A.bq (1024 * i) (4 * g + h.val)) fun r _ t _ => by
    show A.Q (512 * g + (128 * h.val + r)) (1024 * i + (0 + t)) = _
    rw [row_eq, zero_add]; rfl
theorem dw_eq : dw (insOf A g j i) h = up2 .bf16 (A.bd (1024 * i) (4 * g + h.val)) :=
  window_up .bf16 (fun ρ t => A.D (512 * g + ρ) (1024 * i + t)) (at_ h 0) (in_qt h) (A.bd (1024 * i) (4 * g + h.val)) fun r _ t _ => by
    show A.D (512 * g + (128 * h.val + r)) (1024 * i + (0 + t)) = _
    rw [row_eq, zero_add]; rfl
theorem dw64_eq : dw64 (insOf A g j i) h = up2 .bf16 (A.bd (1024 * i) (4 * g + h.val)) :=
  window_up .bf16 (fun ρ t => A.D (512 * g + ρ) (1024 * i + t)) (at_ h 0) (in_qt64 h) (A.bd (1024 * i) (4 * g + h.val)) fun r _ t _ => by
    show A.D (512 * g + (128 * h.val + r)) (1024 * i + (0 + t)) = _
    rw [row_eq, zero_add]; rfl
theorem ql_eq : ql (insOf A g j i) h = up2 .bf16 (A.bq (1024 * i + 512) (4 * g + h.val)) :=
  window_up .bf16 (fun ρ t => A.Q (512 * g + ρ) (1024 * i + t)) (at_ h 512) (in_ql h) (A.bq (1024 * i + 512) (4 * g + h.val)) fun r _ t _ => by
    show A.Q (512 * g + (128 * h.val + r)) (1024 * i + (512 + t)) = _
    rw [row_eq, ← Nat.add_assoc]; rfl
theorem ql96_eq : ql96 (insOf A g j i) h = up2 .bf16 (A.bq (1024 * i + 512) (4 * g + h.val)) :=
  window_up .bf16 (fun ρ t => A.Q (512 * g + ρ) (1024 * i + t)) (at_ h 512) (in_ql96 h) (A.bq (1024 * i + 512) (4 * g + h.val)) fun r _ t _ => by
    show A.Q (512 * g + (128 * h.val + r)) (1024 * i + (512 + t)) = _
    rw [row_eq, ← Nat.add_assoc]; rfl
theorem dl_eq : dl (insOf A g j i) h = up2 .bf16 (A.bd (1024 * i + 512) (4 * g + h.val)) :=
  window_up .bf16 (fun ρ t => A.D (512 * g + ρ) (1024 * i + t)) (at_ h 512) (in_ql h) (A.bd (1024 * i + 512) (4 * g + h.val)) fun r _ t _ => by
    show A.D (512 * g + (128 * h.val + r)) (1024 * i + (512 + t)) = _
    rw [row_eq, ← Nat.add_assoc]; rfl
theorem dl64_eq : dl64 (insOf A g j i) h = up2 .bf16 (A.bd (1024 * i + 512) (4 * g + h.val)) :=
  window_up .bf16 (fun ρ t => A.D (512 * g + ρ) (1024 * i + t)) (at_ h 512) (in_ql64 h) (A.bd (1024 * i + 512) (4 * g + h.val)) fun r _ t _ => by
    show A.D (512 * g + (128 * h.val + r)) (1024 * i + (512 + t)) = _
    rw [row_eq, ← Nat.add_assoc]; rfl

/-- The key gradient of group `g` and key tile `j`, over the first `n` queries. -/
abbrev dkUp (n : ℕ) : FVec Ideal S512x512 .f32 := up2 .f32 fun ρ u => A.DK n (512 * g + ρ) (512 * j + u)
/-- The value gradient of the same. -/
abbrev dvUp (n : ℕ) : FVec Ideal S512x512 .f32 := up2 .f32 fun ρ u => A.DV n (512 * g + ρ) (512 * j + u)
/-- The query gradient of group `g` before pair `(j, i)`. -/
abbrev dqUp : FVec Ideal S512x8192 .f32 := up2 .f32 fun ρ T => A.DQat j i (512 * g + ρ) T

theorem head_dk (hj : i * 2 = j) (f : ℕ → ℕ → ℝ) : put4 (s := S512x512) (up2 .f32 f : FVec Ideal S512x512 .f32) S128x512.size (at_ · 0) (headK (insOf A g j i)) = dkUp A g j (1024 * (i + 1)) := by
  have e (h : Fin 4) : headK (insOf A g j i) h = up2 .f32 (cut 96 (rowsum 1024 (A.bq (512 * j) (4 * g + h.val)) (gradD (A.bk j (4 * g + h.val)) (A.bq (512 * j) (4 * g + h.val)) (A.bv j (4 * g + h.val)) (A.bd (512 * j) (4 * g + h.val))))) := by
    rw [headK, kw_eq, qw_eq, vw_eq, dw_eq, qw96_eq, pay_13, pay_16, show 1024 * i = 512 * j by omega]
  rw [funext e]
  refine put4_up f 0 _ _ (by omega) (fun h r hr u _ => ?_) fun ρ hρ t ht ho => by omega
  rw [row_eq, zero_add, ← A.DK_diag _ _ _ _ _ hr, show 1024 * (i + 1) = 512 * j + 1024 by omega]

theorem head_dv (hj : i * 2 = j) (f : ℕ → ℕ → ℝ) : put4 (s := S512x512) (up2 .f32 f : FVec Ideal S512x512 .f32) S128x512.size (at_ · 0) (headV (insOf A g j i)) = dvUp A g j (1024 * (i + 1)) := by
  have e (h : Fin 4) : headV (insOf A g j i) h = up2 .f32 (cut 64 (rowsum 1024 (A.bd (512 * j) (4 * g + h.val)) (wtD (A.bk j (4 * g + h.val)) (A.bq (512 * j) (4 * g + h.val))))) := by
    rw [headV, kw_eq, qw_eq, dw64_eq, pay_14, pay_15, show 1024 * i = 512 * j by omega]
  rw [funext e]
  refine put4_up f 0 _ _ (by omega) (fun h r hr u _ => ?_) fun ρ hρ t ht ho => by omega
  rw [row_eq, zero_add, ← A.DV_diag _ _ _ _ _ hr, show 1024 * (i + 1) = 512 * j + 1024 by omega]

theorem head_dq (hj : i * 2 = j) (hi : i < 8) : (put4 (s := S512x8192) (dqUp A g j i) S96x1024.size (at_ · (1024 * i)) fun h =>
    headQ (insOf A g j i) h (window (dqUp A g j i) (at_ h (1024 * i)) S96x1024.size (in_dq i hi h))) = dqUp A g j (i + 1) := by
  have w (h : Fin 4) : window (dqUp A g j i) (at_ h (1024 * i)) S96x1024.size (in_dq i hi h)
      = up2 .f32 (fun r t => A.DQ (512 * j) (128 * (4 * g + h.val) + r) (512 * j + t)) :=
    window_up .f32 _ _ (in_dq i hi h) _ fun r _ t ht => by
      show A.DQat j i (512 * g + (128 * h.val + r)) (1024 * i + t) = _
      rw [row_eq, Arr.DQat, if_neg (by omega), show 1024 * i = 512 * j by omega, Nat.add_zero]
  have e (h : Fin 4) : headQ (insOf A g j i) h (window (dqUp A g j i) (at_ h (1024 * i)) S96x1024.size (in_dq i hi h))
      = up2 .f32 (fun r t => A.DQ (512 * j) (128 * (4 * g + h.val) + r) (512 * j + t) + colsum (A.bt j (4 * g + h.val)) (gradD (A.bk j (4 * g + h.val)) (A.bq (512 * j) (4 * g + h.val)) (A.bv j (4 * g + h.val)) (A.bd (512 * j) (4 * g + h.val))) r t) := by
    rw [w, headQ, kw_eq, qw_eq, vw_eq, dw_eq, tw_eq, pay_12, pay_17, show 1024 * i = 512 * j by omega]
  rw [funext e]
  refine put4_up _ _ _ _ (by omega) (fun h r hr t ht => ?_) fun ρ hρ t ht ho => ?_
  · rw [row_eq, Arr.DQat, if_pos (by omega), show 1024 * i = 512 * j by omega]
    exact A.DQ_diag _ _ _ _ hr
  · by_cases hr : ρ % 128 < 96
    · unfold Arr.DQat
      by_cases hl : t / 1024 < i
      · rw [if_pos hl, if_pos (by omega)]
      · rw [if_neg hl, if_neg (by omega)]
    · rw [Arr.DQat, Arr.DQat, A.DQ_out _ _ _ (by omega), A.DQ_out _ _ _ (by omega)]

theorem tail_dk (hj : i * 2 + 1 = j) (f : ℕ → ℕ → ℝ) : put4 (s := S512x512) (up2 .f32 f : FVec Ideal S512x512 .f32) S128x512.size (at_ · 0) (tailK (insOf A g j i)) = dkUp A g j (1024 * (i + 1)) := by
  have e (h : Fin 4) : tailK (insOf A g j i) h = up2 .f32 (cut 96 (rowsum 512 (A.bq (512 * j) (4 * g + h.val)) (gradD (A.bk j (4 * g + h.val)) (A.bq (512 * j) (4 * g + h.val)) (A.bv j (4 * g + h.val)) (A.bd (512 * j) (4 * g + h.val))))) := by
    rw [tailK, kw_eq, ql_eq, vw_eq, dl_eq, ql96_eq, pay_42, pay_45, show 1024 * i + 512 = 512 * j by omega]
  rw [funext e]
  refine put4_up f 0 _ _ (by omega) (fun h r hr u _ => ?_) fun ρ hρ t ht ho => by omega
  rw [row_eq, zero_add, ← A.DK_diag _ _ _ _ _ hr, show 1024 * (i + 1) = 512 * j + 512 by omega]

theorem tail_dv (hj : i * 2 + 1 = j) (f : ℕ → ℕ → ℝ) : put4 (s := S512x512) (up2 .f32 f : FVec Ideal S512x512 .f32) S128x512.size (at_ · 0) (tailV (insOf A g j i)) = dvUp A g j (1024 * (i + 1)) := by
  have e (h : Fin 4) : tailV (insOf A g j i) h = up2 .f32 (cut 64 (rowsum 512 (A.bd (512 * j) (4 * g + h.val)) (wtD (A.bk j (4 * g + h.val)) (A.bq (512 * j) (4 * g + h.val))))) := by
    rw [tailV, kw_eq, ql_eq, dl64_eq, pay_43, pay_44, show 1024 * i + 512 = 512 * j by omega]
  rw [funext e]
  refine put4_up f 0 _ _ (by omega) (fun h r hr u _ => ?_) fun ρ hρ t ht ho => by omega
  rw [row_eq, zero_add, ← A.DV_diag _ _ _ _ _ hr, show 1024 * (i + 1) = 512 * j + 512 by omega]

theorem tail_dq (hj : i * 2 + 1 = j) (hi : i < 8) : (put4 (s := S512x8192) (dqUp A g j i) S96x512.size (at_ · (1024 * i + 512)) fun h =>
    tailQ (insOf A g j i) h (window (dqUp A g j i) (at_ h (1024 * i + 512)) S96x512.size (in_dl i hi h))) = dqUp A g j (i + 1) := by
  have w (h : Fin 4) : window (dqUp A g j i) (at_ h (1024 * i + 512)) S96x512.size (in_dl i hi h)
      = up2 .f32 (fun r t => A.DQ (512 * j) (128 * (4 * g + h.val) + r) (512 * j + t)) :=
    window_up .f32 _ _ (in_dl i hi h) _ fun r _ t ht => by
      show A.DQat j i (512 * g + (128 * h.val + r)) (1024 * i + 512 + t) = _
      rw [row_eq, Arr.DQat, if_neg (by omega), show 1024 * i + 512 = 512 * j by omega, Nat.add_zero]
  have e (h : Fin 4) : tailQ (insOf A g j i) h (window (dqUp A g j i) (at_ h (1024 * i + 512)) S96x512.size (in_dl i hi h))
      = up2 .f32 (fun r t => A.DQ (512 * j) (128 * (4 * g + h.val) + r) (512 * j + t) + colsum (A.bt j (4 * g + h.val)) (gradD (A.bk j (4 * g + h.val)) (A.bq (512 * j) (4 * g + h.val)) (A.bv j (4 * g + h.val)) (A.bd (512 * j) (4 * g + h.val))) r t) := by
    rw [w, tailQ, kw_eq, ql_eq, vw_eq, dl_eq, tw_eq, pay_41, pay_46, show 1024 * i + 512 = 512 * j by omega]
  rw [funext e]
  refine put4_up _ _ _ _ (by omega) (fun h r hr t ht => ?_) fun ρ hρ t ht ho => ?_
  · rw [row_eq, Arr.DQat, if_pos (by omega), show 1024 * i + 512 = 512 * j by omega]
    exact A.DQ_diag _ _ _ _ hr
  · by_cases hr : ρ % 128 < 96
    · unfold Arr.DQat
      by_cases hl : t / 1024 < i
      · rw [if_pos hl, if_pos (by omega)]
      · by_cases hm : t / 1024 < i + 1
        · rw [if_neg hl, if_pos hm]
          exact A.DQ_end (512 * j) 512 _ _ (by omega)
        · rw [if_neg hl, if_neg hm]
    · rw [Arr.DQat, Arr.DQat, A.DQ_out _ _ _ (by omega), A.DQ_out _ _ _ (by omega)]

theorem full_dk (hj : j < i * 2) : (put4 (s := S512x512) (dkUp A g j (1024 * i)) S96x512.size (at_ · 0) fun h =>
    fullK (insOf A g j i) h (window (dkUp A g j (1024 * i)) (at_ h 0) S96x512.size (in_96 h))) = dkUp A g j (1024 * (i + 1)) := by
  have w (h : Fin 4) : window (dkUp A g j (1024 * i)) (at_ h 0) S96x512.size (in_96 h)
      = up2 .f32 (fun r u => A.DK (1024 * i) (128 * (4 * g + h.val) + r) (512 * j + u)) :=
    window_up .f32 _ _ (in_96 h) _ fun r _ u hu => by
      show A.DK (1024 * i) (512 * g + (128 * h.val + r)) (512 * j + (0 + u)) = _
      rw [row_eq, zero_add]
  have e (h : Fin 4) : fullK (insOf A g j i) h (window (dkUp A g j (1024 * i)) (at_ h 0) S96x512.size (in_96 h))
      = up2 .f32 (fun r u => A.DK (1024 * i) (128 * (4 * g + h.val) + r) (512 * j + u) + rowsum 1024 (A.bq (1024 * i) (4 * g + h.val)) (gradF (A.bk j (4 * g + h.val)) (A.bq (1024 * i) (4 * g + h.val)) (A.bv j (4 * g + h.val)) (A.bd (1024 * i) (4 * g + h.val))) r u) := by
    rw [w, fullK, kw_eq, qw_eq, vw_eq, dw_eq, qw96_eq, pay_71, pay_73]
  rw [funext e]
  refine put4_up _ _ _ _ (by omega) (fun h r hr u hu => ?_) fun ρ hρ t ht ho => ?_
  · rw [row_eq, zero_add]
    exact A.DK_full j (1024 * i) (4 * g + h.val) r u (by omega) hu hr
  · rw [A.DK_out _ _ _ (by omega), A.DK_out _ _ _ (by omega)]

theorem full_dv (hj : j < i * 2) : (put4 (s := S512x512) (dvUp A g j (1024 * i)) S64x512.size (at_ · 0) fun h =>
    fullV (insOf A g j i) h (window (dvUp A g j (1024 * i)) (at_ h 0) S64x512.size (in_64 h))) = dvUp A g j (1024 * (i + 1)) := by
  have w (h : Fin 4) : window (dvUp A g j (1024 * i)) (at_ h 0) S64x512.size (in_64 h)
      = up2 .f32 (fun r u => A.DV (1024 * i) (128 * (4 * g + h.val) + r) (512 * j + u)) :=
    window_up .f32 _ _ (in_64 h) _ fun r _ u hu => by
      show A.DV (1024 * i) (512 * g + (128 * h.val + r)) (512 * j + (0 + u)) = _
      rw [row_eq, zero_add]
  have e (h : Fin 4) : fullV (insOf A g j i) h (window (dvUp A g j (1024 * i)) (at_ h 0) S64x512.size (in_64 h))
      = up2 .f32 (fun r u => A.DV (1024 * i) (128 * (4 * g + h.val) + r) (512 * j + u) + rowsum 1024 (A.bd (1024 * i) (4 * g + h.val)) (wtF (A.bk j (4 * g + h.val)) (A.bq (1024 * i) (4 * g + h.val))) r u) := by
    rw [w, fullV, kw_eq, qw_eq, dw64_eq, pay_72]
  rw [funext e]
  refine put4_up _ _ _ _ (by omega) (fun h r hr u hu => ?_) fun ρ hρ t ht ho => ?_
  · rw [row_eq, zero_add]
    exact A.DV_full j (1024 * i) (4 * g + h.val) r u (by omega) hu hr
  · rw [A.DV_out _ _ _ (by omega), A.DV_out _ _ _ (by omega)]

theorem full_dq (hj : j < i * 2) (hi : i < 8) : (put4 (s := S512x8192) (dqUp A g j i) S96x1024.size (at_ · (1024 * i)) fun h =>
    fullQ (insOf A g j i) h (window (dqUp A g j i) (at_ h (1024 * i)) S96x1024.size (in_dq i hi h))) = dqUp A g j (i + 1) := by
  have w (h : Fin 4) : window (dqUp A g j i) (at_ h (1024 * i)) S96x1024.size (in_dq i hi h)
      = up2 .f32 (fun r t => A.DQ (512 * j) (128 * (4 * g + h.val) + r) (1024 * i + t)) :=
    window_up .f32 _ _ (in_dq i hi h) _ fun r _ t ht => by
      show A.DQat j i (512 * g + (128 * h.val + r)) (1024 * i + t) = _
      rw [row_eq, Arr.DQat, if_neg (by omega), Nat.add_zero]
  have e (h : Fin 4) : fullQ (insOf A g j i) h (window (dqUp A g j i) (at_ h (1024 * i)) S96x1024.size (in_dq i hi h))
      = up2 .f32 (fun r t => A.DQ (512 * j) (128 * (4 * g + h.val) + r) (1024 * i + t) + colsum (A.bt j (4 * g + h.val)) (gradF (A.bk j (4 * g + h.val)) (A.bq (1024 * i) (4 * g + h.val)) (A.bv j (4 * g + h.val)) (A.bd (1024 * i) (4 * g + h.val))) r t) := by
    rw [w, fullQ, kw_eq, qw_eq, vw_eq, dw_eq, tw_eq, pay_70, pay_74]
  rw [funext e]
  refine put4_up _ _ _ _ (by omega) (fun h r hr t ht => ?_) fun ρ hρ t ht ho => ?_
  · rw [row_eq, Arr.DQat, if_pos (by omega)]
    exact A.DQ_full _ _ _ _ _ (by omega) hr
  · by_cases hr : ρ % 128 < 96
    · unfold Arr.DQat
      by_cases hl : t / 1024 < i
      · rw [if_pos hl, if_pos (by omega)]
      · rw [if_neg hl, if_neg (by omega)]
    · rw [Arr.DQat, Arr.DQat, A.DQ_out _ _ _ (by omega), A.DQ_out _ _ _ (by omega)]

end Cert.MlaK
-- ==== Proof.Mla.Walked.lean ====
module

public import proofs.«01_k».proof.Proof.Mla.Walk
public import proofs.«01_k».proof.Proof.Mla.Sound

/-! The three sums after every pair of the walk, when the arrays hold real numbers. -/

@[expose] public section

set_option maxRecDepth 16384

noncomputable section

namespace Cert.MlaK

open Idealize.ShloMosaic Idealize.ShloMosaic.VecWindow Cert.MlaIdeal Cert.MlaIdeal.Gen
open Idealize.ShloMosaic.TcCoe Idealize.SL.Sem

variable (A : Arr)

theorem it_next : ∀ (n : Fin 72) (h : n.val + 1 < 72), it ⟨n.val + 1, h⟩ = if it n = 7 then (jt n + 1) / 2 else it n + 1 := by decide +kernel
theorem jt_next : ∀ (n : Fin 72) (h : n.val + 1 < 72), jt ⟨n.val + 1, h⟩ = if it n = 7 then jt n + 1 else jt n := by decide +kernel
theorem full_next : ∀ (n : Fin 72) (h : n.val + 1 < 72), isFull ⟨n.val + 1, h⟩ → ¬ it n = 7 := by
  intro n h hf e
  unfold isFull at hf
  rw [it_next n h, jt_next n h, if_pos e, if_pos e] at hf
  omega

/-- The sums after pair `n`, and the two blocks given back at a key tile's last pair. -/
structure Done (g : ℕ) (n : Fin 72) (s : St Ideal) : Prop where
  dq : s.dq = dqUp A g (jt n) (it n + 1)
  dk : s.dk = dkUp A g (jt n) (1024 * (it n + 1))
  dv : s.dv = dvUp A g (jt n) (1024 * (it n + 1))
  ok : it n = 7 → s.ok = (up2 .bf16 fun ρ u => A.DK 8192 (512 * g + ρ) (512 * jt n + u) * Real.log 2 : FVec Ideal S512x512 .bf16)
  ov : it n = 7 → s.ov = (up2 .bf16 fun ρ u => A.DV 8192 (512 * g + ρ) (512 * jt n + u) : FVec Ideal S512x512 .bf16)

theorem close_done (g : ℕ) (n : Fin 72) (s : St Ideal) (h1 : s.dq = dqUp A g (jt n) (it n + 1))
    (h2 : s.dk = dkUp A g (jt n) (1024 * (it n + 1))) (h3 : s.dv = dvUp A g (jt n) (1024 * (it n + 1))) : Done A g n (stClose n s) := by
  unfold stClose
  split
  · rename_i h
    refine ⟨h1, h2, h3, fun _ => ?_, fun _ => ?_⟩
    · show k0_pay8 s.dk = _
      rw [h2, pay_8, h]
    · show k0_pay9 s.dv = _
      rw [h3, pay_9, h]
  · rename_i h
    exact ⟨h1, h2, h3, fun e => absurd e h, fun e => absurd e h⟩

theorem zero_dq (g : ℕ) (n : Fin 72) (s : St Ideal) (h : n.val ≠ 0 → s.dq = dqUp A g (jt n) (it n)) : (stZero n s).dq = dqUp A g (jt n) (it n) := by
  unfold stZero
  split
  · rename_i e
    obtain rfl : n = 0 := Fin.ext e
    show k0_pay1 (F := Ideal) = _
    rw [pay_1, show jt 0 = 0 by decide +kernel, show it 0 = 0 by decide +kernel]
    funext i
    show ((0 : ℝ) : EReal) = ((A.DQ (512 * (0 + if (i 1).val / 1024 < 0 then 1 else 0)) _ _ : ℝ) : EReal)
    rw [if_neg (by omega), A.DQ_zero]
  · rename_i e
    exact h e

/-- A pair's sums, from those before it. -/
theorem step_done (g : ℕ) (n : Fin 72) (s : St Ideal) (hq : n.val ≠ 0 → s.dq = dqUp A g (jt n) (it n))
    (hf : isFull n → s.dk = dkUp A g (jt n) (1024 * it n) ∧ s.dv = dvUp A g (jt n) (1024 * it n)) :
    Done A g n (stStep n (insOf A g (jt n) (it n)) s) := by
  have z := zero_dq A g n s hq
  have zf : isFull n → (stZero n s).dk = dkUp A g (jt n) (1024 * it n) ∧ (stZero n s).dv = dvUp A g (jt n) (1024 * it n) := by
    intro h
    unfold stZero
    split <;> exact hf h
  unfold stStep
  generalize stZero n s = s' at z zf ⊢
  obtain ⟨dq, dk, dv, ok, ov⟩ := s'
  dsimp only at z zf
  subst z
  rcases kinds n with ⟨h1, h2, h3⟩ | ⟨h1, h2, h3⟩ | ⟨h1, h2, h3⟩
  · rw [stFull, if_neg h3, stTail, if_neg h2, stHead, if_pos h1]
    apply close_done
    · exact head_dq A g _ _ h1 (it_lt n)
    · exact (put4_cover _ _ _).trans (head_dk A g _ _ h1 fun _ _ => 0)
    · exact (put4_cover _ _ _).trans (head_dv A g _ _ h1 fun _ _ => 0)
  · rw [stFull, if_neg h3, stTail, if_pos h2, stHead, if_neg h1]
    apply close_done
    · exact tail_dq A g _ _ h2 (it_lt n)
    · exact (put4_cover _ _ _).trans (tail_dk A g _ _ h2 fun _ _ => 0)
    · exact (put4_cover _ _ _).trans (tail_dv A g _ _ h2 fun _ _ => 0)
  · rw [stFull, if_pos h3, stTail, if_neg h2, stHead, if_neg h1]
    obtain ⟨e1, e2⟩ := zf h3
    subst e1 e2
    apply close_done
    · exact full_dq A g _ _ h3 (it_lt n)
    · exact full_dk A g _ _ h3
    · exact full_dv A g _ _ h3

variable (m : (ℓ : Loc nD τ sig) → Buf (Elt Ideal) ℓ) (c : Dev nD)

/-- The blocks read at every point are those of the arrays `A`. -/
def Reads : Prop := ∀ t : Fin (cf Ideal).N, ins m c t = insOf A (t.val / 72) (jt (pairOf t)) (it (pairOf t))

/-- The sums after every point. -/
theorem walked (hI : Reads A m c) : ∀ (k : ℕ) (h : k < (cf Ideal).N), Done A (k / 72) (pairOf ⟨k, h⟩) (stAt m c k h) := by
  intro k
  induction k with
  | zero =>
    intro h
    have e : pairOf (F := Ideal) ⟨0, h⟩ = 0 := Fin.ext (pair_val ⟨0, h⟩)
    rw [stAt, hI]
    refine step_done A _ _ _ (fun n0 => ?_) (fun n0 => ?_)
    · rw [e] at n0; exact absurd rfl n0
    · rw [e] at n0; exact absurd n0 (by decide +kernel)
  | succ k ih =>
    intro h
    have hk : k < (cf Ideal).N := Nat.lt_of_succ_lt h
    have pv : (pairOf (F := Ideal) ⟨k + 1, h⟩).val = (k + 1) % 72 := pair_val ⟨k + 1, h⟩
    have pk : (pairOf (F := Ideal) ⟨k, hk⟩).val = k % 72 := pair_val ⟨k, hk⟩
    rw [stAt, hI]
    by_cases h0 : (pairOf (F := Ideal) ⟨k + 1, h⟩).val = 0
    · refine step_done A _ _ _ (fun n0 => absurd h0 n0) (fun n0 => ?_)
      rw [show pairOf (F := Ideal) ⟨k + 1, h⟩ = 0 from Fin.ext h0] at n0
      exact absurd n0 (by decide +kernel)
    · have hb : (pairOf (F := Ideal) ⟨k, hk⟩).val + 1 < 72 := by omega
      have e : pairOf (F := Ideal) ⟨k + 1, h⟩ = ⟨(pairOf (F := Ideal) ⟨k, hk⟩).val + 1, hb⟩ := Fin.ext (by show _ = _ + 1; omega)
      have d := ih hk
      rw [show (k + 1) / 72 = k / 72 by omega, e]
      generalize pairOf (F := Ideal) ⟨k, hk⟩ = n at hb d
      refine step_done A _ _ _ (fun _ => ?_) (fun hf => ?_)
      · rw [d.dq, it_next n hb, jt_next n hb]
        split
        · rename_i h7
          rw [h7]
          funext i
          show ((A.DQat _ _ _ _ : ℝ) : EReal) = ((A.DQat _ _ _ _ : ℝ) : EReal)
          rw [A.DQat_next _ _ _ (i 1).isLt]
        · rfl
      · have h7 := full_next n hb hf
        rw [it_next n hb, jt_next n hb, if_neg h7, if_neg h7]
        exact ⟨d.dk, d.dv⟩

end Cert.MlaK
-- ==== Proof.Mla.Arrays.lean ====
module

public import proofs.«01_k».proof.Proof.Mla.Walked
public import Idealize.ShloMosaic.Lib.Pipeline.ValueKit

/-! The three arrays the call gives back, and the blocks it reads. -/

@[expose] public section

set_option maxRecDepth 16384

noncomputable section

namespace Cert.MlaK

open Idealize.ShloMosaic Idealize.ShloMosaic.VecWindow Cert.MlaIdeal Cert.MlaIdeal.Gen
open Idealize.ShloMosaic.TcCoe Idealize.SL.Sem Idealize.ShloMosaic.Pipeline

variable (A : Arr) (m : (ℓ : Loc nD τ sig) → Buf (Elt Ideal) ℓ) (c : Dev nD)

theorem group : ∀ t : Fin grid0.N, (grid0.coords t 0).val = t.val / 72 := by decide +kernel

theorem covers_5 : ((cf Ideal).win 5).Covers := by decide +kernel

theorem place_0 (t : Fin (cf Ideal).N) (y : S512x1024.Idx) (a : Fin 2) :
    (((((cf Ideal).win 0).blk t).view.emb y : S1024x8192.Idx) a).val = (![(grid0.coords t 0).val, it (grid0.coords t 1)] : Fin 2 → ℕ) a * S512x1024.size a + 1 * (y a).val :=
  congrArg (fun f : Fin 2 → ℕ => f a * S512x1024.size a + 1 * (y a).val) (t0 (F := Ideal) (grid0.coords t))
theorem place_1 (t : Fin (cf Ideal).N) (y : S512x1024.Idx) (a : Fin 2) :
    (((((cf Ideal).win 1).blk t).view.emb y : S1024x8192.Idx) a).val = (![(grid0.coords t 0).val, it (grid0.coords t 1)] : Fin 2 → ℕ) a * S512x1024.size a + 1 * (y a).val :=
  congrArg (fun f : Fin 2 → ℕ => f a * S512x1024.size a + 1 * (y a).val) (t1 (F := Ideal) (grid0.coords t))
theorem place_2 (t : Fin (cf Ideal).N) (y : S512x512.Idx) (a : Fin 2) :
    (((((cf Ideal).win 2).blk t).view.emb y : S8192x1024.Idx) a).val = (![jt (grid0.coords t 1), (grid0.coords t 0).val] : Fin 2 → ℕ) a * S512x512.size a + 1 * (y a).val :=
  congrArg (fun f : Fin 2 → ℕ => f a * S512x512.size a + 1 * (y a).val) (t2 (F := Ideal) (grid0.coords t))
theorem place_3 (t : Fin (cf Ideal).N) (y : S512x512.Idx) (a : Fin 2) :
    (((((cf Ideal).win 3).blk t).view.emb y : S1024x8192.Idx) a).val = (![(grid0.coords t 0).val, jt (grid0.coords t 1)] : Fin 2 → ℕ) a * S512x512.size a + 1 * (y a).val :=
  congrArg (fun f : Fin 2 → ℕ => f a * S512x512.size a + 1 * (y a).val) (t3 (F := Ideal) (grid0.coords t))
theorem place_4 (t : Fin (cf Ideal).N) (y : S512x512.Idx) (a : Fin 2) :
    (((((cf Ideal).win 4).blk t).view.emb y : S8192x1024.Idx) a).val = (![jt (grid0.coords t 1), (grid0.coords t 0).val] : Fin 2 → ℕ) a * S512x512.size a + 1 * (y a).val :=
  congrArg (fun f : Fin 2 → ℕ => f a * S512x512.size a + 1 * (y a).val) (t4 (F := Ideal) (grid0.coords t))
theorem place_5 (t : Fin (cf Ideal).N) (y : S512x8192.Idx) (a : Fin 2) :
    (((((cf Ideal).win 5).blk t).view.emb y : S1024x8192.Idx) a).val = (![(grid0.coords t 0).val, 0] : Fin 2 → ℕ) a * S512x8192.size a + 1 * (y a).val :=
  congrArg (fun f : Fin 2 → ℕ => f a * S512x8192.size a + 1 * (y a).val) (index_5 (F := Ideal) t)
theorem place_6 (t : Fin (cf Ideal).N) (y : S512x512.Idx) (a : Fin 2) :
    (((((cf Ideal).win 6).blk t).view.emb y : S1024x8192.Idx) a).val = (![(grid0.coords t 0).val, jt (grid0.coords t 1)] : Fin 2 → ℕ) a * S512x512.size a + 1 * (y a).val :=
  congrArg (fun f : Fin 2 → ℕ => f a * S512x512.size a + 1 * (y a).val) (index_6 (F := Ideal) t)
theorem place_7 (t : Fin (cf Ideal).N) (y : S512x512.Idx) (a : Fin 2) :
    (((((cf Ideal).win 7).blk t).view.emb y : S1024x8192.Idx) a).val = (![(grid0.coords t 0).val, jt (grid0.coords t 1)] : Fin 2 → ℕ) a * S512x512.size a + 1 * (y a).val :=
  congrArg (fun f : Fin 2 → ℕ => f a * S512x512.size a + 1 * (y a).val) (index_7 (F := Ideal) t)

theorem mul_row (a b r : ℕ) : a * b + 1 * r = b * a + r := by rw [one_mul, Nat.mul_comm]

theorem block_0 (h : V m c main_v53 = (up2 .bf16 A.Q : FVec Ideal S1024x8192 .bf16)) (t : Fin (cf Ideal).N) :
    iblk m c 0 t = (insOf A (t.val / 72) (jt (pairOf t)) (it (pairOf t))).qt := by
  funext y
  refine (congrFun h ((((cf Ideal).win 0).blk t).view.emb y)).trans ?_
  refine congrArg (fun x : ℝ => (x : EReal)) (congr (congrArg A.Q ((place_0 t y 0).trans ?_)) ((place_0 t y 1).trans ?_))
  · exact (mul_row _ _ _).trans (congrArg (fun g => 512 * g + (y 0).val) (group t))
  · exact mul_row _ _ _

theorem block_1 (h : V m c main_v66 = (up2 .bf16 A.D : FVec Ideal S1024x8192 .bf16)) (t : Fin (cf Ideal).N) :
    iblk m c 1 t = (insOf A (t.val / 72) (jt (pairOf t)) (it (pairOf t))).dt := by
  funext y
  refine (congrFun h ((((cf Ideal).win 1).blk t).view.emb y)).trans ?_
  refine congrArg (fun x : ℝ => (x : EReal)) (congr (congrArg A.D ((place_1 t y 0).trans ?_)) ((place_1 t y 1).trans ?_))
  · exact (mul_row _ _ _).trans (congrArg (fun g => 512 * g + (y 0).val) (group t))
  · exact mul_row _ _ _

theorem block_2 (h : V m c main_v71 = (up2 .bf16 A.K : FVec Ideal S8192x1024 .bf16)) (t : Fin (cf Ideal).N) :
    iblk m c 2 t = (insOf A (t.val / 72) (jt (pairOf t)) (it (pairOf t))).kb := by
  funext y
  refine (congrFun h ((((cf Ideal).win 2).blk t).view.emb y)).trans ?_
  refine congrArg (fun x : ℝ => (x : EReal)) (congr (congrArg A.K ((place_2 t y 0).trans ?_)) ((place_2 t y 1).trans ?_))
  · exact mul_row _ _ _
  · exact (mul_row _ _ _).trans (congrArg (fun g => 512 * g + (y 1).val) (group t))

theorem block_3 (h : V m c main_v76 = (up2 .bf16 A.T : FVec Ideal S1024x8192 .bf16)) (t : Fin (cf Ideal).N) :
    iblk m c 3 t = (insOf A (t.val / 72) (jt (pairOf t)) (it (pairOf t))).kt := by
  funext y
  refine (congrFun h ((((cf Ideal).win 3).blk t).view.emb y)).trans ?_
  refine congrArg (fun x : ℝ => (x : EReal)) (congr (congrArg A.T ((place_3 t y 0).trans ?_)) ((place_3 t y 1).trans ?_))
  · exact (mul_row _ _ _).trans (congrArg (fun g => 512 * g + (y 0).val) (group t))
  · exact mul_row _ _ _

theorem block_4 (h : V m c main_v82 = (up2 .bf16 A.V : FVec Ideal S8192x1024 .bf16)) (t : Fin (cf Ideal).N) :
    iblk m c 4 t = (insOf A (t.val / 72) (jt (pairOf t)) (it (pairOf t))).vb := by
  funext y
  refine (congrFun h ((((cf Ideal).win 4).blk t).view.emb y)).trans ?_
  refine congrArg (fun x : ℝ => (x : EReal)) (congr (congrArg A.V ((place_4 t y 0).trans ?_)) ((place_4 t y 1).trans ?_))
  · exact mul_row _ _ _
  · exact (mul_row _ _ _).trans (congrArg (fun g => 512 * g + (y 1).val) (group t))

/-- The blocks read are those of the arrays, where the arrays the call finds hold `A`. -/
theorem reads (hQ : V m c main_v53 = (up2 .bf16 A.Q : FVec Ideal S1024x8192 .bf16)) (hD : V m c main_v66 = (up2 .bf16 A.D : FVec Ideal S1024x8192 .bf16))
    (hK : V m c main_v71 = (up2 .bf16 A.K : FVec Ideal S8192x1024 .bf16)) (hT : V m c main_v76 = (up2 .bf16 A.T : FVec Ideal S1024x8192 .bf16))
    (hV : V m c main_v82 = (up2 .bf16 A.V : FVec Ideal S8192x1024 .bf16)) : Reads A m c := by
  intro t
  unfold ins
  rw [block_0 A m c hQ t, block_1 A m c hD t, block_2 A m c hK t, block_3 A m c hT t, block_4 A m c hV t]

theorem covers_6 : ((cf Ideal).win 6).Covers := by decide +kernel
theorem covers_7 : ((cf Ideal).win 7).Covers := by decide +kernel

/-- A group's last pair is of the last key tile. -/
theorem last_pair : ∀ n : Fin 72, n.val = 71 → jt n = 15 ∧ it n = 7 := by decide +kernel

theorem arr_5 (hI : Reads A m c) : (dats m 0 c).arrAt 5 (cf Ideal).N = (up2 .f32 (A.DQ 8192) : FVec Ideal S1024x8192 .f32) := by
  refine (dats m 0 c).arrAt_eq_of_covers 5 _ covers_5 fun t hf y => ?_
  have hp : (pairOf (F := Ideal) t).val = 71 := (pair_val t).trans (of_decide_eq_true ((movesQ_iff t).symm.trans ((flush_5 (F := Ideal) t).symm.trans hf)))
  have hg : (grid0.coords t 0).val = t.val / 72 := group t
  obtain ⟨hj, hi⟩ := last_pair _ hp
  refine (congrFun (walked A m c hI t.val t.isLt).dq y).trans ?_
  show ((A.DQat (jt (pairOf t)) (it (pairOf t) + 1) (512 * (t.val / 72) + (y 0).val) (y 1).val : ℝ) : EReal) = ((A.DQ 8192 _ _ : ℝ) : EReal)
  rw [place_5 t y 0, place_5 t y 1, mul_row, mul_row, hj, hi, ← hg]
  show ((A.DQ (512 * (15 + if (y 1).val / 1024 < 8 then 1 else 0)) _ _ : ℝ) : EReal) = ((A.DQ 8192 (512 * (grid0.coords t 0).val + (y 0).val) (8192 * 0 + (y 1).val) : ℝ) : EReal)
  rw [if_pos (by have : (y 1).val < 8192 := (y 1).isLt; omega), Nat.mul_zero, Nat.zero_add]

theorem arr_6 (hI : Reads A m c) : (dats m 0 c).arrAt 6 (cf Ideal).N = (up2 .bf16 fun R U => A.DK 8192 R U * Real.log 2 : FVec Ideal S1024x8192 .bf16) := by
  refine (dats m 0 c).arrAt_eq_of_covers 6 _ covers_6 fun t hf y => ?_
  have hi : it (pairOf (F := Ideal) t) = 7 := of_decide_eq_true ((moves_iff t).symm.trans ((flush_6 (F := Ideal) t).symm.trans hf))
  have hg : (grid0.coords t 0).val = t.val / 72 := group t
  refine (congrFun ((walked A m c hI t.val t.isLt).ok hi) y).trans ?_
  show ((A.DK 8192 (512 * (t.val / 72) + (y 0).val) (512 * jt (pairOf t) + (y 1).val) * Real.log 2 : ℝ) : EReal) = ((A.DK 8192 _ _ * Real.log 2 : ℝ) : EReal)
  rw [place_6 t y 0, place_6 t y 1, mul_row, mul_row, ← hg]
  rfl

theorem arr_7 (hI : Reads A m c) : (dats m 0 c).arrAt 7 (cf Ideal).N = (up2 .bf16 fun R U => A.DV 8192 R U : FVec Ideal S1024x8192 .bf16) := by
  refine (dats m 0 c).arrAt_eq_of_covers 7 _ covers_7 fun t hf y => ?_
  have hi : it (pairOf (F := Ideal) t) = 7 := of_decide_eq_true ((moves_iff t).symm.trans ((flush_7 (F := Ideal) t).symm.trans hf))
  have hg : (grid0.coords t 0).val = t.val / 72 := group t
  refine (congrFun ((walked A m c hI t.val t.isLt).ov hi) y).trans ?_
  show ((A.DV 8192 (512 * (t.val / 72) + (y 0).val) (512 * jt (pairOf t) + (y 1).val) : ℝ) : EReal) = ((A.DV 8192 _ _ : ℝ) : EReal)
  rw [place_7 t y 0, place_7 t y 1, mul_row, mul_row, ← hg]
  rfl

end Cert.MlaK
-- ==== Proof.Mla.Pack.lean ====
module

public import proofs.«01_k».proof.Proof.Mla.Host

/-! The lines that pack the call's five arrays. -/

@[expose] public section

set_option maxRecDepth 16384

noncomputable section

namespace Cert.MlaK

open Idealize.ShloMosaic Idealize.ShloMosaic.TcCoe Idealize.SL.Sem Cert.MlaIdeal Cert.MlaIdeal.Gen Cert.Reals

variable {G : Given} {σ : Valuation τ sig (Elt Ideal)}

theorem picks4 (a b : ℝ) (e n m p : ℕ) :
    (if h : e < n then ((a : ℝ) : EReal) else if h : e - n < m then ((b : ℝ) : EReal) else if h : e - n - m < p then ((0 : ℝ) : EReal) else ((0 : ℝ) : EReal))
      = ((if e < n then a else if e < n + m then b else 0 : ℝ) : EReal) := by
  by_cases h : e < n
  · rw [dif_pos h, if_pos h]
  · rw [dif_neg h, if_neg h]
    by_cases h' : e - n < m
    · rw [dif_pos h', if_pos (by omega)]
    · rw [dif_neg h', if_neg (by omega)]; split <;> rfl

theorem picks3 (a b : ℝ) (e n m : ℕ) :
    (if h : e < n then ((a : ℝ) : EReal) else if h : e - n < m then ((b : ℝ) : EReal) else ((0 : ℝ) : EReal))
      = ((if e < n then a else if e < n + m then b else 0 : ℝ) : EReal) := by
  by_cases h : e < n
  · rw [dif_pos h, if_pos h]
  · rw [dif_neg h, if_neg h]
    by_cases h' : e - n < m
    · rw [dif_pos h', if_pos (by omega)]
    · rw [dif_neg h', if_neg (by omega)]

/-- Lines `n` to `n + k` of the packing. -/
def cutC (n k : ℕ) : List (HloOp τ sig (Elt Ideal)) := (hostOps0_2.drop n).take k

/-- The planted queries, before they are laid out by rows. -/
theorem pack_51 (hq : σ (Proc.devRef .tc main_v7) = (up3 fun U h e => G.q U h e : FVec Ideal S8192x8x96 .f32))
    (hl : σ (Proc.devRef .tc main_v34) = (up2 .f32 fun h T => G.lse h T : FVec Ideal S8x8192 .f32)) (h2 : σ (Proc.devRef .tc main_v30) = fun _ => ((Real.log 2 : ℝ) : EReal)) :
    StableHlo.after (cutC 24 14) σ (Proc.devRef .tc main_v42) = (up3 fun h e T => G.q T h e * (sc / Real.log 2) : FVec Ideal S8x96x8192 .f32)
    ∧ StableHlo.after (cutC 24 14) σ (Proc.devRef .tc main_v46) = (up3 fun h _ T => - G.lse h T : FVec Ideal S8x1x8192 .f32)
    ∧ StableHlo.after (cutC 24 14) σ (Proc.devRef .tc main_v49) = (up3 fun h _ T => 0 : FVec Ideal S8x1x8192 .f32)
    ∧ StableHlo.after (cutC 24 14) σ (Proc.devRef .tc main_v50) = (up3 fun h _ T => 0 : FVec Ideal S8x30x8192 .f32) := by
  unfold cutC
  simp only [List.drop_succ_cons, List.drop_zero, List.take_succ_cons, List.take_zero]
  refine ⟨?_, ?_, ?_, ?_⟩ <;> entry_read
  · rw [hq, h2]
    funext i
    pointwise [lit_sc, div_real Given.log2_pos.ne', ← EReal.coe_mul]
  · rw [hl]
    funext i
    pointwise [← EReal.coe_neg]
  · rw [hl]
    funext i
    pointwise [← EReal.coe_sub, ← EReal.coe_neg]
    exact congrArg _ (by simp)
  · funext i
    pointwise [lit_zero]

theorem nary_51 (ρ : Valuation τ sig (Elt Ideal)) {a : FVec Ideal S8x96x8192 .f32} {b c : FVec Ideal S8x1x8192 .f32} {d : FVec Ideal S8x30x8192 .f32}
    (ha : ρ (Proc.devRef .tc main_v42) = a) (hb : ρ (Proc.devRef .tc main_v46) = b) (hc : ρ (Proc.devRef .tc main_v49) = c) (hd : ρ (Proc.devRef .tc main_v50) = d) :
    StableHlo.after (cutC 38 1) ρ (Proc.devRef .tc main_v51) =
      concatenate S8x128x8192 1 [⟨S8x96x8192, a⟩, ⟨S8x1x8192, b⟩, ⟨S8x1x8192, c⟩, ⟨S8x30x8192, d⟩] concatenates_S8x96x8192_S8x1x8192_S8x1x8192_S8x30x8192_S8x128x8192_d1 := by
  subst ha hb hc hd
  unfold cutC
  simp only [List.drop_succ_cons, List.drop_zero, List.take_succ_cons, List.take_zero]
  rw [StableHlo.after_cons, StableHlo.after_nil, StableHlo.nary_result]
  rfl

theorem last_53 (ρ : Valuation τ sig (Elt Ideal)) {a : FVec Ideal S8x128x8192 .f32} (ha : ρ (Proc.devRef .tc main_v51) = a) :
    StableHlo.after (cutC 39 37) ρ (Proc.devRef .tc main_v53) = truncf .bf16 (shapeCast S1024x8192 a shapeCasts_S8x128x8192_S1024x8192) bitsLt_bf16_f32 := by
  subst ha
  unfold cutC
  simp only [List.drop_succ_cons, List.drop_zero, List.take_succ_cons, List.take_zero]
  entry_read
  rfl

theorem laid_Q : truncf .bf16 (shapeCast S1024x8192 (concatenate S8x128x8192 1 [⟨S8x96x8192, (up3 fun h e T => G.q T h e * (sc / Real.log 2) : FVec Ideal S8x96x8192 .f32)⟩,
      ⟨S8x1x8192, (up3 fun h _ T => - G.lse h T : FVec Ideal S8x1x8192 .f32)⟩, ⟨S8x1x8192, (up3 fun h _ T => 0 : FVec Ideal S8x1x8192 .f32)⟩,
      ⟨S8x30x8192, (up3 fun h _ T => 0 : FVec Ideal S8x30x8192 .f32)⟩] concatenates_S8x96x8192_S8x1x8192_S8x1x8192_S8x30x8192_S8x128x8192_d1) shapeCasts_S8x128x8192_S1024x8192) bitsLt_bf16_f32
    = (up2 .bf16 G.arr.Q : FVec Ideal S1024x8192 .bf16) := by
  funext i
  pointwise
  exact picks4 (G.q (i 1).val ((i 0).val / 128) ((i 0).val % 128) * (sc / Real.log 2)) (- G.lse ((i 0).val / 128) (i 1).val) ((i 0).val % 128) 96 1 1

theorem host_53 (hq : σ (Proc.devRef .tc main_v7) = (up3 fun U h e => G.q U h e : FVec Ideal S8192x8x96 .f32))
    (hl : σ (Proc.devRef .tc main_v34) = (up2 .f32 fun h T => G.lse h T : FVec Ideal S8x8192 .f32)) (h2 : σ (Proc.devRef .tc main_v30) = fun _ => ((Real.log 2 : ℝ) : EReal)) :
    StableHlo.after linesC σ (Proc.devRef .tc main_v53) = (up2 .bf16 G.arr.Q : FVec Ideal S1024x8192 .bf16) :=
  have h := pack_51 hq hl h2
  (last_53 _ (nary_51 (StableHlo.after (cutC 24 14) σ) h.1 h.2.1 h.2.2.1 h.2.2.2)).trans laid_Q

/-- The planted cotangent, before it is laid out by rows. -/
theorem pack_64 (hc : σ (Proc.devRef .tc main_arg5) = G.Ct) (hl : σ (Proc.devRef .tc main_v38) = (up2 .f32 fun h T => G.delta h T : FVec Ideal S8x8192 .f32)) :
    StableHlo.after (cutC 24 28) σ (Proc.devRef .tc main_v55) = (up3 fun h e T => G.ct T h e : FVec Ideal S8x64x8192 .f32)
    ∧ StableHlo.after (cutC 24 28) σ (Proc.devRef .tc main_v59) = (up3 fun h _ T => - G.delta h T : FVec Ideal S8x1x8192 .f32)
    ∧ StableHlo.after (cutC 24 28) σ (Proc.devRef .tc main_v62) = (up3 fun h _ T => 0 : FVec Ideal S8x1x8192 .f32)
    ∧ StableHlo.after (cutC 24 28) σ (Proc.devRef .tc main_v63) = (up3 fun h _ T => 0 : FVec Ideal S8x62x8192 .f32) := by
  unfold cutC
  simp only [List.drop_succ_cons, List.drop_zero, List.take_succ_cons, List.take_zero]
  refine ⟨?_, ?_, ?_, ?_⟩ <;> entry_read
  · rw [hc]
    funext i
    pointwise
    rfl
  · rw [hl]
    funext i
    pointwise [← EReal.coe_neg]
  · rw [hl]
    funext i
    pointwise [← EReal.coe_sub, ← EReal.coe_neg]
    exact congrArg _ (by simp)
  · funext i
    pointwise [lit_zero]

theorem nary_64 (ρ : Valuation τ sig (Elt Ideal)) {a : FVec Ideal S8x64x8192 .f32} {b c : FVec Ideal S8x1x8192 .f32} {d : FVec Ideal S8x62x8192 .f32}
    (ha : ρ (Proc.devRef .tc main_v55) = a) (hb : ρ (Proc.devRef .tc main_v59) = b) (hc : ρ (Proc.devRef .tc main_v62) = c) (hd : ρ (Proc.devRef .tc main_v63) = d) :
    StableHlo.after (cutC 52 1) ρ (Proc.devRef .tc main_v64) =
      concatenate S8x128x8192 1 [⟨S8x64x8192, a⟩, ⟨S8x1x8192, b⟩, ⟨S8x1x8192, c⟩, ⟨S8x62x8192, d⟩] concatenates_S8x64x8192_S8x1x8192_S8x1x8192_S8x62x8192_S8x128x8192_d1 := by
  subst ha hb hc hd
  unfold cutC
  simp only [List.drop_succ_cons, List.drop_zero, List.take_succ_cons, List.take_zero]
  rw [StableHlo.after_cons, StableHlo.after_nil, StableHlo.nary_result]
  rfl

theorem last_66 (ρ : Valuation τ sig (Elt Ideal)) {a : FVec Ideal S8x128x8192 .f32} (ha : ρ (Proc.devRef .tc main_v64) = a) :
    StableHlo.after (cutC 53 23) ρ (Proc.devRef .tc main_v66) = truncf .bf16 (shapeCast S1024x8192 a shapeCasts_S8x128x8192_S1024x8192) bitsLt_bf16_f32 := by
  subst ha
  unfold cutC
  simp only [List.drop_succ_cons, List.drop_zero, List.take_succ_cons, List.take_zero]
  entry_read
  rfl

theorem laid_D : truncf .bf16 (shapeCast S1024x8192 (concatenate S8x128x8192 1 [⟨S8x64x8192, (up3 fun h e T => G.ct T h e : FVec Ideal S8x64x8192 .f32)⟩,
      ⟨S8x1x8192, (up3 fun h _ T => - G.delta h T : FVec Ideal S8x1x8192 .f32)⟩, ⟨S8x1x8192, (up3 fun h _ T => 0 : FVec Ideal S8x1x8192 .f32)⟩,
      ⟨S8x62x8192, (up3 fun h _ T => 0 : FVec Ideal S8x62x8192 .f32)⟩] concatenates_S8x64x8192_S8x1x8192_S8x1x8192_S8x62x8192_S8x128x8192_d1) shapeCasts_S8x128x8192_S1024x8192) bitsLt_bf16_f32
    = (up2 .bf16 G.arr.D : FVec Ideal S1024x8192 .bf16) := by
  funext i
  pointwise
  exact picks4 (G.ct (i 1).val ((i 0).val / 128) ((i 0).val % 128)) (- G.delta ((i 0).val / 128) (i 1).val) ((i 0).val % 128) 64 1 1

theorem host_66 (hc : σ (Proc.devRef .tc main_arg5) = G.Ct) (hl : σ (Proc.devRef .tc main_v38) = (up2 .f32 fun h T => G.delta h T : FVec Ideal S8x8192 .f32)) :
    StableHlo.after linesC σ (Proc.devRef .tc main_v66) = (up2 .bf16 G.arr.D : FVec Ideal S1024x8192 .bf16) :=
  have h := pack_64 hc hl
  (last_66 _ (nary_64 (StableHlo.after (cutC 24 28) σ) h.1 h.2.1 h.2.2.1 h.2.2.2)).trans laid_D

/-- The planted keys, before they are laid out by columns. -/
theorem pack_69 (hk : σ (Proc.devRef .tc main_v4) = (up3 fun U h e => G.k U h e : FVec Ideal S8192x8x96 .f32)) :
    StableHlo.after (cutC 24 35) σ (Proc.devRef .tc main_v4) = (up3 fun U h e => G.k U h e : FVec Ideal S8192x8x96 .f32)
    ∧ StableHlo.after (cutC 24 35) σ (Proc.devRef .tc main_v67) = (up3 fun _ _ _ => 1 : FVec Ideal S8192x8x2 .f32)
    ∧ StableHlo.after (cutC 24 35) σ (Proc.devRef .tc main_v68) = (up3 fun _ _ _ => 0 : FVec Ideal S8192x8x30 .f32) := by
  unfold cutC
  simp only [List.drop_succ_cons, List.drop_zero, List.take_succ_cons, List.take_zero]
  refine ⟨?_, ?_, ?_⟩ <;> entry_read
  · exact hk
  · funext i
    pointwise [lit_one]
  · funext i
    pointwise [lit_zero]

theorem nary_69 (ρ : Valuation τ sig (Elt Ideal)) {a : FVec Ideal S8192x8x96 .f32} {b : FVec Ideal S8192x8x2 .f32} {c : FVec Ideal S8192x8x30 .f32}
    (ha : ρ (Proc.devRef .tc main_v4) = a) (hb : ρ (Proc.devRef .tc main_v67) = b) (hc : ρ (Proc.devRef .tc main_v68) = c) :
    StableHlo.after (cutC 59 1) ρ (Proc.devRef .tc main_v69) =
      concatenate S8192x8x128 2 [⟨S8192x8x96, a⟩, ⟨S8192x8x2, b⟩, ⟨S8192x8x30, c⟩] concatenates_S8192x8x96_S8192x8x2_S8192x8x30_S8192x8x128_d2 := by
  subst ha hb hc
  unfold cutC
  simp only [List.drop_succ_cons, List.drop_zero, List.take_succ_cons, List.take_zero]
  rw [StableHlo.after_cons, StableHlo.after_nil, StableHlo.nary_result]
  rfl

theorem last_71 (ρ : Valuation τ sig (Elt Ideal)) {a : FVec Ideal S8192x8x128 .f32} (ha : ρ (Proc.devRef .tc main_v69) = a) :
    StableHlo.after (cutC 60 16) ρ (Proc.devRef .tc main_v71) = truncf .bf16 (shapeCast S8192x1024 a shapeCasts_S8192x8x128_S8192x1024) bitsLt_bf16_f32 := by
  subst ha
  unfold cutC
  simp only [List.drop_succ_cons, List.drop_zero, List.take_succ_cons, List.take_zero]
  entry_read
  rfl

theorem laid_K : truncf .bf16 (shapeCast S8192x1024 (concatenate S8192x8x128 2 [⟨S8192x8x96, (up3 fun U h e => G.k U h e : FVec Ideal S8192x8x96 .f32)⟩,
      ⟨S8192x8x2, (up3 fun _ _ _ => 1 : FVec Ideal S8192x8x2 .f32)⟩, ⟨S8192x8x30, (up3 fun _ _ _ => 0 : FVec Ideal S8192x8x30 .f32)⟩]
      concatenates_S8192x8x96_S8192x8x2_S8192x8x30_S8192x8x128_d2) shapeCasts_S8192x8x128_S8192x1024) bitsLt_bf16_f32
    = (up2 .bf16 G.arr.K : FVec Ideal S8192x1024 .bf16) := by
  funext i
  pointwise
  exact picks3 (G.k (i 0).val ((i 1).val / 128) ((i 1).val % 128)) 1 ((i 1).val % 128) 96 2

theorem host_71 (hk : σ (Proc.devRef .tc main_v4) = (up3 fun U h e => G.k U h e : FVec Ideal S8192x8x96 .f32)) :
    StableHlo.after linesC σ (Proc.devRef .tc main_v71) = (up2 .bf16 G.arr.K : FVec Ideal S8192x1024 .bf16) :=
  have h := pack_69 hk
  (last_71 _ (nary_69 (StableHlo.after (cutC 24 35) σ) h.1 h.2.1 h.2.2)).trans laid_K

/-- The planted values, before they are laid out by columns. -/
theorem pack_80 (hv : σ (Proc.devRef .tc main_arg4) = G.Vv) :
    StableHlo.after (cutC 24 49) σ (Proc.devRef .tc main_v77) = (up3 fun U h e => G.v U h e : FVec Ideal S8192x8x64 .f32)
    ∧ StableHlo.after (cutC 24 49) σ (Proc.devRef .tc main_v78) = (up3 fun _ _ _ => 1 : FVec Ideal S8192x8x2 .f32)
    ∧ StableHlo.after (cutC 24 49) σ (Proc.devRef .tc main_v79) = (up3 fun _ _ _ => 0 : FVec Ideal S8192x8x62 .f32) := by
  unfold cutC
  simp only [List.drop_succ_cons, List.drop_zero, List.take_succ_cons, List.take_zero]
  refine ⟨?_, ?_, ?_⟩ <;> entry_read
  · rw [hv]
    funext i
    pointwise
    rfl
  · funext i
    pointwise [lit_one]
  · funext i
    pointwise [lit_zero]

theorem nary_80 (ρ : Valuation τ sig (Elt Ideal)) {a : FVec Ideal S8192x8x64 .f32} {b : FVec Ideal S8192x8x2 .f32} {c : FVec Ideal S8192x8x62 .f32}
    (ha : ρ (Proc.devRef .tc main_v77) = a) (hb : ρ (Proc.devRef .tc main_v78) = b) (hc : ρ (Proc.devRef .tc main_v79) = c) :
    StableHlo.after (cutC 73 1) ρ (Proc.devRef .tc main_v80) =
      concatenate S8192x8x128 2 [⟨S8192x8x64, a⟩, ⟨S8192x8x2, b⟩, ⟨S8192x8x62, c⟩] concatenates_S8192x8x64_S8192x8x2_S8192x8x62_S8192x8x128_d2 := by
  subst ha hb hc
  unfold cutC
  simp only [List.drop_succ_cons, List.drop_zero, List.take_succ_cons, List.take_zero]
  rw [StableHlo.after_cons, StableHlo.after_nil, StableHlo.nary_result]
  rfl

theorem last_82 (ρ : Valuation τ sig (Elt Ideal)) {a : FVec Ideal S8192x8x128 .f32} (ha : ρ (Proc.devRef .tc main_v80) = a) :
    StableHlo.after (cutC 74 2) ρ (Proc.devRef .tc main_v82) = truncf .bf16 (shapeCast S8192x1024 a shapeCasts_S8192x8x128_S8192x1024) bitsLt_bf16_f32 := by
  subst ha
  unfold cutC
  simp only [List.drop_succ_cons, List.drop_zero, List.take_succ_cons, List.take_zero]
  entry_read
  rfl

theorem laid_V : truncf .bf16 (shapeCast S8192x1024 (concatenate S8192x8x128 2 [⟨S8192x8x64, (up3 fun U h e => G.v U h e : FVec Ideal S8192x8x64 .f32)⟩,
      ⟨S8192x8x2, (up3 fun _ _ _ => 1 : FVec Ideal S8192x8x2 .f32)⟩, ⟨S8192x8x62, (up3 fun _ _ _ => 0 : FVec Ideal S8192x8x62 .f32)⟩]
      concatenates_S8192x8x64_S8192x8x2_S8192x8x62_S8192x8x128_d2) shapeCasts_S8192x8x128_S8192x1024) bitsLt_bf16_f32
    = (up2 .bf16 G.arr.V : FVec Ideal S8192x1024 .bf16) := by
  funext i
  pointwise
  exact picks3 (G.v (i 0).val ((i 1).val / 128) ((i 1).val % 128)) 1 ((i 1).val % 128) 64 2

theorem host_82 (hv : σ (Proc.devRef .tc main_arg4) = G.Vv) :
    StableHlo.after linesC σ (Proc.devRef .tc main_v82) = (up2 .bf16 G.arr.V : FVec Ideal S8192x1024 .bf16) :=
  have h := pack_80 hv
  (last_82 _ (nary_80 (StableHlo.after (cutC 24 49) σ) h.1 h.2.1 h.2.2)).trans laid_V

theorem host_76 (hk : σ (Proc.devRef .tc main_v4) = (up3 fun U h e => G.k U h e : FVec Ideal S8192x8x96 .f32)) :
    StableHlo.after linesC σ (Proc.devRef .tc main_v76) = (up2 .bf16 G.arr.T : FVec Ideal S1024x8192 .bf16) := by
  unfold linesC
  simp only [List.drop_succ_cons, List.drop_zero]
  entry_read
  rw [hk]
  funext i
  pointwise [lit_zero]
  exact pick 96 (G.k (i 1).val ((i 0).val / 128) ((i 0).val % 128)) 0 ((i 0).val % 128)

/-- What the call finds, of the arrays the step is given. -/
structure Found (G : Given) (σ : Valuation τ sig (Elt Ideal)) : Prop where
  hQ : σ (Proc.devRef .tc main_v53) = (up2 .bf16 G.arr.Q : FVec Ideal S1024x8192 .bf16)
  hD : σ (Proc.devRef .tc main_v66) = (up2 .bf16 G.arr.D : FVec Ideal S1024x8192 .bf16)
  hK : σ (Proc.devRef .tc main_v71) = (up2 .bf16 G.arr.K : FVec Ideal S8192x1024 .bf16)
  hT : σ (Proc.devRef .tc main_v76) = (up2 .bf16 G.arr.T : FVec Ideal S1024x8192 .bf16)
  hV : σ (Proc.devRef .tc main_v82) = (up2 .bf16 G.arr.V : FVec Ideal S8192x1024 .bf16)

/-- What lines A and B keep. -/
theorem keepA (r : Ref sig .tc) (hr : r = main_v4 ∨ r = main_v7 ∨ r = main_arg4 ∨ r = main_arg5) : StableHlo.after linesA σ (Proc.devRef .tc r) = σ (Proc.devRef .tc r) := by
  unfold linesA
  simp only [List.take_succ_cons, List.take_zero]
  rcases hr with rfl | rfl | rfl | rfl <;> entry_read <;> rfl
theorem keepB (r : Ref sig .tc) (hr : r = main_v4 ∨ r = main_v7 ∨ r = main_arg4 ∨ r = main_arg5) : StableHlo.after linesB σ (Proc.devRef .tc r) = σ (Proc.devRef .tc r) := by
  unfold linesB
  simp only [List.drop_succ_cons, List.drop_zero, List.take_succ_cons, List.take_zero]
  rcases hr with rfl | rfl | rfl | rfl <;> entry_read <;> rfl

theorem found_of (hS : σ (Proc.devRef .tc main_v18) = G.SE) (hq : σ (Proc.devRef .tc main_v7) = (up3 fun U h e => G.q U h e : FVec Ideal S8192x8x96 .f32))
    (hk : σ (Proc.devRef .tc main_v4) = (up3 fun U h e => G.k U h e : FVec Ideal S8192x8x96 .f32)) (hv : σ (Proc.devRef .tc main_arg4) = G.Vv)
    (hc : σ (Proc.devRef .tc main_arg5) = G.Ct) : Found G (StableHlo.after hostOps0_2 σ) := by
  have a4 := (keepA (σ := σ) main_v4 (.inl rfl)).trans hk
  have a7 := (keepA (σ := σ) main_v7 (.inr (.inl rfl))).trans hq
  have av := (keepA (σ := σ) main_arg4 (.inr (.inr (.inl rfl)))).trans hv
  have ac := (keepA (σ := σ) main_arg5 (.inr (.inr (.inr rfl)))).trans hc
  have b4 := (keepB (σ := StableHlo.after linesA σ) main_v4 (.inl rfl)).trans a4
  have b7 := (keepB (σ := StableHlo.after linesA σ) main_v7 (.inr (.inl rfl))).trans a7
  have bv := (keepB (σ := StableHlo.after linesA σ) main_arg4 (.inr (.inr (.inl rfl)))).trans av
  have bc := (keepB (σ := StableHlo.after linesA σ) main_arg5 (.inr (.inr (.inr rfl)))).trans ac
  have h34 := host_34 (σ := StableHlo.after linesA σ) (host_19 hS) (host_24 hS)
  have h38 := host_38 (σ := StableHlo.after linesA σ) (host_23 hS) (host_24 hS) av ac
  rw [lines_split]
  exact ⟨host_53 b7 h34 host_30, host_66 bc h38, host_71 b4, host_76 b4, host_82 bv⟩

/-- What the call finds. -/
theorem found (h : Given.Holds G σ) : Found G (StableHlo.after (before Ideal).flatten σ) := by
  rw [before_eq]
  exact found_of (host_18 host_17 host_c1 (host_s h)) (keep_q.trans (host_q h)) (keep_k.trans (host_k h)) (keep_v'.trans (keep_v.trans h.v)) (keep_ct'.trans (keep_ct.trans h.ct))

end Cert.MlaK
-- ==== Proof.Mla.Result.lean ====
module

public import proofs.«01_k».proof.Proof.Mla.Arrays
public import proofs.«01_k».proof.Proof.Mla.Pack

/-! What the kernel's program ends with. -/

@[expose] public section

set_option maxRecDepth 16384

noncomputable section

namespace Cert.MlaK

open Idealize.ShloMosaic Idealize.ShloMosaic.TcCoe Idealize.SL.Sem Idealize.ShloMosaic.Pipeline Cert.MlaIdeal Cert.MlaIdeal.Gen Cert.Reals

variable {G : Given} (m : (ℓ : Loc nD τ sig) → Buf (Elt Ideal) ℓ)

/-- The arguments of every device hold the arrays `G`. -/
abbrev Begins (G : Dev nD → Given) : Prop := ∀ c : Dev nD, Given.Holds (G c) fun b => m (c, b)

variable (c : Dev nD)

theorem reads_of (h : Given.Holds G fun b => m (c, b)) : Reads G.arr m c :=
  have f := found h
  reads G.arr m c f.hQ f.hD f.hK f.hT f.hV

theorem end_6 (h : Given.Holds G fun b => m (c, b)) : (dats m 0 c).arrAt 6 (cf Ideal).N = (up2 .bf16 G.outK : FVec Ideal S1024x8192 .bf16) :=
  (arr_6 G.arr m c (reads_of m c h)).trans (funext fun i => congrArg (fun z : ℝ => (z : EReal)) (G.DK_eq (i 0).val (i 1).val))

theorem end_7 (h : Given.Holds G fun b => m (c, b)) : (dats m 0 c).arrAt 7 (cf Ideal).N = (up2 .bf16 G.outV : FVec Ideal S1024x8192 .bf16) :=
  (arr_7 G.arr m c (reads_of m c h)).trans (funext fun i => congrArg (fun z : ℝ => (z : EReal)) (G.DV_eq (i 0).val (i 1).val))

theorem scaled (ρ : Valuation τ sig (Elt Ideal)) : StableHlo.after (later Ideal).flatten ρ (Proc.devRef .tc main_v85)
    = (mulf (ρ (Proc.devRef .tc main_v83_0) : FVec Ideal S1024x8192 .f32) (broadcastInDim S1024x8192 ![] bcast_S_S1024x8192 (constant S_ .f32 0x3DD105EC#32)) : FVec Ideal S1024x8192 .f32) := by
  show StableHlo.after hostOps1 ρ _ = _
  entry_read
  rfl

theorem at_5 : withArrays spec0 c (StableHlo.after (before Ideal).flatten fun b => m (c, b)) (fun w => (dats m 0 c).arrAt w (cf Ideal).N) (Proc.devRef .tc main_v83_0)
    = (dats m 0 c).arrAt 5 (cf Ideal).N :=
  withArrays_arr spec0 winFacts0.arr_inj c _ _ 5

theorem end_85 (h : Given.Holds G fun b => m (c, b)) : final m c main_v85 = (up2 .f32 G.outQ : FVec Ideal S1024x8192 .f32) := by
  refine (scaled _).trans ?_
  refine (congrArg (fun z : FVec Ideal S1024x8192 .f32 => mulf z (broadcastInDim S1024x8192 ![] bcast_S_S1024x8192 (constant S_ .f32 0x3DD105EC#32)))
    ((at_5 m c).trans (arr_5 G.arr m c (reads_of m c h)))).trans ?_
  funext i
  pointwise [lit_sc, ← EReal.coe_mul]
  exact congrArg (fun z : ℝ => (z : EReal)) (G.DQ_eq (i 0).val (i 1).val (i 1).isLt)

/-- The kernel's program ends with the gradients, and with its arguments as they were. -/
theorem ends (G : Dev nD → Given) (ρ : Dev nD → PrngReg) (h : Begins m G) : θ_run defs (onTc (τ := τ) (main (F := Ideal))) ⟨m, fun _ => 0, ρ⟩ (fun r => ∀ c : Dev nD,
      r.2.mem ((c.tc : Thread nD τ).loc main_v85) = (up2 .f32 (G c).outQ : FVec Ideal S1024x8192 .f32)
      ∧ r.2.mem ((c.tc : Thread nD τ).loc main_v83_1) = (up2 .bf16 (G c).outK : FVec Ideal S1024x8192 .bf16)
      ∧ r.2.mem ((c.tc : Thread nD τ).loc main_v83_2) = (up2 .bf16 (G c).outV : FVec Ideal S1024x8192 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c =>
    have k : ∀ b ∈ args, r.2.mem ((c.tc : Thread nD τ).loc b) = m ((c.tc : Thread nD τ).loc b) := fun b hb =>
      ((hr.1 c).2 b ((by decide : ∀ b ∈ args, b ∈ restRefs sig spec0) b hb)).trans (args_end m c b hb)
    ⟨((hr.1 c).2 main_v85 (by decide)).trans (end_85 m c (h c)), ((hr.1 c).1 6).trans (end_6 m c (h c)), ((hr.1 c).1 7).trans (end_7 m c (h c)),
      k _ (by decide), k _ (by decide), k _ (by decide), k _ (by decide), k _ (by decide), k _ (by decide)⟩) (runs m ρ)

end Cert.MlaK
-- ==== Proof.Mla.Ref.lean ====
module

public import proofs.«01_k».proof.Proof.Gen.MlaRefIdeal.Read
public import proofs.«01_k».proof.Proof.Mla.Host

/-! What the reference's arrays hold. -/

@[expose] public section

set_option maxRecDepth 16384

noncomputable section

namespace Cert.MlaRefIdeal.Holds

open Idealize.ShloMosaic Cert.MlaRefIdeal Cert.MlaRefIdeal.Read Cert.Reals Cert.MlaK

variable (G : Given)

/-- A block of real numbers with four axes, the first of one element. -/
abbrev up4 {n k l : ℕ} (f : ℕ → ℕ → ℕ → ℝ) : FVec Ideal ⟨4, ![1, n, k, l]⟩ .f32 := fun i => ((f (i 1).val (i 2).val (i 3).val : ℝ) : EReal)

theorem v2 : val_main_v2 (F := Ideal) G.Qn G.Kn = up4 fun h T U => ∑ e : Fin 64, G.qn T h e.val * G.kn U h e.val := by
  funext i
  pointwise [val_main_v2, ← EReal.coe_mul, coe_sum]
theorem v3 : val_main_v3 (F := Ideal) G.Qr G.Kr = up4 fun h T U => ∑ e : Fin 32, G.qr T h e.val * G.kr U e.val := by
  funext i
  pointwise [val_main_v3, val_main_v1, val_main_v0, ← EReal.coe_mul, coe_sum]

theorem s_eq (h T U : ℕ) : G.s h T U = (∑ e : Fin 64, G.qn T h e.val * G.kn U h e.val + ∑ e : Fin 32, G.qr T h e.val * G.kr U e.val) * sc := by
  unfold Given.s
  rw [Given.sum_split 64 32 (fun e => G.q T h e * G.k U h e) 96 rfl]
  refine congrArg (· * sc) (congrArg₂ (· + ·) ?_ ?_)
  · exact Finset.sum_congr rfl fun e _ => by
      have := e.isLt
      unfold Given.q Given.k
      rw [if_pos this, if_pos this]
  · exact Finset.sum_congr rfl fun e _ => by
      unfold Given.q Given.k
      rw [if_neg (by omega), if_neg (by omega), Nat.add_sub_cancel_left]

theorem v6 : val_main_v6 (F := Ideal) G.Qn G.Qr G.Kn G.Kr = up4 fun h T U => G.s h T U := by
  unfold val_main_v6 val_main_v4
  rw [v2, v3]
  funext i
  pointwise [val_main_v5, val_main_cst, lit_sc, ← EReal.coe_mul, ← EReal.coe_add]
  exact congrArg (fun z : ℝ => (z : EReal)) (s_eq G (i 1).val (i 2).val (i 3).val).symm

theorem v14 : val_main_v14_0 (F := Ideal) G.Qn G.Qr G.Kn G.Kr = fun i => G.sE (i 1).val (i 2).val (i 3).val := by
  unfold val_main_v14_0
  rw [v6]
  funext i
  pointwise [val_main_v14_1, val_main_v13, val_main_v11, val_main_v12, val_main_v8, val_main_v10, val_main_v7, val_main_v9, val_main_call0_v2, val_main_call0_v0, val_main_cst_0, lit_bot]
  have h1 : (i 2).val < 8192 := (i 2).isLt
  have h2 : (i 3).val < 8192 := (i 3).isLt
  exact hidden (a := (i 3).val) (b := (i 2).val) (by omega) (by omega) ((G.s (i 1).val (i 2).val (i 3).val : ℝ) : EReal)

/-- One number for each head and token. -/
abbrev upr {n k : ℕ} (f : ℕ → ℕ → ℝ) : FVec Ideal ⟨3, ![1, n, k]⟩ .f32 := fun i => ((f (i 1).val (i 2).val : ℝ) : EReal)

theorem v15 : val_main_v15 (F := Ideal) G.Qn G.Qr G.Kn G.Kr = upr fun h T => G.mx h T := by
  unfold val_main_v15
  rw [v14]
  funext i
  pointwise [val_main_cst_1, lit_bot]
  exact G.mx_eq (i 1).val (i 2).val (i 2).isLt

theorem v22 : val_main_v22 (F := Ideal) G.Qn G.Qr G.Kn G.Kr = upr fun h T => G.mx h T := by
  unfold val_main_v22
  rw [v15]
  funext i
  pointwise [val_main_v21, val_main_cst_3, lit_bot]
  exact max_eq_right (a := (⊥ : EReal)) (b := ((G.mx (i 1).val (i 2).val : ℝ) : EReal)) bot_le

theorem v35 : val_main_v35 (F := Ideal) G.Qn G.Qr G.Kn G.Kr = up4 fun h T U => G.e h T U := by
  unfold val_main_v35 val_main_v34 val_main_v33 val_main_v32
  rw [v14, v22]
  funext i
  pointwise
  exact G.exp_sE (i 1).val (i 2).val (i 3).val

theorem v36 : val_main_v36 (F := Ideal) G.Qn G.Qr G.Kn G.Kr = upr fun h T => G.den h T := by
  unfold val_main_v36
  rw [v35]
  funext i
  pointwise [val_main_cst_9, lit_zero, coe_sum, coe_zero_add]
  rfl

theorem v39 : val_main_v39 (F := Ideal) G.Qn G.Qr G.Kn G.Kr = up4 fun h T U => G.P h T U := by
  unfold val_main_v39 val_main_v38 val_main_v37
  rw [v35, v36]
  funext i
  pointwise
  exact div_real (G.den_ne (i 1).val (i 2).val (i 2).isLt) _

theorem v46 : val_main_v46 (F := Ideal) G.Vv G.Ct = up4 fun h T U => G.g h T U := by
  funext i
  pointwise [val_main_v46, val_main_v45, ← EReal.coe_mul, coe_sum]
  rfl

theorem v51 : val_main_v51 (F := Ideal) G.Qn G.Qr G.Kn G.Kr G.Vv G.Ct = up4 fun h T U => G.g h T U * (1 / (G.den h T * G.den h T)) * G.e h T U := by
  unfold val_main_v51 val_main_v50 val_main_v49 val_main_v42 val_main_v40 val_main_v37
  rw [v35, v36, v46]
  funext i
  have d := G.den_ne (i 1).val (i 2).val (i 2).isLt
  pointwise [val_main_v41, val_main_cst_10, lit_one, ← EReal.coe_mul, div_real (mul_ne_zero d d)]

theorem v54 : val_main_v54 (F := Ideal) G.Qn G.Qr G.Kn G.Kr G.Vv G.Ct = (up4 fun h T _ => - ∑ U : Fin 8192, G.g h T U.val * (1 / (G.den h T * G.den h T)) * G.e h T U.val : FVec Ideal S1x8x8192x1 .f32) := by
  unfold val_main_v54 val_main_v53 val_main_v52
  rw [v51]
  funext i
  pointwise [val_main_cst_11, lit_zero, coe_sum, coe_zero_add, ← EReal.coe_neg]

/-- A sum over two axes of one element each. -/
theorem sum_ones (h : S1x8x8192x1.ReducesTo [0, 3] S8x8192) (x : S1x8x8192x1.Idx → EReal) (z : EReal) (j : S8x8192.Idx) :
    Ideal.hostReduceAdd h x z j = z + x (ix4 0 (j 0) (j 1) 0) := by
  have e : Finset.univ.filter (fun i => h.drop i = j) = {(ix4 0 (j 0) (j 1) 0 : S1x8x8192x1.Idx)} := by
    ext i
    rw [Finset.mem_filter, Finset.mem_singleton]
    constructor
    · rintro ⟨-, hj⟩
      have h0 : (i 1).val = (j 0).val := congrArg Fin.val (congrFun hj 0)
      have h1 : (i 2).val = (j 1).val := congrArg Fin.val (congrFun hj 1)
      funext a
      match a with
      | ⟨0, _⟩ => exact Subsingleton.elim (α := Fin 1) _ _
      | ⟨1, _⟩ => exact Fin.ext h0
      | ⟨2, _⟩ => exact Fin.ext h1
      | ⟨3, _⟩ => exact Subsingleton.elim (α := Fin 1) _ _
    · rintro rfl
      refine ⟨Finset.mem_univ _, ?_⟩
      funext a
      match a with
      | ⟨0, _⟩ => rfl
      | ⟨1, _⟩ => rfl
  unfold Ideal.hostReduceAdd
  rw [e, Finset.sum_singleton]

theorem v57 : val_main_v57 (F := Ideal) G.Qn G.Qr G.Kn G.Kr G.Vv G.Ct = (up2 .f32 fun h T => - ∑ U : Fin 8192, G.g h T U.val * (1 / (G.den h T * G.den h T)) * G.e h T U.val : FVec Ideal S8x8192 .f32) := by
  unfold val_main_v57
  rw [v54]
  funext i
  refine (sum_ones Gen.reducesTo_S1x8x8192x1_S8x8192_d0_3 _ _ i).trans ?_
  pointwise [val_main_cst_12, lit_zero, coe_zero_add]
  rfl

theorem w_eq (h T U : ℕ) (hT : T < 8192) : (G.g h T U * (1 / G.den h T) + - ∑ U : Fin 8192, G.g h T U.val * (1 / (G.den h T * G.den h T)) * G.e h T U.val) * G.e h T U = G.W h T U := by
  have d := G.den_ne h T hT
  have s : ∑ U : Fin 8192, G.g h T U.val * (1 / (G.den h T * G.den h T)) * G.e h T U.val = G.delta h T / G.den h T := by
    rw [G.delta_eq, Finset.sum_div, Finset.sum_div]
    exact Finset.sum_congr rfl fun U _ => by field_simp
  rw [s]
  unfold Given.W Given.P
  field_simp
  ring

theorem w_mask (h T U : ℕ) : (if U ≤ T then ((G.W h T U : ℝ) : EReal) else ((0 : ℝ) : EReal)) = ((G.W h T U : ℝ) : EReal) := by
  by_cases hU : U ≤ T
  · rw [if_pos hU]
  · rw [if_neg hU]
    unfold Given.W Given.P Given.e
    rw [if_neg hU, zero_div, zero_mul]

theorem grad_real {d : ℝ} (hd : d ≠ 0) (g t e : ℝ) : (Ideal.div (g : EReal) (d : EReal) + (t : EReal)) * (e : EReal) = (((g * (1 / d) + t) * e : ℝ) : EReal) := by
  rw [div_real hd, mul_one_div, ← EReal.coe_add, ← EReal.coe_mul]

theorem v61 : val_main_v61 (F := Ideal) G.Qn G.Qr G.Kn G.Kr G.Vv G.Ct = up4 fun h T U => G.W h T U := by
  unfold val_main_v61 val_main_v60 val_main_v59 val_main_v58 val_main_v56 val_main_v55 val_main_v37
  rw [v35, v36, v46, v57]
  funext i
  pointwise
  refine (grad_real (G.den_ne (i 1).val (i 2).val (i 2).isLt) (G.g (i 1).val (i 2).val (i 3).val) _ _).trans ?_
  exact congrArg (fun z : ℝ => (z : EReal)) (w_eq G (i 1).val (i 2).val (i 3).val (i 2).isLt)

theorem mask_real (h : ℕ) {a b : ℕ} (ha : a < 2 ^ 31) (hb : b < 2 ^ 31) :
    Scalar.select (IntOp.cmpi .sle (BitVec.ofNat 32 a) (BitVec.ofNat 32 b)) ((G.W h b a : ℝ) : EReal) ((0 : ℝ) : EReal) * ((sc : ℝ) : EReal) = ((G.W h b a * sc : ℝ) : EReal) := by
  rw [EReal.coe_mul, ← w_mask G h b a]
  refine congrArg (· * ((sc : ℝ) : EReal)) ?_
  by_cases h : a ≤ b
  · rw [(WordCmp.cmpi_sle_ofNat_eq_one_iff (w := 32) ha hb).2 h, if_pos h]; rfl
  · rw [(WordCmp.cmpi_sle_ofNat_eq_zero_iff (w := 32) ha hb).2 h, if_neg h]; rfl

theorem v64 : val_main_v64 (F := Ideal) G.Qn G.Qr G.Kn G.Kr G.Vv G.Ct = up4 fun h T U => G.W h T U * sc := by
  unfold val_main_v64 val_main_v62
  rw [v61]
  funext i
  pointwise [val_main_v14_1, val_main_v13, val_main_v11, val_main_v12, val_main_v8, val_main_v10, val_main_v7, val_main_v9, val_main_call1_v0, val_main_call1_cst, val_main_v63, val_main_cst_13, lit_zero, lit_sc]
  have h1 : (i 2).val < 8192 := (i 2).isLt
  have h2 : (i 3).val < 8192 := (i 3).isLt
  exact mask_real G (i 1).val (a := (i 3).val) (b := (i 2).val) (by omega) (by omega)

/-- A product's block of a query or key gradient, 64 or 32 columns of it. -/
theorem v71 : val_main_v72 (F := Ideal) G.Qn G.Qr G.Kn G.Kr G.Vv G.Ct = (up4 fun T h e => ∑ U : Fin 8192, G.W h T U.val * sc * G.kn U.val h e : FVec Ideal S1x8192x8x64 .f32) := by
  unfold val_main_v72 val_main_v71
  rw [v64]
  funext i
  pointwise [← EReal.coe_mul, coe_sum]

theorem v67 : val_main_v68 (F := Ideal) G.Qn G.Qr G.Kn G.Kr G.Vv G.Ct = (up4 fun T h e => ∑ U : Fin 8192, G.W h T U.val * sc * G.kr U.val e : FVec Ideal S1x8192x8x32 .f32) := by
  unfold val_main_v68 val_main_v67 val_main_v1 val_main_v0
  rw [v64]
  funext i
  pointwise [← EReal.coe_mul, coe_sum]

theorem v69 : val_main_v70 (F := Ideal) G.Qn G.Qr G.Kn G.Kr G.Vv G.Ct = (up4 fun U h e => ∑ T : Fin 8192, G.W h T.val U * sc * G.qn T.val h e : FVec Ideal S1x8192x8x64 .f32) := by
  unfold val_main_v70 val_main_v69
  rw [v64]
  funext i
  pointwise [← EReal.coe_mul, coe_sum]

theorem v65 : val_main_v66 (F := Ideal) G.Qn G.Qr G.Kn G.Kr G.Vv G.Ct = (up4 fun U h e => ∑ T : Fin 8192, G.W h T.val U * sc * G.qr T.val h e : FVec Ideal S1x8192x8x32 .f32) := by
  unfold val_main_v66 val_main_v65
  rw [v64]
  funext i
  pointwise [← EReal.coe_mul, coe_sum]

theorem v48 : val_main_v48 (F := Ideal) G.Qn G.Qr G.Kn G.Kr G.Ct = (up4 fun U h e => ∑ T : Fin 8192, G.ct T.val h e * G.P h T.val U : FVec Ideal S1x8192x8x64 .f32) := by
  unfold val_main_v48 val_main_v47 val_main_v45
  rw [v39]
  funext i
  pointwise [← EReal.coe_mul, coe_sum]

theorem zero_word : (FloatOps.sitofp .f32 (0#32) : Ideal .f32) = ((0 : ℝ) : EReal) := by
  show ((((0#32 : BitVec 32).toInt : ℤ) : ℝ) : EReal) = ((0 : ℝ) : EReal)
  simp

/-- A padded row: 64 columns, then 32, then zeros. -/
theorem padded {a r : ℕ} (ha : a < 8) (x y : ℝ) : (if h : a < 8 ∧ r < 96 then if h1 : r < 64 then ((x : ℝ) : EReal) else ((y : ℝ) : EReal) else ((0 : ℝ) : EReal))
    = ((if r < 96 then (if r < 64 then x else y) else 0 : ℝ) : EReal) := by
  by_cases h : r < 96
  · rw [dif_pos ⟨ha, h⟩, if_pos h]
    by_cases h1 : r < 64
    · rw [dif_pos h1, if_pos h1]
    · rw [dif_neg h1, if_neg h1]
  · rw [dif_neg fun k => h k.2, if_neg h]

/-- A padded row: 64 columns, then zeros. -/
theorem padded' {a r : ℕ} (ha : a < 8) (x : ℝ) : (if h : a < 8 ∧ r < 64 then ((x : ℝ) : EReal) else ((0 : ℝ) : EReal)) = ((if r < 64 then x else 0 : ℝ) : EReal) := by
  by_cases h : r < 64
  · rw [dif_pos ⟨ha, h⟩, if_pos h]
  · rw [dif_neg fun k => h k.2, if_neg h]

/-- The two products' sums as the one of the whole query or key. -/
theorem joined (r : ℕ) (w a b : ℕ → ℝ) : (if r < 96 then (if r < 64 then ∑ U : Fin 8192, w U.val * sc * a U.val else ∑ U : Fin 8192, w U.val * sc * b U.val) else 0)
    = if r < 96 then (∑ U : Fin 8192, w U.val * (if r < 64 then a U.val else b U.val)) * sc else 0 := by
  refine if_congr Iff.rfl ?_ rfl
  by_cases h : r < 64
  · simp only [if_pos h, Finset.sum_mul]
    exact Finset.sum_congr rfl fun U _ => by ring
  · simp only [if_neg h, Finset.sum_mul]
    exact Finset.sum_congr rfl fun U _ => by ring

theorem v76 : val_main_v77 (F := Ideal) G.Qn G.Qr G.Kn G.Kr G.Vv G.Ct = (up2 .f32 G.outQ : FVec Ideal S1024x8192 .f32) := by
  unfold val_main_v77 val_main_v76 val_main_v75 val_main_v74 val_main_v73
  rw [v71, v67]
  funext i
  pointwise [val_main_call2_v0, val_main_c, zero_word]
  have h0 : (i 0).val < 1024 := (i 0).isLt
  refine (padded (a := (i 0).val / 128) (r := (i 0).val % 128) (by omega) (∑ U : Fin 8192, G.W ((i 0).val / 128) (i 1).val U.val * sc * G.kn U.val ((i 0).val / 128) ((i 0).val % 128))
    (∑ U : Fin 8192, G.W ((i 0).val / 128) (i 1).val U.val * sc * G.kr U.val ((i 0).val % 128 - 64))).trans ?_
  exact congrArg (fun z : ℝ => (z : EReal)) (joined ((i 0).val % 128) (fun U => G.W ((i 0).val / 128) (i 1).val U) (fun U => G.kn U ((i 0).val / 128) ((i 0).val % 128)) (fun U => G.kr U ((i 0).val % 128 - 64)))

theorem v83 : val_main_v83 (F := Ideal) G.Qn G.Qr G.Kn G.Kr G.Vv G.Ct = (up2 .bf16 G.outK : FVec Ideal S1024x8192 .bf16) := by
  unfold val_main_v83 val_main_v82 val_main_v81 val_main_v80 val_main_v79 val_main_v78
  rw [v69, v65]
  funext i
  pointwise [val_main_call3_v0, val_main_c_14, zero_word]
  have h0 : (i 0).val < 1024 := (i 0).isLt
  refine (padded (a := (i 0).val / 128) (r := (i 0).val % 128) (by omega) (∑ T : Fin 8192, G.W ((i 0).val / 128) T.val (i 1).val * sc * G.qn T.val ((i 0).val / 128) ((i 0).val % 128))
    (∑ T : Fin 8192, G.W ((i 0).val / 128) T.val (i 1).val * sc * G.qr T.val ((i 0).val / 128) ((i 0).val % 128 - 64))).trans ?_
  exact congrArg (fun z : ℝ => (z : EReal)) (joined ((i 0).val % 128) (fun T => G.W ((i 0).val / 128) T (i 1).val) (fun T => G.qn T ((i 0).val / 128) ((i 0).val % 128)) (fun T => G.qr T ((i 0).val / 128) ((i 0).val % 128 - 64)))

theorem v88 : val_main_v88 (F := Ideal) G.Qn G.Qr G.Kn G.Kr G.Ct = (up2 .bf16 G.outV : FVec Ideal S1024x8192 .bf16) := by
  unfold val_main_v88 val_main_v87 val_main_v86 val_main_v85 val_main_v84
  rw [v48]
  funext i
  pointwise [val_main_call4_v0, val_main_c_15, zero_word]
  have h0 : (i 0).val < 1024 := (i 0).isLt
  refine (padded' (a := (i 0).val / 128) (r := (i 0).val % 128) (by omega) (∑ T : Fin 8192, G.ct T.val ((i 0).val / 128) ((i 0).val % 128) * G.P ((i 0).val / 128) T.val (i 1).val)).trans ?_
  exact congrArg (fun z : ℝ => (z : EReal)) (if_congr Iff.rfl (Finset.sum_congr rfl fun T _ => mul_comm _ _) rfl)

end Cert.MlaRefIdeal.Holds
-- ==== Proof.Mla.Equal.lean ====
/- The kernel's gradients are the reference's. -/
module

public import proofs.«01_k».proof.Proof.Mla.Finite
public import proofs.«01_k».proof.Proof.Mla.Result
public import proofs.«01_k».proof.Proof.Mla.Ref

@[expose] public section

set_option maxRecDepth 16384

noncomputable section

namespace Cert.Proof

open Idealize.ShloMosaic Idealize.SL.Sem

theorem mla_equal [Cert.Pre_finite_mla.Facts] : Cert.algebraic_MlaIdeal_MlaRefIdeal_pre_finite_mla := by
  intro m g m' g' hpre heq
  have hp := Cert.MlaK.at_given m hpre
  refine ⟨_, _, _, (θ_run _ _ _).mono (fun _ h c => h c) (Cert.MlaK.ends m (Cert.MlaK.given m) g hp),
    (θ_run _ _ _).mono (fun _ h c => ?_) (Cert.MlaRefIdeal.Value.run m' g')⟩
  obtain ⟨r0, r1, r2, k⟩ := h c
  obtain ⟨e0, e1, e2, e3, e4, e5⟩ := heq c
  have a0 := e0.trans (hp c).qn
  have a1 := e1.trans (hp c).qr
  have a2 := e2.trans (hp c).kn
  have a3 := e3.trans (hp c).kr
  have a4 := e4.trans (hp c).v
  have a5 := e5.trans (hp c).ct
  refine ⟨r0.trans ((Cert.MlaRefIdeal.Read.val_main_v77_eq _ _).trans
      ((congr (congr (congr (congr (congr (congrArg (Cert.MlaRefIdeal.Read.val_main_v77 (F := Ideal)) a0) a1) a2) a3) a4) a5).trans (Cert.MlaRefIdeal.Holds.v76 _))),
    r1.trans ((Cert.MlaRefIdeal.Read.val_main_v83_eq _ _).trans
      ((congr (congr (congr (congr (congr (congrArg (Cert.MlaRefIdeal.Read.val_main_v83 (F := Ideal)) a0) a1) a2) a3) a4) a5).trans (Cert.MlaRefIdeal.Holds.v83 _))),
    r2.trans ((Cert.MlaRefIdeal.Read.val_main_v88_eq _ _).trans
      ((congr (congr (congr (congr (congrArg (Cert.MlaRefIdeal.Read.val_main_v88 (F := Ideal)) a0) a1) a2) a3) a5).trans (Cert.MlaRefIdeal.Holds.v88 _))), k⟩

end Cert.Proof
-- ==== Proof.Inp.Frames.lean ====
/- The frames of the input projection's programs. -/
module

public import proofs.«01_k».proof.Defs
public import proofs.«01_k».proof.Proof.Gen.Inp.Frame
public import proofs.«01_k».proof.Proof.Gen.InpIdeal.Frame
public import proofs.«01_k».proof.Proof.Gen.InpRefIdeal
public import proofs.«01_k».proof.Proof.Gen.Pre_finite_inp
public import proofs.«01_k».proof.Proof.Gen.InpRefIdeal.Run
public import Idealize.ShloMosaic.Lib.Quiescent

@[expose] public section

noncomputable section

namespace Cert.Proof

open Idealize.ShloMosaic Idealize.SL.Sem

theorem inp_frame : Cert.quiescent_Inp := fun m g _ => Cert.Inp.Gen.frame m g

theorem inp_ideal_frame : Cert.quiescent_InpIdeal := fun m g _ => Cert.InpIdeal.Gen.frame m g

theorem inp_ideal_frame_finite : Cert.quiescent_InpIdeal_pre_finite_inp := fun m g _ => Cert.InpIdeal.Gen.frame m g

/-- The reference's program has host operations only, so no counter that could be left standing. -/
theorem inp_reference_frame : Cert.quiescent_InpRefIdeal := fun m g _ =>
  (θ_run _ _ _).mono (fun r h => ⟨fun c => (h c).2.2, sem_eq_zero_of_no_sems rfl r.2⟩) (Cert.InpRefIdeal.Value.run m g)

theorem inp_reference_frame_finite : Cert.quiescent_InpRefIdeal_pre_finite_inp := fun m g _ => inp_reference_frame m g trivial

end Cert.Proof
-- ==== Proof.Inp.Step.lean ====
/- The gradient of the first norm and the input projection, over the reals, and the padded columns the kernel sums over. -/
module

public import Idealize.ShloMosaic.Lib.Claim
public import proofs.«01_k».proof.Proof.Mlp.Step

@[expose] public section

noncomputable section

namespace Cert

open Idealize.ShloMosaic Cert.Reals

/-- The reciprocal root as the programs write it. -/
theorem Rms.rsqrt_row {z : EReal} {x : Fin 1024 → ℝ} (h : z = ((∑ k, x k * x k : ℝ) : EReal)) :
    Ideal.rsqrt (Ideal.div z (Ideal.ofBits .f32 0x44800000#32) + Ideal.ofBits .f32 0x358637BD#32)
      = ((Rms.rr 1024 x : ℝ) : EReal) := by
  rw [h, lit_1024, lit_eps, div_real (by norm_num), ← EReal.coe_add]
  exact rsqrt_real (Rms.ms_pos (by norm_num) x)

/-- The arguments: the rows, the gain, the projection's matrix, what reaches the rows past the norm, and the cotangent of
    the projection. -/
structure InpIn where
  x : Fin 8192 → Fin 1024 → ℝ
  g : Fin 1024 → ℝ
  w : Fin 1024 → Fin 3232 → ℝ
  dx1 : Fin 8192 → Fin 1024 → ℝ
  dp : Fin 8192 → Fin 3232 → ℝ

namespace InpIn

/-! ## The padded columns -/

/-- The entry of a padded row: the gates as they are, twelve heads of 64 in slabs of 128, the latents as they are, the
    rotary key in the second half of the last slab. -/
def spread (f : Fin 3232 → ℝ) (c : ℕ) : ℝ :=
  if h : c < 2048 then f ⟨c, by omega⟩
  else if h : c < 3584 ∧ (c - 2048) % 128 < 64 then f ⟨2048 + ((c - 2048) / 128 * 64 + (c - 2048) % 128), by omega⟩
  else if h : 3584 ≤ c ∧ c < 3968 then f ⟨c - 3584 + 2816, by omega⟩
  else if h : 4032 ≤ c ∧ c < 4064 then f ⟨c - 4032 + 3200, by omega⟩
  else 0

/-- Where a column goes. -/
def place (k : Fin 3232) : Fin 4096 :=
  if h : k.val < 2048 then ⟨k.val, by omega⟩
  else if h' : k.val < 2816 then ⟨2048 + ((k.val - 2048) / 64 * 128 + (k.val - 2048) % 64), by omega⟩
  else if h'' : k.val < 3200 then ⟨k.val + 768, by omega⟩
  else ⟨k.val + 832, by omega⟩

theorem spread_place (f : Fin 3232 → ℝ) (k : Fin 3232) : spread f (place k).val = f k := by
  have hk := k.isLt
  unfold place
  by_cases h : k.val < 2048
  · rw [dif_pos h, spread, dif_pos h]
  rw [dif_neg h]
  by_cases h' : k.val < 2816
  · rw [dif_pos h', spread, dif_neg (by simp only; omega), dif_pos (by simp only; omega)]
    exact congrArg f (Fin.ext (by simp only; omega))
  rw [dif_neg h']
  by_cases h'' : k.val < 3200
  · rw [dif_pos h'', spread, dif_neg (by simp only; omega), dif_neg (by simp only; omega), dif_pos (by simp only; omega)]
    exact congrArg f (Fin.ext (by simp only; omega))
  · rw [dif_neg h'', spread, dif_neg (by simp only; omega), dif_neg (by simp only; omega), dif_neg (by simp only; omega),
      dif_pos (by simp only; omega)]
    exact congrArg f (Fin.ext (by simp only; omega))

theorem place_val (k : Fin 3232) : (place k).val = if k.val < 2048 then k.val
    else if k.val < 2816 then 2048 + ((k.val - 2048) / 64 * 128 + (k.val - 2048) % 64)
    else if k.val < 3200 then k.val + 768 else k.val + 832 := by
  unfold place; split_ifs <;> rfl

theorem place_injective : Function.Injective place := by
  intro a b h
  have h := congrArg Fin.val h
  rw [place_val, place_val] at h
  have := a.isLt
  have := b.isLt
  refine Fin.ext ?_
  split_ifs at h <;> omega

theorem spread_zero (f : Fin 3232 → ℝ) (c : Fin 4096) (h : c ∉ Set.range place) : spread f c.val = 0 := by
  have hc := c.isLt
  have hn : ∀ k : Fin 3232, (place k).val ≠ c.val := fun k e => h ⟨k, Fin.ext e⟩
  have out : ∀ n : ℕ, (hl : n < 3232) → (if n < 2048 then n else if n < 2816 then 2048 + ((n - 2048) / 64 * 128 + (n - 2048) % 64)
      else if n < 3200 then n + 768 else n + 832) ≠ c.val := fun n hl e => hn ⟨n, hl⟩ ((place_val _).trans e)
  unfold spread
  by_cases h1 : c.val < 2048
  · exact absurd (if_pos h1) (out c.val (by omega))
  rw [dif_neg h1]
  by_cases h2 : c.val < 3584 ∧ (c.val - 2048) % 128 < 64
  · refine absurd ?_ (out (2048 + ((c.val - 2048) / 128 * 64 + (c.val - 2048) % 128)) (by omega))
    rw [if_neg (by omega), if_pos (by omega)]; omega
  rw [dif_neg h2]
  by_cases h3 : 3584 ≤ c.val ∧ c.val < 3968
  · refine absurd ?_ (out (c.val - 768) (by omega))
    rw [if_neg (by omega), if_neg (by omega), if_pos (by omega)]; omega
  rw [dif_neg h3]
  by_cases h4 : 4032 ≤ c.val ∧ c.val < 4064
  · refine absurd ?_ (out (c.val - 832) (by omega))
    rw [if_neg (by omega), if_neg (by omega), if_neg (by omega)]; omega
  rw [dif_neg h4]

theorem spread_at (f : Fin 3232 → ℝ) (c : ℕ) (k : Fin 3232) (h : (place k).val = c) : spread f c = f k := by
  rw [← h, spread_place]

theorem spread_none (f : Fin 3232 → ℝ) (c : ℕ) (h1 : 2048 ≤ c) (h2 : c < 3584 → 64 ≤ (c - 2048) % 128)
    (h3 : 3584 ≤ c → 3968 ≤ c) (h4 : 4032 ≤ c → 4064 ≤ c) : spread f c = 0 := by
  rw [spread, dif_neg (by omega), dif_neg (by omega), dif_neg (by omega), dif_neg (by omega)]

/-- A sum over the padded columns is the sum over the columns. -/
theorem sum_spread (f g : Fin 3232 → ℝ) : ∑ c : Fin 4096, spread f c.val * spread g c.val = ∑ k, f k * g k :=
  (Fintype.sum_of_injective place place_injective _ _ (fun c h => by rw [spread_zero f c h, zero_mul])
    (fun k => by rw [spread_place, spread_place])).symm

/-! ## The gradient -/

variable (p : InpIn) (i : Fin 8192)

def r (i : Fin 8192) : ℝ := Rms.rr 1024 (p.x i)
def dh (j : Fin 1024) : ℝ := ∑ k, p.dp i k * p.w j k
/-- The row's part of the gain's gradient. -/
def dg (j : Fin 1024) : ℝ := p.dh i j * p.x i j * p.r i
def dx (j : Fin 1024) : ℝ := p.dx1 i j + Rms.bwd 1024 (p.x i) p.g (p.dh i) j

/-- The arguments as the programs hold them. -/
abbrev X : FVec Ideal ⟨2, ![8192, 1024]⟩ .f32 := Reals.up fun i => p.x (i 0) (i 1)
abbrev G : FVec Ideal ⟨2, ![1, 1024]⟩ .f32 := Reals.up fun i => p.g (i 1)
abbrev W : FVec Ideal ⟨2, ![1024, 3232]⟩ .f32 := Reals.up fun i => p.w (i 0) (i 1)
abbrev Dx1 : FVec Ideal ⟨2, ![8192, 1024]⟩ .f32 := Reals.up fun i => p.dx1 (i 0) (i 1)
abbrev Dp : FVec Ideal ⟨2, ![8192, 3232]⟩ .f32 := Reals.up fun i => p.dp (i 0) (i 1)

end InpIn

end Cert

end
-- ==== Proof.Inp.Pay.lean ====
/- What each block the kernel computes holds, at input blocks that are a tile's rows of the arrays. -/
module

public import proofs.«01_k».proof.Proof.Gen.InpIdeal.Skeleton
public import proofs.«01_k».proof.Proof.Inp.Step

@[expose] public section

set_option maxRecDepth 16384

noncomputable section

namespace Cert.InpIdeal.Pay

open Idealize.ShloMosaic Cert.InpIdeal Cert.InpIdeal.Gen Cert.Reals Cert.InpIn

variable (p : InpIn) (row : Fin 512 → Fin 8192)

/-- A tile of the rows of `f`. -/
abbrev rows {n : ℕ} (φ : FTy) (f : Fin 8192 → Fin n → ℝ) : FVec Ideal ⟨2, ![512, n]⟩ φ := up fun i => f (row (i 0)) (i 1)

/-- The tile's padded cotangents. -/
abbrev cots : FVec Ideal S512x4096 .bf16 := up fun i => spread (p.dp (row (i 0))) (i 1).val

/-- The padded matrix. -/
abbrev wide : FVec Ideal S1024x4096 .bf16 := up fun i => spread (p.w (i 0)) (i 1).val

theorem pay7 : k0_pay7 (cots p row) (wide p) = rows row .f32 p.dh := by
  funext i
  pointwise [k0_pay7, ← EReal.coe_mul, coe_sum]
  exact congrArg (fun z : ℝ => (z : EReal)) (sum_spread _ _)

theorem pay8 : k0_pay8 (rows row .f32 p.x) = up fun i => p.r (row (i 0)) := by
  funext i
  pointwise [k0_pay8, ← EReal.coe_mul, coe_sum]
  exact Rms.rsqrt_row rfl

theorem pay9 : k0_pay9 (cots p row) (wide p) (rows row .f32 p.x) = rows row .f32 p.dg := by
  funext i
  pointwise [k0_pay9, pay7, pay8, ← EReal.coe_mul]
  rfl

theorem pay1 (j : S1x1024.Idx) : k0_pay1 (F := Ideal) j = 0 := by
  pointwise [k0_pay1, lit_zero, EReal.coe_zero]

/-- The sum of the tile's parts of the gain's gradient joins the sum so far. -/
theorem pay2 (acc : FVec Ideal S1x1024 .f32) (j : S1x1024.Idx) :
    k0_pay2 (rows row .f32 p.dg) acc j = acc j + ((∑ r : Fin 512, p.dg (row r) (j 1) : ℝ) : EReal) := by
  pointwise [k0_pay2, coe_sum]

theorem pay3 : k0_pay3 (rows row .f32 p.dh) (rows row .f32 p.x) (up fun i => p.r (row (i 0))) (rows row .f32 p.dx1)
    (p.G : FVec Ideal S1x1024 .f32) = rows row .f32 p.dx := by
  funext i
  pointwise [k0_pay3, ← EReal.coe_mul, coe_sum, lit_1024, div_real (show (1024 : ℝ) ≠ 0 by norm_num),
    ← EReal.coe_sub, ← EReal.coe_add]
  rfl

end Cert.InpIdeal.Pay

end
-- ==== Proof.Inp.Kernel.lean ====
/- The arrays the kernel leaves. -/
module

public import proofs.«01_k».proof.Proof.Gen.InpIdeal.Value
public import proofs.«01_k».proof.Proof.Inp.Pay
public import Idealize.ShloMosaic.Lib.Pipeline.ValueKit
public import Idealize.ShloMosaic.Lib.Claim

@[expose] public section

set_option maxRecDepth 16384

noncomputable section

namespace Cert.InpIdeal.Arrays

open Idealize.ShloMosaic Idealize.ShloMosaic.TcCoe Cert.InpIdeal Cert.InpIdeal.Gen Cert.InpIdeal.Pay Cert.Reals Cert.InpIn

variable (p : InpIn) (m : (ℓ : Loc nD τ sig) → Buf (Elt Ideal) ℓ) (c : Dev nD)

/-- The arguments hold the step's arrays. -/
structure At : Prop where
  x : m ((c : Thread nD τ).loc main_arg0) = p.X
  g : m ((c : Thread nD τ).loc main_arg1) = p.G
  w : m ((c : Thread nD τ).loc main_arg2) = p.W
  dx1 : m ((c : Thread nD τ).loc main_arg3) = p.Dx1
  dp : m ((c : Thread nD τ).loc main_arg4) = p.Dp

/-- Row `r` of tile `t`. -/
def row (t : Fin cfg0.N) (r : Fin 512) : Fin 8192 := ⟨512 * t.val + r.val, by have := t.isLt; have : cfg0.N = 16 := rfl; omega⟩

theorem idx : ∀ t : Fin cfg0.N,
    win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![t.val, 0]
    ∧ win0_8.index t = ![0, 0] :=
  (by decide +kernel : ∀ t : Fin grid0.N, _)

variable {m c} in
/-- The lines before the call one stretch after another. -/
theorem lines (b : Ref sig .tc) : V m c b
    = StableHlo.after hostOps0_12 (StableHlo.after hostOps0_11 (StableHlo.after hostOps0_10 (StableHlo.after hostOps0_9
      (StableHlo.after hostOps0_8 (StableHlo.after hostOps0_7 (StableHlo.after hostOps0_6 (StableHlo.after hostOps0_5
      (StableHlo.after hostOps0_4 (StableHlo.after hostOps0_3 (StableHlo.after hostOps0_2 (StableHlo.after hostOps0_1
      (StableHlo.after hostOps0 (fun b => m (c, b)))))))))))))) (Proc.devRef .tc b) := by
  refine (congrFun (?_ : StableHlo.after (hostOps0 ++ (hostOps0_1 ++ (hostOps0_2 ++ (hostOps0_3 ++ (hostOps0_4 ++ (hostOps0_5 ++ (hostOps0_6
    ++ (hostOps0_7 ++ (hostOps0_8 ++ (hostOps0_9 ++ (hostOps0_10 ++ (hostOps0_11 ++ (hostOps0_12 ++ []))))))))))))) _ = _) _)
  rw [List.append_nil]
  simp only [StableHlo.after_append]

/-- What stands before the last lines. -/
abbrev rest : Valuation τ sig (Elt Ideal) := StableHlo.after hostOps0_11 (StableHlo.after hostOps0_10 (StableHlo.after hostOps0_9
      (StableHlo.after hostOps0_8 (StableHlo.after hostOps0_7 (StableHlo.after hostOps0_6 (StableHlo.after hostOps0_5
      (StableHlo.after hostOps0_4 (StableHlo.after hostOps0_3 (StableHlo.after hostOps0_2 (StableHlo.after hostOps0_1
      (StableHlo.after hostOps0 (fun b => m (c, b)))))))))))))

/-- The last lines join the six groups of columns. -/
theorem last (σ : Valuation τ sig (Elt Ideal)) {a : FVec Ideal S1024x3232 .bf16} {b : FVec Ideal S1024x1024 .bf16} {k v : FVec Ideal S1024x256 .bf16}
    {e : FVec Ideal S1024x128 .bf16} (ha : σ (Proc.devRef .tc main_v10) = a) (hb : σ (Proc.devRef .tc main_v14) = b)
    (hk : σ (Proc.devRef .tc main_v18) = k) (hv : σ (Proc.devRef .tc main_v22) = v) (he : σ (Proc.devRef .tc main_v24) = e) :
    StableHlo.after hostOps0_12 σ (Proc.devRef .tc main_v27)
    = concatenate S1024x4096 1 [⟨S1024x2048, extractStridedSlice S1024x2048 ![0, 0] a slices_S1024x3232_S1024x2048_0_0⟩,
      ⟨S1024x1024, b⟩, ⟨S1024x256, k⟩, ⟨S1024x256, v⟩,
      ⟨S1024x384, extractStridedSlice S1024x384 ![0, 2816] a slices_S1024x3232_S1024x384_0_2816⟩, ⟨S1024x128, e⟩]
      concatenates_S1024x2048_S1024x1024_S1024x256_S1024x256_S1024x384_S1024x128_S1024x4096_d1 := by
  subst ha hb hk hv he
  rw [StableHlo.after_cons, StableHlo.after_cons, StableHlo.after_cons, StableHlo.after_nil, StableHlo.nary_result]
  rfl

theorem real_at (f : Fin 3232 → ℝ) {c : ℕ} (k : Fin 3232) (h : (if k.val < 2048 then k.val
    else if k.val < 2816 then 2048 + ((k.val - 2048) / 64 * 128 + (k.val - 2048) % 64)
    else if k.val < 3200 then k.val + 768 else k.val + 832) = c) : ((f k : ℝ) : EReal) = ((spread f c : ℝ) : EReal) :=
  congrArg (fun z : ℝ => (z : EReal)) (spread_at f c k ((place_val k).trans h)).symm

theorem real_none (f : Fin 3232 → ℝ) {c : ℕ} (h1 : 2048 ≤ c) (h2 : c < 3584 → 64 ≤ (c - 2048) % 128)
    (h3 : 3584 ≤ c → 3968 ≤ c) (h4 : 4032 ≤ c → 4064 ≤ c) :
    (FloatOps.sitofp FTy.bf16 0#32 : Ideal .bf16) = ((spread f c : ℝ) : EReal) := by
  rw [spread_none f c h1 h2 h3 h4, show (FloatOps.sitofp FTy.bf16 0#32 : Ideal .bf16) = (((0#32 : BitVec 32).toInt : ℝ) : EReal) from rfl]
  norm_num

variable {p m c} (hp : At p m c)
include hp

theorem host9 : V m c main_v9 = (up fun i => spread (p.dp (i 0)) (i 1).val : FVec Ideal S8192x2048 .bf16) := by
  rw [lines]
  entry_read
  rw [hp.dp]
  funext i
  have h : (i 1).val < 2048 := (i 1).isLt
  pointwise []
  exact real_at _ ⟨(i 1).val, by omega⟩ (if_pos h)

theorem host4 : V m c main_v4 = (up fun i => spread (p.dp (i 0)) (2048 + (i 1).val) : FVec Ideal S8192x1536 .bf16) := by
  rw [lines]
  entry_read
  rw [hp.dp]
  funext i
  have h : (i 1).val < 1536 := (i 1).isLt
  simp only [StableHlo.TRef.ofBuf_toBuf, StableHlo.TRef.toBuf, StableHlo.TRef.ofBuf, cast_eq]
  pointwise []
  split
  · exact real_at _ ⟨2048 + ((i 1).val / 128 * 64 + (i 1).val % 128), by omega⟩ (by simp only; split_ifs <;> omega)
  · exact real_none _ (by omega) (by omega) (by omega) (by omega)

theorem host8 : V m c main_v8 = (up fun i => spread (p.dp (i 0)) (3584 + (i 1).val) : FVec Ideal S8192x512 .bf16) := by
  rw [lines]
  entry_read
  rw [hp.dp]
  funext i
  have h : (i 1).val < 512 := (i 1).isLt
  simp only [StableHlo.TRef.ofBuf_toBuf, StableHlo.TRef.toBuf, StableHlo.TRef.ofBuf, cast_eq]
  pointwise []
  split
  · exact real_at _ ⟨2816 + (i 1).val, by omega⟩ (by simp only; split_ifs <;> omega)
  split
  · exact real_at _ ⟨3200 + ((i 1).val - 384 - 64), by omega⟩ (by simp only; split_ifs <;> omega)
  · exact real_none _ (by omega) (by omega) (by omega) (by omega)

theorem host10 : rest m c (Proc.devRef .tc main_v10) = (up fun i => p.w (i 0) (i 1) : FVec Ideal S1024x3232 .bf16) := by
  unfold rest
  entry_read
  rw [hp.w]
  rfl

theorem host14 : rest m c (Proc.devRef .tc main_v14) = (up fun i => spread (p.w (i 0)) (2048 + (i 1).val) : FVec Ideal S1024x1024 .bf16) := by
  unfold rest
  entry_read
  rw [hp.w]
  funext i
  have h : (i 1).val < 1024 := (i 1).isLt
  simp only [StableHlo.TRef.ofBuf_toBuf, StableHlo.TRef.toBuf, StableHlo.TRef.ofBuf, cast_eq]
  pointwise []
  split
  · exact real_at _ ⟨2048 + ((i 1).val / 128 * 64 + (i 1).val % 128), by omega⟩ (by simp only; split_ifs <;> omega)
  · exact real_none _ (by omega) (by omega) (by omega) (by omega)

theorem host18 : rest m c (Proc.devRef .tc main_v18) = (up fun i => spread (p.w (i 0)) (3072 + (i 1).val) : FVec Ideal S1024x256 .bf16) := by
  unfold rest
  entry_read
  rw [hp.w]
  funext i
  have h : (i 1).val < 256 := (i 1).isLt
  simp only [StableHlo.TRef.ofBuf_toBuf, StableHlo.TRef.toBuf, StableHlo.TRef.ofBuf, cast_eq]
  pointwise []
  split
  · exact real_at _ ⟨2560 + ((i 1).val / 128 * 64 + (i 1).val % 128), by omega⟩ (by simp only; split_ifs <;> omega)
  · exact real_none _ (by omega) (by omega) (by omega) (by omega)

theorem host22 : rest m c (Proc.devRef .tc main_v22) = (up fun i => spread (p.w (i 0)) (3328 + (i 1).val) : FVec Ideal S1024x256 .bf16) := by
  unfold rest
  entry_read
  rw [hp.w]
  funext i
  have h : (i 1).val < 256 := (i 1).isLt
  simp only [StableHlo.TRef.ofBuf_toBuf, StableHlo.TRef.toBuf, StableHlo.TRef.ofBuf, cast_eq]
  pointwise []
  split
  · exact real_at _ ⟨2688 + ((i 1).val / 128 * 64 + (i 1).val % 128), by omega⟩ (by simp only; split_ifs <;> omega)
  · exact real_none _ (by omega) (by omega) (by omega) (by omega)

theorem host24 : rest m c (Proc.devRef .tc main_v24) = (up fun i => spread (p.w (i 0)) (3968 + (i 1).val) : FVec Ideal S1024x128 .bf16) := by
  unfold rest
  entry_read
  rw [hp.w]
  funext i
  have h : (i 1).val < 128 := (i 1).isLt
  simp only [StableHlo.TRef.ofBuf_toBuf, StableHlo.TRef.toBuf, StableHlo.TRef.ofBuf, cast_eq]
  pointwise []
  split
  · exact real_at _ ⟨3200 + ((i 1).val - 64), by omega⟩ (by simp only; split_ifs <;> omega)
  · exact real_none _ (by omega) (by omega) (by omega) (by omega)

theorem host27 : V m c main_v27 = wide p := by
  rw [lines, last _ (host10 hp) (host14 hp) (host18 hp) (host22 hp) (host24 hp)]
  funext i
  have h : (i 1).val < 4096 := (i 1).isLt
  have same : ∀ n n' : ℕ, n = n' → ((spread (p.w (i 0)) n : ℝ) : EReal) = ((spread (p.w (i 0)) n' : ℝ) : EReal) := fun _ _ e => e ▸ rfl
  pointwise []
  split
  · exact real_at _ ⟨(i 1).val, by omega⟩ (if_pos ‹_›)
  split
  · exact same (2048 + ((i 1).val - 2048)) _ (by omega)
  split
  · exact same (3072 + ((i 1).val - 2048 - 1024)) _ (by omega)
  split
  · exact same (3328 + ((i 1).val - 2048 - 1024 - 256)) _ (by omega)
  split
  · exact real_at _ ⟨2816 + ((i 1).val - 2048 - 1024 - 256 - 256), by omega⟩ (by simp only; split_ifs <;> omega)
  · exact same (3968 + ((i 1).val - 2048 - 1024 - 256 - 256 - 384)) _ (by omega)

theorem block0 (t : Fin cfg0.N) : iblk m c 0 t = (up fun i => spread (p.dp (row t (i 0))) (i 1).val : FVec Ideal S512x2048 .bf16) := by
  funext j
  blk_simp [iblk]
  rw [host9 hp]
  refine (?_ : _ = (up fun i => spread (p.dp (i 0)) (i 1).val : FVec Ideal S8192x2048 .bf16) (ix2 (row t (j 0)) (j 1)))
  blk_ext [idx t, row]

theorem block1 (t : Fin cfg0.N) : iblk m c 1 t = (up fun i => spread (p.dp (row t (i 0))) (2048 + (i 1).val) : FVec Ideal S512x1536 .bf16) := by
  funext j
  blk_simp [iblk]
  rw [host4 hp]
  refine (?_ : _ = (up fun i => spread (p.dp (i 0)) (2048 + (i 1).val) : FVec Ideal S8192x1536 .bf16) (ix2 (row t (j 0)) (j 1)))
  blk_ext [idx t, row]

theorem block2 (t : Fin cfg0.N) : iblk m c 2 t = (up fun i => spread (p.dp (row t (i 0))) (3584 + (i 1).val) : FVec Ideal S512x512 .bf16) := by
  funext j
  blk_simp [iblk]
  rw [host8 hp]
  refine (?_ : _ = (up fun i => spread (p.dp (i 0)) (3584 + (i 1).val) : FVec Ideal S8192x512 .bf16) (ix2 (row t (j 0)) (j 1)))
  blk_ext [idx t, row]

theorem block3 (t : Fin cfg0.N) : iblk m c 3 t = rows (row t) .f32 p.x := by
  have h : V m c main_arg0 = p.X := (V_main_arg0 m c).trans hp.x
  funext j
  blk_simp [iblk]
  rw [h]
  refine (?_ : _ = p.X (ix2 (row t (j 0)) (j 1)))
  blk_ext [idx t, row]

theorem block4 (t : Fin cfg0.N) : iblk m c 4 t = rows (row t) .f32 p.dx1 := by
  have h : V m c main_arg3 = p.Dx1 := (V_main_arg3 m c).trans hp.dx1
  funext j
  blk_simp [iblk]
  rw [h]
  refine (?_ : _ = p.Dx1 (ix2 (row t (j 0)) (j 1)))
  blk_ext [idx t, row]

theorem block5 (t : Fin cfg0.N) : iblk m c 5 t = p.G := by
  have h : V m c main_arg1 = p.G := (V_main_arg1 m c).trans hp.g
  refine Eq.trans ?_ h
  blk_ext! [iblk, idx t]

theorem block6 (t : Fin cfg0.N) : iblk m c 6 t = wide p := by
  rw [← host27 hp]
  blk_ext! [iblk, idx t]

/-- The three pieces of the tile's cotangents stand side by side where the kernel lays them. -/
theorem laid (t : Fin cfg0.N) : (View.whole cc0_scratch0).readCov (Val := Elt Ideal)
      [⟨Rect.unit ![0, 3584] ![512, 512] inb_S512x4096_S512x512_0_3584, k0_pay6 (iblk m c 2 t)⟩,
        ⟨Rect.unit ![0, 2048] ![512, 1536] inb_S512x4096_S512x1536_0_2048, k0_pay5 (iblk m c 1 t)⟩,
        ⟨Rect.unit ![0, 0] ![512, 2048] inb_S512x4096_S512x2048_0_0, k0_pay4 (iblk m c 0 t)⟩]
      (Rect.unit ![0, 0] ![512, 4096] inb_S512x4096_S512x4096_0_0).toLoadRect = cots p (row t) := by
  rw [View.readCov_eq_canon', block0 hp, block1 hp, block2 hp]
  funext j
  have hj0 : (j 0).val < 512 := (j 0).isLt
  have hj1 : (j 1).val < 4096 := (j 1).isLt
  have col : ∀ n (x : Fin 512) (y : ℕ), x = j 0 → n + y = (j 1).val →
      ((spread (p.dp (row t x)) (n + y) : ℝ) : EReal) = cots p (row t) j := fun n x y e e' => by rw [e, e']
  have same : ∀ (x : Fin 512) (y : ℕ), x = j 0 → y = (j 1).val →
      ((spread (p.dp (row t x)) y : ℝ) : EReal) = cots p (row t) j := fun x y e e' => by rw [e, e']
  have at0 : (((Rect.unit ![0, 0] ![512, 4096] inb_S512x4096_S512x4096_0_0).toLoadRect.idx j : S512x4096.Idx) 0).val = (j 0).val := by
    show 0 + 1 * (j 0).val = (j 0).val; omega
  have at1 : (((Rect.unit ![0, 0] ![512, 4096] inb_S512x4096_S512x4096_0_0).toLoadRect.idx j : S512x4096.Idx) 1).val = (j 1).val := by
    show 0 + 1 * (j 1).val = (j 1).val; omega
  refine View.canon_eq_of_allAt _ _ _ ?_ (View.allAt_cons_unit _ _ _ _ _ ?_ (View.allAt_cons_unit _ _ _ _ _ ?_ (View.allAt_cons_unit _ _ _ _ _ ?_ ?_)))
  · have inside : ∀ o n : ℕ, o ≤ (j 1).val → (j 1).val < o + n → ∀ h, (Rect.unit ![0, 0] ![512, 4096] inb_S512x4096_S512x4096_0_0).toLoadRect.idx j
        ∈ (Rect.unit (s := S512x4096) ![0, o] ![512, n] h).set := fun o n hlo hhi h =>
      Rect.mem_set_unit.mpr (Fin.forall_fin_two.mpr ⟨⟨Nat.zero_le _, by rw [at0]; show _ < 0 + 512; omega⟩,
        ⟨by rw [at1]; exact hlo, by rw [at1]; exact hhi⟩⟩)
    by_cases h : (j 1).val < 2048
    · exact ⟨_, List.mem_cons_of_mem _ (List.mem_cons_of_mem _ List.mem_cons_self), inside 0 2048 (Nat.zero_le _) (by omega) inb_S512x4096_S512x2048_0_0⟩
    by_cases h' : (j 1).val < 3584
    · exact ⟨_, List.mem_cons_of_mem _ List.mem_cons_self, inside 2048 1536 (by omega) (by omega) inb_S512x4096_S512x1536_0_2048⟩
    · exact ⟨_, List.mem_cons_self, inside 3584 512 (by omega) (by omega) inb_S512x4096_S512x512_0_3584⟩
  · intro x hx
    have h0 : _ = 0 + (x 0).val := hx 0
    have h1 : _ = 3584 + (x 1).val := hx 1
    refine Eq.trans (by pointwise [k0_pay6]) (col 3584 (x 0) (x 1).val (Fin.ext (by omega)) (by omega))
  · intro x hx
    have h0 : _ = 0 + (x 0).val := hx 0
    have h1 : _ = 2048 + (x 1).val := hx 1
    refine Eq.trans (by pointwise [k0_pay5]) (col 2048 (x 0) (x 1).val (Fin.ext (by omega)) (by omega))
  · intro x hx
    have h0 : _ = 0 + (x 0).val := hx 0
    have h1 : _ = 0 + (x 1).val := hx 1
    refine Eq.trans (by pointwise [k0_pay4]) (same (x 0) (x 1).val (Fin.ext (by omega)) (by omega))
  · exact View.allAt_nil _ _

theorem after7 (t : Fin cfg0.N) : (outsAt0 m c t.val t.isLt).1 = rows (row t) .f32 p.dx := by
  by_cases h : t.val % 16 = 0
  · rw [outsAt0_A m c t h]
    frame_out
    simp only [laid hp t, block3 hp t, block4 hp t, block5 hp t, block6 hp t, pay7, pay8, pay3]
  · rw [outsAt0_B m c t h]
    frame_out
    simp only [laid hp t, block3 hp t, block4 hp t, block5 hp t, block6 hp t, pay7, pay8, pay3]

/-- The rows' gradient. -/
theorem arr7 : (dats m 0 c).arrAt 7 cfg0.N = (up fun i => p.dx (i 0) (i 1) : FVec Ideal S8192x1024 .f32) := by
  refine (dats m 0 c).arrAt_eq_of_covers 7 _ (by decide +kernel) fun t hf y => ?_
  blk_simp
  rw [after0_7, after7 hp t]
  refine (?_ : (up fun i => p.dx (i 0) (i 1) : FVec Ideal S8192x1024 .f32) (ix2 (row t (y 0)) (y 1)) = _)
  blk_ext [idx t, row]

omit hp in
/-- A sum over the rows, tile by tile. -/
theorem sum_rows (f : Fin 8192 → ℝ) (t : Fin cfg0.N) (h : ∀ s : Fin 16, 16 * (t.val / 16) + s.val < cfg0.N) :
    ∑ s : Fin 16, ((∑ r : Fin 512, f (row ⟨16 * (t.val / 16) + s.val, h s⟩ r) : ℝ) : EReal) = ((∑ r, f r : ℝ) : EReal) := by
  rw [coe_sum]
  refine congrArg _ (Fin.sum_mul_add_congr fun s k hl => congrArg f (Fin.ext ?_))
  have := t.isLt
  have : cfg0.N = 16 := rfl
  show 512 * (16 * (t.val / 16) + s.val) + k.val = s.val * 512 + k.val
  omega

/-- The gain's gradient. -/
theorem arr8 : (dats m 0 c).arrAt 8 cfg0.N = (up fun i => ∑ r, p.dg r (i 1) : FVec Ideal S1x1024 .f32) := by
  refine (dats m 0 c).arrAt_eq_of_covers 8 _ (by decide +kernel) fun t hf y => ?_
  blk_simp
  rw [after0_8, Pipeline.eq_sum_fin_of_reset_step_apply_of_flush (fun n h => (outsAt0 m c n h).2) 16 (fun _ => 0)
    (fun t j => ((∑ r : Fin 512, p.dg (row t r) (j 1) : ℝ) : EReal))
    (fun t h j => by
      rw [outsAt0_A m c t h]; frame_out; simp only [laid hp t, block3 hp t, block6 hp t, pay9]
      exact (pay2 p (row t) _ j).trans (congrArg (· + _) (pay1 j)))
    (fun t h j => by
      rw [outsAt0_B m c t h]; frame_out; simp only [laid hp t, block3 hp t, block6 hp t, pay9]
      exact pay2 p (row t) _ j)
    t ((flush0_8 t).mp hf) _, zero_add]
  refine (sum_rows (fun r => p.dg r (y 1)) t _).trans (?_ : (up fun i => ∑ r, p.dg r (i 1) : FVec Ideal S1x1024 .f32) (ix2 (y 0) (y 1)) = _)
  blk_ext [idx t]

end Cert.InpIdeal.Arrays
-- ==== Proof.Inp.Finite.lean ====
/- What the precondition gives: the arguments are arrays of reals. -/
module

public import proofs.«01_k».proof.Defs
public import proofs.«01_k».proof.Proof.Gen.Pre_finite_inp
public import proofs.«01_k».proof.Proof.Inp.Kernel

@[expose] public section

noncomputable section

namespace Cert.InpIdeal.Arrays

open Idealize.ShloMosaic Idealize.ShloMosaic.TcCoe Cert.InpIdeal Cert.Reals

/-- The reals the arguments hold on device `c`. -/
def given (m : (ℓ : Loc nD τ sig) → Buf (Elt Ideal) ℓ) (c : Dev nD) : InpIn where
  x i j := EReal.toReal (m ((c : Thread nD τ).loc main_arg0) (ix2 i j))
  g j := EReal.toReal (m ((c : Thread nD τ).loc main_arg1) (ix2 0 j))
  w i j := EReal.toReal (m ((c : Thread nD τ).loc main_arg2) (ix2 i j))
  dx1 i j := EReal.toReal (m ((c : Thread nD τ).loc main_arg3) (ix2 i j))
  dp i j := EReal.toReal (m ((c : Thread nD τ).loc main_arg4) (ix2 i j))

theorem at_given (m : (ℓ : Loc nD τ sig) → Buf (Elt Ideal) ℓ) (h : Pre_InpIdeal_finite_inp m) (c : Dev nD) : At (given m c) m c := by
  have e := congrFun (h c) (fun k => k.elim0)
  have ⟨e, e4⟩ := IntOp.andi_eq_one.mp e
  have ⟨e, e3⟩ := IntOp.andi_eq_one.mp e
  have ⟨e, e2⟩ := IntOp.andi_eq_one.mp e
  have ⟨e0, e1⟩ := IntOp.andi_eq_one.mp e
  exact ⟨up_at2 (real_of_finite _ _ _ _ _ e0), up_at_row (real_of_finite _ _ _ _ _ e1), up_at2 (real_of_finite _ _ _ _ _ e2),
    up_at2 (real_of_finite _ _ _ _ _ e3), up_at2 (real_of_finite _ _ _ _ _ e4)⟩

end Cert.InpIdeal.Arrays
-- ==== Proof.Inp.Ref.lean ====
/- What the reference's arrays hold: at arguments that are reals, each is the gradient's formula at its index. -/
module

public import proofs.«01_k».proof.Proof.Gen.InpRefIdeal.Read
public import proofs.«01_k».proof.Proof.Inp.Step

@[expose] public section

set_option maxRecDepth 16384

noncomputable section

namespace Cert.InpRefIdeal.Holds

open Idealize.ShloMosaic Cert.InpRefIdeal Cert.InpRefIdeal.Read Cert.Reals

variable (p : InpIn)

theorem v6 : val_main_v6 (F := Ideal) p.X = (up fun i => Rms.ms 1024 (p.x (i 0)) : FVec Ideal S8192x1 .f32) := by
  funext i
  simp only [val_main_v6_apply, val_main_v5_apply, val_main_v4_apply, val_main_v3_apply, val_main_v2_apply,
    val_main_v1_apply, val_main_v0_apply, val_main_cst_apply, val_main_cst_0_apply, val_main_cst_1_apply,
    Ideal.ofBits_def, Ideal.addf_def, Ideal.mulf_def, Ideal.hostDivf_def, lit_eps, lit_zero, lit_1024,
    ← EReal.coe_mul, coe_sum, ← EReal.coe_add, div_real (show (1024 : ℝ) ≠ 0 by norm_num), zero_add]
  rfl

theorem v7 : val_main_v7 (F := Ideal) p.X = (up fun i => p.r (i 0) : FVec Ideal S8192x1 .f32) := by
  funext i
  simp only [val_main_v7_apply, v6, Ideal.hostUnary_rsqrt_def, rsqrt_real (Rms.ms_pos (show (0 : ℝ) < 1024 by norm_num) _)]
  rfl

theorem v12 : val_main_v12 (F := Ideal) p.X = (up fun i => p.x (i 0) (i 1) * p.r (i 0) : FVec Ideal S8192x1024 .f32) := by
  funext i
  simp only [val_main_v12_apply, val_main_v11_apply, v7, Ideal.mulf_def, ← EReal.coe_mul]
  rfl

theorem v16 : val_main_v16 (F := Ideal) p.W p.Dp = (up fun i => p.dh (i 0) (i 1) : FVec Ideal S8192x1024 .f32) := by
  funext i
  simp only [val_main_v16_apply, ← EReal.coe_mul, coe_sum]
  rfl

/-- The gain's gradient. -/
theorem v19 : val_main_v19 (F := Ideal) p.X p.W p.Dp = (up fun i => ∑ r, p.dg r (i 1) : FVec Ideal S1x1024 .f32) := by
  funext i
  simp only [val_main_v19_apply, val_main_v18_apply, val_main_v17_apply, val_main_cst_3_apply, v12, v16,
    Ideal.ofBits_def, Ideal.mulf_def, lit_zero, ← EReal.coe_mul, coe_sum, ← EReal.coe_add, zero_add]
  refine congrArg (fun z : ℝ => (z : EReal)) (Finset.sum_congr rfl fun r _ => ?_)
  rw [show idx_main_v18 (idx_main_v19 i) r 1 = i 1 from Fin.ext (by
    show (i 0).val * 1024 + (i 1).val = (i 1).val; have h : (i 0).val < 1 := (i 0).isLt; omega)]
  show p.x r (i 1) * p.r r * p.dh r (i 1) = p.dg r (i 1)
  unfold InpIn.dg; ring

theorem v21 : val_main_v21 (F := Ideal) p.G p.W p.Dp = (up fun i => p.dh (i 0) (i 1) * p.g (i 1) : FVec Ideal S8192x1024 .f32) := by
  funext i
  simp only [val_main_v21_apply, val_main_v20_apply, v16, Ideal.mulf_def, ← EReal.coe_mul]
  rfl

/-- The mean square's cotangent, the row's part through the root. -/
theorem v31 (i : S8192.Idx) : val_main_v31 (F := Ideal) p.X p.G p.W p.Dp i
    = (((∑ k, p.x (i 0) k * (p.dh (i 0) k * p.g k)) * (-(1 / 2) * (p.r (i 0) / Rms.ms 1024 (p.x (i 0)))) / 1024 : ℝ) : EReal) := by
  simp only [val_main_v31_apply, val_main_v30_apply, val_main_v29_apply, val_main_v28_apply, val_main_v24_apply,
    val_main_v23_apply, val_main_v22_apply, val_main_v10_apply, val_main_v9_apply, val_main_v8_apply,
    val_main_cst_2_apply, val_main_cst_4_apply, val_main_cst_5_apply, val_main_cst_6_apply, v6, v7, v21,
    Ideal.ofBits_def, Ideal.mulf_def, Ideal.hostDivf_def, lit_neg_half, lit_zero, lit_1024, ← EReal.coe_mul, coe_sum,
    ← EReal.coe_add, div_real (show (1024 : ℝ) ≠ 0 by norm_num), zero_add,
    div_real (Rms.ms_pos (show (0 : ℝ) < 1024 by norm_num) _).ne']
  rw [Fin.sum_univ_one]
  simp only [show ∀ k, idx_main_v23 (idx_main_v24 (idx_main_v31 i 0)) k 0 = i 0 from fun k => Fin.ext (by
    show (i 0).val * 1 + 0 = (i 0).val; omega)]
  rfl

/-- The rows' gradient. -/
theorem v36 : val_main_v36 (F := Ideal) p.X p.G p.W p.Dx1 p.Dp = (up fun i => p.dx (i 0) (i 1) : FVec Ideal S8192x1024 .f32) := by
  funext i
  simp only [val_main_v36_apply, val_main_v35_apply, val_main_v34_apply, val_main_v33_apply, val_main_v32_apply,
    val_main_v27_apply, val_main_v26_apply, val_main_v25_apply, v7, v21, v31, Ideal.mulf_def, Ideal.addf_def,
    ← EReal.coe_mul, ← EReal.coe_add]
  exact congrArg (fun z : ℝ => (z : EReal)) (Rms.add_bwd_eq (show (0 : ℝ) < 1024 by norm_num) _ _ _ _ _)

end Cert.InpRefIdeal.Holds

end
-- ==== Proof.Inp.Equal.lean ====
/- The kernel's results are the reference's. -/
module

public import proofs.«01_k».proof.Proof.Inp.Finite
public import proofs.«01_k».proof.Proof.Inp.Ref

@[expose] public section

set_option maxRecDepth 16384

noncomputable section

namespace Cert.Proof

open Idealize.ShloMosaic Idealize.SL.Sem

theorem inp_equal [Cert.Pre_finite_inp.Facts] : Cert.algebraic_InpIdeal_InpRefIdeal_pre_finite_inp := by
  intro m g m' g' hpre heq
  have hp := Cert.InpIdeal.Arrays.at_given m hpre
  refine ⟨_, _, (θ_run _ _ _).mono (fun _ h c => h c) (Cert.InpIdeal.Value.run_blocks m g),
    (θ_run _ _ _).mono (fun _ h c => ?_) (Cert.InpRefIdeal.Value.run m' g')⟩
  obtain ⟨r0, r1, k⟩ := h c
  obtain ⟨e0, e1, e2, e3, e4⟩ := heq c
  have a0 := e0.trans (hp c).x
  have a1 := e1.trans (hp c).g
  have a2 := e2.trans (hp c).w
  have a3 := e3.trans (hp c).dx1
  have a4 := e4.trans (hp c).dp
  refine ⟨r0.trans ((Cert.InpRefIdeal.Read.val_main_v36_eq _ _).trans
      ((congr (congr (congr (congr (congrArg (Cert.InpRefIdeal.Read.val_main_v36 (F := Ideal)) a0) a1) a2) a3) a4).trans
      ((Cert.InpRefIdeal.Holds.v36 _).trans (Cert.InpIdeal.Arrays.arr7 (hp c)).symm))),
    r1.trans ((Cert.InpRefIdeal.Read.val_main_v19_eq _ _ _).trans
      ((congr (congr (congrArg (Cert.InpRefIdeal.Read.val_main_v19 (F := Ideal)) a0) a2) a4).trans
      ((Cert.InpRefIdeal.Holds.v19 _).trans (Cert.InpIdeal.Arrays.arr8 (hp c)).symm))), k⟩

end Cert.Proof
-- ==== Proof.Merge.Frames.lean ====
/- The frames of the merge's programs. -/
module

public import proofs.«01_k».proof.Defs
public import proofs.«01_k».proof.Proof.Gen.Merge.Frame
public import proofs.«01_k».proof.Proof.Gen.MergeIdeal.Frame
public import proofs.«01_k».proof.Proof.Gen.MergeRefIdeal
public import proofs.«01_k».proof.Proof.Gen.Pre_finite_merge
public import proofs.«01_k».proof.Proof.Gen.MergeRefIdeal.Run
public import Idealize.ShloMosaic.Lib.Quiescent

@[expose] public section

noncomputable section

namespace Cert.Proof

open Idealize.ShloMosaic Idealize.SL.Sem

theorem merge_frame : Cert.quiescent_Merge := fun m g _ => Cert.Merge.Gen.frame m g

theorem merge_ideal_frame : Cert.quiescent_MergeIdeal := fun m g _ => Cert.MergeIdeal.Gen.frame m g

theorem merge_ideal_frame_finite : Cert.quiescent_MergeIdeal_pre_finite_merge := fun m g _ => Cert.MergeIdeal.Gen.frame m g

/-- The reference's program has host operations only, so no counter that could be left standing. -/
theorem merge_reference_frame : Cert.quiescent_MergeRefIdeal := fun m g _ =>
  (θ_run _ _ _).mono (fun r h => ⟨fun c => (h c).2.2.2.2.2.2.2, sem_eq_zero_of_no_sems rfl r.2⟩) (Cert.MergeRefIdeal.Value.run m g)

theorem merge_reference_frame_finite : Cert.quiescent_MergeRefIdeal_pre_finite_merge := fun m g _ => merge_reference_frame m g trivial

end Cert.Proof
-- ==== Proof.Merge.Step.lean ====
/- The gradient of the gated merge, its output projection and the norm behind it, over the reals. -/
module

public import Idealize.ShloMosaic.Lib.Claim
public import proofs.«01_k».proof.Proof.Mlp.Step
public import proofs.«01_k».proof.Proof.Inp.Step

@[expose] public section

noncomputable section

namespace Cert

open Idealize.ShloMosaic Cert.Reals

/-- The arguments: the two gates, the two attentions' outputs, their output matrices, the merge's matrix, the norm's gain
    and the cotangent. -/
structure MergeIn where
  ga : Fin 8192 → Fin 1024 → ℝ
  gb : Fin 8192 → Fin 1024 → ℝ
  oa : Fin 8192 → Fin 512 → ℝ
  ob : Fin 8192 → Fin 512 → ℝ
  wa : Fin 512 → Fin 1024 → ℝ
  wb : Fin 512 → Fin 1024 → ℝ
  wo : Fin 1024 → Fin 1024 → ℝ
  g : Fin 1024 → ℝ
  ct : Fin 8192 → Fin 1024 → ℝ

namespace MergeIn

/-! ## Heads of 64 in slabs of 128 -/

/-- The entry of a row of eight heads laid out in slabs, the second half of each slab zero. -/
def slab (f : Fin 512 → ℝ) (c : Fin 1024) : ℝ :=
  if h : c.val % 128 < 64 then f ⟨c.val / 128 * 64 + c.val % 128, by have := c.isLt; omega⟩ else 0

/-- … as a padded array has it. -/
theorem dite_slab (f : Fin 512 → ℝ) (c : Fin 1024) {z : EReal} (hz : z = ((0 : ℝ) : EReal)) :
    (if h : c.val / 128 < 8 ∧ c.val % 128 < 64 then ((f ⟨c.val / 128 * 64 + c.val % 128, by omega⟩ : ℝ) : EReal) else z)
      = ((slab f c : ℝ) : EReal) := by
  unfold slab
  by_cases h : c.val % 128 < 64
  · rw [dif_pos ⟨by omega, h⟩, dif_pos h]
  · rw [dif_neg (fun e => h e.2), dif_neg h, hz]

/-- A product with the entries of a slab is a slab. -/
theorem sum_slab {n : ℕ} (w : Fin 512 → Fin n → ℝ) (d : Fin n → ℝ) (c : Fin 1024) :
    ∑ k, slab (fun e => w e k) c * d k = slab (fun e => ∑ k, w e k * d k) c := by
  unfold slab
  by_cases h : c.val % 128 < 64
  · simp only [dif_pos h]
  · simp only [dif_neg h, zero_mul, Finset.sum_const_zero]

theorem sum_slab' (w : Fin 512 → Fin 1024 → ℝ) (d : Fin 1024 → ℝ) (c : Fin 1024) :
    ∑ k, d k * slab (fun e => w e k) c = slab (fun e => ∑ k, d k * w e k) c := by
  unfold slab
  by_cases h : c.val % 128 < 64
  · simp only [dif_pos h]
  · simp only [dif_neg h, mul_zero, Finset.sum_const_zero]

/-- The product of two rows over a head's slab is the product over the head. -/
theorem sum_head (f g : Fin 512 → ℝ) (h : Fin 8) :
    ∑ e : Fin 128, slab f ⟨128 * h.val + e.val, by omega⟩ * slab g ⟨128 * h.val + e.val, by omega⟩
      = ∑ e : Fin 64, f ⟨64 * h.val + e.val, by omega⟩ * g ⟨64 * h.val + e.val, by omega⟩ := by
  refine (Fin.sum_univ_add (a := 64) (b := 64) _).trans ?_
  refine (congrArg₂ (· + ·) (Finset.sum_congr rfl fun e _ => ?_) (Finset.sum_eq_zero fun e _ => ?_)).trans (add_zero _)
  · have hm : (128 * h.val + e.val) % 128 < 64 := by omega
    have at' : ∀ f : Fin 512 → ℝ, slab f ⟨128 * h.val + e.val, by omega⟩ = f ⟨64 * h.val + e.val, by omega⟩ := fun f => by
      rw [slab, dif_pos hm]; exact congrArg f (Fin.ext (by show (128 * h.val + e.val) / 128 * 64 + (128 * h.val + e.val) % 128 = 64 * h.val + e.val; omega))
    exact congrArg₂ (· * ·) (at' f) (at' g)
  · have hm : ¬ (128 * h.val + (64 + e.val)) % 128 < 64 := by omega
    have at' : slab f ⟨128 * h.val + (64 + e.val), by omega⟩ = 0 := by rw [slab, dif_neg hm]
    exact (congrArg (· * _) at').trans (zero_mul _)

/-! ## The forward lines and the gradient -/

/-- The logistic function. -/
def sg (x : ℝ) : ℝ := 1 / (1 + Real.exp (-x))

variable (p : MergeIn) (i : Fin 8192)

def pa (j : Fin 1024) : ℝ := ∑ k, p.oa i k * p.wa k j
def pb (j : Fin 1024) : ℝ := ∑ k, p.ob i k * p.wb k j
def mg (j : Fin 1024) : ℝ := sg (p.ga i j) * p.pa i j + sg (p.gb i j) * p.pb i j
def y (j : Fin 1024) : ℝ := ∑ k, p.mg i k * p.wo k j
def r : ℝ := Rms.rr 1024 (p.y i)
def dg (j : Fin 1024) : ℝ := p.ct i j * p.y i j * p.r i
def dy (j : Fin 1024) : ℝ := Rms.bwd 1024 (p.y i) p.g (p.ct i) j
def dm (j : Fin 1024) : ℝ := ∑ k, p.dy i k * p.wo j k
def da (j : Fin 1024) : ℝ := p.dm i j * sg (p.ga i j)
def db (j : Fin 1024) : ℝ := p.dm i j * sg (p.gb i j)
def dga (j : Fin 1024) : ℝ := p.dm i j * p.pa i j * sg (p.ga i j) * (1 - sg (p.ga i j))
def dgb (j : Fin 1024) : ℝ := p.dm i j * p.pb i j * sg (p.gb i j) * (1 - sg (p.gb i j))
def doa (e : Fin 512) : ℝ := ∑ k, p.da i k * p.wa e k
def dob (e : Fin 512) : ℝ := ∑ k, p.wb e k * p.db i k
/-- The two gates side by side. -/
def gates (j : Fin 2048) : ℝ := if h : j.val < 1024 then p.ga i ⟨j.val, h⟩ else p.gb i ⟨j.val - 1024, by omega⟩
/-- The two gates' gradients side by side. -/
def dgates (j : Fin 2048) : ℝ := if h : j.val < 1024 then p.dga i ⟨j.val, h⟩ else p.dgb i ⟨j.val - 1024, by omega⟩
/-- The product of the second output with its gradient over a head. -/
def delta (h : Fin 8) : ℝ := ∑ e : Fin 64, p.dob i ⟨64 * h.val + e.val, by omega⟩ * p.ob i ⟨64 * h.val + e.val, by omega⟩
/-- The second output's gradient in slabs, with that product's negative in the row behind the head. -/
def planted (c : Fin 1024) : ℝ :=
  if c.val % 128 = 64 then - p.delta i ⟨c.val / 128, by omega⟩ else slab (p.dob i) c

/-- … as the reference joins it from the gradient, the products and zeros. -/
theorem dite_planted (c : Fin 1024) :
    (if h : c.val % 128 < 64 then ((p.dob i ⟨c.val / 128 * 64 + c.val % 128, by omega⟩ : ℝ) : EReal)
      else if c.val % 128 - 64 < 1 then
        - ((∑ e : Fin 64, p.dob i ⟨c.val / 128 * 64 + e.val, by omega⟩ * p.ob i ⟨c.val / 128 * 64 + e.val, by omega⟩ : ℝ) : EReal)
      else ((0 : ℝ) : EReal)) = ((p.planted i c : ℝ) : EReal) := by
  have he : ∀ e : Fin 64, (⟨c.val / 128 * 64 + e.val, by omega⟩ : Fin 512) = ⟨64 * (c.val / 128) + e.val, by omega⟩ := fun e => Fin.ext (by
    show c.val / 128 * 64 + e.val = 64 * (c.val / 128) + e.val; omega)
  unfold planted slab delta
  by_cases h : c.val % 128 < 64
  · rw [dif_pos h, if_neg (by omega), dif_pos h]
  · rw [dif_neg h]
    by_cases h' : c.val % 128 - 64 < 1
    · rw [if_pos h', if_pos (by omega), EReal.coe_neg]
      exact congrArg (fun z : ℝ => - (z : EReal)) (Finset.sum_congr rfl fun e _ => by rw [he e])
    · rw [if_neg h', if_neg (by omega), dif_neg h]

/-- The arguments as the programs hold them. -/
abbrev GA : FVec Ideal ⟨2, ![8192, 1024]⟩ .f32 := Reals.up fun i => p.ga (i 0) (i 1)
abbrev GB : FVec Ideal ⟨2, ![8192, 1024]⟩ .f32 := Reals.up fun i => p.gb (i 0) (i 1)
abbrev OA : FVec Ideal ⟨2, ![8192, 512]⟩ .f32 := Reals.up fun i => p.oa (i 0) (i 1)
abbrev OB : FVec Ideal ⟨2, ![8192, 512]⟩ .f32 := Reals.up fun i => p.ob (i 0) (i 1)
abbrev WA : FVec Ideal ⟨2, ![512, 1024]⟩ .f32 := Reals.up fun i => p.wa (i 0) (i 1)
abbrev WB : FVec Ideal ⟨2, ![512, 1024]⟩ .f32 := Reals.up fun i => p.wb (i 0) (i 1)
abbrev WO : FVec Ideal ⟨2, ![1024, 1024]⟩ .f32 := Reals.up fun i => p.wo (i 0) (i 1)
abbrev G : FVec Ideal ⟨2, ![1, 1024]⟩ .f32 := Reals.up fun i => p.g (i 1)
abbrev Ct : FVec Ideal ⟨2, ![8192, 1024]⟩ .f32 := Reals.up fun i => p.ct (i 0) (i 1)

end MergeIn

end Cert

end
-- ==== Proof.Merge.Pay.lean ====
/- What each block the kernel computes holds, at input blocks that are a tile's rows of the arrays. -/
module

public import proofs.«01_k».proof.Proof.Gen.MergeIdeal.Skeleton
public import proofs.«01_k».proof.Proof.Merge.Step
public import Idealize.ShloMosaic.Lib.WordCmp

@[expose] public section

set_option maxRecDepth 16384

noncomputable section

namespace Cert.MergeIdeal.Pay

open Idealize.ShloMosaic Cert.MergeIdeal Cert.MergeIdeal.Gen Cert.Reals Cert.MergeIn

variable (p : MergeIn) (row : Fin 512 → Fin 8192)

/-- A tile of the rows of `f`. -/
abbrev rows {n : ℕ} (φ : FTy) (f : Fin 8192 → Fin n → ℝ) : FVec Ideal ⟨2, ![512, n]⟩ φ := up fun i => f (row (i 0)) (i 1)

/-- A tile of rows of eight heads in slabs. -/
abbrev slabs (φ : FTy) (f : Fin 8192 → Fin 512 → ℝ) : FVec Ideal ⟨2, ![512, 1024]⟩ φ := up fun i => slab (f (row (i 0))) (i 1)

/-- A matrix whose rows are laid out in slabs. -/
abbrev wide (φ : FTy) (w : Fin 512 → Fin 1024 → ℝ) : FVec Ideal ⟨2, ![1024, 1024]⟩ φ := up fun i => slab (fun e => w e (i 1)) (i 0)

/-- The tile's factors of the norm. -/
abbrev rs : FVec Ideal S512x1 .f32 := up fun i => p.r (row (i 0))

theorem pay2 (j : S1024x1024.Idx) : k0_pay2 (F := Ideal) j = 0 := by pointwise [k0_pay2, lit_zero, EReal.coe_zero]
theorem pay3 (j : S1024x1024.Idx) : k0_pay3 (F := Ideal) j = 0 := by pointwise [k0_pay3, lit_zero, EReal.coe_zero]
theorem pay4 (j : S1024x1024.Idx) : k0_pay4 (F := Ideal) j = 0 := by pointwise [k0_pay4, lit_zero, EReal.coe_zero]
theorem pay7 (j : S1x1024.Idx) : k0_pay7 (F := Ideal) j = 0 := by pointwise [k0_pay7, lit_zero, EReal.coe_zero]

theorem pay5 : k0_pay5 (rows row .f32 p.y) = rows row .f32 p.y := by
  funext i
  pointwise [k0_pay5]

theorem pay6 : k0_pay6 (rows row .f32 p.y) = rs p row := by
  funext i
  pointwise [k0_pay6, pay5, ← EReal.coe_mul, coe_sum]
  exact Rms.rsqrt_row rfl

/-- The sum of the tile's parts of the gain's gradient joins the sum so far. -/
theorem pay8 (acc : FVec Ideal S1x1024 .f32) (j : S1x1024.Idx) :
    k0_pay8 (rows row .f32 p.ct) (rows row .f32 p.y) acc j = acc j + ((∑ r : Fin 512, p.dg (row r) (j 1) : ℝ) : EReal) := by
  pointwise [k0_pay8, pay5, pay6, ← EReal.coe_mul, coe_sum]
  rfl

theorem pay9 : k0_pay9 (rows row .f32 p.ct) (p.G : FVec Ideal S1x1024 .f32) = up fun i => p.ct (row (i 0)) (i 1) * p.g (i 1) := by
  funext i
  pointwise [k0_pay9, ← EReal.coe_mul]

theorem pay10 : k0_pay10 (rows row .f32 p.ct) (rows row .f32 p.y) (p.G : FVec Ideal S1x1024 .f32)
    = up fun i => p.r (row (i 0)) * (p.ct (row (i 0)) (i 1) * p.g (i 1)) := by
  funext i
  pointwise [k0_pay10, pay6, pay9, ← EReal.coe_mul]

theorem pay11 : k0_pay11 (rows row .f32 p.y)
    = up fun i => p.y (row (i 0)) (i 1) * (p.r (row (i 0)) * p.r (row (i 0)) * p.r (row (i 0))) := by
  funext i
  pointwise [k0_pay11, pay5, pay6, ← EReal.coe_mul]

theorem pay12 : k0_pay12 (rows row .f32 p.ct) (rows row .f32 p.y) (p.G : FVec Ideal S1x1024 .f32)
    = up fun i => ∑ k, p.y (row (i 0)) k * (p.ct (row (i 0)) k * p.g k) := by
  funext i
  pointwise [k0_pay12, pay5, pay9, ← EReal.coe_mul, coe_sum]

/-- The three parts of the norm's gradient as the kernel holds them. -/
abbrev n0 : FVec Ideal S512x1024 .f32 := up fun i => p.r (row (i 0)) * (p.ct (row (i 0)) (i 1) * p.g (i 1))
abbrev n1 : FVec Ideal S512x1024 .f32 := up fun i => p.y (row (i 0)) (i 1) * (p.r (row (i 0)) * p.r (row (i 0)) * p.r (row (i 0)))
abbrev n2 : FVec Ideal S512 .f32 := up fun i => ∑ k, p.y (row (i 0)) k * (p.ct (row (i 0)) k * p.g k)

theorem pay13 : k0_pay13 (n0 p row) (n1 p row) (n2 p row) = rows row .bf16 p.dy := by
  funext i
  pointwise [k0_pay13, ← EReal.coe_mul, lit_1024, div_real (show (1024 : ℝ) ≠ 0 by norm_num), ← EReal.coe_sub]
  rfl

theorem pay14 (acc : FVec Ideal S1024x1024 .f32) (j : S1024x1024.Idx) :
    k0_pay14 (n0 p row) (n1 p row) (n2 p row) acc (rows row .bf16 p.mg) j
      = acc j + ((∑ r : Fin 512, p.mg (row r) (j 0) * p.dy (row r) (j 1) : ℝ) : EReal) := by
  pointwise [k0_pay14, pay13, ← EReal.coe_mul, coe_sum]

theorem pay15 : k0_pay15 (n0 p row) (n1 p row) (n2 p row) (p.WO : FVec Ideal S1024x1024 .f32) = rows row .f32 p.dm := by
  funext i
  pointwise [k0_pay15, pay13, ← EReal.coe_mul, coe_sum]
  rfl

/-- The logistic function as the kernel computes it. -/
theorem sg_coe (x : ℝ) : Ideal.div (1 : EReal) (1 + Ideal.exp (0 - (x : EReal))) = (sg x : EReal) := by
  have h : (0 : ℝ) < 1 + Real.exp (-x) := by positivity
  rw [zero_sub, ← EReal.coe_neg, Ideal.exp_coe, ← EReal.coe_one, ← EReal.coe_add, div_real h.ne']; rfl

theorem pay16 : k0_pay16 (rows row .bf16 p.ga) = up fun i => sg (p.ga (row (i 0)) (i 1)) := by
  funext i
  pointwise [k0_pay16, lit_zero, lit_one, EReal.coe_zero, EReal.coe_one]
  exact sg_coe _

theorem pay17 : k0_pay17 (rows row .bf16 p.gb) = up fun i => sg (p.gb (row (i 0)) (i 1)) := by
  funext i
  pointwise [k0_pay17, lit_zero, lit_one, EReal.coe_zero, EReal.coe_one]
  exact sg_coe _

theorem pay18 : k0_pay18 (n0 p row) (n1 p row) (n2 p row) (p.WO : FVec Ideal S1024x1024 .f32) (rows row .bf16 p.ga) = rows row .f32 p.da := by
  funext i
  pointwise [k0_pay18, pay15, pay16, ← EReal.coe_mul]
  rfl

theorem pay19 : k0_pay19 (rows row .f32 p.da) = rows row .bf16 p.da := by
  funext i
  pointwise [k0_pay19]

theorem pay20 : k0_pay20 (rows row .f32 p.dm) (up fun i => sg (p.gb (row (i 0)) (i 1)) : FVec Ideal S512x1024 .f32) = rows row .bf16 p.db := by
  funext i
  pointwise [k0_pay20, ← EReal.coe_mul]
  rfl

theorem pay21 (acc : FVec Ideal S1024x1024 .f32) (j : S1024x1024.Idx) :
    k0_pay21 (rows row .f32 p.da) acc (slabs row .bf16 p.oa) j
      = acc j + ((∑ r : Fin 512, slab (p.oa (row r)) (j 0) * p.da (row r) (j 1) : ℝ) : EReal) := by
  pointwise [k0_pay21, pay19, ← EReal.coe_mul, coe_sum]

theorem pay22 (acc : FVec Ideal S1024x1024 .f32) (j : S1024x1024.Idx) :
    k0_pay22 (rows row .f32 p.dm) (up fun i => sg (p.gb (row (i 0)) (i 1)) : FVec Ideal S512x1024 .f32) acc (slabs row .bf16 p.ob) j
      = acc j + ((∑ r : Fin 512, slab (p.ob (row r)) (j 0) * p.db (row r) (j 1) : ℝ) : EReal) := by
  pointwise [k0_pay22, pay20, ← EReal.coe_mul, coe_sum]

theorem pay23 : k0_pay23 (rows row .f32 p.dm) (up fun i => sg (p.ga (row (i 0)) (i 1)) : FVec Ideal S512x1024 .f32)
    (rows row .bf16 p.pa) = rows row .bf16 p.dga := by
  funext i
  pointwise [k0_pay23, lit_one, ← EReal.coe_mul, ← EReal.coe_sub]
  rfl

theorem pay24 : k0_pay24 (rows row .f32 p.dm) (up fun i => sg (p.gb (row (i 0)) (i 1)) : FVec Ideal S512x1024 .f32)
    (rows row .bf16 p.pb) = rows row .f32 p.dgb := by
  funext i
  pointwise [k0_pay24, lit_one, ← EReal.coe_mul, ← EReal.coe_sub]
  rfl

theorem pay25 : k0_pay25 (rows row .f32 p.dgb) = rows row .bf16 p.dgb := by
  funext i
  pointwise [k0_pay25]

theorem pay26 : k0_pay26 (rows row .bf16 p.da) (wide .bf16 p.wa) = slabs row .bf16 p.doa := by
  funext i
  pointwise [k0_pay26, ← EReal.coe_mul, coe_sum]
  exact congrArg (fun z : ℝ => (z : EReal)) (sum_slab' _ _ _)

/-- The second output's gradient in slabs, one column per row of the tile. -/
abbrev cols (φ : FTy) (f : Fin 8192 → Fin 512 → ℝ) : FVec Ideal S1024x512 φ := up fun i => slab (f (row (i 1))) (i 0)

theorem pay27 : k0_pay27 (rows row .bf16 p.db) (wide .bf16 p.wb) = cols row .f32 p.dob := by
  funext i
  pointwise [k0_pay27, ← EReal.coe_mul, coe_sum]
  exact congrArg (fun z : ℝ => (z : EReal)) (sum_slab _ _ _)

/-- A head's slab of the second output, transposed. -/
abbrev head (h : Fin 8) : FVec Ideal S128x512 .bf16 := up fun i => slab (p.ob (row (i 1))) ⟨128 * h.val + (i 0).val, by have := (i 0).isLt; have : (i 0).val < 128 := this; omega⟩

/-- A head's slab of the result. -/
abbrev plant (h : Fin 8) : FVec Ideal S128x512 .bf16 := up fun i => p.planted (row (i 1)) ⟨128 * h.val + (i 0).val, by have := (i 0).isLt; have : (i 0).val < 128 := this; omega⟩

theorem select_at {α : Type} {a b : ℕ} (ha : a < 2 ^ 32) (hb : b < 2 ^ 32) (x y : α) :
    Scalar.select (IntOp.cmpi .eq (BitVec.ofNat 32 a) (BitVec.ofNat 32 b)) x y = if a = b then x else y := by
  rw [WordCmp.cmpi_eq_eq_toNat, BitVec.toNat_ofNat, BitVec.toNat_ofNat, Nat.mod_eq_of_lt ha, Nat.mod_eq_of_lt hb]
  by_cases h : a = b
  · rw [decide_eq_true h, if_pos h]; rfl
  · rw [decide_eq_false h, if_neg h]; rfl

/-- What a head's slab gets: its gradient, the product's negative in the row behind the head, and nothing in the next. -/
theorem select_plant (t : Fin 8192) (h : Fin 8) (c : Fin 128 → Fin 1024) (hc : ∀ e, (c e).val = 128 * h.val + e.val) (i : Fin 128)
    (d : Fin 1024) (hd : d = c i) :
    Scalar.select (IntOp.cmpi .eq (BitVec.ofNat 32 i.val) 64#32)
      (((0 - ∑ e, slab (p.dob t) (c e) * slab (p.ob t) (c e) : ℝ)) : EReal)
      (Scalar.select (IntOp.cmpi .eq (BitVec.ofNat 32 i.val) 65#32)
        (((0 - (∑ e, slab (p.dob t) (c e) * slab (p.ob t) (c e) - ∑ e, slab (p.dob t) (c e) * slab (p.ob t) (c e)) : ℝ)) : EReal)
        ((slab (p.dob t) (c i) : ℝ) : EReal)) = ((p.planted t d : ℝ) : EReal) := by
  subst hd
  have hm : (c i).val % 128 = i.val := by rw [hc]; omega
  have hq : (c i).val / 128 = h.val := by rw [hc]; omega
  have hs : ∑ e, slab (p.dob t) (c e) * slab (p.ob t) (c e) = p.delta t h :=
    (Finset.sum_congr rfl fun e _ => by rw [show c e = ⟨128 * h.val + e.val, by omega⟩ from Fin.ext (hc e)]).trans (sum_head _ _ h)
  rw [select_at (by omega) (by norm_num), select_at (by omega) (by norm_num), hs, sub_self, sub_zero, zero_sub]
  unfold planted
  rw [hm]
  by_cases h64 : i.val = 64
  · rw [if_pos h64, if_pos h64]
    exact congrArg (fun z : Fin 8 => ((- p.delta t z : ℝ) : EReal)) (Fin.ext hq.symm)
  · rw [if_neg h64, if_neg h64]
    by_cases h65 : i.val = 65
    · rw [if_pos h65, slab, dif_neg (by omega)]
    · rw [if_neg h65]

theorem pay28 : k0_pay28 (rows row .bf16 p.db) (wide .bf16 p.wb) (head p row 0) = plant p row 0 := by
  funext i
  pointwise [k0_pay28, pay27, lit_zero, ← EReal.coe_mul, coe_sum, ← EReal.coe_sub]
  exact select_plant p _ 0 (fun e => ⟨e.val, by omega⟩) (fun e => by show e.val = 128 * 0 + e.val; omega) _ _ (Fin.ext (by show 128 * 0 + (i 0).val = (i 0).val; omega))

theorem pay29 : k0_pay29 (cols row .f32 p.dob) (head p row 1) = plant p row 1 := by
  funext i
  pointwise [k0_pay29, lit_zero, ← EReal.coe_mul, coe_sum, ← EReal.coe_sub]
  exact select_plant p _ 1 (fun e => ⟨128 + e.val, _⟩) (fun e => rfl) _ _ rfl

theorem pay35 : k0_pay35 (cols row .f32 p.dob) (head p row 3) = plant p row 3 := by
  funext i
  pointwise [k0_pay35, lit_zero, ← EReal.coe_mul, coe_sum, ← EReal.coe_sub]
  exact select_plant p _ 3 (fun e => ⟨384 + e.val, _⟩) (fun e => rfl) _ _ rfl

theorem pay36 : k0_pay36 (cols row .f32 p.dob) (head p row 4) = plant p row 4 := by
  funext i
  pointwise [k0_pay36, lit_zero, ← EReal.coe_mul, coe_sum, ← EReal.coe_sub]
  exact select_plant p _ 4 (fun e => ⟨512 + e.val, _⟩) (fun e => rfl) _ _ rfl

theorem pay42 : k0_pay42 (cols row .f32 p.dob) (head p row 6) = plant p row 6 := by
  funext i
  pointwise [k0_pay42, lit_zero, ← EReal.coe_mul, coe_sum, ← EReal.coe_sub]
  exact select_plant p _ 6 (fun e => ⟨768 + e.val, _⟩) (fun e => rfl) _ _ rfl

theorem pay1 : k0_pay1 (cols row .f32 p.dob) (head p row 7) = plant p row 7 := by
  funext i
  pointwise [k0_pay1, lit_zero, ← EReal.coe_mul, coe_sum, ← EReal.coe_sub]
  exact select_plant p _ 7 (fun e => ⟨896 + e.val, _⟩) (fun e => rfl) _ _ rfl

/-- The head's product over the slab, as the kernel holds it. -/
abbrev sum2 : FVec Ideal S1x512 .f32 :=
  up fun i => ∑ e : Fin 128, slab (p.dob (row (i 1))) ⟨256 + e.val, by omega⟩ * slab (p.ob (row (i 1))) ⟨256 + e.val, by omega⟩

theorem pay30 : k0_pay30 (cols row .f32 p.dob) (head p row 2) = sum2 p row := by
  funext i
  pointwise [k0_pay30, ← EReal.coe_mul, coe_sum]

theorem pay34 : k0_pay34 (k0_pay31 (cols row .f32 p.dob)) (k0_pay32 (cols row .f32 p.dob) (head p row 2))
    (k0_pay33 (cols row .f32 p.dob) (head p row 2)) (iota .tc S128x512 32 [0] iota_S128x512_d0_w32) 64#32 = plant p row 2 := by
  funext i
  pointwise [k0_pay34, k0_pay31, k0_pay32, k0_pay33, pay30, lit_zero, ← EReal.coe_mul, coe_sum, ← EReal.coe_sub]
  exact select_plant p _ 2 (fun e => ⟨256 + e.val, _⟩) (fun e => rfl) _ _ rfl

/-- The head's product over the slab, as the kernel holds it. -/
abbrev sum5 : FVec Ideal S1x512 .f32 :=
  up fun i => ∑ e : Fin 128, slab (p.dob (row (i 1))) ⟨640 + e.val, by omega⟩ * slab (p.ob (row (i 1))) ⟨640 + e.val, by omega⟩

theorem pay37 : k0_pay37 (cols row .f32 p.dob) (head p row 5) = sum5 p row := by
  funext i
  pointwise [k0_pay37, ← EReal.coe_mul, coe_sum]

theorem pay41 : k0_pay41 (k0_pay38 (cols row .f32 p.dob)) (k0_pay39 (cols row .f32 p.dob) (head p row 5))
    (k0_pay40 (cols row .f32 p.dob) (head p row 5)) (iota .tc S128x512 32 [0] iota_S128x512_d0_w32) 64#32 = plant p row 5 := by
  funext i
  pointwise [k0_pay41, k0_pay38, k0_pay39, k0_pay40, pay37, lit_zero, ← EReal.coe_mul, coe_sum, ← EReal.coe_sub]
  exact select_plant p _ 5 (fun e => ⟨640 + e.val, _⟩) (fun e => rfl) _ _ rfl

end Cert.MergeIdeal.Pay

end
-- ==== Proof.Merge.Blocks.lean ====
/- What the lines before the call hold, and the blocks of its inputs. -/
module

public import proofs.«01_k».proof.Proof.Gen.MergeIdeal.Value
public import proofs.«01_k».proof.Proof.Merge.Pay
public import Idealize.ShloMosaic.Lib.Pipeline.ValueKit
public import Idealize.ShloMosaic.Lib.Claim

@[expose] public section

set_option maxRecDepth 16384

noncomputable section

namespace Cert.MergeIdeal.Blocks

open Idealize.ShloMosaic Idealize.ShloMosaic.TcCoe Cert.MergeIdeal Cert.MergeIdeal.Gen Cert.MergeIdeal.Pay Cert.Reals Cert.MergeIn

variable (p : MergeIn) (m : (ℓ : Loc nD τ sig) → Buf (Elt Ideal) ℓ) (c : Dev nD)

/-- The arguments hold the step's arrays. -/
structure At : Prop where
  ga : m ((c : Thread nD τ).loc main_arg0) = p.GA
  gb : m ((c : Thread nD τ).loc main_arg1) = p.GB
  oa : m ((c : Thread nD τ).loc main_arg2) = p.OA
  ob : m ((c : Thread nD τ).loc main_arg3) = p.OB
  wa : m ((c : Thread nD τ).loc main_arg4) = p.WA
  wb : m ((c : Thread nD τ).loc main_arg5) = p.WB
  wo : m ((c : Thread nD τ).loc main_arg6) = p.WO
  g : m ((c : Thread nD τ).loc main_arg7) = p.G
  ct : m ((c : Thread nD τ).loc main_arg8) = p.Ct

/-- Row `r` of tile `t`. -/
def row (t : Fin cfg0.N) (r : Fin 512) : Fin 8192 := ⟨512 * t.val + r.val, by have := t.isLt; have : cfg0.N = 16 := rfl; omega⟩

theorem idx : ∀ t : Fin cfg0.N,
    win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, t.val]
    ∧ win0_8.index t = ![t.val, 0] ∧ win0_9.index t = ![0, 0] ∧ win0_10.index t = ![0, 0] ∧ win0_11.index t = ![0, 0]
    ∧ win0_12.index t = ![0, 0] ∧ win0_13.index t = ![t.val, 0] ∧ win0_14.index t = ![t.val, 0] ∧ win0_15.index t = ![0, t.val]
    ∧ win0_16.index t = ![0, 0] ∧ win0_17.index t = ![0, 0] ∧ win0_18.index t = ![0, 0] ∧ win0_19.index t = ![0, 0] :=
  (by decide +kernel : ∀ t : Fin grid0.N, _)

variable {m c} in
/-- The lines before the call one stretch after another. -/
theorem lines (b : Ref sig .tc) : V m c b
    = StableHlo.after hostOps0_8 (StableHlo.after hostOps0_7 (StableHlo.after hostOps0_6 (StableHlo.after hostOps0_5
      (StableHlo.after hostOps0_4 (StableHlo.after hostOps0_3 (StableHlo.after hostOps0_2 (StableHlo.after hostOps0_1
      (StableHlo.after hostOps0 (fun b => m (c, b)))))))))) (Proc.devRef .tc b) := by
  refine (congrFun (?_ : StableHlo.after (hostOps0 ++ (hostOps0_1 ++ (hostOps0_2 ++ (hostOps0_3 ++ (hostOps0_4 ++ (hostOps0_5 ++ (hostOps0_6
    ++ (hostOps0_7 ++ (hostOps0_8 ++ []))))))))) _ = _) _)
  rw [List.append_nil]
  simp only [StableHlo.after_append]

/-- The padding value is zero. -/
theorem none16 : (FloatOps.sitofp FTy.bf16 0#32 : Ideal .bf16) = ((0 : ℝ) : EReal) := by
  rw [show (FloatOps.sitofp FTy.bf16 0#32 : Ideal .bf16) = (((0#32 : BitVec 32).toInt : ℝ) : EReal) from rfl]
  norm_num

theorem none32 : (FloatOps.sitofp FTy.f32 0#32 : Ideal .f32) = ((0 : ℝ) : EReal) := by
  rw [show (FloatOps.sitofp FTy.f32 0#32 : Ideal .f32) = (((0#32 : BitVec 32).toInt : ℝ) : EReal) from rfl]
  norm_num

/-- The logistic function as the host computes it. -/
theorem sg_host (x : ℝ) : Ideal.div (1 : EReal) (1 + Ideal.exp (-(x : EReal))) = (sg x : EReal) :=
  (congrArg (fun z => Ideal.div 1 (1 + Ideal.exp z)) (zero_sub _).symm).trans (sg_coe x)

variable {p m c} (hp : At p m c)
include hp

theorem host5 : V m c main_v5 = (up fun i => slab (p.oa (i 0)) (i 1) : FVec Ideal S8192x1024 .bf16) := by
  rw [lines]
  entry_read
  rw [hp.oa]
  funext i
  have h : (i 1).val < 1024 := (i 1).isLt
  simp only [StableHlo.TRef.ofBuf_toBuf, StableHlo.TRef.toBuf, StableHlo.TRef.ofBuf, cast_eq]
  pointwise []
  exact dite_slab (p.oa (i 0)) (i 1) none32

theorem host9 : V m c main_v9 = (up fun i => slab (p.ob (i 0)) (i 1) : FVec Ideal S8192x1024 .bf16) := by
  rw [lines]
  entry_read
  rw [hp.ob]
  funext i
  have h : (i 1).val < 1024 := (i 1).isLt
  simp only [StableHlo.TRef.ofBuf_toBuf, StableHlo.TRef.toBuf, StableHlo.TRef.ofBuf, cast_eq]
  pointwise []
  exact dite_slab (p.ob (i 0)) (i 1) none32

theorem host39 : V m c main_v39 = (up fun i => slab (p.ob (i 1)) (i 0) : FVec Ideal S1024x8192 .bf16) := by
  rw [lines]
  entry_read
  rw [hp.ob]
  funext i
  simp only [StableHlo.TRef.ofBuf_toBuf, StableHlo.TRef.toBuf, StableHlo.TRef.ofBuf, cast_eq]
  pointwise []
  exact dite_slab (p.ob (i 1)) (i 0) none32

theorem host13 : V m c main_v13 = wide .bf16 p.wa := by
  rw [lines]
  entry_read
  rw [hp.wa]
  funext i
  have h : (i 1).val < 1024 := (i 1).isLt
  simp only [StableHlo.TRef.ofBuf_toBuf, StableHlo.TRef.toBuf, StableHlo.TRef.ofBuf, cast_eq]
  pointwise []
  exact dite_slab (fun e => p.wa e (i 1)) (i 0) none16

theorem host17 : V m c main_v17 = wide .bf16 p.wb := by
  rw [lines]
  entry_read
  rw [hp.wb]
  funext i
  have h : (i 1).val < 1024 := (i 1).isLt
  simp only [StableHlo.TRef.ofBuf_toBuf, StableHlo.TRef.toBuf, StableHlo.TRef.ofBuf, cast_eq]
  pointwise []
  exact dite_slab (fun e => p.wb e (i 1)) (i 0) none16

theorem host18 : V m c main_v18 = (up fun i => p.wo (i 0) (i 1) : FVec Ideal S1024x1024 .bf16) := by
  rw [lines]
  entry_read
  rw [hp.wo]
  rfl

theorem host1 : V m c main_v1 = (up fun i => if h : (i 1).val < 1024 then p.ga (i 0) ⟨(i 1).val, h⟩
    else p.gb (i 0) ⟨(i 1).val - 1024, by have h : (i 1).val < 2048 := (i 1).isLt; omega⟩ : FVec Ideal S8192x2048 .bf16) := by
  rw [lines]
  entry_read
  rw [hp.ga, hp.gb]
  funext i
  pointwise []
  show _ = ((if h : (i 1).val < 1024 then p.ga (i 0) ⟨(i 1).val, h⟩
    else p.gb (i 0) ⟨(i 1).val - 1024, by have h : (i 1).val < 2048 := (i 1).isLt; omega⟩ : ℝ) : EReal)
  by_cases h : (i 1).val < 1024
  · rw [dif_pos h, dif_pos h]; rfl
  · rw [dif_neg h, dif_neg h]; rfl

theorem host37 : V m c main_v37 = (up fun i => p.pa (i 0) (i 1) : FVec Ideal S8192x1024 .bf16) := by
  rw [lines]
  entry_read
  rw [hp.oa, hp.wa]
  funext i
  pointwise [← EReal.coe_mul, coe_sum, coe_zero_add]
  rfl

theorem host38 : V m c main_v38 = (up fun i => p.pb (i 0) (i 1) : FVec Ideal S8192x1024 .bf16) := by
  rw [lines]
  entry_read
  rw [hp.ob, hp.wb]
  funext i
  pointwise [← EReal.coe_mul, coe_sum, coe_zero_add]
  rfl

theorem host40 : V m c main_v40 = (up fun i => p.mg (i 0) (i 1) : FVec Ideal S8192x1024 .bf16) := by
  rw [lines]
  entry_read
  rw [hp.ga, hp.gb, hp.oa, hp.wa, hp.ob, hp.wb]
  funext i
  pointwise [← EReal.coe_mul, coe_sum, coe_zero_add, sg_host, ← EReal.coe_add]
  rfl

theorem host36 : V m c main_v36 = (up fun i => p.y (i 0) (i 1) : FVec Ideal S8192x1024 .f32) := by
  rw [lines]
  entry_read
  rw [hp.ga, hp.gb, hp.oa, hp.wa, hp.ob, hp.wb, hp.wo]
  funext i
  pointwise [← EReal.coe_mul, coe_sum, coe_zero_add, sg_host, ← EReal.coe_add]
  rfl

theorem block0 (t : Fin cfg0.N) : iblk m c 0 t = rows (row t) .f32 p.ct := by
  have h : V m c main_arg8 = p.Ct := (V_main_arg8 m c).trans hp.ct
  funext j
  blk_simp [iblk]
  rw [h]
  refine (?_ : _ = p.Ct (ix2 (row t (j 0)) (j 1)))
  blk_ext [idx t, row]

theorem block1 (t : Fin cfg0.N) : iblk m c 1 t = rows (row t) .f32 p.y := by
  funext j
  blk_simp [iblk]
  rw [host36 hp]
  refine (?_ : _ = (up fun i => p.y (i 0) (i 1) : FVec Ideal S8192x1024 .f32) (ix2 (row t (j 0)) (j 1)))
  blk_ext [idx t, row]

theorem block2 (t : Fin cfg0.N) : iblk m c 2 t = (up fun i => p.gates (row t (i 0)) (i 1) : FVec Ideal S512x2048 .bf16) := by
  funext j
  blk_simp [iblk]
  rw [host1 hp]
  refine (?_ : _ = (up fun i => p.gates (i 0) (i 1) : FVec Ideal S8192x2048 .bf16) (ix2 (row t (j 0)) (j 1)))
  blk_ext [idx t, row]

theorem block3 (t : Fin cfg0.N) : iblk m c 3 t = rows (row t) .bf16 p.pa := by
  funext j
  blk_simp [iblk]
  rw [host37 hp]
  refine (?_ : _ = (up fun i => p.pa (i 0) (i 1) : FVec Ideal S8192x1024 .bf16) (ix2 (row t (j 0)) (j 1)))
  blk_ext [idx t, row]

theorem block4 (t : Fin cfg0.N) : iblk m c 4 t = rows (row t) .bf16 p.pb := by
  funext j
  blk_simp [iblk]
  rw [host38 hp]
  refine (?_ : _ = (up fun i => p.pb (i 0) (i 1) : FVec Ideal S8192x1024 .bf16) (ix2 (row t (j 0)) (j 1)))
  blk_ext [idx t, row]

theorem block5 (t : Fin cfg0.N) : iblk m c 5 t = slabs (row t) .bf16 p.oa := by
  funext j
  blk_simp [iblk]
  rw [host5 hp]
  refine (?_ : _ = (up fun i => slab (p.oa (i 0)) (i 1) : FVec Ideal S8192x1024 .bf16) (ix2 (row t (j 0)) (j 1)))
  blk_ext [idx t, row]

theorem block6 (t : Fin cfg0.N) : iblk m c 6 t = slabs (row t) .bf16 p.ob := by
  funext j
  blk_simp [iblk]
  rw [host9 hp]
  refine (?_ : _ = (up fun i => slab (p.ob (i 0)) (i 1) : FVec Ideal S8192x1024 .bf16) (ix2 (row t (j 0)) (j 1)))
  blk_ext [idx t, row]

theorem block7 (t : Fin cfg0.N) : iblk m c 7 t = cols (row t) .bf16 p.ob := by
  funext j
  blk_simp [iblk]
  rw [host39 hp]
  refine (?_ : _ = (up fun i => slab (p.ob (i 1)) (i 0) : FVec Ideal S1024x8192 .bf16) (ix2 (j 0) (row t (j 1))))
  blk_ext [idx t, row]

theorem block8 (t : Fin cfg0.N) : iblk m c 8 t = rows (row t) .bf16 p.mg := by
  funext j
  blk_simp [iblk]
  rw [host40 hp]
  refine (?_ : _ = (up fun i => p.mg (i 0) (i 1) : FVec Ideal S8192x1024 .bf16) (ix2 (row t (j 0)) (j 1)))
  blk_ext [idx t, row]

theorem block9 (t : Fin cfg0.N) : iblk m c 9 t = wide .bf16 p.wa := by
  rw [← host13 hp]
  blk_ext! [iblk, idx t]

theorem block10 (t : Fin cfg0.N) : iblk m c 10 t = wide .bf16 p.wb := by
  rw [← host17 hp]
  blk_ext! [iblk, idx t]

theorem block11 (t : Fin cfg0.N) : iblk m c 11 t = (up fun i => p.wo (i 0) (i 1) : FVec Ideal S1024x1024 .bf16) := by
  rw [← host18 hp]
  blk_ext! [iblk, idx t]

theorem block12 (t : Fin cfg0.N) : iblk m c 12 t = p.G := by
  have h : V m c main_arg7 = p.G := (V_main_arg7 m c).trans hp.g
  refine Eq.trans ?_ h
  blk_ext! [iblk, idx t]

end Cert.MergeIdeal.Blocks

end
-- ==== Proof.Merge.Kernel.lean ====
/- The arrays the kernel leaves. -/
module

public import proofs.«01_k».proof.Proof.Merge.Blocks

@[expose] public section

set_option maxRecDepth 16384

noncomputable section

namespace Cert.MergeIdeal.Arrays

open Idealize.ShloMosaic Idealize.ShloMosaic.TcCoe Cert.MergeIdeal Cert.MergeIdeal.Gen Cert.MergeIdeal.Pay Cert.MergeIdeal.Blocks Cert.Reals Cert.MergeIn

variable {p : MergeIn} {m : (ℓ : Loc nD τ sig) → Buf (Elt Ideal) ℓ} {c : Dev nD} (hp : At p m c)
include hp

/-! ## The parts of a block the kernel reads -/

theorem half_a (t : Fin cfg0.N) (hb : ∀ d, (![0, 0] : Fin 2 → ℕ) d + (![512, 1024] : Fin 2 → ℕ) d ≤ S512x2048.size d) :
    View.ld (iblk m c 2 t) (Rect.unit ![0, 0] ![512, 1024] hb) = (rows (row t) .bf16 p.ga : FVec Ideal S512x1024 .bf16) := by
  rw [block2 hp t]
  funext j
  have h : (j 1).val < 1024 := (j 1).isLt
  pointwise []
  exact congrArg (fun z : ℝ => (z : EReal)) (dif_pos h)

theorem half_b (t : Fin cfg0.N) (hb : ∀ d, (![0, 1024] : Fin 2 → ℕ) d + (![512, 1024] : Fin 2 → ℕ) d ≤ S512x2048.size d) :
    View.ld (iblk m c 2 t) (Rect.unit ![0, 1024] ![512, 1024] hb) = (rows (row t) .bf16 p.gb : FVec Ideal S512x1024 .bf16) := by
  rw [block2 hp t]
  funext j
  have h : (j 1).val < 1024 := (j 1).isLt
  pointwise []
  refine congrArg (fun z : ℝ => (z : EReal)) ((dif_neg (by show ¬ 1024 + (j 1).val < 1024; omega)).trans ?_)
  exact congrArg (p.gb _) (Fin.ext (by show 1024 + (j 1).val - 1024 = (j 1).val; omega))

theorem slab_of (t : Fin cfg0.N) (h : Fin 8) (o : ℕ) (ho : o = 128 * h.val) (hb : ∀ d, (![o, 0] : Fin 2 → ℕ) d + (![128, 512] : Fin 2 → ℕ) d ≤ S1024x512.size d) :
    View.ld (iblk m c 7 t) (Rect.unit ![o, 0] ![128, 512] hb) = head p (row t) h := by
  subst ho
  rw [block7 hp t]
  funext j
  pointwise []
  rfl

/-! ## Pieces laid side by side -/

omit hp in
/-- The gates' gradients in their halves. -/
theorem halves (t : Fin cfg0.N) : View.canon (Val := Elt Ideal) (e := .bf16)
      [⟨Rect.unit (s := S512x2048) ![0, 1024] ![512, 1024] inb_S512x2048_S512x1024_0_1024, (rows (row t) .bf16 p.dgb : FVec Ideal S512x1024 .bf16)⟩,
        ⟨Rect.unit ![0, 0] ![512, 1024] inb_S512x2048_S512x1024_0_0, (rows (row t) .bf16 p.dga : FVec Ideal S512x1024 .bf16)⟩]
    = (up fun i => p.dgates (row t (i 0)) (i 1) : FVec Ideal S512x2048 .bf16) := by
  funext j
  have hj0 : (j 0).val < 512 := (j 0).isLt
  have hj1 : (j 1).val < 2048 := (j 1).isLt
  refine View.canon_eq_of_allAt _ _ _ ?_ (View.allAt_cons_unit _ _ _ _ _ ?_ (View.allAt_cons_unit _ _ _ _ _ ?_ (View.allAt_nil _ _)))
  · have inside : ∀ o : ℕ, o ≤ (j 1).val → (j 1).val < o + 1024 → ∀ h, j ∈ (Rect.unit (s := S512x2048) ![0, o] ![512, 1024] h).set := fun o hlo hhi h =>
      Rect.mem_set_unit.mpr (Fin.forall_fin_two.mpr ⟨⟨Nat.zero_le _, by show _ < 0 + 512; omega⟩, ⟨hlo, hhi⟩⟩)
    by_cases h : (j 1).val < 1024
    · exact ⟨_, List.mem_cons_of_mem _ List.mem_cons_self, inside 0 (Nat.zero_le _) (by omega) inb_S512x2048_S512x1024_0_0⟩
    · exact ⟨_, List.mem_cons_self, inside 1024 (by omega) (by omega) inb_S512x2048_S512x1024_0_1024⟩
  · intro x hx
    have h0 : (j 0).val = 0 + (x 0).val := hx 0
    have h1 : (j 1).val = 1024 + (x 1).val := hx 1
    refine congrArg (fun z : ℝ => (z : EReal)) (Eq.symm ((dif_neg (by omega)).trans ?_))
    exact congr (congrArg (fun z => p.dgb (row t z)) (Fin.ext (by omega))) (Fin.ext (by show (j 1).val - 1024 = (x 1).val; omega))
  · intro x hx
    have h0 : (j 0).val = 0 + (x 0).val := hx 0
    have h1 : (j 1).val = 0 + (x 1).val := hx 1
    have hx1 : (x 1).val < 1024 := (x 1).isLt
    refine congrArg (fun z : ℝ => (z : EReal)) (Eq.symm ((dif_pos (by omega)).trans ?_))
    exact congr (congrArg (fun z => p.dga (row t z)) (Fin.ext (by omega))) (Fin.ext (by show (j 1).val = (x 1).val; omega))

omit hp in
/-- The second output's gradient head by head. -/
theorem heads (t : Fin cfg0.N) : View.canon (Val := Elt Ideal) (e := .bf16)
      [⟨Rect.unit (s := S1024x512) ![896, 0] ![128, 512] inb_S1024x512_S128x512_896_0, plant p (row t) 7⟩,
        ⟨Rect.unit ![768, 0] ![128, 512] inb_S1024x512_S128x512_768_0, plant p (row t) 6⟩,
        ⟨Rect.unit ![640, 0] ![128, 512] inb_S1024x512_S128x512_640_0, plant p (row t) 5⟩,
        ⟨Rect.unit ![512, 0] ![128, 512] inb_S1024x512_S128x512_512_0, plant p (row t) 4⟩,
        ⟨Rect.unit ![384, 0] ![128, 512] inb_S1024x512_S128x512_384_0, plant p (row t) 3⟩,
        ⟨Rect.unit ![256, 0] ![128, 512] inb_S1024x512_S128x512_256_0, plant p (row t) 2⟩,
        ⟨Rect.unit ![128, 0] ![128, 512] inb_S1024x512_S128x512_128_0, plant p (row t) 1⟩,
        ⟨Rect.unit ![0, 0] ![128, 512] inb_S1024x512_S128x512_0_0, plant p (row t) 0⟩]
    = (up fun i => p.planted (row t (i 1)) (i 0) : FVec Ideal S1024x512 .bf16) := by
  funext j
  have hj0 : (j 0).val < 1024 := (j 0).isLt
  have hj1 : (j 1).val < 512 := (j 1).isLt
  have at' : ∀ (h : Fin 8) (x : S128x512.Idx), (j 0).val = 128 * h.val + (x 0).val → (j 1).val = 0 + (x 1).val →
      plant p (row t) h x = (up fun i => p.planted (row t (i 1)) (i 0) : FVec Ideal S1024x512 .bf16) j := fun h x h0 h1 =>
    congrArg (fun z : ℝ => (z : EReal)) (congr (congrArg (fun z => p.planted (row t z)) (Fin.ext (by omega))) (Fin.ext h0.symm))
  refine View.canon_eq_of_allAt _ _ _ ?_ (View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_cons_unit _ _ _ _ _ ?_ (View.allAt_cons_unit _ _ _ _ _ ?_
    (View.allAt_cons_unit _ _ _ _ _ ?_ (View.allAt_nil _ _)))))))))
  · have inside : ∀ o : ℕ, o ≤ (j 0).val → (j 0).val < o + 128 → ∀ h, j ∈ (Rect.unit (s := S1024x512) ![o, 0] ![128, 512] h).set := fun o hlo hhi h =>
      Rect.mem_set_unit.mpr (Fin.forall_fin_two.mpr ⟨⟨hlo, hhi⟩, ⟨Nat.zero_le _, by show _ < 0 + 512; omega⟩⟩)
    by_cases h7 : 896 ≤ (j 0).val
    · exact ⟨_, .head _, inside 896 h7 (by omega) inb_S1024x512_S128x512_896_0⟩
    by_cases h6 : 768 ≤ (j 0).val
    · exact ⟨_, .tail _ (.head _), inside 768 h6 (by omega) inb_S1024x512_S128x512_768_0⟩
    by_cases h5 : 640 ≤ (j 0).val
    · exact ⟨_, .tail _ (.tail _ (.head _)), inside 640 h5 (by omega) inb_S1024x512_S128x512_640_0⟩
    by_cases h4 : 512 ≤ (j 0).val
    · exact ⟨_, .tail _ (.tail _ (.tail _ (.head _))), inside 512 h4 (by omega) inb_S1024x512_S128x512_512_0⟩
    by_cases h3 : 384 ≤ (j 0).val
    · exact ⟨_, .tail _ (.tail _ (.tail _ (.tail _ (.head _)))), inside 384 h3 (by omega) inb_S1024x512_S128x512_384_0⟩
    by_cases h2 : 256 ≤ (j 0).val
    · exact ⟨_, .tail _ (.tail _ (.tail _ (.tail _ (.tail _ (.head _))))), inside 256 h2 (by omega) inb_S1024x512_S128x512_256_0⟩
    by_cases h1 : 128 ≤ (j 0).val
    · exact ⟨_, .tail _ (.tail _ (.tail _ (.tail _ (.tail _ (.tail _ (.head _)))))), inside 128 h1 (by omega) inb_S1024x512_S128x512_128_0⟩
    · exact ⟨_, .tail _ (.tail _ (.tail _ (.tail _ (.tail _ (.tail _ (.tail _ (.head _))))))), inside 0 (Nat.zero_le _) (by omega) inb_S1024x512_S128x512_0_0⟩
  · exact fun x hx => at' 7 x (hx 0) (hx 1)
  · exact fun x hx => at' 6 x (hx 0) (hx 1)
  · exact fun x hx => at' 5 x (hx 0) (hx 1)
  · exact fun x hx => at' 4 x (hx 0) (hx 1)
  · exact fun x hx => at' 3 x (hx 0) (hx 1)
  · exact fun x hx => at' 2 x (hx 0) (hx 1)
  · exact fun x hx => at' 1 x (hx 0) (hx 1)
  · exact fun x hx => at' 0 x ((hx 0).trans rfl) (hx 1)

/-! ## What a tile leaves -/

theorem after13 (t : Fin cfg0.N) : (outsAt0 m c t.val t.isLt).1 = (up fun i => p.dgates (row t (i 0)) (i 1) : FVec Ideal S512x2048 .bf16) := by
  by_cases h : t.val % 16 = 0
  · rw [outsAt0_A m c t h h]
    frame_out
    simp only [half_a hp t, half_b hp t, block0 hp t, block1 hp t, block3 hp t, block4 hp t, block11 hp t, block12 hp t,
      pay10, pay11, pay12, pay15, pay16, pay17, pay23, pay24, pay25]
    exact halves t
  · rw [outsAt0_B m c t h h]
    frame_out
    simp only [half_a hp t, half_b hp t, block0 hp t, block1 hp t, block3 hp t, block4 hp t, block11 hp t, block12 hp t,
      pay10, pay11, pay12, pay15, pay16, pay17, pay23, pay24, pay25]
    exact halves t

theorem after15 (t : Fin cfg0.N) : (outsAt0 m c t.val t.isLt).2.2.1 = (up fun i => p.planted (row t (i 1)) (i 0) : FVec Ideal S1024x512 .bf16) := by
  by_cases h : t.val % 16 = 0
  · rw [outsAt0_A m c t h h]
    frame_out
    simp only [half_b hp t, block0 hp t, block1 hp t, block10 hp t, block11 hp t, block12 hp t, pay10, pay11, pay12, pay15, pay17, pay20,
      slab_of hp t 0 0 rfl, slab_of hp t 1 128 rfl, slab_of hp t 2 256 rfl, slab_of hp t 3 384 rfl, slab_of hp t 4 512 rfl, slab_of hp t 5 640 rfl,
      slab_of hp t 6 768 rfl, slab_of hp t 7 896 rfl, pay28, pay27, pay29, pay35, pay36, pay42, pay1]
    rw [pay34, pay41]
    exact heads t
  · rw [outsAt0_B m c t h h]
    frame_out
    simp only [half_b hp t, block0 hp t, block1 hp t, block10 hp t, block11 hp t, block12 hp t, pay10, pay11, pay12, pay15, pay17, pay20,
      slab_of hp t 0 0 rfl, slab_of hp t 1 128 rfl, slab_of hp t 2 256 rfl, slab_of hp t 3 384 rfl, slab_of hp t 4 512 rfl, slab_of hp t 5 640 rfl,
      slab_of hp t 6 768 rfl, slab_of hp t 7 896 rfl, pay28, pay27, pay29, pay35, pay36, pay42, pay1]
    rw [pay34, pay41]
    exact heads t

theorem after14 (t : Fin cfg0.N) : (outsAt0 m c t.val t.isLt).2.1 = slabs (row t) .bf16 p.doa := by
  by_cases h : t.val % 16 = 0
  · rw [outsAt0_A m c t h h]
    frame_out
    simp only [half_a hp t, block0 hp t, block1 hp t, block9 hp t, block11 hp t, block12 hp t, pay10, pay11, pay12, pay18, pay19, pay26]
  · rw [outsAt0_B m c t h h]
    frame_out
    simp only [half_a hp t, block0 hp t, block1 hp t, block9 hp t, block11 hp t, block12 hp t, pay10, pay11, pay12, pay18, pay19, pay26]

/-! ## The arrays -/

/-- The gates' gradients. -/
theorem arr13 : (dats m 0 c).arrAt 13 cfg0.N = (up fun i => p.dgates (i 0) (i 1) : FVec Ideal S8192x2048 .bf16) := by
  refine (dats m 0 c).arrAt_eq_of_covers 13 _ (by decide +kernel) fun t hf y => ?_
  blk_simp
  rw [after0_13, after13 hp t]
  refine (?_ : (up fun i => p.dgates (i 0) (i 1) : FVec Ideal S8192x2048 .bf16) (ix2 (row t (y 0)) (y 1)) = _)
  blk_ext [idx t, row]

/-- The first output's gradient. -/
theorem arr14 : (dats m 0 c).arrAt 14 cfg0.N = (up fun i => slab (p.doa (i 0)) (i 1) : FVec Ideal S8192x1024 .bf16) := by
  refine (dats m 0 c).arrAt_eq_of_covers 14 _ (by decide +kernel) fun t hf y => ?_
  blk_simp
  rw [after0_14, after14 hp t]
  refine (?_ : (up fun i => slab (p.doa (i 0)) (i 1) : FVec Ideal S8192x1024 .bf16) (ix2 (row t (y 0)) (y 1)) = _)
  blk_ext [idx t, row]

/-- The second output's gradient. -/
theorem arr15 : (dats m 0 c).arrAt 15 cfg0.N = (up fun i => p.planted (i 1) (i 0) : FVec Ideal S1024x8192 .bf16) := by
  refine (dats m 0 c).arrAt_eq_of_covers 15 _ (by decide +kernel) fun t hf y => ?_
  blk_simp
  rw [after0_15, after15 hp t]
  refine (?_ : (up fun i => p.planted (i 1) (i 0) : FVec Ideal S1024x8192 .bf16) (ix2 (y 0) (row t (y 1))) = _)
  blk_ext [idx t, row]

omit hp in
/-- A sum over the rows, tile by tile. -/
theorem sum_rows (f : Fin 8192 → ℝ) (t : Fin cfg0.N) (h : ∀ s : Fin 16, 16 * (t.val / 16) + s.val < cfg0.N) :
    ∑ s : Fin 16, ((∑ r : Fin 512, f (row ⟨16 * (t.val / 16) + s.val, h s⟩ r) : ℝ) : EReal) = ((∑ r, f r : ℝ) : EReal) := by
  rw [coe_sum]
  refine congrArg _ (Fin.sum_mul_add_congr fun s k hl => congrArg f (Fin.ext ?_))
  have := t.isLt
  have : cfg0.N = 16 := rfl
  show 512 * (16 * (t.val / 16) + s.val) + k.val = s.val * 512 + k.val
  omega

/-- The gain's gradient. -/
theorem arr16 : (dats m 0 c).arrAt 16 cfg0.N = (up fun i => ∑ r, p.dg r (i 1) : FVec Ideal S1x1024 .f32) := by
  refine (dats m 0 c).arrAt_eq_of_covers 16 _ (by decide +kernel) fun t hf y => ?_
  blk_simp
  rw [after0_16, Pipeline.eq_sum_fin_of_reset_step_apply_of_flush (fun n h => (outsAt0 m c n h).2.2.2.1) 16 (fun _ => 0)
    (fun t j => ((∑ r : Fin 512, p.dg (row t r) (j 1) : ℝ) : EReal))
    (fun t h j => by
      rw [outsAt0_A m c t h h]; frame_out; simp only [block0 hp t, block1 hp t]
      exact (pay8 p (row t) _ j).trans (congrArg (· + _) (pay7 j)))
    (fun t h j => by
      rw [outsAt0_B m c t h h]; frame_out; simp only [block0 hp t, block1 hp t]
      exact pay8 p (row t) _ j)
    t ((flush0_16 t).mp hf) _, zero_add]
  refine (sum_rows (fun r => p.dg r (y 1)) t _).trans (?_ : (up fun i => ∑ r, p.dg r (i 1) : FVec Ideal S1x1024 .f32) (ix2 (y 0) (y 1)) = _)
  blk_ext [idx t]

/-- The gradient of the first output's matrix. -/
theorem arr17 : (dats m 0 c).arrAt 17 cfg0.N = (up fun i => ∑ r, slab (p.oa r) (i 0) * p.da r (i 1) : FVec Ideal S1024x1024 .f32) := by
  refine (dats m 0 c).arrAt_eq_of_covers 17 _ (by decide +kernel) fun t hf y => ?_
  blk_simp
  rw [after0_17, Pipeline.eq_sum_fin_of_reset_step_apply_of_flush (fun n h => (outsAt0 m c n h).2.2.2.2.1) 16 (fun _ => 0)
    (fun t j => ((∑ r : Fin 512, slab (p.oa (row t r)) (j 0) * p.da (row t r) (j 1) : ℝ) : EReal))
    (fun t h j => by
      rw [outsAt0_A m c t h h]; frame_out; simp only [half_a hp t, block0 hp t, block1 hp t, block5 hp t, block11 hp t, block12 hp t, pay10, pay11, pay12, pay18]
      exact (pay21 p (row t) _ j).trans (congrArg (· + _) (pay2 j)))
    (fun t h j => by
      rw [outsAt0_B m c t h h]; frame_out; simp only [half_a hp t, block0 hp t, block1 hp t, block5 hp t, block11 hp t, block12 hp t, pay10, pay11, pay12, pay18]
      exact pay21 p (row t) _ j)
    t ((flush0_17 t).mp hf) _, zero_add]
  refine (sum_rows (fun r => slab (p.oa r) (y 0) * p.da r (y 1)) t _).trans (?_ : (up fun i => ∑ r, slab (p.oa r) (i 0) * p.da r (i 1) : FVec Ideal S1024x1024 .f32) (ix2 (y 0) (y 1)) = _)
  blk_ext [idx t]

/-- The gradient of the second output's matrix. -/
theorem arr18 : (dats m 0 c).arrAt 18 cfg0.N = (up fun i => ∑ r, slab (p.ob r) (i 0) * p.db r (i 1) : FVec Ideal S1024x1024 .f32) := by
  refine (dats m 0 c).arrAt_eq_of_covers 18 _ (by decide +kernel) fun t hf y => ?_
  blk_simp
  rw [after0_18, Pipeline.eq_sum_fin_of_reset_step_apply_of_flush (fun n h => (outsAt0 m c n h).2.2.2.2.2.1) 16 (fun _ => 0)
    (fun t j => ((∑ r : Fin 512, slab (p.ob (row t r)) (j 0) * p.db (row t r) (j 1) : ℝ) : EReal))
    (fun t h j => by
      rw [outsAt0_A m c t h h]; frame_out; simp only [half_b hp t, block0 hp t, block1 hp t, block6 hp t, block11 hp t, block12 hp t, pay10, pay11, pay12, pay15, pay17]
      exact (pay22 p (row t) _ j).trans (congrArg (· + _) (pay3 j)))
    (fun t h j => by
      rw [outsAt0_B m c t h h]; frame_out; simp only [half_b hp t, block0 hp t, block1 hp t, block6 hp t, block11 hp t, block12 hp t, pay10, pay11, pay12, pay15, pay17]
      exact pay22 p (row t) _ j)
    t ((flush0_18 t).mp hf) _, zero_add]
  refine (sum_rows (fun r => slab (p.ob r) (y 0) * p.db r (y 1)) t _).trans (?_ : (up fun i => ∑ r, slab (p.ob r) (i 0) * p.db r (i 1) : FVec Ideal S1024x1024 .f32) (ix2 (y 0) (y 1)) = _)
  blk_ext [idx t]

/-- The gradient of the merge's matrix. -/
theorem arr19 : (dats m 0 c).arrAt 19 cfg0.N = (up fun i => ∑ r, p.mg r (i 0) * p.dy r (i 1) : FVec Ideal S1024x1024 .f32) := by
  refine (dats m 0 c).arrAt_eq_of_covers 19 _ (by decide +kernel) fun t hf y => ?_
  blk_simp
  rw [after0_19, Pipeline.eq_sum_fin_of_reset_step_apply_of_flush (fun n h => (outsAt0 m c n h).2.2.2.2.2.2) 16 (fun _ => 0)
    (fun t j => ((∑ r : Fin 512, p.mg (row t r) (j 0) * p.dy (row t r) (j 1) : ℝ) : EReal))
    (fun t h j => by
      rw [outsAt0_A m c t h h]; frame_out; simp only [block0 hp t, block1 hp t, block8 hp t, block12 hp t, pay10, pay11, pay12]
      exact (pay14 p (row t) _ j).trans (congrArg (· + _) (pay4 j)))
    (fun t h j => by
      rw [outsAt0_B m c t h h]; frame_out; simp only [block0 hp t, block1 hp t, block8 hp t, block12 hp t, pay10, pay11, pay12]
      exact pay14 p (row t) _ j)
    t ((flush0_19 t).mp hf) _, zero_add]
  refine (sum_rows (fun r => p.mg r (y 0) * p.dy r (y 1)) t _).trans (?_ : (up fun i => ∑ r, p.mg r (i 0) * p.dy r (i 1) : FVec Ideal S1024x1024 .f32) (ix2 (y 0) (y 1)) = _)
  blk_ext [idx t]

end Cert.MergeIdeal.Arrays

end
-- ==== Proof.Merge.Finite.lean ====
/- What the precondition gives: the arguments are arrays of reals. -/
module

public import proofs.«01_k».proof.Defs
public import proofs.«01_k».proof.Proof.Gen.Pre_finite_merge
public import proofs.«01_k».proof.Proof.Merge.Kernel

@[expose] public section

noncomputable section

namespace Cert.MergeIdeal.Arrays

open Idealize.ShloMosaic Idealize.ShloMosaic.TcCoe Cert.MergeIdeal Cert.Reals Cert.MergeIdeal.Blocks

/-- The reals the arguments hold on device `c`. -/
def given (m : (ℓ : Loc nD τ sig) → Buf (Elt Ideal) ℓ) (c : Dev nD) : MergeIn where
  ga i j := EReal.toReal (m ((c : Thread nD τ).loc main_arg0) (ix2 i j))
  gb i j := EReal.toReal (m ((c : Thread nD τ).loc main_arg1) (ix2 i j))
  oa i j := EReal.toReal (m ((c : Thread nD τ).loc main_arg2) (ix2 i j))
  ob i j := EReal.toReal (m ((c : Thread nD τ).loc main_arg3) (ix2 i j))
  wa i j := EReal.toReal (m ((c : Thread nD τ).loc main_arg4) (ix2 i j))
  wb i j := EReal.toReal (m ((c : Thread nD τ).loc main_arg5) (ix2 i j))
  wo i j := EReal.toReal (m ((c : Thread nD τ).loc main_arg6) (ix2 i j))
  g j := EReal.toReal (m ((c : Thread nD τ).loc main_arg7) (ix2 0 j))
  ct i j := EReal.toReal (m ((c : Thread nD τ).loc main_arg8) (ix2 i j))

theorem at_given (m : (ℓ : Loc nD τ sig) → Buf (Elt Ideal) ℓ) (h : Pre_MergeIdeal_finite_merge m) (c : Dev nD) : At (given m c) m c := by
  have e := congrFun (h c) (fun k => k.elim0)
  have ⟨e, e8⟩ := IntOp.andi_eq_one.mp e
  have ⟨e, e7⟩ := IntOp.andi_eq_one.mp e
  have ⟨e, e6⟩ := IntOp.andi_eq_one.mp e
  have ⟨e, e5⟩ := IntOp.andi_eq_one.mp e
  have ⟨e, e4⟩ := IntOp.andi_eq_one.mp e
  have ⟨e, e3⟩ := IntOp.andi_eq_one.mp e
  have ⟨e, e2⟩ := IntOp.andi_eq_one.mp e
  have ⟨e0, e1⟩ := IntOp.andi_eq_one.mp e
  exact ⟨up_at2 (real_of_finite _ _ _ _ _ e0), up_at2 (real_of_finite _ _ _ _ _ e1), up_at2 (real_of_finite _ _ _ _ _ e2), up_at2 (real_of_finite _ _ _ _ _ e3), up_at2 (real_of_finite _ _ _ _ _ e4), up_at2 (real_of_finite _ _ _ _ _ e5), up_at2 (real_of_finite _ _ _ _ _ e6), up_at_row (real_of_finite _ _ _ _ _ e7), up_at2 (real_of_finite _ _ _ _ _ e8)⟩

end Cert.MergeIdeal.Arrays
-- ==== Proof.Merge.Ref.lean ====
/- What the reference's arrays hold: at arguments that are reals, each is the gradient's formula at its index. -/
module

public import proofs.«01_k».proof.Proof.Gen.MergeRefIdeal.Read
public import proofs.«01_k».proof.Proof.Merge.Step

@[expose] public section

set_option maxRecDepth 16384

noncomputable section

namespace Cert.MergeRefIdeal.Holds

open Idealize.ShloMosaic Cert.MergeRefIdeal Cert.MergeRefIdeal.Read Cert.Reals Cert.MergeIn

variable (p : MergeIn)

/-- The logistic function as the host computes it. -/
theorem sg_host (x : ℝ) : Ideal.div ((1 : ℝ) : EReal) (((1 : ℝ) : EReal) + Ideal.exp (-(x : EReal))) = ((sg x : ℝ) : EReal) := by
  have h : (0 : ℝ) < 1 + Real.exp (-x) := by positivity
  rw [← EReal.coe_neg, Ideal.exp_coe, ← EReal.coe_add, div_real h.ne']; rfl

theorem v5 : val_main_v5 (F := Ideal) p.GA = (up fun i => sg (p.ga (i 0) (i 1)) : FVec Ideal S8192x1024 .f32) := by
  funext i
  simp only [val_main_v5_apply, val_main_v4_apply, val_main_v3_apply, val_main_v2_apply, val_main_v1_apply, val_main_v0_apply, val_main_cst_apply, val_main_cst_0_apply, Ideal.ofBits_def, Ideal.addf_def, Ideal.hostDivf_def, Ideal.hostNegf_def, Ideal.hostUnary_exp_def, lit_one]
  exact sg_host _

theorem v16 : val_main_v16 (F := Ideal) p.GB = (up fun i => sg (p.gb (i 0) (i 1)) : FVec Ideal S8192x1024 .f32) := by
  funext i
  simp only [val_main_v16_apply, val_main_v15_apply, val_main_v14_apply, val_main_v13_apply, val_main_v12_apply, val_main_v11_apply, val_main_cst_2_apply, val_main_cst_3_apply, Ideal.ofBits_def, Ideal.addf_def, Ideal.hostDivf_def, Ideal.hostNegf_def, Ideal.hostUnary_exp_def, lit_one]
  exact sg_host _

theorem v8 : val_main_v8 (F := Ideal) p.GA = (up fun i => sg (p.ga (i 0) (i 1)) * (1 - sg (p.ga (i 0) (i 1))) : FVec Ideal S8192x1024 .f32) := by
  funext i
  simp only [val_main_v8_apply, val_main_v7_apply, val_main_v6_apply, val_main_cst_1_apply, v5, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]

theorem v19 : val_main_v19 (F := Ideal) p.GB = (up fun i => sg (p.gb (i 0) (i 1)) * (1 - sg (p.gb (i 0) (i 1))) : FVec Ideal S8192x1024 .f32) := by
  funext i
  simp only [val_main_v19_apply, val_main_v18_apply, val_main_v17_apply, val_main_cst_4_apply, v16, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]

theorem v9 : val_main_v9 (F := Ideal) p.OA p.WA = (up fun i => p.pa (i 0) (i 1) : FVec Ideal S8192x1024 .f32) := by
  funext i
  simp only [val_main_v9_apply, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  rfl

theorem v20 : val_main_v20 (F := Ideal) p.OB p.WB = (up fun i => p.pb (i 0) (i 1) : FVec Ideal S8192x1024 .f32) := by
  funext i
  simp only [val_main_v20_apply, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  rfl

theorem v22 : val_main_v22 (F := Ideal) p.GA p.GB p.OA p.OB p.WA p.WB = (up fun i => p.mg (i 0) (i 1) : FVec Ideal S8192x1024 .f32) := by
  funext i
  simp only [val_main_v22_apply, val_main_v21_apply, val_main_v10_apply, v5, v9, v16, v20, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  rfl

theorem v23 : val_main_v23 (F := Ideal) p.GA p.GB p.OA p.OB p.WA p.WB p.WO = (up fun i => p.y (i 0) (i 1) : FVec Ideal S8192x1024 .f32) := by
  funext i
  simp only [val_main_v23_apply, v22, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  rfl

theorem v30 : val_main_v30 (F := Ideal) p.GA p.GB p.OA p.OB p.WA p.WB p.WO = (up fun i => Rms.ms 1024 (p.y (i 0)) : FVec Ideal S8192x1 .f32) := by
  funext i
  simp only [val_main_v30_apply, val_main_v29_apply, val_main_v28_apply, val_main_v27_apply, val_main_v26_apply, val_main_v25_apply, val_main_v24_apply, val_main_cst_5_apply, val_main_cst_6_apply, val_main_cst_7_apply, v23, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  rfl

theorem v31 : val_main_v31 (F := Ideal) p.GA p.GB p.OA p.OB p.WA p.WB p.WO = (up fun i => p.r (i 0) : FVec Ideal S8192x1 .f32) := by
  funext i
  simp only [val_main_v31_apply, v30, Ideal.hostUnary_rsqrt_def, rsqrt_real (Rms.ms_pos (show (0 : ℝ) < 1024 by norm_num) _)]
  rfl

theorem v36 : val_main_v36 (F := Ideal) p.GA p.GB p.OA p.OB p.WA p.WB p.WO = (up fun i => p.y (i 0) (i 1) * p.r (i 0) : FVec Ideal S8192x1024 .f32) := by
  funext i
  simp only [val_main_v36_apply, val_main_v35_apply, v23, v31, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  rfl

/-- The gain's gradient. -/
theorem v41 : val_main_v41 (F := Ideal) p.GA p.GB p.OA p.OB p.WA p.WB p.WO p.Ct = (up fun i => ∑ r, p.dg r (i 1) : FVec Ideal S1x1024 .f32) := by
  funext i
  simp only [val_main_v41_apply, val_main_v40_apply, val_main_v39_apply, val_main_cst_9_apply, v36, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  refine congrArg (fun z : ℝ => (z : EReal)) (Finset.sum_congr rfl fun r _ => ?_)
  rw [show idx_main_v40 (idx_main_v41 i) r 1 = i 1 from Fin.ext (by
    show (i 0).val * 1024 + (i 1).val = (i 1).val; have h : (i 0).val < 1 := (i 0).isLt; omega)]
  show p.y r (i 1) * p.r r * p.ct r (i 1) = p.dg r (i 1)
  unfold dg; ring

theorem v43 : val_main_v43 (F := Ideal) p.G p.Ct = (up fun i => p.ct (i 0) (i 1) * p.g (i 1) : FVec Ideal S8192x1024 .f32) := by
  funext i
  simp only [val_main_v43_apply, val_main_v42_apply, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  rfl

/-- The mean square's cotangent, the row's part through the root. -/
theorem v52 (i : S8192.Idx) : val_main_v52 (F := Ideal) p.GA p.GB p.OA p.OB p.WA p.WB p.WO p.G p.Ct i
    = (((∑ k, p.y (i 0) k * (p.ct (i 0) k * p.g k)) * (-(1 / 2) * (p.r (i 0) / Rms.ms 1024 (p.y (i 0)))) / 1024 : ℝ) : EReal) := by
  simp only [val_main_v52_apply, val_main_v51_apply, val_main_v50_apply, val_main_v49_apply, val_main_v46_apply,
    val_main_v45_apply, val_main_v44_apply, val_main_v34_apply, val_main_v33_apply, val_main_v32_apply,
    val_main_cst_8_apply, val_main_cst_10_apply, val_main_cst_11_apply, val_main_cst_12_apply, v23, v30, v31, v43, lit_neg_half,
    div_real (Rms.ms_pos (show (0 : ℝ) < 1024 by norm_num) _).ne', Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  rw [Fin.sum_univ_one]
  simp only [show ∀ k, idx_main_v45 (idx_main_v46 (idx_main_v52 i 0)) k 0 = i 0 from fun k => Fin.ext (by
    show (i 0).val * 1 + 0 = (i 0).val; omega)]
  rfl

theorem v57 : val_main_v57 (F := Ideal) p.GA p.GB p.OA p.OB p.WA p.WB p.WO p.G p.Ct = (up fun i => p.dy (i 0) (i 1) : FVec Ideal S8192x1024 .f32) := by
  funext i
  simp only [val_main_v57_apply, val_main_v56_apply, val_main_v55_apply, val_main_v54_apply, val_main_v53_apply, val_main_v48_apply, val_main_v47_apply, v23, v31, v43, v52, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  exact congrArg (fun z : ℝ => (z : EReal)) (Rms.bwd_eq (show (0 : ℝ) < 1024 by norm_num) _ _ _ _)

/-- The gradient of the merge's matrix. -/
theorem v59 : val_main_v59 (F := Ideal) p.GA p.GB p.OA p.OB p.WA p.WB p.WO p.G p.Ct = (up fun i => ∑ r, p.mg r (i 0) * p.dy r (i 1) : FVec Ideal S1024x1024 .f32) := by
  funext i
  simp only [val_main_v59_apply, val_main_v58_apply, v57, v22, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  exact congrArg (fun z : ℝ => (z : EReal)) (Finset.sum_congr rfl fun r _ => mul_comm _ _)

theorem v60 : val_main_v60 (F := Ideal) p.GA p.GB p.OA p.OB p.WA p.WB p.WO p.G p.Ct = (up fun i => p.dm (i 0) (i 1) : FVec Ideal S8192x1024 .f32) := by
  funext i
  simp only [val_main_v60_apply, v57, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  rfl

theorem v61 : val_main_v61 (F := Ideal) p.GA p.GB p.OA p.OB p.WA p.WB p.WO p.G p.Ct = (up fun i => p.db (i 0) (i 1) : FVec Ideal S8192x1024 .f32) := by
  funext i
  simp only [val_main_v61_apply, v60, v16, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  exact congrArg (fun z : ℝ => (z : EReal)) (mul_comm _ _)

theorem v67 : val_main_v67 (F := Ideal) p.GA p.GB p.OA p.OB p.WA p.WB p.WO p.G p.Ct = (up fun i => p.da (i 0) (i 1) : FVec Ideal S8192x1024 .f32) := by
  funext i
  simp only [val_main_v67_apply, v60, v5, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  exact congrArg (fun z : ℝ => (z : EReal)) (mul_comm _ _)

theorem v66 : val_main_v66 (F := Ideal) p.GA p.GB p.OA p.OB p.WA p.WB p.WO p.G p.Ct = (up fun i => p.dgb (i 0) (i 1) : FVec Ideal S8192x1024 .f32) := by
  funext i
  simp only [val_main_v66_apply, val_main_v62_apply, v60, v20, v19, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  exact congrArg (fun z : ℝ => (z : EReal)) (mul_assoc _ _ _).symm

theorem v72 : val_main_v72 (F := Ideal) p.GA p.GB p.OA p.OB p.WA p.WB p.WO p.G p.Ct = (up fun i => p.dga (i 0) (i 1) : FVec Ideal S8192x1024 .f32) := by
  funext i
  simp only [val_main_v72_apply, val_main_v68_apply, v60, v9, v8, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  exact congrArg (fun z : ℝ => (z : EReal)) (mul_assoc _ _ _).symm

theorem v64 : val_main_v64 (F := Ideal) p.GA p.GB p.OA p.OB p.WA p.WB p.WO p.G p.Ct = (up fun i => ∑ r, p.ob r (i 0) * p.db r (i 1) : FVec Ideal S512x1024 .f32) := by
  funext i
  simp only [val_main_v64_apply, val_main_v63_apply, v61, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  exact congrArg (fun z : ℝ => (z : EReal)) (Finset.sum_congr rfl fun r _ => mul_comm _ _)

theorem v70 : val_main_v70 (F := Ideal) p.GA p.GB p.OA p.OB p.WA p.WB p.WO p.G p.Ct = (up fun i => ∑ r, p.oa r (i 0) * p.da r (i 1) : FVec Ideal S512x1024 .f32) := by
  funext i
  simp only [val_main_v70_apply, val_main_v69_apply, v67, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  exact congrArg (fun z : ℝ => (z : EReal)) (Finset.sum_congr rfl fun r _ => mul_comm _ _)

theorem v65 : val_main_v65 (F := Ideal) p.GA p.GB p.OA p.OB p.WA p.WB p.WO p.G p.Ct = (up fun i => p.dob (i 0) (i 1) : FVec Ideal S8192x512 .f32) := by
  funext i
  simp only [val_main_v65_apply, v61, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  exact congrArg (fun z : ℝ => (z : EReal)) (Finset.sum_congr rfl fun r _ => mul_comm _ _)

theorem v71 : val_main_v71 (F := Ideal) p.GA p.GB p.OA p.OB p.WA p.WB p.WO p.G p.Ct = (up fun i => p.doa (i 0) (i 1) : FVec Ideal S8192x512 .f32) := by
  funext i
  simp only [val_main_v71_apply, v67, Ideal.ofBits_def, Ideal.addf_def, Ideal.mulf_def, Ideal.subf_def, Ideal.hostDivf_def, lit_eps, lit_zero, lit_one, lit_1024, ← EReal.coe_mul, coe_sum, ← EReal.coe_add, ← EReal.coe_sub, div_real (show (1024 : ℝ) ≠ 0 by norm_num), zero_add]
  rfl

/-! ## The results' layouts -/

/-- The padding value is zero. -/
theorem none32 : (FloatOps.sitofp FTy.f32 0#32 : Ideal .f32) = ((0 : ℝ) : EReal) := by
  rw [show (FloatOps.sitofp FTy.f32 0#32 : Ideal .f32) = (((0#32 : BitVec 32).toInt : ℝ) : EReal) from rfl]
  norm_num

/-- The gates' gradients. -/
theorem v90 : val_main_v90 (F := Ideal) p.GA p.GB p.OA p.OB p.WA p.WB p.WO p.G p.Ct = (up fun i => p.dgates (i 0) (i 1) : FVec Ideal S8192x2048 .bf16) := by
  unfold val_main_v90 val_main_v89
  rw [v72, v66]
  funext i
  pointwise []
  show _ = ((p.dgates (i 0) (i 1) : ℝ) : EReal)
  unfold dgates
  by_cases h : (i 1).val < 1024
  · rw [dif_pos h, dif_pos h]; rfl
  · rw [dif_neg h, dif_neg h]; rfl

/-- The first output's gradient. -/
theorem v91 : val_main_v91 (F := Ideal) p.GA p.GB p.OA p.OB p.WA p.WB p.WO p.G p.Ct = (up fun i => slab (p.doa (i 0)) (i 1) : FVec Ideal S8192x1024 .bf16) := by
  unfold val_main_v91 val_main_v88 val_main_v87 val_main_v86
  rw [v71]
  funext i
  pointwise [val_main_call0_v0, val_main_c]
  exact dite_slab (p.doa (i 0)) (i 1) none32

/-- The gradient of the first output's matrix. -/
theorem v95 : val_main_v95 (F := Ideal) p.GA p.GB p.OA p.OB p.WA p.WB p.WO p.G p.Ct = (up fun i => ∑ r, slab (p.oa r) (i 0) * p.da r (i 1) : FVec Ideal S1024x1024 .f32) := by
  unfold val_main_v95 val_main_v94 val_main_v93
  rw [v70]
  funext i
  pointwise [val_main_call1_v0, val_main_c_15]
  refine (dite_slab (fun e => ∑ r, p.oa r e * p.da r (i 1)) (i 0) none32).trans ?_
  exact congrArg (fun z : ℝ => (z : EReal)) (sum_slab (fun e r => p.oa r e) (fun r => p.da r (i 1)) (i 0)).symm

/-- The gradient of the second output's matrix. -/
theorem v98 : val_main_v98 (F := Ideal) p.GA p.GB p.OA p.OB p.WA p.WB p.WO p.G p.Ct = (up fun i => ∑ r, slab (p.ob r) (i 0) * p.db r (i 1) : FVec Ideal S1024x1024 .f32) := by
  unfold val_main_v98 val_main_v97 val_main_v96
  rw [v64]
  funext i
  pointwise [val_main_call2_v0, val_main_c_16]
  refine (dite_slab (fun e => ∑ r, p.ob r e * p.db r (i 1)) (i 0) none32).trans ?_
  exact congrArg (fun z : ℝ => (z : EReal)) (sum_slab (fun e r => p.ob r e) (fun r => p.db r (i 1)) (i 0)).symm

/-- The second output's gradient. -/
theorem v92 : val_main_v92 (F := Ideal) p.GA p.GB p.OA p.OB p.WA p.WB p.WO p.G p.Ct = (up fun i => p.planted (i 1) (i 0) : FVec Ideal S1024x8192 .bf16) := by
  unfold val_main_v92 val_main_v85 val_main_v84 val_main_v83 val_main_v82 val_main_v81 val_main_v80 val_main_v79 val_main_v78 val_main_v77
    val_main_v76 val_main_v75 val_main_v74 val_main_v73 val_main_cst_13 val_main_cst_14
  rw [v65]
  funext i
  pointwise [lit_zero, ← EReal.coe_mul, coe_sum, coe_zero_add]
  exact dite_planted p (i 1) (i 0)

end Cert.MergeRefIdeal.Holds

end
-- ==== Proof.Merge.Equal.lean ====
/- The kernel's results are the reference's. -/
module

public import proofs.«01_k».proof.Proof.Merge.Finite
public import proofs.«01_k».proof.Proof.Merge.Ref

@[expose] public section

set_option maxRecDepth 16384

noncomputable section

namespace Cert.Proof

open Idealize.ShloMosaic Idealize.SL.Sem

theorem merge_equal [Cert.Pre_finite_merge.Facts] : Cert.algebraic_MergeIdeal_MergeRefIdeal_pre_finite_merge := by
  intro m g m' g' hpre heq
  have hp := Cert.MergeIdeal.Arrays.at_given m hpre
  refine ⟨_, _, _, _, _, _, _, (θ_run _ _ _).mono (fun _ h c => h c) (Cert.MergeIdeal.Value.run_blocks m g),
    (θ_run _ _ _).mono (fun _ h c => ?_) (Cert.MergeRefIdeal.Value.run m' g')⟩
  obtain ⟨r0, r1, r2, r3, r4, r5, r6, k⟩ := h c
  obtain ⟨e0, e1, e2, e3, e4, e5, e6, e7, e8⟩ := heq c
  have a0 := e0.trans (hp c).ga
  have a1 := e1.trans (hp c).gb
  have a2 := e2.trans (hp c).oa
  have a3 := e3.trans (hp c).ob
  have a4 := e4.trans (hp c).wa
  have a5 := e5.trans (hp c).wb
  have a6 := e6.trans (hp c).wo
  have a7 := e7.trans (hp c).g
  have a8 := e8.trans (hp c).ct
  refine ⟨r0.trans ((Cert.MergeRefIdeal.Read.val_main_v90_eq _ _).trans
      ((congr (congr (congr (congr (congr (congr (congr (congr (congrArg (Cert.MergeRefIdeal.Read.val_main_v90 (F := Ideal)) a0) a1) a2) a3) a4) a5) a6) a7) a8).trans
      ((Cert.MergeRefIdeal.Holds.v90 _).trans (Cert.MergeIdeal.Arrays.arr13 (hp c)).symm))),
    r1.trans ((Cert.MergeRefIdeal.Read.val_main_v91_eq _ _).trans
      ((congr (congr (congr (congr (congr (congr (congr (congr (congrArg (Cert.MergeRefIdeal.Read.val_main_v91 (F := Ideal)) a0) a1) a2) a3) a4) a5) a6) a7) a8).trans
      ((Cert.MergeRefIdeal.Holds.v91 _).trans (Cert.MergeIdeal.Arrays.arr14 (hp c)).symm))),
    r2.trans ((Cert.MergeRefIdeal.Read.val_main_v92_eq _ _).trans
      ((congr (congr (congr (congr (congr (congr (congr (congr (congrArg (Cert.MergeRefIdeal.Read.val_main_v92 (F := Ideal)) a0) a1) a2) a3) a4) a5) a6) a7) a8).trans
      ((Cert.MergeRefIdeal.Holds.v92 _).trans (Cert.MergeIdeal.Arrays.arr15 (hp c)).symm))),
    r3.trans ((Cert.MergeRefIdeal.Read.val_main_v41_eq _ _ _ _ _ _ _ _).trans
      ((congr (congr (congr (congr (congr (congr (congr (congrArg (Cert.MergeRefIdeal.Read.val_main_v41 (F := Ideal)) a0) a1) a2) a3) a4) a5) a6) a8).trans
      ((Cert.MergeRefIdeal.Holds.v41 _).trans (Cert.MergeIdeal.Arrays.arr16 (hp c)).symm))),
    r4.trans ((Cert.MergeRefIdeal.Read.val_main_v95_eq _ _).trans
      ((congr (congr (congr (congr (congr (congr (congr (congr (congrArg (Cert.MergeRefIdeal.Read.val_main_v95 (F := Ideal)) a0) a1) a2) a3) a4) a5) a6) a7) a8).trans
      ((Cert.MergeRefIdeal.Holds.v95 _).trans (Cert.MergeIdeal.Arrays.arr17 (hp c)).symm))),
    r5.trans ((Cert.MergeRefIdeal.Read.val_main_v98_eq _ _).trans
      ((congr (congr (congr (congr (congr (congr (congr (congr (congrArg (Cert.MergeRefIdeal.Read.val_main_v98 (F := Ideal)) a0) a1) a2) a3) a4) a5) a6) a7) a8).trans
      ((Cert.MergeRefIdeal.Holds.v98 _).trans (Cert.MergeIdeal.Arrays.arr18 (hp c)).symm))),
    r6.trans ((Cert.MergeRefIdeal.Read.val_main_v59_eq _ _).trans
      ((congr (congr (congr (congr (congr (congr (congr (congr (congrArg (Cert.MergeRefIdeal.Read.val_main_v59 (F := Ideal)) a0) a1) a2) a3) a4) a5) a6) a7) a8).trans
      ((Cert.MergeRefIdeal.Holds.v59 _).trans (Cert.MergeIdeal.Arrays.arr19 (hp c)).symm))), k⟩

end Cert.Proof
-- ==== Proof.Lat.Frames.lean ====
/- The frames of the latents' programs. -/
module

public import proofs.«01_k».proof.Defs
public import proofs.«01_k».proof.Proof.Gen.Lat.Frame
public import proofs.«01_k».proof.Proof.Gen.LatIdeal.Frame
public import proofs.«01_k».proof.Proof.Gen.LatRefIdeal
public import proofs.«01_k».proof.Proof.Gen.Pre_finite_lat
public import proofs.«01_k».proof.Proof.Gen.LatRefIdeal.Run
public import Idealize.ShloMosaic.Lib.Quiescent

@[expose] public section

noncomputable section

namespace Cert.Proof

open Idealize.ShloMosaic Idealize.SL.Sem

theorem lat_frame : Cert.quiescent_Lat := fun m g _ => Cert.Lat.Gen.frame m g

theorem lat_ideal_frame : Cert.quiescent_LatIdeal := fun m g _ => Cert.LatIdeal.Gen.frame m g

theorem lat_ideal_frame_finite : Cert.quiescent_LatIdeal_pre_finite_lat := fun m g _ => Cert.LatIdeal.Gen.frame m g

/-- The reference's program has host operations only, so no counter that could be left standing. -/
theorem lat_reference_frame : Cert.quiescent_LatRefIdeal := fun m g _ =>
  (θ_run _ _ _).mono (fun r h => ⟨fun c => (h c).2.2.2.2.2, sem_eq_zero_of_no_sems rfl r.2⟩) (Cert.LatRefIdeal.Value.run m g)

theorem lat_reference_frame_finite : Cert.quiescent_LatRefIdeal_pre_finite_lat := fun m g _ => lat_reference_frame m g trivial

end Cert.Proof
-- ==== Proof.Lat.Step.lean ====
/- The gradient of the latent norms, the projections behind them and the rotation, over the reals. -/
module

public import Idealize.ShloMosaic.Lib.Claim
public import proofs.«01_k».proof.Proof.Mlp.Step

@[expose] public section

noncomputable section

namespace Cert

open Idealize.ShloMosaic Cert.Reals

/-- The arguments: the two latents, the positions, the two gains, the two matrices and the cotangents of the queries, the
    keys and the values. -/
structure LatIn where
  cq : Fin 8192 → Fin 256 → ℝ
  ckv : Fin 8192 → Fin 128 → ℝ
  pos : Fin 8192 → BitVec 32
  gq : Fin 256 → ℝ
  gkv : Fin 128 → ℝ
  wq : Fin 256 → Fin 768 → ℝ
  wkv : Fin 128 → Fin 1024 → ℝ
  dq : Fin 8192 → Fin 768 → ℝ
  dk : Fin 8192 → Fin 768 → ℝ
  dv : Fin 8192 → Fin 512 → ℝ

namespace LatIn

/-! ## Heads in slabs of 128 -/

/-- Heads that lie `s` apart, of each the `w` entries from the `o`-th on, in slabs of 128 filled up with zeros. -/
def lay {n : ℕ} (s w o : ℕ) (f : Fin n → ℝ) (c : ℕ) : ℝ :=
  if h : c % 128 < w ∧ c / 128 * s + (o + c % 128) < n then f ⟨c / 128 * s + (o + c % 128), h.2⟩ else 0

/-- … as a padded array has it. -/
theorem dite_lay {n s w o : ℕ} {f : Fin n → ℝ} {c : ℕ} {P : Prop} [Decidable P] {x : P → EReal} {y : ¬ P → EReal}
    (hP : P ↔ (c % 128 < w ∧ c / 128 * s + (o + c % 128) < n)) (hx : ∀ h, x h = ((f ⟨_, (hP.mp h).2⟩ : ℝ) : EReal))
    (hy : ∀ h, y h = ((0 : ℝ) : EReal)) : dite P x y = ((lay s w o f c : ℝ) : EReal) := by
  unfold lay
  by_cases h : P
  · rw [dif_pos h, dif_pos (hP.mp h), hx]
  · rw [dif_neg h, dif_neg (fun e => h (hP.mpr e)), hy]

theorem lay_at {n s w o : ℕ} (f : Fin n → ℝ) {c : ℕ} (k : Fin n) (hw : c % 128 < w) (hk : c / 128 * s + (o + c % 128) = k.val) :
    lay s w o f c = f k := by
  unfold lay
  rw [dif_pos ⟨hw, by omega⟩]
  exact congrArg f (Fin.ext hk)

theorem lay_out {n s w o : ℕ} (f : Fin n → ℝ) {c : ℕ} (h : w ≤ c % 128) : lay s w o f c = 0 := by
  unfold lay
  exact dif_neg fun e => by omega

theorem lay_div {n s w o : ℕ} (f : Fin n → ℝ) (c : ℕ) (d : ℝ) : lay s w o (fun k => f k / d) c = lay s w o f c / d := by
  unfold lay
  split_ifs
  · rfl
  · exact (zero_div _).symm

/-- Where the queries' columns go. -/
def placeQ (k : Fin 768) : Fin 1024 := ⟨k.val / 96 * 128 + k.val % 96, by omega⟩

/-- Where the columns of keys and values go: the keys' slabs come first. -/
def placeKV (k : Fin 1024) : Fin 2048 := if h : k.val % 128 < 64 then ⟨k.val, by omega⟩ else ⟨k.val + 960, by omega⟩

theorem placeKV_val (k : Fin 1024) : (placeKV k).val = if k.val % 128 < 64 then k.val else k.val + 960 := by
  unfold placeKV; split_ifs <;> rfl

/-- The columns of keys and values in slabs. -/
def layKV (f : Fin 1024 → ℝ) (c : ℕ) : ℝ := if c < 1024 then lay 128 64 0 f c else lay 128 64 64 f (c - 1024)

theorem layKV_place (f : Fin 1024 → ℝ) (k : Fin 1024) : layKV f (placeKV k).val = f k := by
  have hk := k.isLt
  rw [placeKV_val, layKV]
  by_cases h : k.val % 128 < 64
  · rw [if_pos h, if_pos hk]
    exact lay_at f k h (by omega)
  · rw [if_neg h, if_neg (by omega)]
    exact lay_at f k (by omega) (by omega)

theorem sum_layQ (f : Fin 768 → ℝ) (G : ℕ → ℝ) :
    ∑ c : Fin 1024, lay 96 96 0 f c.val * G c.val = ∑ k : Fin 768, f k * G (placeQ k).val := by
  refine (Fintype.sum_of_injective placeQ (fun a b h => ?_) _ _ (fun c h => ?_) (fun k => ?_)).symm
  · have h : a.val / 96 * 128 + a.val % 96 = b.val / 96 * 128 + b.val % 96 := congrArg Fin.val h
    exact Fin.ext (by omega)
  · have hc := c.isLt
    have h' : 96 ≤ c.val % 128 := by
      by_contra hn
      exact h ⟨⟨c.val / 128 * 96 + c.val % 128, by omega⟩, Fin.ext (by show (c.val / 128 * 96 + c.val % 128) / 96 * 128 + (c.val / 128 * 96 + c.val % 128) % 96 = c.val; omega)⟩
    rw [lay_out f h', zero_mul]
  · have hk := k.isLt
    have h : (placeQ k).val = k.val / 96 * 128 + k.val % 96 := rfl
    rw [lay_at f k (by omega) (by omega)]

theorem sum_layKV (f : Fin 1024 → ℝ) (G : ℕ → ℝ) :
    ∑ c : Fin 2048, layKV f c.val * G c.val = ∑ k : Fin 1024, f k * G (placeKV k).val := by
  refine (Fintype.sum_of_injective placeKV (fun a b h => ?_) _ _ (fun c h => ?_) (fun k => ?_)).symm
  · have h := congrArg Fin.val h
    rw [placeKV_val, placeKV_val] at h
    have ha := a.isLt
    have hb := b.isLt
    refine Fin.ext ?_
    split_ifs at h <;> omega
  · have hc := c.isLt
    have h' : 64 ≤ c.val % 128 := by
      by_contra hn
      by_cases h1 : c.val < 1024
      · exact h ⟨⟨c.val, h1⟩, Fin.ext (by rw [placeKV_val, if_pos (by show c.val % 128 < 64; omega)])⟩
      · exact h ⟨⟨c.val - 960, by omega⟩, Fin.ext (by
          rw [placeKV_val, if_neg (by show ¬ (c.val - 960) % 128 < 64; omega)]; show c.val - 960 + 960 = c.val; omega)⟩
    have h0 : layKV f c.val = 0 := by
      unfold layKV
      by_cases h1 : c.val < 1024
      · rw [if_pos h1, lay_out f h']
      · rw [if_neg h1, lay_out f (by omega)]
    rw [h0, zero_mul]
  · rw [layKV_place]

/-! ## The rotation -/

/-- The literal the queries' cotangent is divided and multiplied by. -/
def scale : ℝ := 13698540 / 2 ^ 27

theorem lit_scale : Ideal.ofBits .f32 0x3DD105EC#32 = ((scale : ℝ) : EReal) := by
  unfold scale; simp [Ideal.ofBits, Ideal.ieee, -EReal.coe_mul]; norm_num
theorem scale_ne : scale ≠ 0 := by unfold scale; positivity
theorem scale_back (x : ℝ) : x / scale * scale = x := div_mul_cancel₀ x scale_ne
theorem lit_256 : Ideal.ofBits .f32 0x43800000#32 = ((256 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_32 : Ideal.ofBits .f32 0x42000000#32 = ((32 : ℝ) : EReal) := by
  simp [Ideal.ofBits, Ideal.ieee, -EReal.coe_mul]; norm_num
theorem lit_10000 : Ideal.ofBits .f32 0x461C4000#32 = ((10000 : ℝ) : EReal) := by
  simp [Ideal.ofBits, Ideal.ieee, -EReal.coe_mul]; norm_num

/-- The frequencies. -/
def fr (u : ℕ) : ℝ := (10000 : ℝ) ^ (-(0 + 2 * (u : ℝ)) / 32)

variable (p : LatIn) (t : Fin 8192)

def ang (u : ℕ) : ℝ := ((p.pos t).toInt : ℝ) * fr u
def cosT (u : ℕ) : ℝ := Real.cos (p.ang t u)
def sinT (u : ℕ) : ℝ := Real.sin (p.ang t u)

/-- The tables: what an entry of a slab is multiplied by, and what its two partners are. -/
def tc (e : ℕ) : ℝ := if e < 64 then 1 else if e < 80 then p.cosT t (e - 64) else if e < 96 then p.cosT t (e - 80) else 1
def t1 (e : ℕ) : ℝ := if 64 ≤ e ∧ e < 80 then - p.sinT t (e - 64) else 0
def t2 (e : ℕ) : ℝ := if 80 ≤ e ∧ e < 96 then p.sinT t (e - 80) else 0

/-- The rotation's gradient on a slab whose 32 entries from the 64th on are rotated. -/
def rot (d : ℕ → ℝ) (e : ℕ) : ℝ :=
  if e < 64 then d e else if e < 80 then d (e + 16) * p.sinT t (e - 64) + d e * p.cosT t (e - 64)
  else if e < 96 then d e * p.cosT t (e - 80) + -d (e - 16) * p.sinT t (e - 80) else d e

/-- … as the tables give it. -/
theorem rot_eq (d : ℕ → ℝ) (e : ℕ) (he : e < 128) :
    d e * p.tc t e + (if e < 16 then d (112 + e) * p.t1 t (112 + e) else d (e - 16) * p.t1 t (e - 16))
      + (if e < 112 then d (16 + e) * p.t2 t (16 + e) else d (e - 112) * p.t2 t (e - 112)) = p.rot t d e := by
  unfold rot tc t1 t2
  by_cases h64 : e < 64
  · have h2 : ¬ (80 ≤ 16 + e ∧ 16 + e < 96) := by omega
    rw [if_pos h64, if_pos h64, if_pos (show e < 112 by omega), if_neg h2, mul_zero, mul_one, add_zero]
    by_cases h16 : e < 16
    · rw [if_pos h16, if_neg (by omega), mul_zero, add_zero]
    · rw [if_neg h16, if_neg (by omega), mul_zero, add_zero]
  rw [if_neg h64, if_neg h64, if_neg (show ¬ e < 16 by omega)]
  by_cases h80 : e < 80
  · rw [if_pos h80, if_pos h80, if_neg (show ¬ (64 ≤ e - 16 ∧ e - 16 < 80) by omega), if_pos (show e < 112 by omega),
      if_pos (show 80 ≤ 16 + e ∧ 16 + e < 96 by omega), show 16 + e - 80 = e - 64 by omega, Nat.add_comm 16 e]
    ring
  rw [if_neg h80, if_neg h80]
  by_cases h96 : e < 96
  · rw [if_pos h96, if_pos h96, if_pos (show 64 ≤ e - 16 ∧ e - 16 < 80 by omega), if_pos (show e < 112 by omega),
      if_neg (show ¬ (80 ≤ 16 + e ∧ 16 + e < 96) by omega), show e - 16 - 64 = e - 80 by omega]
    ring
  rw [if_neg h96, if_neg h96, if_neg (show ¬ (64 ≤ e - 16 ∧ e - 16 < 80) by omega), mul_zero, mul_one, add_zero]
  by_cases h112 : e < 112
  · rw [if_pos h112, if_neg (show ¬ (80 ≤ 16 + e ∧ 16 + e < 96) by omega), mul_zero, add_zero]
  · rw [if_neg h112, if_neg (show ¬ (80 ≤ e - 112 ∧ e - 112 < 96) by omega), mul_zero, add_zero]

/-! ## The gradient -/

def rq : ℝ := Rms.rr 256 (p.cq t)
def rkv : ℝ := Rms.rr 128 (p.ckv t)
def cqn (j : Fin 256) : ℝ := p.cq t j * p.rq t * p.gq j
def ckvn (j : Fin 128) : ℝ := p.ckv t j * p.rkv t * p.gkv j
/-- The queries' cotangent in slabs. -/
def dqs (c : ℕ) : ℝ := lay 96 96 0 (p.dq t) c
/-- … and turned back. -/
def dqr (c : ℕ) : ℝ := p.rot t (fun e => p.dqs t (c / 128 * 128 + e)) (c % 128)
/-- The keys' and values' cotangents in slabs. -/
def dks (c : ℕ) : ℝ := lay 96 96 0 (p.dk t) c
def dvs (c : ℕ) : ℝ := lay 64 64 0 (p.dv t) c
def dkvs (c : ℕ) : ℝ := if c < 1024 then p.dks t c else p.dvs t (c - 1024)
/-- The shared key's slab: the keys' sum over the heads, turned back. -/
def dsum (e : ℕ) : ℝ := ∑ h : Fin 8, p.dks t (128 * h.val + e)
def dkr (e : ℕ) : ℝ := p.rot t (p.dsum t) e
def dcqn (j : Fin 256) : ℝ := ∑ c : Fin 1024, lay 96 96 0 (p.wq j) c.val * p.dqr t c.val
def dckvn (j : Fin 128) : ℝ := ∑ c : Fin 2048, layKV (p.wkv j) c.val * p.dkvs t c.val
def dgq (j : Fin 256) : ℝ := p.dcqn t j * p.cq t j * p.rq t
def dgkv (j : Fin 128) : ℝ := p.dckvn t j * p.ckv t j * p.rkv t
def dcq (j : Fin 256) : ℝ := Rms.bwd 256 (p.cq t) p.gq (p.dcqn t) j
def dckv (j : Fin 128) : ℝ := Rms.bwd 128 (p.ckv t) p.gkv (p.dckvn t) j
/-- The three gradients side by side. -/
def dlate (c : ℕ) : ℝ :=
  if h : c < 256 then p.dcq t ⟨c, h⟩ else if h : c - 256 < 128 then p.dckv t ⟨c - 256, h⟩ else p.dkr t (c - 384)

/-- The arguments as the programs hold them. -/
abbrev Cq : FVec Ideal ⟨2, ![8192, 256]⟩ .f32 := Reals.up fun i => p.cq (i 0) (i 1)
abbrev Ckv : FVec Ideal ⟨2, ![8192, 128]⟩ .f32 := Reals.up fun i => p.ckv (i 0) (i 1)
abbrev Gq : FVec Ideal ⟨2, ![1, 256]⟩ .f32 := Reals.up fun i => p.gq (i 1)
abbrev Gkv : FVec Ideal ⟨2, ![1, 128]⟩ .f32 := Reals.up fun i => p.gkv (i 1)
abbrev Wq : FVec Ideal ⟨2, ![256, 768]⟩ .f32 := Reals.up fun i => p.wq (i 0) (i 1)
abbrev Wkv : FVec Ideal ⟨2, ![128, 1024]⟩ .f32 := Reals.up fun i => p.wkv (i 0) (i 1)
abbrev Dq : FVec Ideal ⟨2, ![8192, 768]⟩ .f32 := Reals.up fun i => p.dq (i 0) (i 1)
abbrev Dk : FVec Ideal ⟨2, ![8192, 768]⟩ .f32 := Reals.up fun i => p.dk (i 0) (i 1)
abbrev Dv : FVec Ideal ⟨2, ![8192, 512]⟩ .f32 := Reals.up fun i => p.dv (i 0) (i 1)

end LatIn

end Cert

end
-- ==== Proof.Lat.Pay.lean ====
/- What each block the kernel computes holds, at input blocks that are a tile's columns or rows of the arrays. -/
module

public import proofs.«01_k».proof.Proof.Gen.LatIdeal.Skeleton
public import proofs.«01_k».proof.Proof.Lat.Step

@[expose] public section

set_option maxRecDepth 16384

noncomputable section

namespace Cert.LatIdeal.Pay

open Idealize.ShloMosaic Cert.LatIdeal Cert.LatIdeal.Gen Cert.Reals Cert.LatIn

variable (p : LatIn) (row : Fin 1024 → Fin 8192)

/-- A tile of the rows of `f`. -/
abbrev rows {n : ℕ} (φ : FTy) (f : Fin 8192 → Fin n → ℝ) : FVec Ideal ⟨2, ![1024, n]⟩ φ := up fun i => f (row (i 0)) (i 1)

/-- `m` entries of the tile's tokens, a token a column. -/
abbrev cols (m : ℕ) (φ : FTy) (f : Fin 8192 → ℕ → ℝ) : FVec Ideal ⟨2, ![m, 1024]⟩ φ := up fun i => f (row (i 1)) (i 0).val

/-- One head's slab of the queries' cotangent as the kernel is given it. -/
abbrev part (o : ℕ) : FVec Ideal S128x1024 .f32 := cols row 128 .f32 fun t e => p.dqs t (o + e) / scale

/-- … and turned back. -/
abbrev turned (o : ℕ) : FVec Ideal S128x1024 .bf16 := cols row 128 .bf16 fun t e => p.rot t (fun a => p.dqs t (o + a)) e

/-- One head's slab of the keys' cotangent. -/
abbrev keys (o : ℕ) : FVec Ideal S128x1024 .bf16 := cols row 128 .bf16 fun t e => p.dks t (o + e)

/-- The keys' sum over the heads before the `n`-th. -/
abbrev sums (n : ℕ) : FVec Ideal S128x1024 .f32 := cols row 128 .f32 fun t e => ∑ h : Fin n, p.dks t (128 * h.val + e)

abbrev T0 : FVec Ideal S128x1024 .f32 := cols row 128 .f32 p.tc
abbrev T1 : FVec Ideal S128x1024 .f32 := cols row 128 .f32 p.t1
abbrev T2 : FVec Ideal S128x1024 .f32 := cols row 128 .f32 p.t2

/-- The two gradients before the norms, and the two cotangents in slabs. -/
abbrev WQ : FVec Ideal S256x1024 .bf16 := up fun i => lay 96 96 0 (p.wq (i 0)) (i 1).val
abbrev WKV : FVec Ideal S128x2048 .bf16 := up fun i => layKV (p.wkv (i 0)) (i 1).val
abbrev DQR : FVec Ideal S1024x1024 .bf16 := cols row 1024 .bf16 p.dqr
abbrev DKV : FVec Ideal S2048x1024 .bf16 := cols row 2048 .bf16 p.dkvs

/-- The sum a turned entry is, as the rolled rows give it. -/
theorem turn (t : Fin 8192) (d : ℕ → ℝ) (e : ℕ) (he : e < 128) {a b : EReal}
    (ha : a = (((if e < 16 then d (112 + e) * p.t1 t (112 + e) else d (e - 16) * p.t1 t (e - 16)) : ℝ) : EReal))
    (hb : b = (((if e < 112 then d (16 + e) * p.t2 t (16 + e) else d (e - 112) * p.t2 t (e - 112)) : ℝ) : EReal)) :
    ((d e * p.tc t e : ℝ) : EReal) + a + b = ((p.rot t d e : ℝ) : EReal) := by
  rw [ha, hb, ← EReal.coe_add, ← EReal.coe_add, rot_eq p t d e he]

theorem pay1 (j : S1024x256.Idx) : k0_pay1 (F := Ideal) j = 0 := by pointwise [k0_pay1, lit_zero, EReal.coe_zero]
theorem pay2 (j : S2048x128.Idx) : k0_pay2 (F := Ideal) j = 0 := by pointwise [k0_pay2, lit_zero, EReal.coe_zero]
theorem pay32 (j : S1x256.Idx) : k0_pay32 (F := Ideal) j = 0 := by pointwise [k0_pay32, lit_zero, EReal.coe_zero]
theorem pay38 (j : S1x128.Idx) : k0_pay38 (F := Ideal) j = 0 := by pointwise [k0_pay38, lit_zero, EReal.coe_zero]

theorem pay3 : k0_pay3 (T0 p row) = T0 p row := by funext i; pointwise [k0_pay3]
theorem pay4 : k0_pay4 (T1 p row) = T1 p row := by funext i; pointwise [k0_pay4]
theorem pay5 : k0_pay5 (T2 p row) = T2 p row := by funext i; pointwise [k0_pay5]

theorem pay6 : k0_pay6 (T0 p row) (T1 p row) (T2 p row) (part p row 0) = turned p row 0 := by
  funext i
  pointwise [k0_pay6, pay3, pay4, pay5, lit_scale, ← EReal.coe_mul, scale_back]
  refine (turn p (row (i 1)) (p.dqs (row (i 1))) (i 0).val (i 0).isLt ?_ ?_).trans ?_
  · split_ifs <;> rfl
  · split_ifs <;> rfl
  · simp only [turned, cols, up, Nat.zero_add]

theorem pay8 (o : ℕ) : k0_pay8 (part p row o) = cols row 128 .f32 fun t e => p.dqs t (o + e) := by
  funext i
  pointwise [k0_pay8, lit_scale, ← EReal.coe_mul, scale_back]

theorem pay9 (o : ℕ) : k0_pay9 (T0 p row) (part p row o) = cols row 128 .f32 fun t e => p.dqs t (o + e) * p.tc t e := by
  funext i
  pointwise [k0_pay9, pay8, pay3, ← EReal.coe_mul]

theorem pay10 (o : ℕ) : k0_pay10 (T1 p row) (T2 p row) (cols row 128 .f32 fun t e => p.dqs t (o + e))
    (cols row 128 .f32 fun t e => p.dqs t (o + e) * p.tc t e) = turned p row o := by
  funext i
  pointwise [k0_pay10, ← EReal.coe_mul]
  refine turn p (row (i 1)) (fun a => p.dqs (row (i 1)) (o + a)) (i 0).val (i 0).isLt ?_ ?_
  · split_ifs <;> rfl
  · split_ifs <;> rfl

theorem pay11 (o : ℕ) : k0_pay11 (T0 p row) (T1 p row) (T2 p row) (part p row o) = turned p row o := by
  funext i
  pointwise [k0_pay11, lit_scale, ← EReal.coe_mul, scale_back]
  refine turn p (row (i 1)) (fun a => p.dqs (row (i 1)) (o + a)) (i 0).val (i 0).isLt ?_ ?_
  · split_ifs <;> rfl
  · split_ifs <;> rfl

theorem pay13 (o : ℕ) : k0_pay13 (part p row o) = part p row o := by funext i; pointwise [k0_pay13]

/-- The later heads' bodies are the same text. -/
theorem pay15 (o : ℕ) : k0_pay15 (T0 p row) (T1 p row) (T2 p row) (part p row o) k0_pay14 = turned p row o := by
  funext i
  pointwise [k0_pay15, k0_pay14, lit_scale, ← EReal.coe_mul, scale_back]
  refine turn p (row (i 1)) (fun a => p.dqs (row (i 1)) (o + a)) (i 0).val (i 0).isLt ?_ ?_
  · split_ifs <;> rfl
  · split_ifs <;> rfl

theorem pay16 (o : ℕ) : k0_pay16 (T0 p row) (T1 p row) (T2 p row) (part p row o) = turned p row o := pay11 p row o
theorem pay18 (o : ℕ) : k0_pay18 (part p row o) = part p row o := pay13 p row o
theorem pay19 (o : ℕ) : k0_pay19 (T0 p row) (T1 p row) (T2 p row) (part p row o) = turned p row o := pay15 p row o
theorem pay20 (o : ℕ) : k0_pay20 (T0 p row) (T1 p row) (T2 p row) (part p row o) = turned p row o := pay11 p row o
theorem pay22 (o : ℕ) : k0_pay22 (T0 p row) (T1 p row) (T2 p row) (part p row o) = turned p row o := pay11 p row o

/-! ## The shared key's sum -/

theorem pay7 : k0_pay7 (keys p row 0) = sums p row 1 := by
  funext i
  pointwise [k0_pay7, lit_zero, ← EReal.coe_add, zero_add]
  simp

theorem pay12 : k0_pay12 (sums p row 1) (keys p row 128) (keys p row 256) = sums p row 3 := by
  funext i
  pointwise [k0_pay12, ← EReal.coe_add]
  refine congrArg (fun z : ℝ => (z : EReal)) (?_ : _ = ∑ h : Fin 3, p.dks (row (i 1)) (128 * h.val + (i 0).val))
  simp [Fin.sum_univ_succ, add_assoc]

theorem pay17 : k0_pay17 (sums p row 3) (keys p row 384) (keys p row 512) = sums p row 5 := by
  funext i
  pointwise [k0_pay17, ← EReal.coe_add]
  refine congrArg (fun z : ℝ => (z : EReal)) (?_ : _ = ∑ h : Fin 5, p.dks (row (i 1)) (128 * h.val + (i 0).val))
  simp [Fin.sum_univ_succ, add_assoc]

theorem pay21 : k0_pay21 (sums p row 5) (keys p row 640) (keys p row 768) = sums p row 7 := by
  funext i
  pointwise [k0_pay21, ← EReal.coe_add]
  refine congrArg (fun z : ℝ => (z : EReal)) (?_ : _ = ∑ h : Fin 7, p.dks (row (i 1)) (128 * h.val + (i 0).val))
  simp [Fin.sum_univ_succ, add_assoc]

/-- The sum with the last head's part, turned back. -/
theorem pay25 : k0_pay25 (T0 p row) (T1 p row) (T2 p row) (sums p row 7) (keys p row 896) = cols row 128 .f32 p.dkr := by
  have h (t : Fin 8192) (a : ℕ) : (∑ h : Fin 7, p.dks t (128 * h.val + a)) + p.dks t (896 + a) = p.dsum t a := by
    simp only [dsum]
    exact (Fin.sum_univ_castSucc (n := 7) fun h => p.dks t (128 * h.val + a)).symm
  funext i
  pointwise [k0_pay25, ← EReal.coe_add, ← EReal.coe_mul]
  simp only [h]
  refine turn p (row (i 1)) (p.dsum (row (i 1))) (i 0).val (i 0).isLt ?_ ?_
  · split_ifs <;> rfl
  · split_ifs <;> rfl

/-- … a token a row, in the narrow format. -/
theorem pay42 : k0_pay42 (k0_pay26 (cols row 128 .f32 p.dkr)) = (up fun i => p.dkr (row (i 0)) (i 1).val : FVec Ideal S1024x128 .bf16) := by
  funext i
  pointwise [k0_pay42, k0_pay26]
  rfl

theorem pay23 (v : FVec Ideal S1024x1024 .bf16) : k0_pay23 v = v := by funext i; pointwise [k0_pay23]
theorem pay24 (v : FVec Ideal S1024x1024 .bf16) : k0_pay24 v = v := by funext i; pointwise [k0_pay24]

/-! ## The products -/

theorem pay27 (acc : FVec Ideal S1024x256 .f32) (j : S1024x256.Idx) :
    k0_pay27 acc (DQR p row) (rows row .bf16 p.cqn) j
      = acc j + ((∑ r : Fin 1024, p.dqr (row r) (j 0).val * p.cqn (row r) (j 1) : ℝ) : EReal) := by
  pointwise [k0_pay27, lit_zero, ← EReal.coe_mul, coe_sum, ← EReal.coe_add, zero_add]

theorem pay28 (acc : FVec Ideal S2048x128 .f32) (j : S2048x128.Idx) :
    k0_pay28 acc (DKV p row) (rows row .bf16 p.ckvn) j
      = acc j + ((∑ r : Fin 1024, p.dkvs (row r) (j 0).val * p.ckvn (row r) (j 1) : ℝ) : EReal) := by
  pointwise [k0_pay28, lit_zero, ← EReal.coe_mul, coe_sum, ← EReal.coe_add, zero_add]

theorem pay29 : k0_pay29 (WQ p) (DQR p row) = rows row .f32 p.dcqn := by
  funext i
  pointwise [k0_pay29, lit_zero, ← EReal.coe_mul, coe_sum, ← EReal.coe_add, zero_add]
  rfl

theorem pay35 : k0_pay35 (WKV p) (DKV p row) = rows row .f32 p.dckvn := by
  funext i
  pointwise [k0_pay35, lit_zero, ← EReal.coe_mul, coe_sum, ← EReal.coe_add, zero_add]
  rfl

/-! ## The norms -/

theorem pay31 : k0_pay31 (k0_pay30 (rows row .f32 p.cq)) = (up fun i => p.rq (row (i 0)) : FVec Ideal S1024x1 .f32) := by
  funext i
  pointwise [k0_pay31, k0_pay30, ← EReal.coe_mul, coe_sum]
  rw [lit_256, lit_eps, div_real (by norm_num), ← EReal.coe_add]
  exact rsqrt_real (Rms.ms_pos (by norm_num) (p.cq (row (i 0))))

theorem pay37 : k0_pay37 (k0_pay36 (rows row .f32 p.ckv)) = (up fun i => p.rkv (row (i 0)) : FVec Ideal S1024x1 .f32) := by
  funext i
  pointwise [k0_pay37, k0_pay36, ← EReal.coe_mul, coe_sum]
  rw [lit_128, lit_eps, div_real (by norm_num), ← EReal.coe_add]
  exact rsqrt_real (Rms.ms_pos (by norm_num) (p.ckv (row (i 0))))

theorem pay33 (acc : FVec Ideal S1x256 .f32) (j : S1x256.Idx) :
    k0_pay33 (rows row .f32 p.dcqn) (rows row .f32 p.cq) (k0_pay30 (rows row .f32 p.cq)) acc j
      = acc j + ((∑ r : Fin 1024, p.dgq (row r) (j 1) : ℝ) : EReal) := by
  pointwise [k0_pay33, pay31, ← EReal.coe_mul, coe_sum]
  rfl

theorem pay39 (acc : FVec Ideal S1x128 .f32) (j : S1x128.Idx) :
    k0_pay39 (rows row .f32 p.dckvn) (rows row .f32 p.ckv) (k0_pay36 (rows row .f32 p.ckv)) acc j
      = acc j + ((∑ r : Fin 1024, p.dgkv (row r) (j 1) : ℝ) : EReal) := by
  pointwise [k0_pay39, pay37, ← EReal.coe_mul, coe_sum]
  rfl

theorem pay40 : k0_pay40 (k0_pay34 (rows row .f32 p.dcqn) (rows row .f32 p.cq) (k0_pay30 (rows row .f32 p.cq)) (p.Gq : FVec Ideal S1x256 .f32))
    = rows row .bf16 p.dcq := by
  funext i
  pointwise [k0_pay40, k0_pay34, pay31, lit_256, ← EReal.coe_mul, coe_sum, div_real (show (256 : ℝ) ≠ 0 by norm_num), ← EReal.coe_sub]
  rfl

theorem pay41 : k0_pay41 (rows row .f32 p.dckvn) (rows row .f32 p.ckv) (k0_pay36 (rows row .f32 p.ckv)) (p.Gkv : FVec Ideal S1x128 .f32)
    = rows row .bf16 p.dckv := by
  funext i
  pointwise [k0_pay41, pay37, lit_128, ← EReal.coe_mul, coe_sum, div_real (show (128 : ℝ) ≠ 0 by norm_num), ← EReal.coe_sub]
  rfl

end Cert.LatIdeal.Pay

end
-- ==== Proof.Lat.Tables.lean ====
/- What the lines before the call hold, and the blocks of its inputs. -/
module

public import proofs.«01_k».proof.Proof.Gen.LatIdeal.Value
public import proofs.«01_k».proof.Proof.Lat.Pay
public import Idealize.ShloMosaic.Lib.Pipeline.ValueKit
public import Idealize.ShloMosaic.Lib.WordCmp
public import Idealize.ShloMosaic.Lib.StableHlo.RunRead
public import Idealize.ShloMosaic.Lib.Claim

@[expose] public section

set_option maxRecDepth 16384

noncomputable section

namespace Cert.LatIdeal.Blocks

open Idealize.ShloMosaic Idealize.ShloMosaic.TcCoe Cert.LatIdeal Cert.LatIdeal.Gen Cert.LatIdeal.Pay Cert.Reals Cert.LatIn

variable (p : LatIn) (m : (ℓ : Loc nD τ sig) → Buf (Elt Ideal) ℓ) (c : Dev nD)

/-- The arguments hold the step's arrays. -/
structure At : Prop where
  cq : m ((c : Thread nD τ).loc main_arg0) = p.Cq
  ckv : m ((c : Thread nD τ).loc main_arg1) = p.Ckv
  pos : m ((c : Thread nD τ).loc main_arg3) = (fun i => p.pos (i 0) : IVec S8192 32)
  gq : m ((c : Thread nD τ).loc main_arg4) = p.Gq
  gkv : m ((c : Thread nD τ).loc main_arg5) = p.Gkv
  wq : m ((c : Thread nD τ).loc main_arg6) = p.Wq
  wkv : m ((c : Thread nD τ).loc main_arg7) = p.Wkv
  dq : m ((c : Thread nD τ).loc main_arg8) = p.Dq
  dk : m ((c : Thread nD τ).loc main_arg9) = p.Dk
  dv : m ((c : Thread nD τ).loc main_arg10) = p.Dv

/-- Row `r` of tile `t`. -/
def row (t : Fin cfg0.N) (r : Fin 1024) : Fin 8192 := ⟨1024 * t.val + r.val, by have := t.isLt; have : cfg0.N = 8 := rfl; omega⟩

theorem idx : ∀ t : Fin cfg0.N,
    win0_0.index t = ![0, t.val] ∧ win0_1.index t = ![0, t.val] ∧ win0_2.index t = ![0, t.val] ∧ win0_3.index t = ![t.val, 0]
    ∧ win0_4.index t = ![t.val, 0] ∧ win0_5.index t = ![t.val, 0] ∧ win0_6.index t = ![t.val, 0] ∧ win0_7.index t = ![0, t.val]
    ∧ win0_8.index t = ![0, t.val] ∧ win0_9.index t = ![0, t.val] ∧ win0_10.index t = ![0, 0] ∧ win0_11.index t = ![0, 0]
    ∧ win0_12.index t = ![0, 0] ∧ win0_13.index t = ![0, 0] ∧ win0_14.index t = ![t.val, 0] ∧ win0_15.index t = ![0, 0]
    ∧ win0_16.index t = ![0, 0] ∧ win0_17.index t = ![0, 0] ∧ win0_18.index t = ![0, 0] :=
  (by decide +kernel : ∀ t : Fin grid0.N, _)

variable {m c} in
/-- The lines before the call one stretch after another. -/
theorem lines (b : Ref sig .tc) : V m c b
    = StableHlo.after hostOps0_16 (StableHlo.after hostOps0_15 (StableHlo.after hostOps0_14 (StableHlo.after hostOps0_13 (StableHlo.after hostOps0_12
      (StableHlo.after hostOps0_11 (StableHlo.after hostOps0_10 (StableHlo.after hostOps0_9 (StableHlo.after hostOps0_8 (StableHlo.after hostOps0_7 (StableHlo.after hostOps0_6
      (StableHlo.after hostOps0_5 (StableHlo.after hostOps0_4 (StableHlo.after hostOps0_3 (StableHlo.after hostOps0_2 (StableHlo.after hostOps0_1 (StableHlo.after hostOps0 (fun b => m (c, b)))))))))))))))))) (Proc.devRef .tc b) := by
  refine (congrFun (?_ : StableHlo.after (hostOps0 ++ (hostOps0_1 ++ (hostOps0_2 ++ (hostOps0_3 ++ (hostOps0_4 ++ (hostOps0_5 ++ (hostOps0_6 ++ (hostOps0_7 ++ (hostOps0_8 ++
    (hostOps0_9 ++ (hostOps0_10 ++ (hostOps0_11 ++ (hostOps0_12 ++ (hostOps0_13 ++ (hostOps0_14 ++ (hostOps0_15 ++ (hostOps0_16 ++ []))))))))))))))))) _ = _) _)
  rw [List.append_nil]
  simp only [StableHlo.after_append]

/-- The padding value is zero. -/
theorem none16 : (FloatOps.sitofp FTy.bf16 0#32 : Ideal .bf16) = ((0 : ℝ) : EReal) := by
  rw [show (FloatOps.sitofp FTy.bf16 0#32 : Ideal .bf16) = (((0#32 : BitVec 32).toInt : ℝ) : EReal) from rfl]
  norm_num

theorem none32 : (FloatOps.sitofp FTy.f32 0#32 : Ideal .f32) = ((0 : ℝ) : EReal) := by
  rw [show (FloatOps.sitofp FTy.f32 0#32 : Ideal .f32) = (((0#32 : BitVec 32).toInt : ℝ) : EReal) from rfl]
  norm_num

variable {p m c} (hp : At p m c)
include hp
/-! ## The tables -/

/-- The row of frequencies: zero but on the rotated entries. -/
def frow (e : ℕ) : ℝ := if e < 64 then 0 else if e < 80 then fr (e - 64) else if e < 96 then fr (e - 80) else 0

omit hp in
theorem cos_frow (t : Fin 8192) (e : ℕ) : Real.cos (((p.pos t).toInt : ℝ) * frow e) = p.tc t e := by
  unfold frow tc
  split_ifs
  · rw [mul_zero, Real.cos_zero]
  · rfl
  · rfl
  · rw [mul_zero, Real.cos_zero]

omit hp in
theorem sitofp_coe (b : BitVec 32) : (FloatOps.sitofp FTy.f32 b : Ideal .f32) = ((b.toInt : ℝ) : EReal) := rfl

omit hp in
theorem toInt_small {n : ℕ} (h : n < 16) : (BitVec.ofNat 32 n).toInt = (n : ℤ) := by
  interval_cases n <;> rfl

omit hp in
theorem upto11 : StableHlo.upto hostOps0 (fun b => m (c, b)) 20 (Proc.devRef .tc main_v11)
    = (up fun i => fr (i 0).val : FVec Ideal S16 .f32) := by
  after_reads_simp
  funext i
  pointwise [lit_two, lit_zero, lit_32, lit_10000, sitofp_coe]
  rw [toInt_small (i 0).isLt, ← EReal.coe_mul, ← EReal.coe_add, ← EReal.coe_neg, div_real (by norm_num)]
  norm_num [fr]

omit hp in
theorem upto12 : StableHlo.upto hostOps0 (fun b => m (c, b)) 20 (Proc.devRef .tc main_v12) = (up fun _ => 0 : FVec Ideal S64 .f32) := by
  after_reads_simp
  funext i
  pointwise [lit_zero]

omit hp in
theorem upto13 : StableHlo.upto hostOps0 (fun b => m (c, b)) 20 (Proc.devRef .tc main_v13) = (up fun _ => 0 : FVec Ideal S32 .f32) := by
  after_reads_simp
  funext i
  pointwise [lit_zero]

omit hp in
theorem first14 : (concatenate S128 0
    [⟨S64, (up fun _ => 0 : FVec Ideal S64 .f32)⟩, ⟨S16, (up fun i => fr (i 0).val : FVec Ideal S16 .f32)⟩,
      ⟨S16, (up fun i => fr (i 0).val : FVec Ideal S16 .f32)⟩, ⟨S32, (up fun _ => 0 : FVec Ideal S32 .f32)⟩]
    concatenates_S64_S16_S16_S32_S128_d0) = (up fun i => frow (i 0).val : FVec Ideal S128 .f32) := by
  funext i
  pointwise []
  show _ = ((frow (i 0).val : ℝ) : EReal)
  unfold frow
  by_cases h64 : (i 0).val < 64
  · rw [dif_pos h64, if_pos h64]
  rw [dif_neg h64, if_neg h64]
  by_cases h80 : (i 0).val < 80
  · rw [dif_pos (by omega), if_pos h80]; rfl
  rw [dif_neg (by omega), if_neg h80]
  by_cases h96 : (i 0).val < 96
  · rw [dif_pos (by omega), if_pos h96]
    exact congrArg (fun k => ((fr k : ℝ) : EReal)) (show (i 0).val - 64 - 16 = (i 0).val - 80 by omega)
  · rw [dif_neg (by omega), if_neg h96]

variable (m c) in
/-- The angles as the lines compute them. -/
def angles : FVec Ideal S8192x128 .f32 :=
  mulf (F := Ideal) (φ := .f32) (broadcastInDim S8192x128 ![0, 1] bcast_S8192x1_S8192x128_0_1
        (sitofp FTy.f32 fun i => shapeCast main_v0.ty.shape (m ((c : Thread nD τ).loc main_arg3)) shapeCasts_S8192_S8192x1 i))
      (broadcastInDim S8192x128 ![0, 1] bcast_S1x128_S8192x128_0_1 fun i => shapeCast main_v15.ty.shape (concatenate S128 0
        [⟨S64, (StableHlo.upto hostOps0 (fun b => m (c, b)) 20 (Proc.devRef .tc main_v12) : FVec Ideal S64 .f32)⟩,
          ⟨S16, (StableHlo.upto hostOps0 (fun b => m (c, b)) 20 (Proc.devRef .tc main_v11) : FVec Ideal S16 .f32)⟩,
          ⟨S16, (StableHlo.upto hostOps0 (fun b => m (c, b)) 20 (Proc.devRef .tc main_v11) : FVec Ideal S16 .f32)⟩,
          ⟨S32, (StableHlo.upto hostOps0 (fun b => m (c, b)) 20 (Proc.devRef .tc main_v13) : FVec Ideal S32 .f32)⟩]
        concatenates_S64_S16_S16_S32_S128_d0) shapeCasts_S128_S1x128 i)

theorem angles_eq : angles m c = (up fun i => ((p.pos (i 0)).toInt : ℝ) * frow (i 1).val : FVec Ideal S8192x128 .f32) := by
  unfold angles
  rw [upto11, upto12, upto13, first14, hp.pos]
  funext i
  pointwise [sitofp_coe, ← EReal.coe_mul]

omit hp in
/-- A choice by a lane's number between two bounds. -/
theorem pick {e lo hi : ℕ} (he : e < 128) (hl : lo ≤ 128) (hh : hi ≤ 128) (x y : EReal) :
    Scalar.select (IntOp.andi (IntOp.cmpi .sge (BitVec.ofNat 32 e) (BitVec.ofNat 32 lo))
      (IntOp.cmpi .slt (BitVec.ofNat 32 e) (BitVec.ofNat 32 hi))) x y = if lo ≤ e ∧ e < hi then x else y := by
  rw [WordCmp.cmpi_sge_ofNat (by omega) (by omega), WordCmp.cmpi_slt_ofNat (by omega) (by omega)]
  by_cases h1 : lo ≤ e <;> by_cases h2 : e < hi <;> simp [h1, h2, Scalar.select, IntOp.andi]

theorem host90 : V m c main_v90 = (up fun i => p.tc (i 1) (i 0).val : FVec Ideal S128x8192 .f32) := by
  rw [lines]
  after_reads_simp
  change transpose S128x8192 [1, 0] (Host.cos (angles m c)) _ = _
  rw [angles_eq hp]
  funext i
  pointwise []
  exact congrArg (fun x : ℝ => (x : EReal)) (cos_frow _ _)

theorem host91 : V m c main_v91 = (up fun i => p.t1 (i 1) (i 0).val : FVec Ideal S128x8192 .f32) := by
  rw [lines]
  after_reads_simp
  change transpose S128x8192 [1, 0] (select _ (Host.negf (Host.sin (angles m c))) _) _ = _
  rw [angles_eq hp]
  funext i
  have h0 : (i 0).val < 128 := (i 0).isLt
  simp only [StableHlo.TRef.ofBuf_toBuf, StableHlo.TRef.toBuf, StableHlo.TRef.ofBuf, cast_eq]
  pointwise []
  rw [pick h0 (by norm_num) (by norm_num)]
  show _ = ((p.t1 (i 1) (i 0).val : ℝ) : EReal)
  unfold t1
  by_cases h : 64 ≤ (i 0).val ∧ (i 0).val < 80
  · rw [if_pos h, if_pos h]
    show -(((Real.sin (((p.pos (i 1)).toInt : ℝ) * frow (i 0).val) : ℝ)) : EReal) = _
    unfold frow
    rw [if_neg (by omega), if_pos h.2]
    rfl
  · rw [if_neg h, if_neg h]
    exact lit_zero

theorem host92 : V m c main_v92 = (up fun i => p.t2 (i 1) (i 0).val : FVec Ideal S128x8192 .f32) := by
  rw [lines]
  after_reads_simp
  change transpose S128x8192 [1, 0] (select _ (Host.sin (angles m c)) _) _ = _
  rw [angles_eq hp]
  funext i
  have h0 : (i 0).val < 128 := (i 0).isLt
  simp only [StableHlo.TRef.ofBuf_toBuf, StableHlo.TRef.toBuf, StableHlo.TRef.ofBuf, cast_eq]
  pointwise []
  rw [pick h0 (by norm_num) (by norm_num)]
  show _ = ((p.t2 (i 1) (i 0).val : ℝ) : EReal)
  unfold t2
  by_cases h : 80 ≤ (i 0).val ∧ (i 0).val < 96
  · rw [if_pos h, if_pos h]
    show (((Real.sin (((p.pos (i 1)).toInt : ℝ) * frow (i 0).val) : ℝ)) : EReal) = _
    unfold frow
    rw [if_neg (by omega), if_neg (by omega), if_pos h.2]
    rfl
  · rw [if_neg h, if_neg h]
    exact lit_zero

/-! ## The cotangents, the matrices and the norms -/

theorem host45 : V m c main_v45 = (up fun i => p.dks (i 1) (i 0).val : FVec Ideal S1024x8192 .bf16) := by
  rw [lines]
  entry_read
  rw [hp.dk]
  funext i
  have h : (i 0).val < 1024 := (i 0).isLt
  simp only [StableHlo.TRef.ofBuf_toBuf, StableHlo.TRef.toBuf, StableHlo.TRef.ofBuf, cast_eq]
  pointwise []
  exact dite_lay (f := p.dk (i 1)) (c := (i 0).val) (by constructor <;> omega)
    (fun h => congrArg (fun k => ((p.dk (i 1) k : ℝ) : EReal)) (Fin.ext (by show _ = _; simp))) (fun _ => none16)

theorem host50 : V m c main_v50 = (up fun i => p.dvs (i 1) (i 0).val : FVec Ideal S1024x8192 .bf16) := by
  rw [lines]
  entry_read
  rw [hp.dv]
  funext i
  have h : (i 0).val < 1024 := (i 0).isLt
  simp only [StableHlo.TRef.ofBuf_toBuf, StableHlo.TRef.toBuf, StableHlo.TRef.ofBuf, cast_eq]
  pointwise []
  exact dite_lay (f := p.dv (i 1)) (c := (i 0).val) (by constructor <;> omega)
    (fun h => congrArg (fun k => ((p.dv (i 1) k : ℝ) : EReal)) (Fin.ext (by show _ = _; simp))) (fun _ => none16)

theorem host80 : V m c main_v80 = (up fun i => lay 96 96 0 (p.wq (i 0)) (i 1).val : FVec Ideal S256x1024 .bf16) := by
  rw [lines]
  entry_read
  rw [hp.wq]
  funext i
  have h : (i 1).val < 1024 := (i 1).isLt
  simp only [StableHlo.TRef.ofBuf_toBuf, StableHlo.TRef.toBuf, StableHlo.TRef.ofBuf, cast_eq]
  pointwise []
  exact dite_lay (f := p.wq (i 0)) (c := (i 1).val) (by constructor <;> omega)
    (fun h => congrArg (fun k => ((p.wq (i 0) k : ℝ) : EReal)) (Fin.ext (by show _ = _; simp))) (fun _ => none16)

theorem host40 : V m c main_v40 = (up fun i => p.dqs (i 1) (i 0).val / scale : FVec Ideal S1024x8192 .f32) := by
  rw [lines]
  entry_read
  rw [hp.dq]
  funext i
  have h0 : (i 0).val < 1024 := (i 0).isLt
  simp only [StableHlo.TRef.ofBuf_toBuf, StableHlo.TRef.toBuf, StableHlo.TRef.ofBuf, cast_eq]
  pointwise [lit_scale, div_real scale_ne]
  refine (dite_lay (s := 96) (w := 96) (o := 0) (f := fun k => p.dq (i 1) k / scale) (c := (i 0).val) (by constructor <;> omega)
    (fun h => congrArg (fun k => ((p.dq (i 1) k / scale : ℝ) : EReal)) (Fin.ext (by show _ = _; simp))) (fun _ => none32)).trans ?_
  rw [lay_div]
  rfl

omit hp in
theorem wide_lay (f : Fin 1024 → ℝ) (k : ℕ) {x : k < 1024 → EReal} {y : ¬ k < 1024 → EReal}
    (hx : ∀ h, x h = ((lay 128 64 0 f k : ℝ) : EReal)) (hy : ∀ h, y h = ((lay 128 64 64 f (k - 1024) : ℝ) : EReal)) :
    dite (k < 1024) x y = ((layKV f k : ℝ) : EReal) := by
  unfold layKV
  by_cases h : k < 1024
  · rw [dif_pos h, if_pos h, hx]
  · rw [dif_neg h, if_neg h, hy]

theorem host89 : V m c main_v89 = (up fun i => layKV (p.wkv (i 0)) (i 1).val : FVec Ideal S128x2048 .bf16) := by
  rw [lines]
  entry_read
  rw [hp.wkv]
  funext i
  have h1 : (i 1).val < 2048 := (i 1).isLt
  simp only [StableHlo.TRef.ofBuf_toBuf, StableHlo.TRef.toBuf, StableHlo.TRef.ofBuf, cast_eq]
  pointwise []
  refine wide_lay (p.wkv (i 0)) (i 1).val (fun h => ?_) (fun h => ?_)
  · exact dite_lay (s := 128) (w := 64) (o := 0) (f := p.wkv (i 0)) (c := (i 1).val) (by constructor <;> intro h <;> omega)
      (fun h => congrArg (fun k => ((p.wkv (i 0) k : ℝ) : EReal)) (Fin.ext (by show _ = _; simp))) (fun _ => none16)
  · exact dite_lay (s := 128) (w := 64) (o := 64) (f := p.wkv (i 0)) (c := (i 1).val - 1024) (by constructor <;> intro h <;> omega)
      (fun h => congrArg (fun k => ((p.wkv (i 0) k : ℝ) : EReal)) (Fin.ext rfl)) (fun _ => none16)

omit hp in
theorem norm_coe {r : EReal} {r' x g : ℝ} (h : r = (r' : EReal)) : (x : EReal) * r * (g : EReal) = ((x * r' * g : ℝ) : EReal) := by
  rw [h, ← EReal.coe_mul, ← EReal.coe_mul]

theorem host63 : V m c main_v63 = (up fun i => p.cqn (i 0) (i 1) : FVec Ideal S8192x256 .bf16) := by
  rw [lines]
  entry_read
  rw [hp.cq, hp.gq]
  funext i
  pointwise [← EReal.coe_mul, coe_sum, coe_zero_add, lit_zero]
  refine norm_coe (x := p.cq (i 0) (i 1)) (g := p.gq (i 1)) ?_
  rw [lit_256, show Ideal.ofBits FTy.f32 897988541#32 = _ from lit_eps, div_real (by norm_num), ← EReal.coe_add]
  exact rsqrt_real (Rms.ms_pos (by norm_num) (p.cq (i 0)))

theorem host76 : V m c main_v76 = (up fun i => p.ckvn (i 0) (i 1) : FVec Ideal S8192x128 .bf16) := by
  rw [lines]
  entry_read
  rw [hp.ckv, hp.gkv]
  funext i
  pointwise [← EReal.coe_mul, coe_sum, coe_zero_add, lit_zero]
  refine norm_coe (x := p.ckv (i 0) (i 1)) (g := p.gkv (i 1)) ?_
  rw [lit_128, show Ideal.ofBits FTy.f32 897988541#32 = _ from lit_eps, div_real (by norm_num), ← EReal.coe_add]
  exact rsqrt_real (Rms.ms_pos (by norm_num) (p.ckv (i 0)))

end Cert.LatIdeal.Blocks

end
-- ==== Proof.Lat.Blocks.lean ====
/- The blocks of the call's inputs. -/
module

public import proofs.«01_k».proof.Proof.Lat.Tables

@[expose] public section

set_option maxRecDepth 16384

noncomputable section

namespace Cert.LatIdeal.Blocks

open Idealize.ShloMosaic Idealize.ShloMosaic.TcCoe Cert.LatIdeal Cert.LatIdeal.Gen Cert.LatIdeal.Pay Cert.Reals Cert.LatIn

variable {p : LatIn} {m : (ℓ : Loc nD τ sig) → Buf (Elt Ideal) ℓ} {c : Dev nD} (hp : At p m c)
include hp

theorem block0 (t : Fin cfg0.N) : iblk m c 0 t = cols (row t) 1024 .f32 fun t e => p.dqs t e / scale := by
  funext j
  blk_simp [iblk]
  rw [host40 hp]
  refine (?_ : _ = (up fun i => p.dqs (i 1) (i 0).val / scale : FVec Ideal S1024x8192 .f32) (ix2 (j 0) (row t (j 1))))
  blk_ext [idx t, row]

theorem block1 (t : Fin cfg0.N) : iblk m c 1 t = cols (row t) 1024 .bf16 p.dks := by
  funext j
  blk_simp [iblk]
  rw [host45 hp]
  refine (?_ : _ = (up fun i => p.dks (i 1) (i 0).val : FVec Ideal S1024x8192 .bf16) (ix2 (j 0) (row t (j 1))))
  blk_ext [idx t, row]

theorem block2 (t : Fin cfg0.N) : iblk m c 2 t = cols (row t) 1024 .bf16 p.dvs := by
  funext j
  blk_simp [iblk]
  rw [host50 hp]
  refine (?_ : _ = (up fun i => p.dvs (i 1) (i 0).val : FVec Ideal S1024x8192 .bf16) (ix2 (j 0) (row t (j 1))))
  blk_ext [idx t, row]

theorem block3 (t : Fin cfg0.N) : iblk m c 3 t = rows (row t) .f32 p.cq := by
  funext j
  blk_simp [iblk]
  rw [(V_main_arg0 m c).trans hp.cq]
  refine (?_ : _ = (p.Cq) (ix2 (row t (j 0)) (j 1)))
  blk_ext [idx t, row]

theorem block4 (t : Fin cfg0.N) : iblk m c 4 t = rows (row t) .f32 p.ckv := by
  funext j
  blk_simp [iblk]
  rw [(V_main_arg1 m c).trans hp.ckv]
  refine (?_ : _ = (p.Ckv) (ix2 (row t (j 0)) (j 1)))
  blk_ext [idx t, row]

theorem block5 (t : Fin cfg0.N) : iblk m c 5 t = rows (row t) .bf16 p.cqn := by
  funext j
  blk_simp [iblk]
  rw [host63 hp]
  refine (?_ : _ = (up fun i => p.cqn (i 0) (i 1) : FVec Ideal S8192x256 .bf16) (ix2 (row t (j 0)) (j 1)))
  blk_ext [idx t, row]

theorem block6 (t : Fin cfg0.N) : iblk m c 6 t = rows (row t) .bf16 p.ckvn := by
  funext j
  blk_simp [iblk]
  rw [host76 hp]
  refine (?_ : _ = (up fun i => p.ckvn (i 0) (i 1) : FVec Ideal S8192x128 .bf16) (ix2 (row t (j 0)) (j 1)))
  blk_ext [idx t, row]

theorem block7 (t : Fin cfg0.N) : iblk m c 7 t = T0 p (row t) := by
  funext j
  blk_simp [iblk]
  rw [host90 hp]
  refine (?_ : _ = (up fun i => p.tc (i 1) (i 0).val : FVec Ideal S128x8192 .f32) (ix2 (j 0) (row t (j 1))))
  blk_ext [idx t, row]

theorem block8 (t : Fin cfg0.N) : iblk m c 8 t = T1 p (row t) := by
  funext j
  blk_simp [iblk]
  rw [host91 hp]
  refine (?_ : _ = (up fun i => p.t1 (i 1) (i 0).val : FVec Ideal S128x8192 .f32) (ix2 (j 0) (row t (j 1))))
  blk_ext [idx t, row]

theorem block9 (t : Fin cfg0.N) : iblk m c 9 t = T2 p (row t) := by
  funext j
  blk_simp [iblk]
  rw [host92 hp]
  refine (?_ : _ = (up fun i => p.t2 (i 1) (i 0).val : FVec Ideal S128x8192 .f32) (ix2 (j 0) (row t (j 1))))
  blk_ext [idx t, row]

theorem block10 (t : Fin cfg0.N) : iblk m c 10 t = p.Gq := by
  refine Eq.trans ?_ ((V_main_arg4 m c).trans hp.gq)
  blk_ext! [iblk, idx t]

theorem block11 (t : Fin cfg0.N) : iblk m c 11 t = p.Gkv := by
  refine Eq.trans ?_ ((V_main_arg5 m c).trans hp.gkv)
  blk_ext! [iblk, idx t]

theorem block12 (t : Fin cfg0.N) : iblk m c 12 t = WQ p := by
  refine Eq.trans ?_ (host80 hp)
  blk_ext! [iblk, idx t]

theorem block13 (t : Fin cfg0.N) : iblk m c 13 t = WKV p := by
  refine Eq.trans ?_ (host89 hp)
  blk_ext! [iblk, idx t]

end Cert.LatIdeal.Blocks

end
-- ==== Proof.Lat.Kernel.lean ====
/- The arrays the kernel leaves. -/
module

public import proofs.«01_k».proof.Proof.Lat.Blocks

@[expose] public section

set_option maxRecDepth 16384

noncomputable section

namespace Cert.LatIdeal.Arrays

open Idealize.ShloMosaic Idealize.ShloMosaic.TcCoe Cert.LatIdeal Cert.LatIdeal.Gen Cert.LatIdeal.Pay Cert.LatIdeal.Blocks Cert.Reals Cert.LatIn

variable {p : LatIn} {m : (ℓ : Loc nD τ sig) → Buf (Elt Ideal) ℓ} {c : Dev nD} (hp : At p m c)
include hp

/-! ## The parts of a block the kernel reads -/

theorem part_of (t : Fin cfg0.N) (o : ℕ) (hb : ∀ d, (![o, 0] : Fin 2 → ℕ) d + (![128, 1024] : Fin 2 → ℕ) d ≤ S1024x1024.size d) :
    View.ld (iblk m c 0 t) (Rect.unit ![o, 0] ![128, 1024] hb) = part p (row t) o := by
  rw [block0 hp t]
  funext j
  pointwise []
  rfl

theorem keys_of (t : Fin cfg0.N) (o : ℕ) (hb : ∀ d, (![o, 0] : Fin 2 → ℕ) d + (![128, 1024] : Fin 2 → ℕ) d ≤ S1024x1024.size d) :
    View.ld (iblk m c 1 t) (Rect.unit ![o, 0] ![128, 1024] hb) = keys p (row t) o := by
  rw [block1 hp t]
  funext j
  pointwise []
  rfl

omit hp in
/-- A turned slab is the slab of the whole. -/
theorem turned_at (t : Fin cfg0.N) (h : Fin 8) (x : S128x1024.Idx) (a : Fin 1024) (r : Fin 1024) (ha : a.val = 128 * h.val + (x 0).val) (hr : r = x 1) :
    turned p (row t) (128 * h.val) x = ((p.dqr (row t r) a.val : ℝ) : EReal) := by
  have hx : (x 0).val < 128 := (x 0).isLt
  refine congrArg (fun z : ℝ => (z : EReal)) ?_
  unfold dqr
  rw [ha, hr, show (128 * h.val + (x 0).val) / 128 * 128 = 128 * h.val by omega, show (128 * h.val + (x 0).val) % 128 = (x 0).val by omega]

omit hp in
/-- The queries' cotangent turned back, slab by slab. -/
theorem laid_q (t : Fin cfg0.N) : (View.whole cc0_scratch0).readCov (Val := Elt Ideal)
      [⟨Rect.unit (s := S1024x1024) ![896, 0] ![128, 1024] inb_S1024x1024_S128x1024_896_0, turned p (row t) 896⟩,
        ⟨Rect.unit ![768, 0] ![128, 1024] inb_S1024x1024_S128x1024_768_0, turned p (row t) 768⟩,
        ⟨Rect.unit ![640, 0] ![128, 1024] inb_S1024x1024_S128x1024_640_0, turned p (row t) 640⟩,
        ⟨Rect.unit ![512, 0] ![128, 1024] inb_S1024x1024_S128x1024_512_0, turned p (row t) 512⟩,
        ⟨Rect.unit ![384, 0] ![128, 1024] inb_S1024x1024_S128x1024_384_0, turned p (row t) 384⟩,
        ⟨Rect.unit ![256, 0] ![128, 1024] inb_S1024x1024_S128x1024_256_0, turned p (row t) 256⟩,
        ⟨Rect.unit ![128, 0] ![128, 1024] inb_S1024x1024_S128x1024_128_0, turned p (row t) 128⟩,
        ⟨Rect.unit ![0, 0] ![128, 1024] inb_S1024x1024_S128x1024_0_0, turned p (row t) 0⟩]
      (Rect.unit ![0, 0] ![1024, 1024] inb_S1024x1024_S1024x1024_0_0).toLoadRect = DQR p (row t) := by
  rw [View.readCov_eq_canon']
  funext j
  have hj0 : (j 0).val < 1024 := (j 0).isLt
  have hj1 : (j 1).val < 1024 := (j 1).isLt
  have at0 : (((Rect.unit ![0, 0] ![1024, 1024] inb_S1024x1024_S1024x1024_0_0).toLoadRect.idx j : S1024x1024.Idx) 0).val = (j 0).val := by
    show 0 + 1 * (j 0).val = (j 0).val; omega
  have at1 : (((Rect.unit ![0, 0] ![1024, 1024] inb_S1024x1024_S1024x1024_0_0).toLoadRect.idx j : S1024x1024.Idx) 1).val = (j 1).val := by
    show 0 + 1 * (j 1).val = (j 1).val; omega
  have at' : ∀ (h : Fin 8) (x : S128x1024.Idx),
      (((Rect.unit ![0, 0] ![1024, 1024] inb_S1024x1024_S1024x1024_0_0).toLoadRect.idx j : S1024x1024.Idx) 0).val = 128 * h.val + (x 0).val →
      (((Rect.unit ![0, 0] ![1024, 1024] inb_S1024x1024_S1024x1024_0_0).toLoadRect.idx j : S1024x1024.Idx) 1).val = 0 + (x 1).val →
      turned p (row t) (128 * h.val) x = DQR p (row t) j := fun h x h0 h1 =>
    turned_at t h x (j 0) (j 1) (at0 ▸ h0) (Fin.ext (by rw [at1] at h1; omega))
  refine View.canon_eq_of_allAt _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))))
  · have inside : ∀ o : ℕ, o ≤ (j 0).val → (j 0).val < o + 128 → ∀ h, (Rect.unit ![0, 0] ![1024, 1024] inb_S1024x1024_S1024x1024_0_0).toLoadRect.idx j
        ∈ (Rect.unit (s := S1024x1024) ![o, 0] ![128, 1024] h).set := fun o hlo hhi h =>
      Rect.mem_set_unit.mpr (Fin.forall_fin_two.mpr ⟨⟨by rw [at0]; exact hlo, by rw [at0]; exact hhi⟩,
        ⟨Nat.zero_le _, by rw [at1]; show _ < 0 + 1024; omega⟩⟩)
    by_cases h0 : 896 ≤ (j 0).val
    · exact ⟨_, .head _, inside 896 h0 (by omega) inb_S1024x1024_S128x1024_896_0⟩
    by_cases h1 : 768 ≤ (j 0).val
    · exact ⟨_, .tail _ (.head _), inside 768 h1 (by omega) inb_S1024x1024_S128x1024_768_0⟩
    by_cases h2 : 640 ≤ (j 0).val
    · exact ⟨_, .tail _ (.tail _ (.head _)), inside 640 h2 (by omega) inb_S1024x1024_S128x1024_640_0⟩
    by_cases h3 : 512 ≤ (j 0).val
    · exact ⟨_, .tail _ (.tail _ (.tail _ (.head _))), inside 512 h3 (by omega) inb_S1024x1024_S128x1024_512_0⟩
    by_cases h4 : 384 ≤ (j 0).val
    · exact ⟨_, .tail _ (.tail _ (.tail _ (.tail _ (.head _)))), inside 384 h4 (by omega) inb_S1024x1024_S128x1024_384_0⟩
    by_cases h5 : 256 ≤ (j 0).val
    · exact ⟨_, .tail _ (.tail _ (.tail _ (.tail _ (.tail _ (.head _))))), inside 256 h5 (by omega) inb_S1024x1024_S128x1024_256_0⟩
    by_cases h6 : 128 ≤ (j 0).val
    · exact ⟨_, .tail _ (.tail _ (.tail _ (.tail _ (.tail _ (.tail _ (.head _)))))), inside 128 h6 (by omega) inb_S1024x1024_S128x1024_128_0⟩
    · exact ⟨_, .tail _ (.tail _ (.tail _ (.tail _ (.tail _ (.tail _ (.tail _ (.head _))))))), inside 0 (Nat.zero_le _) (by omega) inb_S1024x1024_S128x1024_0_0⟩
  · exact fun x hx => at' 7 x (hx 0) (hx 1)
  · exact fun x hx => at' 6 x (hx 0) (hx 1)
  · exact fun x hx => at' 5 x (hx 0) (hx 1)
  · exact fun x hx => at' 4 x (hx 0) (hx 1)
  · exact fun x hx => at' 3 x (hx 0) (hx 1)
  · exact fun x hx => at' 2 x (hx 0) (hx 1)
  · exact fun x hx => at' 1 x (hx 0) (hx 1)
  · exact fun x hx => at' 0 x ((hx 0).trans rfl) (hx 1)

omit hp in
/-- The keys' cotangent above the values'. -/
theorem laid_kv (t : Fin cfg0.N) : (View.whole cc0_scratch1).readCov (Val := Elt Ideal)
      [⟨Rect.unit (s := S2048x1024) ![1024, 0] ![1024, 1024] inb_S2048x1024_S1024x1024_1024_0, cols (row t) 1024 .bf16 p.dvs⟩,
        ⟨Rect.unit ![0, 0] ![1024, 1024] inb_S2048x1024_S1024x1024_0_0, cols (row t) 1024 .bf16 p.dks⟩]
      (Rect.unit ![0, 0] ![2048, 1024] inb_S2048x1024_S2048x1024_0_0).toLoadRect = DKV p (row t) := by
  rw [View.readCov_eq_canon']
  funext j
  have hj0 : (j 0).val < 2048 := (j 0).isLt
  have hj1 : (j 1).val < 1024 := (j 1).isLt
  have at0 : (((Rect.unit ![0, 0] ![2048, 1024] inb_S2048x1024_S2048x1024_0_0).toLoadRect.idx j : S2048x1024.Idx) 0).val = (j 0).val := by
    show 0 + 1 * (j 0).val = (j 0).val; omega
  have at1 : (((Rect.unit ![0, 0] ![2048, 1024] inb_S2048x1024_S2048x1024_0_0).toLoadRect.idx j : S2048x1024.Idx) 1).val = (j 1).val := by
    show 0 + 1 * (j 1).val = (j 1).val; omega
  refine View.canon_eq_of_allAt _ _ _ ?_ (View.allAt_cons_unit _ _ _ _ _ ?_ (View.allAt_cons_unit _ _ _ _ _ ?_ (View.allAt_nil _ _)))
  · have inside : ∀ o : ℕ, o ≤ (j 0).val → (j 0).val < o + 1024 → ∀ h, (Rect.unit ![0, 0] ![2048, 1024] inb_S2048x1024_S2048x1024_0_0).toLoadRect.idx j
        ∈ (Rect.unit (s := S2048x1024) ![o, 0] ![1024, 1024] h).set := fun o hlo hhi h =>
      Rect.mem_set_unit.mpr (Fin.forall_fin_two.mpr ⟨⟨by rw [at0]; exact hlo, by rw [at0]; exact hhi⟩,
        ⟨Nat.zero_le _, by rw [at1]; show _ < 0 + 1024; omega⟩⟩)
    by_cases h : 1024 ≤ (j 0).val
    · exact ⟨_, .head _, inside 1024 h (by omega) inb_S2048x1024_S1024x1024_1024_0⟩
    · exact ⟨_, .tail _ (.head _), inside 0 (Nat.zero_le _) (by omega) inb_S2048x1024_S1024x1024_0_0⟩
  · intro x hx
    have h0 : _ = 1024 + (x 0).val := hx 0
    have h1 : _ = 0 + (x 1).val := hx 1
    rw [at0] at h0
    rw [at1] at h1
    refine congrArg (fun z : ℝ => (z : EReal)) (Eq.symm ((if_neg (by omega)).trans ?_))
    exact congr (congrArg (fun z => p.dvs (row t z)) (Fin.ext (by omega))) (by show (j 0).val - 1024 = (x 0).val; omega)
  · intro x hx
    have h0 : _ = 0 + (x 0).val := hx 0
    have h1 : _ = 0 + (x 1).val := hx 1
    have hx0 : (x 0).val < 1024 := (x 0).isLt
    rw [at0] at h0
    rw [at1] at h1
    refine congrArg (fun z : ℝ => (z : EReal)) (Eq.symm ((if_pos (by omega)).trans ?_))
    exact congr (congrArg (fun z => p.dks (row t z)) (Fin.ext (by omega))) (by show (j 0).val = (x 0).val; omega)

omit hp in
/-- The three gradients side by side. -/
theorem late (t : Fin cfg0.N) : View.canon (Val := Elt Ideal) (e := .bf16)
      [⟨Rect.unit (s := S1024x512) ![0, 384] ![1024, 128] inb_S1024x512_S1024x128_0_384,
          (up fun i => p.dkr (row t (i 0)) (i 1).val : FVec Ideal S1024x128 .bf16)⟩,
        ⟨Rect.unit ![0, 256] ![1024, 128] inb_S1024x512_S1024x128_0_256, rows (row t) .bf16 p.dckv⟩,
        ⟨Rect.unit ![0, 0] ![1024, 256] inb_S1024x512_S1024x256_0_0, rows (row t) .bf16 p.dcq⟩]
    = (up fun i => p.dlate (row t (i 0)) (i 1).val : FVec Ideal S1024x512 .bf16) := by
  funext j
  have hj0 : (j 0).val < 1024 := (j 0).isLt
  have hj1 : (j 1).val < 512 := (j 1).isLt
  refine View.canon_eq_of_allAt _ _ _ ?_ (View.allAt_cons_unit _ _ _ _ _ ?_ (View.allAt_cons_unit _ _ _ _ _ ?_ (View.allAt_cons_unit _ _ _ _ _ ?_
    (View.allAt_nil _ _))))
  · have inside : ∀ o n : ℕ, o ≤ (j 1).val → (j 1).val < o + n → ∀ h, j ∈ (Rect.unit (s := S1024x512) ![0, o] ![1024, n] h).set := fun o n hlo hhi h =>
      Rect.mem_set_unit.mpr (Fin.forall_fin_two.mpr ⟨⟨Nat.zero_le _, by show _ < 0 + 1024; omega⟩, ⟨hlo, hhi⟩⟩)
    by_cases h : 384 ≤ (j 1).val
    · exact ⟨_, .head _, inside 384 128 h (by omega) inb_S1024x512_S1024x128_0_384⟩
    by_cases h' : 256 ≤ (j 1).val
    · exact ⟨_, .tail _ (.head _), inside 256 128 h' (by omega) inb_S1024x512_S1024x128_0_256⟩
    · exact ⟨_, .tail _ (.tail _ (.head _)), inside 0 256 (Nat.zero_le _) (by omega) inb_S1024x512_S1024x256_0_0⟩
  · intro x hx
    have h0 : (j 0).val = 0 + (x 0).val := hx 0
    have h1 : (j 1).val = 384 + (x 1).val := hx 1
    refine congrArg (fun z : ℝ => (z : EReal)) (Eq.symm ((dif_neg (by omega)).trans ((dif_neg (by omega)).trans ?_)))
    exact congr (congrArg (fun z => p.dkr (row t z)) (Fin.ext (by omega))) (by omega)
  · intro x hx
    have h0 : (j 0).val = 0 + (x 0).val := hx 0
    have h1 : (j 1).val = 256 + (x 1).val := hx 1
    have hx1 : (x 1).val < 128 := (x 1).isLt
    refine congrArg (fun z : ℝ => (z : EReal)) (Eq.symm ((dif_neg (by omega)).trans ((dif_pos (by omega)).trans ?_)))
    exact congr (congrArg (fun z => p.dckv (row t z)) (Fin.ext (by omega))) (Fin.ext (by show (j 1).val - 256 = (x 1).val; omega))
  · intro x hx
    have h0 : (j 0).val = 0 + (x 0).val := hx 0
    have h1 : (j 1).val = 0 + (x 1).val := hx 1
    have hx1 : (x 1).val < 256 := (x 1).isLt
    refine congrArg (fun z : ℝ => (z : EReal)) (Eq.symm ((dif_pos (by omega)).trans ?_))
    exact congr (congrArg (fun z => p.dcq (row t z)) (Fin.ext (by omega))) (Fin.ext (by show (j 1).val = (x 1).val; omega))

/-! ## What a tile leaves -/

theorem after14 (t : Fin cfg0.N) : (outsAt0 m c t.val t.isLt).1 = (up fun i => p.dlate (row t (i 0)) (i 1).val : FVec Ideal S1024x512 .bf16) := by
  by_cases h : t.val % 8 = 0
  · rw [outsAt0_A m c t h h h]
    frame_out
    simp only [keys_of hp t]
    simp only [part_of hp t, block7 hp t, block8 hp t, block9 hp t, pay3, pay4, pay5, pay6, pay8, pay9, pay10, pay11, pay13, pay15, pay16, pay18, pay19, pay20, pay22, laid_q t, block1 hp t, block2 hp t, pay23, pay24, laid_kv t, block3 hp t, block4 hp t, block10 hp t, block11 hp t, block12 hp t, block13 hp t,
      pay7, pay12, pay17, pay21, pay25, pay42, pay29, pay35, pay40, pay41]
    exact late t
  · rw [outsAt0_B m c t h h h]
    frame_out
    simp only [keys_of hp t]
    simp only [part_of hp t, block7 hp t, block8 hp t, block9 hp t, pay3, pay4, pay5, pay6, pay8, pay9, pay10, pay11, pay13, pay15, pay16, pay18, pay19, pay20, pay22, laid_q t, block1 hp t, block2 hp t, pay23, pay24, laid_kv t, block3 hp t, block4 hp t, block10 hp t, block11 hp t, block12 hp t, block13 hp t,
      pay7, pay12, pay17, pay21, pay25, pay42, pay29, pay35, pay40, pay41]
    exact late t

/-! ## The arrays -/

/-- The latents' gradients. -/
theorem arr14 : (dats m 0 c).arrAt 14 cfg0.N = (up fun i => p.dlate (i 0) (i 1).val : FVec Ideal S8192x512 .bf16) := by
  refine (dats m 0 c).arrAt_eq_of_covers 14 _ (by decide +kernel) fun t hf y => ?_
  blk_simp
  rw [after0_14, after14 hp t]
  refine (?_ : (up fun i => p.dlate (i 0) (i 1).val : FVec Ideal S8192x512 .bf16) (ix2 (row t (y 0)) (y 1)) = _)
  blk_ext [idx t, row]

omit hp in
/-- A sum over the rows, tile by tile. -/
theorem sum_rows (f : Fin 8192 → ℝ) (t : Fin cfg0.N) (h : ∀ s : Fin 8, 8 * (t.val / 8) + s.val < cfg0.N) :
    ∑ s : Fin 8, ((∑ r : Fin 1024, f (row ⟨8 * (t.val / 8) + s.val, h s⟩ r) : ℝ) : EReal) = ((∑ r, f r : ℝ) : EReal) := by
  rw [coe_sum]
  refine congrArg _ (Fin.sum_mul_add_congr fun s k hl => congrArg f (Fin.ext ?_))
  have := t.isLt
  have : cfg0.N = 8 := rfl
  show 1024 * (8 * (t.val / 8) + s.val) + k.val = s.val * 1024 + k.val
  omega

/-- The query gain's gradient. -/
theorem arr15 : (dats m 0 c).arrAt 15 cfg0.N = (up fun i => ∑ r, p.dgq r (i 1) : FVec Ideal S1x256 .f32) := by
  refine (dats m 0 c).arrAt_eq_of_covers 15 _ (by decide +kernel) fun t hf y => ?_
  blk_simp
  rw [after0_15, Pipeline.eq_sum_fin_of_reset_step_apply_of_flush (fun n h => (outsAt0 m c n h).2.1) 8 (fun _ => 0)
    (fun t j => ((∑ r : Fin 1024, p.dgq (row t r) (j 1) : ℝ) : EReal))
    (fun t h j => by
      rw [outsAt0_A m c t h h h]; frame_out; simp only [part_of hp t, block7 hp t, block8 hp t, block9 hp t, pay3, pay4, pay5, pay6, pay8, pay9, pay10, pay11, pay13, pay15, pay16, pay18, pay19, pay20, pay22, laid_q t, block3 hp t, block12 hp t, pay29]
      exact (pay33 p (row t) _ j).trans (congrArg (· + _) (pay32 j)))
    (fun t h j => by
      rw [outsAt0_B m c t h h h]; frame_out; simp only [part_of hp t, block7 hp t, block8 hp t, block9 hp t, pay3, pay4, pay5, pay6, pay8, pay9, pay10, pay11, pay13, pay15, pay16, pay18, pay19, pay20, pay22, laid_q t, block3 hp t, block12 hp t, pay29]
      exact pay33 p (row t) _ j)
    t ((flush0_15 t).mp hf) _, zero_add]
  refine (sum_rows (fun r => p.dgq r (y 1)) t _).trans (?_ : (up fun i => ∑ r, p.dgq r (i 1) : FVec Ideal S1x256 .f32) (ix2 (y 0) (y 1)) = _)
  blk_ext [idx t]

/-- The key gain's gradient. -/
theorem arr16 : (dats m 0 c).arrAt 16 cfg0.N = (up fun i => ∑ r, p.dgkv r (i 1) : FVec Ideal S1x128 .f32) := by
  refine (dats m 0 c).arrAt_eq_of_covers 16 _ (by decide +kernel) fun t hf y => ?_
  blk_simp
  rw [after0_16, Pipeline.eq_sum_fin_of_reset_step_apply_of_flush (fun n h => (outsAt0 m c n h).2.2.1) 8 (fun _ => 0)
    (fun t j => ((∑ r : Fin 1024, p.dgkv (row t r) (j 1) : ℝ) : EReal))
    (fun t h j => by
      rw [outsAt0_A m c t h h h]; frame_out; simp only [block1 hp t, block2 hp t, pay23, pay24, laid_kv t, block4 hp t, block13 hp t, pay35]
      exact (pay39 p (row t) _ j).trans (congrArg (· + _) (pay38 j)))
    (fun t h j => by
      rw [outsAt0_B m c t h h h]; frame_out; simp only [block1 hp t, block2 hp t, pay23, pay24, laid_kv t, block4 hp t, block13 hp t, pay35]
      exact pay39 p (row t) _ j)
    t ((flush0_16 t).mp hf) _, zero_add]
  refine (sum_rows (fun r => p.dgkv r (y 1)) t _).trans (?_ : (up fun i => ∑ r, p.dgkv r (i 1) : FVec Ideal S1x128 .f32) (ix2 (y 0) (y 1)) = _)
  blk_ext [idx t]

/-- The gradient of the queries' matrix. -/
theorem arr17 : (dats m 0 c).arrAt 17 cfg0.N = (up fun i => ∑ r, p.dqr r (i 0).val * p.cqn r (i 1) : FVec Ideal S1024x256 .f32) := by
  refine (dats m 0 c).arrAt_eq_of_covers 17 _ (by decide +kernel) fun t hf y => ?_
  blk_simp
  rw [after0_17, Pipeline.eq_sum_fin_of_reset_step_apply_of_flush (fun n h => (outsAt0 m c n h).2.2.2.1) 8 (fun _ => 0)
    (fun t j => ((∑ r : Fin 1024, p.dqr (row t r) (j 0).val * p.cqn (row t r) (j 1) : ℝ) : EReal))
    (fun t h j => by
      rw [outsAt0_A m c t h h h]; frame_out; simp only [part_of hp t, block7 hp t, block8 hp t, block9 hp t, pay3, pay4, pay5, pay6, pay8, pay9, pay10, pay11, pay13, pay15, pay16, pay18, pay19, pay20, pay22, laid_q t, block5 hp t]
      exact (pay27 p (row t) _ j).trans (congrArg (· + _) (pay1 j)))
    (fun t h j => by
      rw [outsAt0_B m c t h h h]; frame_out; simp only [part_of hp t, block7 hp t, block8 hp t, block9 hp t, pay3, pay4, pay5, pay6, pay8, pay9, pay10, pay11, pay13, pay15, pay16, pay18, pay19, pay20, pay22, laid_q t, block5 hp t]
      exact pay27 p (row t) _ j)
    t ((flush0_17 t).mp hf) _, zero_add]
  refine (sum_rows (fun r => p.dqr r (y 0).val * p.cqn r (y 1)) t _).trans (?_ : (up fun i => ∑ r, p.dqr r (i 0).val * p.cqn r (i 1) : FVec Ideal S1024x256 .f32) (ix2 (y 0) (y 1)) = _)
  blk_ext [idx t]

/-- The gradient of the keys' and values' matrix. -/
theorem arr18 : (dats m 0 c).arrAt 18 cfg0.N = (up fun i => ∑ r, p.dkvs r (i 0).val * p.ckvn r (i 1) : FVec Ideal S2048x128 .f32) := by
  refine (dats m 0 c).arrAt_eq_of_covers 18 _ (by decide +kernel) fun t hf y => ?_
  blk_simp
  rw [after0_18, Pipeline.eq_sum_fin_of_reset_step_apply_of_flush (fun n h => (outsAt0 m c n h).2.2.2.2) 8 (fun _ => 0)
    (fun t j => ((∑ r : Fin 1024, p.dkvs (row t r) (j 0).val * p.ckvn (row t r) (j 1) : ℝ) : EReal))
    (fun t h j => by
      rw [outsAt0_A m c t h h h]; frame_out; simp only [block1 hp t, block2 hp t, pay23, pay24, laid_kv t, block6 hp t]
      exact (pay28 p (row t) _ j).trans (congrArg (· + _) (pay2 j)))
    (fun t h j => by
      rw [outsAt0_B m c t h h h]; frame_out; simp only [block1 hp t, block2 hp t, pay23, pay24, laid_kv t, block6 hp t]
      exact pay28 p (row t) _ j)
    t ((flush0_18 t).mp hf) _, zero_add]
  refine (sum_rows (fun r => p.dkvs r (y 0).val * p.ckvn r (y 1)) t _).trans (?_ : (up fun i => ∑ r, p.dkvs r (i 0).val * p.ckvn r (i 1) : FVec Ideal S2048x128 .f32) (ix2 (y 0) (y 1)) = _)
  blk_ext [idx t]

end Cert.LatIdeal.Arrays

end
-- ==== Proof.Lat.Finite.lean ====
/- What the precondition gives: the arguments are arrays of reals. -/
module

public import proofs.«01_k».proof.Defs
public import proofs.«01_k».proof.Proof.Gen.Pre_finite_lat
public import proofs.«01_k».proof.Proof.Lat.Kernel

@[expose] public section

noncomputable section

namespace Cert.LatIdeal.Arrays

open Idealize.ShloMosaic Idealize.ShloMosaic.TcCoe Cert.LatIdeal Cert.Reals Cert.LatIdeal.Blocks

/-- The reals the arguments hold on device `c`. -/
def given (m : (ℓ : Loc nD τ sig) → Buf (Elt Ideal) ℓ) (c : Dev nD) : LatIn where
  cq i j := EReal.toReal (m ((c : Thread nD τ).loc main_arg0) (ix2 i j))
  ckv i j := EReal.toReal (m ((c : Thread nD τ).loc main_arg1) (ix2 i j))
  pos i := m ((c : Thread nD τ).loc main_arg3) (ix1 i)
  gq j := EReal.toReal (m ((c : Thread nD τ).loc main_arg4) (ix2 0 j))
  gkv j := EReal.toReal (m ((c : Thread nD τ).loc main_arg5) (ix2 0 j))
  wq i j := EReal.toReal (m ((c : Thread nD τ).loc main_arg6) (ix2 i j))
  wkv i j := EReal.toReal (m ((c : Thread nD τ).loc main_arg7) (ix2 i j))
  dq i j := EReal.toReal (m ((c : Thread nD τ).loc main_arg8) (ix2 i j))
  dk i j := EReal.toReal (m ((c : Thread nD τ).loc main_arg9) (ix2 i j))
  dv i j := EReal.toReal (m ((c : Thread nD τ).loc main_arg10) (ix2 i j))

theorem at_given (m : (ℓ : Loc nD τ sig) → Buf (Elt Ideal) ℓ) (h : Pre_LatIdeal_finite_lat m) (c : Dev nD) : At (given m c) m c := by
  have e := congrFun (h c) (fun k => k.elim0)
  have ⟨e, e8⟩ := IntOp.andi_eq_one.mp e
  have ⟨e, e7⟩ := IntOp.andi_eq_one.mp e
  have ⟨e, e6⟩ := IntOp.andi_eq_one.mp e
  have ⟨e, e5⟩ := IntOp.andi_eq_one.mp e
  have ⟨e, e4⟩ := IntOp.andi_eq_one.mp e
  have ⟨e, e3⟩ := IntOp.andi_eq_one.mp e
  have ⟨e, e2⟩ := IntOp.andi_eq_one.mp e
  have ⟨e0, e1⟩ := IntOp.andi_eq_one.mp e
  refine ⟨up_at2 (real_of_finite _ _ _ _ _ e0), up_at2 (real_of_finite _ _ _ _ _ e1), ?_, up_at_row (real_of_finite _ _ _ _ _ e2),
    up_at_row (real_of_finite _ _ _ _ _ e3), up_at2 (real_of_finite _ _ _ _ _ e4), up_at2 (real_of_finite _ _ _ _ _ e5),
    up_at2 (real_of_finite _ _ _ _ _ e6), up_at2 (real_of_finite _ _ _ _ _ e7), up_at2 (real_of_finite _ _ _ _ _ e8)⟩
  funext i
  exact congrArg _ (funext fun k => by fin_cases k; rfl)

end Cert.LatIdeal.Arrays
-- ==== Proof.Lat.Ref.lean ====
/- What the reference's arrays hold: at arguments that are reals, each is the gradient's formula at its index. -/
module

public import proofs.«01_k».proof.Proof.Gen.LatRefIdeal.Read
public import proofs.«01_k».proof.Proof.Lat.Step

@[expose] public section

set_option maxRecDepth 16384

noncomputable section

namespace Cert.LatRefIdeal.Holds

open Idealize.ShloMosaic Cert.LatRefIdeal Cert.LatRefIdeal.Read Cert.Reals Cert.LatIn

variable (p : LatIn)

/-- The positions as the programs hold them. -/
abbrev Pos : IVec S8192 32 := fun i => p.pos (i 0)

/-! ### The queries' norm -/

theorem v6 : val_main_v6 (F := Ideal) p.Cq = (up fun i => Rms.ms 256 (p.cq (i 0)) : FVec Ideal S8192x1 .f32) := by
  funext i
  simp only [val_main_v6_apply, val_main_v5_apply, val_main_v4_apply, val_main_v3_apply, val_main_v2_apply, val_main_v1_apply, val_main_v0_apply, val_main_cst_apply, val_main_cst_0_apply, val_main_cst_1_apply,
    Ideal.ofBits_def, Ideal.addf_def, Ideal.mulf_def, Ideal.hostDivf_def, lit_eps, lit_zero, lit_256,
    ← EReal.coe_mul, coe_sum, ← EReal.coe_add, div_real (show (256 : ℝ) ≠ 0 by norm_num), zero_add]
  rfl

theorem v7 : val_main_v7 (F := Ideal) p.Cq = (up fun i => p.rq (i 0) : FVec Ideal S8192x1 .f32) := by
  funext i
  simp only [val_main_v7_apply, v6, Ideal.hostUnary_rsqrt_def, rsqrt_real (Rms.ms_pos (show (0 : ℝ) < 256 by norm_num) _)]
  rfl

theorem v12 : val_main_v12 (F := Ideal) p.Cq = (up fun i => p.cq (i 0) (i 1) * p.rq (i 0) : FVec Ideal S8192x256 .f32) := by
  funext i
  simp only [val_main_v12_apply, val_main_v11_apply, v7, Ideal.mulf_def, ← EReal.coe_mul]
  rfl

theorem v14 : val_main_v14 (F := Ideal) p.Cq p.Gq = (up fun i => p.cqn (i 0) (i 1) : FVec Ideal S8192x256 .f32) := by
  funext i
  simp only [val_main_v14_apply, val_main_v13_apply, v12, Ideal.mulf_def, ← EReal.coe_mul]
  rfl

/-! ### The keys' norm -/

theorem v23 : val_main_v23 (F := Ideal) p.Ckv = (up fun i => Rms.ms 128 (p.ckv (i 0)) : FVec Ideal S8192x1 .f32) := by
  funext i
  simp only [val_main_v23_apply, val_main_v22_apply, val_main_v21_apply, val_main_v20_apply, val_main_v19_apply, val_main_v18_apply, val_main_v17_apply, val_main_cst_3_apply, val_main_cst_4_apply, val_main_cst_5_apply,
    Ideal.ofBits_def, Ideal.addf_def, Ideal.mulf_def, Ideal.hostDivf_def, lit_eps, lit_zero, lit_128,
    ← EReal.coe_mul, coe_sum, ← EReal.coe_add, div_real (show (128 : ℝ) ≠ 0 by norm_num), zero_add]
  rfl

theorem v24 : val_main_v24 (F := Ideal) p.Ckv = (up fun i => p.rkv (i 0) : FVec Ideal S8192x1 .f32) := by
  funext i
  simp only [val_main_v24_apply, v23, Ideal.hostUnary_rsqrt_def, rsqrt_real (Rms.ms_pos (show (0 : ℝ) < 128 by norm_num) _)]
  rfl

theorem v29 : val_main_v29 (F := Ideal) p.Ckv = (up fun i => p.ckv (i 0) (i 1) * p.rkv (i 0) : FVec Ideal S8192x128 .f32) := by
  funext i
  simp only [val_main_v29_apply, val_main_v28_apply, v24, Ideal.mulf_def, ← EReal.coe_mul]
  rfl

theorem v31 : val_main_v31 (F := Ideal) p.Ckv p.Gkv = (up fun i => p.ckvn (i 0) (i 1) : FVec Ideal S8192x128 .f32) := by
  funext i
  simp only [val_main_v31_apply, val_main_v30_apply, v29, Ideal.mulf_def, ← EReal.coe_mul]
  rfl

theorem v212 : val_main_v212 (F := Ideal) p.Ckv p.Gkv = (up fun i => p.ckvn (i 0) (i 1) : FVec Ideal S8192x128 .f32) := v31 p

/-! ### The angles -/

theorem toInt_small {n : ℕ} (h : n < 16) : (BitVec.ofNat 32 n).toInt = (n : ℤ) := by
  interval_cases n <;> rfl

theorem v45 : val_main_v45 (F := Ideal) = (up fun i => fr (i 0).val : FVec Ideal S16 .f32) := by
  funext i
  have h : val_main_v36 (F := Ideal) i = (((i 0).val : ℝ) : EReal) := by
    show (((BitVec.ofNat 32 (i 0).val).toInt : ℝ) : EReal) = _
    rw [toInt_small (i 0).isLt]
    norm_num
  simp only [val_main_v45_apply, val_main_v44_apply, val_main_v43_apply, val_main_v42_apply, val_main_v41_apply, val_main_v40_apply, val_main_v39_apply, val_main_v38_apply, val_main_v37_apply, val_main_cst_7_apply, val_main_cst_8_apply, val_main_cst_9_apply, val_main_cst_10_apply, h]
  simp only [Ideal.ofBits_def, Ideal.addf_def, Ideal.mulf_def, Ideal.hostDivf_def, Ideal.hostNegf_def, Ideal.hostPowf_def, lit_two, lit_zero, lit_32, lit_10000]
  rw [← EReal.coe_mul, ← EReal.coe_add,
    show ∀ x : ℝ, (FloatOps.negf ((x : ℝ) : EReal) : Ideal .f32) = ((-x : ℝ) : EReal) from fun x => (EReal.coe_neg x).symm, div_real (by norm_num)]
  norm_num [fr]

theorem v51 : val_main_v51 (F := Ideal) (Pos p) = (up fun i => p.ang (i 0) (i 1).val : FVec Ideal S8192x16 .f32) := by
  funext i
  simp only [val_main_v51_apply, val_main_v50_apply, val_main_v49_apply, val_main_v48_apply, val_main_v47_apply, val_main_v46_apply, v45, Ideal.mulf_def]
  exact (EReal.coe_mul _ _).symm

theorem v52 : val_main_v52 (F := Ideal) (Pos p) = (up fun i => p.cosT (i 0) (i 1).val : FVec Ideal S8192x16 .f32) := by
  funext i
  simp only [val_main_v52_apply, v51, Ideal.hostUnary_cos_def]
  rfl

theorem v54 : val_main_v54 (F := Ideal) (Pos p) = (up fun i => p.sinT (i 0) (i 1).val : FVec Ideal S8192x16 .f32) := by
  funext i
  simp only [val_main_v54_apply, v51, Ideal.hostUnary_sin_def]
  rfl

theorem v88 : val_main_v88 (F := Ideal) (Pos p) = (up fun i => p.cosT (i 0) (i 1).val : FVec Ideal S8192x16 .f32) := v52 p
theorem v90 : val_main_v90 (F := Ideal) (Pos p) = (up fun i => p.sinT (i 0) (i 1).val : FVec Ideal S8192x16 .f32) := v54 p

/-! ### The rotation's and the slabs' cases -/

/-- Of two padded arrays whose entries lie apart one gives the sum's entry. -/
theorem two {P Q : Prop} [Decidable P] [Decidable Q] {x : P → EReal} {y : Q → EReal} {z : EReal} (hPQ : P ↔ ¬Q)
    (hx : ∀ h, x h = z) (hy : ∀ h, y h = z) :
    dite P x (fun _ => ((0 : ℝ) : EReal)) + dite Q y (fun _ => ((0 : ℝ) : EReal)) = z := by
  by_cases h : Q
  · rw [dif_neg (fun e => hPQ.mp e h), dif_pos h, EReal.coe_zero, zero_add, hy]
  · rw [dif_pos (hPQ.mpr h), dif_neg h, EReal.coe_zero, add_zero, hx]

section
variable (t : Fin 8192) (d : ℕ → ℝ) {e : ℕ}

theorem rot_lo (h : e < 64) : p.rot t d e = d e := if_pos h
theorem rot_mid (h : ¬ e < 64) (h' : e < 80) : p.rot t d e = d (e + 16) * p.sinT t (e - 64) + d e * p.cosT t (e - 64) :=
  (if_neg h).trans (if_pos h')
theorem rot_hi (h : ¬ e < 80) (h' : e < 96) : p.rot t d e = d e * p.cosT t (e - 80) + -d (e - 16) * p.sinT t (e - 80) :=
  (if_neg (by omega)).trans ((if_neg h).trans (if_pos h'))
theorem rot_out (h : ¬ e < 96) : p.rot t d e = d e :=
  (if_neg (by omega)).trans ((if_neg (by omega)).trans (if_neg h))
theorem rot_high {u : ℕ} (h : 16 ≤ u ∧ u - 16 < 16) :
    ((d (64 + (16 + (u - 16))) * p.cosT t (u - 16) + -d (64 + (u - 16)) * p.sinT t (u - 16) : ℝ) : EReal) = ((p.rot t d (64 + u) : ℝ) : EReal) := by
  rw [rot_hi p t d (by omega) (by omega), show 64 + (16 + (u - 16)) = 64 + u by omega, show 64 + (u - 16) = 64 + u - 16 by omega,
    show 64 + u - 80 = u - 16 by omega]
theorem rot_low {u : ℕ} (h : u < 16) :
    ((d (64 + (16 + u)) * p.sinT t u + d (64 + u) * p.cosT t u : ℝ) : EReal) = ((p.rot t d (64 + u) : ℝ) : EReal) := by
  rw [rot_mid p t d (by omega) (by omega), show 64 + (16 + u) = 64 + u + 16 by omega, show 64 + u - 64 = u by omega]
theorem dkvs_lo (h : e < 1024) : p.dkvs t e = p.dks t e := if_pos h
theorem dkvs_hi (h : ¬ e < 1024) : p.dkvs t e = p.dvs t (e - 1024) := if_neg h

end

/-! ### Heads in slabs -/

theorem v111 : val_main_v111 (F := Ideal) p.Dq = fun i => ((p.dqs (i 0) (128 * (i 1).val + (i 2).val) : ℝ) : EReal) := by
  funext i
  have h1 : (i 1).val < 8 := (i 1).isLt
  have h2 : (i 2).val < 96 := (i 2).isLt
  rw [val_main_v111_apply]
  refine congrArg (fun z : ℝ => (z : EReal)) (Eq.symm ((lay_at (s := 96) (w := 96) (o := 0) _ (idx_main_v111 i 1) (by omega) ?_).trans
    (congrArg (fun z => p.dq z (idx_main_v111 i 1)) (Fin.ext ?_))))
  · show (128 * (i 1).val + (i 2).val) / 128 * 96 + (0 + (128 * (i 1).val + (i 2).val) % 128) = (((i 0).val * 8 + (i 1).val) * 96 + (i 2).val) % 768
    omega
  · show (i 0).val = (((i 0).val * 8 + (i 1).val) * 96 + (i 2).val) / 768
    omega

theorem v108 : val_main_v108 (F := Ideal) p.Dk = fun i => ((p.dks (i 0) (128 * (i 1).val + (i 2).val) : ℝ) : EReal) := by
  funext i
  have h1 : (i 1).val < 8 := (i 1).isLt
  have h2 : (i 2).val < 96 := (i 2).isLt
  rw [val_main_v108_apply]
  refine congrArg (fun z : ℝ => (z : EReal)) (Eq.symm ((lay_at (s := 96) (w := 96) (o := 0) _ (idx_main_v108 i 1) (by omega) ?_).trans
    (congrArg (fun z => p.dk z (idx_main_v108 i 1)) (Fin.ext ?_))))
  · show (128 * (i 1).val + (i 2).val) / 128 * 96 + (0 + (128 * (i 1).val + (i 2).val) % 128) = (((i 0).val * 8 + (i 1).val) * 96 + (i 2).val) % 768
    omega
  · show (i 0).val = (((i 0).val * 8 + (i 1).val) * 96 + (i 2).val) / 768
    omega

theorem v107 : val_main_v107 (F := Ideal) p.Dv = fun i => ((p.dvs (i 0) (128 * (i 1).val + (i 2).val) : ℝ) : EReal) := by
  funext i
  have h1 : (i 1).val < 8 := (i 1).isLt
  have h2 : (i 2).val < 64 := (i 2).isLt
  rw [val_main_v107_apply]
  refine congrArg (fun z : ℝ => (z : EReal)) (Eq.symm ((lay_at (s := 64) (w := 64) (o := 0) _ (idx_main_v107 i 1) (by omega) ?_).trans
    (congrArg (fun z => p.dv z (idx_main_v107 i 1)) (Fin.ext ?_))))
  · show (128 * (i 1).val + (i 2).val) / 128 * 64 + (0 + (128 * (i 1).val + (i 2).val) % 128) = (((i 0).val * 8 + (i 1).val) * 64 + (i 2).val) % 512
    omega
  · show (i 0).val = (((i 0).val * 8 + (i 1).val) * 64 + (i 2).val) / 512
    omega

/-! ### The queries' cotangent turned back -/

theorem v141 : val_main_v141 (F := Ideal) (Pos p) p.Dq = fun i =>
    ((p.dqs (i 0) (128 * (i 1).val + (64 + (16 + (i 2).val))) * p.cosT (i 0) (i 2).val
      + -p.dqs (i 0) (128 * (i 1).val + (64 + (i 2).val)) * p.sinT (i 0) (i 2).val : ℝ) : EReal) := by
  funext i
  simp only [val_main_v141_apply, val_main_v140_apply, val_main_v139_apply, val_main_v138_apply, val_main_v137_apply, val_main_v136_apply, val_main_v133_apply, val_main_v132_apply, val_main_v113_apply, val_main_v53_apply, val_main_v55_apply, v111, v52, v54, Ideal.addf_def, Ideal.mulf_def, Ideal.hostNegf_def]
  rw [EReal.coe_add, EReal.coe_mul, EReal.coe_mul, EReal.coe_neg]
  rfl

theorem v144 : val_main_v144 (F := Ideal) (Pos p) p.Dq = fun i =>
    ((p.dqs (i 0) (128 * (i 1).val + (64 + (16 + (i 2).val))) * p.sinT (i 0) (i 2).val
      + p.dqs (i 0) (128 * (i 1).val + (64 + (i 2).val)) * p.cosT (i 0) (i 2).val : ℝ) : EReal) := by
  funext i
  simp only [val_main_v144_apply, val_main_v143_apply, val_main_v142_apply, val_main_v135_apply, val_main_v134_apply, val_main_v133_apply, val_main_v132_apply, val_main_v113_apply, val_main_v53_apply, val_main_v55_apply, v111, v52, v54, Ideal.addf_def, Ideal.mulf_def]
  rw [EReal.coe_add, EReal.coe_mul, EReal.coe_mul]
  rfl

theorem v112 : val_main_v112 (F := Ideal) p.Dq = fun i => ((p.dqs (i 0) (128 * (i 1).val + (i 2).val) : ℝ) : EReal) := by
  funext i
  simp only [val_main_v112_apply, v111]
  rfl

theorem v147 : val_main_v147 (F := Ideal) (Pos p) p.Dq = fun i => ((p.rot (i 0) (fun a => p.dqs (i 0) (128 * (i 1).val + a)) (64 + (i 2).val) : ℝ) : EReal) := by
  funext i
  have h2 : (i 2).val < 32 := (i 2).isLt
  unfold val_main_v147 val_main_v145 val_main_v146
  pointwise [lit_zero, val_main_cst_21_apply, val_main_cst_22_apply, Ideal.ofBits_def]
  exact two (by omega) (fun h => (congrFun (v141 p) _).trans (rot_high p (i 0) (fun a => p.dqs (i 0) (128 * (i 1).val + a)) h))
    (fun h => (congrFun (v144 p) _).trans (rot_low p (i 0) (fun a => p.dqs (i 0) (128 * (i 1).val + a)) h))

theorem v150 : val_main_v150 (F := Ideal) (Pos p) p.Dq = fun i => ((p.dqr (i 0) (128 * (i 1).val + (i 2).val) : ℝ) : EReal) := by
  funext i
  have h2 : (i 2).val < 96 := (i 2).isLt
  have hd : p.dqr (i 0) (128 * (i 1).val + (i 2).val) = p.rot (i 0) (fun a => p.dqs (i 0) (128 * (i 1).val + a)) (i 2).val := by
    unfold dqr
    rw [show (128 * (i 1).val + (i 2).val) / 128 * 128 = 128 * (i 1).val by omega, show (128 * (i 1).val + (i 2).val) % 128 = (i 2).val by omega]
  refine Eq.trans ?_ (congrArg (fun z : ℝ => (z : EReal)) hd.symm)
  unfold val_main_v150 val_main_v148 val_main_v149
  pointwise [lit_zero, val_main_cst_23_apply, val_main_cst_24_apply, Ideal.ofBits_def]
  exact two (by omega)
    (fun h => (congrFun (v147 p) _).trans (congrArg (fun e => ((p.rot (i 0) (fun a => p.dqs (i 0) (128 * (i 1).val + a)) e : ℝ) : EReal))
      (show 64 + ((i 2).val - 64) = (i 2).val by omega)))
    (fun h => (congrFun (v112 p) _).trans (congrArg (fun z : ℝ => (z : EReal)) (rot_lo p (i 0) (fun a => p.dqs (i 0) (128 * (i 1).val + a)) h).symm))

theorem v174 : val_main_v174 (F := Ideal) (Pos p) p.Dq = (up fun i => p.dqr (i 0) (placeQ (i 1)).val : FVec Ideal S8192x768 .f32) := by
  funext i
  rw [val_main_v174_apply, v150]
  have h1 : (i 1).val < 768 := (i 1).isLt
  refine congrArg (fun z : ℝ => (z : EReal)) (congr (congrArg p.dqr (Fin.ext ?_)) ?_)
  · show ((i 0).val * 768 + (i 1).val) / 768 = (i 0).val
    omega
  · show 128 * (((i 0).val * 768 + (i 1).val) / 96 % 8) + ((i 0).val * 768 + (i 1).val) % 96 = (i 1).val / 96 * 128 + (i 1).val % 96
    omega

/-! ### The keys' and values' cotangent -/

theorem v109 : val_main_v109 (F := Ideal) p.Dk = fun i => ((p.dks (i 0) (128 * (i 1).val + (i 2).val) : ℝ) : EReal) := by
  funext i
  simp only [val_main_v109_apply, v108]
  rfl

theorem v131 : val_main_v131 (F := Ideal) p.Dk p.Dv = fun i => ((p.dkvs (i 0) (if (i 2).val < 64 then 128 * (i 1).val + (i 2).val else 960 + (128 * (i 1).val + (i 2).val)) : ℝ) : EReal) := by
  funext i
  have h1 : (i 1).val < 8 := (i 1).isLt
  have h2 : (i 2).val < 128 := (i 2).isLt
  unfold val_main_v131 val_main_v129 val_main_v130
  pointwise [lit_zero, val_main_cst_19_apply, val_main_cst_20_apply, Ideal.ofBits_def]
  refine two (by omega) (fun h => ?_) (fun h => ?_)
  · refine (congrFun (v107 p) _).trans (congrArg (fun z : ℝ => (z : EReal)) (Eq.symm ?_))
    refine (congrArg (p.dkvs (i 0)) (if_neg (by omega))).trans ((dkvs_hi p (i 0) (by omega)).trans (congrArg (p.dvs (i 0)) ?_))
    show 960 + (128 * (i 1).val + (i 2).val) - 1024 = 128 * (i 1).val + ((i 2).val - 64)
    omega
  · refine (congrFun (v109 p) _).trans (congrArg (fun z : ℝ => (z : EReal)) (Eq.symm ?_))
    exact (congrArg (p.dkvs (i 0)) (if_pos h)).trans (dkvs_lo p (i 0) (e := 128 * (i 1).val + (i 2).val) (by omega))

theorem v151 : val_main_v151 (F := Ideal) p.Dk p.Dv = (up fun i => p.dkvs (i 0) (placeKV (i 1)).val : FVec Ideal S8192x1024 .f32) := by
  funext i
  rw [val_main_v151_apply, v131]
  have h1 : (i 1).val < 1024 := (i 1).isLt
  have e1 : (idx_main_v151 i 1).val = ((i 0).val * 1024 + (i 1).val) / 128 % 8 := rfl
  have e2 : (idx_main_v151 i 2).val = ((i 0).val * 1024 + (i 1).val) % 128 := rfl
  refine congrArg (fun z : ℝ => (z : EReal)) (congr (congrArg p.dkvs (Fin.ext ?_)) ?_)
  · show ((i 0).val * 1024 + (i 1).val) / 1024 = (i 0).val
    omega
  · rw [e1, e2]
    refine Eq.trans ?_ (placeKV_val (i 1)).symm
    split_ifs <;> omega

/-! ### The keys' and values' gradients -/

theorem v152 : val_main_v152 (F := Ideal) p.Ckv p.Gkv p.Dk p.Dv = (up fun i => ∑ r, p.dkvs r (placeKV (i 0)).val * p.ckvn r (i 1) : FVec Ideal S1024x128 .f32) := by
  funext i
  simp only [val_main_v152_apply, v151, v31, ← EReal.coe_mul, coe_sum]
  rfl

theorem v154 : val_main_v154 (F := Ideal) p.Wkv p.Dk p.Dv = (up fun i => p.dckvn (i 0) (i 1) : FVec Ideal S8192x128 .f32) := by
  funext i
  simp only [val_main_v154_apply, v151, ← EReal.coe_mul, coe_sum]
  refine congrArg (fun z : ℝ => (z : EReal)) (Eq.trans ?_ (sum_layKV _ (p.dkvs (i 0))).symm)
  exact Finset.sum_congr rfl fun k _ => mul_comm _ _

/-- The gain's gradient. -/
theorem v157 : val_main_v157 (F := Ideal) p.Ckv p.Wkv p.Dk p.Dv = (up fun i => ∑ r, p.dgkv r (i 1) : FVec Ideal S1x128 .f32) := by
  funext i
  simp only [val_main_v157_apply, val_main_v156_apply, val_main_v155_apply, val_main_cst_25_apply, v29, v154,
    Ideal.ofBits_def, Ideal.mulf_def, lit_zero, ← EReal.coe_mul, coe_sum, ← EReal.coe_add, zero_add]
  refine congrArg (fun z : ℝ => (z : EReal)) (Finset.sum_congr rfl fun r _ => ?_)
  rw [show idx_main_v156 (idx_main_v157 i) r 1 = i 1 from Fin.ext (by
    show (i 0).val * 128 + (i 1).val = (i 1).val; have h : (i 0).val < 1 := (i 0).isLt; omega)]
  show p.ckv r (i 1) * p.rkv r * p.dckvn r (i 1) = p.dgkv r (i 1)
  unfold dgkv; ring

theorem v159 : val_main_v159 (F := Ideal) p.Gkv p.Wkv p.Dk p.Dv = (up fun i => p.dckvn (i 0) (i 1) * p.gkv (i 1) : FVec Ideal S8192x128 .f32) := by
  funext i
  simp only [val_main_v159_apply, val_main_v158_apply, v154, Ideal.mulf_def, ← EReal.coe_mul]
  rfl

/-- The mean square's cotangent, the row's part through the root. -/
theorem v168 (i : S8192.Idx) : val_main_v168 (F := Ideal) p.Ckv p.Gkv p.Wkv p.Dk p.Dv i
    = (((∑ k, p.ckv (i 0) k * (p.dckvn (i 0) k * p.gkv k)) * (-(1 / 2) * (p.rkv (i 0) / Rms.ms 128 (p.ckv (i 0)))) / 128 : ℝ) : EReal) := by
  simp only [val_main_v168_apply, val_main_v167_apply, val_main_v166_apply, val_main_v165_apply, val_main_v162_apply, val_main_v161_apply, val_main_v160_apply, val_main_v27_apply, val_main_v26_apply, val_main_v25_apply, val_main_cst_6_apply, val_main_cst_26_apply, val_main_cst_27_apply, val_main_cst_28_apply, v23, v24, v159,
    Ideal.ofBits_def, Ideal.mulf_def, Ideal.hostDivf_def, lit_neg_half, lit_zero, lit_128, ← EReal.coe_mul, coe_sum,
    ← EReal.coe_add, div_real (show (128 : ℝ) ≠ 0 by norm_num), zero_add,
    div_real (Rms.ms_pos (show (0 : ℝ) < 128 by norm_num) _).ne']
  rw [Fin.sum_univ_one]
  simp only [show ∀ k, idx_main_v161 (idx_main_v162 (idx_main_v168 i 0)) k 0 = i 0 from fun k => Fin.ext (by
    show (i 0).val * 1 + 0 = (i 0).val; omega)]
  rfl

/-- The latents' gradient. -/
theorem v173 : val_main_v173 (F := Ideal) p.Ckv p.Gkv p.Wkv p.Dk p.Dv = (up fun i => p.dckv (i 0) (i 1) : FVec Ideal S8192x128 .f32) := by
  funext i
  simp only [val_main_v173_apply, val_main_v172_apply, val_main_v171_apply, val_main_v170_apply, val_main_v169_apply, val_main_v164_apply, val_main_v163_apply, v24, v159, v168, Ideal.mulf_def, Ideal.addf_def,
    ← EReal.coe_mul, ← EReal.coe_add]
  exact congrArg (fun z : ℝ => (z : EReal)) (Rms.bwd_eq (show (0 : ℝ) < 128 by norm_num) _ _ _ _)

/-! ### The queries' gradients -/

theorem v175 : val_main_v175 (F := Ideal) p.Cq (Pos p) p.Gq p.Dq = (up fun i => ∑ r, p.dqr r (placeQ (i 0)).val * p.cqn r (i 1) : FVec Ideal S768x256 .f32) := by
  funext i
  simp only [val_main_v175_apply, v174, v14, ← EReal.coe_mul, coe_sum]
  rfl

theorem v177 : val_main_v177 (F := Ideal) (Pos p) p.Wq p.Dq = (up fun i => p.dcqn (i 0) (i 1) : FVec Ideal S8192x256 .f32) := by
  funext i
  simp only [val_main_v177_apply, v174, ← EReal.coe_mul, coe_sum]
  refine congrArg (fun z : ℝ => (z : EReal)) (Eq.trans ?_ (sum_layQ _ (p.dqr (i 0))).symm)
  exact Finset.sum_congr rfl fun k _ => mul_comm _ _

/-- The gain's gradient. -/
theorem v180 : val_main_v180 (F := Ideal) p.Cq (Pos p) p.Wq p.Dq = (up fun i => ∑ r, p.dgq r (i 1) : FVec Ideal S1x256 .f32) := by
  funext i
  simp only [val_main_v180_apply, val_main_v179_apply, val_main_v178_apply, val_main_cst_29_apply, v12, v177,
    Ideal.ofBits_def, Ideal.mulf_def, lit_zero, ← EReal.coe_mul, coe_sum, ← EReal.coe_add, zero_add]
  refine congrArg (fun z : ℝ => (z : EReal)) (Finset.sum_congr rfl fun r _ => ?_)
  rw [show idx_main_v179 (idx_main_v180 i) r 1 = i 1 from Fin.ext (by
    show (i 0).val * 256 + (i 1).val = (i 1).val; have h : (i 0).val < 1 := (i 0).isLt; omega)]
  show p.cq r (i 1) * p.rq r * p.dcqn r (i 1) = p.dgq r (i 1)
  unfold dgq; ring

theorem v182 : val_main_v182 (F := Ideal) (Pos p) p.Gq p.Wq p.Dq = (up fun i => p.dcqn (i 0) (i 1) * p.gq (i 1) : FVec Ideal S8192x256 .f32) := by
  funext i
  simp only [val_main_v182_apply, val_main_v181_apply, v177, Ideal.mulf_def, ← EReal.coe_mul]
  rfl

/-- The mean square's cotangent, the row's part through the root. -/
theorem v191 (i : S8192.Idx) : val_main_v191 (F := Ideal) p.Cq (Pos p) p.Gq p.Wq p.Dq i
    = (((∑ k, p.cq (i 0) k * (p.dcqn (i 0) k * p.gq k)) * (-(1 / 2) * (p.rq (i 0) / Rms.ms 256 (p.cq (i 0)))) / 256 : ℝ) : EReal) := by
  simp only [val_main_v191_apply, val_main_v190_apply, val_main_v189_apply, val_main_v188_apply, val_main_v185_apply, val_main_v184_apply, val_main_v183_apply, val_main_v10_apply, val_main_v9_apply, val_main_v8_apply, val_main_cst_2_apply, val_main_cst_30_apply, val_main_cst_31_apply, val_main_cst_32_apply, v6, v7, v182,
    Ideal.ofBits_def, Ideal.mulf_def, Ideal.hostDivf_def, lit_neg_half, lit_zero, lit_256, ← EReal.coe_mul, coe_sum,
    ← EReal.coe_add, div_real (show (256 : ℝ) ≠ 0 by norm_num), zero_add,
    div_real (Rms.ms_pos (show (0 : ℝ) < 256 by norm_num) _).ne']
  rw [Fin.sum_univ_one]
  simp only [show ∀ k, idx_main_v184 (idx_main_v185 (idx_main_v191 i 0)) k 0 = i 0 from fun k => Fin.ext (by
    show (i 0).val * 1 + 0 = (i 0).val; omega)]
  rfl

/-- The latents' gradient. -/
theorem v196 : val_main_v196 (F := Ideal) p.Cq (Pos p) p.Gq p.Wq p.Dq = (up fun i => p.dcq (i 0) (i 1) : FVec Ideal S8192x256 .f32) := by
  funext i
  simp only [val_main_v196_apply, val_main_v195_apply, val_main_v194_apply, val_main_v193_apply, val_main_v192_apply, val_main_v187_apply, val_main_v186_apply, v7, v182, v191, Ideal.mulf_def, Ideal.addf_def,
    ← EReal.coe_mul, ← EReal.coe_add]
  exact congrArg (fun z : ℝ => (z : EReal)) (Rms.bwd_eq (show (0 : ℝ) < 256 by norm_num) _ _ _ _)

end Cert.LatRefIdeal.Holds

end
-- ==== Proof.Lat.Laid.lean ====
/- The reference's results: the shared key's gradient, and the arrays in the layout the call writes. -/
module

public import proofs.«01_k».proof.Proof.Lat.Ref

@[expose] public section

set_option maxRecDepth 16384

noncomputable section

namespace Cert.LatRefIdeal.Holds

open Idealize.ShloMosaic Cert.LatRefIdeal Cert.LatRefIdeal.Read Cert.Reals Cert.LatIn

variable (p : LatIn)

/-! ### The shared key's gradient -/

theorem v114 : val_main_v114 (F := Ideal) p.Dk = fun i => ((p.dsum (i 0) (64 + (i 1).val) : ℝ) : EReal) := by
  funext i
  simp only [val_main_v114_apply, val_main_v110_apply, val_main_cst_15_apply, v108, Ideal.ofBits_def, lit_zero, coe_sum, ← EReal.coe_add, zero_add]
  rfl

theorem v122 : val_main_v122 (F := Ideal) (Pos p) p.Dk = fun i =>
    ((p.dsum (i 0) (64 + (16 + (i 2).val)) * p.cosT (i 0) (i 2).val
      + -p.dsum (i 0) (64 + (i 2).val) * p.sinT (i 0) (i 2).val : ℝ) : EReal) := by
  funext i
  simp only [val_main_v122_apply, val_main_v121_apply, val_main_v120_apply, val_main_v119_apply, val_main_v117_apply, val_main_v116_apply, val_main_v115_apply, val_main_v89_apply, val_main_v91_apply, v114, v88, v90, Ideal.addf_def, Ideal.mulf_def, Ideal.hostNegf_def]
  rw [EReal.coe_add, EReal.coe_mul, EReal.coe_mul, EReal.coe_neg]
  rfl

theorem v124 : val_main_v124 (F := Ideal) (Pos p) p.Dk = fun i =>
    ((p.dsum (i 0) (64 + (16 + (i 2).val)) * p.sinT (i 0) (i 2).val
      + p.dsum (i 0) (64 + (i 2).val) * p.cosT (i 0) (i 2).val : ℝ) : EReal) := by
  funext i
  simp only [val_main_v124_apply, val_main_v123_apply, val_main_v118_apply, val_main_v117_apply, val_main_v116_apply, val_main_v115_apply, val_main_v89_apply, val_main_v91_apply, v114, v88, v90, Ideal.addf_def, Ideal.mulf_def]
  rw [EReal.coe_add, EReal.coe_mul, EReal.coe_mul]
  rfl

theorem v127 : val_main_v127 (F := Ideal) (Pos p) p.Dk = fun i => ((p.dkr (i 0) (64 + (i 2).val) : ℝ) : EReal) := by
  funext i
  have h2 : (i 2).val < 32 := (i 2).isLt
  unfold val_main_v127 val_main_v125 val_main_v126
  pointwise [lit_zero, val_main_cst_16_apply, val_main_cst_17_apply, Ideal.ofBits_def]
  exact two (by omega) (fun h => (congrFun (v122 p) _).trans (rot_high p (i 0) (p.dsum (i 0)) h))
    (fun h => (congrFun (v124 p) _).trans (rot_low p (i 0) (p.dsum (i 0)) h))

theorem v128 : val_main_v128 (F := Ideal) (Pos p) p.Dk = (up fun i => p.dkr (i 0) (64 + (i 1).val) : FVec Ideal S8192x32 .f32) := by
  funext i
  simp only [val_main_v128_apply, val_main_cst_18_apply, v127, Ideal.ofBits_def, lit_zero]
  rw [Fin.sum_univ_one, EReal.coe_zero, zero_add]
  rfl

theorem v199 : val_main_v199 (F := Ideal) p.Dk = (up fun i => p.dkr (i 0) (i 1).val : FVec Ideal S8192x64 .f32) := by
  funext i
  have v197 : val_main_v197 (F := Ideal) p.Dk = fun i => ((p.dks (i 0) (128 * (i 1).val + (i 2).val) : ℝ) : EReal) := v108 p
  simp only [val_main_v199_apply, val_main_v198_apply, val_main_cst_33_apply, v197, Ideal.ofBits_def, lit_zero, coe_sum, ← EReal.coe_add, zero_add]
  exact congrArg (fun z : ℝ => (z : EReal)) (rot_lo p (i 0) (p.dsum (i 0)) (i 1).isLt).symm

theorem either {P : Prop} [Decidable P] {x : P → EReal} {y : ¬P → EReal} {z : EReal} (hx : ∀ h, x h = z) (hy : ∀ h, y h = z) :
    dite P x y = z := by split <;> apply_assumption

theorem dkr_out (t : Fin 8192) {e : ℕ} (h : ¬ e < 96) (h' : e < 128) : p.dkr t e = 0 :=
  (rot_out p t (p.dsum t) h).trans (Finset.sum_eq_zero fun k _ => lay_out _ (by omega))

/-! ### The gradients of the latents, side by side -/

section
variable (t : Fin 8192) {c : ℕ}

theorem dlate_q (h : c < 256) : p.dlate t c = p.dcq t ⟨c, h⟩ := dif_pos h
theorem dlate_kv (h : ¬ c < 256) (h' : c - 256 < 128) : p.dlate t c = p.dckv t ⟨c - 256, h'⟩ := (dif_neg h).trans (dif_pos h')
theorem dlate_r (h : ¬ c < 256) (h' : ¬ c - 256 < 128) : p.dlate t c = p.dkr t (c - 384) := (dif_neg h).trans (dif_neg h')

end

theorem v226 : val_main_v226 (F := Ideal) p.Cq p.Ckv (Pos p) p.Gq p.Gkv p.Wq p.Wkv p.Dq p.Dk p.Dv
    = (up fun i => p.dlate (i 0) (i 1).val : FVec Ideal S8192x512 .bf16) := by
  unfold val_main_v226 val_main_v215
  rw [v196, v173, v199, v128]
  funext i
  have h : (i 1).val < 512 := (i 1).isLt
  pointwise [val_main_v214_apply, val_main_cst_37_apply, lit_zero, Ideal.ofBits_def]
  refine either (fun h0 => congrArg (fun z : ℝ => (z : EReal)) (dlate_q p (i 0) h0).symm) fun h0 =>
    either (fun h1 => congrArg (fun z : ℝ => (z : EReal)) (dlate_kv p (i 0) h0 h1).symm) fun h1 => ?_
  refine Eq.trans ?_ (congrArg (fun z : ℝ => (z : EReal)) (dlate_r p (i 0) h0 h1).symm)
  refine either (fun h2 => congrArg (fun z : ℝ => (z : EReal)) (congrArg (p.dkr (i 0)) ?_)) fun h2 =>
    either (fun h3 => congrArg (fun z : ℝ => (z : EReal)) (congrArg (p.dkr (i 0)) ?_)) fun h3 =>
      congrArg (fun z : ℝ => (z : EReal)) (dkr_out p (i 0) (by omega) (by omega)).symm
  · show (i 1).val - 256 - 128 = (i 1).val - 384
    omega
  · show 64 + ((i 1).val - 256 - 128 - 64) = (i 1).val - 384
    omega

/-! ### The gradients of the matrices in slabs -/

theorem dqr_out (t : Fin 8192) {c : ℕ} (h : 96 ≤ c % 128) : p.dqr t c = 0 :=
  (rot_out p t _ (by omega)).trans (lay_out _ (by omega))

/-- The padding value is zero. -/
theorem none32 : (FloatOps.sitofp FTy.f32 0#32 : Ideal .f32) = ((0 : ℝ) : EReal) := by
  rw [show (FloatOps.sitofp FTy.f32 0#32 : Ideal .f32) = (((0#32 : BitVec 32).toInt : ℝ) : EReal) from rfl]
  norm_num

theorem v227 : val_main_v227 (F := Ideal) p.Cq (Pos p) p.Gq p.Dq = (up fun i => ∑ r, p.dqr r (i 0).val * p.cqn r (i 1) : FVec Ideal S1024x256 .f32) := by
  unfold val_main_v227 val_main_v218
  funext i
  pointwise [val_main_v217_apply, val_main_v216_apply, val_main_v176_apply, val_main_call0_v0_apply, v175]
  have h0 : (i 0).val < 1024 := (i 0).isLt
  have h1 : (i 1).val < 256 := (i 1).isLt
  refine either (fun h => congrArg (fun z : ℝ => (z : EReal)) (Finset.sum_congr rfl fun r _ =>
    congr (congrArg (fun a b : ℝ => a * b) (congrArg (p.dqr r) ?_)) (congrArg (p.cqn r) (Fin.ext ?_)))) fun h => ?_
  · show (((i 0).val / 128 * 96 + (i 0).val % 128) * 256 + (i 1).val) / 256 / 96 * 128 + (((i 0).val / 128 * 96 + (i 0).val % 128) * 256 + (i 1).val) / 256 % 96 = (i 0).val
    omega
  · show (((i 0).val / 128 * 96 + (i 0).val % 128) * 256 + (i 1).val) % 256 = (i 1).val
    omega
  · refine none32.trans (congrArg (fun z : ℝ => (z : EReal)) (Finset.sum_eq_zero fun r _ => ?_).symm)
    exact (congrArg (· * p.cqn r (i 1)) (dqr_out p r (by omega))).trans (zero_mul _)

theorem v221 : val_main_v221 (F := Ideal) p.Ckv p.Gkv p.Dk p.Dv = fun i => ((∑ r, p.dkvs r (128 * (i 0).val + (i 1).val) * p.ckvn r (i 2) : ℝ) : EReal) := by
  funext i
  have h0 : (i 0).val < 8 := (i 0).isLt
  have h1 : (i 1).val < 64 := (i 1).isLt
  have h2 : (i 2).val < 128 := (i 2).isLt
  simp only [val_main_v221_apply, val_main_v220_apply, val_main_v219_apply, val_main_v153_apply, v152]
  refine congrArg (fun z : ℝ => (z : EReal)) (Finset.sum_congr rfl fun r _ =>
    congr (congrArg (fun a b : ℝ => a * b) (congrArg (p.dkvs r) ((placeKV_val _).trans ?_))) (congrArg (p.ckvn r) (Fin.ext ?_)))
  · have e : (idx_main_v153 (idx_main_v219 (idx_main_v220 (idx_main_v221 i))) 0).val = (((i 0).val * 128 + ((i 1).val)) * 128 + (i 2).val) / 128 := rfl
    rw [e]
    split_ifs <;> omega
  · show (((i 0).val * 128 + ((i 1).val)) * 128 + (i 2).val) % 128 = (i 2).val
    omega

theorem v224 : val_main_v224 (F := Ideal) p.Ckv p.Gkv p.Dk p.Dv = fun i => ((∑ r, p.dkvs r (1024 + (128 * (i 0).val + (i 1).val)) * p.ckvn r (i 2) : ℝ) : EReal) := by
  funext i
  have h0 : (i 0).val < 8 := (i 0).isLt
  have h1 : (i 1).val < 64 := (i 1).isLt
  have h2 : (i 2).val < 128 := (i 2).isLt
  simp only [val_main_v224_apply, val_main_v220_apply, val_main_v219_apply, val_main_v153_apply, v152]
  refine congrArg (fun z : ℝ => (z : EReal)) (Finset.sum_congr rfl fun r _ =>
    congr (congrArg (fun a b : ℝ => a * b) (congrArg (p.dkvs r) ((placeKV_val _).trans ?_))) (congrArg (p.ckvn r) (Fin.ext ?_)))
  · have e : (idx_main_v153 (idx_main_v219 (idx_main_v220 (idx_main_v224 i))) 0).val = (((i 0).val * 128 + (64 + (i 1).val)) * 128 + (i 2).val) / 128 := rfl
    rw [e]
    split_ifs <;> omega
  · show (((i 0).val * 128 + (64 + (i 1).val)) * 128 + (i 2).val) % 128 = (i 2).val
    omega

theorem v213 : val_main_v213 (F := Ideal) p.Ckv p.Gkv p.Dk = fun i => ((∑ r, p.dks r (128 * (i 0).val + (64 + (i 1).val)) * p.ckvn r (i 2) : ℝ) : EReal) := by
  funext i
  have v197 : val_main_v197 (F := Ideal) p.Dk = fun i => ((p.dks (i 0) (128 * (i 1).val + (i 2).val) : ℝ) : EReal) := v108 p
  simp only [val_main_v213_apply, val_main_v200_apply, v197, v212, ← EReal.coe_mul, coe_sum]
  rfl

theorem v230 : val_main_v230 (F := Ideal) p.Ckv p.Gkv p.Dk p.Dv = (up fun i => ∑ r, p.dkvs r (i 0).val * p.ckvn r (i 1) : FVec Ideal S2048x128 .f32) := by
  unfold val_main_v230 val_main_v228 val_main_v229 val_main_v223 val_main_v225
  rw [v221, v224, v213]
  funext i
  have h0 : (i 0).val < 2048 := (i 0).isLt
  pointwise [val_main_v222_apply, val_main_cst_38_apply, val_main_call1_v0_apply, Ideal.ofBits_def, lit_zero]
  have at' : ∀ (f : Fin 8192 → ℝ) (c : ℕ), (∀ r, f r = p.dkvs r c) → c = (i 0).val →
      ((∑ r, f r * p.ckvn r (i 1) : ℝ) : EReal) = ((∑ r, p.dkvs r (i 0).val * p.ckvn r (i 1) : ℝ) : EReal) := fun f c hf hc =>
    congrArg (fun z : ℝ => (z : EReal)) (Finset.sum_congr rfl fun r _ => by rw [hf, hc])
  have none' : (∀ r, p.dkvs r (i 0).val = 0) → ((0 : ℝ) : EReal) = ((∑ r, p.dkvs r (i 0).val * p.ckvn r (i 1) : ℝ) : EReal) := fun h =>
    congrArg (fun z : ℝ => (z : EReal)) (Finset.sum_eq_zero fun r _ => by rw [h, zero_mul]).symm
  refine either (fun h1 => either (fun h2 => ?_) fun h2 => either (fun h3 => ?_) fun h3 => ?_) fun h1 => either (fun h2 => ?_) fun h2 => ?_
  · exact at' (fun r => p.dkvs r (128 * ((i 0).val / 128) + (i 0).val % 128)) _ (fun r => rfl) (by omega)
  · exact at' (fun r => p.dks r (128 * ((i 0).val / 128) + (64 + ((i 0).val % 128 - 64)))) _ (fun r => (dkvs_lo p r (by omega)).symm) (by omega)
  · exact none' fun r => (dkvs_lo p r (by omega)).trans (lay_out _ (by omega))
  · exact at' (fun r => p.dkvs r (1024 + (128 * (((i 0).val - 1024) / 128) + ((i 0).val - 1024) % 128))) _ (fun r => rfl) (by omega)
  · exact none32.trans (none' fun r => (dkvs_hi p r (by omega)).trans (lay_out _ (by omega)))

end Cert.LatRefIdeal.Holds

end
-- ==== Proof.Lat.Equal.lean ====
/- The kernel's results are the reference's. -/
module

public import proofs.«01_k».proof.Proof.Lat.Finite
public import proofs.«01_k».proof.Proof.Lat.Laid

@[expose] public section

set_option maxRecDepth 16384

noncomputable section

namespace Cert.Proof

open Idealize.ShloMosaic Idealize.SL.Sem

theorem lat_equal [Cert.Pre_finite_lat.Facts] : Cert.algebraic_LatIdeal_LatRefIdeal_pre_finite_lat := by
  intro m g m' g' hpre heq
  have hp := Cert.LatIdeal.Arrays.at_given m hpre
  refine ⟨_, _, _, _, _, (θ_run _ _ _).mono (fun _ h c => h c) (Cert.LatIdeal.Value.run_blocks m g),
    (θ_run _ _ _).mono (fun _ h c => ?_) (Cert.LatRefIdeal.Value.run m' g')⟩
  obtain ⟨r0, r1, r2, r3, r4, k⟩ := h c
  obtain ⟨e0, e1, e2, e3, e4, e5, e6, e7, e8, e9, e10⟩ := heq c
  have a0 := e0.trans (hp c).cq
  have a1 := e1.trans (hp c).ckv
  have a3 := e3.trans (hp c).pos
  have a4 := e4.trans (hp c).gq
  have a5 := e5.trans (hp c).gkv
  have a6 := e6.trans (hp c).wq
  have a7 := e7.trans (hp c).wkv
  have a8 := e8.trans (hp c).dq
  have a9 := e9.trans (hp c).dk
  have a10 := e10.trans (hp c).dv
  refine ⟨r0.trans ((Cert.LatRefIdeal.Read.val_main_v226_eq _).trans
      ((congr (congr (congr (congr (congr (congr (congr (congr (congr (congrArg (Cert.LatRefIdeal.Read.val_main_v226 (F := Ideal)) a0) a1) a3) a4) a5) a6) a7) a8) a9) a10).trans
      ((Cert.LatRefIdeal.Holds.v226 _).trans (Cert.LatIdeal.Arrays.arr14 (hp c)).symm))),
    r1.trans ((Cert.LatRefIdeal.Read.val_main_v180_eq _).trans
      ((congr (congr (congr (congrArg (Cert.LatRefIdeal.Read.val_main_v180 (F := Ideal)) a0) a3) a6) a8).trans
      ((Cert.LatRefIdeal.Holds.v180 _).trans (Cert.LatIdeal.Arrays.arr15 (hp c)).symm))),
    r2.trans ((Cert.LatRefIdeal.Read.val_main_v157_eq _).trans
      ((congr (congr (congr (congrArg (Cert.LatRefIdeal.Read.val_main_v157 (F := Ideal)) a1) a7) a9) a10).trans
      ((Cert.LatRefIdeal.Holds.v157 _).trans (Cert.LatIdeal.Arrays.arr16 (hp c)).symm))),
    r3.trans ((Cert.LatRefIdeal.Read.val_main_v227_eq _).trans
      ((congr (congr (congr (congrArg (Cert.LatRefIdeal.Read.val_main_v227 (F := Ideal)) a0) a3) a4) a8).trans
      ((Cert.LatRefIdeal.Holds.v227 _).trans (Cert.LatIdeal.Arrays.arr17 (hp c)).symm))),
    r4.trans ((Cert.LatRefIdeal.Read.val_main_v230_eq _).trans
      ((congr (congr (congr (congrArg (Cert.LatRefIdeal.Read.val_main_v230 (F := Ideal)) a1) a5) a9) a10).trans
      ((Cert.LatRefIdeal.Holds.v230 _).trans (Cert.LatIdeal.Arrays.arr18 (hp c)).symm))), k⟩

end Cert.Proof
-- ==== Proof.Join.Frames.lean ====
/- The frames of the forward merge's programs. -/
module

public import proofs.«01_k».proof.Defs
public import proofs.«01_k».proof.Proof.Gen.Join.Frame
public import proofs.«01_k».proof.Proof.Gen.JoinIdeal.Frame
public import proofs.«01_k».proof.Proof.Gen.JoinRefIdeal
public import proofs.«01_k».proof.Proof.Gen.Pre_finite_join
public import proofs.«01_k».proof.Proof.Gen.JoinRefIdeal.Run
public import Idealize.ShloMosaic.Lib.Quiescent

@[expose] public section

noncomputable section

namespace Cert.Proof

open Idealize.ShloMosaic Idealize.SL.Sem

theorem join_frame : Cert.quiescent_Join := fun m g _ => Cert.Join.Gen.frame m g

theorem join_ideal_frame : Cert.quiescent_JoinIdeal := fun m g _ => Cert.JoinIdeal.Gen.frame m g

theorem join_ideal_frame_finite : Cert.quiescent_JoinIdeal_pre_finite_join := fun m g _ => Cert.JoinIdeal.Gen.frame m g

/-- The reference's program has host operations only, so no counter that could be left standing. -/
theorem join_reference_frame : Cert.quiescent_JoinRefIdeal := fun m g _ =>
  (θ_run _ _ _).mono (fun r h => ⟨fun c => (h c).2.2.2.2.2.2, sem_eq_zero_of_no_sems rfl r.2⟩) (Cert.JoinRefIdeal.Value.run m g)

theorem join_reference_frame_finite : Cert.quiescent_JoinRefIdeal_pre_finite_join := fun m g _ => join_reference_frame m g trivial

end Cert.Proof
-- ==== Proof.Join.Step.lean ====
/- The gated merge with its output projection, the norm behind it, and the norm of what it is added to, over the reals. -/
module

public import proofs.«01_k».proof.Proof.Merge.Step

@[expose] public section

noncomputable section

namespace Cert

open Idealize.ShloMosaic Cert.Reals

namespace MergeIn

/-- Where an entry of eight heads goes in their slabs. -/
def place (e : Fin 512) : Fin 1024 := ⟨128 * (e.val / 64) + e.val % 64, by omega⟩

theorem place_injective : Function.Injective place := fun a b h => by
  have h : 128 * (a.val / 64) + a.val % 64 = 128 * (b.val / 64) + b.val % 64 := congrArg Fin.val h
  exact Fin.ext (by omega)

theorem slab_place (f : Fin 512 → ℝ) (e : Fin 512) : slab f (place e) = f e := by
  have h : (128 * (e.val / 64) + e.val % 64) % 128 < 64 := by omega
  exact (dif_pos h).trans (congrArg f (Fin.ext (by
    show (128 * (e.val / 64) + e.val % 64) / 128 * 64 + (128 * (e.val / 64) + e.val % 64) % 128 = e.val; omega)))

theorem slab_none (f : Fin 512 → ℝ) (c : Fin 1024) (h : c ∉ Set.range place) : slab f c = 0 :=
  dif_neg fun hc => h ⟨⟨c.val / 128 * 64 + c.val % 128, by omega⟩, Fin.ext (by
    show 128 * ((c.val / 128 * 64 + c.val % 128) / 64) + (c.val / 128 * 64 + c.val % 128) % 64 = c.val; omega)⟩

/-- A product summed over the slabs is the product summed over the heads. -/
theorem sum_slabs (f g : Fin 512 → ℝ) : ∑ c, slab f c * slab g c = ∑ e, f e * g e :=
  (Fintype.sum_of_injective place place_injective _ _ (fun c h => by rw [slab_none f c h, zero_mul])
    (fun e => by rw [slab_place, slab_place])).symm

end MergeIn

/-- The arguments: those of the merge, the rows its result is added to and the second norm's gain. -/
structure JoinIn extends MergeIn where
  x : Fin 8192 → Fin 1024 → ℝ
  g3 : Fin 1024 → ℝ

namespace JoinIn

variable (p : JoinIn) (i : Fin 8192)

/-- The rows after the merge. -/
def x1 (j : Fin 1024) : ℝ := p.x i j + p.y i j * p.r i * p.g j
/-- … and their norm. -/
def h2 (j : Fin 1024) : ℝ := p.x1 i j * Rms.rr 1024 (p.x1 i) * p.g3 j

/-- The two arguments as the programs hold them. -/
abbrev X : FVec Ideal ⟨2, ![8192, 1024]⟩ .f32 := Reals.up fun i => p.x (i 0) (i 1)
abbrev G3 : FVec Ideal ⟨2, ![1, 1024]⟩ .f32 := Reals.up fun i => p.g3 (i 1)

end JoinIn

end Cert

end
-- ==== Proof.Join.Pay.lean ====
/- What each block the kernel computes holds, at input blocks that are a tile's rows of the arrays. -/
module

public import proofs.«01_k».proof.Proof.Gen.JoinIdeal.Skeleton
public import proofs.«01_k».proof.Proof.Join.Step
public import proofs.«01_k».proof.Proof.Merge.Pay

@[expose] public section

set_option maxRecDepth 16384

noncomputable section

namespace Cert.JoinIdeal.Pay

open Idealize.ShloMosaic Cert.JoinIdeal Cert.JoinIdeal.Gen Cert.Reals Cert.MergeIn
open Cert.MergeIdeal.Pay (rows slabs wide sg_coe)

variable (p : JoinIn) (row : Fin 512 → Fin 8192)

theorem pay2 : k0_pay2 (slabs row .bf16 p.oa) (wide .bf16 p.wa) = rows row .f32 p.pa := by
  funext i
  pointwise [k0_pay2, ← EReal.coe_mul, coe_sum]
  exact congrArg _ (sum_slabs _ _)

theorem pay3 : k0_pay3 (slabs row .bf16 p.ob) (wide .bf16 p.wb) = rows row .f32 p.pb := by
  funext i
  pointwise [k0_pay3, ← EReal.coe_mul, coe_sum]
  exact congrArg _ (sum_slabs _ _)

theorem pay4 : k0_pay4 (slabs row .bf16 p.oa) (wide .bf16 p.wa) = rows row .bf16 p.pa := by
  funext i
  pointwise [k0_pay4, pay2]

theorem pay5 : k0_pay5 (slabs row .bf16 p.ob) (wide .bf16 p.wb) = rows row .bf16 p.pb := by
  funext i
  pointwise [k0_pay5, pay3]

theorem pay6 : k0_pay6 (rows row .bf16 p.ga) = up fun i => sg (p.ga (row (i 0)) (i 1)) := by
  funext i
  pointwise [k0_pay6, lit_zero, lit_one, EReal.coe_zero, EReal.coe_one]
  exact sg_coe _

/-- The merged rows, the second gate's division still to be done. -/
theorem pay9 : k0_pay9 (rows row .f32 p.pa) (rows row .f32 p.pb) (up fun i => sg (p.ga (row (i 0)) (i 1)))
      (k0_pay7 (rows row .bf16 p.gb)) (k0_pay8 (F := Ideal)) = rows row .bf16 p.mg := by
  funext i
  pointwise [k0_pay9, k0_pay7, k0_pay8, lit_zero, lit_one, EReal.coe_zero, EReal.coe_one, sg_coe, ← EReal.coe_mul, ← EReal.coe_add]
  rfl

theorem pay10 : k0_pay10 (rows row .f32 p.pa) (rows row .f32 p.pb) (up fun i => sg (p.ga (row (i 0)) (i 1)))
      (k0_pay7 (rows row .bf16 p.gb)) (k0_pay8 (F := Ideal)) (p.WO : FVec Ideal S1024x1024 .f32) = rows row .f32 p.y := by
  funext i
  pointwise [k0_pay10, pay9, ← EReal.coe_mul, coe_sum]
  rfl

theorem pay11 : k0_pay11 (rows row .f32 p.pa) (rows row .f32 p.pb) (up fun i => sg (p.ga (row (i 0)) (i 1)))
      (k0_pay7 (rows row .bf16 p.gb)) (k0_pay8 (F := Ideal)) (p.WO : FVec Ideal S1024x1024 .f32) (rows row .f32 p.x)
      (p.G : FVec Ideal S1x1024 .f32) = rows row .f32 p.x1 := by
  funext i
  pointwise [k0_pay11, pay10, ← EReal.coe_mul, coe_sum]
  rw [Rms.rsqrt_row rfl, ← EReal.coe_mul, ← EReal.coe_mul, ← EReal.coe_add]
  rfl

theorem pay12 : k0_pay12 (rows row .f32 p.pa) (rows row .f32 p.pb) (up fun i => sg (p.ga (row (i 0)) (i 1)))
      (k0_pay7 (rows row .bf16 p.gb)) (k0_pay8 (F := Ideal)) (p.WO : FVec Ideal S1024x1024 .f32) (rows row .f32 p.x)
      (p.G : FVec Ideal S1x1024 .f32) = up fun i => p.x1 (row (i 0)) (i 1) * Rms.rr 1024 (p.x1 (row (i 0))) := by
  funext i
  pointwise [k0_pay12, pay11, ← EReal.coe_mul, coe_sum]
  rw [Rms.rsqrt_row rfl, ← EReal.coe_mul]

theorem pay1 : k0_pay1 (up fun i => p.x1 (row (i 0)) (i 1) * Rms.rr 1024 (p.x1 (row (i 0)))) (p.G3 : FVec Ideal S1x1024 .f32)
    = rows row .bf16 p.h2 := by
  funext i
  pointwise [k0_pay1, ← EReal.coe_mul]
  rfl

end Cert.JoinIdeal.Pay

end
-- ==== Proof.Join.Blocks.lean ====
/- What the lines before the call hold, and the blocks of its inputs. -/
module

public import proofs.«01_k».proof.Proof.Gen.JoinIdeal.Value
public import proofs.«01_k».proof.Proof.Join.Pay
public import proofs.«01_k».proof.Proof.Merge.Blocks
public import Idealize.ShloMosaic.Lib.Pipeline.ValueKit
public import Idealize.ShloMosaic.Lib.Claim

@[expose] public section

set_option maxRecDepth 16384

noncomputable section

namespace Cert.JoinIdeal.Blocks

open Idealize.ShloMosaic Idealize.ShloMosaic.TcCoe Cert.JoinIdeal Cert.JoinIdeal.Gen Cert.JoinIdeal.Pay Cert.Reals Cert.MergeIn
open Cert.MergeIdeal.Pay (rows slabs wide)
open Cert.MergeIdeal.Blocks (none16 none32)

variable (p : JoinIn) (m : (ℓ : Loc nD τ sig) → Buf (Elt Ideal) ℓ) (c : Dev nD)

/-- The arguments hold the step's arrays. -/
structure At : Prop where
  ga : m ((c : Thread nD τ).loc main_arg0) = p.GA
  gb : m ((c : Thread nD τ).loc main_arg1) = p.GB
  oa : m ((c : Thread nD τ).loc main_arg2) = p.OA
  ob : m ((c : Thread nD τ).loc main_arg3) = p.OB
  x : m ((c : Thread nD τ).loc main_arg4) = p.X
  wa : m ((c : Thread nD τ).loc main_arg5) = p.WA
  wb : m ((c : Thread nD τ).loc main_arg6) = p.WB
  wo : m ((c : Thread nD τ).loc main_arg7) = p.WO
  g : m ((c : Thread nD τ).loc main_arg8) = p.G
  g3 : m ((c : Thread nD τ).loc main_arg9) = p.G3

/-- Row `r` of tile `t`. -/
def row (t : Fin cfg0.N) (r : Fin 512) : Fin 8192 := ⟨512 * t.val + r.val, by have := t.isLt; have : cfg0.N = 16 := rfl; omega⟩

theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![0, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)

variable {m c} in
/-- The lines before the call one stretch after another. -/
theorem lines (b : Ref sig .tc) : V m c b
    = StableHlo.after hostOps0_8 (StableHlo.after hostOps0_7 (StableHlo.after hostOps0_6 (StableHlo.after hostOps0_5
      (StableHlo.after hostOps0_4 (StableHlo.after hostOps0_3 (StableHlo.after hostOps0_2 (StableHlo.after hostOps0_1
      (StableHlo.after hostOps0 (fun b => m (c, b)))))))))) (Proc.devRef .tc b) := by
  refine (congrFun (?_ : StableHlo.after (hostOps0 ++ (hostOps0_1 ++ (hostOps0_2 ++ (hostOps0_3 ++ (hostOps0_4 ++ (hostOps0_5 ++ (hostOps0_6
    ++ (hostOps0_7 ++ (hostOps0_8 ++ []))))))))) _ = _) _)
  rw [List.append_nil]
  simp only [StableHlo.after_append]

variable {p m c} (hp : At p m c)
include hp

theorem outA : V m c main_v5 = (up fun i => slab (p.oa (i 0)) (i 1) : FVec Ideal S8192x1024 .bf16) := by
  rw [lines]
  entry_read
  rw [hp.oa]
  funext i
  have h : (i 1).val < 1024 := (i 1).isLt
  simp only [StableHlo.TRef.ofBuf_toBuf, StableHlo.TRef.toBuf, StableHlo.TRef.ofBuf, cast_eq]
  pointwise []
  exact dite_slab (p.oa (i 0)) (i 1) none32

theorem outB : V m c main_v9 = (up fun i => slab (p.ob (i 0)) (i 1) : FVec Ideal S8192x1024 .bf16) := by
  rw [lines]
  entry_read
  rw [hp.ob]
  funext i
  have h : (i 1).val < 1024 := (i 1).isLt
  simp only [StableHlo.TRef.ofBuf_toBuf, StableHlo.TRef.toBuf, StableHlo.TRef.ofBuf, cast_eq]
  pointwise []
  exact dite_slab (p.ob (i 0)) (i 1) none32

theorem matA : V m c main_v13 = wide .bf16 p.wa := by
  rw [lines]
  entry_read
  rw [hp.wa]
  funext i
  have h : (i 1).val < 1024 := (i 1).isLt
  simp only [StableHlo.TRef.ofBuf_toBuf, StableHlo.TRef.toBuf, StableHlo.TRef.ofBuf, cast_eq]
  pointwise []
  exact dite_slab (fun e => p.wa e (i 1)) (i 0) none16

theorem matB : V m c main_v17 = wide .bf16 p.wb := by
  rw [lines]
  entry_read
  rw [hp.wb]
  funext i
  have h : (i 1).val < 1024 := (i 1).isLt
  simp only [StableHlo.TRef.ofBuf_toBuf, StableHlo.TRef.toBuf, StableHlo.TRef.ofBuf, cast_eq]
  pointwise []
  exact dite_slab (fun e => p.wb e (i 1)) (i 0) none16

theorem mat : V m c main_v18 = (up fun i => p.wo (i 0) (i 1) : FVec Ideal S1024x1024 .bf16) := by
  rw [lines]
  entry_read
  rw [hp.wo]
  rfl

theorem gate : V m c main_v1 = (up fun i => p.gates (i 0) (i 1) : FVec Ideal S8192x2048 .bf16) := by
  rw [lines]
  entry_read
  rw [hp.ga, hp.gb]
  funext i
  pointwise []
  show _ = ((if h : (i 1).val < 1024 then p.ga (i 0) ⟨(i 1).val, h⟩
    else p.gb (i 0) ⟨(i 1).val - 1024, by have h : (i 1).val < 2048 := (i 1).isLt; omega⟩ : ℝ) : EReal)
  by_cases h : (i 1).val < 1024
  · rw [dif_pos h, dif_pos h]; rfl
  · rw [dif_neg h, dif_neg h]; rfl

theorem block0 (t : Fin cfg0.N) : iblk m c 0 t = slabs (row t) .bf16 p.oa := by
  funext j
  blk_simp [iblk]
  rw [outA hp]
  refine (?_ : _ = (up fun i => slab (p.oa (i 0)) (i 1) : FVec Ideal S8192x1024 .bf16) (ix2 (row t (j 0)) (j 1)))
  blk_ext [idx t, row]

theorem block1 (t : Fin cfg0.N) : iblk m c 1 t = slabs (row t) .bf16 p.ob := by
  funext j
  blk_simp [iblk]
  rw [outB hp]
  refine (?_ : _ = (up fun i => slab (p.ob (i 0)) (i 1) : FVec Ideal S8192x1024 .bf16) (ix2 (row t (j 0)) (j 1)))
  blk_ext [idx t, row]

theorem block2 (t : Fin cfg0.N) : iblk m c 2 t = (up fun i => p.gates (row t (i 0)) (i 1) : FVec Ideal S512x2048 .bf16) := by
  funext j
  blk_simp [iblk]
  rw [gate hp]
  refine (?_ : _ = (up fun i => p.gates (i 0) (i 1) : FVec Ideal S8192x2048 .bf16) (ix2 (row t (j 0)) (j 1)))
  blk_ext [idx t, row]

theorem block3 (t : Fin cfg0.N) : iblk m c 3 t = rows (row t) .f32 p.x := by
  have h : V m c main_arg4 = p.X := (V_main_arg4 m c).trans hp.x
  funext j
  blk_simp [iblk]
  rw [h]
  refine (?_ : _ = p.X (ix2 (row t (j 0)) (j 1)))
  blk_ext [idx t, row]

theorem block4 (t : Fin cfg0.N) : iblk m c 4 t = wide .bf16 p.wa := by
  rw [← matA hp]
  blk_ext! [iblk, idx t]

theorem block5 (t : Fin cfg0.N) : iblk m c 5 t = wide .bf16 p.wb := by
  rw [← matB hp]
  blk_ext! [iblk, idx t]

theorem block6 (t : Fin cfg0.N) : iblk m c 6 t = (up fun i => p.wo (i 0) (i 1) : FVec Ideal S1024x1024 .bf16) := by
  rw [← mat hp]
  blk_ext! [iblk, idx t]

theorem block7 (t : Fin cfg0.N) : iblk m c 7 t = p.G := by
  refine Eq.trans ?_ ((V_main_arg8 m c).trans hp.g)
  blk_ext! [iblk, idx t]

theorem block8 (t : Fin cfg0.N) : iblk m c 8 t = p.G3 := by
  refine Eq.trans ?_ ((V_main_arg9 m c).trans hp.g3)
  blk_ext! [iblk, idx t]

end Cert.JoinIdeal.Blocks

end
-- ==== Proof.Join.Kernel.lean ====
/- The arrays the kernel leaves. -/
module

public import proofs.«01_k».proof.Proof.Join.Blocks

@[expose] public section

set_option maxRecDepth 16384

noncomputable section

namespace Cert.JoinIdeal.Arrays

open Idealize.ShloMosaic Idealize.ShloMosaic.TcCoe Cert.JoinIdeal Cert.JoinIdeal.Gen Cert.JoinIdeal.Pay Cert.JoinIdeal.Blocks Cert.Reals Cert.MergeIn
open Cert.MergeIdeal.Pay (rows slabs wide)

variable {p : JoinIn} {m : (ℓ : Loc nD τ sig) → Buf (Elt Ideal) ℓ} {c : Dev nD} (hp : At p m c)
include hp

theorem half_a (t : Fin cfg0.N) (hb : ∀ d, (![0, 0] : Fin 2 → ℕ) d + (![512, 1024] : Fin 2 → ℕ) d ≤ S512x2048.size d) :
    View.ld (iblk m c 2 t) (Rect.unit ![0, 0] ![512, 1024] hb) = (rows (row t) .bf16 p.ga : FVec Ideal S512x1024 .bf16) := by
  rw [block2 hp t]
  funext j
  have h : (j 1).val < 1024 := (j 1).isLt
  pointwise []
  exact congrArg (fun z : ℝ => (z : EReal)) (dif_pos h)

theorem half_b (t : Fin cfg0.N) (hb : ∀ d, (![0, 1024] : Fin 2 → ℕ) d + (![512, 1024] : Fin 2 → ℕ) d ≤ S512x2048.size d) :
    View.ld (iblk m c 2 t) (Rect.unit ![0, 1024] ![512, 1024] hb) = (rows (row t) .bf16 p.gb : FVec Ideal S512x1024 .bf16) := by
  rw [block2 hp t]
  funext j
  have h : (j 1).val < 1024 := (j 1).isLt
  pointwise []
  refine congrArg (fun z : ℝ => (z : EReal)) ((dif_neg (by show ¬ 1024 + (j 1).val < 1024; omega)).trans ?_)
  exact congrArg (p.gb _) (Fin.ext (by show 1024 + (j 1).val - 1024 = (j 1).val; omega))

/-- A tile of rows lies in its array where its tile lies. -/
theorem arr9 : (dats m 0 c).arrAt 9 cfg0.N = (up fun i => p.pa (i 0) (i 1) : FVec Ideal S8192x1024 .bf16) := by
  refine (dats m 0 c).arrAt_eq_of_covers 9 _ (by decide +kernel) fun t hf y => ?_
  blk_simp
  rw [after0_9]
  frame_out
  simp only [block0 hp t, block4 hp t, pay4]
  refine (?_ : (up fun i => p.pa (i 0) (i 1) : FVec Ideal S8192x1024 .bf16) (ix2 (row t (y 0)) (y 1)) = _)
  blk_ext [idx t, row]

theorem arr10 : (dats m 0 c).arrAt 10 cfg0.N = (up fun i => p.pb (i 0) (i 1) : FVec Ideal S8192x1024 .bf16) := by
  refine (dats m 0 c).arrAt_eq_of_covers 10 _ (by decide +kernel) fun t hf y => ?_
  blk_simp
  rw [after0_10]
  frame_out
  simp only [block1 hp t, block5 hp t, pay5]
  refine (?_ : (up fun i => p.pb (i 0) (i 1) : FVec Ideal S8192x1024 .bf16) (ix2 (row t (y 0)) (y 1)) = _)
  blk_ext [idx t, row]

theorem arr11 : (dats m 0 c).arrAt 11 cfg0.N = (up fun i => p.mg (i 0) (i 1) : FVec Ideal S8192x1024 .bf16) := by
  refine (dats m 0 c).arrAt_eq_of_covers 11 _ (by decide +kernel) fun t hf y => ?_
  blk_simp
  rw [after0_11]
  frame_out [k0_pay13, k0_pay14, k0_pay15, k0_pay16, k0_pay17, r0_0, r0_1, r0_2, r0_3]
  simp only [half_a hp t, half_b hp t, block0 hp t, block1 hp t, block4 hp t, block5 hp t, pay2, pay3, pay6, pay9]
  refine (?_ : (up fun i => p.mg (i 0) (i 1) : FVec Ideal S8192x1024 .bf16) (ix2 (row t (y 0)) (y 1)) = _)
  blk_ext [idx t, row]

theorem arr12 : (dats m 0 c).arrAt 12 cfg0.N = (up fun i => p.y (i 0) (i 1) : FVec Ideal S8192x1024 .f32) := by
  refine (dats m 0 c).arrAt_eq_of_covers 12 _ (by decide +kernel) fun t hf y => ?_
  blk_simp
  rw [after0_12]
  frame_out [k0_pay13, k0_pay14, k0_pay15, k0_pay16, k0_pay17, r0_0, r0_1, r0_2, r0_3]
  simp only [half_a hp t, half_b hp t, block0 hp t, block1 hp t, block4 hp t, block5 hp t, block6 hp t, pay2, pay3, pay6, pay10]
  refine (?_ : (up fun i => p.y (i 0) (i 1) : FVec Ideal S8192x1024 .f32) (ix2 (row t (y 0)) (y 1)) = _)
  blk_ext [idx t, row]

theorem arr13 : (dats m 0 c).arrAt 13 cfg0.N = (up fun i => p.x1 (i 0) (i 1) : FVec Ideal S8192x1024 .f32) := by
  refine (dats m 0 c).arrAt_eq_of_covers 13 _ (by decide +kernel) fun t hf y => ?_
  blk_simp
  rw [after0_13]
  frame_out [k0_pay13, k0_pay14, k0_pay15, k0_pay16, k0_pay17, r0_0, r0_1, r0_2, r0_3]
  simp only [half_a hp t, half_b hp t, block0 hp t, block1 hp t, block3 hp t, block4 hp t, block5 hp t, block6 hp t, block7 hp t, pay2, pay3, pay6, pay11]
  refine (?_ : (up fun i => p.x1 (i 0) (i 1) : FVec Ideal S8192x1024 .f32) (ix2 (row t (y 0)) (y 1)) = _)
  blk_ext [idx t, row]

theorem arr14 : (dats m 0 c).arrAt 14 cfg0.N = (up fun i => p.h2 (i 0) (i 1) : FVec Ideal S8192x1024 .bf16) := by
  refine (dats m 0 c).arrAt_eq_of_covers 14 _ (by decide +kernel) fun t hf y => ?_
  blk_simp
  rw [after0_14]
  frame_out [k0_pay13, k0_pay14, k0_pay15, k0_pay16, k0_pay17, r0_0, r0_1, r0_2, r0_3]
  simp only [half_a hp t, half_b hp t, block0 hp t, block1 hp t, block3 hp t, block4 hp t, block5 hp t, block6 hp t, block7 hp t, block8 hp t,
    pay2, pay3, pay6, pay12, pay1]
  refine (?_ : (up fun i => p.h2 (i 0) (i 1) : FVec Ideal S8192x1024 .bf16) (ix2 (row t (y 0)) (y 1)) = _)
  blk_ext [idx t, row]

end Cert.JoinIdeal.Arrays

end
-- ==== Proof.Join.Finite.lean ====
/- What the precondition gives: the arguments are arrays of reals. -/
module

public import proofs.«01_k».proof.Defs
public import proofs.«01_k».proof.Proof.Gen.Pre_finite_join
public import proofs.«01_k».proof.Proof.Join.Kernel

@[expose] public section

noncomputable section

namespace Cert.JoinIdeal.Arrays

open Idealize.ShloMosaic Idealize.ShloMosaic.TcCoe Cert.JoinIdeal Cert.Reals Cert.JoinIdeal.Blocks

/-- The reals the arguments hold on device `c`; there is no cotangent. -/
def given (m : (ℓ : Loc nD τ sig) → Buf (Elt Ideal) ℓ) (c : Dev nD) : JoinIn where
  ga i j := EReal.toReal (m ((c : Thread nD τ).loc main_arg0) (ix2 i j))
  gb i j := EReal.toReal (m ((c : Thread nD τ).loc main_arg1) (ix2 i j))
  oa i j := EReal.toReal (m ((c : Thread nD τ).loc main_arg2) (ix2 i j))
  ob i j := EReal.toReal (m ((c : Thread nD τ).loc main_arg3) (ix2 i j))
  x i j := EReal.toReal (m ((c : Thread nD τ).loc main_arg4) (ix2 i j))
  wa i j := EReal.toReal (m ((c : Thread nD τ).loc main_arg5) (ix2 i j))
  wb i j := EReal.toReal (m ((c : Thread nD τ).loc main_arg6) (ix2 i j))
  wo i j := EReal.toReal (m ((c : Thread nD τ).loc main_arg7) (ix2 i j))
  g j := EReal.toReal (m ((c : Thread nD τ).loc main_arg8) (ix2 0 j))
  g3 j := EReal.toReal (m ((c : Thread nD τ).loc main_arg9) (ix2 0 j))
  ct _ _ := 0

theorem at_given (m : (ℓ : Loc nD τ sig) → Buf (Elt Ideal) ℓ) (h : Pre_JoinIdeal_finite_join m) (c : Dev nD) : At (given m c) m c := by
  have e := congrFun (h c) (fun k => k.elim0)
  have ⟨e, e9⟩ := IntOp.andi_eq_one.mp e
  have ⟨e, e8⟩ := IntOp.andi_eq_one.mp e
  have ⟨e, e7⟩ := IntOp.andi_eq_one.mp e
  have ⟨e, e6⟩ := IntOp.andi_eq_one.mp e
  have ⟨e, e5⟩ := IntOp.andi_eq_one.mp e
  have ⟨e, e4⟩ := IntOp.andi_eq_one.mp e
  have ⟨e, e3⟩ := IntOp.andi_eq_one.mp e
  have ⟨e, e2⟩ := IntOp.andi_eq_one.mp e
  have ⟨e0, e1⟩ := IntOp.andi_eq_one.mp e
  exact ⟨up_at2 (real_of_finite _ _ _ _ _ e0), up_at2 (real_of_finite _ _ _ _ _ e1), up_at2 (real_of_finite _ _ _ _ _ e2),
    up_at2 (real_of_finite _ _ _ _ _ e3), up_at2 (real_of_finite _ _ _ _ _ e4), up_at2 (real_of_finite _ _ _ _ _ e5),
    up_at2 (real_of_finite _ _ _ _ _ e6), up_at2 (real_of_finite _ _ _ _ _ e7), up_at_row (real_of_finite _ _ _ _ _ e8),
    up_at_row (real_of_finite _ _ _ _ _ e9)⟩

end Cert.JoinIdeal.Arrays
-- ==== Proof.Join.Ref.lean ====
/- What the reference's arrays hold at arguments that are reals. -/
module

public import proofs.«01_k».proof.Proof.Gen.JoinRefIdeal.Read
public import proofs.«01_k».proof.Proof.Join.Step

@[expose] public section

set_option maxRecDepth 16384

noncomputable section

namespace Cert.JoinRefIdeal.Holds

open Idealize.ShloMosaic Cert.JoinRefIdeal Cert.JoinRefIdeal.Read Cert.Reals Cert.MergeIn

variable (p : JoinIn)

/-- The logistic function as the host computes it. -/
theorem sg_host (x : ℝ) : Ideal.div ((1 : ℝ) : EReal) (((1 : ℝ) : EReal) + Ideal.exp (-(x : EReal))) = ((sg x : ℝ) : EReal) := by
  have h : (0 : ℝ) < 1 + Real.exp (-x) := by positivity
  rw [← EReal.coe_neg, Ideal.exp_coe, ← EReal.coe_add, div_real h.ne']; rfl

theorem v7 : val_main_v7 (F := Ideal) p.GA = (up fun i => sg (p.ga (i 0) (i 1)) : FVec Ideal S8192x1024 .f32) := by
  funext i
  simp only [val_main_v7_apply, val_main_v6_apply, val_main_v5_apply, val_main_v4_apply, val_main_v3_apply, val_main_v2_apply, val_main_cst_apply, val_main_cst_0_apply, Ideal.ofBits_def, Ideal.addf_def, Ideal.hostDivf_def, Ideal.hostNegf_def, Ideal.hostUnary_exp_def, lit_one]
  exact sg_host _

theorem v14 : val_main_v14 (F := Ideal) p.GB = (up fun i => sg (p.gb (i 0) (i 1)) : FVec Ideal S8192x1024 .f32) := by
  funext i
  simp only [val_main_v14_apply, val_main_v13_apply, val_main_v12_apply, val_main_v11_apply, val_main_v10_apply, val_main_v9_apply, val_main_cst_1_apply, val_main_cst_2_apply, Ideal.ofBits_def, Ideal.addf_def, Ideal.hostDivf_def, Ideal.hostNegf_def, Ideal.hostUnary_exp_def, lit_one]
  exact sg_host _

theorem v0 : val_main_v0 (F := Ideal) p.OA p.WA = (up fun i => p.pa (i 0) (i 1) : FVec Ideal S8192x1024 .f32) := by
  funext i
  simp only [val_main_v0_apply, ← EReal.coe_mul, coe_sum, zero_add]
  rfl

theorem v1 : val_main_v1 (F := Ideal) p.OB p.WB = (up fun i => p.pb (i 0) (i 1) : FVec Ideal S8192x1024 .f32) := by
  funext i
  simp only [val_main_v1_apply, ← EReal.coe_mul, coe_sum, zero_add]
  rfl

theorem v16 : val_main_v16 (F := Ideal) p.GA p.GB p.OA p.OB p.WA p.WB = (up fun i => p.mg (i 0) (i 1) : FVec Ideal S8192x1024 .f32) := by
  funext i
  simp only [val_main_v16_apply, val_main_v15_apply, val_main_v8_apply, v0, v1, v7, v14, Ideal.addf_def, Ideal.mulf_def, ← EReal.coe_mul, ← EReal.coe_add]
  rfl

theorem v17 : val_main_v17 (F := Ideal) p.GA p.GB p.OA p.OB p.WA p.WB p.WO = (up fun i => p.y (i 0) (i 1) : FVec Ideal S8192x1024 .f32) := by
  funext i
  simp only [val_main_v17_apply, v16, ← EReal.coe_mul, coe_sum, zero_add]
  rfl

theorem v25 : val_main_v25 (F := Ideal) p.GA p.GB p.OA p.OB p.WA p.WB p.WO = (up fun i => p.r (i 0) : FVec Ideal S8192x1 .f32) := by
  funext i
  simp only [val_main_v25_apply, val_main_v24_apply, val_main_v23_apply, val_main_v22_apply, val_main_v21_apply, val_main_v20_apply, val_main_v19_apply, val_main_v18_apply, val_main_cst_3_apply, val_main_cst_4_apply, val_main_cst_5_apply, v17, Ideal.ofBits_def, Ideal.addf_def, Ideal.mulf_def, Ideal.hostDivf_def, Ideal.hostUnary_rsqrt_def, lit_zero, ← EReal.coe_mul, coe_sum, ← EReal.coe_add, zero_add]
  exact Rms.rsqrt_row rfl

theorem v30 : val_main_v30 (F := Ideal) p.GA p.GB p.OA p.OB p.X p.WA p.WB p.WO p.G = (up fun i => p.x1 (i 0) (i 1) : FVec Ideal S8192x1024 .f32) := by
  funext i
  simp only [val_main_v30_apply, val_main_v29_apply, val_main_v28_apply, val_main_v27_apply, val_main_v26_apply, v17, v25, Ideal.addf_def, Ideal.mulf_def, ← EReal.coe_mul, ← EReal.coe_add]
  rfl

theorem v41 : val_main_v41 (F := Ideal) p.GA p.GB p.OA p.OB p.X p.WA p.WB p.WO p.G = (up fun i => Rms.rr 1024 (p.x1 (i 0)) : FVec Ideal S8192x1 .f32) := by
  funext i
  simp only [val_main_v41_apply, val_main_v40_apply, val_main_v39_apply, val_main_v38_apply, val_main_v37_apply, val_main_v36_apply, val_main_v35_apply, val_main_v34_apply, val_main_cst_6_apply, val_main_cst_7_apply, val_main_cst_8_apply, v30, Ideal.ofBits_def, Ideal.addf_def, Ideal.mulf_def, Ideal.hostDivf_def, Ideal.hostUnary_rsqrt_def, lit_zero, ← EReal.coe_mul, coe_sum, ← EReal.coe_add, zero_add]
  exact Rms.rsqrt_row rfl

theorem v31 : val_main_v31 (F := Ideal) p.OA p.WA = (up fun i => p.pa (i 0) (i 1) : FVec Ideal S8192x1024 .bf16) := by
  funext i
  simp only [val_main_v31_apply, v0]
  rfl

theorem v32 : val_main_v32 (F := Ideal) p.OB p.WB = (up fun i => p.pb (i 0) (i 1) : FVec Ideal S8192x1024 .bf16) := by
  funext i
  simp only [val_main_v32_apply, v1]
  rfl

theorem v33 : val_main_v33 (F := Ideal) p.GA p.GB p.OA p.OB p.WA p.WB = (up fun i => p.mg (i 0) (i 1) : FVec Ideal S8192x1024 .bf16) := by
  funext i
  simp only [val_main_v33_apply, v16]
  rfl

theorem v46 : val_main_v46 (F := Ideal) p.GA p.GB p.OA p.OB p.X p.WA p.WB p.WO p.G p.G3 = (up fun i => p.h2 (i 0) (i 1) : FVec Ideal S8192x1024 .bf16) := by
  funext i
  simp only [val_main_v46_apply, val_main_v45_apply, val_main_v44_apply, val_main_v43_apply, val_main_v42_apply, v30, v41, Ideal.mulf_def, ← EReal.coe_mul]
  rfl

end Cert.JoinRefIdeal.Holds

end
-- ==== Proof.Join.Equal.lean ====
/- The kernel's results are the reference's. -/
module

public import proofs.«01_k».proof.Proof.Join.Finite
public import proofs.«01_k».proof.Proof.Join.Ref

@[expose] public section

set_option maxRecDepth 16384

noncomputable section

namespace Cert.Proof

open Idealize.ShloMosaic Idealize.SL.Sem

theorem join_equal [Cert.Pre_finite_join.Facts] : Cert.algebraic_JoinIdeal_JoinRefIdeal_pre_finite_join := by
  intro m g m' g' hpre heq
  have hp := Cert.JoinIdeal.Arrays.at_given m hpre
  refine ⟨_, _, _, _, _, _, (θ_run _ _ _).mono (fun _ h c => h c) (Cert.JoinIdeal.Value.run_blocks m g),
    (θ_run _ _ _).mono (fun _ h c => ?_) (Cert.JoinRefIdeal.Value.run m' g')⟩
  obtain ⟨r0, r1, r2, r3, r4, r5, k⟩ := h c
  obtain ⟨e0, e1, e2, e3, e4, e5, e6, e7, e8, e9⟩ := heq c
  have a0 := e0.trans (hp c).ga
  have a1 := e1.trans (hp c).gb
  have a2 := e2.trans (hp c).oa
  have a3 := e3.trans (hp c).ob
  have a4 := e4.trans (hp c).x
  have a5 := e5.trans (hp c).wa
  have a6 := e6.trans (hp c).wb
  have a7 := e7.trans (hp c).wo
  have a8 := e8.trans (hp c).g
  have a9 := e9.trans (hp c).g3
  refine ⟨r0.trans ((Cert.JoinRefIdeal.Read.val_main_v31_eq _ _).trans
      ((congr (congrArg (Cert.JoinRefIdeal.Read.val_main_v31 (F := Ideal)) a2) a5).trans
      ((Cert.JoinRefIdeal.Holds.v31 _).trans (Cert.JoinIdeal.Arrays.arr9 (hp c)).symm))),
    r1.trans ((Cert.JoinRefIdeal.Read.val_main_v32_eq _ _).trans
      ((congr (congrArg (Cert.JoinRefIdeal.Read.val_main_v32 (F := Ideal)) a3) a6).trans
      ((Cert.JoinRefIdeal.Holds.v32 _).trans (Cert.JoinIdeal.Arrays.arr10 (hp c)).symm))),
    r2.trans ((Cert.JoinRefIdeal.Read.val_main_v33_eq _ _ _ _ _ _).trans
      ((congr (congr (congr (congr (congr (congrArg (Cert.JoinRefIdeal.Read.val_main_v33 (F := Ideal)) a0) a1) a2) a3) a5) a6).trans
      ((Cert.JoinRefIdeal.Holds.v33 _).trans (Cert.JoinIdeal.Arrays.arr11 (hp c)).symm))),
    r3.trans ((Cert.JoinRefIdeal.Read.val_main_v17_eq _ _ _ _ _ _ _).trans
      ((congr (congr (congr (congr (congr (congr (congrArg (Cert.JoinRefIdeal.Read.val_main_v17 (F := Ideal)) a0) a1) a2) a3) a5) a6) a7).trans
      ((Cert.JoinRefIdeal.Holds.v17 _).trans (Cert.JoinIdeal.Arrays.arr12 (hp c)).symm))),
    r4.trans ((Cert.JoinRefIdeal.Read.val_main_v30_eq _ _ _ _ _ _ _ _ _).trans
      ((congr (congr (congr (congr (congr (congr (congr (congr (congrArg (Cert.JoinRefIdeal.Read.val_main_v30 (F := Ideal)) a0) a1) a2) a3) a4) a5) a6) a7) a8).trans
      ((Cert.JoinRefIdeal.Holds.v30 _).trans (Cert.JoinIdeal.Arrays.arr13 (hp c)).symm))),
    r5.trans ((Cert.JoinRefIdeal.Read.val_main_v46_eq _ _).trans
      ((congr (congr (congr (congr (congr (congr (congr (congr (congr (congrArg (Cert.JoinRefIdeal.Read.val_main_v46 (F := Ideal)) a0) a1) a2) a3) a4) a5) a6) a7) a8) a9).trans
      ((Cert.JoinRefIdeal.Holds.v46 _).trans (Cert.JoinIdeal.Arrays.arr14 (hp c)).symm))), k⟩

end Cert.Proof
-- ==== Proof.Swa.Frames.lean ====
/- The frames of the window attention's gradient and the reading of its mask. -/
module

public import proofs.«01_k».proof.Defs
public import proofs.«01_k».proof.Proof.Gen.Swa.Frame
public import proofs.«01_k».proof.Proof.Gen.SwaIdeal.Frame
public import proofs.«01_k».proof.Proof.Gen.SwaRefIdeal.Run

@[expose] public section

noncomputable section

namespace Cert.Proof

open Idealize.ShloMosaic Idealize.SL.Sem

theorem swa_frame : Cert.quiescent_Swa := fun m g _ => Cert.Swa.Gen.frame m g

theorem swa_ideal_frame : Cert.quiescent_SwaIdeal := fun m g _ => Cert.SwaIdeal.Gen.frame m g

/-- The reference's program has host operations only, so no counter that could be left standing. -/
theorem swa_reference_frame : Cert.quiescent_SwaRefIdeal := fun m g _ =>
  (θ_run _ _ _).mono (fun r h => ⟨fun c => (h c).2.2, sem_eq_zero_of_no_sems rfl r.2⟩) (Cert.SwaRefIdeal.Value.run m g)

theorem swa_preserves : Cert.preserves_Swa_SwaIdeal :=
  IdealRules.named_const.statement Cert.SwaIdeal.κ "mask" .f32 0xF149F2CA#32 (⊥) rfl

end Cert.Proof

end
-- ==== Proof.lean ====
/- The claims of this problem put together: the frames, the reading of the constants and the equality of
   the last feed-forward block with its loss, of the backward pass of the latent attention, of the backward
   passes of the input projection, of the gated merge and of the latent projections, and of the gated merge's
   forward pass; and the frames of the window attention's gradient. -/
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Pre_finite
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.Mla
public import proofs.«01_k».proof.Proof.Gen.MlaIdeal
public import proofs.«01_k».proof.Proof.Gen.MlaRefIdeal
public import proofs.«01_k».proof.Proof.Gen.Pre_finite_mla
public import proofs.«01_k».proof.Proof.Gen.MlaRefIdeal.Run
public import proofs.«01_k».proof.Proof.Gen.MlaRefIdeal.Read
public import proofs.«01_k».proof.Proof.Gen.Mla.Skeleton
public import proofs.«01_k».proof.Proof.Gen.Mla.Launch
public import proofs.«01_k».proof.Proof.Gen.MlaIdeal.Skeleton
public import proofs.«01_k».proof.Proof.Gen.MlaIdeal.Launch
public import proofs.«01_k».proof.Proof.Mlp.Frames
public import proofs.«01_k».proof.Proof.Mlp.Equal
public import proofs.«01_k».proof.Proof.Mla.Frames
public import proofs.«01_k».proof.Proof.Mla.Equal
public import proofs.«01_k».proof.Proof.Inp.Frames
public import proofs.«01_k».proof.Proof.Inp.Equal
public import proofs.«01_k».proof.Proof.Gen.Inp
public import proofs.«01_k».proof.Proof.Gen.InpIdeal
public import proofs.«01_k».proof.Proof.Gen.InpRefIdeal
public import proofs.«01_k».proof.Proof.Gen.Pre_finite_inp
public import proofs.«01_k».proof.Proof.Gen.Inp.Frame
public import proofs.«01_k».proof.Proof.Gen.InpIdeal.Frame
public import proofs.«01_k».proof.Proof.Gen.InpIdeal.Value
public import proofs.«01_k».proof.Proof.Gen.InpRefIdeal.Run
public import proofs.«01_k».proof.Proof.Gen.InpRefIdeal.Read
public import proofs.«01_k».proof.Proof.Gen.Merge
public import proofs.«01_k».proof.Proof.Gen.MergeIdeal
public import proofs.«01_k».proof.Proof.Gen.MergeRefIdeal
public import proofs.«01_k».proof.Proof.Gen.Pre_finite_merge
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Merge.Frames
public import proofs.«01_k».proof.Proof.Merge.Equal
public import proofs.«01_k».proof.Proof.Gen.Lat
public import proofs.«01_k».proof.Proof.Gen.LatIdeal
public import proofs.«01_k».proof.Proof.Gen.LatRefIdeal
public import proofs.«01_k».proof.Proof.Gen.Pre_finite_lat
public import proofs.«01_k».proof.Proof.Gen.Lat.Frame
public import proofs.«01_k».proof.Proof.Gen.LatIdeal.Frame
public import proofs.«01_k».proof.Proof.Gen.LatIdeal.Value
public import proofs.«01_k».proof.Proof.Gen.LatRefIdeal.Run
public import proofs.«01_k».proof.Proof.Gen.LatRefIdeal.Read
public import proofs.«01_k».proof.Proof.Lat.Frames
public import proofs.«01_k».proof.Proof.Lat.Equal
public import proofs.«01_k».proof.Proof.Gen.Join
public import proofs.«01_k».proof.Proof.Gen.JoinIdeal
public import proofs.«01_k».proof.Proof.Gen.JoinRefIdeal
public import proofs.«01_k».proof.Proof.Gen.Pre_finite_join
public import proofs.«01_k».proof.Proof.Gen.Join.Frame
public import proofs.«01_k».proof.Proof.Gen.JoinIdeal.Frame
public import proofs.«01_k».proof.Proof.Gen.JoinIdeal.Value
public import proofs.«01_k».proof.Proof.Gen.JoinRefIdeal.Run
public import proofs.«01_k».proof.Proof.Gen.JoinRefIdeal.Read
public import proofs.«01_k».proof.Proof.Join.Frames
public import proofs.«01_k».proof.Proof.Join.Equal
public import proofs.«01_k».proof.Proof.Gen.Swa
public import proofs.«01_k».proof.Proof.Gen.SwaIdeal
public import proofs.«01_k».proof.Proof.Gen.SwaRefIdeal
public import proofs.«01_k».proof.Proof.Gen.Swa.Frame
public import proofs.«01_k».proof.Proof.Gen.SwaIdeal.Frame
public import proofs.«01_k».proof.Proof.Gen.SwaRefIdeal.Run
public import proofs.«01_k».proof.Proof.Swa.Frames
public import Idealize.ShloMosaic.Adequacy
public import Idealize.ShloMosaic.Init

@[expose] public section

noncomputable section

namespace Cert.Proof

open Idealize.ShloMosaic Idealize.SL.Sem Cert.Mlp

theorem claim : Cert.Claim := ⟨Cert.Mlp.Gen.facts, Cert.MlpIdeal.Gen.facts, Cert.MlpRefIdeal.Gen.facts,
  Cert.Mla.Gen.facts, Cert.MlaIdeal.Gen.facts, Cert.MlaRefIdeal.Gen.facts,
  Cert.Inp.Gen.facts, Cert.InpIdeal.Gen.facts, Cert.InpRefIdeal.Gen.facts,
  Cert.Merge.Gen.facts, Cert.MergeIdeal.Gen.facts, Cert.MergeRefIdeal.Gen.facts,
  Cert.Lat.Gen.facts, Cert.LatIdeal.Gen.facts, Cert.LatRefIdeal.Gen.facts,
  Cert.Join.Gen.facts, Cert.JoinIdeal.Gen.facts, Cert.JoinRefIdeal.Gen.facts,
  Cert.Swa.Gen.facts, Cert.SwaIdeal.Gen.facts, Cert.SwaRefIdeal.Gen.facts,
  Cert.Pre_finite.Gen.facts, Cert.Pre_finite_mla.Gen.facts, Cert.Pre_finite_inp.Gen.facts, Cert.Pre_finite_merge.Gen.facts, Cert.Pre_finite_lat.Gen.facts,
  Cert.Pre_finite_join.Gen.facts,
  mlp_frame, mlp_ideal_frame, mlp_ideal_frame_finite, mlp_reference_frame, mlp_reference_frame_finite,
  mla_frame, mla_ideal_frame, mla_ideal_frame_finite, mla_reference_frame, mla_reference_frame_finite,
  inp_frame, inp_ideal_frame, inp_ideal_frame_finite, inp_reference_frame, inp_reference_frame_finite,
  merge_frame, merge_ideal_frame, merge_ideal_frame_finite, merge_reference_frame, merge_reference_frame_finite,
  lat_frame, lat_ideal_frame, lat_ideal_frame_finite, lat_reference_frame, lat_reference_frame_finite,
  join_frame, join_ideal_frame, join_ideal_frame_finite, join_reference_frame, join_reference_frame_finite,
  swa_frame, swa_ideal_frame, swa_reference_frame,
  trivial, mlp_equal, mla_preserves, mla_equal, trivial, inp_equal, trivial, merge_equal, trivial, lat_equal,
  trivial, join_equal, swa_preserves⟩

end Cert.Proof

end
